-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_MlpDwTwo (m : (ℓ : Loc Cert.MlpDwTwo.nD Cert.MlpDwTwo.τ Cert.MlpDwTwo.sig) → Buf (Elt Bits) ℓ) : Prop :=
  True

def Pre_MlpDwTwoIdeal (m : (ℓ : Loc Cert.MlpDwTwoIdeal.nD Cert.MlpDwTwoIdeal.τ Cert.MlpDwTwoIdeal.sig) → Buf (Elt Ideal) ℓ) : Prop :=
  True

def Pre_MlpDwTwoRefIdeal (m : (ℓ : Loc Cert.MlpDwTwoRefIdeal.nD Cert.MlpDwTwoRefIdeal.τ Cert.MlpDwTwoRefIdeal.sig) → Buf (Elt Ideal) ℓ) : Prop :=
  True

def Pre_MlpDwOne (m : (ℓ : Loc Cert.MlpDwOne.nD Cert.MlpDwOne.τ Cert.MlpDwOne.sig) → Buf (Elt Bits) ℓ) : Prop :=
  True

def Pre_MlpDwOneIdeal (m : (ℓ : Loc Cert.MlpDwOneIdeal.nD Cert.MlpDwOneIdeal.τ Cert.MlpDwOneIdeal.sig) → Buf (Elt Ideal) ℓ) : Prop :=
  True

def Pre_MlpDwOneRefIdeal (m : (ℓ : Loc Cert.MlpDwOneRefIdeal.nD Cert.MlpDwOneRefIdeal.τ Cert.MlpDwOneRefIdeal.sig) → Buf (Elt Ideal) ℓ) : Prop :=
  True

def Pre_PleDwG (m : (ℓ : Loc Cert.PleDwG.nD Cert.PleDwG.τ Cert.PleDwG.sig) → Buf (Elt Bits) ℓ) : Prop :=
  True

def Pre_PleDwGIdeal (m : (ℓ : Loc Cert.PleDwGIdeal.nD Cert.PleDwGIdeal.τ Cert.PleDwGIdeal.sig) → Buf (Elt Ideal) ℓ) : Prop :=
  True

def Pre_PleDwGRefIdeal (m : (ℓ : Loc Cert.PleDwGRefIdeal.nD Cert.PleDwGRefIdeal.τ Cert.PleDwGRefIdeal.sig) → Buf (Elt Ideal) ℓ) : Prop :=
  True

def Pre_PleDwP (m : (ℓ : Loc Cert.PleDwP.nD Cert.PleDwP.τ Cert.PleDwP.sig) → Buf (Elt Bits) ℓ) : Prop :=
  True

def Pre_PleDwPIdeal (m : (ℓ : Loc Cert.PleDwPIdeal.nD Cert.PleDwPIdeal.τ Cert.PleDwPIdeal.sig) → Buf (Elt Ideal) ℓ) : Prop :=
  True

def Pre_PleDwPRefIdeal (m : (ℓ : Loc Cert.PleDwPRefIdeal.nD Cert.PleDwPRefIdeal.τ Cert.PleDwPRefIdeal.sig) → Buf (Elt Ideal) ℓ) : Prop :=
  True

def Pre_PleGateBwd (m : (ℓ : Loc Cert.PleGateBwd.nD Cert.PleGateBwd.τ Cert.PleGateBwd.sig) → Buf (Elt Bits) ℓ) : Prop :=
  True

def Pre_PleGateBwdIdeal (m : (ℓ : Loc Cert.PleGateBwdIdeal.nD Cert.PleGateBwdIdeal.τ Cert.PleGateBwdIdeal.sig) → Buf (Elt Ideal) ℓ) : Prop :=
  True

def Pre_PleGateBwdRefIdeal (m : (ℓ : Loc Cert.PleGateBwdRefIdeal.nD Cert.PleGateBwdRefIdeal.τ Cert.PleGateBwdRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_InQkv (m : (ℓ : Loc Cert.InQkv.nD Cert.InQkv.τ Cert.InQkv.sig) → Buf (Elt Bits) ℓ) : Prop :=
  True

def Pre_InQkvIdeal (m : (ℓ : Loc Cert.InQkvIdeal.nD Cert.InQkvIdeal.τ Cert.InQkvIdeal.sig) → Buf (Elt Ideal) ℓ) : Prop :=
  True

def Pre_InQkvRefIdeal (m : (ℓ : Loc Cert.InQkvRefIdeal.nD Cert.InQkvRefIdeal.τ Cert.InQkvRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_InBa (m : (ℓ : Loc Cert.InBa.nD Cert.InBa.τ Cert.InBa.sig) → Buf (Elt Bits) ℓ) : Prop :=
  True

def Pre_InBaIdeal (m : (ℓ : Loc Cert.InBaIdeal.nD Cert.InBaIdeal.τ Cert.InBaIdeal.sig) → Buf (Elt Ideal) ℓ) : Prop :=
  True

def Pre_InBaRefIdeal (m : (ℓ : Loc Cert.InBaRefIdeal.nD Cert.InBaRefIdeal.τ Cert.InBaRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_DwZ (m : (ℓ : Loc Cert.DwZ.nD Cert.DwZ.τ Cert.DwZ.sig) → Buf (Elt Bits) ℓ) : Prop :=
  True

def Pre_DwZIdeal (m : (ℓ : Loc Cert.DwZIdeal.nD Cert.DwZIdeal.τ Cert.DwZIdeal.sig) → Buf (Elt Ideal) ℓ) : Prop :=
  True

def Pre_DwZRefIdeal (m : (ℓ : Loc Cert.DwZRefIdeal.nD Cert.DwZRefIdeal.τ Cert.DwZRefIdeal.sig) → Buf (Elt Ideal) ℓ) : Prop :=
  True

def Pre_DwBa (m : (ℓ : Loc Cert.DwBa.nD Cert.DwBa.τ Cert.DwBa.sig) → Buf (Elt Bits) ℓ) : Prop :=
  True

def Pre_DwBaIdeal (m : (ℓ : Loc Cert.DwBaIdeal.nD Cert.DwBaIdeal.τ Cert.DwBaIdeal.sig) → Buf (Elt Ideal) ℓ) : Prop :=
  True

def Pre_DwBaRefIdeal (m : (ℓ : Loc Cert.DwBaRefIdeal.nD Cert.DwBaRefIdeal.τ Cert.DwBaRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_InBaBwd (m : (ℓ : Loc Cert.InBaBwd.nD Cert.InBaBwd.τ Cert.InBaBwd.sig) → Buf (Elt Bits) ℓ) : Prop :=
  True

def Pre_InBaBwdIdeal (m : (ℓ : Loc Cert.InBaBwdIdeal.nD Cert.InBaBwdIdeal.τ Cert.InBaBwdIdeal.sig) → Buf (Elt Ideal) ℓ) : Prop :=
  True

def Pre_InBaBwdRefIdeal (m : (ℓ : Loc Cert.InBaBwdRefIdeal.nD Cert.InBaBwdRefIdeal.τ Cert.InBaBwdRefIdeal.sig) → Buf (Elt Ideal) ℓ) : Prop :=
  True

def Pre_InZBwd (m : (ℓ : Loc Cert.InZBwd.nD Cert.InZBwd.τ Cert.InZBwd.sig) → Buf (Elt Bits) ℓ) : Prop :=
  True

def Pre_InZBwdIdeal (m : (ℓ : Loc Cert.InZBwdIdeal.nD Cert.InZBwdIdeal.τ Cert.InZBwdIdeal.sig) → Buf (Elt Ideal) ℓ) : Prop :=
  True

def Pre_InZBwdRefIdeal (m : (ℓ : Loc Cert.InZBwdRefIdeal.nD Cert.InZBwdRefIdeal.τ Cert.InZBwdRefIdeal.sig) → Buf (Elt Ideal) ℓ) : Prop :=
  True

def Pre_AdLn (m : (ℓ : Loc Cert.AdLn.nD Cert.AdLn.τ Cert.AdLn.sig) → Buf (Elt Bits) ℓ) : Prop :=
  True

def Pre_AdLnIdeal (m : (ℓ : Loc Cert.AdLnIdeal.nD Cert.AdLnIdeal.τ Cert.AdLnIdeal.sig) → Buf (Elt Ideal) ℓ) : Prop :=
  True

def Pre_AdLnRefIdeal (m : (ℓ : Loc Cert.AdLnRefIdeal.nD Cert.AdLnRefIdeal.τ Cert.AdLnRefIdeal.sig) → Buf (Elt Ideal) ℓ) : Prop :=
  True

def Pre_AdPoolW (m : (ℓ : Loc Cert.AdPoolW.nD Cert.AdPoolW.τ Cert.AdPoolW.sig) → Buf (Elt Bits) ℓ) : Prop :=
  True

def Pre_AdPoolWIdeal (m : (ℓ : Loc Cert.AdPoolWIdeal.nD Cert.AdPoolWIdeal.τ Cert.AdPoolWIdeal.sig) → Buf (Elt Ideal) ℓ) : Prop :=
  True

def Pre_AdPoolWRefIdeal (m : (ℓ : Loc Cert.AdPoolWRefIdeal.nD Cert.AdPoolWRefIdeal.τ Cert.AdPoolWRefIdeal.sig) → Buf (Elt Ideal) ℓ) : Prop :=
  True

def Pre_AdPoolB (m : (ℓ : Loc Cert.AdPoolB.nD Cert.AdPoolB.τ Cert.AdPoolB.sig) → Buf (Elt Bits) ℓ) : Prop :=
  True

def Pre_AdPoolBIdeal (m : (ℓ : Loc Cert.AdPoolBIdeal.nD Cert.AdPoolBIdeal.τ Cert.AdPoolBIdeal.sig) → Buf (Elt Ideal) ℓ) : Prop :=
  True

def Pre_AdPoolBRefIdeal (m : (ℓ : Loc Cert.AdPoolBRefIdeal.nD Cert.AdPoolBRefIdeal.τ Cert.AdPoolBRefIdeal.sig) → Buf (Elt Ideal) ℓ) : Prop :=
  True

def Pre_AdPoolS (m : (ℓ : Loc Cert.AdPoolS.nD Cert.AdPoolS.τ Cert.AdPoolS.sig) → Buf (Elt Bits) ℓ) : Prop :=
  True

def Pre_AdPoolSIdeal (m : (ℓ : Loc Cert.AdPoolSIdeal.nD Cert.AdPoolSIdeal.τ Cert.AdPoolSIdeal.sig) → Buf (Elt Ideal) ℓ) : Prop :=
  True

def Pre_AdPoolSRefIdeal (m : (ℓ : Loc Cert.AdPoolSRefIdeal.nD Cert.AdPoolSRefIdeal.τ Cert.AdPoolSRefIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInRefIdeal (m : (ℓ : Loc Cert.AdInRefIdeal.nD Cert.AdInRefIdeal.τ Cert.AdInRefIdeal.sig) → Buf (Elt Ideal) ℓ) : Prop :=
  True

def Pre_AdConv (m : (ℓ : Loc Cert.AdConv.nD Cert.AdConv.τ Cert.AdConv.sig) → Buf (Elt Bits) ℓ) : Prop :=
  True

def Pre_AdConvIdeal (m : (ℓ : Loc Cert.AdConvIdeal.nD Cert.AdConvIdeal.τ Cert.AdConvIdeal.sig) → Buf (Elt Ideal) ℓ) : Prop :=
  True

def Pre_AdConvRefIdeal (m : (ℓ : Loc Cert.AdConvRefIdeal.nD Cert.AdConvRefIdeal.τ Cert.AdConvRefIdeal.sig) → Buf (Elt Ideal) ℓ) : Prop :=
  True

def Pre_AdHeads (m : (ℓ : Loc Cert.AdHeads.nD Cert.AdHeads.τ Cert.AdHeads.sig) → Buf (Elt Bits) ℓ) : Prop :=
  True

def Pre_AdHeadsIdeal (m : (ℓ : Loc Cert.AdHeadsIdeal.nD Cert.AdHeadsIdeal.τ Cert.AdHeadsIdeal.sig) → Buf (Elt Ideal) ℓ) : Prop :=
  True

def Pre_AdHeadsRefIdeal (m : (ℓ : Loc Cert.AdHeadsRefIdeal.nD Cert.AdHeadsRefIdeal.τ Cert.AdHeadsRefIdeal.sig) → Buf (Elt Ideal) ℓ) : Prop :=
  True

def Pre_AdNorm (m : (ℓ : Loc Cert.AdNorm.nD Cert.AdNorm.τ Cert.AdNorm.sig) → Buf (Elt Bits) ℓ) : Prop :=
  True

def Pre_AdNormIdeal (m : (ℓ : Loc Cert.AdNormIdeal.nD Cert.AdNormIdeal.τ Cert.AdNormIdeal.sig) → Buf (Elt Ideal) ℓ) : Prop :=
  True

def Pre_AdNormRefIdeal (m : (ℓ : Loc Cert.AdNormRefIdeal.nD Cert.AdNormRefIdeal.τ Cert.AdNormRefIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutRefIdeal (m : (ℓ : Loc Cert.AdOutRefIdeal.nD Cert.AdOutRefIdeal.τ Cert.AdOutRefIdeal.sig) → Buf (Elt Ideal) ℓ) : Prop :=
  True

def Pre_AdOne (m : (ℓ : Loc Cert.AdOne.nD Cert.AdOne.τ Cert.AdOne.sig) → Buf (Elt Bits) ℓ) : Prop :=
  True

def Pre_AdOneIdeal (m : (ℓ : Loc Cert.AdOneIdeal.nD Cert.AdOneIdeal.τ Cert.AdOneIdeal.sig) → Buf (Elt Ideal) ℓ) : Prop :=
  True

def Pre_AdOneRefIdeal (m : (ℓ : Loc Cert.AdOneRefIdeal.nD Cert.AdOneRefIdeal.τ Cert.AdOneRefIdeal.sig) → Buf (Elt Ideal) ℓ) : Prop :=
  True

def Pre_AdTwo (m : (ℓ : Loc Cert.AdTwo.nD Cert.AdTwo.τ Cert.AdTwo.sig) → Buf (Elt Bits) ℓ) : Prop :=
  True

def Pre_AdTwoIdeal (m : (ℓ : Loc Cert.AdTwoIdeal.nD Cert.AdTwoIdeal.τ Cert.AdTwoIdeal.sig) → Buf (Elt Ideal) ℓ) : Prop :=
  True

def Pre_AdTwoRefIdeal (m : (ℓ : Loc Cert.AdTwoRefIdeal.nD Cert.AdTwoRefIdeal.τ Cert.AdTwoRefIdeal.sig) → Buf (Elt Ideal) ℓ) : Prop :=
  True

def Pre_AdGate (m : (ℓ : Loc Cert.AdGate.nD Cert.AdGate.τ Cert.AdGate.sig) → Buf (Elt Bits) ℓ) : Prop :=
  True

def Pre_AdGateIdeal (m : (ℓ : Loc Cert.AdGateIdeal.nD Cert.AdGateIdeal.τ Cert.AdGateIdeal.sig) → Buf (Elt Ideal) ℓ) : Prop :=
  True

def Pre_AdGateRefIdeal (m : (ℓ : Loc Cert.AdGateRefIdeal.nD Cert.AdGateRefIdeal.τ Cert.AdGateRefIdeal.sig) → Buf (Elt Ideal) ℓ) : Prop :=
  True

def Pre_AdGateB (m : (ℓ : Loc Cert.AdGateB.nD Cert.AdGateB.τ Cert.AdGateB.sig) → Buf (Elt Bits) ℓ) : Prop :=
  True

def Pre_AdGateBIdeal (m : (ℓ : Loc Cert.AdGateBIdeal.nD Cert.AdGateBIdeal.τ Cert.AdGateBIdeal.sig) → Buf (Elt Ideal) ℓ) : Prop :=
  True

def Pre_AdGateBRefIdeal (m : (ℓ : Loc Cert.AdGateBRefIdeal.nD Cert.AdGateBRefIdeal.τ Cert.AdGateBRefIdeal.sig) → Buf (Elt Ideal) ℓ) : Prop :=
  True

def Pre_AdProj (m : (ℓ : Loc Cert.AdProj.nD Cert.AdProj.τ Cert.AdProj.sig) → Buf (Elt Bits) ℓ) : Prop :=
  True

def Pre_AdProjIdeal (m : (ℓ : Loc Cert.AdProjIdeal.nD Cert.AdProjIdeal.τ Cert.AdProjIdeal.sig) → Buf (Elt Ideal) ℓ) : Prop :=
  True

def Pre_AdProjRefIdeal (m : (ℓ : Loc Cert.AdProjRefIdeal.nD Cert.AdProjRefIdeal.τ Cert.AdProjRefIdeal.sig) → Buf (Elt Ideal) ℓ) : Prop :=
  True

def Pre_MlpLn (m : (ℓ : Loc Cert.MlpLn.nD Cert.MlpLn.τ Cert.MlpLn.sig) → Buf (Elt Bits) ℓ) : Prop :=
  True

def Pre_MlpLnIdeal (m : (ℓ : Loc Cert.MlpLnIdeal.nD Cert.MlpLnIdeal.τ Cert.MlpLnIdeal.sig) → Buf (Elt Ideal) ℓ) : Prop :=
  True

def Pre_MlpLnRefIdeal (m : (ℓ : Loc Cert.MlpLnRefIdeal.nD Cert.MlpLnRefIdeal.τ Cert.MlpLnRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_PoolDw (m : (ℓ : Loc Cert.PoolDw.nD Cert.PoolDw.τ Cert.PoolDw.sig) → Buf (Elt Bits) ℓ) : Prop :=
  True

def Pre_PoolDwIdeal (m : (ℓ : Loc Cert.PoolDwIdeal.nD Cert.PoolDwIdeal.τ Cert.PoolDwIdeal.sig) → Buf (Elt Ideal) ℓ) : Prop :=
  True

def Pre_PoolDwRefIdeal (m : (ℓ : Loc Cert.PoolDwRefIdeal.nD Cert.PoolDwRefIdeal.τ Cert.PoolDwRefIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdRefIdeal (m : (ℓ : Loc Cert.PoolBwdRefIdeal.nD Cert.PoolBwdRefIdeal.τ Cert.PoolBwdRefIdeal.sig) → Buf (Elt Ideal) ℓ) : Prop :=
  True

def Pre_MlpUpBwd (m : (ℓ : Loc Cert.MlpUpBwd.nD Cert.MlpUpBwd.τ Cert.MlpUpBwd.sig) → Buf (Elt Bits) ℓ) : Prop :=
  True

def Pre_MlpUpBwdIdeal (m : (ℓ : Loc Cert.MlpUpBwdIdeal.nD Cert.MlpUpBwdIdeal.τ Cert.MlpUpBwdIdeal.sig) → Buf (Elt Ideal) ℓ) : Prop :=
  True

def Pre_MlpUpBwdIdeal_mlp_up_bwd_finite [hPre_mlp_up_bwd_finite : Cert.Pre_mlp_up_bwd_finite.Facts] (m : (ℓ : Loc Cert.MlpUpBwdIdeal.nD Cert.MlpUpBwdIdeal.τ Cert.MlpUpBwdIdeal.sig) → Buf (Elt Ideal) ℓ) : Prop :=
  ∀ c : Dev Cert.MlpUpBwdIdeal.nD,
    (Cert.Pre_mlp_up_bwd_finite.fn (F := Ideal) (m ((c.tc : Thread Cert.MlpUpBwdIdeal.nD Cert.MlpUpBwdIdeal.τ).loc Cert.MlpUpBwdIdeal.main_arg0)) (m ((c.tc : Thread Cert.MlpUpBwdIdeal.nD Cert.MlpUpBwdIdeal.τ).loc Cert.MlpUpBwdIdeal.main_arg1)) (m ((c.tc : Thread Cert.MlpUpBwdIdeal.nD Cert.MlpUpBwdIdeal.τ).loc Cert.MlpUpBwdIdeal.main_arg2)) (m ((c.tc : Thread Cert.MlpUpBwdIdeal.nD Cert.MlpUpBwdIdeal.τ).loc Cert.MlpUpBwdIdeal.main_arg3)) (m ((c.tc : Thread Cert.MlpUpBwdIdeal.nD Cert.MlpUpBwdIdeal.τ).loc Cert.MlpUpBwdIdeal.main_arg4)) (m ((c.tc : Thread Cert.MlpUpBwdIdeal.nD Cert.MlpUpBwdIdeal.τ).loc Cert.MlpUpBwdIdeal.main_arg5))) = (fun _ => 1#1)

def Pre_MlpUpBwdRefIdeal (m : (ℓ : Loc Cert.MlpUpBwdRefIdeal.nD Cert.MlpUpBwdRefIdeal.τ Cert.MlpUpBwdRefIdeal.sig) → Buf (Elt Ideal) ℓ) : Prop :=
  True

def Pre_MlpUpBwdRefIdeal_mlp_up_bwd_finite [hPre_mlp_up_bwd_finite : Cert.Pre_mlp_up_bwd_finite.Facts] (m : (ℓ : Loc Cert.MlpUpBwdRefIdeal.nD Cert.MlpUpBwdRefIdeal.τ Cert.MlpUpBwdRefIdeal.sig) → Buf (Elt Ideal) ℓ) : Prop :=
  ∀ c : Dev Cert.MlpUpBwdRefIdeal.nD,
    (Cert.Pre_mlp_up_bwd_finite.fn (F := Ideal) (m ((c.tc : Thread Cert.MlpUpBwdRefIdeal.nD Cert.MlpUpBwdRefIdeal.τ).loc Cert.MlpUpBwdRefIdeal.main_arg0)) (m ((c.tc : Thread Cert.MlpUpBwdRefIdeal.nD Cert.MlpUpBwdRefIdeal.τ).loc Cert.MlpUpBwdRefIdeal.main_arg1)) (m ((c.tc : Thread Cert.MlpUpBwdRefIdeal.nD Cert.MlpUpBwdRefIdeal.τ).loc Cert.MlpUpBwdRefIdeal.main_arg2)) (m ((c.tc : Thread Cert.MlpUpBwdRefIdeal.nD Cert.MlpUpBwdRefIdeal.τ).loc Cert.MlpUpBwdRefIdeal.main_arg3)) (m ((c.tc : Thread Cert.MlpUpBwdRefIdeal.nD Cert.MlpUpBwdRefIdeal.τ).loc Cert.MlpUpBwdRefIdeal.main_arg4)) (m ((c.tc : Thread Cert.MlpUpBwdRefIdeal.nD Cert.MlpUpBwdRefIdeal.τ).loc Cert.MlpUpBwdRefIdeal.main_arg5))) = (fun _ => 1#1)

def Pre_InQkvBwd (m : (ℓ : Loc Cert.InQkvBwd.nD Cert.InQkvBwd.τ Cert.InQkvBwd.sig) → Buf (Elt Bits) ℓ) : Prop :=
  True

def Pre_InQkvBwdIdeal (m : (ℓ : Loc Cert.InQkvBwdIdeal.nD Cert.InQkvBwdIdeal.τ Cert.InQkvBwdIdeal.sig) → Buf (Elt Ideal) ℓ) : Prop :=
  True

def Pre_InQkvBwdIdeal_gdn_in_qkv_bwd_finite [hPre_gdn_in_qkv_bwd_finite : Cert.Pre_gdn_in_qkv_bwd_finite.Facts] (m : (ℓ : Loc Cert.InQkvBwdIdeal.nD Cert.InQkvBwdIdeal.τ Cert.InQkvBwdIdeal.sig) → Buf (Elt Ideal) ℓ) : Prop :=
  ∀ c : Dev Cert.InQkvBwdIdeal.nD,
    (Cert.Pre_gdn_in_qkv_bwd_finite.fn (F := Ideal) (m ((c.tc : Thread Cert.InQkvBwdIdeal.nD Cert.InQkvBwdIdeal.τ).loc Cert.InQkvBwdIdeal.main_arg0)) (m ((c.tc : Thread Cert.InQkvBwdIdeal.nD Cert.InQkvBwdIdeal.τ).loc Cert.InQkvBwdIdeal.main_arg1)) (m ((c.tc : Thread Cert.InQkvBwdIdeal.nD Cert.InQkvBwdIdeal.τ).loc Cert.InQkvBwdIdeal.main_arg2)) (m ((c.tc : Thread Cert.InQkvBwdIdeal.nD Cert.InQkvBwdIdeal.τ).loc Cert.InQkvBwdIdeal.main_arg3)) (m ((c.tc : Thread Cert.InQkvBwdIdeal.nD Cert.InQkvBwdIdeal.τ).loc Cert.InQkvBwdIdeal.main_arg4)) (m ((c.tc : Thread Cert.InQkvBwdIdeal.nD Cert.InQkvBwdIdeal.τ).loc Cert.InQkvBwdIdeal.main_arg5)) (m ((c.tc : Thread Cert.InQkvBwdIdeal.nD Cert.InQkvBwdIdeal.τ).loc Cert.InQkvBwdIdeal.main_arg6)) (m ((c.tc : Thread Cert.InQkvBwdIdeal.nD Cert.InQkvBwdIdeal.τ).loc Cert.InQkvBwdIdeal.main_arg7)) (m ((c.tc : Thread Cert.InQkvBwdIdeal.nD Cert.InQkvBwdIdeal.τ).loc Cert.InQkvBwdIdeal.main_arg8))) = (fun _ => 1#1)

def Pre_InQkvBwdRefIdeal (m : (ℓ : Loc Cert.InQkvBwdRefIdeal.nD Cert.InQkvBwdRefIdeal.τ Cert.InQkvBwdRefIdeal.sig) → Buf (Elt Ideal) ℓ) : Prop :=
  True

def Pre_InQkvBwdRefIdeal_gdn_in_qkv_bwd_finite [hPre_gdn_in_qkv_bwd_finite : Cert.Pre_gdn_in_qkv_bwd_finite.Facts] (m : (ℓ : Loc Cert.InQkvBwdRefIdeal.nD Cert.InQkvBwdRefIdeal.τ Cert.InQkvBwdRefIdeal.sig) → Buf (Elt Ideal) ℓ) : Prop :=
  ∀ c : Dev Cert.InQkvBwdRefIdeal.nD,
    (Cert.Pre_gdn_in_qkv_bwd_finite.fn (F := Ideal) (m ((c.tc : Thread Cert.InQkvBwdRefIdeal.nD Cert.InQkvBwdRefIdeal.τ).loc Cert.InQkvBwdRefIdeal.main_arg0)) (m ((c.tc : Thread Cert.InQkvBwdRefIdeal.nD Cert.InQkvBwdRefIdeal.τ).loc Cert.InQkvBwdRefIdeal.main_arg1)) (m ((c.tc : Thread Cert.InQkvBwdRefIdeal.nD Cert.InQkvBwdRefIdeal.τ).loc Cert.InQkvBwdRefIdeal.main_arg2)) (m ((c.tc : Thread Cert.InQkvBwdRefIdeal.nD Cert.InQkvBwdRefIdeal.τ).loc Cert.InQkvBwdRefIdeal.main_arg3)) (m ((c.tc : Thread Cert.InQkvBwdRefIdeal.nD Cert.InQkvBwdRefIdeal.τ).loc Cert.InQkvBwdRefIdeal.main_arg4)) (m ((c.tc : Thread Cert.InQkvBwdRefIdeal.nD Cert.InQkvBwdRefIdeal.τ).loc Cert.InQkvBwdRefIdeal.main_arg5)) (m ((c.tc : Thread Cert.InQkvBwdRefIdeal.nD Cert.InQkvBwdRefIdeal.τ).loc Cert.InQkvBwdRefIdeal.main_arg6)) (m ((c.tc : Thread Cert.InQkvBwdRefIdeal.nD Cert.InQkvBwdRefIdeal.τ).loc Cert.InQkvBwdRefIdeal.main_arg7)) (m ((c.tc : Thread Cert.InQkvBwdRefIdeal.nD Cert.InQkvBwdRefIdeal.τ).loc Cert.InQkvBwdRefIdeal.main_arg8))) = (fun _ => 1#1)

def Pre_LossLn (m : (ℓ : Loc Cert.LossLn.nD Cert.LossLn.τ Cert.LossLn.sig) → Buf (Elt Bits) ℓ) : Prop :=
  True

def Pre_LossLnIdeal (m : (ℓ : Loc Cert.LossLnIdeal.nD Cert.LossLnIdeal.τ Cert.LossLnIdeal.sig) → Buf (Elt Ideal) ℓ) : Prop :=
  True

def Pre_LossLnIdeal_loss_ln_finite [hPre_loss_ln_finite : Cert.Pre_loss_ln_finite.Facts] (m : (ℓ : Loc Cert.LossLnIdeal.nD Cert.LossLnIdeal.τ Cert.LossLnIdeal.sig) → Buf (Elt Ideal) ℓ) : Prop :=
  ∀ c : Dev Cert.LossLnIdeal.nD,
    (Cert.Pre_loss_ln_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5)) (m ((c.tc : Thread Cert.LossLnIdeal.nD Cert.LossLnIdeal.τ).loc Cert.LossLnIdeal.main_arg6)) (m ((c.tc : Thread Cert.LossLnIdeal.nD Cert.LossLnIdeal.τ).loc Cert.LossLnIdeal.main_arg7)) (m ((c.tc : Thread Cert.LossLnIdeal.nD Cert.LossLnIdeal.τ).loc Cert.LossLnIdeal.main_arg8)) (m ((c.tc : Thread Cert.LossLnIdeal.nD Cert.LossLnIdeal.τ).loc Cert.LossLnIdeal.main_arg9)) (m ((c.tc : Thread Cert.LossLnIdeal.nD Cert.LossLnIdeal.τ).loc Cert.LossLnIdeal.main_arg10))) = (fun _ => 1#1)

def Pre_LossLnRefIdeal (m : (ℓ : Loc Cert.LossLnRefIdeal.nD Cert.LossLnRefIdeal.τ Cert.LossLnRefIdeal.sig) → Buf (Elt Ideal) ℓ) : Prop :=
  True

def Pre_LossLnRefIdeal_loss_ln_finite [hPre_loss_ln_finite : Cert.Pre_loss_ln_finite.Facts] (m : (ℓ : Loc Cert.LossLnRefIdeal.nD Cert.LossLnRefIdeal.τ Cert.LossLnRefIdeal.sig) → Buf (Elt Ideal) ℓ) : Prop :=
  ∀ c : Dev Cert.LossLnRefIdeal.nD,
    (Cert.Pre_loss_ln_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5)) (m ((c.tc : Thread Cert.LossLnRefIdeal.nD Cert.LossLnRefIdeal.τ).loc Cert.LossLnRefIdeal.main_arg6)) (m ((c.tc : Thread Cert.LossLnRefIdeal.nD Cert.LossLnRefIdeal.τ).loc Cert.LossLnRefIdeal.main_arg7)) (m ((c.tc : Thread Cert.LossLnRefIdeal.nD Cert.LossLnRefIdeal.τ).loc Cert.LossLnRefIdeal.main_arg8)) (m ((c.tc : Thread Cert.LossLnRefIdeal.nD Cert.LossLnRefIdeal.τ).loc Cert.LossLnRefIdeal.main_arg9)) (m ((c.tc : Thread Cert.LossLnRefIdeal.nD Cert.LossLnRefIdeal.τ).loc Cert.LossLnRefIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_MlpDwTwo [hMlpDwTwo : Cert.MlpDwTwo.Facts] : Prop :=
  ∀ (m : (ℓ : Loc Cert.MlpDwTwo.nD Cert.MlpDwTwo.τ Cert.MlpDwTwo.sig) → Buf (Elt Bits) ℓ) (g : Dev Cert.MlpDwTwo.nD → PrngReg), Pre_MlpDwTwo m →
    θ_run (Cert.MlpDwTwo.defs (F := Bits)) (onTc (τ := Cert.MlpDwTwo.τ) (Cert.MlpDwTwo.main (F := Bits))) ⟨m, fun _ => 0, g⟩ (fun r => (∀ c : Dev Cert.MlpDwTwo.nD,
      r.2.mem ((c.tc : Thread Cert.MlpDwTwo.nD Cert.MlpDwTwo.τ).loc Cert.MlpDwTwo.main_arg0) = m ((c.tc : Thread Cert.MlpDwTwo.nD Cert.MlpDwTwo.τ).loc Cert.MlpDwTwo.main_arg0)
      ∧ r.2.mem ((c.tc : Thread Cert.MlpDwTwo.nD Cert.MlpDwTwo.τ).loc Cert.MlpDwTwo.main_arg1) = m ((c.tc : Thread Cert.MlpDwTwo.nD Cert.MlpDwTwo.τ).loc Cert.MlpDwTwo.main_arg1)
      ∧ r.2.mem ((c.tc : Thread Cert.MlpDwTwo.nD Cert.MlpDwTwo.τ).loc Cert.MlpDwTwo.main_arg2) = m ((c.tc : Thread Cert.MlpDwTwo.nD Cert.MlpDwTwo.τ).loc Cert.MlpDwTwo.main_arg2)
      ∧ r.2.mem ((c.tc : Thread Cert.MlpDwTwo.nD Cert.MlpDwTwo.τ).loc Cert.MlpDwTwo.main_arg3) = m ((c.tc : Thread Cert.MlpDwTwo.nD Cert.MlpDwTwo.τ).loc Cert.MlpDwTwo.main_arg3))
      ∧ r.2.sem = fun _ => 0)

def quiescent_MlpDwTwoIdeal [hMlpDwTwoIdeal : Cert.MlpDwTwoIdeal.Facts] : Prop :=
  ∀ (m : (ℓ : Loc Cert.MlpDwTwoIdeal.nD Cert.MlpDwTwoIdeal.τ Cert.MlpDwTwoIdeal.sig) → Buf (Elt Ideal) ℓ) (g : Dev Cert.MlpDwTwoIdeal.nD → PrngReg), Pre_MlpDwTwoIdeal m →
    θ_run (Cert.MlpDwTwoIdeal.defs (F := Ideal)) (onTc (τ := Cert.MlpDwTwoIdeal.τ) (Cert.MlpDwTwoIdeal.main (F := Ideal))) ⟨m, fun _ => 0, g⟩ (fun r => (∀ c : Dev Cert.MlpDwTwoIdeal.nD,
      r.2.mem ((c.tc : Thread Cert.MlpDwTwoIdeal.nD Cert.MlpDwTwoIdeal.τ).loc Cert.MlpDwTwoIdeal.main_arg0) = m ((c.tc : Thread Cert.MlpDwTwoIdeal.nD Cert.MlpDwTwoIdeal.τ).loc Cert.MlpDwTwoIdeal.main_arg0)
      ∧ r.2.mem ((c.tc : Thread Cert.MlpDwTwoIdeal.nD Cert.MlpDwTwoIdeal.τ).loc Cert.MlpDwTwoIdeal.main_arg1) = m ((c.tc : Thread Cert.MlpDwTwoIdeal.nD Cert.MlpDwTwoIdeal.τ).loc Cert.MlpDwTwoIdeal.main_arg1)
      ∧ r.2.mem ((c.tc : Thread Cert.MlpDwTwoIdeal.nD Cert.MlpDwTwoIdeal.τ).loc Cert.MlpDwTwoIdeal.main_arg2) = m ((c.tc : Thread Cert.MlpDwTwoIdeal.nD Cert.MlpDwTwoIdeal.τ).loc Cert.MlpDwTwoIdeal.main_arg2)
      ∧ r.2.mem ((c.tc : Thread Cert.MlpDwTwoIdeal.nD Cert.MlpDwTwoIdeal.τ).loc Cert.MlpDwTwoIdeal.main_arg3) = m ((c.tc : Thread Cert.MlpDwTwoIdeal.nD Cert.MlpDwTwoIdeal.τ).loc Cert.MlpDwTwoIdeal.main_arg3))
      ∧ r.2.sem = fun _ => 0)

def quiescent_MlpDwTwoRefIdeal [hMlpDwTwoRefIdeal : Cert.MlpDwTwoRefIdeal.Facts] : Prop :=
  ∀ (m : (ℓ : Loc Cert.MlpDwTwoRefIdeal.nD Cert.MlpDwTwoRefIdeal.τ Cert.MlpDwTwoRefIdeal.sig) → Buf (Elt Ideal) ℓ) (g : Dev Cert.MlpDwTwoRefIdeal.nD → PrngReg), Pre_MlpDwTwoRefIdeal m →
    θ_run (Cert.MlpDwTwoRefIdeal.defs (F := Ideal)) (onTc (τ := Cert.MlpDwTwoRefIdeal.τ) (Cert.MlpDwTwoRefIdeal.main (F := Ideal))) ⟨m, fun _ => 0, g⟩ (fun r => (∀ c : Dev Cert.MlpDwTwoRefIdeal.nD,
      r.2.mem ((c.tc : Thread Cert.MlpDwTwoRefIdeal.nD Cert.MlpDwTwoRefIdeal.τ).loc Cert.MlpDwTwoRefIdeal.main_arg0) = m ((c.tc : Thread Cert.MlpDwTwoRefIdeal.nD Cert.MlpDwTwoRefIdeal.τ).loc Cert.MlpDwTwoRefIdeal.main_arg0)
      ∧ r.2.mem ((c.tc : Thread Cert.MlpDwTwoRefIdeal.nD Cert.MlpDwTwoRefIdeal.τ).loc Cert.MlpDwTwoRefIdeal.main_arg1) = m ((c.tc : Thread Cert.MlpDwTwoRefIdeal.nD Cert.MlpDwTwoRefIdeal.τ).loc Cert.MlpDwTwoRefIdeal.main_arg1)
      ∧ r.2.mem ((c.tc : Thread Cert.MlpDwTwoRefIdeal.nD Cert.MlpDwTwoRefIdeal.τ).loc Cert.MlpDwTwoRefIdeal.main_arg2) = m ((c.tc : Thread Cert.MlpDwTwoRefIdeal.nD Cert.MlpDwTwoRefIdeal.τ).loc Cert.MlpDwTwoRefIdeal.main_arg2)
      ∧ r.2.mem ((c.tc : Thread Cert.MlpDwTwoRefIdeal.nD Cert.MlpDwTwoRefIdeal.τ).loc Cert.MlpDwTwoRefIdeal.main_arg3) = m ((c.tc : Thread Cert.MlpDwTwoRefIdeal.nD Cert.MlpDwTwoRefIdeal.τ).loc Cert.MlpDwTwoRefIdeal.main_arg3))
      ∧ r.2.sem = fun _ => 0)

def quiescent_MlpDwOne [hMlpDwOne : Cert.MlpDwOne.Facts] : Prop :=
  ∀ (m : (ℓ : Loc Cert.MlpDwOne.nD Cert.MlpDwOne.τ Cert.MlpDwOne.sig) → Buf (Elt Bits) ℓ) (g : Dev Cert.MlpDwOne.nD → PrngReg), Pre_MlpDwOne m →
    θ_run (Cert.MlpDwOne.defs (F := Bits)) (onTc (τ := Cert.MlpDwOne.τ) (Cert.MlpDwOne.main (F := Bits))) ⟨m, fun _ => 0, g⟩ (fun r => (∀ c : Dev Cert.MlpDwOne.nD,
      r.2.mem ((c.tc : Thread Cert.MlpDwOne.nD Cert.MlpDwOne.τ).loc Cert.MlpDwOne.main_arg0) = m ((c.tc : Thread Cert.MlpDwOne.nD Cert.MlpDwOne.τ).loc Cert.MlpDwOne.main_arg0)
      ∧ r.2.mem ((c.tc : Thread Cert.MlpDwOne.nD Cert.MlpDwOne.τ).loc Cert.MlpDwOne.main_arg1) = m ((c.tc : Thread Cert.MlpDwOne.nD Cert.MlpDwOne.τ).loc Cert.MlpDwOne.main_arg1)
      ∧ r.2.mem ((c.tc : Thread Cert.MlpDwOne.nD Cert.MlpDwOne.τ).loc Cert.MlpDwOne.main_arg2) = m ((c.tc : Thread Cert.MlpDwOne.nD Cert.MlpDwOne.τ).loc Cert.MlpDwOne.main_arg2)
      ∧ r.2.mem ((c.tc : Thread Cert.MlpDwOne.nD Cert.MlpDwOne.τ).loc Cert.MlpDwOne.main_arg3) = m ((c.tc : Thread Cert.MlpDwOne.nD Cert.MlpDwOne.τ).loc Cert.MlpDwOne.main_arg3))
      ∧ r.2.sem = fun _ => 0)

def quiescent_MlpDwOneIdeal [hMlpDwOneIdeal : Cert.MlpDwOneIdeal.Facts] : Prop :=
  ∀ (m : (ℓ : Loc Cert.MlpDwOneIdeal.nD Cert.MlpDwOneIdeal.τ Cert.MlpDwOneIdeal.sig) → Buf (Elt Ideal) ℓ) (g : Dev Cert.MlpDwOneIdeal.nD → PrngReg), Pre_MlpDwOneIdeal m →
    θ_run (Cert.MlpDwOneIdeal.defs (F := Ideal)) (onTc (τ := Cert.MlpDwOneIdeal.τ) (Cert.MlpDwOneIdeal.main (F := Ideal))) ⟨m, fun _ => 0, g⟩ (fun r => (∀ c : Dev Cert.MlpDwOneIdeal.nD,
      r.2.mem ((c.tc : Thread Cert.MlpDwOneIdeal.nD Cert.MlpDwOneIdeal.τ).loc Cert.MlpDwOneIdeal.main_arg0) = m ((c.tc : Thread Cert.MlpDwOneIdeal.nD Cert.MlpDwOneIdeal.τ).loc Cert.MlpDwOneIdeal.main_arg0)
      ∧ r.2.mem ((c.tc : Thread Cert.MlpDwOneIdeal.nD Cert.MlpDwOneIdeal.τ).loc Cert.MlpDwOneIdeal.main_arg1) = m ((c.tc : Thread Cert.MlpDwOneIdeal.nD Cert.MlpDwOneIdeal.τ).loc Cert.MlpDwOneIdeal.main_arg1)
      ∧ r.2.mem ((c.tc : Thread Cert.MlpDwOneIdeal.nD Cert.MlpDwOneIdeal.τ).loc Cert.MlpDwOneIdeal.main_arg2) = m ((c.tc : Thread Cert.MlpDwOneIdeal.nD Cert.MlpDwOneIdeal.τ).loc Cert.MlpDwOneIdeal.main_arg2)
      ∧ r.2.mem ((c.tc : Thread Cert.MlpDwOneIdeal.nD Cert.MlpDwOneIdeal.τ).loc Cert.MlpDwOneIdeal.main_arg3) = m ((c.tc : Thread Cert.MlpDwOneIdeal.nD Cert.MlpDwOneIdeal.τ).loc Cert.MlpDwOneIdeal.main_arg3))
      ∧ r.2.sem = fun _ => 0)

def quiescent_MlpDwOneRefIdeal [hMlpDwOneRefIdeal : Cert.MlpDwOneRefIdeal.Facts] : Prop :=
  ∀ (m : (ℓ : Loc Cert.MlpDwOneRefIdeal.nD Cert.MlpDwOneRefIdeal.τ Cert.MlpDwOneRefIdeal.sig) → Buf (Elt Ideal) ℓ) (g : Dev Cert.MlpDwOneRefIdeal.nD → PrngReg), Pre_MlpDwOneRefIdeal m →
    θ_run (Cert.MlpDwOneRefIdeal.defs (F := Ideal)) (onTc (τ := Cert.MlpDwOneRefIdeal.τ) (Cert.MlpDwOneRefIdeal.main (F := Ideal))) ⟨m, fun _ => 0, g⟩ (fun r => (∀ c : Dev Cert.MlpDwOneRefIdeal.nD,
      r.2.mem ((c.tc : Thread Cert.MlpDwOneRefIdeal.nD Cert.MlpDwOneRefIdeal.τ).loc Cert.MlpDwOneRefIdeal.main_arg0) = m ((c.tc : Thread Cert.MlpDwOneRefIdeal.nD Cert.MlpDwOneRefIdeal.τ).loc Cert.MlpDwOneRefIdeal.main_arg0)
      ∧ r.2.mem ((c.tc : Thread Cert.MlpDwOneRefIdeal.nD Cert.MlpDwOneRefIdeal.τ).loc Cert.MlpDwOneRefIdeal.main_arg1) = m ((c.tc : Thread Cert.MlpDwOneRefIdeal.nD Cert.MlpDwOneRefIdeal.τ).loc Cert.MlpDwOneRefIdeal.main_arg1)
      ∧ r.2.mem ((c.tc : Thread Cert.MlpDwOneRefIdeal.nD Cert.MlpDwOneRefIdeal.τ).loc Cert.MlpDwOneRefIdeal.main_arg2) = m ((c.tc : Thread Cert.MlpDwOneRefIdeal.nD Cert.MlpDwOneRefIdeal.τ).loc Cert.MlpDwOneRefIdeal.main_arg2)
      ∧ r.2.mem ((c.tc : Thread Cert.MlpDwOneRefIdeal.nD Cert.MlpDwOneRefIdeal.τ).loc Cert.MlpDwOneRefIdeal.main_arg3) = m ((c.tc : Thread Cert.MlpDwOneRefIdeal.nD Cert.MlpDwOneRefIdeal.τ).loc Cert.MlpDwOneRefIdeal.main_arg3))
      ∧ r.2.sem = fun _ => 0)

def quiescent_PleDwG [hPleDwG : Cert.PleDwG.Facts] : Prop :=
  ∀ (m : (ℓ : Loc Cert.PleDwG.nD Cert.PleDwG.τ Cert.PleDwG.sig) → Buf (Elt Bits) ℓ) (g : Dev Cert.PleDwG.nD → PrngReg), Pre_PleDwG m →
    θ_run (Cert.PleDwG.defs (F := Bits)) (onTc (τ := Cert.PleDwG.τ) (Cert.PleDwG.main (F := Bits))) ⟨m, fun _ => 0, g⟩ (fun r => (∀ c : Dev Cert.PleDwG.nD,
      r.2.mem ((c.tc : Thread Cert.PleDwG.nD Cert.PleDwG.τ).loc Cert.PleDwG.main_arg0) = m ((c.tc : Thread Cert.PleDwG.nD Cert.PleDwG.τ).loc Cert.PleDwG.main_arg0)
      ∧ r.2.mem ((c.tc : Thread Cert.PleDwG.nD Cert.PleDwG.τ).loc Cert.PleDwG.main_arg1) = m ((c.tc : Thread Cert.PleDwG.nD Cert.PleDwG.τ).loc Cert.PleDwG.main_arg1)
      ∧ r.2.mem ((c.tc : Thread Cert.PleDwG.nD Cert.PleDwG.τ).loc Cert.PleDwG.main_arg2) = m ((c.tc : Thread Cert.PleDwG.nD Cert.PleDwG.τ).loc Cert.PleDwG.main_arg2)
      ∧ r.2.mem ((c.tc : Thread Cert.PleDwG.nD Cert.PleDwG.τ).loc Cert.PleDwG.main_arg3) = m ((c.tc : Thread Cert.PleDwG.nD Cert.PleDwG.τ).loc Cert.PleDwG.main_arg3)
      ∧ r.2.mem ((c.tc : Thread Cert.PleDwG.nD Cert.PleDwG.τ).loc Cert.PleDwG.main_arg4) = m ((c.tc : Thread Cert.PleDwG.nD Cert.PleDwG.τ).loc Cert.PleDwG.main_arg4)
      ∧ r.2.mem ((c.tc : Thread Cert.PleDwG.nD Cert.PleDwG.τ).loc Cert.PleDwG.main_arg5) = m ((c.tc : Thread Cert.PleDwG.nD Cert.PleDwG.τ).loc Cert.PleDwG.main_arg5))
      ∧ r.2.sem = fun _ => 0)

def quiescent_PleDwGIdeal [hPleDwGIdeal : Cert.PleDwGIdeal.Facts] : Prop :=
  ∀ (m : (ℓ : Loc Cert.PleDwGIdeal.nD Cert.PleDwGIdeal.τ Cert.PleDwGIdeal.sig) → Buf (Elt Ideal) ℓ) (g : Dev Cert.PleDwGIdeal.nD → PrngReg), Pre_PleDwGIdeal m →
    θ_run (Cert.PleDwGIdeal.defs (F := Ideal)) (onTc (τ := Cert.PleDwGIdeal.τ) (Cert.PleDwGIdeal.main (F := Ideal))) ⟨m, fun _ => 0, g⟩ (fun r => (∀ c : Dev Cert.PleDwGIdeal.nD,
      r.2.mem ((c.tc : Thread Cert.PleDwGIdeal.nD Cert.PleDwGIdeal.τ).loc Cert.PleDwGIdeal.main_arg0) = m ((c.tc : Thread Cert.PleDwGIdeal.nD Cert.PleDwGIdeal.τ).loc Cert.PleDwGIdeal.main_arg0)
      ∧ r.2.mem ((c.tc : Thread Cert.PleDwGIdeal.nD Cert.PleDwGIdeal.τ).loc Cert.PleDwGIdeal.main_arg1) = m ((c.tc : Thread Cert.PleDwGIdeal.nD Cert.PleDwGIdeal.τ).loc Cert.PleDwGIdeal.main_arg1)
      ∧ r.2.mem ((c.tc : Thread Cert.PleDwGIdeal.nD Cert.PleDwGIdeal.τ).loc Cert.PleDwGIdeal.main_arg2) = m ((c.tc : Thread Cert.PleDwGIdeal.nD Cert.PleDwGIdeal.τ).loc Cert.PleDwGIdeal.main_arg2)
      ∧ r.2.mem ((c.tc : Thread Cert.PleDwGIdeal.nD Cert.PleDwGIdeal.τ).loc Cert.PleDwGIdeal.main_arg3) = m ((c.tc : Thread Cert.PleDwGIdeal.nD Cert.PleDwGIdeal.τ).loc Cert.PleDwGIdeal.main_arg3)
      ∧ r.2.mem ((c.tc : Thread Cert.PleDwGIdeal.nD Cert.PleDwGIdeal.τ).loc Cert.PleDwGIdeal.main_arg4) = m ((c.tc : Thread Cert.PleDwGIdeal.nD Cert.PleDwGIdeal.τ).loc Cert.PleDwGIdeal.main_arg4)
      ∧ r.2.mem ((c.tc : Thread Cert.PleDwGIdeal.nD Cert.PleDwGIdeal.τ).loc Cert.PleDwGIdeal.main_arg5) = m ((c.tc : Thread Cert.PleDwGIdeal.nD Cert.PleDwGIdeal.τ).loc Cert.PleDwGIdeal.main_arg5))
      ∧ r.2.sem = fun _ => 0)

def quiescent_PleDwGRefIdeal [hPleDwGRefIdeal : Cert.PleDwGRefIdeal.Facts] : Prop :=
  ∀ (m : (ℓ : Loc Cert.PleDwGRefIdeal.nD Cert.PleDwGRefIdeal.τ Cert.PleDwGRefIdeal.sig) → Buf (Elt Ideal) ℓ) (g : Dev Cert.PleDwGRefIdeal.nD → PrngReg), Pre_PleDwGRefIdeal m →
    θ_run (Cert.PleDwGRefIdeal.defs (F := Ideal)) (onTc (τ := Cert.PleDwGRefIdeal.τ) (Cert.PleDwGRefIdeal.main (F := Ideal))) ⟨m, fun _ => 0, g⟩ (fun r => (∀ c : Dev Cert.PleDwGRefIdeal.nD,
      r.2.mem ((c.tc : Thread Cert.PleDwGRefIdeal.nD Cert.PleDwGRefIdeal.τ).loc Cert.PleDwGRefIdeal.main_arg0) = m ((c.tc : Thread Cert.PleDwGRefIdeal.nD Cert.PleDwGRefIdeal.τ).loc Cert.PleDwGRefIdeal.main_arg0)
      ∧ r.2.mem ((c.tc : Thread Cert.PleDwGRefIdeal.nD Cert.PleDwGRefIdeal.τ).loc Cert.PleDwGRefIdeal.main_arg1) = m ((c.tc : Thread Cert.PleDwGRefIdeal.nD Cert.PleDwGRefIdeal.τ).loc Cert.PleDwGRefIdeal.main_arg1)
      ∧ r.2.mem ((c.tc : Thread Cert.PleDwGRefIdeal.nD Cert.PleDwGRefIdeal.τ).loc Cert.PleDwGRefIdeal.main_arg2) = m ((c.tc : Thread Cert.PleDwGRefIdeal.nD Cert.PleDwGRefIdeal.τ).loc Cert.PleDwGRefIdeal.main_arg2)
      ∧ r.2.mem ((c.tc : Thread Cert.PleDwGRefIdeal.nD Cert.PleDwGRefIdeal.τ).loc Cert.PleDwGRefIdeal.main_arg3) = m ((c.tc : Thread Cert.PleDwGRefIdeal.nD Cert.PleDwGRefIdeal.τ).loc Cert.PleDwGRefIdeal.main_arg3)
      ∧ r.2.mem ((c.tc : Thread Cert.PleDwGRefIdeal.nD Cert.PleDwGRefIdeal.τ).loc Cert.PleDwGRefIdeal.main_arg4) = m ((c.tc : Thread Cert.PleDwGRefIdeal.nD Cert.PleDwGRefIdeal.τ).loc Cert.PleDwGRefIdeal.main_arg4)
      ∧ r.2.mem ((c.tc : Thread Cert.PleDwGRefIdeal.nD Cert.PleDwGRefIdeal.τ).loc Cert.PleDwGRefIdeal.main_arg5) = m ((c.tc : Thread Cert.PleDwGRefIdeal.nD Cert.PleDwGRefIdeal.τ).loc Cert.PleDwGRefIdeal.main_arg5))
      ∧ r.2.sem = fun _ => 0)

def quiescent_PleDwP [hPleDwP : Cert.PleDwP.Facts] : Prop :=
  ∀ (m : (ℓ : Loc Cert.PleDwP.nD Cert.PleDwP.τ Cert.PleDwP.sig) → Buf (Elt Bits) ℓ) (g : Dev Cert.PleDwP.nD → PrngReg), Pre_PleDwP m →
    θ_run (Cert.PleDwP.defs (F := Bits)) (onTc (τ := Cert.PleDwP.τ) (Cert.PleDwP.main (F := Bits))) ⟨m, fun _ => 0, g⟩ (fun r => (∀ c : Dev Cert.PleDwP.nD,
      r.2.mem ((c.tc : Thread Cert.PleDwP.nD Cert.PleDwP.τ).loc Cert.PleDwP.main_arg0) = m ((c.tc : Thread Cert.PleDwP.nD Cert.PleDwP.τ).loc Cert.PleDwP.main_arg0)
      ∧ r.2.mem ((c.tc : Thread Cert.PleDwP.nD Cert.PleDwP.τ).loc Cert.PleDwP.main_arg1) = m ((c.tc : Thread Cert.PleDwP.nD Cert.PleDwP.τ).loc Cert.PleDwP.main_arg1)
      ∧ r.2.mem ((c.tc : Thread Cert.PleDwP.nD Cert.PleDwP.τ).loc Cert.PleDwP.main_arg2) = m ((c.tc : Thread Cert.PleDwP.nD Cert.PleDwP.τ).loc Cert.PleDwP.main_arg2)
      ∧ r.2.mem ((c.tc : Thread Cert.PleDwP.nD Cert.PleDwP.τ).loc Cert.PleDwP.main_arg3) = m ((c.tc : Thread Cert.PleDwP.nD Cert.PleDwP.τ).loc Cert.PleDwP.main_arg3)
      ∧ r.2.mem ((c.tc : Thread Cert.PleDwP.nD Cert.PleDwP.τ).loc Cert.PleDwP.main_arg4) = m ((c.tc : Thread Cert.PleDwP.nD Cert.PleDwP.τ).loc Cert.PleDwP.main_arg4)
      ∧ r.2.mem ((c.tc : Thread Cert.PleDwP.nD Cert.PleDwP.τ).loc Cert.PleDwP.main_arg5) = m ((c.tc : Thread Cert.PleDwP.nD Cert.PleDwP.τ).loc Cert.PleDwP.main_arg5))
      ∧ r.2.sem = fun _ => 0)

def quiescent_PleDwPIdeal [hPleDwPIdeal : Cert.PleDwPIdeal.Facts] : Prop :=
  ∀ (m : (ℓ : Loc Cert.PleDwPIdeal.nD Cert.PleDwPIdeal.τ Cert.PleDwPIdeal.sig) → Buf (Elt Ideal) ℓ) (g : Dev Cert.PleDwPIdeal.nD → PrngReg), Pre_PleDwPIdeal m →
    θ_run (Cert.PleDwPIdeal.defs (F := Ideal)) (onTc (τ := Cert.PleDwPIdeal.τ) (Cert.PleDwPIdeal.main (F := Ideal))) ⟨m, fun _ => 0, g⟩ (fun r => (∀ c : Dev Cert.PleDwPIdeal.nD,
      r.2.mem ((c.tc : Thread Cert.PleDwPIdeal.nD Cert.PleDwPIdeal.τ).loc Cert.PleDwPIdeal.main_arg0) = m ((c.tc : Thread Cert.PleDwPIdeal.nD Cert.PleDwPIdeal.τ).loc Cert.PleDwPIdeal.main_arg0)
      ∧ r.2.mem ((c.tc : Thread Cert.PleDwPIdeal.nD Cert.PleDwPIdeal.τ).loc Cert.PleDwPIdeal.main_arg1) = m ((c.tc : Thread Cert.PleDwPIdeal.nD Cert.PleDwPIdeal.τ).loc Cert.PleDwPIdeal.main_arg1)
      ∧ r.2.mem ((c.tc : Thread Cert.PleDwPIdeal.nD Cert.PleDwPIdeal.τ).loc Cert.PleDwPIdeal.main_arg2) = m ((c.tc : Thread Cert.PleDwPIdeal.nD Cert.PleDwPIdeal.τ).loc Cert.PleDwPIdeal.main_arg2)
      ∧ r.2.mem ((c.tc : Thread Cert.PleDwPIdeal.nD Cert.PleDwPIdeal.τ).loc Cert.PleDwPIdeal.main_arg3) = m ((c.tc : Thread Cert.PleDwPIdeal.nD Cert.PleDwPIdeal.τ).loc Cert.PleDwPIdeal.main_arg3)
      ∧ r.2.mem ((c.tc : Thread Cert.PleDwPIdeal.nD Cert.PleDwPIdeal.τ).loc Cert.PleDwPIdeal.main_arg4) = m ((c.tc : Thread Cert.PleDwPIdeal.nD Cert.PleDwPIdeal.τ).loc Cert.PleDwPIdeal.main_arg4)
      ∧ r.2.mem ((c.tc : Thread Cert.PleDwPIdeal.nD Cert.PleDwPIdeal.τ).loc Cert.PleDwPIdeal.main_arg5) = m ((c.tc : Thread Cert.PleDwPIdeal.nD Cert.PleDwPIdeal.τ).loc Cert.PleDwPIdeal.main_arg5))
      ∧ r.2.sem = fun _ => 0)

def quiescent_PleDwPRefIdeal [hPleDwPRefIdeal : Cert.PleDwPRefIdeal.Facts] : Prop :=
  ∀ (m : (ℓ : Loc Cert.PleDwPRefIdeal.nD Cert.PleDwPRefIdeal.τ Cert.PleDwPRefIdeal.sig) → Buf (Elt Ideal) ℓ) (g : Dev Cert.PleDwPRefIdeal.nD → PrngReg), Pre_PleDwPRefIdeal m →
    θ_run (Cert.PleDwPRefIdeal.defs (F := Ideal)) (onTc (τ := Cert.PleDwPRefIdeal.τ) (Cert.PleDwPRefIdeal.main (F := Ideal))) ⟨m, fun _ => 0, g⟩ (fun r => (∀ c : Dev Cert.PleDwPRefIdeal.nD,
      r.2.mem ((c.tc : Thread Cert.PleDwPRefIdeal.nD Cert.PleDwPRefIdeal.τ).loc Cert.PleDwPRefIdeal.main_arg0) = m ((c.tc : Thread Cert.PleDwPRefIdeal.nD Cert.PleDwPRefIdeal.τ).loc Cert.PleDwPRefIdeal.main_arg0)
      ∧ r.2.mem ((c.tc : Thread Cert.PleDwPRefIdeal.nD Cert.PleDwPRefIdeal.τ).loc Cert.PleDwPRefIdeal.main_arg1) = m ((c.tc : Thread Cert.PleDwPRefIdeal.nD Cert.PleDwPRefIdeal.τ).loc Cert.PleDwPRefIdeal.main_arg1)
      ∧ r.2.mem ((c.tc : Thread Cert.PleDwPRefIdeal.nD Cert.PleDwPRefIdeal.τ).loc Cert.PleDwPRefIdeal.main_arg2) = m ((c.tc : Thread Cert.PleDwPRefIdeal.nD Cert.PleDwPRefIdeal.τ).loc Cert.PleDwPRefIdeal.main_arg2)
      ∧ r.2.mem ((c.tc : Thread Cert.PleDwPRefIdeal.nD Cert.PleDwPRefIdeal.τ).loc Cert.PleDwPRefIdeal.main_arg3) = m ((c.tc : Thread Cert.PleDwPRefIdeal.nD Cert.PleDwPRefIdeal.τ).loc Cert.PleDwPRefIdeal.main_arg3)
      ∧ r.2.mem ((c.tc : Thread Cert.PleDwPRefIdeal.nD Cert.PleDwPRefIdeal.τ).loc Cert.PleDwPRefIdeal.main_arg4) = m ((c.tc : Thread Cert.PleDwPRefIdeal.nD Cert.PleDwPRefIdeal.τ).loc Cert.PleDwPRefIdeal.main_arg4)
      ∧ r.2.mem ((c.tc : Thread Cert.PleDwPRefIdeal.nD Cert.PleDwPRefIdeal.τ).loc Cert.PleDwPRefIdeal.main_arg5) = m ((c.tc : Thread Cert.PleDwPRefIdeal.nD Cert.PleDwPRefIdeal.τ).loc Cert.PleDwPRefIdeal.main_arg5))
      ∧ r.2.sem = fun _ => 0)

def quiescent_PleGateBwd [hPleGateBwd : Cert.PleGateBwd.Facts] : Prop :=
  ∀ (m : (ℓ : Loc Cert.PleGateBwd.nD Cert.PleGateBwd.τ Cert.PleGateBwd.sig) → Buf (Elt Bits) ℓ) (g : Dev Cert.PleGateBwd.nD → PrngReg), Pre_PleGateBwd m →
    θ_run (Cert.PleGateBwd.defs (F := Bits)) (onTc (τ := Cert.PleGateBwd.τ) (Cert.PleGateBwd.main (F := Bits))) ⟨m, fun _ => 0, g⟩ (fun r => (∀ c : Dev Cert.PleGateBwd.nD,
      r.2.mem ((c.tc : Thread Cert.PleGateBwd.nD Cert.PleGateBwd.τ).loc Cert.PleGateBwd.main_arg0) = m ((c.tc : Thread Cert.PleGateBwd.nD Cert.PleGateBwd.τ).loc Cert.PleGateBwd.main_arg0)
      ∧ r.2.mem ((c.tc : Thread Cert.PleGateBwd.nD Cert.PleGateBwd.τ).loc Cert.PleGateBwd.main_arg1) = m ((c.tc : Thread Cert.PleGateBwd.nD Cert.PleGateBwd.τ).loc Cert.PleGateBwd.main_arg1)
      ∧ r.2.mem ((c.tc : Thread Cert.PleGateBwd.nD Cert.PleGateBwd.τ).loc Cert.PleGateBwd.main_arg2) = m ((c.tc : Thread Cert.PleGateBwd.nD Cert.PleGateBwd.τ).loc Cert.PleGateBwd.main_arg2)
      ∧ r.2.mem ((c.tc : Thread Cert.PleGateBwd.nD Cert.PleGateBwd.τ).loc Cert.PleGateBwd.main_arg3) = m ((c.tc : Thread Cert.PleGateBwd.nD Cert.PleGateBwd.τ).loc Cert.PleGateBwd.main_arg3)
      ∧ r.2.mem ((c.tc : Thread Cert.PleGateBwd.nD Cert.PleGateBwd.τ).loc Cert.PleGateBwd.main_arg4) = m ((c.tc : Thread Cert.PleGateBwd.nD Cert.PleGateBwd.τ).loc Cert.PleGateBwd.main_arg4)
      ∧ r.2.mem ((c.tc : Thread Cert.PleGateBwd.nD Cert.PleGateBwd.τ).loc Cert.PleGateBwd.main_arg5) = m ((c.tc : Thread Cert.PleGateBwd.nD Cert.PleGateBwd.τ).loc Cert.PleGateBwd.main_arg5))
      ∧ r.2.sem = fun _ => 0)

def quiescent_PleGateBwdIdeal [hPleGateBwdIdeal : Cert.PleGateBwdIdeal.Facts] : Prop :=
  ∀ (m : (ℓ : Loc Cert.PleGateBwdIdeal.nD Cert.PleGateBwdIdeal.τ Cert.PleGateBwdIdeal.sig) → Buf (Elt Ideal) ℓ) (g : Dev Cert.PleGateBwdIdeal.nD → PrngReg), Pre_PleGateBwdIdeal m →
    θ_run (Cert.PleGateBwdIdeal.defs (F := Ideal)) (onTc (τ := Cert.PleGateBwdIdeal.τ) (Cert.PleGateBwdIdeal.main (F := Ideal))) ⟨m, fun _ => 0, g⟩ (fun r => (∀ c : Dev Cert.PleGateBwdIdeal.nD,
      r.2.mem ((c.tc : Thread Cert.PleGateBwdIdeal.nD Cert.PleGateBwdIdeal.τ).loc Cert.PleGateBwdIdeal.main_arg0) = m ((c.tc : Thread Cert.PleGateBwdIdeal.nD Cert.PleGateBwdIdeal.τ).loc Cert.PleGateBwdIdeal.main_arg0)
      ∧ r.2.mem ((c.tc : Thread Cert.PleGateBwdIdeal.nD Cert.PleGateBwdIdeal.τ).loc Cert.PleGateBwdIdeal.main_arg1) = m ((c.tc : Thread Cert.PleGateBwdIdeal.nD Cert.PleGateBwdIdeal.τ).loc Cert.PleGateBwdIdeal.main_arg1)
      ∧ r.2.mem ((c.tc : Thread Cert.PleGateBwdIdeal.nD Cert.PleGateBwdIdeal.τ).loc Cert.PleGateBwdIdeal.main_arg2) = m ((c.tc : Thread Cert.PleGateBwdIdeal.nD Cert.PleGateBwdIdeal.τ).loc Cert.PleGateBwdIdeal.main_arg2)
      ∧ r.2.mem ((c.tc : Thread Cert.PleGateBwdIdeal.nD Cert.PleGateBwdIdeal.τ).loc Cert.PleGateBwdIdeal.main_arg3) = m ((c.tc : Thread Cert.PleGateBwdIdeal.nD Cert.PleGateBwdIdeal.τ).loc Cert.PleGateBwdIdeal.main_arg3)
      ∧ r.2.mem ((c.tc : Thread Cert.PleGateBwdIdeal.nD Cert.PleGateBwdIdeal.τ).loc Cert.PleGateBwdIdeal.main_arg4) = m ((c.tc : Thread Cert.PleGateBwdIdeal.nD Cert.PleGateBwdIdeal.τ).loc Cert.PleGateBwdIdeal.main_arg4)
      ∧ r.2.mem ((c.tc : Thread Cert.PleGateBwdIdeal.nD Cert.PleGateBwdIdeal.τ).loc Cert.PleGateBwdIdeal.main_arg5) = m ((c.tc : Thread Cert.PleGateBwdIdeal.nD Cert.PleGateBwdIdeal.τ).loc Cert.PleGateBwdIdeal.main_arg5))
      ∧ r.2.sem = fun _ => 0)

def quiescent_PleGateBwdRefIdeal [hPleGateBwdRefIdeal : Cert.PleGateBwdRefIdeal.Facts] : Prop :=
  ∀ (m : (ℓ : Loc Cert.PleGateBwdRefIdeal.nD Cert.PleGateBwdRefIdeal.τ Cert.PleGateBwdRefIdeal.sig) → Buf (Elt Ideal) ℓ) (g : Dev Cert.PleGateBwdRefIdeal.nD → PrngReg), Pre_PleGateBwdRefIdeal m →
    θ_run (Cert.PleGateBwdRefIdeal.defs (F := Ideal)) (onTc (τ := Cert.PleGateBwdRefIdeal.τ) (Cert.PleGateBwdRefIdeal.main (F := Ideal))) ⟨m, fun _ => 0, g⟩ (fun r => (∀ c : Dev Cert.PleGateBwdRefIdeal.nD,
      r.2.mem ((c.tc : Thread Cert.PleGateBwdRefIdeal.nD Cert.PleGateBwdRefIdeal.τ).loc Cert.PleGateBwdRefIdeal.main_arg0) = m ((c.tc : Thread Cert.PleGateBwdRefIdeal.nD Cert.PleGateBwdRefIdeal.τ).loc Cert.PleGateBwdRefIdeal.main_arg0)
      ∧ r.2.mem ((c.tc : Thread Cert.PleGateBwdRefIdeal.nD Cert.PleGateBwdRefIdeal.τ).loc Cert.PleGateBwdRefIdeal.main_arg1) = m ((c.tc : Thread Cert.PleGateBwdRefIdeal.nD Cert.PleGateBwdRefIdeal.τ).loc Cert.PleGateBwdRefIdeal.main_arg1)
      ∧ r.2.mem ((c.tc : Thread Cert.PleGateBwdRefIdeal.nD Cert.PleGateBwdRefIdeal.τ).loc Cert.PleGateBwdRefIdeal.main_arg2) = m ((c.tc : Thread Cert.PleGateBwdRefIdeal.nD Cert.PleGateBwdRefIdeal.τ).loc Cert.PleGateBwdRefIdeal.main_arg2)
      ∧ r.2.mem ((c.tc : Thread Cert.PleGateBwdRefIdeal.nD Cert.PleGateBwdRefIdeal.τ).loc Cert.PleGateBwdRefIdeal.main_arg3) = m ((c.tc : Thread Cert.PleGateBwdRefIdeal.nD Cert.PleGateBwdRefIdeal.τ).loc Cert.PleGateBwdRefIdeal.main_arg3)
      ∧ r.2.mem ((c.tc : Thread Cert.PleGateBwdRefIdeal.nD Cert.PleGateBwdRefIdeal.τ).loc Cert.PleGateBwdRefIdeal.main_arg4) = m ((c.tc : Thread Cert.PleGateBwdRefIdeal.nD Cert.PleGateBwdRefIdeal.τ).loc Cert.PleGateBwdRefIdeal.main_arg4)
      ∧ r.2.mem ((c.tc : Thread Cert.PleGateBwdRefIdeal.nD Cert.PleGateBwdRefIdeal.τ).loc Cert.PleGateBwdRefIdeal.main_arg5) = m ((c.tc : Thread Cert.PleGateBwdRefIdeal.nD Cert.PleGateBwdRefIdeal.τ).loc Cert.PleGateBwdRefIdeal.main_arg5))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1)
      ∧ r.2.mem ((c.tc : Thread Cert.PleGate.nD Cert.PleGate.τ).loc Cert.PleGate.main_arg2) = m ((c.tc : Thread Cert.PleGate.nD Cert.PleGate.τ).loc Cert.PleGate.main_arg2))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
      ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1)
      ∧ r.2.mem ((c.tc : Thread Cert.PleGateRefIdeal.nD Cert.PleGateRefIdeal.τ).loc Cert.PleGateRefIdeal.main_arg2) = m ((c.tc : Thread Cert.PleGateRefIdeal.nD Cert.PleGateRefIdeal.τ).loc Cert.PleGateRefIdeal.main_arg2))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_InQkv [hInQkv : Cert.InQkv.Facts] : Prop :=
  ∀ (m : (ℓ : Loc Cert.InQkv.nD Cert.InQkv.τ Cert.InQkv.sig) → Buf (Elt Bits) ℓ) (g : Dev Cert.InQkv.nD → PrngReg), Pre_InQkv m →
    θ_run (Cert.InQkv.defs (F := Bits)) (onTc (τ := Cert.InQkv.τ) (Cert.InQkv.main (F := Bits))) ⟨m, fun _ => 0, g⟩ (fun r => (∀ c : Dev Cert.InQkv.nD,
      r.2.mem ((c.tc : Thread Cert.InQkv.nD Cert.InQkv.τ).loc Cert.InQkv.main_arg0) = m ((c.tc : Thread Cert.InQkv.nD Cert.InQkv.τ).loc Cert.InQkv.main_arg0)
      ∧ r.2.mem ((c.tc : Thread Cert.InQkv.nD Cert.InQkv.τ).loc Cert.InQkv.main_arg1) = m ((c.tc : Thread Cert.InQkv.nD Cert.InQkv.τ).loc Cert.InQkv.main_arg1))
      ∧ r.2.sem = fun _ => 0)

def quiescent_InQkvIdeal [hInQkvIdeal : Cert.InQkvIdeal.Facts] : Prop :=
  ∀ (m : (ℓ : Loc Cert.InQkvIdeal.nD Cert.InQkvIdeal.τ Cert.InQkvIdeal.sig) → Buf (Elt Ideal) ℓ) (g : Dev Cert.InQkvIdeal.nD → PrngReg), Pre_InQkvIdeal m →
    θ_run (Cert.InQkvIdeal.defs (F := Ideal)) (onTc (τ := Cert.InQkvIdeal.τ) (Cert.InQkvIdeal.main (F := Ideal))) ⟨m, fun _ => 0, g⟩ (fun r => (∀ c : Dev Cert.InQkvIdeal.nD,
      r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
      ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ r.2.sem = fun _ => 0)

def quiescent_InQkvRefIdeal [hInQkvRefIdeal : Cert.InQkvRefIdeal.Facts] : Prop :=
  ∀ (m : (ℓ : Loc Cert.InQkvRefIdeal.nD Cert.InQkvRefIdeal.τ Cert.InQkvRefIdeal.sig) → Buf (Elt Ideal) ℓ) (g : Dev Cert.InQkvRefIdeal.nD → PrngReg), Pre_InQkvRefIdeal m →
    θ_run (Cert.InQkvRefIdeal.defs (F := Ideal)) (onTc (τ := Cert.InQkvRefIdeal.τ) (Cert.InQkvRefIdeal.main (F := Ideal))) ⟨m, fun _ => 0, g⟩ (fun r => (∀ c : Dev Cert.InQkvRefIdeal.nD,
      r.2.mem ((c.tc : Thread Cert.InQkvRefIdeal.nD Cert.InQkvRefIdeal.τ).loc Cert.InQkvRefIdeal.main_arg0) = m ((c.tc : Thread Cert.InQkvRefIdeal.nD Cert.InQkvRefIdeal.τ).loc Cert.InQkvRefIdeal.main_arg0)
      ∧ r.2.mem ((c.tc : Thread Cert.InQkvRefIdeal.nD Cert.InQkvRefIdeal.τ).loc Cert.InQkvRefIdeal.main_arg1) = m ((c.tc : Thread Cert.InQkvRefIdeal.nD Cert.InQkvRefIdeal.τ).loc Cert.InQkvRefIdeal.main_arg1))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1))
      ∧ r.2.sem = fun _ => 0)

def quiescent_InBa [hInBa : Cert.InBa.Facts] : Prop :=
  ∀ (m : (ℓ : Loc Cert.InBa.nD Cert.InBa.τ Cert.InBa.sig) → Buf (Elt Bits) ℓ) (g : Dev Cert.InBa.nD → PrngReg), Pre_InBa m →
    θ_run (Cert.InBa.defs (F := Bits)) (onTc (τ := Cert.InBa.τ) (Cert.InBa.main (F := Bits))) ⟨m, fun _ => 0, g⟩ (fun r => (∀ c : Dev Cert.InBa.nD,
      r.2.mem ((c.tc : Thread Cert.InBa.nD Cert.InBa.τ).loc Cert.InBa.main_arg0) = m ((c.tc : Thread Cert.InBa.nD Cert.InBa.τ).loc Cert.InBa.main_arg0)
      ∧ r.2.mem ((c.tc : Thread Cert.InBa.nD Cert.InBa.τ).loc Cert.InBa.main_arg1) = m ((c.tc : Thread Cert.InBa.nD Cert.InBa.τ).loc Cert.InBa.main_arg1))
      ∧ r.2.sem = fun _ => 0)

def quiescent_InBaIdeal [hInBaIdeal : Cert.InBaIdeal.Facts] : Prop :=
  ∀ (m : (ℓ : Loc Cert.InBaIdeal.nD Cert.InBaIdeal.τ Cert.InBaIdeal.sig) → Buf (Elt Ideal) ℓ) (g : Dev Cert.InBaIdeal.nD → PrngReg), Pre_InBaIdeal m →
    θ_run (Cert.InBaIdeal.defs (F := Ideal)) (onTc (τ := Cert.InBaIdeal.τ) (Cert.InBaIdeal.main (F := Ideal))) ⟨m, fun _ => 0, g⟩ (fun r => (∀ c : Dev Cert.InBaIdeal.nD,
      r.2.mem ((c.tc : Thread Cert.InBaIdeal.nD Cert.InBaIdeal.τ).loc Cert.InBaIdeal.main_arg0) = m ((c.tc : Thread Cert.InBaIdeal.nD Cert.InBaIdeal.τ).loc Cert.InBaIdeal.main_arg0)
      ∧ r.2.mem ((c.tc : Thread Cert.InBaIdeal.nD Cert.InBaIdeal.τ).loc Cert.InBaIdeal.main_arg1) = m ((c.tc : Thread Cert.InBaIdeal.nD Cert.InBaIdeal.τ).loc Cert.InBaIdeal.main_arg1))
      ∧ r.2.sem = fun _ => 0)

def quiescent_InBaRefIdeal [hInBaRefIdeal : Cert.InBaRefIdeal.Facts] : Prop :=
  ∀ (m : (ℓ : Loc Cert.InBaRefIdeal.nD Cert.InBaRefIdeal.τ Cert.InBaRefIdeal.sig) → Buf (Elt Ideal) ℓ) (g : Dev Cert.InBaRefIdeal.nD → PrngReg), Pre_InBaRefIdeal m →
    θ_run (Cert.InBaRefIdeal.defs (F := Ideal)) (onTc (τ := Cert.InBaRefIdeal.τ) (Cert.InBaRefIdeal.main (F := Ideal))) ⟨m, fun _ => 0, g⟩ (fun r => (∀ c : Dev Cert.InBaRefIdeal.nD,
      r.2.mem ((c.tc : Thread Cert.InBaRefIdeal.nD Cert.InBaRefIdeal.τ).loc Cert.InBaRefIdeal.main_arg0) = m ((c.tc : Thread Cert.InBaRefIdeal.nD Cert.InBaRefIdeal.τ).loc Cert.InBaRefIdeal.main_arg0)
      ∧ r.2.mem ((c.tc : Thread Cert.InBaRefIdeal.nD Cert.InBaRefIdeal.τ).loc Cert.InBaRefIdeal.main_arg1) = m ((c.tc : Thread Cert.InBaRefIdeal.nD Cert.InBaRefIdeal.τ).loc Cert.InBaRefIdeal.main_arg1))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2))
      ∧ r.2.sem = fun _ => 0)

def quiescent_DwZ [hDwZ : Cert.DwZ.Facts] : Prop :=
  ∀ (m : (ℓ : Loc Cert.DwZ.nD Cert.DwZ.τ Cert.DwZ.sig) → Buf (Elt Bits) ℓ) (g : Dev Cert.DwZ.nD → PrngReg), Pre_DwZ m →
    θ_run (Cert.DwZ.defs (F := Bits)) (onTc (τ := Cert.DwZ.τ) (Cert.DwZ.main (F := Bits))) ⟨m, fun _ => 0, g⟩ (fun r => (∀ c : Dev Cert.DwZ.nD,
      r.2.mem ((c.tc : Thread Cert.DwZ.nD Cert.DwZ.τ).loc Cert.DwZ.main_arg0) = m ((c.tc : Thread Cert.DwZ.nD Cert.DwZ.τ).loc Cert.DwZ.main_arg0)
      ∧ r.2.mem ((c.tc : Thread Cert.DwZ.nD Cert.DwZ.τ).loc Cert.DwZ.main_arg1) = m ((c.tc : Thread Cert.DwZ.nD Cert.DwZ.τ).loc Cert.DwZ.main_arg1)
      ∧ r.2.mem ((c.tc : Thread Cert.DwZ.nD Cert.DwZ.τ).loc Cert.DwZ.main_arg2) = m ((c.tc : Thread Cert.DwZ.nD Cert.DwZ.τ).loc Cert.DwZ.main_arg2))
      ∧ r.2.sem = fun _ => 0)

def quiescent_DwZIdeal [hDwZIdeal : Cert.DwZIdeal.Facts] : Prop :=
  ∀ (m : (ℓ : Loc Cert.DwZIdeal.nD Cert.DwZIdeal.τ Cert.DwZIdeal.sig) → Buf (Elt Ideal) ℓ) (g : Dev Cert.DwZIdeal.nD → PrngReg), Pre_DwZIdeal m →
    θ_run (Cert.DwZIdeal.defs (F := Ideal)) (onTc (τ := Cert.DwZIdeal.τ) (Cert.DwZIdeal.main (F := Ideal))) ⟨m, fun _ => 0, g⟩ (fun r => (∀ c : Dev Cert.DwZIdeal.nD,
      r.2.mem ((c.tc : Thread Cert.DwZIdeal.nD Cert.DwZIdeal.τ).loc Cert.DwZIdeal.main_arg0) = m ((c.tc : Thread Cert.DwZIdeal.nD Cert.DwZIdeal.τ).loc Cert.DwZIdeal.main_arg0)
      ∧ r.2.mem ((c.tc : Thread Cert.DwZIdeal.nD Cert.DwZIdeal.τ).loc Cert.DwZIdeal.main_arg1) = m ((c.tc : Thread Cert.DwZIdeal.nD Cert.DwZIdeal.τ).loc Cert.DwZIdeal.main_arg1)
      ∧ r.2.mem ((c.tc : Thread Cert.DwZIdeal.nD Cert.DwZIdeal.τ).loc Cert.DwZIdeal.main_arg2) = m ((c.tc : Thread Cert.DwZIdeal.nD Cert.DwZIdeal.τ).loc Cert.DwZIdeal.main_arg2))
      ∧ r.2.sem = fun _ => 0)

def quiescent_DwZRefIdeal [hDwZRefIdeal : Cert.DwZRefIdeal.Facts] : Prop :=
  ∀ (m : (ℓ : Loc Cert.DwZRefIdeal.nD Cert.DwZRefIdeal.τ Cert.DwZRefIdeal.sig) → Buf (Elt Ideal) ℓ) (g : Dev Cert.DwZRefIdeal.nD → PrngReg), Pre_DwZRefIdeal m →
    θ_run (Cert.DwZRefIdeal.defs (F := Ideal)) (onTc (τ := Cert.DwZRefIdeal.τ) (Cert.DwZRefIdeal.main (F := Ideal))) ⟨m, fun _ => 0, g⟩ (fun r => (∀ c : Dev Cert.DwZRefIdeal.nD,
      r.2.mem ((c.tc : Thread Cert.DwZRefIdeal.nD Cert.DwZRefIdeal.τ).loc Cert.DwZRefIdeal.main_arg0) = m ((c.tc : Thread Cert.DwZRefIdeal.nD Cert.DwZRefIdeal.τ).loc Cert.DwZRefIdeal.main_arg0)
      ∧ r.2.mem ((c.tc : Thread Cert.DwZRefIdeal.nD Cert.DwZRefIdeal.τ).loc Cert.DwZRefIdeal.main_arg1) = m ((c.tc : Thread Cert.DwZRefIdeal.nD Cert.DwZRefIdeal.τ).loc Cert.DwZRefIdeal.main_arg1)
      ∧ r.2.mem ((c.tc : Thread Cert.DwZRefIdeal.nD Cert.DwZRefIdeal.τ).loc Cert.DwZRefIdeal.main_arg2) = m ((c.tc : Thread Cert.DwZRefIdeal.nD Cert.DwZRefIdeal.τ).loc Cert.DwZRefIdeal.main_arg2))
      ∧ r.2.sem = fun _ => 0)

def quiescent_DwBa [hDwBa : Cert.DwBa.Facts] : Prop :=
  ∀ (m : (ℓ : Loc Cert.DwBa.nD Cert.DwBa.τ Cert.DwBa.sig) → Buf (Elt Bits) ℓ) (g : Dev Cert.DwBa.nD → PrngReg), Pre_DwBa m →
    θ_run (Cert.DwBa.defs (F := Bits)) (onTc (τ := Cert.DwBa.τ) (Cert.DwBa.main (F := Bits))) ⟨m, fun _ => 0, g⟩ (fun r => (∀ c : Dev Cert.DwBa.nD,
      r.2.mem ((c.tc : Thread Cert.DwBa.nD Cert.DwBa.τ).loc Cert.DwBa.main_arg0) = m ((c.tc : Thread Cert.DwBa.nD Cert.DwBa.τ).loc Cert.DwBa.main_arg0)
      ∧ r.2.mem ((c.tc : Thread Cert.DwBa.nD Cert.DwBa.τ).loc Cert.DwBa.main_arg1) = m ((c.tc : Thread Cert.DwBa.nD Cert.DwBa.τ).loc Cert.DwBa.main_arg1)
      ∧ r.2.mem ((c.tc : Thread Cert.DwBa.nD Cert.DwBa.τ).loc Cert.DwBa.main_arg2) = m ((c.tc : Thread Cert.DwBa.nD Cert.DwBa.τ).loc Cert.DwBa.main_arg2))
      ∧ r.2.sem = fun _ => 0)

def quiescent_DwBaIdeal [hDwBaIdeal : Cert.DwBaIdeal.Facts] : Prop :=
  ∀ (m : (ℓ : Loc Cert.DwBaIdeal.nD Cert.DwBaIdeal.τ Cert.DwBaIdeal.sig) → Buf (Elt Ideal) ℓ) (g : Dev Cert.DwBaIdeal.nD → PrngReg), Pre_DwBaIdeal m →
    θ_run (Cert.DwBaIdeal.defs (F := Ideal)) (onTc (τ := Cert.DwBaIdeal.τ) (Cert.DwBaIdeal.main (F := Ideal))) ⟨m, fun _ => 0, g⟩ (fun r => (∀ c : Dev Cert.DwBaIdeal.nD,
      r.2.mem ((c.tc : Thread Cert.DwBaIdeal.nD Cert.DwBaIdeal.τ).loc Cert.DwBaIdeal.main_arg0) = m ((c.tc : Thread Cert.DwBaIdeal.nD Cert.DwBaIdeal.τ).loc Cert.DwBaIdeal.main_arg0)
      ∧ r.2.mem ((c.tc : Thread Cert.DwBaIdeal.nD Cert.DwBaIdeal.τ).loc Cert.DwBaIdeal.main_arg1) = m ((c.tc : Thread Cert.DwBaIdeal.nD Cert.DwBaIdeal.τ).loc Cert.DwBaIdeal.main_arg1)
      ∧ r.2.mem ((c.tc : Thread Cert.DwBaIdeal.nD Cert.DwBaIdeal.τ).loc Cert.DwBaIdeal.main_arg2) = m ((c.tc : Thread Cert.DwBaIdeal.nD Cert.DwBaIdeal.τ).loc Cert.DwBaIdeal.main_arg2))
      ∧ r.2.sem = fun _ => 0)

def quiescent_DwBaRefIdeal [hDwBaRefIdeal : Cert.DwBaRefIdeal.Facts] : Prop :=
  ∀ (m : (ℓ : Loc Cert.DwBaRefIdeal.nD Cert.DwBaRefIdeal.τ Cert.DwBaRefIdeal.sig) → Buf (Elt Ideal) ℓ) (g : Dev Cert.DwBaRefIdeal.nD → PrngReg), Pre_DwBaRefIdeal m →
    θ_run (Cert.DwBaRefIdeal.defs (F := Ideal)) (onTc (τ := Cert.DwBaRefIdeal.τ) (Cert.DwBaRefIdeal.main (F := Ideal))) ⟨m, fun _ => 0, g⟩ (fun r => (∀ c : Dev Cert.DwBaRefIdeal.nD,
      r.2.mem ((c.tc : Thread Cert.DwBaRefIdeal.nD Cert.DwBaRefIdeal.τ).loc Cert.DwBaRefIdeal.main_arg0) = m ((c.tc : Thread Cert.DwBaRefIdeal.nD Cert.DwBaRefIdeal.τ).loc Cert.DwBaRefIdeal.main_arg0)
      ∧ r.2.mem ((c.tc : Thread Cert.DwBaRefIdeal.nD Cert.DwBaRefIdeal.τ).loc Cert.DwBaRefIdeal.main_arg1) = m ((c.tc : Thread Cert.DwBaRefIdeal.nD Cert.DwBaRefIdeal.τ).loc Cert.DwBaRefIdeal.main_arg1)
      ∧ r.2.mem ((c.tc : Thread Cert.DwBaRefIdeal.nD Cert.DwBaRefIdeal.τ).loc Cert.DwBaRefIdeal.main_arg2) = m ((c.tc : Thread Cert.DwBaRefIdeal.nD Cert.DwBaRefIdeal.τ).loc Cert.DwBaRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_InBaBwd [hInBaBwd : Cert.InBaBwd.Facts] : Prop :=
  ∀ (m : (ℓ : Loc Cert.InBaBwd.nD Cert.InBaBwd.τ Cert.InBaBwd.sig) → Buf (Elt Bits) ℓ) (g : Dev Cert.InBaBwd.nD → PrngReg), Pre_InBaBwd m →
    θ_run (Cert.InBaBwd.defs (F := Bits)) (onTc (τ := Cert.InBaBwd.τ) (Cert.InBaBwd.main (F := Bits))) ⟨m, fun _ => 0, g⟩ (fun r => (∀ c : Dev Cert.InBaBwd.nD,
      r.2.mem ((c.tc : Thread Cert.InBaBwd.nD Cert.InBaBwd.τ).loc Cert.InBaBwd.main_arg0) = m ((c.tc : Thread Cert.InBaBwd.nD Cert.InBaBwd.τ).loc Cert.InBaBwd.main_arg0)
      ∧ r.2.mem ((c.tc : Thread Cert.InBaBwd.nD Cert.InBaBwd.τ).loc Cert.InBaBwd.main_arg1) = m ((c.tc : Thread Cert.InBaBwd.nD Cert.InBaBwd.τ).loc Cert.InBaBwd.main_arg1)
      ∧ r.2.mem ((c.tc : Thread Cert.InBaBwd.nD Cert.InBaBwd.τ).loc Cert.InBaBwd.main_arg2) = m ((c.tc : Thread Cert.InBaBwd.nD Cert.InBaBwd.τ).loc Cert.InBaBwd.main_arg2)
      ∧ r.2.mem ((c.tc : Thread Cert.InBaBwd.nD Cert.InBaBwd.τ).loc Cert.InBaBwd.main_arg3) = m ((c.tc : Thread Cert.InBaBwd.nD Cert.InBaBwd.τ).loc Cert.InBaBwd.main_arg3))
      ∧ r.2.sem = fun _ => 0)

def quiescent_InBaBwdIdeal [hInBaBwdIdeal : Cert.InBaBwdIdeal.Facts] : Prop :=
  ∀ (m : (ℓ : Loc Cert.InBaBwdIdeal.nD Cert.InBaBwdIdeal.τ Cert.InBaBwdIdeal.sig) → Buf (Elt Ideal) ℓ) (g : Dev Cert.InBaBwdIdeal.nD → PrngReg), Pre_InBaBwdIdeal m →
    θ_run (Cert.InBaBwdIdeal.defs (F := Ideal)) (onTc (τ := Cert.InBaBwdIdeal.τ) (Cert.InBaBwdIdeal.main (F := Ideal))) ⟨m, fun _ => 0, g⟩ (fun r => (∀ c : Dev Cert.InBaBwdIdeal.nD,
      r.2.mem ((c.tc : Thread Cert.InBaBwdIdeal.nD Cert.InBaBwdIdeal.τ).loc Cert.InBaBwdIdeal.main_arg0) = m ((c.tc : Thread Cert.InBaBwdIdeal.nD Cert.InBaBwdIdeal.τ).loc Cert.InBaBwdIdeal.main_arg0)
      ∧ r.2.mem ((c.tc : Thread Cert.InBaBwdIdeal.nD Cert.InBaBwdIdeal.τ).loc Cert.InBaBwdIdeal.main_arg1) = m ((c.tc : Thread Cert.InBaBwdIdeal.nD Cert.InBaBwdIdeal.τ).loc Cert.InBaBwdIdeal.main_arg1)
      ∧ r.2.mem ((c.tc : Thread Cert.InBaBwdIdeal.nD Cert.InBaBwdIdeal.τ).loc Cert.InBaBwdIdeal.main_arg2) = m ((c.tc : Thread Cert.InBaBwdIdeal.nD Cert.InBaBwdIdeal.τ).loc Cert.InBaBwdIdeal.main_arg2)
      ∧ r.2.mem ((c.tc : Thread Cert.InBaBwdIdeal.nD Cert.InBaBwdIdeal.τ).loc Cert.InBaBwdIdeal.main_arg3) = m ((c.tc : Thread Cert.InBaBwdIdeal.nD Cert.InBaBwdIdeal.τ).loc Cert.InBaBwdIdeal.main_arg3))
      ∧ r.2.sem = fun _ => 0)

def quiescent_InBaBwdRefIdeal [hInBaBwdRefIdeal : Cert.InBaBwdRefIdeal.Facts] : Prop :=
  ∀ (m : (ℓ : Loc Cert.InBaBwdRefIdeal.nD Cert.InBaBwdRefIdeal.τ Cert.InBaBwdRefIdeal.sig) → Buf (Elt Ideal) ℓ) (g : Dev Cert.InBaBwdRefIdeal.nD → PrngReg), Pre_InBaBwdRefIdeal m →
    θ_run (Cert.InBaBwdRefIdeal.defs (F := Ideal)) (onTc (τ := Cert.InBaBwdRefIdeal.τ) (Cert.InBaBwdRefIdeal.main (F := Ideal))) ⟨m, fun _ => 0, g⟩ (fun r => (∀ c : Dev Cert.InBaBwdRefIdeal.nD,
      r.2.mem ((c.tc : Thread Cert.InBaBwdRefIdeal.nD Cert.InBaBwdRefIdeal.τ).loc Cert.InBaBwdRefIdeal.main_arg0) = m ((c.tc : Thread Cert.InBaBwdRefIdeal.nD Cert.InBaBwdRefIdeal.τ).loc Cert.InBaBwdRefIdeal.main_arg0)
      ∧ r.2.mem ((c.tc : Thread Cert.InBaBwdRefIdeal.nD Cert.InBaBwdRefIdeal.τ).loc Cert.InBaBwdRefIdeal.main_arg1) = m ((c.tc : Thread Cert.InBaBwdRefIdeal.nD Cert.InBaBwdRefIdeal.τ).loc Cert.InBaBwdRefIdeal.main_arg1)
      ∧ r.2.mem ((c.tc : Thread Cert.InBaBwdRefIdeal.nD Cert.InBaBwdRefIdeal.τ).loc Cert.InBaBwdRefIdeal.main_arg2) = m ((c.tc : Thread Cert.InBaBwdRefIdeal.nD Cert.InBaBwdRefIdeal.τ).loc Cert.InBaBwdRefIdeal.main_arg2)
      ∧ r.2.mem ((c.tc : Thread Cert.InBaBwdRefIdeal.nD Cert.InBaBwdRefIdeal.τ).loc Cert.InBaBwdRefIdeal.main_arg3) = m ((c.tc : Thread Cert.InBaBwdRefIdeal.nD Cert.InBaBwdRefIdeal.τ).loc Cert.InBaBwdRefIdeal.main_arg3))
      ∧ r.2.sem = fun _ => 0)

def quiescent_InZBwd [hInZBwd : Cert.InZBwd.Facts] : Prop :=
  ∀ (m : (ℓ : Loc Cert.InZBwd.nD Cert.InZBwd.τ Cert.InZBwd.sig) → Buf (Elt Bits) ℓ) (g : Dev Cert.InZBwd.nD → PrngReg), Pre_InZBwd m →
    θ_run (Cert.InZBwd.defs (F := Bits)) (onTc (τ := Cert.InZBwd.τ) (Cert.InZBwd.main (F := Bits))) ⟨m, fun _ => 0, g⟩ (fun r => (∀ c : Dev Cert.InZBwd.nD,
      r.2.mem ((c.tc : Thread Cert.InZBwd.nD Cert.InZBwd.τ).loc Cert.InZBwd.main_arg0) = m ((c.tc : Thread Cert.InZBwd.nD Cert.InZBwd.τ).loc Cert.InZBwd.main_arg0)
      ∧ r.2.mem ((c.tc : Thread Cert.InZBwd.nD Cert.InZBwd.τ).loc Cert.InZBwd.main_arg1) = m ((c.tc : Thread Cert.InZBwd.nD Cert.InZBwd.τ).loc Cert.InZBwd.main_arg1)
      ∧ r.2.mem ((c.tc : Thread Cert.InZBwd.nD Cert.InZBwd.τ).loc Cert.InZBwd.main_arg2) = m ((c.tc : Thread Cert.InZBwd.nD Cert.InZBwd.τ).loc Cert.InZBwd.main_arg2)
      ∧ r.2.mem ((c.tc : Thread Cert.InZBwd.nD Cert.InZBwd.τ).loc Cert.InZBwd.main_arg3) = m ((c.tc : Thread Cert.InZBwd.nD Cert.InZBwd.τ).loc Cert.InZBwd.main_arg3))
      ∧ r.2.sem = fun _ => 0)

def quiescent_InZBwdIdeal [hInZBwdIdeal : Cert.InZBwdIdeal.Facts] : Prop :=
  ∀ (m : (ℓ : Loc Cert.InZBwdIdeal.nD Cert.InZBwdIdeal.τ Cert.InZBwdIdeal.sig) → Buf (Elt Ideal) ℓ) (g : Dev Cert.InZBwdIdeal.nD → PrngReg), Pre_InZBwdIdeal m →
    θ_run (Cert.InZBwdIdeal.defs (F := Ideal)) (onTc (τ := Cert.InZBwdIdeal.τ) (Cert.InZBwdIdeal.main (F := Ideal))) ⟨m, fun _ => 0, g⟩ (fun r => (∀ c : Dev Cert.InZBwdIdeal.nD,
      r.2.mem ((c.tc : Thread Cert.InZBwdIdeal.nD Cert.InZBwdIdeal.τ).loc Cert.InZBwdIdeal.main_arg0) = m ((c.tc : Thread Cert.InZBwdIdeal.nD Cert.InZBwdIdeal.τ).loc Cert.InZBwdIdeal.main_arg0)
      ∧ r.2.mem ((c.tc : Thread Cert.InZBwdIdeal.nD Cert.InZBwdIdeal.τ).loc Cert.InZBwdIdeal.main_arg1) = m ((c.tc : Thread Cert.InZBwdIdeal.nD Cert.InZBwdIdeal.τ).loc Cert.InZBwdIdeal.main_arg1)
      ∧ r.2.mem ((c.tc : Thread Cert.InZBwdIdeal.nD Cert.InZBwdIdeal.τ).loc Cert.InZBwdIdeal.main_arg2) = m ((c.tc : Thread Cert.InZBwdIdeal.nD Cert.InZBwdIdeal.τ).loc Cert.InZBwdIdeal.main_arg2)
      ∧ r.2.mem ((c.tc : Thread Cert.InZBwdIdeal.nD Cert.InZBwdIdeal.τ).loc Cert.InZBwdIdeal.main_arg3) = m ((c.tc : Thread Cert.InZBwdIdeal.nD Cert.InZBwdIdeal.τ).loc Cert.InZBwdIdeal.main_arg3))
      ∧ r.2.sem = fun _ => 0)

def quiescent_InZBwdRefIdeal [hInZBwdRefIdeal : Cert.InZBwdRefIdeal.Facts] : Prop :=
  ∀ (m : (ℓ : Loc Cert.InZBwdRefIdeal.nD Cert.InZBwdRefIdeal.τ Cert.InZBwdRefIdeal.sig) → Buf (Elt Ideal) ℓ) (g : Dev Cert.InZBwdRefIdeal.nD → PrngReg), Pre_InZBwdRefIdeal m →
    θ_run (Cert.InZBwdRefIdeal.defs (F := Ideal)) (onTc (τ := Cert.InZBwdRefIdeal.τ) (Cert.InZBwdRefIdeal.main (F := Ideal))) ⟨m, fun _ => 0, g⟩ (fun r => (∀ c : Dev Cert.InZBwdRefIdeal.nD,
      r.2.mem ((c.tc : Thread Cert.InZBwdRefIdeal.nD Cert.InZBwdRefIdeal.τ).loc Cert.InZBwdRefIdeal.main_arg0) = m ((c.tc : Thread Cert.InZBwdRefIdeal.nD Cert.InZBwdRefIdeal.τ).loc Cert.InZBwdRefIdeal.main_arg0)
      ∧ r.2.mem ((c.tc : Thread Cert.InZBwdRefIdeal.nD Cert.InZBwdRefIdeal.τ).loc Cert.InZBwdRefIdeal.main_arg1) = m ((c.tc : Thread Cert.InZBwdRefIdeal.nD Cert.InZBwdRefIdeal.τ).loc Cert.InZBwdRefIdeal.main_arg1)
      ∧ r.2.mem ((c.tc : Thread Cert.InZBwdRefIdeal.nD Cert.InZBwdRefIdeal.τ).loc Cert.InZBwdRefIdeal.main_arg2) = m ((c.tc : Thread Cert.InZBwdRefIdeal.nD Cert.InZBwdRefIdeal.τ).loc Cert.InZBwdRefIdeal.main_arg2)
      ∧ r.2.mem ((c.tc : Thread Cert.InZBwdRefIdeal.nD Cert.InZBwdRefIdeal.τ).loc Cert.InZBwdRefIdeal.main_arg3) = m ((c.tc : Thread Cert.InZBwdRefIdeal.nD Cert.InZBwdRefIdeal.τ).loc Cert.InZBwdRefIdeal.main_arg3))
      ∧ r.2.sem = fun _ => 0)

def quiescent_AdLn [hAdLn : Cert.AdLn.Facts] : Prop :=
  ∀ (m : (ℓ : Loc Cert.AdLn.nD Cert.AdLn.τ Cert.AdLn.sig) → Buf (Elt Bits) ℓ) (g : Dev Cert.AdLn.nD → PrngReg), Pre_AdLn m →
    θ_run (Cert.AdLn.defs (F := Bits)) (onTc (τ := Cert.AdLn.τ) (Cert.AdLn.main (F := Bits))) ⟨m, fun _ => 0, g⟩ (fun r => (∀ c : Dev Cert.AdLn.nD,
      r.2.mem ((c.tc : Thread Cert.AdLn.nD Cert.AdLn.τ).loc Cert.AdLn.main_arg0) = m ((c.tc : Thread Cert.AdLn.nD Cert.AdLn.τ).loc Cert.AdLn.main_arg0)
      ∧ r.2.mem ((c.tc : Thread Cert.AdLn.nD Cert.AdLn.τ).loc Cert.AdLn.main_arg1) = m ((c.tc : Thread Cert.AdLn.nD Cert.AdLn.τ).loc Cert.AdLn.main_arg1)
      ∧ r.2.mem ((c.tc : Thread Cert.AdLn.nD Cert.AdLn.τ).loc Cert.AdLn.main_arg2) = m ((c.tc : Thread Cert.AdLn.nD Cert.AdLn.τ).loc Cert.AdLn.main_arg2)
      ∧ r.2.mem ((c.tc : Thread Cert.AdLn.nD Cert.AdLn.τ).loc Cert.AdLn.main_arg3) = m ((c.tc : Thread Cert.AdLn.nD Cert.AdLn.τ).loc Cert.AdLn.main_arg3))
      ∧ r.2.sem = fun _ => 0)

def quiescent_AdLnIdeal [hAdLnIdeal : Cert.AdLnIdeal.Facts] : Prop :=
  ∀ (m : (ℓ : Loc Cert.AdLnIdeal.nD Cert.AdLnIdeal.τ Cert.AdLnIdeal.sig) → Buf (Elt Ideal) ℓ) (g : Dev Cert.AdLnIdeal.nD → PrngReg), Pre_AdLnIdeal m →
    θ_run (Cert.AdLnIdeal.defs (F := Ideal)) (onTc (τ := Cert.AdLnIdeal.τ) (Cert.AdLnIdeal.main (F := Ideal))) ⟨m, fun _ => 0, g⟩ (fun r => (∀ c : Dev Cert.AdLnIdeal.nD,
      r.2.mem ((c.tc : Thread Cert.AdLnIdeal.nD Cert.AdLnIdeal.τ).loc Cert.AdLnIdeal.main_arg0) = m ((c.tc : Thread Cert.AdLnIdeal.nD Cert.AdLnIdeal.τ).loc Cert.AdLnIdeal.main_arg0)
      ∧ r.2.mem ((c.tc : Thread Cert.AdLnIdeal.nD Cert.AdLnIdeal.τ).loc Cert.AdLnIdeal.main_arg1) = m ((c.tc : Thread Cert.AdLnIdeal.nD Cert.AdLnIdeal.τ).loc Cert.AdLnIdeal.main_arg1)
      ∧ r.2.mem ((c.tc : Thread Cert.AdLnIdeal.nD Cert.AdLnIdeal.τ).loc Cert.AdLnIdeal.main_arg2) = m ((c.tc : Thread Cert.AdLnIdeal.nD Cert.AdLnIdeal.τ).loc Cert.AdLnIdeal.main_arg2)
      ∧ r.2.mem ((c.tc : Thread Cert.AdLnIdeal.nD Cert.AdLnIdeal.τ).loc Cert.AdLnIdeal.main_arg3) = m ((c.tc : Thread Cert.AdLnIdeal.nD Cert.AdLnIdeal.τ).loc Cert.AdLnIdeal.main_arg3))
      ∧ r.2.sem = fun _ => 0)

def quiescent_AdLnRefIdeal [hAdLnRefIdeal : Cert.AdLnRefIdeal.Facts] : Prop :=
  ∀ (m : (ℓ : Loc Cert.AdLnRefIdeal.nD Cert.AdLnRefIdeal.τ Cert.AdLnRefIdeal.sig) → Buf (Elt Ideal) ℓ) (g : Dev Cert.AdLnRefIdeal.nD → PrngReg), Pre_AdLnRefIdeal m →
    θ_run (Cert.AdLnRefIdeal.defs (F := Ideal)) (onTc (τ := Cert.AdLnRefIdeal.τ) (Cert.AdLnRefIdeal.main (F := Ideal))) ⟨m, fun _ => 0, g⟩ (fun r => (∀ c : Dev Cert.AdLnRefIdeal.nD,
      r.2.mem ((c.tc : Thread Cert.AdLnRefIdeal.nD Cert.AdLnRefIdeal.τ).loc Cert.AdLnRefIdeal.main_arg0) = m ((c.tc : Thread Cert.AdLnRefIdeal.nD Cert.AdLnRefIdeal.τ).loc Cert.AdLnRefIdeal.main_arg0)
      ∧ r.2.mem ((c.tc : Thread Cert.AdLnRefIdeal.nD Cert.AdLnRefIdeal.τ).loc Cert.AdLnRefIdeal.main_arg1) = m ((c.tc : Thread Cert.AdLnRefIdeal.nD Cert.AdLnRefIdeal.τ).loc Cert.AdLnRefIdeal.main_arg1)
      ∧ r.2.mem ((c.tc : Thread Cert.AdLnRefIdeal.nD Cert.AdLnRefIdeal.τ).loc Cert.AdLnRefIdeal.main_arg2) = m ((c.tc : Thread Cert.AdLnRefIdeal.nD Cert.AdLnRefIdeal.τ).loc Cert.AdLnRefIdeal.main_arg2)
      ∧ r.2.mem ((c.tc : Thread Cert.AdLnRefIdeal.nD Cert.AdLnRefIdeal.τ).loc Cert.AdLnRefIdeal.main_arg3) = m ((c.tc : Thread Cert.AdLnRefIdeal.nD Cert.AdLnRefIdeal.τ).loc Cert.AdLnRefIdeal.main_arg3))
      ∧ r.2.sem = fun _ => 0)

def quiescent_AdPoolW [hAdPoolW : Cert.AdPoolW.Facts] : Prop :=
  ∀ (m : (ℓ : Loc Cert.AdPoolW.nD Cert.AdPoolW.τ Cert.AdPoolW.sig) → Buf (Elt Bits) ℓ) (g : Dev Cert.AdPoolW.nD → PrngReg), Pre_AdPoolW m →
    θ_run (Cert.AdPoolW.defs (F := Bits)) (onTc (τ := Cert.AdPoolW.τ) (Cert.AdPoolW.main (F := Bits))) ⟨m, fun _ => 0, g⟩ (fun r => (∀ c : Dev Cert.AdPoolW.nD,
      r.2.mem ((c.tc : Thread Cert.AdPoolW.nD Cert.AdPoolW.τ).loc Cert.AdPoolW.main_arg0) = m ((c.tc : Thread Cert.AdPoolW.nD Cert.AdPoolW.τ).loc Cert.AdPoolW.main_arg0)
      ∧ r.2.mem ((c.tc : Thread Cert.AdPoolW.nD Cert.AdPoolW.τ).loc Cert.AdPoolW.main_arg1) = m ((c.tc : Thread Cert.AdPoolW.nD Cert.AdPoolW.τ).loc Cert.AdPoolW.main_arg1)
      ∧ r.2.mem ((c.tc : Thread Cert.AdPoolW.nD Cert.AdPoolW.τ).loc Cert.AdPoolW.main_arg2) = m ((c.tc : Thread Cert.AdPoolW.nD Cert.AdPoolW.τ).loc Cert.AdPoolW.main_arg2)
      ∧ r.2.mem ((c.tc : Thread Cert.AdPoolW.nD Cert.AdPoolW.τ).loc Cert.AdPoolW.main_arg3) = m ((c.tc : Thread Cert.AdPoolW.nD Cert.AdPoolW.τ).loc Cert.AdPoolW.main_arg3))
      ∧ r.2.sem = fun _ => 0)

def quiescent_AdPoolWIdeal [hAdPoolWIdeal : Cert.AdPoolWIdeal.Facts] : Prop :=
  ∀ (m : (ℓ : Loc Cert.AdPoolWIdeal.nD Cert.AdPoolWIdeal.τ Cert.AdPoolWIdeal.sig) → Buf (Elt Ideal) ℓ) (g : Dev Cert.AdPoolWIdeal.nD → PrngReg), Pre_AdPoolWIdeal m →
    θ_run (Cert.AdPoolWIdeal.defs (F := Ideal)) (onTc (τ := Cert.AdPoolWIdeal.τ) (Cert.AdPoolWIdeal.main (F := Ideal))) ⟨m, fun _ => 0, g⟩ (fun r => (∀ c : Dev Cert.AdPoolWIdeal.nD,
      r.2.mem ((c.tc : Thread Cert.AdPoolWIdeal.nD Cert.AdPoolWIdeal.τ).loc Cert.AdPoolWIdeal.main_arg0) = m ((c.tc : Thread Cert.AdPoolWIdeal.nD Cert.AdPoolWIdeal.τ).loc Cert.AdPoolWIdeal.main_arg0)
      ∧ r.2.mem ((c.tc : Thread Cert.AdPoolWIdeal.nD Cert.AdPoolWIdeal.τ).loc Cert.AdPoolWIdeal.main_arg1) = m ((c.tc : Thread Cert.AdPoolWIdeal.nD Cert.AdPoolWIdeal.τ).loc Cert.AdPoolWIdeal.main_arg1)
      ∧ r.2.mem ((c.tc : Thread Cert.AdPoolWIdeal.nD Cert.AdPoolWIdeal.τ).loc Cert.AdPoolWIdeal.main_arg2) = m ((c.tc : Thread Cert.AdPoolWIdeal.nD Cert.AdPoolWIdeal.τ).loc Cert.AdPoolWIdeal.main_arg2)
      ∧ r.2.mem ((c.tc : Thread Cert.AdPoolWIdeal.nD Cert.AdPoolWIdeal.τ).loc Cert.AdPoolWIdeal.main_arg3) = m ((c.tc : Thread Cert.AdPoolWIdeal.nD Cert.AdPoolWIdeal.τ).loc Cert.AdPoolWIdeal.main_arg3))
      ∧ r.2.sem = fun _ => 0)

def quiescent_AdPoolWRefIdeal [hAdPoolWRefIdeal : Cert.AdPoolWRefIdeal.Facts] : Prop :=
  ∀ (m : (ℓ : Loc Cert.AdPoolWRefIdeal.nD Cert.AdPoolWRefIdeal.τ Cert.AdPoolWRefIdeal.sig) → Buf (Elt Ideal) ℓ) (g : Dev Cert.AdPoolWRefIdeal.nD → PrngReg), Pre_AdPoolWRefIdeal m →
    θ_run (Cert.AdPoolWRefIdeal.defs (F := Ideal)) (onTc (τ := Cert.AdPoolWRefIdeal.τ) (Cert.AdPoolWRefIdeal.main (F := Ideal))) ⟨m, fun _ => 0, g⟩ (fun r => (∀ c : Dev Cert.AdPoolWRefIdeal.nD,
      r.2.mem ((c.tc : Thread Cert.AdPoolWRefIdeal.nD Cert.AdPoolWRefIdeal.τ).loc Cert.AdPoolWRefIdeal.main_arg0) = m ((c.tc : Thread Cert.AdPoolWRefIdeal.nD Cert.AdPoolWRefIdeal.τ).loc Cert.AdPoolWRefIdeal.main_arg0)
      ∧ r.2.mem ((c.tc : Thread Cert.AdPoolWRefIdeal.nD Cert.AdPoolWRefIdeal.τ).loc Cert.AdPoolWRefIdeal.main_arg1) = m ((c.tc : Thread Cert.AdPoolWRefIdeal.nD Cert.AdPoolWRefIdeal.τ).loc Cert.AdPoolWRefIdeal.main_arg1)
      ∧ r.2.mem ((c.tc : Thread Cert.AdPoolWRefIdeal.nD Cert.AdPoolWRefIdeal.τ).loc Cert.AdPoolWRefIdeal.main_arg2) = m ((c.tc : Thread Cert.AdPoolWRefIdeal.nD Cert.AdPoolWRefIdeal.τ).loc Cert.AdPoolWRefIdeal.main_arg2)
      ∧ r.2.mem ((c.tc : Thread Cert.AdPoolWRefIdeal.nD Cert.AdPoolWRefIdeal.τ).loc Cert.AdPoolWRefIdeal.main_arg3) = m ((c.tc : Thread Cert.AdPoolWRefIdeal.nD Cert.AdPoolWRefIdeal.τ).loc Cert.AdPoolWRefIdeal.main_arg3))
      ∧ r.2.sem = fun _ => 0)

def quiescent_AdPoolB [hAdPoolB : Cert.AdPoolB.Facts] : Prop :=
  ∀ (m : (ℓ : Loc Cert.AdPoolB.nD Cert.AdPoolB.τ Cert.AdPoolB.sig) → Buf (Elt Bits) ℓ) (g : Dev Cert.AdPoolB.nD → PrngReg), Pre_AdPoolB m →
    θ_run (Cert.AdPoolB.defs (F := Bits)) (onTc (τ := Cert.AdPoolB.τ) (Cert.AdPoolB.main (F := Bits))) ⟨m, fun _ => 0, g⟩ (fun r => (∀ c : Dev Cert.AdPoolB.nD,
      r.2.mem ((c.tc : Thread Cert.AdPoolB.nD Cert.AdPoolB.τ).loc Cert.AdPoolB.main_arg0) = m ((c.tc : Thread Cert.AdPoolB.nD Cert.AdPoolB.τ).loc Cert.AdPoolB.main_arg0)
      ∧ r.2.mem ((c.tc : Thread Cert.AdPoolB.nD Cert.AdPoolB.τ).loc Cert.AdPoolB.main_arg1) = m ((c.tc : Thread Cert.AdPoolB.nD Cert.AdPoolB.τ).loc Cert.AdPoolB.main_arg1)
      ∧ r.2.mem ((c.tc : Thread Cert.AdPoolB.nD Cert.AdPoolB.τ).loc Cert.AdPoolB.main_arg2) = m ((c.tc : Thread Cert.AdPoolB.nD Cert.AdPoolB.τ).loc Cert.AdPoolB.main_arg2)
      ∧ r.2.mem ((c.tc : Thread Cert.AdPoolB.nD Cert.AdPoolB.τ).loc Cert.AdPoolB.main_arg3) = m ((c.tc : Thread Cert.AdPoolB.nD Cert.AdPoolB.τ).loc Cert.AdPoolB.main_arg3))
      ∧ r.2.sem = fun _ => 0)

def quiescent_AdPoolBIdeal [hAdPoolBIdeal : Cert.AdPoolBIdeal.Facts] : Prop :=
  ∀ (m : (ℓ : Loc Cert.AdPoolBIdeal.nD Cert.AdPoolBIdeal.τ Cert.AdPoolBIdeal.sig) → Buf (Elt Ideal) ℓ) (g : Dev Cert.AdPoolBIdeal.nD → PrngReg), Pre_AdPoolBIdeal m →
    θ_run (Cert.AdPoolBIdeal.defs (F := Ideal)) (onTc (τ := Cert.AdPoolBIdeal.τ) (Cert.AdPoolBIdeal.main (F := Ideal))) ⟨m, fun _ => 0, g⟩ (fun r => (∀ c : Dev Cert.AdPoolBIdeal.nD,
      r.2.mem ((c.tc : Thread Cert.AdPoolBIdeal.nD Cert.AdPoolBIdeal.τ).loc Cert.AdPoolBIdeal.main_arg0) = m ((c.tc : Thread Cert.AdPoolBIdeal.nD Cert.AdPoolBIdeal.τ).loc Cert.AdPoolBIdeal.main_arg0)
      ∧ r.2.mem ((c.tc : Thread Cert.AdPoolBIdeal.nD Cert.AdPoolBIdeal.τ).loc Cert.AdPoolBIdeal.main_arg1) = m ((c.tc : Thread Cert.AdPoolBIdeal.nD Cert.AdPoolBIdeal.τ).loc Cert.AdPoolBIdeal.main_arg1)
      ∧ r.2.mem ((c.tc : Thread Cert.AdPoolBIdeal.nD Cert.AdPoolBIdeal.τ).loc Cert.AdPoolBIdeal.main_arg2) = m ((c.tc : Thread Cert.AdPoolBIdeal.nD Cert.AdPoolBIdeal.τ).loc Cert.AdPoolBIdeal.main_arg2)
      ∧ r.2.mem ((c.tc : Thread Cert.AdPoolBIdeal.nD Cert.AdPoolBIdeal.τ).loc Cert.AdPoolBIdeal.main_arg3) = m ((c.tc : Thread Cert.AdPoolBIdeal.nD Cert.AdPoolBIdeal.τ).loc Cert.AdPoolBIdeal.main_arg3))
      ∧ r.2.sem = fun _ => 0)

def quiescent_AdPoolBRefIdeal [hAdPoolBRefIdeal : Cert.AdPoolBRefIdeal.Facts] : Prop :=
  ∀ (m : (ℓ : Loc Cert.AdPoolBRefIdeal.nD Cert.AdPoolBRefIdeal.τ Cert.AdPoolBRefIdeal.sig) → Buf (Elt Ideal) ℓ) (g : Dev Cert.AdPoolBRefIdeal.nD → PrngReg), Pre_AdPoolBRefIdeal m →
    θ_run (Cert.AdPoolBRefIdeal.defs (F := Ideal)) (onTc (τ := Cert.AdPoolBRefIdeal.τ) (Cert.AdPoolBRefIdeal.main (F := Ideal))) ⟨m, fun _ => 0, g⟩ (fun r => (∀ c : Dev Cert.AdPoolBRefIdeal.nD,
      r.2.mem ((c.tc : Thread Cert.AdPoolBRefIdeal.nD Cert.AdPoolBRefIdeal.τ).loc Cert.AdPoolBRefIdeal.main_arg0) = m ((c.tc : Thread Cert.AdPoolBRefIdeal.nD Cert.AdPoolBRefIdeal.τ).loc Cert.AdPoolBRefIdeal.main_arg0)
      ∧ r.2.mem ((c.tc : Thread Cert.AdPoolBRefIdeal.nD Cert.AdPoolBRefIdeal.τ).loc Cert.AdPoolBRefIdeal.main_arg1) = m ((c.tc : Thread Cert.AdPoolBRefIdeal.nD Cert.AdPoolBRefIdeal.τ).loc Cert.AdPoolBRefIdeal.main_arg1)
      ∧ r.2.mem ((c.tc : Thread Cert.AdPoolBRefIdeal.nD Cert.AdPoolBRefIdeal.τ).loc Cert.AdPoolBRefIdeal.main_arg2) = m ((c.tc : Thread Cert.AdPoolBRefIdeal.nD Cert.AdPoolBRefIdeal.τ).loc Cert.AdPoolBRefIdeal.main_arg2)
      ∧ r.2.mem ((c.tc : Thread Cert.AdPoolBRefIdeal.nD Cert.AdPoolBRefIdeal.τ).loc Cert.AdPoolBRefIdeal.main_arg3) = m ((c.tc : Thread Cert.AdPoolBRefIdeal.nD Cert.AdPoolBRefIdeal.τ).loc Cert.AdPoolBRefIdeal.main_arg3))
      ∧ r.2.sem = fun _ => 0)

def quiescent_AdPoolS [hAdPoolS : Cert.AdPoolS.Facts] : Prop :=
  ∀ (m : (ℓ : Loc Cert.AdPoolS.nD Cert.AdPoolS.τ Cert.AdPoolS.sig) → Buf (Elt Bits) ℓ) (g : Dev Cert.AdPoolS.nD → PrngReg), Pre_AdPoolS m →
    θ_run (Cert.AdPoolS.defs (F := Bits)) (onTc (τ := Cert.AdPoolS.τ) (Cert.AdPoolS.main (F := Bits))) ⟨m, fun _ => 0, g⟩ (fun r => (∀ c : Dev Cert.AdPoolS.nD,
      r.2.mem ((c.tc : Thread Cert.AdPoolS.nD Cert.AdPoolS.τ).loc Cert.AdPoolS.main_arg0) = m ((c.tc : Thread Cert.AdPoolS.nD Cert.AdPoolS.τ).loc Cert.AdPoolS.main_arg0)
      ∧ r.2.mem ((c.tc : Thread Cert.AdPoolS.nD Cert.AdPoolS.τ).loc Cert.AdPoolS.main_arg1) = m ((c.tc : Thread Cert.AdPoolS.nD Cert.AdPoolS.τ).loc Cert.AdPoolS.main_arg1)
      ∧ r.2.mem ((c.tc : Thread Cert.AdPoolS.nD Cert.AdPoolS.τ).loc Cert.AdPoolS.main_arg2) = m ((c.tc : Thread Cert.AdPoolS.nD Cert.AdPoolS.τ).loc Cert.AdPoolS.main_arg2)
      ∧ r.2.mem ((c.tc : Thread Cert.AdPoolS.nD Cert.AdPoolS.τ).loc Cert.AdPoolS.main_arg3) = m ((c.tc : Thread Cert.AdPoolS.nD Cert.AdPoolS.τ).loc Cert.AdPoolS.main_arg3))
      ∧ r.2.sem = fun _ => 0)

def quiescent_AdPoolSIdeal [hAdPoolSIdeal : Cert.AdPoolSIdeal.Facts] : Prop :=
  ∀ (m : (ℓ : Loc Cert.AdPoolSIdeal.nD Cert.AdPoolSIdeal.τ Cert.AdPoolSIdeal.sig) → Buf (Elt Ideal) ℓ) (g : Dev Cert.AdPoolSIdeal.nD → PrngReg), Pre_AdPoolSIdeal m →
    θ_run (Cert.AdPoolSIdeal.defs (F := Ideal)) (onTc (τ := Cert.AdPoolSIdeal.τ) (Cert.AdPoolSIdeal.main (F := Ideal))) ⟨m, fun _ => 0, g⟩ (fun r => (∀ c : Dev Cert.AdPoolSIdeal.nD,
      r.2.mem ((c.tc : Thread Cert.AdPoolSIdeal.nD Cert.AdPoolSIdeal.τ).loc Cert.AdPoolSIdeal.main_arg0) = m ((c.tc : Thread Cert.AdPoolSIdeal.nD Cert.AdPoolSIdeal.τ).loc Cert.AdPoolSIdeal.main_arg0)
      ∧ r.2.mem ((c.tc : Thread Cert.AdPoolSIdeal.nD Cert.AdPoolSIdeal.τ).loc Cert.AdPoolSIdeal.main_arg1) = m ((c.tc : Thread Cert.AdPoolSIdeal.nD Cert.AdPoolSIdeal.τ).loc Cert.AdPoolSIdeal.main_arg1)
      ∧ r.2.mem ((c.tc : Thread Cert.AdPoolSIdeal.nD Cert.AdPoolSIdeal.τ).loc Cert.AdPoolSIdeal.main_arg2) = m ((c.tc : Thread Cert.AdPoolSIdeal.nD Cert.AdPoolSIdeal.τ).loc Cert.AdPoolSIdeal.main_arg2)
      ∧ r.2.mem ((c.tc : Thread Cert.AdPoolSIdeal.nD Cert.AdPoolSIdeal.τ).loc Cert.AdPoolSIdeal.main_arg3) = m ((c.tc : Thread Cert.AdPoolSIdeal.nD Cert.AdPoolSIdeal.τ).loc Cert.AdPoolSIdeal.main_arg3))
      ∧ r.2.sem = fun _ => 0)

def quiescent_AdPoolSRefIdeal [hAdPoolSRefIdeal : Cert.AdPoolSRefIdeal.Facts] : Prop :=
  ∀ (m : (ℓ : Loc Cert.AdPoolSRefIdeal.nD Cert.AdPoolSRefIdeal.τ Cert.AdPoolSRefIdeal.sig) → Buf (Elt Ideal) ℓ) (g : Dev Cert.AdPoolSRefIdeal.nD → PrngReg), Pre_AdPoolSRefIdeal m →
    θ_run (Cert.AdPoolSRefIdeal.defs (F := Ideal)) (onTc (τ := Cert.AdPoolSRefIdeal.τ) (Cert.AdPoolSRefIdeal.main (F := Ideal))) ⟨m, fun _ => 0, g⟩ (fun r => (∀ c : Dev Cert.AdPoolSRefIdeal.nD,
      r.2.mem ((c.tc : Thread Cert.AdPoolSRefIdeal.nD Cert.AdPoolSRefIdeal.τ).loc Cert.AdPoolSRefIdeal.main_arg0) = m ((c.tc : Thread Cert.AdPoolSRefIdeal.nD Cert.AdPoolSRefIdeal.τ).loc Cert.AdPoolSRefIdeal.main_arg0)
      ∧ r.2.mem ((c.tc : Thread Cert.AdPoolSRefIdeal.nD Cert.AdPoolSRefIdeal.τ).loc Cert.AdPoolSRefIdeal.main_arg1) = m ((c.tc : Thread Cert.AdPoolSRefIdeal.nD Cert.AdPoolSRefIdeal.τ).loc Cert.AdPoolSRefIdeal.main_arg1)
      ∧ r.2.mem ((c.tc : Thread Cert.AdPoolSRefIdeal.nD Cert.AdPoolSRefIdeal.τ).loc Cert.AdPoolSRefIdeal.main_arg2) = m ((c.tc : Thread Cert.AdPoolSRefIdeal.nD Cert.AdPoolSRefIdeal.τ).loc Cert.AdPoolSRefIdeal.main_arg2)
      ∧ r.2.mem ((c.tc : Thread Cert.AdPoolSRefIdeal.nD Cert.AdPoolSRefIdeal.τ).loc Cert.AdPoolSRefIdeal.main_arg3) = m ((c.tc : Thread Cert.AdPoolSRefIdeal.nD Cert.AdPoolSRefIdeal.τ).loc Cert.AdPoolSRefIdeal.main_arg3))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInRefIdeal [hAdInRefIdeal : Cert.AdInRefIdeal.Facts] : Prop :=
  ∀ (m : (ℓ : Loc Cert.AdInRefIdeal.nD Cert.AdInRefIdeal.τ Cert.AdInRefIdeal.sig) → Buf (Elt Ideal) ℓ) (g : Dev Cert.AdInRefIdeal.nD → PrngReg), Pre_AdInRefIdeal m →
    θ_run (Cert.AdInRefIdeal.defs (F := Ideal)) (onTc (τ := Cert.AdInRefIdeal.τ) (Cert.AdInRefIdeal.main (F := Ideal))) ⟨m, fun _ => 0, g⟩ (fun r => (∀ c : Dev Cert.AdInRefIdeal.nD,
      r.2.mem ((c.tc : Thread Cert.AdInRefIdeal.nD Cert.AdInRefIdeal.τ).loc Cert.AdInRefIdeal.main_arg0) = m ((c.tc : Thread Cert.AdInRefIdeal.nD Cert.AdInRefIdeal.τ).loc Cert.AdInRefIdeal.main_arg0)
      ∧ r.2.mem ((c.tc : Thread Cert.AdInRefIdeal.nD Cert.AdInRefIdeal.τ).loc Cert.AdInRefIdeal.main_arg1) = m ((c.tc : Thread Cert.AdInRefIdeal.nD Cert.AdInRefIdeal.τ).loc Cert.AdInRefIdeal.main_arg1)
      ∧ r.2.mem ((c.tc : Thread Cert.AdInRefIdeal.nD Cert.AdInRefIdeal.τ).loc Cert.AdInRefIdeal.main_arg2) = m ((c.tc : Thread Cert.AdInRefIdeal.nD Cert.AdInRefIdeal.τ).loc Cert.AdInRefIdeal.main_arg2)
      ∧ r.2.mem ((c.tc : Thread Cert.AdInRefIdeal.nD Cert.AdInRefIdeal.τ).loc Cert.AdInRefIdeal.main_arg3) = m ((c.tc : Thread Cert.AdInRefIdeal.nD Cert.AdInRefIdeal.τ).loc Cert.AdInRefIdeal.main_arg3))
      ∧ r.2.sem = fun _ => 0)

def quiescent_AdConv [hAdConv : Cert.AdConv.Facts] : Prop :=
  ∀ (m : (ℓ : Loc Cert.AdConv.nD Cert.AdConv.τ Cert.AdConv.sig) → Buf (Elt Bits) ℓ) (g : Dev Cert.AdConv.nD → PrngReg), Pre_AdConv m →
    θ_run (Cert.AdConv.defs (F := Bits)) (onTc (τ := Cert.AdConv.τ) (Cert.AdConv.main (F := Bits))) ⟨m, fun _ => 0, g⟩ (fun r => (∀ c : Dev Cert.AdConv.nD,
      r.2.mem ((c.tc : Thread Cert.AdConv.nD Cert.AdConv.τ).loc Cert.AdConv.main_arg0) = m ((c.tc : Thread Cert.AdConv.nD Cert.AdConv.τ).loc Cert.AdConv.main_arg0)
      ∧ r.2.mem ((c.tc : Thread Cert.AdConv.nD Cert.AdConv.τ).loc Cert.AdConv.main_arg1) = m ((c.tc : Thread Cert.AdConv.nD Cert.AdConv.τ).loc Cert.AdConv.main_arg1)
      ∧ r.2.mem ((c.tc : Thread Cert.AdConv.nD Cert.AdConv.τ).loc Cert.AdConv.main_arg2) = m ((c.tc : Thread Cert.AdConv.nD Cert.AdConv.τ).loc Cert.AdConv.main_arg2)
      ∧ r.2.mem ((c.tc : Thread Cert.AdConv.nD Cert.AdConv.τ).loc Cert.AdConv.main_arg3) = m ((c.tc : Thread Cert.AdConv.nD Cert.AdConv.τ).loc Cert.AdConv.main_arg3))
      ∧ r.2.sem = fun _ => 0)

def quiescent_AdConvIdeal [hAdConvIdeal : Cert.AdConvIdeal.Facts] : Prop :=
  ∀ (m : (ℓ : Loc Cert.AdConvIdeal.nD Cert.AdConvIdeal.τ Cert.AdConvIdeal.sig) → Buf (Elt Ideal) ℓ) (g : Dev Cert.AdConvIdeal.nD → PrngReg), Pre_AdConvIdeal m →
    θ_run (Cert.AdConvIdeal.defs (F := Ideal)) (onTc (τ := Cert.AdConvIdeal.τ) (Cert.AdConvIdeal.main (F := Ideal))) ⟨m, fun _ => 0, g⟩ (fun r => (∀ c : Dev Cert.AdConvIdeal.nD,
      r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
      ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
      ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
      ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ r.2.sem = fun _ => 0)

def quiescent_AdConvRefIdeal [hAdConvRefIdeal : Cert.AdConvRefIdeal.Facts] : Prop :=
  ∀ (m : (ℓ : Loc Cert.AdConvRefIdeal.nD Cert.AdConvRefIdeal.τ Cert.AdConvRefIdeal.sig) → Buf (Elt Ideal) ℓ) (g : Dev Cert.AdConvRefIdeal.nD → PrngReg), Pre_AdConvRefIdeal m →
    θ_run (Cert.AdConvRefIdeal.defs (F := Ideal)) (onTc (τ := Cert.AdConvRefIdeal.τ) (Cert.AdConvRefIdeal.main (F := Ideal))) ⟨m, fun _ => 0, g⟩ (fun r => (∀ c : Dev Cert.AdConvRefIdeal.nD,
      r.2.mem ((c.tc : Thread Cert.AdConvRefIdeal.nD Cert.AdConvRefIdeal.τ).loc Cert.AdConvRefIdeal.main_arg0) = m ((c.tc : Thread Cert.AdConvRefIdeal.nD Cert.AdConvRefIdeal.τ).loc Cert.AdConvRefIdeal.main_arg0)
      ∧ r.2.mem ((c.tc : Thread Cert.AdConvRefIdeal.nD Cert.AdConvRefIdeal.τ).loc Cert.AdConvRefIdeal.main_arg1) = m ((c.tc : Thread Cert.AdConvRefIdeal.nD Cert.AdConvRefIdeal.τ).loc Cert.AdConvRefIdeal.main_arg1)
      ∧ r.2.mem ((c.tc : Thread Cert.AdConvRefIdeal.nD Cert.AdConvRefIdeal.τ).loc Cert.AdConvRefIdeal.main_arg2) = m ((c.tc : Thread Cert.AdConvRefIdeal.nD Cert.AdConvRefIdeal.τ).loc Cert.AdConvRefIdeal.main_arg2)
      ∧ r.2.mem ((c.tc : Thread Cert.AdConvRefIdeal.nD Cert.AdConvRefIdeal.τ).loc Cert.AdConvRefIdeal.main_arg3) = m ((c.tc : Thread Cert.AdConvRefIdeal.nD Cert.AdConvRefIdeal.τ).loc Cert.AdConvRefIdeal.main_arg3))
      ∧ r.2.sem = fun _ => 0)

def quiescent_AdHeads [hAdHeads : Cert.AdHeads.Facts] : Prop :=
  ∀ (m : (ℓ : Loc Cert.AdHeads.nD Cert.AdHeads.τ Cert.AdHeads.sig) → Buf (Elt Bits) ℓ) (g : Dev Cert.AdHeads.nD → PrngReg), Pre_AdHeads m →
    θ_run (Cert.AdHeads.defs (F := Bits)) (onTc (τ := Cert.AdHeads.τ) (Cert.AdHeads.main (F := Bits))) ⟨m, fun _ => 0, g⟩ (fun r => (∀ c : Dev Cert.AdHeads.nD,
      r.2.mem ((c.tc : Thread Cert.AdHeads.nD Cert.AdHeads.τ).loc Cert.AdHeads.main_arg0) = m ((c.tc : Thread Cert.AdHeads.nD Cert.AdHeads.τ).loc Cert.AdHeads.main_arg0)
      ∧ r.2.mem ((c.tc : Thread Cert.AdHeads.nD Cert.AdHeads.τ).loc Cert.AdHeads.main_arg1) = m ((c.tc : Thread Cert.AdHeads.nD Cert.AdHeads.τ).loc Cert.AdHeads.main_arg1)
      ∧ r.2.mem ((c.tc : Thread Cert.AdHeads.nD Cert.AdHeads.τ).loc Cert.AdHeads.main_arg2) = m ((c.tc : Thread Cert.AdHeads.nD Cert.AdHeads.τ).loc Cert.AdHeads.main_arg2)
      ∧ r.2.mem ((c.tc : Thread Cert.AdHeads.nD Cert.AdHeads.τ).loc Cert.AdHeads.main_arg3) = m ((c.tc : Thread Cert.AdHeads.nD Cert.AdHeads.τ).loc Cert.AdHeads.main_arg3))
      ∧ r.2.sem = fun _ => 0)

def quiescent_AdHeadsIdeal [hAdHeadsIdeal : Cert.AdHeadsIdeal.Facts] : Prop :=
  ∀ (m : (ℓ : Loc Cert.AdHeadsIdeal.nD Cert.AdHeadsIdeal.τ Cert.AdHeadsIdeal.sig) → Buf (Elt Ideal) ℓ) (g : Dev Cert.AdHeadsIdeal.nD → PrngReg), Pre_AdHeadsIdeal m →
    θ_run (Cert.AdHeadsIdeal.defs (F := Ideal)) (onTc (τ := Cert.AdHeadsIdeal.τ) (Cert.AdHeadsIdeal.main (F := Ideal))) ⟨m, fun _ => 0, g⟩ (fun r => (∀ c : Dev Cert.AdHeadsIdeal.nD,
      r.2.mem ((c.tc : Thread Cert.AdHeadsIdeal.nD Cert.AdHeadsIdeal.τ).loc Cert.AdHeadsIdeal.main_arg0) = m ((c.tc : Thread Cert.AdHeadsIdeal.nD Cert.AdHeadsIdeal.τ).loc Cert.AdHeadsIdeal.main_arg0)
      ∧ r.2.mem ((c.tc : Thread Cert.AdHeadsIdeal.nD Cert.AdHeadsIdeal.τ).loc Cert.AdHeadsIdeal.main_arg1) = m ((c.tc : Thread Cert.AdHeadsIdeal.nD Cert.AdHeadsIdeal.τ).loc Cert.AdHeadsIdeal.main_arg1)
      ∧ r.2.mem ((c.tc : Thread Cert.AdHeadsIdeal.nD Cert.AdHeadsIdeal.τ).loc Cert.AdHeadsIdeal.main_arg2) = m ((c.tc : Thread Cert.AdHeadsIdeal.nD Cert.AdHeadsIdeal.τ).loc Cert.AdHeadsIdeal.main_arg2)
      ∧ r.2.mem ((c.tc : Thread Cert.AdHeadsIdeal.nD Cert.AdHeadsIdeal.τ).loc Cert.AdHeadsIdeal.main_arg3) = m ((c.tc : Thread Cert.AdHeadsIdeal.nD Cert.AdHeadsIdeal.τ).loc Cert.AdHeadsIdeal.main_arg3))
      ∧ r.2.sem = fun _ => 0)

def quiescent_AdHeadsRefIdeal [hAdHeadsRefIdeal : Cert.AdHeadsRefIdeal.Facts] : Prop :=
  ∀ (m : (ℓ : Loc Cert.AdHeadsRefIdeal.nD Cert.AdHeadsRefIdeal.τ Cert.AdHeadsRefIdeal.sig) → Buf (Elt Ideal) ℓ) (g : Dev Cert.AdHeadsRefIdeal.nD → PrngReg), Pre_AdHeadsRefIdeal m →
    θ_run (Cert.AdHeadsRefIdeal.defs (F := Ideal)) (onTc (τ := Cert.AdHeadsRefIdeal.τ) (Cert.AdHeadsRefIdeal.main (F := Ideal))) ⟨m, fun _ => 0, g⟩ (fun r => (∀ c : Dev Cert.AdHeadsRefIdeal.nD,
      r.2.mem ((c.tc : Thread Cert.AdHeadsRefIdeal.nD Cert.AdHeadsRefIdeal.τ).loc Cert.AdHeadsRefIdeal.main_arg0) = m ((c.tc : Thread Cert.AdHeadsRefIdeal.nD Cert.AdHeadsRefIdeal.τ).loc Cert.AdHeadsRefIdeal.main_arg0)
      ∧ r.2.mem ((c.tc : Thread Cert.AdHeadsRefIdeal.nD Cert.AdHeadsRefIdeal.τ).loc Cert.AdHeadsRefIdeal.main_arg1) = m ((c.tc : Thread Cert.AdHeadsRefIdeal.nD Cert.AdHeadsRefIdeal.τ).loc Cert.AdHeadsRefIdeal.main_arg1)
      ∧ r.2.mem ((c.tc : Thread Cert.AdHeadsRefIdeal.nD Cert.AdHeadsRefIdeal.τ).loc Cert.AdHeadsRefIdeal.main_arg2) = m ((c.tc : Thread Cert.AdHeadsRefIdeal.nD Cert.AdHeadsRefIdeal.τ).loc Cert.AdHeadsRefIdeal.main_arg2)
      ∧ r.2.mem ((c.tc : Thread Cert.AdHeadsRefIdeal.nD Cert.AdHeadsRefIdeal.τ).loc Cert.AdHeadsRefIdeal.main_arg3) = m ((c.tc : Thread Cert.AdHeadsRefIdeal.nD Cert.AdHeadsRefIdeal.τ).loc Cert.AdHeadsRefIdeal.main_arg3))
      ∧ r.2.sem = fun _ => 0)

def quiescent_AdNorm [hAdNorm : Cert.AdNorm.Facts] : Prop :=
  ∀ (m : (ℓ : Loc Cert.AdNorm.nD Cert.AdNorm.τ Cert.AdNorm.sig) → Buf (Elt Bits) ℓ) (g : Dev Cert.AdNorm.nD → PrngReg), Pre_AdNorm m →
    θ_run (Cert.AdNorm.defs (F := Bits)) (onTc (τ := Cert.AdNorm.τ) (Cert.AdNorm.main (F := Bits))) ⟨m, fun _ => 0, g⟩ (fun r => (∀ c : Dev Cert.AdNorm.nD,
      r.2.mem ((c.tc : Thread Cert.AdNorm.nD Cert.AdNorm.τ).loc Cert.AdNorm.main_arg0) = m ((c.tc : Thread Cert.AdNorm.nD Cert.AdNorm.τ).loc Cert.AdNorm.main_arg0)
      ∧ r.2.mem ((c.tc : Thread Cert.AdNorm.nD Cert.AdNorm.τ).loc Cert.AdNorm.main_arg1) = m ((c.tc : Thread Cert.AdNorm.nD Cert.AdNorm.τ).loc Cert.AdNorm.main_arg1)
      ∧ r.2.mem ((c.tc : Thread Cert.AdNorm.nD Cert.AdNorm.τ).loc Cert.AdNorm.main_arg2) = m ((c.tc : Thread Cert.AdNorm.nD Cert.AdNorm.τ).loc Cert.AdNorm.main_arg2)
      ∧ r.2.mem ((c.tc : Thread Cert.AdNorm.nD Cert.AdNorm.τ).loc Cert.AdNorm.main_arg3) = m ((c.tc : Thread Cert.AdNorm.nD Cert.AdNorm.τ).loc Cert.AdNorm.main_arg3))
      ∧ r.2.sem = fun _ => 0)

def quiescent_AdNormIdeal [hAdNormIdeal : Cert.AdNormIdeal.Facts] : Prop :=
  ∀ (m : (ℓ : Loc Cert.AdNormIdeal.nD Cert.AdNormIdeal.τ Cert.AdNormIdeal.sig) → Buf (Elt Ideal) ℓ) (g : Dev Cert.AdNormIdeal.nD → PrngReg), Pre_AdNormIdeal m →
    θ_run (Cert.AdNormIdeal.defs (F := Ideal)) (onTc (τ := Cert.AdNormIdeal.τ) (Cert.AdNormIdeal.main (F := Ideal))) ⟨m, fun _ => 0, g⟩ (fun r => (∀ c : Dev Cert.AdNormIdeal.nD,
      r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
      ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
      ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
      ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ r.2.sem = fun _ => 0)

def quiescent_AdNormRefIdeal [hAdNormRefIdeal : Cert.AdNormRefIdeal.Facts] : Prop :=
  ∀ (m : (ℓ : Loc Cert.AdNormRefIdeal.nD Cert.AdNormRefIdeal.τ Cert.AdNormRefIdeal.sig) → Buf (Elt Ideal) ℓ) (g : Dev Cert.AdNormRefIdeal.nD → PrngReg), Pre_AdNormRefIdeal m →
    θ_run (Cert.AdNormRefIdeal.defs (F := Ideal)) (onTc (τ := Cert.AdNormRefIdeal.τ) (Cert.AdNormRefIdeal.main (F := Ideal))) ⟨m, fun _ => 0, g⟩ (fun r => (∀ c : Dev Cert.AdNormRefIdeal.nD,
      r.2.mem ((c.tc : Thread Cert.AdNormRefIdeal.nD Cert.AdNormRefIdeal.τ).loc Cert.AdNormRefIdeal.main_arg0) = m ((c.tc : Thread Cert.AdNormRefIdeal.nD Cert.AdNormRefIdeal.τ).loc Cert.AdNormRefIdeal.main_arg0)
      ∧ r.2.mem ((c.tc : Thread Cert.AdNormRefIdeal.nD Cert.AdNormRefIdeal.τ).loc Cert.AdNormRefIdeal.main_arg1) = m ((c.tc : Thread Cert.AdNormRefIdeal.nD Cert.AdNormRefIdeal.τ).loc Cert.AdNormRefIdeal.main_arg1)
      ∧ r.2.mem ((c.tc : Thread Cert.AdNormRefIdeal.nD Cert.AdNormRefIdeal.τ).loc Cert.AdNormRefIdeal.main_arg2) = m ((c.tc : Thread Cert.AdNormRefIdeal.nD Cert.AdNormRefIdeal.τ).loc Cert.AdNormRefIdeal.main_arg2)
      ∧ r.2.mem ((c.tc : Thread Cert.AdNormRefIdeal.nD Cert.AdNormRefIdeal.τ).loc Cert.AdNormRefIdeal.main_arg3) = m ((c.tc : Thread Cert.AdNormRefIdeal.nD Cert.AdNormRefIdeal.τ).loc Cert.AdNormRefIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_AdOutRefIdeal [hAdOutRefIdeal : Cert.AdOutRefIdeal.Facts] : Prop :=
  ∀ (m : (ℓ : Loc Cert.AdOutRefIdeal.nD Cert.AdOutRefIdeal.τ Cert.AdOutRefIdeal.sig) → Buf (Elt Ideal) ℓ) (g : Dev Cert.AdOutRefIdeal.nD → PrngReg), Pre_AdOutRefIdeal m →
    θ_run (Cert.AdOutRefIdeal.defs (F := Ideal)) (onTc (τ := Cert.AdOutRefIdeal.τ) (Cert.AdOutRefIdeal.main (F := Ideal))) ⟨m, fun _ => 0, g⟩ (fun r => (∀ c : Dev Cert.AdOutRefIdeal.nD,
      r.2.mem ((c.tc : Thread Cert.AdOutRefIdeal.nD Cert.AdOutRefIdeal.τ).loc Cert.AdOutRefIdeal.main_arg0) = m ((c.tc : Thread Cert.AdOutRefIdeal.nD Cert.AdOutRefIdeal.τ).loc Cert.AdOutRefIdeal.main_arg0)
      ∧ r.2.mem ((c.tc : Thread Cert.AdOutRefIdeal.nD Cert.AdOutRefIdeal.τ).loc Cert.AdOutRefIdeal.main_arg1) = m ((c.tc : Thread Cert.AdOutRefIdeal.nD Cert.AdOutRefIdeal.τ).loc Cert.AdOutRefIdeal.main_arg1)
      ∧ r.2.mem ((c.tc : Thread Cert.AdOutRefIdeal.nD Cert.AdOutRefIdeal.τ).loc Cert.AdOutRefIdeal.main_arg2) = m ((c.tc : Thread Cert.AdOutRefIdeal.nD Cert.AdOutRefIdeal.τ).loc Cert.AdOutRefIdeal.main_arg2)
      ∧ r.2.mem ((c.tc : Thread Cert.AdOutRefIdeal.nD Cert.AdOutRefIdeal.τ).loc Cert.AdOutRefIdeal.main_arg3) = m ((c.tc : Thread Cert.AdOutRefIdeal.nD Cert.AdOutRefIdeal.τ).loc Cert.AdOutRefIdeal.main_arg3))
      ∧ r.2.sem = fun _ => 0)

def quiescent_AdOne [hAdOne : Cert.AdOne.Facts] : Prop :=
  ∀ (m : (ℓ : Loc Cert.AdOne.nD Cert.AdOne.τ Cert.AdOne.sig) → Buf (Elt Bits) ℓ) (g : Dev Cert.AdOne.nD → PrngReg), Pre_AdOne m →
    θ_run (Cert.AdOne.defs (F := Bits)) (onTc (τ := Cert.AdOne.τ) (Cert.AdOne.main (F := Bits))) ⟨m, fun _ => 0, g⟩ (fun r => (∀ c : Dev Cert.AdOne.nD,
      r.2.mem ((c.tc : Thread Cert.AdOne.nD Cert.AdOne.τ).loc Cert.AdOne.main_arg0) = m ((c.tc : Thread Cert.AdOne.nD Cert.AdOne.τ).loc Cert.AdOne.main_arg0)
      ∧ r.2.mem ((c.tc : Thread Cert.AdOne.nD Cert.AdOne.τ).loc Cert.AdOne.main_arg1) = m ((c.tc : Thread Cert.AdOne.nD Cert.AdOne.τ).loc Cert.AdOne.main_arg1)
      ∧ r.2.mem ((c.tc : Thread Cert.AdOne.nD Cert.AdOne.τ).loc Cert.AdOne.main_arg2) = m ((c.tc : Thread Cert.AdOne.nD Cert.AdOne.τ).loc Cert.AdOne.main_arg2)
      ∧ r.2.mem ((c.tc : Thread Cert.AdOne.nD Cert.AdOne.τ).loc Cert.AdOne.main_arg3) = m ((c.tc : Thread Cert.AdOne.nD Cert.AdOne.τ).loc Cert.AdOne.main_arg3))
      ∧ r.2.sem = fun _ => 0)

def quiescent_AdOneIdeal [hAdOneIdeal : Cert.AdOneIdeal.Facts] : Prop :=
  ∀ (m : (ℓ : Loc Cert.AdOneIdeal.nD Cert.AdOneIdeal.τ Cert.AdOneIdeal.sig) → Buf (Elt Ideal) ℓ) (g : Dev Cert.AdOneIdeal.nD → PrngReg), Pre_AdOneIdeal m →
    θ_run (Cert.AdOneIdeal.defs (F := Ideal)) (onTc (τ := Cert.AdOneIdeal.τ) (Cert.AdOneIdeal.main (F := Ideal))) ⟨m, fun _ => 0, g⟩ (fun r => (∀ c : Dev Cert.AdOneIdeal.nD,
      r.2.mem ((c.tc : Thread Cert.AdOneIdeal.nD Cert.AdOneIdeal.τ).loc Cert.AdOneIdeal.main_arg0) = m ((c.tc : Thread Cert.AdOneIdeal.nD Cert.AdOneIdeal.τ).loc Cert.AdOneIdeal.main_arg0)
      ∧ r.2.mem ((c.tc : Thread Cert.AdOneIdeal.nD Cert.AdOneIdeal.τ).loc Cert.AdOneIdeal.main_arg1) = m ((c.tc : Thread Cert.AdOneIdeal.nD Cert.AdOneIdeal.τ).loc Cert.AdOneIdeal.main_arg1)
      ∧ r.2.mem ((c.tc : Thread Cert.AdOneIdeal.nD Cert.AdOneIdeal.τ).loc Cert.AdOneIdeal.main_arg2) = m ((c.tc : Thread Cert.AdOneIdeal.nD Cert.AdOneIdeal.τ).loc Cert.AdOneIdeal.main_arg2)
      ∧ r.2.mem ((c.tc : Thread Cert.AdOneIdeal.nD Cert.AdOneIdeal.τ).loc Cert.AdOneIdeal.main_arg3) = m ((c.tc : Thread Cert.AdOneIdeal.nD Cert.AdOneIdeal.τ).loc Cert.AdOneIdeal.main_arg3))
      ∧ r.2.sem = fun _ => 0)

def quiescent_AdOneRefIdeal [hAdOneRefIdeal : Cert.AdOneRefIdeal.Facts] : Prop :=
  ∀ (m : (ℓ : Loc Cert.AdOneRefIdeal.nD Cert.AdOneRefIdeal.τ Cert.AdOneRefIdeal.sig) → Buf (Elt Ideal) ℓ) (g : Dev Cert.AdOneRefIdeal.nD → PrngReg), Pre_AdOneRefIdeal m →
    θ_run (Cert.AdOneRefIdeal.defs (F := Ideal)) (onTc (τ := Cert.AdOneRefIdeal.τ) (Cert.AdOneRefIdeal.main (F := Ideal))) ⟨m, fun _ => 0, g⟩ (fun r => (∀ c : Dev Cert.AdOneRefIdeal.nD,
      r.2.mem ((c.tc : Thread Cert.AdOneRefIdeal.nD Cert.AdOneRefIdeal.τ).loc Cert.AdOneRefIdeal.main_arg0) = m ((c.tc : Thread Cert.AdOneRefIdeal.nD Cert.AdOneRefIdeal.τ).loc Cert.AdOneRefIdeal.main_arg0)
      ∧ r.2.mem ((c.tc : Thread Cert.AdOneRefIdeal.nD Cert.AdOneRefIdeal.τ).loc Cert.AdOneRefIdeal.main_arg1) = m ((c.tc : Thread Cert.AdOneRefIdeal.nD Cert.AdOneRefIdeal.τ).loc Cert.AdOneRefIdeal.main_arg1)
      ∧ r.2.mem ((c.tc : Thread Cert.AdOneRefIdeal.nD Cert.AdOneRefIdeal.τ).loc Cert.AdOneRefIdeal.main_arg2) = m ((c.tc : Thread Cert.AdOneRefIdeal.nD Cert.AdOneRefIdeal.τ).loc Cert.AdOneRefIdeal.main_arg2)
      ∧ r.2.mem ((c.tc : Thread Cert.AdOneRefIdeal.nD Cert.AdOneRefIdeal.τ).loc Cert.AdOneRefIdeal.main_arg3) = m ((c.tc : Thread Cert.AdOneRefIdeal.nD Cert.AdOneRefIdeal.τ).loc Cert.AdOneRefIdeal.main_arg3))
      ∧ r.2.sem = fun _ => 0)

def quiescent_AdTwo [hAdTwo : Cert.AdTwo.Facts] : Prop :=
  ∀ (m : (ℓ : Loc Cert.AdTwo.nD Cert.AdTwo.τ Cert.AdTwo.sig) → Buf (Elt Bits) ℓ) (g : Dev Cert.AdTwo.nD → PrngReg), Pre_AdTwo m →
    θ_run (Cert.AdTwo.defs (F := Bits)) (onTc (τ := Cert.AdTwo.τ) (Cert.AdTwo.main (F := Bits))) ⟨m, fun _ => 0, g⟩ (fun r => (∀ c : Dev Cert.AdTwo.nD,
      r.2.mem ((c.tc : Thread Cert.AdTwo.nD Cert.AdTwo.τ).loc Cert.AdTwo.main_arg0) = m ((c.tc : Thread Cert.AdTwo.nD Cert.AdTwo.τ).loc Cert.AdTwo.main_arg0)
      ∧ r.2.mem ((c.tc : Thread Cert.AdTwo.nD Cert.AdTwo.τ).loc Cert.AdTwo.main_arg1) = m ((c.tc : Thread Cert.AdTwo.nD Cert.AdTwo.τ).loc Cert.AdTwo.main_arg1)
      ∧ r.2.mem ((c.tc : Thread Cert.AdTwo.nD Cert.AdTwo.τ).loc Cert.AdTwo.main_arg2) = m ((c.tc : Thread Cert.AdTwo.nD Cert.AdTwo.τ).loc Cert.AdTwo.main_arg2)
      ∧ r.2.mem ((c.tc : Thread Cert.AdTwo.nD Cert.AdTwo.τ).loc Cert.AdTwo.main_arg3) = m ((c.tc : Thread Cert.AdTwo.nD Cert.AdTwo.τ).loc Cert.AdTwo.main_arg3))
      ∧ r.2.sem = fun _ => 0)

def quiescent_AdTwoIdeal [hAdTwoIdeal : Cert.AdTwoIdeal.Facts] : Prop :=
  ∀ (m : (ℓ : Loc Cert.AdTwoIdeal.nD Cert.AdTwoIdeal.τ Cert.AdTwoIdeal.sig) → Buf (Elt Ideal) ℓ) (g : Dev Cert.AdTwoIdeal.nD → PrngReg), Pre_AdTwoIdeal m →
    θ_run (Cert.AdTwoIdeal.defs (F := Ideal)) (onTc (τ := Cert.AdTwoIdeal.τ) (Cert.AdTwoIdeal.main (F := Ideal))) ⟨m, fun _ => 0, g⟩ (fun r => (∀ c : Dev Cert.AdTwoIdeal.nD,
      r.2.mem ((c.tc : Thread Cert.AdTwoIdeal.nD Cert.AdTwoIdeal.τ).loc Cert.AdTwoIdeal.main_arg0) = m ((c.tc : Thread Cert.AdTwoIdeal.nD Cert.AdTwoIdeal.τ).loc Cert.AdTwoIdeal.main_arg0)
      ∧ r.2.mem ((c.tc : Thread Cert.AdTwoIdeal.nD Cert.AdTwoIdeal.τ).loc Cert.AdTwoIdeal.main_arg1) = m ((c.tc : Thread Cert.AdTwoIdeal.nD Cert.AdTwoIdeal.τ).loc Cert.AdTwoIdeal.main_arg1)
      ∧ r.2.mem ((c.tc : Thread Cert.AdTwoIdeal.nD Cert.AdTwoIdeal.τ).loc Cert.AdTwoIdeal.main_arg2) = m ((c.tc : Thread Cert.AdTwoIdeal.nD Cert.AdTwoIdeal.τ).loc Cert.AdTwoIdeal.main_arg2)
      ∧ r.2.mem ((c.tc : Thread Cert.AdTwoIdeal.nD Cert.AdTwoIdeal.τ).loc Cert.AdTwoIdeal.main_arg3) = m ((c.tc : Thread Cert.AdTwoIdeal.nD Cert.AdTwoIdeal.τ).loc Cert.AdTwoIdeal.main_arg3))
      ∧ r.2.sem = fun _ => 0)

def quiescent_AdTwoRefIdeal [hAdTwoRefIdeal : Cert.AdTwoRefIdeal.Facts] : Prop :=
  ∀ (m : (ℓ : Loc Cert.AdTwoRefIdeal.nD Cert.AdTwoRefIdeal.τ Cert.AdTwoRefIdeal.sig) → Buf (Elt Ideal) ℓ) (g : Dev Cert.AdTwoRefIdeal.nD → PrngReg), Pre_AdTwoRefIdeal m →
    θ_run (Cert.AdTwoRefIdeal.defs (F := Ideal)) (onTc (τ := Cert.AdTwoRefIdeal.τ) (Cert.AdTwoRefIdeal.main (F := Ideal))) ⟨m, fun _ => 0, g⟩ (fun r => (∀ c : Dev Cert.AdTwoRefIdeal.nD,
      r.2.mem ((c.tc : Thread Cert.AdTwoRefIdeal.nD Cert.AdTwoRefIdeal.τ).loc Cert.AdTwoRefIdeal.main_arg0) = m ((c.tc : Thread Cert.AdTwoRefIdeal.nD Cert.AdTwoRefIdeal.τ).loc Cert.AdTwoRefIdeal.main_arg0)
      ∧ r.2.mem ((c.tc : Thread Cert.AdTwoRefIdeal.nD Cert.AdTwoRefIdeal.τ).loc Cert.AdTwoRefIdeal.main_arg1) = m ((c.tc : Thread Cert.AdTwoRefIdeal.nD Cert.AdTwoRefIdeal.τ).loc Cert.AdTwoRefIdeal.main_arg1)
      ∧ r.2.mem ((c.tc : Thread Cert.AdTwoRefIdeal.nD Cert.AdTwoRefIdeal.τ).loc Cert.AdTwoRefIdeal.main_arg2) = m ((c.tc : Thread Cert.AdTwoRefIdeal.nD Cert.AdTwoRefIdeal.τ).loc Cert.AdTwoRefIdeal.main_arg2)
      ∧ r.2.mem ((c.tc : Thread Cert.AdTwoRefIdeal.nD Cert.AdTwoRefIdeal.τ).loc Cert.AdTwoRefIdeal.main_arg3) = m ((c.tc : Thread Cert.AdTwoRefIdeal.nD Cert.AdTwoRefIdeal.τ).loc Cert.AdTwoRefIdeal.main_arg3))
      ∧ r.2.sem = fun _ => 0)

def quiescent_AdGate [hAdGate : Cert.AdGate.Facts] : Prop :=
  ∀ (m : (ℓ : Loc Cert.AdGate.nD Cert.AdGate.τ Cert.AdGate.sig) → Buf (Elt Bits) ℓ) (g : Dev Cert.AdGate.nD → PrngReg), Pre_AdGate m →
    θ_run (Cert.AdGate.defs (F := Bits)) (onTc (τ := Cert.AdGate.τ) (Cert.AdGate.main (F := Bits))) ⟨m, fun _ => 0, g⟩ (fun r => (∀ c : Dev Cert.AdGate.nD,
      r.2.mem ((c.tc : Thread Cert.AdGate.nD Cert.AdGate.τ).loc Cert.AdGate.main_arg0) = m ((c.tc : Thread Cert.AdGate.nD Cert.AdGate.τ).loc Cert.AdGate.main_arg0)
      ∧ r.2.mem ((c.tc : Thread Cert.AdGate.nD Cert.AdGate.τ).loc Cert.AdGate.main_arg1) = m ((c.tc : Thread Cert.AdGate.nD Cert.AdGate.τ).loc Cert.AdGate.main_arg1)
      ∧ r.2.mem ((c.tc : Thread Cert.AdGate.nD Cert.AdGate.τ).loc Cert.AdGate.main_arg2) = m ((c.tc : Thread Cert.AdGate.nD Cert.AdGate.τ).loc Cert.AdGate.main_arg2)
      ∧ r.2.mem ((c.tc : Thread Cert.AdGate.nD Cert.AdGate.τ).loc Cert.AdGate.main_arg3) = m ((c.tc : Thread Cert.AdGate.nD Cert.AdGate.τ).loc Cert.AdGate.main_arg3))
      ∧ r.2.sem = fun _ => 0)

def quiescent_AdGateIdeal [hAdGateIdeal : Cert.AdGateIdeal.Facts] : Prop :=
  ∀ (m : (ℓ : Loc Cert.AdGateIdeal.nD Cert.AdGateIdeal.τ Cert.AdGateIdeal.sig) → Buf (Elt Ideal) ℓ) (g : Dev Cert.AdGateIdeal.nD → PrngReg), Pre_AdGateIdeal m →
    θ_run (Cert.AdGateIdeal.defs (F := Ideal)) (onTc (τ := Cert.AdGateIdeal.τ) (Cert.AdGateIdeal.main (F := Ideal))) ⟨m, fun _ => 0, g⟩ (fun r => (∀ c : Dev Cert.AdGateIdeal.nD,
      r.2.mem ((c.tc : Thread Cert.AdGateIdeal.nD Cert.AdGateIdeal.τ).loc Cert.AdGateIdeal.main_arg0) = m ((c.tc : Thread Cert.AdGateIdeal.nD Cert.AdGateIdeal.τ).loc Cert.AdGateIdeal.main_arg0)
      ∧ r.2.mem ((c.tc : Thread Cert.AdGateIdeal.nD Cert.AdGateIdeal.τ).loc Cert.AdGateIdeal.main_arg1) = m ((c.tc : Thread Cert.AdGateIdeal.nD Cert.AdGateIdeal.τ).loc Cert.AdGateIdeal.main_arg1)
      ∧ r.2.mem ((c.tc : Thread Cert.AdGateIdeal.nD Cert.AdGateIdeal.τ).loc Cert.AdGateIdeal.main_arg2) = m ((c.tc : Thread Cert.AdGateIdeal.nD Cert.AdGateIdeal.τ).loc Cert.AdGateIdeal.main_arg2)
      ∧ r.2.mem ((c.tc : Thread Cert.AdGateIdeal.nD Cert.AdGateIdeal.τ).loc Cert.AdGateIdeal.main_arg3) = m ((c.tc : Thread Cert.AdGateIdeal.nD Cert.AdGateIdeal.τ).loc Cert.AdGateIdeal.main_arg3))
      ∧ r.2.sem = fun _ => 0)

def quiescent_AdGateRefIdeal [hAdGateRefIdeal : Cert.AdGateRefIdeal.Facts] : Prop :=
  ∀ (m : (ℓ : Loc Cert.AdGateRefIdeal.nD Cert.AdGateRefIdeal.τ Cert.AdGateRefIdeal.sig) → Buf (Elt Ideal) ℓ) (g : Dev Cert.AdGateRefIdeal.nD → PrngReg), Pre_AdGateRefIdeal m →
    θ_run (Cert.AdGateRefIdeal.defs (F := Ideal)) (onTc (τ := Cert.AdGateRefIdeal.τ) (Cert.AdGateRefIdeal.main (F := Ideal))) ⟨m, fun _ => 0, g⟩ (fun r => (∀ c : Dev Cert.AdGateRefIdeal.nD,
      r.2.mem ((c.tc : Thread Cert.AdGateRefIdeal.nD Cert.AdGateRefIdeal.τ).loc Cert.AdGateRefIdeal.main_arg0) = m ((c.tc : Thread Cert.AdGateRefIdeal.nD Cert.AdGateRefIdeal.τ).loc Cert.AdGateRefIdeal.main_arg0)
      ∧ r.2.mem ((c.tc : Thread Cert.AdGateRefIdeal.nD Cert.AdGateRefIdeal.τ).loc Cert.AdGateRefIdeal.main_arg1) = m ((c.tc : Thread Cert.AdGateRefIdeal.nD Cert.AdGateRefIdeal.τ).loc Cert.AdGateRefIdeal.main_arg1)
      ∧ r.2.mem ((c.tc : Thread Cert.AdGateRefIdeal.nD Cert.AdGateRefIdeal.τ).loc Cert.AdGateRefIdeal.main_arg2) = m ((c.tc : Thread Cert.AdGateRefIdeal.nD Cert.AdGateRefIdeal.τ).loc Cert.AdGateRefIdeal.main_arg2)
      ∧ r.2.mem ((c.tc : Thread Cert.AdGateRefIdeal.nD Cert.AdGateRefIdeal.τ).loc Cert.AdGateRefIdeal.main_arg3) = m ((c.tc : Thread Cert.AdGateRefIdeal.nD Cert.AdGateRefIdeal.τ).loc Cert.AdGateRefIdeal.main_arg3))
      ∧ r.2.sem = fun _ => 0)

def quiescent_AdGateB [hAdGateB : Cert.AdGateB.Facts] : Prop :=
  ∀ (m : (ℓ : Loc Cert.AdGateB.nD Cert.AdGateB.τ Cert.AdGateB.sig) → Buf (Elt Bits) ℓ) (g : Dev Cert.AdGateB.nD → PrngReg), Pre_AdGateB m →
    θ_run (Cert.AdGateB.defs (F := Bits)) (onTc (τ := Cert.AdGateB.τ) (Cert.AdGateB.main (F := Bits))) ⟨m, fun _ => 0, g⟩ (fun r => (∀ c : Dev Cert.AdGateB.nD,
      r.2.mem ((c.tc : Thread Cert.AdGateB.nD Cert.AdGateB.τ).loc Cert.AdGateB.main_arg0) = m ((c.tc : Thread Cert.AdGateB.nD Cert.AdGateB.τ).loc Cert.AdGateB.main_arg0)
      ∧ r.2.mem ((c.tc : Thread Cert.AdGateB.nD Cert.AdGateB.τ).loc Cert.AdGateB.main_arg1) = m ((c.tc : Thread Cert.AdGateB.nD Cert.AdGateB.τ).loc Cert.AdGateB.main_arg1)
      ∧ r.2.mem ((c.tc : Thread Cert.AdGateB.nD Cert.AdGateB.τ).loc Cert.AdGateB.main_arg2) = m ((c.tc : Thread Cert.AdGateB.nD Cert.AdGateB.τ).loc Cert.AdGateB.main_arg2)
      ∧ r.2.mem ((c.tc : Thread Cert.AdGateB.nD Cert.AdGateB.τ).loc Cert.AdGateB.main_arg3) = m ((c.tc : Thread Cert.AdGateB.nD Cert.AdGateB.τ).loc Cert.AdGateB.main_arg3))
      ∧ r.2.sem = fun _ => 0)

def quiescent_AdGateBIdeal [hAdGateBIdeal : Cert.AdGateBIdeal.Facts] : Prop :=
  ∀ (m : (ℓ : Loc Cert.AdGateBIdeal.nD Cert.AdGateBIdeal.τ Cert.AdGateBIdeal.sig) → Buf (Elt Ideal) ℓ) (g : Dev Cert.AdGateBIdeal.nD → PrngReg), Pre_AdGateBIdeal m →
    θ_run (Cert.AdGateBIdeal.defs (F := Ideal)) (onTc (τ := Cert.AdGateBIdeal.τ) (Cert.AdGateBIdeal.main (F := Ideal))) ⟨m, fun _ => 0, g⟩ (fun r => (∀ c : Dev Cert.AdGateBIdeal.nD,
      r.2.mem ((c.tc : Thread Cert.AdGateBIdeal.nD Cert.AdGateBIdeal.τ).loc Cert.AdGateBIdeal.main_arg0) = m ((c.tc : Thread Cert.AdGateBIdeal.nD Cert.AdGateBIdeal.τ).loc Cert.AdGateBIdeal.main_arg0)
      ∧ r.2.mem ((c.tc : Thread Cert.AdGateBIdeal.nD Cert.AdGateBIdeal.τ).loc Cert.AdGateBIdeal.main_arg1) = m ((c.tc : Thread Cert.AdGateBIdeal.nD Cert.AdGateBIdeal.τ).loc Cert.AdGateBIdeal.main_arg1)
      ∧ r.2.mem ((c.tc : Thread Cert.AdGateBIdeal.nD Cert.AdGateBIdeal.τ).loc Cert.AdGateBIdeal.main_arg2) = m ((c.tc : Thread Cert.AdGateBIdeal.nD Cert.AdGateBIdeal.τ).loc Cert.AdGateBIdeal.main_arg2)
      ∧ r.2.mem ((c.tc : Thread Cert.AdGateBIdeal.nD Cert.AdGateBIdeal.τ).loc Cert.AdGateBIdeal.main_arg3) = m ((c.tc : Thread Cert.AdGateBIdeal.nD Cert.AdGateBIdeal.τ).loc Cert.AdGateBIdeal.main_arg3))
      ∧ r.2.sem = fun _ => 0)

def quiescent_AdGateBRefIdeal [hAdGateBRefIdeal : Cert.AdGateBRefIdeal.Facts] : Prop :=
  ∀ (m : (ℓ : Loc Cert.AdGateBRefIdeal.nD Cert.AdGateBRefIdeal.τ Cert.AdGateBRefIdeal.sig) → Buf (Elt Ideal) ℓ) (g : Dev Cert.AdGateBRefIdeal.nD → PrngReg), Pre_AdGateBRefIdeal m →
    θ_run (Cert.AdGateBRefIdeal.defs (F := Ideal)) (onTc (τ := Cert.AdGateBRefIdeal.τ) (Cert.AdGateBRefIdeal.main (F := Ideal))) ⟨m, fun _ => 0, g⟩ (fun r => (∀ c : Dev Cert.AdGateBRefIdeal.nD,
      r.2.mem ((c.tc : Thread Cert.AdGateBRefIdeal.nD Cert.AdGateBRefIdeal.τ).loc Cert.AdGateBRefIdeal.main_arg0) = m ((c.tc : Thread Cert.AdGateBRefIdeal.nD Cert.AdGateBRefIdeal.τ).loc Cert.AdGateBRefIdeal.main_arg0)
      ∧ r.2.mem ((c.tc : Thread Cert.AdGateBRefIdeal.nD Cert.AdGateBRefIdeal.τ).loc Cert.AdGateBRefIdeal.main_arg1) = m ((c.tc : Thread Cert.AdGateBRefIdeal.nD Cert.AdGateBRefIdeal.τ).loc Cert.AdGateBRefIdeal.main_arg1)
      ∧ r.2.mem ((c.tc : Thread Cert.AdGateBRefIdeal.nD Cert.AdGateBRefIdeal.τ).loc Cert.AdGateBRefIdeal.main_arg2) = m ((c.tc : Thread Cert.AdGateBRefIdeal.nD Cert.AdGateBRefIdeal.τ).loc Cert.AdGateBRefIdeal.main_arg2)
      ∧ r.2.mem ((c.tc : Thread Cert.AdGateBRefIdeal.nD Cert.AdGateBRefIdeal.τ).loc Cert.AdGateBRefIdeal.main_arg3) = m ((c.tc : Thread Cert.AdGateBRefIdeal.nD Cert.AdGateBRefIdeal.τ).loc Cert.AdGateBRefIdeal.main_arg3))
      ∧ r.2.sem = fun _ => 0)

def quiescent_AdProj [hAdProj : Cert.AdProj.Facts] : Prop :=
  ∀ (m : (ℓ : Loc Cert.AdProj.nD Cert.AdProj.τ Cert.AdProj.sig) → Buf (Elt Bits) ℓ) (g : Dev Cert.AdProj.nD → PrngReg), Pre_AdProj m →
    θ_run (Cert.AdProj.defs (F := Bits)) (onTc (τ := Cert.AdProj.τ) (Cert.AdProj.main (F := Bits))) ⟨m, fun _ => 0, g⟩ (fun r => (∀ c : Dev Cert.AdProj.nD,
      r.2.mem ((c.tc : Thread Cert.AdProj.nD Cert.AdProj.τ).loc Cert.AdProj.main_arg0) = m ((c.tc : Thread Cert.AdProj.nD Cert.AdProj.τ).loc Cert.AdProj.main_arg0)
      ∧ r.2.mem ((c.tc : Thread Cert.AdProj.nD Cert.AdProj.τ).loc Cert.AdProj.main_arg1) = m ((c.tc : Thread Cert.AdProj.nD Cert.AdProj.τ).loc Cert.AdProj.main_arg1)
      ∧ r.2.mem ((c.tc : Thread Cert.AdProj.nD Cert.AdProj.τ).loc Cert.AdProj.main_arg2) = m ((c.tc : Thread Cert.AdProj.nD Cert.AdProj.τ).loc Cert.AdProj.main_arg2)
      ∧ r.2.mem ((c.tc : Thread Cert.AdProj.nD Cert.AdProj.τ).loc Cert.AdProj.main_arg3) = m ((c.tc : Thread Cert.AdProj.nD Cert.AdProj.τ).loc Cert.AdProj.main_arg3))
      ∧ r.2.sem = fun _ => 0)

def quiescent_AdProjIdeal [hAdProjIdeal : Cert.AdProjIdeal.Facts] : Prop :=
  ∀ (m : (ℓ : Loc Cert.AdProjIdeal.nD Cert.AdProjIdeal.τ Cert.AdProjIdeal.sig) → Buf (Elt Ideal) ℓ) (g : Dev Cert.AdProjIdeal.nD → PrngReg), Pre_AdProjIdeal m →
    θ_run (Cert.AdProjIdeal.defs (F := Ideal)) (onTc (τ := Cert.AdProjIdeal.τ) (Cert.AdProjIdeal.main (F := Ideal))) ⟨m, fun _ => 0, g⟩ (fun r => (∀ c : Dev Cert.AdProjIdeal.nD,
      r.2.mem ((c.tc : Thread Cert.AdProjIdeal.nD Cert.AdProjIdeal.τ).loc Cert.AdProjIdeal.main_arg0) = m ((c.tc : Thread Cert.AdProjIdeal.nD Cert.AdProjIdeal.τ).loc Cert.AdProjIdeal.main_arg0)
      ∧ r.2.mem ((c.tc : Thread Cert.AdProjIdeal.nD Cert.AdProjIdeal.τ).loc Cert.AdProjIdeal.main_arg1) = m ((c.tc : Thread Cert.AdProjIdeal.nD Cert.AdProjIdeal.τ).loc Cert.AdProjIdeal.main_arg1)
      ∧ r.2.mem ((c.tc : Thread Cert.AdProjIdeal.nD Cert.AdProjIdeal.τ).loc Cert.AdProjIdeal.main_arg2) = m ((c.tc : Thread Cert.AdProjIdeal.nD Cert.AdProjIdeal.τ).loc Cert.AdProjIdeal.main_arg2)
      ∧ r.2.mem ((c.tc : Thread Cert.AdProjIdeal.nD Cert.AdProjIdeal.τ).loc Cert.AdProjIdeal.main_arg3) = m ((c.tc : Thread Cert.AdProjIdeal.nD Cert.AdProjIdeal.τ).loc Cert.AdProjIdeal.main_arg3))
      ∧ r.2.sem = fun _ => 0)

def quiescent_AdProjRefIdeal [hAdProjRefIdeal : Cert.AdProjRefIdeal.Facts] : Prop :=
  ∀ (m : (ℓ : Loc Cert.AdProjRefIdeal.nD Cert.AdProjRefIdeal.τ Cert.AdProjRefIdeal.sig) → Buf (Elt Ideal) ℓ) (g : Dev Cert.AdProjRefIdeal.nD → PrngReg), Pre_AdProjRefIdeal m →
    θ_run (Cert.AdProjRefIdeal.defs (F := Ideal)) (onTc (τ := Cert.AdProjRefIdeal.τ) (Cert.AdProjRefIdeal.main (F := Ideal))) ⟨m, fun _ => 0, g⟩ (fun r => (∀ c : Dev Cert.AdProjRefIdeal.nD,
      r.2.mem ((c.tc : Thread Cert.AdProjRefIdeal.nD Cert.AdProjRefIdeal.τ).loc Cert.AdProjRefIdeal.main_arg0) = m ((c.tc : Thread Cert.AdProjRefIdeal.nD Cert.AdProjRefIdeal.τ).loc Cert.AdProjRefIdeal.main_arg0)
      ∧ r.2.mem ((c.tc : Thread Cert.AdProjRefIdeal.nD Cert.AdProjRefIdeal.τ).loc Cert.AdProjRefIdeal.main_arg1) = m ((c.tc : Thread Cert.AdProjRefIdeal.nD Cert.AdProjRefIdeal.τ).loc Cert.AdProjRefIdeal.main_arg1)
      ∧ r.2.mem ((c.tc : Thread Cert.AdProjRefIdeal.nD Cert.AdProjRefIdeal.τ).loc Cert.AdProjRefIdeal.main_arg2) = m ((c.tc : Thread Cert.AdProjRefIdeal.nD Cert.AdProjRefIdeal.τ).loc Cert.AdProjRefIdeal.main_arg2)
      ∧ r.2.mem ((c.tc : Thread Cert.AdProjRefIdeal.nD Cert.AdProjRefIdeal.τ).loc Cert.AdProjRefIdeal.main_arg3) = m ((c.tc : Thread Cert.AdProjRefIdeal.nD Cert.AdProjRefIdeal.τ).loc Cert.AdProjRefIdeal.main_arg3))
      ∧ r.2.sem = fun _ => 0)

def quiescent_MlpLn [hMlpLn : Cert.MlpLn.Facts] : Prop :=
  ∀ (m : (ℓ : Loc Cert.MlpLn.nD Cert.MlpLn.τ Cert.MlpLn.sig) → Buf (Elt Bits) ℓ) (g : Dev Cert.MlpLn.nD → PrngReg), Pre_MlpLn m →
    θ_run (Cert.MlpLn.defs (F := Bits)) (onTc (τ := Cert.MlpLn.τ) (Cert.MlpLn.main (F := Bits))) ⟨m, fun _ => 0, g⟩ (fun r => (∀ c : Dev Cert.MlpLn.nD,
      r.2.mem ((c.tc : Thread Cert.MlpLn.nD Cert.MlpLn.τ).loc Cert.MlpLn.main_arg0) = m ((c.tc : Thread Cert.MlpLn.nD Cert.MlpLn.τ).loc Cert.MlpLn.main_arg0)
      ∧ r.2.mem ((c.tc : Thread Cert.MlpLn.nD Cert.MlpLn.τ).loc Cert.MlpLn.main_arg1) = m ((c.tc : Thread Cert.MlpLn.nD Cert.MlpLn.τ).loc Cert.MlpLn.main_arg1)
      ∧ r.2.mem ((c.tc : Thread Cert.MlpLn.nD Cert.MlpLn.τ).loc Cert.MlpLn.main_arg2) = m ((c.tc : Thread Cert.MlpLn.nD Cert.MlpLn.τ).loc Cert.MlpLn.main_arg2)
      ∧ r.2.mem ((c.tc : Thread Cert.MlpLn.nD Cert.MlpLn.τ).loc Cert.MlpLn.main_arg3) = m ((c.tc : Thread Cert.MlpLn.nD Cert.MlpLn.τ).loc Cert.MlpLn.main_arg3)
      ∧ r.2.mem ((c.tc : Thread Cert.MlpLn.nD Cert.MlpLn.τ).loc Cert.MlpLn.main_arg4) = m ((c.tc : Thread Cert.MlpLn.nD Cert.MlpLn.τ).loc Cert.MlpLn.main_arg4)
      ∧ r.2.mem ((c.tc : Thread Cert.MlpLn.nD Cert.MlpLn.τ).loc Cert.MlpLn.main_arg5) = m ((c.tc : Thread Cert.MlpLn.nD Cert.MlpLn.τ).loc Cert.MlpLn.main_arg5)
      ∧ r.2.mem ((c.tc : Thread Cert.MlpLn.nD Cert.MlpLn.τ).loc Cert.MlpLn.main_arg6) = m ((c.tc : Thread Cert.MlpLn.nD Cert.MlpLn.τ).loc Cert.MlpLn.main_arg6)
      ∧ r.2.mem ((c.tc : Thread Cert.MlpLn.nD Cert.MlpLn.τ).loc Cert.MlpLn.main_arg7) = m ((c.tc : Thread Cert.MlpLn.nD Cert.MlpLn.τ).loc Cert.MlpLn.main_arg7)
      ∧ r.2.mem ((c.tc : Thread Cert.MlpLn.nD Cert.MlpLn.τ).loc Cert.MlpLn.main_arg8) = m ((c.tc : Thread Cert.MlpLn.nD Cert.MlpLn.τ).loc Cert.MlpLn.main_arg8))
      ∧ r.2.sem = fun _ => 0)

def quiescent_MlpLnIdeal [hMlpLnIdeal : Cert.MlpLnIdeal.Facts] : Prop :=
  ∀ (m : (ℓ : Loc Cert.MlpLnIdeal.nD Cert.MlpLnIdeal.τ Cert.MlpLnIdeal.sig) → Buf (Elt Ideal) ℓ) (g : Dev Cert.MlpLnIdeal.nD → PrngReg), Pre_MlpLnIdeal m →
    θ_run (Cert.MlpLnIdeal.defs (F := Ideal)) (onTc (τ := Cert.MlpLnIdeal.τ) (Cert.MlpLnIdeal.main (F := Ideal))) ⟨m, fun _ => 0, g⟩ (fun r => (∀ c : Dev Cert.MlpLnIdeal.nD,
      r.2.mem ((c.tc : Thread Cert.MlpLnIdeal.nD Cert.MlpLnIdeal.τ).loc Cert.MlpLnIdeal.main_arg0) = m ((c.tc : Thread Cert.MlpLnIdeal.nD Cert.MlpLnIdeal.τ).loc Cert.MlpLnIdeal.main_arg0)
      ∧ r.2.mem ((c.tc : Thread Cert.MlpLnIdeal.nD Cert.MlpLnIdeal.τ).loc Cert.MlpLnIdeal.main_arg1) = m ((c.tc : Thread Cert.MlpLnIdeal.nD Cert.MlpLnIdeal.τ).loc Cert.MlpLnIdeal.main_arg1)
      ∧ r.2.mem ((c.tc : Thread Cert.MlpLnIdeal.nD Cert.MlpLnIdeal.τ).loc Cert.MlpLnIdeal.main_arg2) = m ((c.tc : Thread Cert.MlpLnIdeal.nD Cert.MlpLnIdeal.τ).loc Cert.MlpLnIdeal.main_arg2)
      ∧ r.2.mem ((c.tc : Thread Cert.MlpLnIdeal.nD Cert.MlpLnIdeal.τ).loc Cert.MlpLnIdeal.main_arg3) = m ((c.tc : Thread Cert.MlpLnIdeal.nD Cert.MlpLnIdeal.τ).loc Cert.MlpLnIdeal.main_arg3)
      ∧ r.2.mem ((c.tc : Thread Cert.MlpLnIdeal.nD Cert.MlpLnIdeal.τ).loc Cert.MlpLnIdeal.main_arg4) = m ((c.tc : Thread Cert.MlpLnIdeal.nD Cert.MlpLnIdeal.τ).loc Cert.MlpLnIdeal.main_arg4)
      ∧ r.2.mem ((c.tc : Thread Cert.MlpLnIdeal.nD Cert.MlpLnIdeal.τ).loc Cert.MlpLnIdeal.main_arg5) = m ((c.tc : Thread Cert.MlpLnIdeal.nD Cert.MlpLnIdeal.τ).loc Cert.MlpLnIdeal.main_arg5)
      ∧ r.2.mem ((c.tc : Thread Cert.MlpLnIdeal.nD Cert.MlpLnIdeal.τ).loc Cert.MlpLnIdeal.main_arg6) = m ((c.tc : Thread Cert.MlpLnIdeal.nD Cert.MlpLnIdeal.τ).loc Cert.MlpLnIdeal.main_arg6)
      ∧ r.2.mem ((c.tc : Thread Cert.MlpLnIdeal.nD Cert.MlpLnIdeal.τ).loc Cert.MlpLnIdeal.main_arg7) = m ((c.tc : Thread Cert.MlpLnIdeal.nD Cert.MlpLnIdeal.τ).loc Cert.MlpLnIdeal.main_arg7)
      ∧ r.2.mem ((c.tc : Thread Cert.MlpLnIdeal.nD Cert.MlpLnIdeal.τ).loc Cert.MlpLnIdeal.main_arg8) = m ((c.tc : Thread Cert.MlpLnIdeal.nD Cert.MlpLnIdeal.τ).loc Cert.MlpLnIdeal.main_arg8))
      ∧ r.2.sem = fun _ => 0)

def quiescent_MlpLnRefIdeal [hMlpLnRefIdeal : Cert.MlpLnRefIdeal.Facts] : Prop :=
  ∀ (m : (ℓ : Loc Cert.MlpLnRefIdeal.nD Cert.MlpLnRefIdeal.τ Cert.MlpLnRefIdeal.sig) → Buf (Elt Ideal) ℓ) (g : Dev Cert.MlpLnRefIdeal.nD → PrngReg), Pre_MlpLnRefIdeal m →
    θ_run (Cert.MlpLnRefIdeal.defs (F := Ideal)) (onTc (τ := Cert.MlpLnRefIdeal.τ) (Cert.MlpLnRefIdeal.main (F := Ideal))) ⟨m, fun _ => 0, g⟩ (fun r => (∀ c : Dev Cert.MlpLnRefIdeal.nD,
      r.2.mem ((c.tc : Thread Cert.MlpLnRefIdeal.nD Cert.MlpLnRefIdeal.τ).loc Cert.MlpLnRefIdeal.main_arg0) = m ((c.tc : Thread Cert.MlpLnRefIdeal.nD Cert.MlpLnRefIdeal.τ).loc Cert.MlpLnRefIdeal.main_arg0)
      ∧ r.2.mem ((c.tc : Thread Cert.MlpLnRefIdeal.nD Cert.MlpLnRefIdeal.τ).loc Cert.MlpLnRefIdeal.main_arg1) = m ((c.tc : Thread Cert.MlpLnRefIdeal.nD Cert.MlpLnRefIdeal.τ).loc Cert.MlpLnRefIdeal.main_arg1)
      ∧ r.2.mem ((c.tc : Thread Cert.MlpLnRefIdeal.nD Cert.MlpLnRefIdeal.τ).loc Cert.MlpLnRefIdeal.main_arg2) = m ((c.tc : Thread Cert.MlpLnRefIdeal.nD Cert.MlpLnRefIdeal.τ).loc Cert.MlpLnRefIdeal.main_arg2)
      ∧ r.2.mem ((c.tc : Thread Cert.MlpLnRefIdeal.nD Cert.MlpLnRefIdeal.τ).loc Cert.MlpLnRefIdeal.main_arg3) = m ((c.tc : Thread Cert.MlpLnRefIdeal.nD Cert.MlpLnRefIdeal.τ).loc Cert.MlpLnRefIdeal.main_arg3)
      ∧ r.2.mem ((c.tc : Thread Cert.MlpLnRefIdeal.nD Cert.MlpLnRefIdeal.τ).loc Cert.MlpLnRefIdeal.main_arg4) = m ((c.tc : Thread Cert.MlpLnRefIdeal.nD Cert.MlpLnRefIdeal.τ).loc Cert.MlpLnRefIdeal.main_arg4)
      ∧ r.2.mem ((c.tc : Thread Cert.MlpLnRefIdeal.nD Cert.MlpLnRefIdeal.τ).loc Cert.MlpLnRefIdeal.main_arg5) = m ((c.tc : Thread Cert.MlpLnRefIdeal.nD Cert.MlpLnRefIdeal.τ).loc Cert.MlpLnRefIdeal.main_arg5)
      ∧ r.2.mem ((c.tc : Thread Cert.MlpLnRefIdeal.nD Cert.MlpLnRefIdeal.τ).loc Cert.MlpLnRefIdeal.main_arg6) = m ((c.tc : Thread Cert.MlpLnRefIdeal.nD Cert.MlpLnRefIdeal.τ).loc Cert.MlpLnRefIdeal.main_arg6)
      ∧ r.2.mem ((c.tc : Thread Cert.MlpLnRefIdeal.nD Cert.MlpLnRefIdeal.τ).loc Cert.MlpLnRefIdeal.main_arg7) = m ((c.tc : Thread Cert.MlpLnRefIdeal.nD Cert.MlpLnRefIdeal.τ).loc Cert.MlpLnRefIdeal.main_arg7)
      ∧ r.2.mem ((c.tc : Thread Cert.MlpLnRefIdeal.nD Cert.MlpLnRefIdeal.τ).loc Cert.MlpLnRefIdeal.main_arg8) = m ((c.tc : Thread Cert.MlpLnRefIdeal.nD Cert.MlpLnRefIdeal.τ).loc Cert.MlpLnRefIdeal.main_arg8))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5)
      ∧ r.2.mem ((c.tc : Thread Cert.OutLn.nD Cert.OutLn.τ).loc Cert.OutLn.main_arg6) = m ((c.tc : Thread Cert.OutLn.nD Cert.OutLn.τ).loc Cert.OutLn.main_arg6))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
      ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4)
      ∧ r.2.mem ((c.tc : Thread Cert.OutLnRefIdeal.nD Cert.OutLnRefIdeal.τ).loc Cert.OutLnRefIdeal.main_arg5) = m ((c.tc : Thread Cert.OutLnRefIdeal.nD Cert.OutLnRefIdeal.τ).loc Cert.OutLnRefIdeal.main_arg5)
      ∧ r.2.mem ((c.tc : Thread Cert.OutLnRefIdeal.nD Cert.OutLnRefIdeal.τ).loc Cert.OutLnRefIdeal.main_arg6) = m ((c.tc : Thread Cert.OutLnRefIdeal.nD Cert.OutLnRefIdeal.τ).loc Cert.OutLnRefIdeal.main_arg6))
      ∧ r.2.sem = fun _ => 0)

def quiescent_PoolDw [hPoolDw : Cert.PoolDw.Facts] : Prop :=
  ∀ (m : (ℓ : Loc Cert.PoolDw.nD Cert.PoolDw.τ Cert.PoolDw.sig) → Buf (Elt Bits) ℓ) (g : Dev Cert.PoolDw.nD → PrngReg), Pre_PoolDw m →
    θ_run (Cert.PoolDw.defs (F := Bits)) (onTc (τ := Cert.PoolDw.τ) (Cert.PoolDw.main (F := Bits))) ⟨m, fun _ => 0, g⟩ (fun r => (∀ c : Dev Cert.PoolDw.nD,
      r.2.mem ((c.tc : Thread Cert.PoolDw.nD Cert.PoolDw.τ).loc Cert.PoolDw.main_arg0) = m ((c.tc : Thread Cert.PoolDw.nD Cert.PoolDw.τ).loc Cert.PoolDw.main_arg0)
      ∧ r.2.mem ((c.tc : Thread Cert.PoolDw.nD Cert.PoolDw.τ).loc Cert.PoolDw.main_arg1) = m ((c.tc : Thread Cert.PoolDw.nD Cert.PoolDw.τ).loc Cert.PoolDw.main_arg1)
      ∧ r.2.mem ((c.tc : Thread Cert.PoolDw.nD Cert.PoolDw.τ).loc Cert.PoolDw.main_arg2) = m ((c.tc : Thread Cert.PoolDw.nD Cert.PoolDw.τ).loc Cert.PoolDw.main_arg2))
      ∧ r.2.sem = fun _ => 0)

def quiescent_PoolDwIdeal [hPoolDwIdeal : Cert.PoolDwIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg), Pre_PoolDwIdeal m →
    θ_run (Cert.PoolDwIdeal.defs (F := Ideal)) (onTc (τ := Cert.PoolDwIdeal.τ) (Cert.PoolDwIdeal.main (F := Ideal))) ⟨m, fun _ => 0, g⟩ (fun r => (∀ c : Dev Cert.PoolDwIdeal.nD,
      r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
      ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1)
      ∧ r.2.mem ((c.tc : Thread Cert.PoolDwIdeal.nD Cert.PoolDwIdeal.τ).loc Cert.PoolDwIdeal.main_arg2) = m ((c.tc : Thread Cert.PoolDwIdeal.nD Cert.PoolDwIdeal.τ).loc Cert.PoolDwIdeal.main_arg2))
      ∧ r.2.sem = fun _ => 0)

def quiescent_PoolDwRefIdeal [hPoolDwRefIdeal : Cert.PoolDwRefIdeal.Facts] : Prop :=
  ∀ (m : (ℓ : Loc Cert.PoolDwRefIdeal.nD Cert.PoolDwRefIdeal.τ Cert.PoolDwRefIdeal.sig) → Buf (Elt Ideal) ℓ) (g : Dev Cert.PoolDwRefIdeal.nD → PrngReg), Pre_PoolDwRefIdeal m →
    θ_run (Cert.PoolDwRefIdeal.defs (F := Ideal)) (onTc (τ := Cert.PoolDwRefIdeal.τ) (Cert.PoolDwRefIdeal.main (F := Ideal))) ⟨m, fun _ => 0, g⟩ (fun r => (∀ c : Dev Cert.PoolDwRefIdeal.nD,
      r.2.mem ((c.tc : Thread Cert.PoolDwRefIdeal.nD Cert.PoolDwRefIdeal.τ).loc Cert.PoolDwRefIdeal.main_arg0) = m ((c.tc : Thread Cert.PoolDwRefIdeal.nD Cert.PoolDwRefIdeal.τ).loc Cert.PoolDwRefIdeal.main_arg0)
      ∧ r.2.mem ((c.tc : Thread Cert.PoolDwRefIdeal.nD Cert.PoolDwRefIdeal.τ).loc Cert.PoolDwRefIdeal.main_arg1) = m ((c.tc : Thread Cert.PoolDwRefIdeal.nD Cert.PoolDwRefIdeal.τ).loc Cert.PoolDwRefIdeal.main_arg1)
      ∧ r.2.mem ((c.tc : Thread Cert.PoolDwRefIdeal.nD Cert.PoolDwRefIdeal.τ).loc Cert.PoolDwRefIdeal.main_arg2) = m ((c.tc : Thread Cert.PoolDwRefIdeal.nD Cert.PoolDwRefIdeal.τ).loc Cert.PoolDwRefIdeal.main_arg2))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4))
      ∧ r.2.sem = fun _ => 0)

def quiescent_MlpUpBwd [hMlpUpBwd : Cert.MlpUpBwd.Facts] : Prop :=
  ∀ (m : (ℓ : Loc Cert.MlpUpBwd.nD Cert.MlpUpBwd.τ Cert.MlpUpBwd.sig) → Buf (Elt Bits) ℓ) (g : Dev Cert.MlpUpBwd.nD → PrngReg), Pre_MlpUpBwd m →
    θ_run (Cert.MlpUpBwd.defs (F := Bits)) (onTc (τ := Cert.MlpUpBwd.τ) (Cert.MlpUpBwd.main (F := Bits))) ⟨m, fun _ => 0, g⟩ (fun r => (∀ c : Dev Cert.MlpUpBwd.nD,
      r.2.mem ((c.tc : Thread Cert.MlpUpBwd.nD Cert.MlpUpBwd.τ).loc Cert.MlpUpBwd.main_arg0) = m ((c.tc : Thread Cert.MlpUpBwd.nD Cert.MlpUpBwd.τ).loc Cert.MlpUpBwd.main_arg0)
      ∧ r.2.mem ((c.tc : Thread Cert.MlpUpBwd.nD Cert.MlpUpBwd.τ).loc Cert.MlpUpBwd.main_arg1) = m ((c.tc : Thread Cert.MlpUpBwd.nD Cert.MlpUpBwd.τ).loc Cert.MlpUpBwd.main_arg1)
      ∧ r.2.mem ((c.tc : Thread Cert.MlpUpBwd.nD Cert.MlpUpBwd.τ).loc Cert.MlpUpBwd.main_arg2) = m ((c.tc : Thread Cert.MlpUpBwd.nD Cert.MlpUpBwd.τ).loc Cert.MlpUpBwd.main_arg2)
      ∧ r.2.mem ((c.tc : Thread Cert.MlpUpBwd.nD Cert.MlpUpBwd.τ).loc Cert.MlpUpBwd.main_arg3) = m ((c.tc : Thread Cert.MlpUpBwd.nD Cert.MlpUpBwd.τ).loc Cert.MlpUpBwd.main_arg3)
      ∧ r.2.mem ((c.tc : Thread Cert.MlpUpBwd.nD Cert.MlpUpBwd.τ).loc Cert.MlpUpBwd.main_arg4) = m ((c.tc : Thread Cert.MlpUpBwd.nD Cert.MlpUpBwd.τ).loc Cert.MlpUpBwd.main_arg4)
      ∧ r.2.mem ((c.tc : Thread Cert.MlpUpBwd.nD Cert.MlpUpBwd.τ).loc Cert.MlpUpBwd.main_arg5) = m ((c.tc : Thread Cert.MlpUpBwd.nD Cert.MlpUpBwd.τ).loc Cert.MlpUpBwd.main_arg5))
      ∧ r.2.sem = fun _ => 0)

def quiescent_MlpUpBwdIdeal [hMlpUpBwdIdeal : Cert.MlpUpBwdIdeal.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg), Pre_MlpUpBwdIdeal m →
    θ_run (Cert.MlpUpBwdIdeal.defs (F := Ideal)) (onTc (τ := Cert.MlpUpBwdIdeal.τ) (Cert.MlpUpBwdIdeal.main (F := Ideal))) ⟨m, fun _ => 0, g⟩ (fun r => (∀ c : Dev Cert.MlpUpBwdIdeal.nD,
      r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
      ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
      ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2)
      ∧ r.2.mem ((c.tc : Thread Cert.MlpUpBwdIdeal.nD Cert.MlpUpBwdIdeal.τ).loc Cert.MlpUpBwdIdeal.main_arg3) = m ((c.tc : Thread Cert.MlpUpBwdIdeal.nD Cert.MlpUpBwdIdeal.τ).loc Cert.MlpUpBwdIdeal.main_arg3)
      ∧ r.2.mem ((c.tc : Thread Cert.MlpUpBwdIdeal.nD Cert.MlpUpBwdIdeal.τ).loc Cert.MlpUpBwdIdeal.main_arg4) = m ((c.tc : Thread Cert.MlpUpBwdIdeal.nD Cert.MlpUpBwdIdeal.τ).loc Cert.MlpUpBwdIdeal.main_arg4)
      ∧ r.2.mem ((c.tc : Thread Cert.MlpUpBwdIdeal.nD Cert.MlpUpBwdIdeal.τ).loc Cert.MlpUpBwdIdeal.main_arg5) = m ((c.tc : Thread Cert.MlpUpBwdIdeal.nD Cert.MlpUpBwdIdeal.τ).loc Cert.MlpUpBwdIdeal.main_arg5))
      ∧ r.2.sem = fun _ => 0)

def quiescent_MlpUpBwdIdeal_pre_mlp_up_bwd_finite [hMlpUpBwdIdeal : Cert.MlpUpBwdIdeal.Facts] [hPre_mlp_up_bwd_finite : Cert.Pre_mlp_up_bwd_finite.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg), Pre_MlpUpBwdIdeal_mlp_up_bwd_finite m →
    θ_run (Cert.MlpUpBwdIdeal.defs (F := Ideal)) (onTc (τ := Cert.MlpUpBwdIdeal.τ) (Cert.MlpUpBwdIdeal.main (F := Ideal))) ⟨m, fun _ => 0, g⟩ (fun r => (∀ c : Dev Cert.MlpUpBwdIdeal.nD,
      r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
      ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
      ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2)
      ∧ r.2.mem ((c.tc : Thread Cert.MlpUpBwdIdeal.nD Cert.MlpUpBwdIdeal.τ).loc Cert.MlpUpBwdIdeal.main_arg3) = m ((c.tc : Thread Cert.MlpUpBwdIdeal.nD Cert.MlpUpBwdIdeal.τ).loc Cert.MlpUpBwdIdeal.main_arg3)
      ∧ r.2.mem ((c.tc : Thread Cert.MlpUpBwdIdeal.nD Cert.MlpUpBwdIdeal.τ).loc Cert.MlpUpBwdIdeal.main_arg4) = m ((c.tc : Thread Cert.MlpUpBwdIdeal.nD Cert.MlpUpBwdIdeal.τ).loc Cert.MlpUpBwdIdeal.main_arg4)
      ∧ r.2.mem ((c.tc : Thread Cert.MlpUpBwdIdeal.nD Cert.MlpUpBwdIdeal.τ).loc Cert.MlpUpBwdIdeal.main_arg5) = m ((c.tc : Thread Cert.MlpUpBwdIdeal.nD Cert.MlpUpBwdIdeal.τ).loc Cert.MlpUpBwdIdeal.main_arg5))
      ∧ r.2.sem = fun _ => 0)

def quiescent_MlpUpBwdRefIdeal [hMlpUpBwdRefIdeal : Cert.MlpUpBwdRefIdeal.Facts] : Prop :=
  ∀ (m : (ℓ : Loc Cert.MlpUpBwdRefIdeal.nD Cert.MlpUpBwdRefIdeal.τ Cert.MlpUpBwdRefIdeal.sig) → Buf (Elt Ideal) ℓ) (g : Dev Cert.MlpUpBwdRefIdeal.nD → PrngReg), Pre_MlpUpBwdRefIdeal m →
    θ_run (Cert.MlpUpBwdRefIdeal.defs (F := Ideal)) (onTc (τ := Cert.MlpUpBwdRefIdeal.τ) (Cert.MlpUpBwdRefIdeal.main (F := Ideal))) ⟨m, fun _ => 0, g⟩ (fun r => (∀ c : Dev Cert.MlpUpBwdRefIdeal.nD,
      r.2.mem ((c.tc : Thread Cert.MlpUpBwdRefIdeal.nD Cert.MlpUpBwdRefIdeal.τ).loc Cert.MlpUpBwdRefIdeal.main_arg0) = m ((c.tc : Thread Cert.MlpUpBwdRefIdeal.nD Cert.MlpUpBwdRefIdeal.τ).loc Cert.MlpUpBwdRefIdeal.main_arg0)
      ∧ r.2.mem ((c.tc : Thread Cert.MlpUpBwdRefIdeal.nD Cert.MlpUpBwdRefIdeal.τ).loc Cert.MlpUpBwdRefIdeal.main_arg1) = m ((c.tc : Thread Cert.MlpUpBwdRefIdeal.nD Cert.MlpUpBwdRefIdeal.τ).loc Cert.MlpUpBwdRefIdeal.main_arg1)
      ∧ r.2.mem ((c.tc : Thread Cert.MlpUpBwdRefIdeal.nD Cert.MlpUpBwdRefIdeal.τ).loc Cert.MlpUpBwdRefIdeal.main_arg2) = m ((c.tc : Thread Cert.MlpUpBwdRefIdeal.nD Cert.MlpUpBwdRefIdeal.τ).loc Cert.MlpUpBwdRefIdeal.main_arg2)
      ∧ r.2.mem ((c.tc : Thread Cert.MlpUpBwdRefIdeal.nD Cert.MlpUpBwdRefIdeal.τ).loc Cert.MlpUpBwdRefIdeal.main_arg3) = m ((c.tc : Thread Cert.MlpUpBwdRefIdeal.nD Cert.MlpUpBwdRefIdeal.τ).loc Cert.MlpUpBwdRefIdeal.main_arg3)
      ∧ r.2.mem ((c.tc : Thread Cert.MlpUpBwdRefIdeal.nD Cert.MlpUpBwdRefIdeal.τ).loc Cert.MlpUpBwdRefIdeal.main_arg4) = m ((c.tc : Thread Cert.MlpUpBwdRefIdeal.nD Cert.MlpUpBwdRefIdeal.τ).loc Cert.MlpUpBwdRefIdeal.main_arg4)
      ∧ r.2.mem ((c.tc : Thread Cert.MlpUpBwdRefIdeal.nD Cert.MlpUpBwdRefIdeal.τ).loc Cert.MlpUpBwdRefIdeal.main_arg5) = m ((c.tc : Thread Cert.MlpUpBwdRefIdeal.nD Cert.MlpUpBwdRefIdeal.τ).loc Cert.MlpUpBwdRefIdeal.main_arg5))
      ∧ r.2.sem = fun _ => 0)

def quiescent_MlpUpBwdRefIdeal_pre_mlp_up_bwd_finite [hMlpUpBwdRefIdeal : Cert.MlpUpBwdRefIdeal.Facts] [hPre_mlp_up_bwd_finite : Cert.Pre_mlp_up_bwd_finite.Facts] : Prop :=
  ∀ (m : (ℓ : Loc Cert.MlpUpBwdRefIdeal.nD Cert.MlpUpBwdRefIdeal.τ Cert.MlpUpBwdRefIdeal.sig) → Buf (Elt Ideal) ℓ) (g : Dev Cert.MlpUpBwdRefIdeal.nD → PrngReg), Pre_MlpUpBwdRefIdeal_mlp_up_bwd_finite m →
    θ_run (Cert.MlpUpBwdRefIdeal.defs (F := Ideal)) (onTc (τ := Cert.MlpUpBwdRefIdeal.τ) (Cert.MlpUpBwdRefIdeal.main (F := Ideal))) ⟨m, fun _ => 0, g⟩ (fun r => (∀ c : Dev Cert.MlpUpBwdRefIdeal.nD,
      r.2.mem ((c.tc : Thread Cert.MlpUpBwdRefIdeal.nD Cert.MlpUpBwdRefIdeal.τ).loc Cert.MlpUpBwdRefIdeal.main_arg0) = m ((c.tc : Thread Cert.MlpUpBwdRefIdeal.nD Cert.MlpUpBwdRefIdeal.τ).loc Cert.MlpUpBwdRefIdeal.main_arg0)
      ∧ r.2.mem ((c.tc : Thread Cert.MlpUpBwdRefIdeal.nD Cert.MlpUpBwdRefIdeal.τ).loc Cert.MlpUpBwdRefIdeal.main_arg1) = m ((c.tc : Thread Cert.MlpUpBwdRefIdeal.nD Cert.MlpUpBwdRefIdeal.τ).loc Cert.MlpUpBwdRefIdeal.main_arg1)
      ∧ r.2.mem ((c.tc : Thread Cert.MlpUpBwdRefIdeal.nD Cert.MlpUpBwdRefIdeal.τ).loc Cert.MlpUpBwdRefIdeal.main_arg2) = m ((c.tc : Thread Cert.MlpUpBwdRefIdeal.nD Cert.MlpUpBwdRefIdeal.τ).loc Cert.MlpUpBwdRefIdeal.main_arg2)
      ∧ r.2.mem ((c.tc : Thread Cert.MlpUpBwdRefIdeal.nD Cert.MlpUpBwdRefIdeal.τ).loc Cert.MlpUpBwdRefIdeal.main_arg3) = m ((c.tc : Thread Cert.MlpUpBwdRefIdeal.nD Cert.MlpUpBwdRefIdeal.τ).loc Cert.MlpUpBwdRefIdeal.main_arg3)
      ∧ r.2.mem ((c.tc : Thread Cert.MlpUpBwdRefIdeal.nD Cert.MlpUpBwdRefIdeal.τ).loc Cert.MlpUpBwdRefIdeal.main_arg4) = m ((c.tc : Thread Cert.MlpUpBwdRefIdeal.nD Cert.MlpUpBwdRefIdeal.τ).loc Cert.MlpUpBwdRefIdeal.main_arg4)
      ∧ r.2.mem ((c.tc : Thread Cert.MlpUpBwdRefIdeal.nD Cert.MlpUpBwdRefIdeal.τ).loc Cert.MlpUpBwdRefIdeal.main_arg5) = m ((c.tc : Thread Cert.MlpUpBwdRefIdeal.nD Cert.MlpUpBwdRefIdeal.τ).loc Cert.MlpUpBwdRefIdeal.main_arg5))
      ∧ r.2.sem = fun _ => 0)

def quiescent_InQkvBwd [hInQkvBwd : Cert.InQkvBwd.Facts] : Prop :=
  ∀ (m : (ℓ : Loc Cert.InQkvBwd.nD Cert.InQkvBwd.τ Cert.InQkvBwd.sig) → Buf (Elt Bits) ℓ) (g : Dev Cert.InQkvBwd.nD → PrngReg), Pre_InQkvBwd m →
    θ_run (Cert.InQkvBwd.defs (F := Bits)) (onTc (τ := Cert.InQkvBwd.τ) (Cert.InQkvBwd.main (F := Bits))) ⟨m, fun _ => 0, g⟩ (fun r => (∀ c : Dev Cert.InQkvBwd.nD,
      r.2.mem ((c.tc : Thread Cert.InQkvBwd.nD Cert.InQkvBwd.τ).loc Cert.InQkvBwd.main_arg0) = m ((c.tc : Thread Cert.InQkvBwd.nD Cert.InQkvBwd.τ).loc Cert.InQkvBwd.main_arg0)
      ∧ r.2.mem ((c.tc : Thread Cert.InQkvBwd.nD Cert.InQkvBwd.τ).loc Cert.InQkvBwd.main_arg1) = m ((c.tc : Thread Cert.InQkvBwd.nD Cert.InQkvBwd.τ).loc Cert.InQkvBwd.main_arg1)
      ∧ r.2.mem ((c.tc : Thread Cert.InQkvBwd.nD Cert.InQkvBwd.τ).loc Cert.InQkvBwd.main_arg2) = m ((c.tc : Thread Cert.InQkvBwd.nD Cert.InQkvBwd.τ).loc Cert.InQkvBwd.main_arg2)
      ∧ r.2.mem ((c.tc : Thread Cert.InQkvBwd.nD Cert.InQkvBwd.τ).loc Cert.InQkvBwd.main_arg3) = m ((c.tc : Thread Cert.InQkvBwd.nD Cert.InQkvBwd.τ).loc Cert.InQkvBwd.main_arg3)
      ∧ r.2.mem ((c.tc : Thread Cert.InQkvBwd.nD Cert.InQkvBwd.τ).loc Cert.InQkvBwd.main_arg4) = m ((c.tc : Thread Cert.InQkvBwd.nD Cert.InQkvBwd.τ).loc Cert.InQkvBwd.main_arg4)
      ∧ r.2.mem ((c.tc : Thread Cert.InQkvBwd.nD Cert.InQkvBwd.τ).loc Cert.InQkvBwd.main_arg5) = m ((c.tc : Thread Cert.InQkvBwd.nD Cert.InQkvBwd.τ).loc Cert.InQkvBwd.main_arg5)
      ∧ r.2.mem ((c.tc : Thread Cert.InQkvBwd.nD Cert.InQkvBwd.τ).loc Cert.InQkvBwd.main_arg6) = m ((c.tc : Thread Cert.InQkvBwd.nD Cert.InQkvBwd.τ).loc Cert.InQkvBwd.main_arg6)
      ∧ r.2.mem ((c.tc : Thread Cert.InQkvBwd.nD Cert.InQkvBwd.τ).loc Cert.InQkvBwd.main_arg7) = m ((c.tc : Thread Cert.InQkvBwd.nD Cert.InQkvBwd.τ).loc Cert.InQkvBwd.main_arg7)
      ∧ r.2.mem ((c.tc : Thread Cert.InQkvBwd.nD Cert.InQkvBwd.τ).loc Cert.InQkvBwd.main_arg8) = m ((c.tc : Thread Cert.InQkvBwd.nD Cert.InQkvBwd.τ).loc Cert.InQkvBwd.main_arg8))
      ∧ r.2.sem = fun _ => 0)

def quiescent_InQkvBwdIdeal [hInQkvBwdIdeal : Cert.InQkvBwdIdeal.Facts] : Prop :=
  ∀ (m : (ℓ : Loc Cert.InQkvBwdIdeal.nD Cert.InQkvBwdIdeal.τ Cert.InQkvBwdIdeal.sig) → Buf (Elt Ideal) ℓ) (g : Dev Cert.InQkvBwdIdeal.nD → PrngReg), Pre_InQkvBwdIdeal m →
    θ_run (Cert.InQkvBwdIdeal.defs (F := Ideal)) (onTc (τ := Cert.InQkvBwdIdeal.τ) (Cert.InQkvBwdIdeal.main (F := Ideal))) ⟨m, fun _ => 0, g⟩ (fun r => (∀ c : Dev Cert.InQkvBwdIdeal.nD,
      r.2.mem ((c.tc : Thread Cert.InQkvBwdIdeal.nD Cert.InQkvBwdIdeal.τ).loc Cert.InQkvBwdIdeal.main_arg0) = m ((c.tc : Thread Cert.InQkvBwdIdeal.nD Cert.InQkvBwdIdeal.τ).loc Cert.InQkvBwdIdeal.main_arg0)
      ∧ r.2.mem ((c.tc : Thread Cert.InQkvBwdIdeal.nD Cert.InQkvBwdIdeal.τ).loc Cert.InQkvBwdIdeal.main_arg1) = m ((c.tc : Thread Cert.InQkvBwdIdeal.nD Cert.InQkvBwdIdeal.τ).loc Cert.InQkvBwdIdeal.main_arg1)
      ∧ r.2.mem ((c.tc : Thread Cert.InQkvBwdIdeal.nD Cert.InQkvBwdIdeal.τ).loc Cert.InQkvBwdIdeal.main_arg2) = m ((c.tc : Thread Cert.InQkvBwdIdeal.nD Cert.InQkvBwdIdeal.τ).loc Cert.InQkvBwdIdeal.main_arg2)
      ∧ r.2.mem ((c.tc : Thread Cert.InQkvBwdIdeal.nD Cert.InQkvBwdIdeal.τ).loc Cert.InQkvBwdIdeal.main_arg3) = m ((c.tc : Thread Cert.InQkvBwdIdeal.nD Cert.InQkvBwdIdeal.τ).loc Cert.InQkvBwdIdeal.main_arg3)
      ∧ r.2.mem ((c.tc : Thread Cert.InQkvBwdIdeal.nD Cert.InQkvBwdIdeal.τ).loc Cert.InQkvBwdIdeal.main_arg4) = m ((c.tc : Thread Cert.InQkvBwdIdeal.nD Cert.InQkvBwdIdeal.τ).loc Cert.InQkvBwdIdeal.main_arg4)
      ∧ r.2.mem ((c.tc : Thread Cert.InQkvBwdIdeal.nD Cert.InQkvBwdIdeal.τ).loc Cert.InQkvBwdIdeal.main_arg5) = m ((c.tc : Thread Cert.InQkvBwdIdeal.nD Cert.InQkvBwdIdeal.τ).loc Cert.InQkvBwdIdeal.main_arg5)
      ∧ r.2.mem ((c.tc : Thread Cert.InQkvBwdIdeal.nD Cert.InQkvBwdIdeal.τ).loc Cert.InQkvBwdIdeal.main_arg6) = m ((c.tc : Thread Cert.InQkvBwdIdeal.nD Cert.InQkvBwdIdeal.τ).loc Cert.InQkvBwdIdeal.main_arg6)
      ∧ r.2.mem ((c.tc : Thread Cert.InQkvBwdIdeal.nD Cert.InQkvBwdIdeal.τ).loc Cert.InQkvBwdIdeal.main_arg7) = m ((c.tc : Thread Cert.InQkvBwdIdeal.nD Cert.InQkvBwdIdeal.τ).loc Cert.InQkvBwdIdeal.main_arg7)
      ∧ r.2.mem ((c.tc : Thread Cert.InQkvBwdIdeal.nD Cert.InQkvBwdIdeal.τ).loc Cert.InQkvBwdIdeal.main_arg8) = m ((c.tc : Thread Cert.InQkvBwdIdeal.nD Cert.InQkvBwdIdeal.τ).loc Cert.InQkvBwdIdeal.main_arg8))
      ∧ r.2.sem = fun _ => 0)

def quiescent_InQkvBwdIdeal_pre_gdn_in_qkv_bwd_finite [hInQkvBwdIdeal : Cert.InQkvBwdIdeal.Facts] [hPre_gdn_in_qkv_bwd_finite : Cert.Pre_gdn_in_qkv_bwd_finite.Facts] : Prop :=
  ∀ (m : (ℓ : Loc Cert.InQkvBwdIdeal.nD Cert.InQkvBwdIdeal.τ Cert.InQkvBwdIdeal.sig) → Buf (Elt Ideal) ℓ) (g : Dev Cert.InQkvBwdIdeal.nD → PrngReg), Pre_InQkvBwdIdeal_gdn_in_qkv_bwd_finite m →
    θ_run (Cert.InQkvBwdIdeal.defs (F := Ideal)) (onTc (τ := Cert.InQkvBwdIdeal.τ) (Cert.InQkvBwdIdeal.main (F := Ideal))) ⟨m, fun _ => 0, g⟩ (fun r => (∀ c : Dev Cert.InQkvBwdIdeal.nD,
      r.2.mem ((c.tc : Thread Cert.InQkvBwdIdeal.nD Cert.InQkvBwdIdeal.τ).loc Cert.InQkvBwdIdeal.main_arg0) = m ((c.tc : Thread Cert.InQkvBwdIdeal.nD Cert.InQkvBwdIdeal.τ).loc Cert.InQkvBwdIdeal.main_arg0)
      ∧ r.2.mem ((c.tc : Thread Cert.InQkvBwdIdeal.nD Cert.InQkvBwdIdeal.τ).loc Cert.InQkvBwdIdeal.main_arg1) = m ((c.tc : Thread Cert.InQkvBwdIdeal.nD Cert.InQkvBwdIdeal.τ).loc Cert.InQkvBwdIdeal.main_arg1)
      ∧ r.2.mem ((c.tc : Thread Cert.InQkvBwdIdeal.nD Cert.InQkvBwdIdeal.τ).loc Cert.InQkvBwdIdeal.main_arg2) = m ((c.tc : Thread Cert.InQkvBwdIdeal.nD Cert.InQkvBwdIdeal.τ).loc Cert.InQkvBwdIdeal.main_arg2)
      ∧ r.2.mem ((c.tc : Thread Cert.InQkvBwdIdeal.nD Cert.InQkvBwdIdeal.τ).loc Cert.InQkvBwdIdeal.main_arg3) = m ((c.tc : Thread Cert.InQkvBwdIdeal.nD Cert.InQkvBwdIdeal.τ).loc Cert.InQkvBwdIdeal.main_arg3)
      ∧ r.2.mem ((c.tc : Thread Cert.InQkvBwdIdeal.nD Cert.InQkvBwdIdeal.τ).loc Cert.InQkvBwdIdeal.main_arg4) = m ((c.tc : Thread Cert.InQkvBwdIdeal.nD Cert.InQkvBwdIdeal.τ).loc Cert.InQkvBwdIdeal.main_arg4)
      ∧ r.2.mem ((c.tc : Thread Cert.InQkvBwdIdeal.nD Cert.InQkvBwdIdeal.τ).loc Cert.InQkvBwdIdeal.main_arg5) = m ((c.tc : Thread Cert.InQkvBwdIdeal.nD Cert.InQkvBwdIdeal.τ).loc Cert.InQkvBwdIdeal.main_arg5)
      ∧ r.2.mem ((c.tc : Thread Cert.InQkvBwdIdeal.nD Cert.InQkvBwdIdeal.τ).loc Cert.InQkvBwdIdeal.main_arg6) = m ((c.tc : Thread Cert.InQkvBwdIdeal.nD Cert.InQkvBwdIdeal.τ).loc Cert.InQkvBwdIdeal.main_arg6)
      ∧ r.2.mem ((c.tc : Thread Cert.InQkvBwdIdeal.nD Cert.InQkvBwdIdeal.τ).loc Cert.InQkvBwdIdeal.main_arg7) = m ((c.tc : Thread Cert.InQkvBwdIdeal.nD Cert.InQkvBwdIdeal.τ).loc Cert.InQkvBwdIdeal.main_arg7)
      ∧ r.2.mem ((c.tc : Thread Cert.InQkvBwdIdeal.nD Cert.InQkvBwdIdeal.τ).loc Cert.InQkvBwdIdeal.main_arg8) = m ((c.tc : Thread Cert.InQkvBwdIdeal.nD Cert.InQkvBwdIdeal.τ).loc Cert.InQkvBwdIdeal.main_arg8))
      ∧ r.2.sem = fun _ => 0)

def quiescent_InQkvBwdRefIdeal [hInQkvBwdRefIdeal : Cert.InQkvBwdRefIdeal.Facts] : Prop :=
  ∀ (m : (ℓ : Loc Cert.InQkvBwdRefIdeal.nD Cert.InQkvBwdRefIdeal.τ Cert.InQkvBwdRefIdeal.sig) → Buf (Elt Ideal) ℓ) (g : Dev Cert.InQkvBwdRefIdeal.nD → PrngReg), Pre_InQkvBwdRefIdeal m →
    θ_run (Cert.InQkvBwdRefIdeal.defs (F := Ideal)) (onTc (τ := Cert.InQkvBwdRefIdeal.τ) (Cert.InQkvBwdRefIdeal.main (F := Ideal))) ⟨m, fun _ => 0, g⟩ (fun r => (∀ c : Dev Cert.InQkvBwdRefIdeal.nD,
      r.2.mem ((c.tc : Thread Cert.InQkvBwdRefIdeal.nD Cert.InQkvBwdRefIdeal.τ).loc Cert.InQkvBwdRefIdeal.main_arg0) = m ((c.tc : Thread Cert.InQkvBwdRefIdeal.nD Cert.InQkvBwdRefIdeal.τ).loc Cert.InQkvBwdRefIdeal.main_arg0)
      ∧ r.2.mem ((c.tc : Thread Cert.InQkvBwdRefIdeal.nD Cert.InQkvBwdRefIdeal.τ).loc Cert.InQkvBwdRefIdeal.main_arg1) = m ((c.tc : Thread Cert.InQkvBwdRefIdeal.nD Cert.InQkvBwdRefIdeal.τ).loc Cert.InQkvBwdRefIdeal.main_arg1)
      ∧ r.2.mem ((c.tc : Thread Cert.InQkvBwdRefIdeal.nD Cert.InQkvBwdRefIdeal.τ).loc Cert.InQkvBwdRefIdeal.main_arg2) = m ((c.tc : Thread Cert.InQkvBwdRefIdeal.nD Cert.InQkvBwdRefIdeal.τ).loc Cert.InQkvBwdRefIdeal.main_arg2)
      ∧ r.2.mem ((c.tc : Thread Cert.InQkvBwdRefIdeal.nD Cert.InQkvBwdRefIdeal.τ).loc Cert.InQkvBwdRefIdeal.main_arg3) = m ((c.tc : Thread Cert.InQkvBwdRefIdeal.nD Cert.InQkvBwdRefIdeal.τ).loc Cert.InQkvBwdRefIdeal.main_arg3)
      ∧ r.2.mem ((c.tc : Thread Cert.InQkvBwdRefIdeal.nD Cert.InQkvBwdRefIdeal.τ).loc Cert.InQkvBwdRefIdeal.main_arg4) = m ((c.tc : Thread Cert.InQkvBwdRefIdeal.nD Cert.InQkvBwdRefIdeal.τ).loc Cert.InQkvBwdRefIdeal.main_arg4)
      ∧ r.2.mem ((c.tc : Thread Cert.InQkvBwdRefIdeal.nD Cert.InQkvBwdRefIdeal.τ).loc Cert.InQkvBwdRefIdeal.main_arg5) = m ((c.tc : Thread Cert.InQkvBwdRefIdeal.nD Cert.InQkvBwdRefIdeal.τ).loc Cert.InQkvBwdRefIdeal.main_arg5)
      ∧ r.2.mem ((c.tc : Thread Cert.InQkvBwdRefIdeal.nD Cert.InQkvBwdRefIdeal.τ).loc Cert.InQkvBwdRefIdeal.main_arg6) = m ((c.tc : Thread Cert.InQkvBwdRefIdeal.nD Cert.InQkvBwdRefIdeal.τ).loc Cert.InQkvBwdRefIdeal.main_arg6)
      ∧ r.2.mem ((c.tc : Thread Cert.InQkvBwdRefIdeal.nD Cert.InQkvBwdRefIdeal.τ).loc Cert.InQkvBwdRefIdeal.main_arg7) = m ((c.tc : Thread Cert.InQkvBwdRefIdeal.nD Cert.InQkvBwdRefIdeal.τ).loc Cert.InQkvBwdRefIdeal.main_arg7)
      ∧ r.2.mem ((c.tc : Thread Cert.InQkvBwdRefIdeal.nD Cert.InQkvBwdRefIdeal.τ).loc Cert.InQkvBwdRefIdeal.main_arg8) = m ((c.tc : Thread Cert.InQkvBwdRefIdeal.nD Cert.InQkvBwdRefIdeal.τ).loc Cert.InQkvBwdRefIdeal.main_arg8))
      ∧ r.2.sem = fun _ => 0)

def quiescent_InQkvBwdRefIdeal_pre_gdn_in_qkv_bwd_finite [hInQkvBwdRefIdeal : Cert.InQkvBwdRefIdeal.Facts] [hPre_gdn_in_qkv_bwd_finite : Cert.Pre_gdn_in_qkv_bwd_finite.Facts] : Prop :=
  ∀ (m : (ℓ : Loc Cert.InQkvBwdRefIdeal.nD Cert.InQkvBwdRefIdeal.τ Cert.InQkvBwdRefIdeal.sig) → Buf (Elt Ideal) ℓ) (g : Dev Cert.InQkvBwdRefIdeal.nD → PrngReg), Pre_InQkvBwdRefIdeal_gdn_in_qkv_bwd_finite m →
    θ_run (Cert.InQkvBwdRefIdeal.defs (F := Ideal)) (onTc (τ := Cert.InQkvBwdRefIdeal.τ) (Cert.InQkvBwdRefIdeal.main (F := Ideal))) ⟨m, fun _ => 0, g⟩ (fun r => (∀ c : Dev Cert.InQkvBwdRefIdeal.nD,
      r.2.mem ((c.tc : Thread Cert.InQkvBwdRefIdeal.nD Cert.InQkvBwdRefIdeal.τ).loc Cert.InQkvBwdRefIdeal.main_arg0) = m ((c.tc : Thread Cert.InQkvBwdRefIdeal.nD Cert.InQkvBwdRefIdeal.τ).loc Cert.InQkvBwdRefIdeal.main_arg0)
      ∧ r.2.mem ((c.tc : Thread Cert.InQkvBwdRefIdeal.nD Cert.InQkvBwdRefIdeal.τ).loc Cert.InQkvBwdRefIdeal.main_arg1) = m ((c.tc : Thread Cert.InQkvBwdRefIdeal.nD Cert.InQkvBwdRefIdeal.τ).loc Cert.InQkvBwdRefIdeal.main_arg1)
      ∧ r.2.mem ((c.tc : Thread Cert.InQkvBwdRefIdeal.nD Cert.InQkvBwdRefIdeal.τ).loc Cert.InQkvBwdRefIdeal.main_arg2) = m ((c.tc : Thread Cert.InQkvBwdRefIdeal.nD Cert.InQkvBwdRefIdeal.τ).loc Cert.InQkvBwdRefIdeal.main_arg2)
      ∧ r.2.mem ((c.tc : Thread Cert.InQkvBwdRefIdeal.nD Cert.InQkvBwdRefIdeal.τ).loc Cert.InQkvBwdRefIdeal.main_arg3) = m ((c.tc : Thread Cert.InQkvBwdRefIdeal.nD Cert.InQkvBwdRefIdeal.τ).loc Cert.InQkvBwdRefIdeal.main_arg3)
      ∧ r.2.mem ((c.tc : Thread Cert.InQkvBwdRefIdeal.nD Cert.InQkvBwdRefIdeal.τ).loc Cert.InQkvBwdRefIdeal.main_arg4) = m ((c.tc : Thread Cert.InQkvBwdRefIdeal.nD Cert.InQkvBwdRefIdeal.τ).loc Cert.InQkvBwdRefIdeal.main_arg4)
      ∧ r.2.mem ((c.tc : Thread Cert.InQkvBwdRefIdeal.nD Cert.InQkvBwdRefIdeal.τ).loc Cert.InQkvBwdRefIdeal.main_arg5) = m ((c.tc : Thread Cert.InQkvBwdRefIdeal.nD Cert.InQkvBwdRefIdeal.τ).loc Cert.InQkvBwdRefIdeal.main_arg5)
      ∧ r.2.mem ((c.tc : Thread Cert.InQkvBwdRefIdeal.nD Cert.InQkvBwdRefIdeal.τ).loc Cert.InQkvBwdRefIdeal.main_arg6) = m ((c.tc : Thread Cert.InQkvBwdRefIdeal.nD Cert.InQkvBwdRefIdeal.τ).loc Cert.InQkvBwdRefIdeal.main_arg6)
      ∧ r.2.mem ((c.tc : Thread Cert.InQkvBwdRefIdeal.nD Cert.InQkvBwdRefIdeal.τ).loc Cert.InQkvBwdRefIdeal.main_arg7) = m ((c.tc : Thread Cert.InQkvBwdRefIdeal.nD Cert.InQkvBwdRefIdeal.τ).loc Cert.InQkvBwdRefIdeal.main_arg7)
      ∧ r.2.mem ((c.tc : Thread Cert.InQkvBwdRefIdeal.nD Cert.InQkvBwdRefIdeal.τ).loc Cert.InQkvBwdRefIdeal.main_arg8) = m ((c.tc : Thread Cert.InQkvBwdRefIdeal.nD Cert.InQkvBwdRefIdeal.τ).loc Cert.InQkvBwdRefIdeal.main_arg8))
      ∧ r.2.sem = fun _ => 0)

def quiescent_LossLn [hLossLn : Cert.LossLn.Facts] : Prop :=
  ∀ (m : (ℓ : Loc Cert.LossLn.nD Cert.LossLn.τ Cert.LossLn.sig) → Buf (Elt Bits) ℓ) (g : Dev Cert.LossLn.nD → PrngReg), Pre_LossLn m →
    θ_run (Cert.LossLn.defs (F := Bits)) (onTc (τ := Cert.LossLn.τ) (Cert.LossLn.main (F := Bits))) ⟨m, fun _ => 0, g⟩ (fun r => (∀ c : Dev Cert.LossLn.nD,
      r.2.mem ((c.tc : Thread Cert.LossLn.nD Cert.LossLn.τ).loc Cert.LossLn.main_arg0) = m ((c.tc : Thread Cert.LossLn.nD Cert.LossLn.τ).loc Cert.LossLn.main_arg0)
      ∧ r.2.mem ((c.tc : Thread Cert.LossLn.nD Cert.LossLn.τ).loc Cert.LossLn.main_arg1) = m ((c.tc : Thread Cert.LossLn.nD Cert.LossLn.τ).loc Cert.LossLn.main_arg1)
      ∧ r.2.mem ((c.tc : Thread Cert.LossLn.nD Cert.LossLn.τ).loc Cert.LossLn.main_arg2) = m ((c.tc : Thread Cert.LossLn.nD Cert.LossLn.τ).loc Cert.LossLn.main_arg2)
      ∧ r.2.mem ((c.tc : Thread Cert.LossLn.nD Cert.LossLn.τ).loc Cert.LossLn.main_arg3) = m ((c.tc : Thread Cert.LossLn.nD Cert.LossLn.τ).loc Cert.LossLn.main_arg3)
      ∧ r.2.mem ((c.tc : Thread Cert.LossLn.nD Cert.LossLn.τ).loc Cert.LossLn.main_arg4) = m ((c.tc : Thread Cert.LossLn.nD Cert.LossLn.τ).loc Cert.LossLn.main_arg4)
      ∧ r.2.mem ((c.tc : Thread Cert.LossLn.nD Cert.LossLn.τ).loc Cert.LossLn.main_arg5) = m ((c.tc : Thread Cert.LossLn.nD Cert.LossLn.τ).loc Cert.LossLn.main_arg5)
      ∧ r.2.mem ((c.tc : Thread Cert.LossLn.nD Cert.LossLn.τ).loc Cert.LossLn.main_arg6) = m ((c.tc : Thread Cert.LossLn.nD Cert.LossLn.τ).loc Cert.LossLn.main_arg6)
      ∧ r.2.mem ((c.tc : Thread Cert.LossLn.nD Cert.LossLn.τ).loc Cert.LossLn.main_arg7) = m ((c.tc : Thread Cert.LossLn.nD Cert.LossLn.τ).loc Cert.LossLn.main_arg7)
      ∧ r.2.mem ((c.tc : Thread Cert.LossLn.nD Cert.LossLn.τ).loc Cert.LossLn.main_arg8) = m ((c.tc : Thread Cert.LossLn.nD Cert.LossLn.τ).loc Cert.LossLn.main_arg8)
      ∧ r.2.mem ((c.tc : Thread Cert.LossLn.nD Cert.LossLn.τ).loc Cert.LossLn.main_arg9) = m ((c.tc : Thread Cert.LossLn.nD Cert.LossLn.τ).loc Cert.LossLn.main_arg9)
      ∧ r.2.mem ((c.tc : Thread Cert.LossLn.nD Cert.LossLn.τ).loc Cert.LossLn.main_arg10) = m ((c.tc : Thread Cert.LossLn.nD Cert.LossLn.τ).loc Cert.LossLn.main_arg10))
      ∧ r.2.sem = fun _ => 0)

def quiescent_LossLnIdeal [hLossLnIdeal : Cert.LossLnIdeal.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
      ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4)
      ∧ r.2.mem ((c.tc : Thread Cert.LossLnIdeal.nD Cert.LossLnIdeal.τ).loc Cert.LossLnIdeal.main_arg5) = m ((c.tc : Thread Cert.LossLnIdeal.nD Cert.LossLnIdeal.τ).loc Cert.LossLnIdeal.main_arg5)
      ∧ r.2.mem ((c.tc : Thread Cert.LossLnIdeal.nD Cert.LossLnIdeal.τ).loc Cert.LossLnIdeal.main_arg6) = m ((c.tc : Thread Cert.LossLnIdeal.nD Cert.LossLnIdeal.τ).loc Cert.LossLnIdeal.main_arg6)
      ∧ r.2.mem ((c.tc : Thread Cert.LossLnIdeal.nD Cert.LossLnIdeal.τ).loc Cert.LossLnIdeal.main_arg7) = m ((c.tc : Thread Cert.LossLnIdeal.nD Cert.LossLnIdeal.τ).loc Cert.LossLnIdeal.main_arg7)
      ∧ r.2.mem ((c.tc : Thread Cert.LossLnIdeal.nD Cert.LossLnIdeal.τ).loc Cert.LossLnIdeal.main_arg8) = m ((c.tc : Thread Cert.LossLnIdeal.nD Cert.LossLnIdeal.τ).loc Cert.LossLnIdeal.main_arg8)
      ∧ r.2.mem ((c.tc : Thread Cert.LossLnIdeal.nD Cert.LossLnIdeal.τ).loc Cert.LossLnIdeal.main_arg9) = m ((c.tc : Thread Cert.LossLnIdeal.nD Cert.LossLnIdeal.τ).loc Cert.LossLnIdeal.main_arg9)
      ∧ r.2.mem ((c.tc : Thread Cert.LossLnIdeal.nD Cert.LossLnIdeal.τ).loc Cert.LossLnIdeal.main_arg10) = m ((c.tc : Thread Cert.LossLnIdeal.nD Cert.LossLnIdeal.τ).loc Cert.LossLnIdeal.main_arg10))
      ∧ r.2.sem = fun _ => 0)

def quiescent_LossLnIdeal_pre_loss_ln_finite [hLossLnIdeal : Cert.LossLnIdeal.Facts] [hPre_loss_ln_finite : Cert.Pre_loss_ln_finite.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal_loss_ln_finite m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
      ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4)
      ∧ r.2.mem ((c.tc : Thread Cert.LossLnIdeal.nD Cert.LossLnIdeal.τ).loc Cert.LossLnIdeal.main_arg5) = m ((c.tc : Thread Cert.LossLnIdeal.nD Cert.LossLnIdeal.τ).loc Cert.LossLnIdeal.main_arg5)
      ∧ r.2.mem ((c.tc : Thread Cert.LossLnIdeal.nD Cert.LossLnIdeal.τ).loc Cert.LossLnIdeal.main_arg6) = m ((c.tc : Thread Cert.LossLnIdeal.nD Cert.LossLnIdeal.τ).loc Cert.LossLnIdeal.main_arg6)
      ∧ r.2.mem ((c.tc : Thread Cert.LossLnIdeal.nD Cert.LossLnIdeal.τ).loc Cert.LossLnIdeal.main_arg7) = m ((c.tc : Thread Cert.LossLnIdeal.nD Cert.LossLnIdeal.τ).loc Cert.LossLnIdeal.main_arg7)
      ∧ r.2.mem ((c.tc : Thread Cert.LossLnIdeal.nD Cert.LossLnIdeal.τ).loc Cert.LossLnIdeal.main_arg8) = m ((c.tc : Thread Cert.LossLnIdeal.nD Cert.LossLnIdeal.τ).loc Cert.LossLnIdeal.main_arg8)
      ∧ r.2.mem ((c.tc : Thread Cert.LossLnIdeal.nD Cert.LossLnIdeal.τ).loc Cert.LossLnIdeal.main_arg9) = m ((c.tc : Thread Cert.LossLnIdeal.nD Cert.LossLnIdeal.τ).loc Cert.LossLnIdeal.main_arg9)
      ∧ r.2.mem ((c.tc : Thread Cert.LossLnIdeal.nD Cert.LossLnIdeal.τ).loc Cert.LossLnIdeal.main_arg10) = m ((c.tc : Thread Cert.LossLnIdeal.nD Cert.LossLnIdeal.τ).loc Cert.LossLnIdeal.main_arg10))
      ∧ r.2.sem = fun _ => 0)

def quiescent_LossLnRefIdeal [hLossLnRefIdeal : Cert.LossLnRefIdeal.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3)
      ∧ r.2.mem ((c.tc : Thread Cert.LossLnRefIdeal.nD Cert.LossLnRefIdeal.τ).loc Cert.LossLnRefIdeal.main_arg4) = m ((c.tc : Thread Cert.LossLnRefIdeal.nD Cert.LossLnRefIdeal.τ).loc Cert.LossLnRefIdeal.main_arg4)
      ∧ r.2.mem ((c.tc : Thread Cert.LossLnRefIdeal.nD Cert.LossLnRefIdeal.τ).loc Cert.LossLnRefIdeal.main_arg5) = m ((c.tc : Thread Cert.LossLnRefIdeal.nD Cert.LossLnRefIdeal.τ).loc Cert.LossLnRefIdeal.main_arg5)
      ∧ r.2.mem ((c.tc : Thread Cert.LossLnRefIdeal.nD Cert.LossLnRefIdeal.τ).loc Cert.LossLnRefIdeal.main_arg6) = m ((c.tc : Thread Cert.LossLnRefIdeal.nD Cert.LossLnRefIdeal.τ).loc Cert.LossLnRefIdeal.main_arg6)
      ∧ r.2.mem ((c.tc : Thread Cert.LossLnRefIdeal.nD Cert.LossLnRefIdeal.τ).loc Cert.LossLnRefIdeal.main_arg7) = m ((c.tc : Thread Cert.LossLnRefIdeal.nD Cert.LossLnRefIdeal.τ).loc Cert.LossLnRefIdeal.main_arg7)
      ∧ r.2.mem ((c.tc : Thread Cert.LossLnRefIdeal.nD Cert.LossLnRefIdeal.τ).loc Cert.LossLnRefIdeal.main_arg8) = m ((c.tc : Thread Cert.LossLnRefIdeal.nD Cert.LossLnRefIdeal.τ).loc Cert.LossLnRefIdeal.main_arg8)
      ∧ r.2.mem ((c.tc : Thread Cert.LossLnRefIdeal.nD Cert.LossLnRefIdeal.τ).loc Cert.LossLnRefIdeal.main_arg9) = m ((c.tc : Thread Cert.LossLnRefIdeal.nD Cert.LossLnRefIdeal.τ).loc Cert.LossLnRefIdeal.main_arg9)
      ∧ r.2.mem ((c.tc : Thread Cert.LossLnRefIdeal.nD Cert.LossLnRefIdeal.τ).loc Cert.LossLnRefIdeal.main_arg10) = m ((c.tc : Thread Cert.LossLnRefIdeal.nD Cert.LossLnRefIdeal.τ).loc Cert.LossLnRefIdeal.main_arg10))
      ∧ r.2.sem = fun _ => 0)

def quiescent_LossLnRefIdeal_pre_loss_ln_finite [hLossLnRefIdeal : Cert.LossLnRefIdeal.Facts] [hPre_loss_ln_finite : Cert.Pre_loss_ln_finite.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal_loss_ln_finite m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3)
      ∧ r.2.mem ((c.tc : Thread Cert.LossLnRefIdeal.nD Cert.LossLnRefIdeal.τ).loc Cert.LossLnRefIdeal.main_arg4) = m ((c.tc : Thread Cert.LossLnRefIdeal.nD Cert.LossLnRefIdeal.τ).loc Cert.LossLnRefIdeal.main_arg4)
      ∧ r.2.mem ((c.tc : Thread Cert.LossLnRefIdeal.nD Cert.LossLnRefIdeal.τ).loc Cert.LossLnRefIdeal.main_arg5) = m ((c.tc : Thread Cert.LossLnRefIdeal.nD Cert.LossLnRefIdeal.τ).loc Cert.LossLnRefIdeal.main_arg5)
      ∧ r.2.mem ((c.tc : Thread Cert.LossLnRefIdeal.nD Cert.LossLnRefIdeal.τ).loc Cert.LossLnRefIdeal.main_arg6) = m ((c.tc : Thread Cert.LossLnRefIdeal.nD Cert.LossLnRefIdeal.τ).loc Cert.LossLnRefIdeal.main_arg6)
      ∧ r.2.mem ((c.tc : Thread Cert.LossLnRefIdeal.nD Cert.LossLnRefIdeal.τ).loc Cert.LossLnRefIdeal.main_arg7) = m ((c.tc : Thread Cert.LossLnRefIdeal.nD Cert.LossLnRefIdeal.τ).loc Cert.LossLnRefIdeal.main_arg7)
      ∧ r.2.mem ((c.tc : Thread Cert.LossLnRefIdeal.nD Cert.LossLnRefIdeal.τ).loc Cert.LossLnRefIdeal.main_arg8) = m ((c.tc : Thread Cert.LossLnRefIdeal.nD Cert.LossLnRefIdeal.τ).loc Cert.LossLnRefIdeal.main_arg8)
      ∧ r.2.mem ((c.tc : Thread Cert.LossLnRefIdeal.nD Cert.LossLnRefIdeal.τ).loc Cert.LossLnRefIdeal.main_arg9) = m ((c.tc : Thread Cert.LossLnRefIdeal.nD Cert.LossLnRefIdeal.τ).loc Cert.LossLnRefIdeal.main_arg9)
      ∧ r.2.mem ((c.tc : Thread Cert.LossLnRefIdeal.nD Cert.LossLnRefIdeal.τ).loc Cert.LossLnRefIdeal.main_arg10) = m ((c.tc : Thread Cert.LossLnRefIdeal.nD Cert.LossLnRefIdeal.τ).loc Cert.LossLnRefIdeal.main_arg10))
      ∧ r.2.sem = fun _ => 0)

def preserves_Kernel_KernelIdeal : Prop :=
  True

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v8)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v8) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v13) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_MlpDwTwo_MlpDwTwoIdeal : Prop :=
  True

def algebraic_MlpDwTwoIdeal_MlpDwTwoRefIdeal [hMlpDwTwoIdeal : Cert.MlpDwTwoIdeal.Facts] [hMlpDwTwoRefIdeal : Cert.MlpDwTwoRefIdeal.Facts] : Prop :=
  ∀ (m : (ℓ : Loc Cert.MlpDwTwoIdeal.nD Cert.MlpDwTwoIdeal.τ Cert.MlpDwTwoIdeal.sig) → Buf (Elt Ideal) ℓ) (g : Dev Cert.MlpDwTwoIdeal.nD → PrngReg)
    (m' : (ℓ : Loc Cert.MlpDwTwoRefIdeal.nD Cert.MlpDwTwoRefIdeal.τ Cert.MlpDwTwoRefIdeal.sig) → Buf (Elt Ideal) ℓ) (g' : Dev Cert.MlpDwTwoRefIdeal.nD → PrngReg), Pre_MlpDwTwoIdeal m →
    (∀ c : Dev Cert.MlpDwTwoIdeal.nD,
      m' ((c.tc : Thread Cert.MlpDwTwoRefIdeal.nD Cert.MlpDwTwoRefIdeal.τ).loc Cert.MlpDwTwoRefIdeal.main_arg0) = m ((c.tc : Thread Cert.MlpDwTwoIdeal.nD Cert.MlpDwTwoIdeal.τ).loc Cert.MlpDwTwoIdeal.main_arg0)
      ∧ m' ((c.tc : Thread Cert.MlpDwTwoRefIdeal.nD Cert.MlpDwTwoRefIdeal.τ).loc Cert.MlpDwTwoRefIdeal.main_arg1) = m ((c.tc : Thread Cert.MlpDwTwoIdeal.nD Cert.MlpDwTwoIdeal.τ).loc Cert.MlpDwTwoIdeal.main_arg1)
      ∧ m' ((c.tc : Thread Cert.MlpDwTwoRefIdeal.nD Cert.MlpDwTwoRefIdeal.τ).loc Cert.MlpDwTwoRefIdeal.main_arg2) = m ((c.tc : Thread Cert.MlpDwTwoIdeal.nD Cert.MlpDwTwoIdeal.τ).loc Cert.MlpDwTwoIdeal.main_arg2)
      ∧ m' ((c.tc : Thread Cert.MlpDwTwoRefIdeal.nD Cert.MlpDwTwoRefIdeal.τ).loc Cert.MlpDwTwoRefIdeal.main_arg3) = m ((c.tc : Thread Cert.MlpDwTwoIdeal.nD Cert.MlpDwTwoIdeal.τ).loc Cert.MlpDwTwoIdeal.main_arg3)) →
    ∃ (v0 : (c : Dev Cert.MlpDwTwoIdeal.nD) → Buf (Elt Ideal) ((c.tc : Thread Cert.MlpDwTwoIdeal.nD Cert.MlpDwTwoIdeal.τ).loc Cert.MlpDwTwoIdeal.main_v7)),
      θ_run (Cert.MlpDwTwoIdeal.defs (F := Ideal)) (onTc (τ := Cert.MlpDwTwoIdeal.τ) (Cert.MlpDwTwoIdeal.main (F := Ideal))) ⟨m, fun _ => 0, g⟩ (fun r => ∀ c : Dev Cert.MlpDwTwoIdeal.nD,
          r.2.mem ((c.tc : Thread Cert.MlpDwTwoIdeal.nD Cert.MlpDwTwoIdeal.τ).loc Cert.MlpDwTwoIdeal.main_v7) = v0 c
          ∧ r.2.mem ((c.tc : Thread Cert.MlpDwTwoIdeal.nD Cert.MlpDwTwoIdeal.τ).loc Cert.MlpDwTwoIdeal.main_arg0) = m ((c.tc : Thread Cert.MlpDwTwoIdeal.nD Cert.MlpDwTwoIdeal.τ).loc Cert.MlpDwTwoIdeal.main_arg0)
          ∧ r.2.mem ((c.tc : Thread Cert.MlpDwTwoIdeal.nD Cert.MlpDwTwoIdeal.τ).loc Cert.MlpDwTwoIdeal.main_arg1) = m ((c.tc : Thread Cert.MlpDwTwoIdeal.nD Cert.MlpDwTwoIdeal.τ).loc Cert.MlpDwTwoIdeal.main_arg1)
          ∧ r.2.mem ((c.tc : Thread Cert.MlpDwTwoIdeal.nD Cert.MlpDwTwoIdeal.τ).loc Cert.MlpDwTwoIdeal.main_arg2) = m ((c.tc : Thread Cert.MlpDwTwoIdeal.nD Cert.MlpDwTwoIdeal.τ).loc Cert.MlpDwTwoIdeal.main_arg2)
          ∧ r.2.mem ((c.tc : Thread Cert.MlpDwTwoIdeal.nD Cert.MlpDwTwoIdeal.τ).loc Cert.MlpDwTwoIdeal.main_arg3) = m ((c.tc : Thread Cert.MlpDwTwoIdeal.nD Cert.MlpDwTwoIdeal.τ).loc Cert.MlpDwTwoIdeal.main_arg3))
      ∧ θ_run (Cert.MlpDwTwoRefIdeal.defs (F := Ideal)) (onTc (τ := Cert.MlpDwTwoRefIdeal.τ) (Cert.MlpDwTwoRefIdeal.main (F := Ideal))) ⟨m', fun _ => 0, g'⟩ (fun r => ∀ c : Dev Cert.MlpDwTwoRefIdeal.nD,
          r.2.mem ((c.tc : Thread Cert.MlpDwTwoRefIdeal.nD Cert.MlpDwTwoRefIdeal.τ).loc Cert.MlpDwTwoRefIdeal.main_v6) = v0 c
          ∧ r.2.mem ((c.tc : Thread Cert.MlpDwTwoRefIdeal.nD Cert.MlpDwTwoRefIdeal.τ).loc Cert.MlpDwTwoRefIdeal.main_arg0) = m' ((c.tc : Thread Cert.MlpDwTwoRefIdeal.nD Cert.MlpDwTwoRefIdeal.τ).loc Cert.MlpDwTwoRefIdeal.main_arg0)
          ∧ r.2.mem ((c.tc : Thread Cert.MlpDwTwoRefIdeal.nD Cert.MlpDwTwoRefIdeal.τ).loc Cert.MlpDwTwoRefIdeal.main_arg1) = m' ((c.tc : Thread Cert.MlpDwTwoRefIdeal.nD Cert.MlpDwTwoRefIdeal.τ).loc Cert.MlpDwTwoRefIdeal.main_arg1)
          ∧ r.2.mem ((c.tc : Thread Cert.MlpDwTwoRefIdeal.nD Cert.MlpDwTwoRefIdeal.τ).loc Cert.MlpDwTwoRefIdeal.main_arg2) = m' ((c.tc : Thread Cert.MlpDwTwoRefIdeal.nD Cert.MlpDwTwoRefIdeal.τ).loc Cert.MlpDwTwoRefIdeal.main_arg2)
          ∧ r.2.mem ((c.tc : Thread Cert.MlpDwTwoRefIdeal.nD Cert.MlpDwTwoRefIdeal.τ).loc Cert.MlpDwTwoRefIdeal.main_arg3) = m' ((c.tc : Thread Cert.MlpDwTwoRefIdeal.nD Cert.MlpDwTwoRefIdeal.τ).loc Cert.MlpDwTwoRefIdeal.main_arg3))

def preserves_MlpDwOne_MlpDwOneIdeal : Prop :=
  True

def algebraic_MlpDwOneIdeal_MlpDwOneRefIdeal [hMlpDwOneIdeal : Cert.MlpDwOneIdeal.Facts] [hMlpDwOneRefIdeal : Cert.MlpDwOneRefIdeal.Facts] : Prop :=
  ∀ (m : (ℓ : Loc Cert.MlpDwOneIdeal.nD Cert.MlpDwOneIdeal.τ Cert.MlpDwOneIdeal.sig) → Buf (Elt Ideal) ℓ) (g : Dev Cert.MlpDwOneIdeal.nD → PrngReg)
    (m' : (ℓ : Loc Cert.MlpDwOneRefIdeal.nD Cert.MlpDwOneRefIdeal.τ Cert.MlpDwOneRefIdeal.sig) → Buf (Elt Ideal) ℓ) (g' : Dev Cert.MlpDwOneRefIdeal.nD → PrngReg), Pre_MlpDwOneIdeal m →
    (∀ c : Dev Cert.MlpDwOneIdeal.nD,
      m' ((c.tc : Thread Cert.MlpDwOneRefIdeal.nD Cert.MlpDwOneRefIdeal.τ).loc Cert.MlpDwOneRefIdeal.main_arg0) = m ((c.tc : Thread Cert.MlpDwOneIdeal.nD Cert.MlpDwOneIdeal.τ).loc Cert.MlpDwOneIdeal.main_arg0)
      ∧ m' ((c.tc : Thread Cert.MlpDwOneRefIdeal.nD Cert.MlpDwOneRefIdeal.τ).loc Cert.MlpDwOneRefIdeal.main_arg1) = m ((c.tc : Thread Cert.MlpDwOneIdeal.nD Cert.MlpDwOneIdeal.τ).loc Cert.MlpDwOneIdeal.main_arg1)
      ∧ m' ((c.tc : Thread Cert.MlpDwOneRefIdeal.nD Cert.MlpDwOneRefIdeal.τ).loc Cert.MlpDwOneRefIdeal.main_arg2) = m ((c.tc : Thread Cert.MlpDwOneIdeal.nD Cert.MlpDwOneIdeal.τ).loc Cert.MlpDwOneIdeal.main_arg2)
      ∧ m' ((c.tc : Thread Cert.MlpDwOneRefIdeal.nD Cert.MlpDwOneRefIdeal.τ).loc Cert.MlpDwOneRefIdeal.main_arg3) = m ((c.tc : Thread Cert.MlpDwOneIdeal.nD Cert.MlpDwOneIdeal.τ).loc Cert.MlpDwOneIdeal.main_arg3)) →
    ∃ (v0 : (c : Dev Cert.MlpDwOneIdeal.nD) → Buf (Elt Ideal) ((c.tc : Thread Cert.MlpDwOneIdeal.nD Cert.MlpDwOneIdeal.τ).loc Cert.MlpDwOneIdeal.main_v16)),
      θ_run (Cert.MlpDwOneIdeal.defs (F := Ideal)) (onTc (τ := Cert.MlpDwOneIdeal.τ) (Cert.MlpDwOneIdeal.main (F := Ideal))) ⟨m, fun _ => 0, g⟩ (fun r => ∀ c : Dev Cert.MlpDwOneIdeal.nD,
          r.2.mem ((c.tc : Thread Cert.MlpDwOneIdeal.nD Cert.MlpDwOneIdeal.τ).loc Cert.MlpDwOneIdeal.main_v16) = v0 c
          ∧ r.2.mem ((c.tc : Thread Cert.MlpDwOneIdeal.nD Cert.MlpDwOneIdeal.τ).loc Cert.MlpDwOneIdeal.main_arg0) = m ((c.tc : Thread Cert.MlpDwOneIdeal.nD Cert.MlpDwOneIdeal.τ).loc Cert.MlpDwOneIdeal.main_arg0)
          ∧ r.2.mem ((c.tc : Thread Cert.MlpDwOneIdeal.nD Cert.MlpDwOneIdeal.τ).loc Cert.MlpDwOneIdeal.main_arg1) = m ((c.tc : Thread Cert.MlpDwOneIdeal.nD Cert.MlpDwOneIdeal.τ).loc Cert.MlpDwOneIdeal.main_arg1)
          ∧ r.2.mem ((c.tc : Thread Cert.MlpDwOneIdeal.nD Cert.MlpDwOneIdeal.τ).loc Cert.MlpDwOneIdeal.main_arg2) = m ((c.tc : Thread Cert.MlpDwOneIdeal.nD Cert.MlpDwOneIdeal.τ).loc Cert.MlpDwOneIdeal.main_arg2)
          ∧ r.2.mem ((c.tc : Thread Cert.MlpDwOneIdeal.nD Cert.MlpDwOneIdeal.τ).loc Cert.MlpDwOneIdeal.main_arg3) = m ((c.tc : Thread Cert.MlpDwOneIdeal.nD Cert.MlpDwOneIdeal.τ).loc Cert.MlpDwOneIdeal.main_arg3))
      ∧ θ_run (Cert.MlpDwOneRefIdeal.defs (F := Ideal)) (onTc (τ := Cert.MlpDwOneRefIdeal.τ) (Cert.MlpDwOneRefIdeal.main (F := Ideal))) ⟨m', fun _ => 0, g'⟩ (fun r => ∀ c : Dev Cert.MlpDwOneRefIdeal.nD,
          r.2.mem ((c.tc : Thread Cert.MlpDwOneRefIdeal.nD Cert.MlpDwOneRefIdeal.τ).loc Cert.MlpDwOneRefIdeal.main_v17) = v0 c
          ∧ r.2.mem ((c.tc : Thread Cert.MlpDwOneRefIdeal.nD Cert.MlpDwOneRefIdeal.τ).loc Cert.MlpDwOneRefIdeal.main_arg0) = m' ((c.tc : Thread Cert.MlpDwOneRefIdeal.nD Cert.MlpDwOneRefIdeal.τ).loc Cert.MlpDwOneRefIdeal.main_arg0)
          ∧ r.2.mem ((c.tc : Thread Cert.MlpDwOneRefIdeal.nD Cert.MlpDwOneRefIdeal.τ).loc Cert.MlpDwOneRefIdeal.main_arg1) = m' ((c.tc : Thread Cert.MlpDwOneRefIdeal.nD Cert.MlpDwOneRefIdeal.τ).loc Cert.MlpDwOneRefIdeal.main_arg1)
          ∧ r.2.mem ((c.tc : Thread Cert.MlpDwOneRefIdeal.nD Cert.MlpDwOneRefIdeal.τ).loc Cert.MlpDwOneRefIdeal.main_arg2) = m' ((c.tc : Thread Cert.MlpDwOneRefIdeal.nD Cert.MlpDwOneRefIdeal.τ).loc Cert.MlpDwOneRefIdeal.main_arg2)
          ∧ r.2.mem ((c.tc : Thread Cert.MlpDwOneRefIdeal.nD Cert.MlpDwOneRefIdeal.τ).loc Cert.MlpDwOneRefIdeal.main_arg3) = m' ((c.tc : Thread Cert.MlpDwOneRefIdeal.nD Cert.MlpDwOneRefIdeal.τ).loc Cert.MlpDwOneRefIdeal.main_arg3))

def preserves_PleDwG_PleDwGIdeal : Prop :=
  True

def algebraic_PleDwGIdeal_PleDwGRefIdeal [hPleDwGIdeal : Cert.PleDwGIdeal.Facts] [hPleDwGRefIdeal : Cert.PleDwGRefIdeal.Facts] : Prop :=
  ∀ (m : (ℓ : Loc Cert.PleDwGIdeal.nD Cert.PleDwGIdeal.τ Cert.PleDwGIdeal.sig) → Buf (Elt Ideal) ℓ) (g : Dev Cert.PleDwGIdeal.nD → PrngReg)
    (m' : (ℓ : Loc Cert.PleDwGRefIdeal.nD Cert.PleDwGRefIdeal.τ Cert.PleDwGRefIdeal.sig) → Buf (Elt Ideal) ℓ) (g' : Dev Cert.PleDwGRefIdeal.nD → PrngReg), Pre_PleDwGIdeal m →
    (∀ c : Dev Cert.PleDwGIdeal.nD,
      m' ((c.tc : Thread Cert.PleDwGRefIdeal.nD Cert.PleDwGRefIdeal.τ).loc Cert.PleDwGRefIdeal.main_arg0) = m ((c.tc : Thread Cert.PleDwGIdeal.nD Cert.PleDwGIdeal.τ).loc Cert.PleDwGIdeal.main_arg0)
      ∧ m' ((c.tc : Thread Cert.PleDwGRefIdeal.nD Cert.PleDwGRefIdeal.τ).loc Cert.PleDwGRefIdeal.main_arg1) = m ((c.tc : Thread Cert.PleDwGIdeal.nD Cert.PleDwGIdeal.τ).loc Cert.PleDwGIdeal.main_arg1)
      ∧ m' ((c.tc : Thread Cert.PleDwGRefIdeal.nD Cert.PleDwGRefIdeal.τ).loc Cert.PleDwGRefIdeal.main_arg2) = m ((c.tc : Thread Cert.PleDwGIdeal.nD Cert.PleDwGIdeal.τ).loc Cert.PleDwGIdeal.main_arg2)
      ∧ m' ((c.tc : Thread Cert.PleDwGRefIdeal.nD Cert.PleDwGRefIdeal.τ).loc Cert.PleDwGRefIdeal.main_arg3) = m ((c.tc : Thread Cert.PleDwGIdeal.nD Cert.PleDwGIdeal.τ).loc Cert.PleDwGIdeal.main_arg3)
      ∧ m' ((c.tc : Thread Cert.PleDwGRefIdeal.nD Cert.PleDwGRefIdeal.τ).loc Cert.PleDwGRefIdeal.main_arg4) = m ((c.tc : Thread Cert.PleDwGIdeal.nD Cert.PleDwGIdeal.τ).loc Cert.PleDwGIdeal.main_arg4)
      ∧ m' ((c.tc : Thread Cert.PleDwGRefIdeal.nD Cert.PleDwGRefIdeal.τ).loc Cert.PleDwGRefIdeal.main_arg5) = m ((c.tc : Thread Cert.PleDwGIdeal.nD Cert.PleDwGIdeal.τ).loc Cert.PleDwGIdeal.main_arg5)) →
    ∃ (v0 : (c : Dev Cert.PleDwGIdeal.nD) → Buf (Elt Ideal) ((c.tc : Thread Cert.PleDwGIdeal.nD Cert.PleDwGIdeal.τ).loc Cert.PleDwGIdeal.main_v22)),
      θ_run (Cert.PleDwGIdeal.defs (F := Ideal)) (onTc (τ := Cert.PleDwGIdeal.τ) (Cert.PleDwGIdeal.main (F := Ideal))) ⟨m, fun _ => 0, g⟩ (fun r => ∀ c : Dev Cert.PleDwGIdeal.nD,
          r.2.mem ((c.tc : Thread Cert.PleDwGIdeal.nD Cert.PleDwGIdeal.τ).loc Cert.PleDwGIdeal.main_v22) = v0 c
          ∧ r.2.mem ((c.tc : Thread Cert.PleDwGIdeal.nD Cert.PleDwGIdeal.τ).loc Cert.PleDwGIdeal.main_arg0) = m ((c.tc : Thread Cert.PleDwGIdeal.nD Cert.PleDwGIdeal.τ).loc Cert.PleDwGIdeal.main_arg0)
          ∧ r.2.mem ((c.tc : Thread Cert.PleDwGIdeal.nD Cert.PleDwGIdeal.τ).loc Cert.PleDwGIdeal.main_arg1) = m ((c.tc : Thread Cert.PleDwGIdeal.nD Cert.PleDwGIdeal.τ).loc Cert.PleDwGIdeal.main_arg1)
          ∧ r.2.mem ((c.tc : Thread Cert.PleDwGIdeal.nD Cert.PleDwGIdeal.τ).loc Cert.PleDwGIdeal.main_arg2) = m ((c.tc : Thread Cert.PleDwGIdeal.nD Cert.PleDwGIdeal.τ).loc Cert.PleDwGIdeal.main_arg2)
          ∧ r.2.mem ((c.tc : Thread Cert.PleDwGIdeal.nD Cert.PleDwGIdeal.τ).loc Cert.PleDwGIdeal.main_arg3) = m ((c.tc : Thread Cert.PleDwGIdeal.nD Cert.PleDwGIdeal.τ).loc Cert.PleDwGIdeal.main_arg3)
          ∧ r.2.mem ((c.tc : Thread Cert.PleDwGIdeal.nD Cert.PleDwGIdeal.τ).loc Cert.PleDwGIdeal.main_arg4) = m ((c.tc : Thread Cert.PleDwGIdeal.nD Cert.PleDwGIdeal.τ).loc Cert.PleDwGIdeal.main_arg4)
          ∧ r.2.mem ((c.tc : Thread Cert.PleDwGIdeal.nD Cert.PleDwGIdeal.τ).loc Cert.PleDwGIdeal.main_arg5) = m ((c.tc : Thread Cert.PleDwGIdeal.nD Cert.PleDwGIdeal.τ).loc Cert.PleDwGIdeal.main_arg5))
      ∧ θ_run (Cert.PleDwGRefIdeal.defs (F := Ideal)) (onTc (τ := Cert.PleDwGRefIdeal.τ) (Cert.PleDwGRefIdeal.main (F := Ideal))) ⟨m', fun _ => 0, g'⟩ (fun r => ∀ c : Dev Cert.PleDwGRefIdeal.nD,
          r.2.mem ((c.tc : Thread Cert.PleDwGRefIdeal.nD Cert.PleDwGRefIdeal.τ).loc Cert.PleDwGRefIdeal.main_v19) = v0 c
          ∧ r.2.mem ((c.tc : Thread Cert.PleDwGRefIdeal.nD Cert.PleDwGRefIdeal.τ).loc Cert.PleDwGRefIdeal.main_arg0) = m' ((c.tc : Thread Cert.PleDwGRefIdeal.nD Cert.PleDwGRefIdeal.τ).loc Cert.PleDwGRefIdeal.main_arg0)
          ∧ r.2.mem ((c.tc : Thread Cert.PleDwGRefIdeal.nD Cert.PleDwGRefIdeal.τ).loc Cert.PleDwGRefIdeal.main_arg1) = m' ((c.tc : Thread Cert.PleDwGRefIdeal.nD Cert.PleDwGRefIdeal.τ).loc Cert.PleDwGRefIdeal.main_arg1)
          ∧ r.2.mem ((c.tc : Thread Cert.PleDwGRefIdeal.nD Cert.PleDwGRefIdeal.τ).loc Cert.PleDwGRefIdeal.main_arg2) = m' ((c.tc : Thread Cert.PleDwGRefIdeal.nD Cert.PleDwGRefIdeal.τ).loc Cert.PleDwGRefIdeal.main_arg2)
          ∧ r.2.mem ((c.tc : Thread Cert.PleDwGRefIdeal.nD Cert.PleDwGRefIdeal.τ).loc Cert.PleDwGRefIdeal.main_arg3) = m' ((c.tc : Thread Cert.PleDwGRefIdeal.nD Cert.PleDwGRefIdeal.τ).loc Cert.PleDwGRefIdeal.main_arg3)
          ∧ r.2.mem ((c.tc : Thread Cert.PleDwGRefIdeal.nD Cert.PleDwGRefIdeal.τ).loc Cert.PleDwGRefIdeal.main_arg4) = m' ((c.tc : Thread Cert.PleDwGRefIdeal.nD Cert.PleDwGRefIdeal.τ).loc Cert.PleDwGRefIdeal.main_arg4)
          ∧ r.2.mem ((c.tc : Thread Cert.PleDwGRefIdeal.nD Cert.PleDwGRefIdeal.τ).loc Cert.PleDwGRefIdeal.main_arg5) = m' ((c.tc : Thread Cert.PleDwGRefIdeal.nD Cert.PleDwGRefIdeal.τ).loc Cert.PleDwGRefIdeal.main_arg5))

def preserves_PleDwP_PleDwPIdeal : Prop :=
  True

def algebraic_PleDwPIdeal_PleDwPRefIdeal [hPleDwPIdeal : Cert.PleDwPIdeal.Facts] [hPleDwPRefIdeal : Cert.PleDwPRefIdeal.Facts] : Prop :=
  ∀ (m : (ℓ : Loc Cert.PleDwPIdeal.nD Cert.PleDwPIdeal.τ Cert.PleDwPIdeal.sig) → Buf (Elt Ideal) ℓ) (g : Dev Cert.PleDwPIdeal.nD → PrngReg)
    (m' : (ℓ : Loc Cert.PleDwPRefIdeal.nD Cert.PleDwPRefIdeal.τ Cert.PleDwPRefIdeal.sig) → Buf (Elt Ideal) ℓ) (g' : Dev Cert.PleDwPRefIdeal.nD → PrngReg), Pre_PleDwPIdeal m →
    (∀ c : Dev Cert.PleDwPIdeal.nD,
      m' ((c.tc : Thread Cert.PleDwPRefIdeal.nD Cert.PleDwPRefIdeal.τ).loc Cert.PleDwPRefIdeal.main_arg0) = m ((c.tc : Thread Cert.PleDwPIdeal.nD Cert.PleDwPIdeal.τ).loc Cert.PleDwPIdeal.main_arg0)
      ∧ m' ((c.tc : Thread Cert.PleDwPRefIdeal.nD Cert.PleDwPRefIdeal.τ).loc Cert.PleDwPRefIdeal.main_arg1) = m ((c.tc : Thread Cert.PleDwPIdeal.nD Cert.PleDwPIdeal.τ).loc Cert.PleDwPIdeal.main_arg1)
      ∧ m' ((c.tc : Thread Cert.PleDwPRefIdeal.nD Cert.PleDwPRefIdeal.τ).loc Cert.PleDwPRefIdeal.main_arg2) = m ((c.tc : Thread Cert.PleDwPIdeal.nD Cert.PleDwPIdeal.τ).loc Cert.PleDwPIdeal.main_arg2)
      ∧ m' ((c.tc : Thread Cert.PleDwPRefIdeal.nD Cert.PleDwPRefIdeal.τ).loc Cert.PleDwPRefIdeal.main_arg3) = m ((c.tc : Thread Cert.PleDwPIdeal.nD Cert.PleDwPIdeal.τ).loc Cert.PleDwPIdeal.main_arg3)
      ∧ m' ((c.tc : Thread Cert.PleDwPRefIdeal.nD Cert.PleDwPRefIdeal.τ).loc Cert.PleDwPRefIdeal.main_arg4) = m ((c.tc : Thread Cert.PleDwPIdeal.nD Cert.PleDwPIdeal.τ).loc Cert.PleDwPIdeal.main_arg4)
      ∧ m' ((c.tc : Thread Cert.PleDwPRefIdeal.nD Cert.PleDwPRefIdeal.τ).loc Cert.PleDwPRefIdeal.main_arg5) = m ((c.tc : Thread Cert.PleDwPIdeal.nD Cert.PleDwPIdeal.τ).loc Cert.PleDwPIdeal.main_arg5)) →
    ∃ (v0 : (c : Dev Cert.PleDwPIdeal.nD) → Buf (Elt Ideal) ((c.tc : Thread Cert.PleDwPIdeal.nD Cert.PleDwPIdeal.τ).loc Cert.PleDwPIdeal.main_v15)),
      θ_run (Cert.PleDwPIdeal.defs (F := Ideal)) (onTc (τ := Cert.PleDwPIdeal.τ) (Cert.PleDwPIdeal.main (F := Ideal))) ⟨m, fun _ => 0, g⟩ (fun r => ∀ c : Dev Cert.PleDwPIdeal.nD,
          r.2.mem ((c.tc : Thread Cert.PleDwPIdeal.nD Cert.PleDwPIdeal.τ).loc Cert.PleDwPIdeal.main_v15) = v0 c
          ∧ r.2.mem ((c.tc : Thread Cert.PleDwPIdeal.nD Cert.PleDwPIdeal.τ).loc Cert.PleDwPIdeal.main_arg0) = m ((c.tc : Thread Cert.PleDwPIdeal.nD Cert.PleDwPIdeal.τ).loc Cert.PleDwPIdeal.main_arg0)
          ∧ r.2.mem ((c.tc : Thread Cert.PleDwPIdeal.nD Cert.PleDwPIdeal.τ).loc Cert.PleDwPIdeal.main_arg1) = m ((c.tc : Thread Cert.PleDwPIdeal.nD Cert.PleDwPIdeal.τ).loc Cert.PleDwPIdeal.main_arg1)
          ∧ r.2.mem ((c.tc : Thread Cert.PleDwPIdeal.nD Cert.PleDwPIdeal.τ).loc Cert.PleDwPIdeal.main_arg2) = m ((c.tc : Thread Cert.PleDwPIdeal.nD Cert.PleDwPIdeal.τ).loc Cert.PleDwPIdeal.main_arg2)
          ∧ r.2.mem ((c.tc : Thread Cert.PleDwPIdeal.nD Cert.PleDwPIdeal.τ).loc Cert.PleDwPIdeal.main_arg3) = m ((c.tc : Thread Cert.PleDwPIdeal.nD Cert.PleDwPIdeal.τ).loc Cert.PleDwPIdeal.main_arg3)
          ∧ r.2.mem ((c.tc : Thread Cert.PleDwPIdeal.nD Cert.PleDwPIdeal.τ).loc Cert.PleDwPIdeal.main_arg4) = m ((c.tc : Thread Cert.PleDwPIdeal.nD Cert.PleDwPIdeal.τ).loc Cert.PleDwPIdeal.main_arg4)
          ∧ r.2.mem ((c.tc : Thread Cert.PleDwPIdeal.nD Cert.PleDwPIdeal.τ).loc Cert.PleDwPIdeal.main_arg5) = m ((c.tc : Thread Cert.PleDwPIdeal.nD Cert.PleDwPIdeal.τ).loc Cert.PleDwPIdeal.main_arg5))
      ∧ θ_run (Cert.PleDwPRefIdeal.defs (F := Ideal)) (onTc (τ := Cert.PleDwPRefIdeal.τ) (Cert.PleDwPRefIdeal.main (F := Ideal))) ⟨m', fun _ => 0, g'⟩ (fun r => ∀ c : Dev Cert.PleDwPRefIdeal.nD,
          r.2.mem ((c.tc : Thread Cert.PleDwPRefIdeal.nD Cert.PleDwPRefIdeal.τ).loc Cert.PleDwPRefIdeal.main_v17) = v0 c
          ∧ r.2.mem ((c.tc : Thread Cert.PleDwPRefIdeal.nD Cert.PleDwPRefIdeal.τ).loc Cert.PleDwPRefIdeal.main_arg0) = m' ((c.tc : Thread Cert.PleDwPRefIdeal.nD Cert.PleDwPRefIdeal.τ).loc Cert.PleDwPRefIdeal.main_arg0)
          ∧ r.2.mem ((c.tc : Thread Cert.PleDwPRefIdeal.nD Cert.PleDwPRefIdeal.τ).loc Cert.PleDwPRefIdeal.main_arg1) = m' ((c.tc : Thread Cert.PleDwPRefIdeal.nD Cert.PleDwPRefIdeal.τ).loc Cert.PleDwPRefIdeal.main_arg1)
          ∧ r.2.mem ((c.tc : Thread Cert.PleDwPRefIdeal.nD Cert.PleDwPRefIdeal.τ).loc Cert.PleDwPRefIdeal.main_arg2) = m' ((c.tc : Thread Cert.PleDwPRefIdeal.nD Cert.PleDwPRefIdeal.τ).loc Cert.PleDwPRefIdeal.main_arg2)
          ∧ r.2.mem ((c.tc : Thread Cert.PleDwPRefIdeal.nD Cert.PleDwPRefIdeal.τ).loc Cert.PleDwPRefIdeal.main_arg3) = m' ((c.tc : Thread Cert.PleDwPRefIdeal.nD Cert.PleDwPRefIdeal.τ).loc Cert.PleDwPRefIdeal.main_arg3)
          ∧ r.2.mem ((c.tc : Thread Cert.PleDwPRefIdeal.nD Cert.PleDwPRefIdeal.τ).loc Cert.PleDwPRefIdeal.main_arg4) = m' ((c.tc : Thread Cert.PleDwPRefIdeal.nD Cert.PleDwPRefIdeal.τ).loc Cert.PleDwPRefIdeal.main_arg4)
          ∧ r.2.mem ((c.tc : Thread Cert.PleDwPRefIdeal.nD Cert.PleDwPRefIdeal.τ).loc Cert.PleDwPRefIdeal.main_arg5) = m' ((c.tc : Thread Cert.PleDwPRefIdeal.nD Cert.PleDwPRefIdeal.τ).loc Cert.PleDwPRefIdeal.main_arg5))

def preserves_PleGateBwd_PleGateBwdIdeal : Prop :=
  True

def algebraic_PleGateBwdIdeal_PleGateBwdRefIdeal [hPleGateBwdIdeal : Cert.PleGateBwdIdeal.Facts] [hPleGateBwdRefIdeal : Cert.PleGateBwdRefIdeal.Facts] : Prop :=
  ∀ (m : (ℓ : Loc Cert.PleGateBwdIdeal.nD Cert.PleGateBwdIdeal.τ Cert.PleGateBwdIdeal.sig) → Buf (Elt Ideal) ℓ) (g : Dev Cert.PleGateBwdIdeal.nD → PrngReg)
    (m' : (ℓ : Loc Cert.PleGateBwdRefIdeal.nD Cert.PleGateBwdRefIdeal.τ Cert.PleGateBwdRefIdeal.sig) → Buf (Elt Ideal) ℓ) (g' : Dev Cert.PleGateBwdRefIdeal.nD → PrngReg), Pre_PleGateBwdIdeal m →
    (∀ c : Dev Cert.PleGateBwdIdeal.nD,
      m' ((c.tc : Thread Cert.PleGateBwdRefIdeal.nD Cert.PleGateBwdRefIdeal.τ).loc Cert.PleGateBwdRefIdeal.main_arg0) = m ((c.tc : Thread Cert.PleGateBwdIdeal.nD Cert.PleGateBwdIdeal.τ).loc Cert.PleGateBwdIdeal.main_arg0)
      ∧ m' ((c.tc : Thread Cert.PleGateBwdRefIdeal.nD Cert.PleGateBwdRefIdeal.τ).loc Cert.PleGateBwdRefIdeal.main_arg1) = m ((c.tc : Thread Cert.PleGateBwdIdeal.nD Cert.PleGateBwdIdeal.τ).loc Cert.PleGateBwdIdeal.main_arg1)
      ∧ m' ((c.tc : Thread Cert.PleGateBwdRefIdeal.nD Cert.PleGateBwdRefIdeal.τ).loc Cert.PleGateBwdRefIdeal.main_arg2) = m ((c.tc : Thread Cert.PleGateBwdIdeal.nD Cert.PleGateBwdIdeal.τ).loc Cert.PleGateBwdIdeal.main_arg2)
      ∧ m' ((c.tc : Thread Cert.PleGateBwdRefIdeal.nD Cert.PleGateBwdRefIdeal.τ).loc Cert.PleGateBwdRefIdeal.main_arg3) = m ((c.tc : Thread Cert.PleGateBwdIdeal.nD Cert.PleGateBwdIdeal.τ).loc Cert.PleGateBwdIdeal.main_arg3)
      ∧ m' ((c.tc : Thread Cert.PleGateBwdRefIdeal.nD Cert.PleGateBwdRefIdeal.τ).loc Cert.PleGateBwdRefIdeal.main_arg4) = m ((c.tc : Thread Cert.PleGateBwdIdeal.nD Cert.PleGateBwdIdeal.τ).loc Cert.PleGateBwdIdeal.main_arg4)
      ∧ m' ((c.tc : Thread Cert.PleGateBwdRefIdeal.nD Cert.PleGateBwdRefIdeal.τ).loc Cert.PleGateBwdRefIdeal.main_arg5) = m ((c.tc : Thread Cert.PleGateBwdIdeal.nD Cert.PleGateBwdIdeal.τ).loc Cert.PleGateBwdIdeal.main_arg5)) →
    ∃ (v0 : (c : Dev Cert.PleGateBwdIdeal.nD) → Buf (Elt Ideal) ((c.tc : Thread Cert.PleGateBwdIdeal.nD Cert.PleGateBwdIdeal.τ).loc Cert.PleGateBwdIdeal.main_v22)),
      θ_run (Cert.PleGateBwdIdeal.defs (F := Ideal)) (onTc (τ := Cert.PleGateBwdIdeal.τ) (Cert.PleGateBwdIdeal.main (F := Ideal))) ⟨m, fun _ => 0, g⟩ (fun r => ∀ c : Dev Cert.PleGateBwdIdeal.nD,
          r.2.mem ((c.tc : Thread Cert.PleGateBwdIdeal.nD Cert.PleGateBwdIdeal.τ).loc Cert.PleGateBwdIdeal.main_v22) = v0 c
          ∧ r.2.mem ((c.tc : Thread Cert.PleGateBwdIdeal.nD Cert.PleGateBwdIdeal.τ).loc Cert.PleGateBwdIdeal.main_arg0) = m ((c.tc : Thread Cert.PleGateBwdIdeal.nD Cert.PleGateBwdIdeal.τ).loc Cert.PleGateBwdIdeal.main_arg0)
          ∧ r.2.mem ((c.tc : Thread Cert.PleGateBwdIdeal.nD Cert.PleGateBwdIdeal.τ).loc Cert.PleGateBwdIdeal.main_arg1) = m ((c.tc : Thread Cert.PleGateBwdIdeal.nD Cert.PleGateBwdIdeal.τ).loc Cert.PleGateBwdIdeal.main_arg1)
          ∧ r.2.mem ((c.tc : Thread Cert.PleGateBwdIdeal.nD Cert.PleGateBwdIdeal.τ).loc Cert.PleGateBwdIdeal.main_arg2) = m ((c.tc : Thread Cert.PleGateBwdIdeal.nD Cert.PleGateBwdIdeal.τ).loc Cert.PleGateBwdIdeal.main_arg2)
          ∧ r.2.mem ((c.tc : Thread Cert.PleGateBwdIdeal.nD Cert.PleGateBwdIdeal.τ).loc Cert.PleGateBwdIdeal.main_arg3) = m ((c.tc : Thread Cert.PleGateBwdIdeal.nD Cert.PleGateBwdIdeal.τ).loc Cert.PleGateBwdIdeal.main_arg3)
          ∧ r.2.mem ((c.tc : Thread Cert.PleGateBwdIdeal.nD Cert.PleGateBwdIdeal.τ).loc Cert.PleGateBwdIdeal.main_arg4) = m ((c.tc : Thread Cert.PleGateBwdIdeal.nD Cert.PleGateBwdIdeal.τ).loc Cert.PleGateBwdIdeal.main_arg4)
          ∧ r.2.mem ((c.tc : Thread Cert.PleGateBwdIdeal.nD Cert.PleGateBwdIdeal.τ).loc Cert.PleGateBwdIdeal.main_arg5) = m ((c.tc : Thread Cert.PleGateBwdIdeal.nD Cert.PleGateBwdIdeal.τ).loc Cert.PleGateBwdIdeal.main_arg5))
      ∧ θ_run (Cert.PleGateBwdRefIdeal.defs (F := Ideal)) (onTc (τ := Cert.PleGateBwdRefIdeal.τ) (Cert.PleGateBwdRefIdeal.main (F := Ideal))) ⟨m', fun _ => 0, g'⟩ (fun r => ∀ c : Dev Cert.PleGateBwdRefIdeal.nD,
          r.2.mem ((c.tc : Thread Cert.PleGateBwdRefIdeal.nD Cert.PleGateBwdRefIdeal.τ).loc Cert.PleGateBwdRefIdeal.main_v25) = v0 c
          ∧ r.2.mem ((c.tc : Thread Cert.PleGateBwdRefIdeal.nD Cert.PleGateBwdRefIdeal.τ).loc Cert.PleGateBwdRefIdeal.main_arg0) = m' ((c.tc : Thread Cert.PleGateBwdRefIdeal.nD Cert.PleGateBwdRefIdeal.τ).loc Cert.PleGateBwdRefIdeal.main_arg0)
          ∧ r.2.mem ((c.tc : Thread Cert.PleGateBwdRefIdeal.nD Cert.PleGateBwdRefIdeal.τ).loc Cert.PleGateBwdRefIdeal.main_arg1) = m' ((c.tc : Thread Cert.PleGateBwdRefIdeal.nD Cert.PleGateBwdRefIdeal.τ).loc Cert.PleGateBwdRefIdeal.main_arg1)
          ∧ r.2.mem ((c.tc : Thread Cert.PleGateBwdRefIdeal.nD Cert.PleGateBwdRefIdeal.τ).loc Cert.PleGateBwdRefIdeal.main_arg2) = m' ((c.tc : Thread Cert.PleGateBwdRefIdeal.nD Cert.PleGateBwdRefIdeal.τ).loc Cert.PleGateBwdRefIdeal.main_arg2)
          ∧ r.2.mem ((c.tc : Thread Cert.PleGateBwdRefIdeal.nD Cert.PleGateBwdRefIdeal.τ).loc Cert.PleGateBwdRefIdeal.main_arg3) = m' ((c.tc : Thread Cert.PleGateBwdRefIdeal.nD Cert.PleGateBwdRefIdeal.τ).loc Cert.PleGateBwdRefIdeal.main_arg3)
          ∧ r.2.mem ((c.tc : Thread Cert.PleGateBwdRefIdeal.nD Cert.PleGateBwdRefIdeal.τ).loc Cert.PleGateBwdRefIdeal.main_arg4) = m' ((c.tc : Thread Cert.PleGateBwdRefIdeal.nD Cert.PleGateBwdRefIdeal.τ).loc Cert.PleGateBwdRefIdeal.main_arg4)
          ∧ r.2.mem ((c.tc : Thread Cert.PleGateBwdRefIdeal.nD Cert.PleGateBwdRefIdeal.τ).loc Cert.PleGateBwdRefIdeal.main_arg5) = m' ((c.tc : Thread Cert.PleGateBwdRefIdeal.nD Cert.PleGateBwdRefIdeal.τ).loc Cert.PleGateBwdRefIdeal.main_arg5))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v2) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)
      ∧ m' ((c.tc : Thread Cert.PleGateRefIdeal.nD Cert.PleGateRefIdeal.τ).loc Cert.PleGateRefIdeal.main_arg2) = m ((c.tc : Thread Cert.PleGateIdeal.nD Cert.PleGateIdeal.τ).loc Cert.PleGateIdeal.main_arg2)) →
    ∃ (v0 : (c : Dev Cert.PleGateIdeal.nD) → Buf (Elt Ideal) ((c.tc : Thread Cert.PleGateIdeal.nD Cert.PleGateIdeal.τ).loc Cert.PleGateIdeal.main_v3)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v3) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
          ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v3) = v0 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1)
          ∧ r.2.mem ((c.tc : Thread Cert.PleGateRefIdeal.nD Cert.PleGateRefIdeal.τ).loc Cert.PleGateRefIdeal.main_arg2) = m' ((c.tc : Thread Cert.PleGateRefIdeal.nD Cert.PleGateRefIdeal.τ).loc Cert.PleGateRefIdeal.main_arg2))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v2)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v2) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v0) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_InQkv_InQkvIdeal : Prop :=
  True

def algebraic_InQkvIdeal_InQkvRefIdeal [hInQkvIdeal : Cert.InQkvIdeal.Facts] [hInQkvRefIdeal : Cert.InQkvRefIdeal.Facts] : Prop :=
  ∀ (m : (ℓ : Loc Cert.InQkvIdeal.nD Cert.InQkvIdeal.τ Cert.InQkvIdeal.sig) → Buf (Elt Ideal) ℓ) (g : Dev Cert.InQkvIdeal.nD → PrngReg)
    (m' : (ℓ : Loc Cert.InQkvRefIdeal.nD Cert.InQkvRefIdeal.τ Cert.InQkvRefIdeal.sig) → Buf (Elt Ideal) ℓ) (g' : Dev Cert.InQkvRefIdeal.nD → PrngReg), Pre_InQkvIdeal m →
    (∀ c : Dev Cert.InQkvIdeal.nD,
      m' ((c.tc : Thread Cert.InQkvRefIdeal.nD Cert.InQkvRefIdeal.τ).loc Cert.InQkvRefIdeal.main_arg0) = m ((c.tc : Thread Cert.InQkvIdeal.nD Cert.InQkvIdeal.τ).loc Cert.InQkvIdeal.main_arg0)
      ∧ m' ((c.tc : Thread Cert.InQkvRefIdeal.nD Cert.InQkvRefIdeal.τ).loc Cert.InQkvRefIdeal.main_arg1) = m ((c.tc : Thread Cert.InQkvIdeal.nD Cert.InQkvIdeal.τ).loc Cert.InQkvIdeal.main_arg1)) →
    ∃ (v0 : (c : Dev Cert.InQkvIdeal.nD) → Buf (Elt Ideal) ((c.tc : Thread Cert.InQkvIdeal.nD Cert.InQkvIdeal.τ).loc Cert.InQkvIdeal.main_v3)),
      θ_run (Cert.InQkvIdeal.defs (F := Ideal)) (onTc (τ := Cert.InQkvIdeal.τ) (Cert.InQkvIdeal.main (F := Ideal))) ⟨m, fun _ => 0, g⟩ (fun r => ∀ c : Dev Cert.InQkvIdeal.nD,
          r.2.mem ((c.tc : Thread Cert.InQkvIdeal.nD Cert.InQkvIdeal.τ).loc Cert.InQkvIdeal.main_v3) = v0 c
          ∧ r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
          ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ θ_run (Cert.InQkvRefIdeal.defs (F := Ideal)) (onTc (τ := Cert.InQkvRefIdeal.τ) (Cert.InQkvRefIdeal.main (F := Ideal))) ⟨m', fun _ => 0, g'⟩ (fun r => ∀ c : Dev Cert.InQkvRefIdeal.nD,
          r.2.mem ((c.tc : Thread Cert.InQkvRefIdeal.nD Cert.InQkvRefIdeal.τ).loc Cert.InQkvRefIdeal.main_v1) = v0 c
          ∧ r.2.mem ((c.tc : Thread Cert.InQkvRefIdeal.nD Cert.InQkvRefIdeal.τ).loc Cert.InQkvRefIdeal.main_arg0) = m' ((c.tc : Thread Cert.InQkvRefIdeal.nD Cert.InQkvRefIdeal.τ).loc Cert.InQkvRefIdeal.main_arg0)
          ∧ r.2.mem ((c.tc : Thread Cert.InQkvRefIdeal.nD Cert.InQkvRefIdeal.τ).loc Cert.InQkvRefIdeal.main_arg1) = m' ((c.tc : Thread Cert.InQkvRefIdeal.nD Cert.InQkvRefIdeal.τ).loc Cert.InQkvRefIdeal.main_arg1))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v3)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v3) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v2) = v0 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1))

def preserves_InBa_InBaIdeal : Prop :=
  True

def algebraic_InBaIdeal_InBaRefIdeal [hInBaIdeal : Cert.InBaIdeal.Facts] [hInBaRefIdeal : Cert.InBaRefIdeal.Facts] : Prop :=
  ∀ (m : (ℓ : Loc Cert.InBaIdeal.nD Cert.InBaIdeal.τ Cert.InBaIdeal.sig) → Buf (Elt Ideal) ℓ) (g : Dev Cert.InBaIdeal.nD → PrngReg)
    (m' : (ℓ : Loc Cert.InBaRefIdeal.nD Cert.InBaRefIdeal.τ Cert.InBaRefIdeal.sig) → Buf (Elt Ideal) ℓ) (g' : Dev Cert.InBaRefIdeal.nD → PrngReg), Pre_InBaIdeal m →
    (∀ c : Dev Cert.InBaIdeal.nD,
      m' ((c.tc : Thread Cert.InBaRefIdeal.nD Cert.InBaRefIdeal.τ).loc Cert.InBaRefIdeal.main_arg0) = m ((c.tc : Thread Cert.InBaIdeal.nD Cert.InBaIdeal.τ).loc Cert.InBaIdeal.main_arg0)
      ∧ m' ((c.tc : Thread Cert.InBaRefIdeal.nD Cert.InBaRefIdeal.τ).loc Cert.InBaRefIdeal.main_arg1) = m ((c.tc : Thread Cert.InBaIdeal.nD Cert.InBaIdeal.τ).loc Cert.InBaIdeal.main_arg1)) →
    ∃ (v0 : (c : Dev Cert.InBaIdeal.nD) → Buf (Elt Ideal) ((c.tc : Thread Cert.InBaIdeal.nD Cert.InBaIdeal.τ).loc Cert.InBaIdeal.main_v2)),
      θ_run (Cert.InBaIdeal.defs (F := Ideal)) (onTc (τ := Cert.InBaIdeal.τ) (Cert.InBaIdeal.main (F := Ideal))) ⟨m, fun _ => 0, g⟩ (fun r => ∀ c : Dev Cert.InBaIdeal.nD,
          r.2.mem ((c.tc : Thread Cert.InBaIdeal.nD Cert.InBaIdeal.τ).loc Cert.InBaIdeal.main_v2) = v0 c
          ∧ r.2.mem ((c.tc : Thread Cert.InBaIdeal.nD Cert.InBaIdeal.τ).loc Cert.InBaIdeal.main_arg0) = m ((c.tc : Thread Cert.InBaIdeal.nD Cert.InBaIdeal.τ).loc Cert.InBaIdeal.main_arg0)
          ∧ r.2.mem ((c.tc : Thread Cert.InBaIdeal.nD Cert.InBaIdeal.τ).loc Cert.InBaIdeal.main_arg1) = m ((c.tc : Thread Cert.InBaIdeal.nD Cert.InBaIdeal.τ).loc Cert.InBaIdeal.main_arg1))
      ∧ θ_run (Cert.InBaRefIdeal.defs (F := Ideal)) (onTc (τ := Cert.InBaRefIdeal.τ) (Cert.InBaRefIdeal.main (F := Ideal))) ⟨m', fun _ => 0, g'⟩ (fun r => ∀ c : Dev Cert.InBaRefIdeal.nD,
          r.2.mem ((c.tc : Thread Cert.InBaRefIdeal.nD Cert.InBaRefIdeal.τ).loc Cert.InBaRefIdeal.main_v0) = v0 c
          ∧ r.2.mem ((c.tc : Thread Cert.InBaRefIdeal.nD Cert.InBaRefIdeal.τ).loc Cert.InBaRefIdeal.main_arg0) = m' ((c.tc : Thread Cert.InBaRefIdeal.nD Cert.InBaRefIdeal.τ).loc Cert.InBaRefIdeal.main_arg0)
          ∧ r.2.mem ((c.tc : Thread Cert.InBaRefIdeal.nD Cert.InBaRefIdeal.τ).loc Cert.InBaRefIdeal.main_arg1) = m' ((c.tc : Thread Cert.InBaRefIdeal.nD Cert.InBaRefIdeal.τ).loc Cert.InBaRefIdeal.main_arg1))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)
      ∧ m' ((c.tc : Thread Cert.DwQkvRefIdeal.nD Cert.DwQkvRefIdeal.τ).loc Cert.DwQkvRefIdeal.main_arg2) = m ((c.tc : Thread Cert.DwQkvIdeal.nD Cert.DwQkvIdeal.τ).loc Cert.DwQkvIdeal.main_arg2)) →
    ∃ (v0 : (c : Dev Cert.DwQkvIdeal.nD) → Buf (Elt Ideal) ((c.tc : Thread Cert.DwQkvIdeal.nD Cert.DwQkvIdeal.τ).loc Cert.DwQkvIdeal.main_v2)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v2) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v2) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1)
          ∧ r.2.mem ((c.tc : Thread Cert.DwQkvRefIdeal.nD Cert.DwQkvRefIdeal.τ).loc Cert.DwQkvRefIdeal.main_arg2) = m' ((c.tc : Thread Cert.DwQkvRefIdeal.nD Cert.DwQkvRefIdeal.τ).loc Cert.DwQkvRefIdeal.main_arg2))

def preserves_DwZ_DwZIdeal : Prop :=
  True

def algebraic_DwZIdeal_DwZRefIdeal [hDwZIdeal : Cert.DwZIdeal.Facts] [hDwZRefIdeal : Cert.DwZRefIdeal.Facts] : Prop :=
  ∀ (m : (ℓ : Loc Cert.DwZIdeal.nD Cert.DwZIdeal.τ Cert.DwZIdeal.sig) → Buf (Elt Ideal) ℓ) (g : Dev Cert.DwZIdeal.nD → PrngReg)
    (m' : (ℓ : Loc Cert.DwZRefIdeal.nD Cert.DwZRefIdeal.τ Cert.DwZRefIdeal.sig) → Buf (Elt Ideal) ℓ) (g' : Dev Cert.DwZRefIdeal.nD → PrngReg), Pre_DwZIdeal m →
    (∀ c : Dev Cert.DwZIdeal.nD,
      m' ((c.tc : Thread Cert.DwZRefIdeal.nD Cert.DwZRefIdeal.τ).loc Cert.DwZRefIdeal.main_arg0) = m ((c.tc : Thread Cert.DwZIdeal.nD Cert.DwZIdeal.τ).loc Cert.DwZIdeal.main_arg0)
      ∧ m' ((c.tc : Thread Cert.DwZRefIdeal.nD Cert.DwZRefIdeal.τ).loc Cert.DwZRefIdeal.main_arg1) = m ((c.tc : Thread Cert.DwZIdeal.nD Cert.DwZIdeal.τ).loc Cert.DwZIdeal.main_arg1)
      ∧ m' ((c.tc : Thread Cert.DwZRefIdeal.nD Cert.DwZRefIdeal.τ).loc Cert.DwZRefIdeal.main_arg2) = m ((c.tc : Thread Cert.DwZIdeal.nD Cert.DwZIdeal.τ).loc Cert.DwZIdeal.main_arg2)) →
    ∃ (v0 : (c : Dev Cert.DwZIdeal.nD) → Buf (Elt Ideal) ((c.tc : Thread Cert.DwZIdeal.nD Cert.DwZIdeal.τ).loc Cert.DwZIdeal.main_v2)),
      θ_run (Cert.DwZIdeal.defs (F := Ideal)) (onTc (τ := Cert.DwZIdeal.τ) (Cert.DwZIdeal.main (F := Ideal))) ⟨m, fun _ => 0, g⟩ (fun r => ∀ c : Dev Cert.DwZIdeal.nD,
          r.2.mem ((c.tc : Thread Cert.DwZIdeal.nD Cert.DwZIdeal.τ).loc Cert.DwZIdeal.main_v2) = v0 c
          ∧ r.2.mem ((c.tc : Thread Cert.DwZIdeal.nD Cert.DwZIdeal.τ).loc Cert.DwZIdeal.main_arg0) = m ((c.tc : Thread Cert.DwZIdeal.nD Cert.DwZIdeal.τ).loc Cert.DwZIdeal.main_arg0)
          ∧ r.2.mem ((c.tc : Thread Cert.DwZIdeal.nD Cert.DwZIdeal.τ).loc Cert.DwZIdeal.main_arg1) = m ((c.tc : Thread Cert.DwZIdeal.nD Cert.DwZIdeal.τ).loc Cert.DwZIdeal.main_arg1)
          ∧ r.2.mem ((c.tc : Thread Cert.DwZIdeal.nD Cert.DwZIdeal.τ).loc Cert.DwZIdeal.main_arg2) = m ((c.tc : Thread Cert.DwZIdeal.nD Cert.DwZIdeal.τ).loc Cert.DwZIdeal.main_arg2))
      ∧ θ_run (Cert.DwZRefIdeal.defs (F := Ideal)) (onTc (τ := Cert.DwZRefIdeal.τ) (Cert.DwZRefIdeal.main (F := Ideal))) ⟨m', fun _ => 0, g'⟩ (fun r => ∀ c : Dev Cert.DwZRefIdeal.nD,
          r.2.mem ((c.tc : Thread Cert.DwZRefIdeal.nD Cert.DwZRefIdeal.τ).loc Cert.DwZRefIdeal.main_v2) = v0 c
          ∧ r.2.mem ((c.tc : Thread Cert.DwZRefIdeal.nD Cert.DwZRefIdeal.τ).loc Cert.DwZRefIdeal.main_arg0) = m' ((c.tc : Thread Cert.DwZRefIdeal.nD Cert.DwZRefIdeal.τ).loc Cert.DwZRefIdeal.main_arg0)
          ∧ r.2.mem ((c.tc : Thread Cert.DwZRefIdeal.nD Cert.DwZRefIdeal.τ).loc Cert.DwZRefIdeal.main_arg1) = m' ((c.tc : Thread Cert.DwZRefIdeal.nD Cert.DwZRefIdeal.τ).loc Cert.DwZRefIdeal.main_arg1)
          ∧ r.2.mem ((c.tc : Thread Cert.DwZRefIdeal.nD Cert.DwZRefIdeal.τ).loc Cert.DwZRefIdeal.main_arg2) = m' ((c.tc : Thread Cert.DwZRefIdeal.nD Cert.DwZRefIdeal.τ).loc Cert.DwZRefIdeal.main_arg2))

def preserves_DwBa_DwBaIdeal : Prop :=
  True

def algebraic_DwBaIdeal_DwBaRefIdeal [hDwBaIdeal : Cert.DwBaIdeal.Facts] [hDwBaRefIdeal : Cert.DwBaRefIdeal.Facts] : Prop :=
  ∀ (m : (ℓ : Loc Cert.DwBaIdeal.nD Cert.DwBaIdeal.τ Cert.DwBaIdeal.sig) → Buf (Elt Ideal) ℓ) (g : Dev Cert.DwBaIdeal.nD → PrngReg)
    (m' : (ℓ : Loc Cert.DwBaRefIdeal.nD Cert.DwBaRefIdeal.τ Cert.DwBaRefIdeal.sig) → Buf (Elt Ideal) ℓ) (g' : Dev Cert.DwBaRefIdeal.nD → PrngReg), Pre_DwBaIdeal m →
    (∀ c : Dev Cert.DwBaIdeal.nD,
      m' ((c.tc : Thread Cert.DwBaRefIdeal.nD Cert.DwBaRefIdeal.τ).loc Cert.DwBaRefIdeal.main_arg0) = m ((c.tc : Thread Cert.DwBaIdeal.nD Cert.DwBaIdeal.τ).loc Cert.DwBaIdeal.main_arg0)
      ∧ m' ((c.tc : Thread Cert.DwBaRefIdeal.nD Cert.DwBaRefIdeal.τ).loc Cert.DwBaRefIdeal.main_arg1) = m ((c.tc : Thread Cert.DwBaIdeal.nD Cert.DwBaIdeal.τ).loc Cert.DwBaIdeal.main_arg1)
      ∧ m' ((c.tc : Thread Cert.DwBaRefIdeal.nD Cert.DwBaRefIdeal.τ).loc Cert.DwBaRefIdeal.main_arg2) = m ((c.tc : Thread Cert.DwBaIdeal.nD Cert.DwBaIdeal.τ).loc Cert.DwBaIdeal.main_arg2)) →
    ∃ (v0 : (c : Dev Cert.DwBaIdeal.nD) → Buf (Elt Ideal) ((c.tc : Thread Cert.DwBaIdeal.nD Cert.DwBaIdeal.τ).loc Cert.DwBaIdeal.main_v2)),
      θ_run (Cert.DwBaIdeal.defs (F := Ideal)) (onTc (τ := Cert.DwBaIdeal.τ) (Cert.DwBaIdeal.main (F := Ideal))) ⟨m, fun _ => 0, g⟩ (fun r => ∀ c : Dev Cert.DwBaIdeal.nD,
          r.2.mem ((c.tc : Thread Cert.DwBaIdeal.nD Cert.DwBaIdeal.τ).loc Cert.DwBaIdeal.main_v2) = v0 c
          ∧ r.2.mem ((c.tc : Thread Cert.DwBaIdeal.nD Cert.DwBaIdeal.τ).loc Cert.DwBaIdeal.main_arg0) = m ((c.tc : Thread Cert.DwBaIdeal.nD Cert.DwBaIdeal.τ).loc Cert.DwBaIdeal.main_arg0)
          ∧ r.2.mem ((c.tc : Thread Cert.DwBaIdeal.nD Cert.DwBaIdeal.τ).loc Cert.DwBaIdeal.main_arg1) = m ((c.tc : Thread Cert.DwBaIdeal.nD Cert.DwBaIdeal.τ).loc Cert.DwBaIdeal.main_arg1)
          ∧ r.2.mem ((c.tc : Thread Cert.DwBaIdeal.nD Cert.DwBaIdeal.τ).loc Cert.DwBaIdeal.main_arg2) = m ((c.tc : Thread Cert.DwBaIdeal.nD Cert.DwBaIdeal.τ).loc Cert.DwBaIdeal.main_arg2))
      ∧ θ_run (Cert.DwBaRefIdeal.defs (F := Ideal)) (onTc (τ := Cert.DwBaRefIdeal.τ) (Cert.DwBaRefIdeal.main (F := Ideal))) ⟨m', fun _ => 0, g'⟩ (fun r => ∀ c : Dev Cert.DwBaRefIdeal.nD,
          r.2.mem ((c.tc : Thread Cert.DwBaRefIdeal.nD Cert.DwBaRefIdeal.τ).loc Cert.DwBaRefIdeal.main_v2) = v0 c
          ∧ r.2.mem ((c.tc : Thread Cert.DwBaRefIdeal.nD Cert.DwBaRefIdeal.τ).loc Cert.DwBaRefIdeal.main_arg0) = m' ((c.tc : Thread Cert.DwBaRefIdeal.nD Cert.DwBaRefIdeal.τ).loc Cert.DwBaRefIdeal.main_arg0)
          ∧ r.2.mem ((c.tc : Thread Cert.DwBaRefIdeal.nD Cert.DwBaRefIdeal.τ).loc Cert.DwBaRefIdeal.main_arg1) = m' ((c.tc : Thread Cert.DwBaRefIdeal.nD Cert.DwBaRefIdeal.τ).loc Cert.DwBaRefIdeal.main_arg1)
          ∧ r.2.mem ((c.tc : Thread Cert.DwBaRefIdeal.nD Cert.DwBaRefIdeal.τ).loc Cert.DwBaRefIdeal.main_arg2) = m' ((c.tc : Thread Cert.DwBaRefIdeal.nD Cert.DwBaRefIdeal.τ).loc Cert.DwBaRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v3) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_InBaBwd_InBaBwdIdeal : Prop :=
  True

def algebraic_InBaBwdIdeal_InBaBwdRefIdeal [hInBaBwdIdeal : Cert.InBaBwdIdeal.Facts] [hInBaBwdRefIdeal : Cert.InBaBwdRefIdeal.Facts] : Prop :=
  ∀ (m : (ℓ : Loc Cert.InBaBwdIdeal.nD Cert.InBaBwdIdeal.τ Cert.InBaBwdIdeal.sig) → Buf (Elt Ideal) ℓ) (g : Dev Cert.InBaBwdIdeal.nD → PrngReg)
    (m' : (ℓ : Loc Cert.InBaBwdRefIdeal.nD Cert.InBaBwdRefIdeal.τ Cert.InBaBwdRefIdeal.sig) → Buf (Elt Ideal) ℓ) (g' : Dev Cert.InBaBwdRefIdeal.nD → PrngReg), Pre_InBaBwdIdeal m →
    (∀ c : Dev Cert.InBaBwdIdeal.nD,
      m' ((c.tc : Thread Cert.InBaBwdRefIdeal.nD Cert.InBaBwdRefIdeal.τ).loc Cert.InBaBwdRefIdeal.main_arg0) = m ((c.tc : Thread Cert.InBaBwdIdeal.nD Cert.InBaBwdIdeal.τ).loc Cert.InBaBwdIdeal.main_arg0)
      ∧ m' ((c.tc : Thread Cert.InBaBwdRefIdeal.nD Cert.InBaBwdRefIdeal.τ).loc Cert.InBaBwdRefIdeal.main_arg1) = m ((c.tc : Thread Cert.InBaBwdIdeal.nD Cert.InBaBwdIdeal.τ).loc Cert.InBaBwdIdeal.main_arg1)
      ∧ m' ((c.tc : Thread Cert.InBaBwdRefIdeal.nD Cert.InBaBwdRefIdeal.τ).loc Cert.InBaBwdRefIdeal.main_arg2) = m ((c.tc : Thread Cert.InBaBwdIdeal.nD Cert.InBaBwdIdeal.τ).loc Cert.InBaBwdIdeal.main_arg2)
      ∧ m' ((c.tc : Thread Cert.InBaBwdRefIdeal.nD Cert.InBaBwdRefIdeal.τ).loc Cert.InBaBwdRefIdeal.main_arg3) = m ((c.tc : Thread Cert.InBaBwdIdeal.nD Cert.InBaBwdIdeal.τ).loc Cert.InBaBwdIdeal.main_arg3)) →
    ∃ (v0 : (c : Dev Cert.InBaBwdIdeal.nD) → Buf (Elt Ideal) ((c.tc : Thread Cert.InBaBwdIdeal.nD Cert.InBaBwdIdeal.τ).loc Cert.InBaBwdIdeal.main_v2)),
      θ_run (Cert.InBaBwdIdeal.defs (F := Ideal)) (onTc (τ := Cert.InBaBwdIdeal.τ) (Cert.InBaBwdIdeal.main (F := Ideal))) ⟨m, fun _ => 0, g⟩ (fun r => ∀ c : Dev Cert.InBaBwdIdeal.nD,
          r.2.mem ((c.tc : Thread Cert.InBaBwdIdeal.nD Cert.InBaBwdIdeal.τ).loc Cert.InBaBwdIdeal.main_v2) = v0 c
          ∧ r.2.mem ((c.tc : Thread Cert.InBaBwdIdeal.nD Cert.InBaBwdIdeal.τ).loc Cert.InBaBwdIdeal.main_arg0) = m ((c.tc : Thread Cert.InBaBwdIdeal.nD Cert.InBaBwdIdeal.τ).loc Cert.InBaBwdIdeal.main_arg0)
          ∧ r.2.mem ((c.tc : Thread Cert.InBaBwdIdeal.nD Cert.InBaBwdIdeal.τ).loc Cert.InBaBwdIdeal.main_arg1) = m ((c.tc : Thread Cert.InBaBwdIdeal.nD Cert.InBaBwdIdeal.τ).loc Cert.InBaBwdIdeal.main_arg1)
          ∧ r.2.mem ((c.tc : Thread Cert.InBaBwdIdeal.nD Cert.InBaBwdIdeal.τ).loc Cert.InBaBwdIdeal.main_arg2) = m ((c.tc : Thread Cert.InBaBwdIdeal.nD Cert.InBaBwdIdeal.τ).loc Cert.InBaBwdIdeal.main_arg2)
          ∧ r.2.mem ((c.tc : Thread Cert.InBaBwdIdeal.nD Cert.InBaBwdIdeal.τ).loc Cert.InBaBwdIdeal.main_arg3) = m ((c.tc : Thread Cert.InBaBwdIdeal.nD Cert.InBaBwdIdeal.τ).loc Cert.InBaBwdIdeal.main_arg3))
      ∧ θ_run (Cert.InBaBwdRefIdeal.defs (F := Ideal)) (onTc (τ := Cert.InBaBwdRefIdeal.τ) (Cert.InBaBwdRefIdeal.main (F := Ideal))) ⟨m', fun _ => 0, g'⟩ (fun r => ∀ c : Dev Cert.InBaBwdRefIdeal.nD,
          r.2.mem ((c.tc : Thread Cert.InBaBwdRefIdeal.nD Cert.InBaBwdRefIdeal.τ).loc Cert.InBaBwdRefIdeal.main_v6) = v0 c
          ∧ r.2.mem ((c.tc : Thread Cert.InBaBwdRefIdeal.nD Cert.InBaBwdRefIdeal.τ).loc Cert.InBaBwdRefIdeal.main_arg0) = m' ((c.tc : Thread Cert.InBaBwdRefIdeal.nD Cert.InBaBwdRefIdeal.τ).loc Cert.InBaBwdRefIdeal.main_arg0)
          ∧ r.2.mem ((c.tc : Thread Cert.InBaBwdRefIdeal.nD Cert.InBaBwdRefIdeal.τ).loc Cert.InBaBwdRefIdeal.main_arg1) = m' ((c.tc : Thread Cert.InBaBwdRefIdeal.nD Cert.InBaBwdRefIdeal.τ).loc Cert.InBaBwdRefIdeal.main_arg1)
          ∧ r.2.mem ((c.tc : Thread Cert.InBaBwdRefIdeal.nD Cert.InBaBwdRefIdeal.τ).loc Cert.InBaBwdRefIdeal.main_arg2) = m' ((c.tc : Thread Cert.InBaBwdRefIdeal.nD Cert.InBaBwdRefIdeal.τ).loc Cert.InBaBwdRefIdeal.main_arg2)
          ∧ r.2.mem ((c.tc : Thread Cert.InBaBwdRefIdeal.nD Cert.InBaBwdRefIdeal.τ).loc Cert.InBaBwdRefIdeal.main_arg3) = m' ((c.tc : Thread Cert.InBaBwdRefIdeal.nD Cert.InBaBwdRefIdeal.τ).loc Cert.InBaBwdRefIdeal.main_arg3))

def preserves_InZBwd_InZBwdIdeal : Prop :=
  True

def algebraic_InZBwdIdeal_InZBwdRefIdeal [hInZBwdIdeal : Cert.InZBwdIdeal.Facts] [hInZBwdRefIdeal : Cert.InZBwdRefIdeal.Facts] : Prop :=
  ∀ (m : (ℓ : Loc Cert.InZBwdIdeal.nD Cert.InZBwdIdeal.τ Cert.InZBwdIdeal.sig) → Buf (Elt Ideal) ℓ) (g : Dev Cert.InZBwdIdeal.nD → PrngReg)
    (m' : (ℓ : Loc Cert.InZBwdRefIdeal.nD Cert.InZBwdRefIdeal.τ Cert.InZBwdRefIdeal.sig) → Buf (Elt Ideal) ℓ) (g' : Dev Cert.InZBwdRefIdeal.nD → PrngReg), Pre_InZBwdIdeal m →
    (∀ c : Dev Cert.InZBwdIdeal.nD,
      m' ((c.tc : Thread Cert.InZBwdRefIdeal.nD Cert.InZBwdRefIdeal.τ).loc Cert.InZBwdRefIdeal.main_arg0) = m ((c.tc : Thread Cert.InZBwdIdeal.nD Cert.InZBwdIdeal.τ).loc Cert.InZBwdIdeal.main_arg0)
      ∧ m' ((c.tc : Thread Cert.InZBwdRefIdeal.nD Cert.InZBwdRefIdeal.τ).loc Cert.InZBwdRefIdeal.main_arg1) = m ((c.tc : Thread Cert.InZBwdIdeal.nD Cert.InZBwdIdeal.τ).loc Cert.InZBwdIdeal.main_arg1)
      ∧ m' ((c.tc : Thread Cert.InZBwdRefIdeal.nD Cert.InZBwdRefIdeal.τ).loc Cert.InZBwdRefIdeal.main_arg2) = m ((c.tc : Thread Cert.InZBwdIdeal.nD Cert.InZBwdIdeal.τ).loc Cert.InZBwdIdeal.main_arg2)
      ∧ m' ((c.tc : Thread Cert.InZBwdRefIdeal.nD Cert.InZBwdRefIdeal.τ).loc Cert.InZBwdRefIdeal.main_arg3) = m ((c.tc : Thread Cert.InZBwdIdeal.nD Cert.InZBwdIdeal.τ).loc Cert.InZBwdIdeal.main_arg3)) →
    ∃ (v0 : (c : Dev Cert.InZBwdIdeal.nD) → Buf (Elt Ideal) ((c.tc : Thread Cert.InZBwdIdeal.nD Cert.InZBwdIdeal.τ).loc Cert.InZBwdIdeal.main_v2)),
      θ_run (Cert.InZBwdIdeal.defs (F := Ideal)) (onTc (τ := Cert.InZBwdIdeal.τ) (Cert.InZBwdIdeal.main (F := Ideal))) ⟨m, fun _ => 0, g⟩ (fun r => ∀ c : Dev Cert.InZBwdIdeal.nD,
          r.2.mem ((c.tc : Thread Cert.InZBwdIdeal.nD Cert.InZBwdIdeal.τ).loc Cert.InZBwdIdeal.main_v2) = v0 c
          ∧ r.2.mem ((c.tc : Thread Cert.InZBwdIdeal.nD Cert.InZBwdIdeal.τ).loc Cert.InZBwdIdeal.main_arg0) = m ((c.tc : Thread Cert.InZBwdIdeal.nD Cert.InZBwdIdeal.τ).loc Cert.InZBwdIdeal.main_arg0)
          ∧ r.2.mem ((c.tc : Thread Cert.InZBwdIdeal.nD Cert.InZBwdIdeal.τ).loc Cert.InZBwdIdeal.main_arg1) = m ((c.tc : Thread Cert.InZBwdIdeal.nD Cert.InZBwdIdeal.τ).loc Cert.InZBwdIdeal.main_arg1)
          ∧ r.2.mem ((c.tc : Thread Cert.InZBwdIdeal.nD Cert.InZBwdIdeal.τ).loc Cert.InZBwdIdeal.main_arg2) = m ((c.tc : Thread Cert.InZBwdIdeal.nD Cert.InZBwdIdeal.τ).loc Cert.InZBwdIdeal.main_arg2)
          ∧ r.2.mem ((c.tc : Thread Cert.InZBwdIdeal.nD Cert.InZBwdIdeal.τ).loc Cert.InZBwdIdeal.main_arg3) = m ((c.tc : Thread Cert.InZBwdIdeal.nD Cert.InZBwdIdeal.τ).loc Cert.InZBwdIdeal.main_arg3))
      ∧ θ_run (Cert.InZBwdRefIdeal.defs (F := Ideal)) (onTc (τ := Cert.InZBwdRefIdeal.τ) (Cert.InZBwdRefIdeal.main (F := Ideal))) ⟨m', fun _ => 0, g'⟩ (fun r => ∀ c : Dev Cert.InZBwdRefIdeal.nD,
          r.2.mem ((c.tc : Thread Cert.InZBwdRefIdeal.nD Cert.InZBwdRefIdeal.τ).loc Cert.InZBwdRefIdeal.main_v2) = v0 c
          ∧ r.2.mem ((c.tc : Thread Cert.InZBwdRefIdeal.nD Cert.InZBwdRefIdeal.τ).loc Cert.InZBwdRefIdeal.main_arg0) = m' ((c.tc : Thread Cert.InZBwdRefIdeal.nD Cert.InZBwdRefIdeal.τ).loc Cert.InZBwdRefIdeal.main_arg0)
          ∧ r.2.mem ((c.tc : Thread Cert.InZBwdRefIdeal.nD Cert.InZBwdRefIdeal.τ).loc Cert.InZBwdRefIdeal.main_arg1) = m' ((c.tc : Thread Cert.InZBwdRefIdeal.nD Cert.InZBwdRefIdeal.τ).loc Cert.InZBwdRefIdeal.main_arg1)
          ∧ r.2.mem ((c.tc : Thread Cert.InZBwdRefIdeal.nD Cert.InZBwdRefIdeal.τ).loc Cert.InZBwdRefIdeal.main_arg2) = m' ((c.tc : Thread Cert.InZBwdRefIdeal.nD Cert.InZBwdRefIdeal.τ).loc Cert.InZBwdRefIdeal.main_arg2)
          ∧ r.2.mem ((c.tc : Thread Cert.InZBwdRefIdeal.nD Cert.InZBwdRefIdeal.τ).loc Cert.InZBwdRefIdeal.main_arg3) = m' ((c.tc : Thread Cert.InZBwdRefIdeal.nD Cert.InZBwdRefIdeal.τ).loc Cert.InZBwdRefIdeal.main_arg3))

def preserves_AdLn_AdLnIdeal : Prop :=
  True

def algebraic_AdLnIdeal_AdLnRefIdeal [hAdLnIdeal : Cert.AdLnIdeal.Facts] [hAdLnRefIdeal : Cert.AdLnRefIdeal.Facts] : Prop :=
  ∀ (m : (ℓ : Loc Cert.AdLnIdeal.nD Cert.AdLnIdeal.τ Cert.AdLnIdeal.sig) → Buf (Elt Ideal) ℓ) (g : Dev Cert.AdLnIdeal.nD → PrngReg)
    (m' : (ℓ : Loc Cert.AdLnRefIdeal.nD Cert.AdLnRefIdeal.τ Cert.AdLnRefIdeal.sig) → Buf (Elt Ideal) ℓ) (g' : Dev Cert.AdLnRefIdeal.nD → PrngReg), Pre_AdLnIdeal m →
    (∀ c : Dev Cert.AdLnIdeal.nD,
      m' ((c.tc : Thread Cert.AdLnRefIdeal.nD Cert.AdLnRefIdeal.τ).loc Cert.AdLnRefIdeal.main_arg0) = m ((c.tc : Thread Cert.AdLnIdeal.nD Cert.AdLnIdeal.τ).loc Cert.AdLnIdeal.main_arg0)
      ∧ m' ((c.tc : Thread Cert.AdLnRefIdeal.nD Cert.AdLnRefIdeal.τ).loc Cert.AdLnRefIdeal.main_arg1) = m ((c.tc : Thread Cert.AdLnIdeal.nD Cert.AdLnIdeal.τ).loc Cert.AdLnIdeal.main_arg1)
      ∧ m' ((c.tc : Thread Cert.AdLnRefIdeal.nD Cert.AdLnRefIdeal.τ).loc Cert.AdLnRefIdeal.main_arg2) = m ((c.tc : Thread Cert.AdLnIdeal.nD Cert.AdLnIdeal.τ).loc Cert.AdLnIdeal.main_arg2)
      ∧ m' ((c.tc : Thread Cert.AdLnRefIdeal.nD Cert.AdLnRefIdeal.τ).loc Cert.AdLnRefIdeal.main_arg3) = m ((c.tc : Thread Cert.AdLnIdeal.nD Cert.AdLnIdeal.τ).loc Cert.AdLnIdeal.main_arg3)) →
    ∃ (v0 : (c : Dev Cert.AdLnIdeal.nD) → Buf (Elt Ideal) ((c.tc : Thread Cert.AdLnIdeal.nD Cert.AdLnIdeal.τ).loc Cert.AdLnIdeal.main_v0_0)) (v1 : (c : Dev Cert.AdLnIdeal.nD) → Buf (Elt Ideal) ((c.tc : Thread Cert.AdLnIdeal.nD Cert.AdLnIdeal.τ).loc Cert.AdLnIdeal.main_v0_1)) (v2 : (c : Dev Cert.AdLnIdeal.nD) → Buf (Elt Ideal) ((c.tc : Thread Cert.AdLnIdeal.nD Cert.AdLnIdeal.τ).loc Cert.AdLnIdeal.main_v0_2)),
      θ_run (Cert.AdLnIdeal.defs (F := Ideal)) (onTc (τ := Cert.AdLnIdeal.τ) (Cert.AdLnIdeal.main (F := Ideal))) ⟨m, fun _ => 0, g⟩ (fun r => ∀ c : Dev Cert.AdLnIdeal.nD,
          r.2.mem ((c.tc : Thread Cert.AdLnIdeal.nD Cert.AdLnIdeal.τ).loc Cert.AdLnIdeal.main_v0_0) = v0 c
          ∧ r.2.mem ((c.tc : Thread Cert.AdLnIdeal.nD Cert.AdLnIdeal.τ).loc Cert.AdLnIdeal.main_v0_1) = v1 c
          ∧ r.2.mem ((c.tc : Thread Cert.AdLnIdeal.nD Cert.AdLnIdeal.τ).loc Cert.AdLnIdeal.main_v0_2) = v2 c
          ∧ r.2.mem ((c.tc : Thread Cert.AdLnIdeal.nD Cert.AdLnIdeal.τ).loc Cert.AdLnIdeal.main_arg0) = m ((c.tc : Thread Cert.AdLnIdeal.nD Cert.AdLnIdeal.τ).loc Cert.AdLnIdeal.main_arg0)
          ∧ r.2.mem ((c.tc : Thread Cert.AdLnIdeal.nD Cert.AdLnIdeal.τ).loc Cert.AdLnIdeal.main_arg1) = m ((c.tc : Thread Cert.AdLnIdeal.nD Cert.AdLnIdeal.τ).loc Cert.AdLnIdeal.main_arg1)
          ∧ r.2.mem ((c.tc : Thread Cert.AdLnIdeal.nD Cert.AdLnIdeal.τ).loc Cert.AdLnIdeal.main_arg2) = m ((c.tc : Thread Cert.AdLnIdeal.nD Cert.AdLnIdeal.τ).loc Cert.AdLnIdeal.main_arg2)
          ∧ r.2.mem ((c.tc : Thread Cert.AdLnIdeal.nD Cert.AdLnIdeal.τ).loc Cert.AdLnIdeal.main_arg3) = m ((c.tc : Thread Cert.AdLnIdeal.nD Cert.AdLnIdeal.τ).loc Cert.AdLnIdeal.main_arg3))
      ∧ θ_run (Cert.AdLnRefIdeal.defs (F := Ideal)) (onTc (τ := Cert.AdLnRefIdeal.τ) (Cert.AdLnRefIdeal.main (F := Ideal))) ⟨m', fun _ => 0, g'⟩ (fun r => ∀ c : Dev Cert.AdLnRefIdeal.nD,
          r.2.mem ((c.tc : Thread Cert.AdLnRefIdeal.nD Cert.AdLnRefIdeal.τ).loc Cert.AdLnRefIdeal.main_v23) = v0 c
          ∧ r.2.mem ((c.tc : Thread Cert.AdLnRefIdeal.nD Cert.AdLnRefIdeal.τ).loc Cert.AdLnRefIdeal.main_v4) = v1 c
          ∧ r.2.mem ((c.tc : Thread Cert.AdLnRefIdeal.nD Cert.AdLnRefIdeal.τ).loc Cert.AdLnRefIdeal.main_v10) = v2 c
          ∧ r.2.mem ((c.tc : Thread Cert.AdLnRefIdeal.nD Cert.AdLnRefIdeal.τ).loc Cert.AdLnRefIdeal.main_arg0) = m' ((c.tc : Thread Cert.AdLnRefIdeal.nD Cert.AdLnRefIdeal.τ).loc Cert.AdLnRefIdeal.main_arg0)
          ∧ r.2.mem ((c.tc : Thread Cert.AdLnRefIdeal.nD Cert.AdLnRefIdeal.τ).loc Cert.AdLnRefIdeal.main_arg1) = m' ((c.tc : Thread Cert.AdLnRefIdeal.nD Cert.AdLnRefIdeal.τ).loc Cert.AdLnRefIdeal.main_arg1)
          ∧ r.2.mem ((c.tc : Thread Cert.AdLnRefIdeal.nD Cert.AdLnRefIdeal.τ).loc Cert.AdLnRefIdeal.main_arg2) = m' ((c.tc : Thread Cert.AdLnRefIdeal.nD Cert.AdLnRefIdeal.τ).loc Cert.AdLnRefIdeal.main_arg2)
          ∧ r.2.mem ((c.tc : Thread Cert.AdLnRefIdeal.nD Cert.AdLnRefIdeal.τ).loc Cert.AdLnRefIdeal.main_arg3) = m' ((c.tc : Thread Cert.AdLnRefIdeal.nD Cert.AdLnRefIdeal.τ).loc Cert.AdLnRefIdeal.main_arg3))

def preserves_AdPoolW_AdPoolWIdeal : Prop :=
  True

def algebraic_AdPoolWIdeal_AdPoolWRefIdeal [hAdPoolWIdeal : Cert.AdPoolWIdeal.Facts] [hAdPoolWRefIdeal : Cert.AdPoolWRefIdeal.Facts] : Prop :=
  ∀ (m : (ℓ : Loc Cert.AdPoolWIdeal.nD Cert.AdPoolWIdeal.τ Cert.AdPoolWIdeal.sig) → Buf (Elt Ideal) ℓ) (g : Dev Cert.AdPoolWIdeal.nD → PrngReg)
    (m' : (ℓ : Loc Cert.AdPoolWRefIdeal.nD Cert.AdPoolWRefIdeal.τ Cert.AdPoolWRefIdeal.sig) → Buf (Elt Ideal) ℓ) (g' : Dev Cert.AdPoolWRefIdeal.nD → PrngReg), Pre_AdPoolWIdeal m →
    (∀ c : Dev Cert.AdPoolWIdeal.nD,
      m' ((c.tc : Thread Cert.AdPoolWRefIdeal.nD Cert.AdPoolWRefIdeal.τ).loc Cert.AdPoolWRefIdeal.main_arg0) = m ((c.tc : Thread Cert.AdPoolWIdeal.nD Cert.AdPoolWIdeal.τ).loc Cert.AdPoolWIdeal.main_arg0)
      ∧ m' ((c.tc : Thread Cert.AdPoolWRefIdeal.nD Cert.AdPoolWRefIdeal.τ).loc Cert.AdPoolWRefIdeal.main_arg1) = m ((c.tc : Thread Cert.AdPoolWIdeal.nD Cert.AdPoolWIdeal.τ).loc Cert.AdPoolWIdeal.main_arg1)
      ∧ m' ((c.tc : Thread Cert.AdPoolWRefIdeal.nD Cert.AdPoolWRefIdeal.τ).loc Cert.AdPoolWRefIdeal.main_arg2) = m ((c.tc : Thread Cert.AdPoolWIdeal.nD Cert.AdPoolWIdeal.τ).loc Cert.AdPoolWIdeal.main_arg2)
      ∧ m' ((c.tc : Thread Cert.AdPoolWRefIdeal.nD Cert.AdPoolWRefIdeal.τ).loc Cert.AdPoolWRefIdeal.main_arg3) = m ((c.tc : Thread Cert.AdPoolWIdeal.nD Cert.AdPoolWIdeal.τ).loc Cert.AdPoolWIdeal.main_arg3)) →
    ∃ (v0 : (c : Dev Cert.AdPoolWIdeal.nD) → Buf (Elt Ideal) ((c.tc : Thread Cert.AdPoolWIdeal.nD Cert.AdPoolWIdeal.τ).loc Cert.AdPoolWIdeal.main_v0_0)) (v1 : (c : Dev Cert.AdPoolWIdeal.nD) → Buf (Elt Ideal) ((c.tc : Thread Cert.AdPoolWIdeal.nD Cert.AdPoolWIdeal.τ).loc Cert.AdPoolWIdeal.main_v0_1)) (v2 : (c : Dev Cert.AdPoolWIdeal.nD) → Buf (Elt Ideal) ((c.tc : Thread Cert.AdPoolWIdeal.nD Cert.AdPoolWIdeal.τ).loc Cert.AdPoolWIdeal.main_v0_2)),
      θ_run (Cert.AdPoolWIdeal.defs (F := Ideal)) (onTc (τ := Cert.AdPoolWIdeal.τ) (Cert.AdPoolWIdeal.main (F := Ideal))) ⟨m, fun _ => 0, g⟩ (fun r => ∀ c : Dev Cert.AdPoolWIdeal.nD,
          r.2.mem ((c.tc : Thread Cert.AdPoolWIdeal.nD Cert.AdPoolWIdeal.τ).loc Cert.AdPoolWIdeal.main_v0_0) = v0 c
          ∧ r.2.mem ((c.tc : Thread Cert.AdPoolWIdeal.nD Cert.AdPoolWIdeal.τ).loc Cert.AdPoolWIdeal.main_v0_1) = v1 c
          ∧ r.2.mem ((c.tc : Thread Cert.AdPoolWIdeal.nD Cert.AdPoolWIdeal.τ).loc Cert.AdPoolWIdeal.main_v0_2) = v2 c
          ∧ r.2.mem ((c.tc : Thread Cert.AdPoolWIdeal.nD Cert.AdPoolWIdeal.τ).loc Cert.AdPoolWIdeal.main_arg0) = m ((c.tc : Thread Cert.AdPoolWIdeal.nD Cert.AdPoolWIdeal.τ).loc Cert.AdPoolWIdeal.main_arg0)
          ∧ r.2.mem ((c.tc : Thread Cert.AdPoolWIdeal.nD Cert.AdPoolWIdeal.τ).loc Cert.AdPoolWIdeal.main_arg1) = m ((c.tc : Thread Cert.AdPoolWIdeal.nD Cert.AdPoolWIdeal.τ).loc Cert.AdPoolWIdeal.main_arg1)
          ∧ r.2.mem ((c.tc : Thread Cert.AdPoolWIdeal.nD Cert.AdPoolWIdeal.τ).loc Cert.AdPoolWIdeal.main_arg2) = m ((c.tc : Thread Cert.AdPoolWIdeal.nD Cert.AdPoolWIdeal.τ).loc Cert.AdPoolWIdeal.main_arg2)
          ∧ r.2.mem ((c.tc : Thread Cert.AdPoolWIdeal.nD Cert.AdPoolWIdeal.τ).loc Cert.AdPoolWIdeal.main_arg3) = m ((c.tc : Thread Cert.AdPoolWIdeal.nD Cert.AdPoolWIdeal.τ).loc Cert.AdPoolWIdeal.main_arg3))
      ∧ θ_run (Cert.AdPoolWRefIdeal.defs (F := Ideal)) (onTc (τ := Cert.AdPoolWRefIdeal.τ) (Cert.AdPoolWRefIdeal.main (F := Ideal))) ⟨m', fun _ => 0, g'⟩ (fun r => ∀ c : Dev Cert.AdPoolWRefIdeal.nD,
          r.2.mem ((c.tc : Thread Cert.AdPoolWRefIdeal.nD Cert.AdPoolWRefIdeal.τ).loc Cert.AdPoolWRefIdeal.main_v23) = v0 c
          ∧ r.2.mem ((c.tc : Thread Cert.AdPoolWRefIdeal.nD Cert.AdPoolWRefIdeal.τ).loc Cert.AdPoolWRefIdeal.main_v4) = v1 c
          ∧ r.2.mem ((c.tc : Thread Cert.AdPoolWRefIdeal.nD Cert.AdPoolWRefIdeal.τ).loc Cert.AdPoolWRefIdeal.main_v10) = v2 c
          ∧ r.2.mem ((c.tc : Thread Cert.AdPoolWRefIdeal.nD Cert.AdPoolWRefIdeal.τ).loc Cert.AdPoolWRefIdeal.main_arg0) = m' ((c.tc : Thread Cert.AdPoolWRefIdeal.nD Cert.AdPoolWRefIdeal.τ).loc Cert.AdPoolWRefIdeal.main_arg0)
          ∧ r.2.mem ((c.tc : Thread Cert.AdPoolWRefIdeal.nD Cert.AdPoolWRefIdeal.τ).loc Cert.AdPoolWRefIdeal.main_arg1) = m' ((c.tc : Thread Cert.AdPoolWRefIdeal.nD Cert.AdPoolWRefIdeal.τ).loc Cert.AdPoolWRefIdeal.main_arg1)
          ∧ r.2.mem ((c.tc : Thread Cert.AdPoolWRefIdeal.nD Cert.AdPoolWRefIdeal.τ).loc Cert.AdPoolWRefIdeal.main_arg2) = m' ((c.tc : Thread Cert.AdPoolWRefIdeal.nD Cert.AdPoolWRefIdeal.τ).loc Cert.AdPoolWRefIdeal.main_arg2)
          ∧ r.2.mem ((c.tc : Thread Cert.AdPoolWRefIdeal.nD Cert.AdPoolWRefIdeal.τ).loc Cert.AdPoolWRefIdeal.main_arg3) = m' ((c.tc : Thread Cert.AdPoolWRefIdeal.nD Cert.AdPoolWRefIdeal.τ).loc Cert.AdPoolWRefIdeal.main_arg3))

def preserves_AdPoolB_AdPoolBIdeal : Prop :=
  True

def algebraic_AdPoolBIdeal_AdPoolBRefIdeal [hAdPoolBIdeal : Cert.AdPoolBIdeal.Facts] [hAdPoolBRefIdeal : Cert.AdPoolBRefIdeal.Facts] : Prop :=
  ∀ (m : (ℓ : Loc Cert.AdPoolBIdeal.nD Cert.AdPoolBIdeal.τ Cert.AdPoolBIdeal.sig) → Buf (Elt Ideal) ℓ) (g : Dev Cert.AdPoolBIdeal.nD → PrngReg)
    (m' : (ℓ : Loc Cert.AdPoolBRefIdeal.nD Cert.AdPoolBRefIdeal.τ Cert.AdPoolBRefIdeal.sig) → Buf (Elt Ideal) ℓ) (g' : Dev Cert.AdPoolBRefIdeal.nD → PrngReg), Pre_AdPoolBIdeal m →
    (∀ c : Dev Cert.AdPoolBIdeal.nD,
      m' ((c.tc : Thread Cert.AdPoolBRefIdeal.nD Cert.AdPoolBRefIdeal.τ).loc Cert.AdPoolBRefIdeal.main_arg0) = m ((c.tc : Thread Cert.AdPoolBIdeal.nD Cert.AdPoolBIdeal.τ).loc Cert.AdPoolBIdeal.main_arg0)
      ∧ m' ((c.tc : Thread Cert.AdPoolBRefIdeal.nD Cert.AdPoolBRefIdeal.τ).loc Cert.AdPoolBRefIdeal.main_arg1) = m ((c.tc : Thread Cert.AdPoolBIdeal.nD Cert.AdPoolBIdeal.τ).loc Cert.AdPoolBIdeal.main_arg1)
      ∧ m' ((c.tc : Thread Cert.AdPoolBRefIdeal.nD Cert.AdPoolBRefIdeal.τ).loc Cert.AdPoolBRefIdeal.main_arg2) = m ((c.tc : Thread Cert.AdPoolBIdeal.nD Cert.AdPoolBIdeal.τ).loc Cert.AdPoolBIdeal.main_arg2)
      ∧ m' ((c.tc : Thread Cert.AdPoolBRefIdeal.nD Cert.AdPoolBRefIdeal.τ).loc Cert.AdPoolBRefIdeal.main_arg3) = m ((c.tc : Thread Cert.AdPoolBIdeal.nD Cert.AdPoolBIdeal.τ).loc Cert.AdPoolBIdeal.main_arg3)) →
    ∃ (v0 : (c : Dev Cert.AdPoolBIdeal.nD) → Buf (Elt Ideal) ((c.tc : Thread Cert.AdPoolBIdeal.nD Cert.AdPoolBIdeal.τ).loc Cert.AdPoolBIdeal.main_v0_0)) (v1 : (c : Dev Cert.AdPoolBIdeal.nD) → Buf (Elt Ideal) ((c.tc : Thread Cert.AdPoolBIdeal.nD Cert.AdPoolBIdeal.τ).loc Cert.AdPoolBIdeal.main_v0_1)) (v2 : (c : Dev Cert.AdPoolBIdeal.nD) → Buf (Elt Ideal) ((c.tc : Thread Cert.AdPoolBIdeal.nD Cert.AdPoolBIdeal.τ).loc Cert.AdPoolBIdeal.main_v0_2)),
      θ_run (Cert.AdPoolBIdeal.defs (F := Ideal)) (onTc (τ := Cert.AdPoolBIdeal.τ) (Cert.AdPoolBIdeal.main (F := Ideal))) ⟨m, fun _ => 0, g⟩ (fun r => ∀ c : Dev Cert.AdPoolBIdeal.nD,
          r.2.mem ((c.tc : Thread Cert.AdPoolBIdeal.nD Cert.AdPoolBIdeal.τ).loc Cert.AdPoolBIdeal.main_v0_0) = v0 c
          ∧ r.2.mem ((c.tc : Thread Cert.AdPoolBIdeal.nD Cert.AdPoolBIdeal.τ).loc Cert.AdPoolBIdeal.main_v0_1) = v1 c
          ∧ r.2.mem ((c.tc : Thread Cert.AdPoolBIdeal.nD Cert.AdPoolBIdeal.τ).loc Cert.AdPoolBIdeal.main_v0_2) = v2 c
          ∧ r.2.mem ((c.tc : Thread Cert.AdPoolBIdeal.nD Cert.AdPoolBIdeal.τ).loc Cert.AdPoolBIdeal.main_arg0) = m ((c.tc : Thread Cert.AdPoolBIdeal.nD Cert.AdPoolBIdeal.τ).loc Cert.AdPoolBIdeal.main_arg0)
          ∧ r.2.mem ((c.tc : Thread Cert.AdPoolBIdeal.nD Cert.AdPoolBIdeal.τ).loc Cert.AdPoolBIdeal.main_arg1) = m ((c.tc : Thread Cert.AdPoolBIdeal.nD Cert.AdPoolBIdeal.τ).loc Cert.AdPoolBIdeal.main_arg1)
          ∧ r.2.mem ((c.tc : Thread Cert.AdPoolBIdeal.nD Cert.AdPoolBIdeal.τ).loc Cert.AdPoolBIdeal.main_arg2) = m ((c.tc : Thread Cert.AdPoolBIdeal.nD Cert.AdPoolBIdeal.τ).loc Cert.AdPoolBIdeal.main_arg2)
          ∧ r.2.mem ((c.tc : Thread Cert.AdPoolBIdeal.nD Cert.AdPoolBIdeal.τ).loc Cert.AdPoolBIdeal.main_arg3) = m ((c.tc : Thread Cert.AdPoolBIdeal.nD Cert.AdPoolBIdeal.τ).loc Cert.AdPoolBIdeal.main_arg3))
      ∧ θ_run (Cert.AdPoolBRefIdeal.defs (F := Ideal)) (onTc (τ := Cert.AdPoolBRefIdeal.τ) (Cert.AdPoolBRefIdeal.main (F := Ideal))) ⟨m', fun _ => 0, g'⟩ (fun r => ∀ c : Dev Cert.AdPoolBRefIdeal.nD,
          r.2.mem ((c.tc : Thread Cert.AdPoolBRefIdeal.nD Cert.AdPoolBRefIdeal.τ).loc Cert.AdPoolBRefIdeal.main_v23) = v0 c
          ∧ r.2.mem ((c.tc : Thread Cert.AdPoolBRefIdeal.nD Cert.AdPoolBRefIdeal.τ).loc Cert.AdPoolBRefIdeal.main_v4) = v1 c
          ∧ r.2.mem ((c.tc : Thread Cert.AdPoolBRefIdeal.nD Cert.AdPoolBRefIdeal.τ).loc Cert.AdPoolBRefIdeal.main_v10) = v2 c
          ∧ r.2.mem ((c.tc : Thread Cert.AdPoolBRefIdeal.nD Cert.AdPoolBRefIdeal.τ).loc Cert.AdPoolBRefIdeal.main_arg0) = m' ((c.tc : Thread Cert.AdPoolBRefIdeal.nD Cert.AdPoolBRefIdeal.τ).loc Cert.AdPoolBRefIdeal.main_arg0)
          ∧ r.2.mem ((c.tc : Thread Cert.AdPoolBRefIdeal.nD Cert.AdPoolBRefIdeal.τ).loc Cert.AdPoolBRefIdeal.main_arg1) = m' ((c.tc : Thread Cert.AdPoolBRefIdeal.nD Cert.AdPoolBRefIdeal.τ).loc Cert.AdPoolBRefIdeal.main_arg1)
          ∧ r.2.mem ((c.tc : Thread Cert.AdPoolBRefIdeal.nD Cert.AdPoolBRefIdeal.τ).loc Cert.AdPoolBRefIdeal.main_arg2) = m' ((c.tc : Thread Cert.AdPoolBRefIdeal.nD Cert.AdPoolBRefIdeal.τ).loc Cert.AdPoolBRefIdeal.main_arg2)
          ∧ r.2.mem ((c.tc : Thread Cert.AdPoolBRefIdeal.nD Cert.AdPoolBRefIdeal.τ).loc Cert.AdPoolBRefIdeal.main_arg3) = m' ((c.tc : Thread Cert.AdPoolBRefIdeal.nD Cert.AdPoolBRefIdeal.τ).loc Cert.AdPoolBRefIdeal.main_arg3))

def preserves_AdPoolS_AdPoolSIdeal : Prop :=
  True

def algebraic_AdPoolSIdeal_AdPoolSRefIdeal [hAdPoolSIdeal : Cert.AdPoolSIdeal.Facts] [hAdPoolSRefIdeal : Cert.AdPoolSRefIdeal.Facts] : Prop :=
  ∀ (m : (ℓ : Loc Cert.AdPoolSIdeal.nD Cert.AdPoolSIdeal.τ Cert.AdPoolSIdeal.sig) → Buf (Elt Ideal) ℓ) (g : Dev Cert.AdPoolSIdeal.nD → PrngReg)
    (m' : (ℓ : Loc Cert.AdPoolSRefIdeal.nD Cert.AdPoolSRefIdeal.τ Cert.AdPoolSRefIdeal.sig) → Buf (Elt Ideal) ℓ) (g' : Dev Cert.AdPoolSRefIdeal.nD → PrngReg), Pre_AdPoolSIdeal m →
    (∀ c : Dev Cert.AdPoolSIdeal.nD,
      m' ((c.tc : Thread Cert.AdPoolSRefIdeal.nD Cert.AdPoolSRefIdeal.τ).loc Cert.AdPoolSRefIdeal.main_arg0) = m ((c.tc : Thread Cert.AdPoolSIdeal.nD Cert.AdPoolSIdeal.τ).loc Cert.AdPoolSIdeal.main_arg0)
      ∧ m' ((c.tc : Thread Cert.AdPoolSRefIdeal.nD Cert.AdPoolSRefIdeal.τ).loc Cert.AdPoolSRefIdeal.main_arg1) = m ((c.tc : Thread Cert.AdPoolSIdeal.nD Cert.AdPoolSIdeal.τ).loc Cert.AdPoolSIdeal.main_arg1)
      ∧ m' ((c.tc : Thread Cert.AdPoolSRefIdeal.nD Cert.AdPoolSRefIdeal.τ).loc Cert.AdPoolSRefIdeal.main_arg2) = m ((c.tc : Thread Cert.AdPoolSIdeal.nD Cert.AdPoolSIdeal.τ).loc Cert.AdPoolSIdeal.main_arg2)
      ∧ m' ((c.tc : Thread Cert.AdPoolSRefIdeal.nD Cert.AdPoolSRefIdeal.τ).loc Cert.AdPoolSRefIdeal.main_arg3) = m ((c.tc : Thread Cert.AdPoolSIdeal.nD Cert.AdPoolSIdeal.τ).loc Cert.AdPoolSIdeal.main_arg3)) →
    ∃ (v0 : (c : Dev Cert.AdPoolSIdeal.nD) → Buf (Elt Ideal) ((c.tc : Thread Cert.AdPoolSIdeal.nD Cert.AdPoolSIdeal.τ).loc Cert.AdPoolSIdeal.main_v0_0)) (v1 : (c : Dev Cert.AdPoolSIdeal.nD) → Buf (Elt Ideal) ((c.tc : Thread Cert.AdPoolSIdeal.nD Cert.AdPoolSIdeal.τ).loc Cert.AdPoolSIdeal.main_v0_1)) (v2 : (c : Dev Cert.AdPoolSIdeal.nD) → Buf (Elt Ideal) ((c.tc : Thread Cert.AdPoolSIdeal.nD Cert.AdPoolSIdeal.τ).loc Cert.AdPoolSIdeal.main_v0_2)),
      θ_run (Cert.AdPoolSIdeal.defs (F := Ideal)) (onTc (τ := Cert.AdPoolSIdeal.τ) (Cert.AdPoolSIdeal.main (F := Ideal))) ⟨m, fun _ => 0, g⟩ (fun r => ∀ c : Dev Cert.AdPoolSIdeal.nD,
          r.2.mem ((c.tc : Thread Cert.AdPoolSIdeal.nD Cert.AdPoolSIdeal.τ).loc Cert.AdPoolSIdeal.main_v0_0) = v0 c
          ∧ r.2.mem ((c.tc : Thread Cert.AdPoolSIdeal.nD Cert.AdPoolSIdeal.τ).loc Cert.AdPoolSIdeal.main_v0_1) = v1 c
          ∧ r.2.mem ((c.tc : Thread Cert.AdPoolSIdeal.nD Cert.AdPoolSIdeal.τ).loc Cert.AdPoolSIdeal.main_v0_2) = v2 c
          ∧ r.2.mem ((c.tc : Thread Cert.AdPoolSIdeal.nD Cert.AdPoolSIdeal.τ).loc Cert.AdPoolSIdeal.main_arg0) = m ((c.tc : Thread Cert.AdPoolSIdeal.nD Cert.AdPoolSIdeal.τ).loc Cert.AdPoolSIdeal.main_arg0)
          ∧ r.2.mem ((c.tc : Thread Cert.AdPoolSIdeal.nD Cert.AdPoolSIdeal.τ).loc Cert.AdPoolSIdeal.main_arg1) = m ((c.tc : Thread Cert.AdPoolSIdeal.nD Cert.AdPoolSIdeal.τ).loc Cert.AdPoolSIdeal.main_arg1)
          ∧ r.2.mem ((c.tc : Thread Cert.AdPoolSIdeal.nD Cert.AdPoolSIdeal.τ).loc Cert.AdPoolSIdeal.main_arg2) = m ((c.tc : Thread Cert.AdPoolSIdeal.nD Cert.AdPoolSIdeal.τ).loc Cert.AdPoolSIdeal.main_arg2)
          ∧ r.2.mem ((c.tc : Thread Cert.AdPoolSIdeal.nD Cert.AdPoolSIdeal.τ).loc Cert.AdPoolSIdeal.main_arg3) = m ((c.tc : Thread Cert.AdPoolSIdeal.nD Cert.AdPoolSIdeal.τ).loc Cert.AdPoolSIdeal.main_arg3))
      ∧ θ_run (Cert.AdPoolSRefIdeal.defs (F := Ideal)) (onTc (τ := Cert.AdPoolSRefIdeal.τ) (Cert.AdPoolSRefIdeal.main (F := Ideal))) ⟨m', fun _ => 0, g'⟩ (fun r => ∀ c : Dev Cert.AdPoolSRefIdeal.nD,
          r.2.mem ((c.tc : Thread Cert.AdPoolSRefIdeal.nD Cert.AdPoolSRefIdeal.τ).loc Cert.AdPoolSRefIdeal.main_v23) = v0 c
          ∧ r.2.mem ((c.tc : Thread Cert.AdPoolSRefIdeal.nD Cert.AdPoolSRefIdeal.τ).loc Cert.AdPoolSRefIdeal.main_v4) = v1 c
          ∧ r.2.mem ((c.tc : Thread Cert.AdPoolSRefIdeal.nD Cert.AdPoolSRefIdeal.τ).loc Cert.AdPoolSRefIdeal.main_v10) = v2 c
          ∧ r.2.mem ((c.tc : Thread Cert.AdPoolSRefIdeal.nD Cert.AdPoolSRefIdeal.τ).loc Cert.AdPoolSRefIdeal.main_arg0) = m' ((c.tc : Thread Cert.AdPoolSRefIdeal.nD Cert.AdPoolSRefIdeal.τ).loc Cert.AdPoolSRefIdeal.main_arg0)
          ∧ r.2.mem ((c.tc : Thread Cert.AdPoolSRefIdeal.nD Cert.AdPoolSRefIdeal.τ).loc Cert.AdPoolSRefIdeal.main_arg1) = m' ((c.tc : Thread Cert.AdPoolSRefIdeal.nD Cert.AdPoolSRefIdeal.τ).loc Cert.AdPoolSRefIdeal.main_arg1)
          ∧ r.2.mem ((c.tc : Thread Cert.AdPoolSRefIdeal.nD Cert.AdPoolSRefIdeal.τ).loc Cert.AdPoolSRefIdeal.main_arg2) = m' ((c.tc : Thread Cert.AdPoolSRefIdeal.nD Cert.AdPoolSRefIdeal.τ).loc Cert.AdPoolSRefIdeal.main_arg2)
          ∧ r.2.mem ((c.tc : Thread Cert.AdPoolSRefIdeal.nD Cert.AdPoolSRefIdeal.τ).loc Cert.AdPoolSRefIdeal.main_arg3) = m' ((c.tc : Thread Cert.AdPoolSRefIdeal.nD Cert.AdPoolSRefIdeal.τ).loc Cert.AdPoolSRefIdeal.main_arg3))

def preserves_AdIn_AdInIdeal : Prop :=
  True

def algebraic_AdInIdeal_AdInRefIdeal [hAdInIdeal : Cert.AdInIdeal.Facts] [hAdInRefIdeal : Cert.AdInRefIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInRefIdeal.nD Cert.AdInRefIdeal.τ Cert.AdInRefIdeal.sig) → Buf (Elt Ideal) ℓ) (g' : Dev Cert.AdInRefIdeal.nD → PrngReg), Pre_AdInIdeal m →
    (∀ c : Dev Cert.AdInIdeal.nD,
      m' ((c.tc : Thread Cert.AdInRefIdeal.nD Cert.AdInRefIdeal.τ).loc Cert.AdInRefIdeal.main_arg0) = m ((c.tc : Thread Cert.AdInIdeal.nD Cert.AdInIdeal.τ).loc Cert.AdInIdeal.main_arg0)
      ∧ m' ((c.tc : Thread Cert.AdInRefIdeal.nD Cert.AdInRefIdeal.τ).loc Cert.AdInRefIdeal.main_arg1) = m ((c.tc : Thread Cert.AdInIdeal.nD Cert.AdInIdeal.τ).loc Cert.AdInIdeal.main_arg1)
      ∧ m' ((c.tc : Thread Cert.AdInRefIdeal.nD Cert.AdInRefIdeal.τ).loc Cert.AdInRefIdeal.main_arg2) = m ((c.tc : Thread Cert.AdInIdeal.nD Cert.AdInIdeal.τ).loc Cert.AdInIdeal.main_arg2)
      ∧ m' ((c.tc : Thread Cert.AdInRefIdeal.nD Cert.AdInRefIdeal.τ).loc Cert.AdInRefIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInRefIdeal.defs (F := Ideal)) (onTc (τ := Cert.AdInRefIdeal.τ) (Cert.AdInRefIdeal.main (F := Ideal))) ⟨m', fun _ => 0, g'⟩ (fun r => ∀ c : Dev Cert.AdInRefIdeal.nD,
          r.2.mem ((c.tc : Thread Cert.AdInRefIdeal.nD Cert.AdInRefIdeal.τ).loc Cert.AdInRefIdeal.main_v23) = v0 c
          ∧ r.2.mem ((c.tc : Thread Cert.AdInRefIdeal.nD Cert.AdInRefIdeal.τ).loc Cert.AdInRefIdeal.main_v4) = v1 c
          ∧ r.2.mem ((c.tc : Thread Cert.AdInRefIdeal.nD Cert.AdInRefIdeal.τ).loc Cert.AdInRefIdeal.main_v10) = v2 c
          ∧ r.2.mem ((c.tc : Thread Cert.AdInRefIdeal.nD Cert.AdInRefIdeal.τ).loc Cert.AdInRefIdeal.main_arg0) = m' ((c.tc : Thread Cert.AdInRefIdeal.nD Cert.AdInRefIdeal.τ).loc Cert.AdInRefIdeal.main_arg0)
          ∧ r.2.mem ((c.tc : Thread Cert.AdInRefIdeal.nD Cert.AdInRefIdeal.τ).loc Cert.AdInRefIdeal.main_arg1) = m' ((c.tc : Thread Cert.AdInRefIdeal.nD Cert.AdInRefIdeal.τ).loc Cert.AdInRefIdeal.main_arg1)
          ∧ r.2.mem ((c.tc : Thread Cert.AdInRefIdeal.nD Cert.AdInRefIdeal.τ).loc Cert.AdInRefIdeal.main_arg2) = m' ((c.tc : Thread Cert.AdInRefIdeal.nD Cert.AdInRefIdeal.τ).loc Cert.AdInRefIdeal.main_arg2)
          ∧ r.2.mem ((c.tc : Thread Cert.AdInRefIdeal.nD Cert.AdInRefIdeal.τ).loc Cert.AdInRefIdeal.main_arg3) = m' ((c.tc : Thread Cert.AdInRefIdeal.nD Cert.AdInRefIdeal.τ).loc Cert.AdInRefIdeal.main_arg3))

def preserves_AdConv_AdConvIdeal : Prop :=
  True

def algebraic_AdConvIdeal_AdConvRefIdeal [hAdConvIdeal : Cert.AdConvIdeal.Facts] [hAdConvRefIdeal : Cert.AdConvRefIdeal.Facts] : Prop :=
  ∀ (m : (ℓ : Loc Cert.AdConvIdeal.nD Cert.AdConvIdeal.τ Cert.AdConvIdeal.sig) → Buf (Elt Ideal) ℓ) (g : Dev Cert.AdConvIdeal.nD → PrngReg)
    (m' : (ℓ : Loc Cert.AdConvRefIdeal.nD Cert.AdConvRefIdeal.τ Cert.AdConvRefIdeal.sig) → Buf (Elt Ideal) ℓ) (g' : Dev Cert.AdConvRefIdeal.nD → PrngReg), Pre_AdConvIdeal m →
    (∀ c : Dev Cert.AdConvIdeal.nD,
      m' ((c.tc : Thread Cert.AdConvRefIdeal.nD Cert.AdConvRefIdeal.τ).loc Cert.AdConvRefIdeal.main_arg0) = m ((c.tc : Thread Cert.AdConvIdeal.nD Cert.AdConvIdeal.τ).loc Cert.AdConvIdeal.main_arg0)
      ∧ m' ((c.tc : Thread Cert.AdConvRefIdeal.nD Cert.AdConvRefIdeal.τ).loc Cert.AdConvRefIdeal.main_arg1) = m ((c.tc : Thread Cert.AdConvIdeal.nD Cert.AdConvIdeal.τ).loc Cert.AdConvIdeal.main_arg1)
      ∧ m' ((c.tc : Thread Cert.AdConvRefIdeal.nD Cert.AdConvRefIdeal.τ).loc Cert.AdConvRefIdeal.main_arg2) = m ((c.tc : Thread Cert.AdConvIdeal.nD Cert.AdConvIdeal.τ).loc Cert.AdConvIdeal.main_arg2)
      ∧ m' ((c.tc : Thread Cert.AdConvRefIdeal.nD Cert.AdConvRefIdeal.τ).loc Cert.AdConvRefIdeal.main_arg3) = m ((c.tc : Thread Cert.AdConvIdeal.nD Cert.AdConvIdeal.τ).loc Cert.AdConvIdeal.main_arg3)) →
    ∃ (v0 : (c : Dev Cert.AdConvIdeal.nD) → Buf (Elt Ideal) ((c.tc : Thread Cert.AdConvIdeal.nD Cert.AdConvIdeal.τ).loc Cert.AdConvIdeal.main_v0_0)) (v1 : (c : Dev Cert.AdConvIdeal.nD) → Buf (Elt Ideal) ((c.tc : Thread Cert.AdConvIdeal.nD Cert.AdConvIdeal.τ).loc Cert.AdConvIdeal.main_v0_1)) (v2 : (c : Dev Cert.AdConvIdeal.nD) → Buf (Elt Ideal) ((c.tc : Thread Cert.AdConvIdeal.nD Cert.AdConvIdeal.τ).loc Cert.AdConvIdeal.main_v0_2)),
      θ_run (Cert.AdConvIdeal.defs (F := Ideal)) (onTc (τ := Cert.AdConvIdeal.τ) (Cert.AdConvIdeal.main (F := Ideal))) ⟨m, fun _ => 0, g⟩ (fun r => ∀ c : Dev Cert.AdConvIdeal.nD,
          r.2.mem ((c.tc : Thread Cert.AdConvIdeal.nD Cert.AdConvIdeal.τ).loc Cert.AdConvIdeal.main_v0_0) = v0 c
          ∧ r.2.mem ((c.tc : Thread Cert.AdConvIdeal.nD Cert.AdConvIdeal.τ).loc Cert.AdConvIdeal.main_v0_1) = v1 c
          ∧ r.2.mem ((c.tc : Thread Cert.AdConvIdeal.nD Cert.AdConvIdeal.τ).loc Cert.AdConvIdeal.main_v0_2) = v2 c
          ∧ r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
          ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
          ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
          ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ θ_run (Cert.AdConvRefIdeal.defs (F := Ideal)) (onTc (τ := Cert.AdConvRefIdeal.τ) (Cert.AdConvRefIdeal.main (F := Ideal))) ⟨m', fun _ => 0, g'⟩ (fun r => ∀ c : Dev Cert.AdConvRefIdeal.nD,
          r.2.mem ((c.tc : Thread Cert.AdConvRefIdeal.nD Cert.AdConvRefIdeal.τ).loc Cert.AdConvRefIdeal.main_v23) = v0 c
          ∧ r.2.mem ((c.tc : Thread Cert.AdConvRefIdeal.nD Cert.AdConvRefIdeal.τ).loc Cert.AdConvRefIdeal.main_v4) = v1 c
          ∧ r.2.mem ((c.tc : Thread Cert.AdConvRefIdeal.nD Cert.AdConvRefIdeal.τ).loc Cert.AdConvRefIdeal.main_v10) = v2 c
          ∧ r.2.mem ((c.tc : Thread Cert.AdConvRefIdeal.nD Cert.AdConvRefIdeal.τ).loc Cert.AdConvRefIdeal.main_arg0) = m' ((c.tc : Thread Cert.AdConvRefIdeal.nD Cert.AdConvRefIdeal.τ).loc Cert.AdConvRefIdeal.main_arg0)
          ∧ r.2.mem ((c.tc : Thread Cert.AdConvRefIdeal.nD Cert.AdConvRefIdeal.τ).loc Cert.AdConvRefIdeal.main_arg1) = m' ((c.tc : Thread Cert.AdConvRefIdeal.nD Cert.AdConvRefIdeal.τ).loc Cert.AdConvRefIdeal.main_arg1)
          ∧ r.2.mem ((c.tc : Thread Cert.AdConvRefIdeal.nD Cert.AdConvRefIdeal.τ).loc Cert.AdConvRefIdeal.main_arg2) = m' ((c.tc : Thread Cert.AdConvRefIdeal.nD Cert.AdConvRefIdeal.τ).loc Cert.AdConvRefIdeal.main_arg2)
          ∧ r.2.mem ((c.tc : Thread Cert.AdConvRefIdeal.nD Cert.AdConvRefIdeal.τ).loc Cert.AdConvRefIdeal.main_arg3) = m' ((c.tc : Thread Cert.AdConvRefIdeal.nD Cert.AdConvRefIdeal.τ).loc Cert.AdConvRefIdeal.main_arg3))

def preserves_AdHeads_AdHeadsIdeal : Prop :=
  True

def algebraic_AdHeadsIdeal_AdHeadsRefIdeal [hAdHeadsIdeal : Cert.AdHeadsIdeal.Facts] [hAdHeadsRefIdeal : Cert.AdHeadsRefIdeal.Facts] : Prop :=
  ∀ (m : (ℓ : Loc Cert.AdHeadsIdeal.nD Cert.AdHeadsIdeal.τ Cert.AdHeadsIdeal.sig) → Buf (Elt Ideal) ℓ) (g : Dev Cert.AdHeadsIdeal.nD → PrngReg)
    (m' : (ℓ : Loc Cert.AdHeadsRefIdeal.nD Cert.AdHeadsRefIdeal.τ Cert.AdHeadsRefIdeal.sig) → Buf (Elt Ideal) ℓ) (g' : Dev Cert.AdHeadsRefIdeal.nD → PrngReg), Pre_AdHeadsIdeal m →
    (∀ c : Dev Cert.AdHeadsIdeal.nD,
      m' ((c.tc : Thread Cert.AdHeadsRefIdeal.nD Cert.AdHeadsRefIdeal.τ).loc Cert.AdHeadsRefIdeal.main_arg0) = m ((c.tc : Thread Cert.AdHeadsIdeal.nD Cert.AdHeadsIdeal.τ).loc Cert.AdHeadsIdeal.main_arg0)
      ∧ m' ((c.tc : Thread Cert.AdHeadsRefIdeal.nD Cert.AdHeadsRefIdeal.τ).loc Cert.AdHeadsRefIdeal.main_arg1) = m ((c.tc : Thread Cert.AdHeadsIdeal.nD Cert.AdHeadsIdeal.τ).loc Cert.AdHeadsIdeal.main_arg1)
      ∧ m' ((c.tc : Thread Cert.AdHeadsRefIdeal.nD Cert.AdHeadsRefIdeal.τ).loc Cert.AdHeadsRefIdeal.main_arg2) = m ((c.tc : Thread Cert.AdHeadsIdeal.nD Cert.AdHeadsIdeal.τ).loc Cert.AdHeadsIdeal.main_arg2)
      ∧ m' ((c.tc : Thread Cert.AdHeadsRefIdeal.nD Cert.AdHeadsRefIdeal.τ).loc Cert.AdHeadsRefIdeal.main_arg3) = m ((c.tc : Thread Cert.AdHeadsIdeal.nD Cert.AdHeadsIdeal.τ).loc Cert.AdHeadsIdeal.main_arg3)) →
    ∃ (v0 : (c : Dev Cert.AdHeadsIdeal.nD) → Buf (Elt Ideal) ((c.tc : Thread Cert.AdHeadsIdeal.nD Cert.AdHeadsIdeal.τ).loc Cert.AdHeadsIdeal.main_v0_0)) (v1 : (c : Dev Cert.AdHeadsIdeal.nD) → Buf (Elt Ideal) ((c.tc : Thread Cert.AdHeadsIdeal.nD Cert.AdHeadsIdeal.τ).loc Cert.AdHeadsIdeal.main_v0_1)) (v2 : (c : Dev Cert.AdHeadsIdeal.nD) → Buf (Elt Ideal) ((c.tc : Thread Cert.AdHeadsIdeal.nD Cert.AdHeadsIdeal.τ).loc Cert.AdHeadsIdeal.main_v0_2)),
      θ_run (Cert.AdHeadsIdeal.defs (F := Ideal)) (onTc (τ := Cert.AdHeadsIdeal.τ) (Cert.AdHeadsIdeal.main (F := Ideal))) ⟨m, fun _ => 0, g⟩ (fun r => ∀ c : Dev Cert.AdHeadsIdeal.nD,
          r.2.mem ((c.tc : Thread Cert.AdHeadsIdeal.nD Cert.AdHeadsIdeal.τ).loc Cert.AdHeadsIdeal.main_v0_0) = v0 c
          ∧ r.2.mem ((c.tc : Thread Cert.AdHeadsIdeal.nD Cert.AdHeadsIdeal.τ).loc Cert.AdHeadsIdeal.main_v0_1) = v1 c
          ∧ r.2.mem ((c.tc : Thread Cert.AdHeadsIdeal.nD Cert.AdHeadsIdeal.τ).loc Cert.AdHeadsIdeal.main_v0_2) = v2 c
          ∧ r.2.mem ((c.tc : Thread Cert.AdHeadsIdeal.nD Cert.AdHeadsIdeal.τ).loc Cert.AdHeadsIdeal.main_arg0) = m ((c.tc : Thread Cert.AdHeadsIdeal.nD Cert.AdHeadsIdeal.τ).loc Cert.AdHeadsIdeal.main_arg0)
          ∧ r.2.mem ((c.tc : Thread Cert.AdHeadsIdeal.nD Cert.AdHeadsIdeal.τ).loc Cert.AdHeadsIdeal.main_arg1) = m ((c.tc : Thread Cert.AdHeadsIdeal.nD Cert.AdHeadsIdeal.τ).loc Cert.AdHeadsIdeal.main_arg1)
          ∧ r.2.mem ((c.tc : Thread Cert.AdHeadsIdeal.nD Cert.AdHeadsIdeal.τ).loc Cert.AdHeadsIdeal.main_arg2) = m ((c.tc : Thread Cert.AdHeadsIdeal.nD Cert.AdHeadsIdeal.τ).loc Cert.AdHeadsIdeal.main_arg2)
          ∧ r.2.mem ((c.tc : Thread Cert.AdHeadsIdeal.nD Cert.AdHeadsIdeal.τ).loc Cert.AdHeadsIdeal.main_arg3) = m ((c.tc : Thread Cert.AdHeadsIdeal.nD Cert.AdHeadsIdeal.τ).loc Cert.AdHeadsIdeal.main_arg3))
      ∧ θ_run (Cert.AdHeadsRefIdeal.defs (F := Ideal)) (onTc (τ := Cert.AdHeadsRefIdeal.τ) (Cert.AdHeadsRefIdeal.main (F := Ideal))) ⟨m', fun _ => 0, g'⟩ (fun r => ∀ c : Dev Cert.AdHeadsRefIdeal.nD,
          r.2.mem ((c.tc : Thread Cert.AdHeadsRefIdeal.nD Cert.AdHeadsRefIdeal.τ).loc Cert.AdHeadsRefIdeal.main_v23) = v0 c
          ∧ r.2.mem ((c.tc : Thread Cert.AdHeadsRefIdeal.nD Cert.AdHeadsRefIdeal.τ).loc Cert.AdHeadsRefIdeal.main_v4) = v1 c
          ∧ r.2.mem ((c.tc : Thread Cert.AdHeadsRefIdeal.nD Cert.AdHeadsRefIdeal.τ).loc Cert.AdHeadsRefIdeal.main_v10) = v2 c
          ∧ r.2.mem ((c.tc : Thread Cert.AdHeadsRefIdeal.nD Cert.AdHeadsRefIdeal.τ).loc Cert.AdHeadsRefIdeal.main_arg0) = m' ((c.tc : Thread Cert.AdHeadsRefIdeal.nD Cert.AdHeadsRefIdeal.τ).loc Cert.AdHeadsRefIdeal.main_arg0)
          ∧ r.2.mem ((c.tc : Thread Cert.AdHeadsRefIdeal.nD Cert.AdHeadsRefIdeal.τ).loc Cert.AdHeadsRefIdeal.main_arg1) = m' ((c.tc : Thread Cert.AdHeadsRefIdeal.nD Cert.AdHeadsRefIdeal.τ).loc Cert.AdHeadsRefIdeal.main_arg1)
          ∧ r.2.mem ((c.tc : Thread Cert.AdHeadsRefIdeal.nD Cert.AdHeadsRefIdeal.τ).loc Cert.AdHeadsRefIdeal.main_arg2) = m' ((c.tc : Thread Cert.AdHeadsRefIdeal.nD Cert.AdHeadsRefIdeal.τ).loc Cert.AdHeadsRefIdeal.main_arg2)
          ∧ r.2.mem ((c.tc : Thread Cert.AdHeadsRefIdeal.nD Cert.AdHeadsRefIdeal.τ).loc Cert.AdHeadsRefIdeal.main_arg3) = m' ((c.tc : Thread Cert.AdHeadsRefIdeal.nD Cert.AdHeadsRefIdeal.τ).loc Cert.AdHeadsRefIdeal.main_arg3))

def preserves_AdNorm_AdNormIdeal : Prop :=
  True

def algebraic_AdNormIdeal_AdNormRefIdeal [hAdNormIdeal : Cert.AdNormIdeal.Facts] [hAdNormRefIdeal : Cert.AdNormRefIdeal.Facts] : Prop :=
  ∀ (m : (ℓ : Loc Cert.AdNormIdeal.nD Cert.AdNormIdeal.τ Cert.AdNormIdeal.sig) → Buf (Elt Ideal) ℓ) (g : Dev Cert.AdNormIdeal.nD → PrngReg)
    (m' : (ℓ : Loc Cert.AdNormRefIdeal.nD Cert.AdNormRefIdeal.τ Cert.AdNormRefIdeal.sig) → Buf (Elt Ideal) ℓ) (g' : Dev Cert.AdNormRefIdeal.nD → PrngReg), Pre_AdNormIdeal m →
    (∀ c : Dev Cert.AdNormIdeal.nD,
      m' ((c.tc : Thread Cert.AdNormRefIdeal.nD Cert.AdNormRefIdeal.τ).loc Cert.AdNormRefIdeal.main_arg0) = m ((c.tc : Thread Cert.AdNormIdeal.nD Cert.AdNormIdeal.τ).loc Cert.AdNormIdeal.main_arg0)
      ∧ m' ((c.tc : Thread Cert.AdNormRefIdeal.nD Cert.AdNormRefIdeal.τ).loc Cert.AdNormRefIdeal.main_arg1) = m ((c.tc : Thread Cert.AdNormIdeal.nD Cert.AdNormIdeal.τ).loc Cert.AdNormIdeal.main_arg1)
      ∧ m' ((c.tc : Thread Cert.AdNormRefIdeal.nD Cert.AdNormRefIdeal.τ).loc Cert.AdNormRefIdeal.main_arg2) = m ((c.tc : Thread Cert.AdNormIdeal.nD Cert.AdNormIdeal.τ).loc Cert.AdNormIdeal.main_arg2)
      ∧ m' ((c.tc : Thread Cert.AdNormRefIdeal.nD Cert.AdNormRefIdeal.τ).loc Cert.AdNormRefIdeal.main_arg3) = m ((c.tc : Thread Cert.AdNormIdeal.nD Cert.AdNormIdeal.τ).loc Cert.AdNormIdeal.main_arg3)) →
    ∃ (v0 : (c : Dev Cert.AdNormIdeal.nD) → Buf (Elt Ideal) ((c.tc : Thread Cert.AdNormIdeal.nD Cert.AdNormIdeal.τ).loc Cert.AdNormIdeal.main_v0_0)) (v1 : (c : Dev Cert.AdNormIdeal.nD) → Buf (Elt Ideal) ((c.tc : Thread Cert.AdNormIdeal.nD Cert.AdNormIdeal.τ).loc Cert.AdNormIdeal.main_v0_1)) (v2 : (c : Dev Cert.AdNormIdeal.nD) → Buf (Elt Ideal) ((c.tc : Thread Cert.AdNormIdeal.nD Cert.AdNormIdeal.τ).loc Cert.AdNormIdeal.main_v0_2)),
      θ_run (Cert.AdNormIdeal.defs (F := Ideal)) (onTc (τ := Cert.AdNormIdeal.τ) (Cert.AdNormIdeal.main (F := Ideal))) ⟨m, fun _ => 0, g⟩ (fun r => ∀ c : Dev Cert.AdNormIdeal.nD,
          r.2.mem ((c.tc : Thread Cert.AdNormIdeal.nD Cert.AdNormIdeal.τ).loc Cert.AdNormIdeal.main_v0_0) = v0 c
          ∧ r.2.mem ((c.tc : Thread Cert.AdNormIdeal.nD Cert.AdNormIdeal.τ).loc Cert.AdNormIdeal.main_v0_1) = v1 c
          ∧ r.2.mem ((c.tc : Thread Cert.AdNormIdeal.nD Cert.AdNormIdeal.τ).loc Cert.AdNormIdeal.main_v0_2) = v2 c
          ∧ r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
          ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
          ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
          ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ θ_run (Cert.AdNormRefIdeal.defs (F := Ideal)) (onTc (τ := Cert.AdNormRefIdeal.τ) (Cert.AdNormRefIdeal.main (F := Ideal))) ⟨m', fun _ => 0, g'⟩ (fun r => ∀ c : Dev Cert.AdNormRefIdeal.nD,
          r.2.mem ((c.tc : Thread Cert.AdNormRefIdeal.nD Cert.AdNormRefIdeal.τ).loc Cert.AdNormRefIdeal.main_v23) = v0 c
          ∧ r.2.mem ((c.tc : Thread Cert.AdNormRefIdeal.nD Cert.AdNormRefIdeal.τ).loc Cert.AdNormRefIdeal.main_v4) = v1 c
          ∧ r.2.mem ((c.tc : Thread Cert.AdNormRefIdeal.nD Cert.AdNormRefIdeal.τ).loc Cert.AdNormRefIdeal.main_v10) = v2 c
          ∧ r.2.mem ((c.tc : Thread Cert.AdNormRefIdeal.nD Cert.AdNormRefIdeal.τ).loc Cert.AdNormRefIdeal.main_arg0) = m' ((c.tc : Thread Cert.AdNormRefIdeal.nD Cert.AdNormRefIdeal.τ).loc Cert.AdNormRefIdeal.main_arg0)
          ∧ r.2.mem ((c.tc : Thread Cert.AdNormRefIdeal.nD Cert.AdNormRefIdeal.τ).loc Cert.AdNormRefIdeal.main_arg1) = m' ((c.tc : Thread Cert.AdNormRefIdeal.nD Cert.AdNormRefIdeal.τ).loc Cert.AdNormRefIdeal.main_arg1)
          ∧ r.2.mem ((c.tc : Thread Cert.AdNormRefIdeal.nD Cert.AdNormRefIdeal.τ).loc Cert.AdNormRefIdeal.main_arg2) = m' ((c.tc : Thread Cert.AdNormRefIdeal.nD Cert.AdNormRefIdeal.τ).loc Cert.AdNormRefIdeal.main_arg2)
          ∧ r.2.mem ((c.tc : Thread Cert.AdNormRefIdeal.nD Cert.AdNormRefIdeal.τ).loc Cert.AdNormRefIdeal.main_arg3) = m' ((c.tc : Thread Cert.AdNormRefIdeal.nD Cert.AdNormRefIdeal.τ).loc Cert.AdNormRefIdeal.main_arg3))

def preserves_AdOut_AdOutIdeal : Prop :=
  True

def algebraic_AdOutIdeal_AdOutRefIdeal [hAdOutIdeal : Cert.AdOutIdeal.Facts] [hAdOutRefIdeal : Cert.AdOutRefIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutRefIdeal.nD Cert.AdOutRefIdeal.τ Cert.AdOutRefIdeal.sig) → Buf (Elt Ideal) ℓ) (g' : Dev Cert.AdOutRefIdeal.nD → PrngReg), Pre_AdOutIdeal m →
    (∀ c : Dev Cert.AdOutIdeal.nD,
      m' ((c.tc : Thread Cert.AdOutRefIdeal.nD Cert.AdOutRefIdeal.τ).loc Cert.AdOutRefIdeal.main_arg0) = m ((c.tc : Thread Cert.AdOutIdeal.nD Cert.AdOutIdeal.τ).loc Cert.AdOutIdeal.main_arg0)
      ∧ m' ((c.tc : Thread Cert.AdOutRefIdeal.nD Cert.AdOutRefIdeal.τ).loc Cert.AdOutRefIdeal.main_arg1) = m ((c.tc : Thread Cert.AdOutIdeal.nD Cert.AdOutIdeal.τ).loc Cert.AdOutIdeal.main_arg1)
      ∧ m' ((c.tc : Thread Cert.AdOutRefIdeal.nD Cert.AdOutRefIdeal.τ).loc Cert.AdOutRefIdeal.main_arg2) = m ((c.tc : Thread Cert.AdOutIdeal.nD Cert.AdOutIdeal.τ).loc Cert.AdOutIdeal.main_arg2)
      ∧ m' ((c.tc : Thread Cert.AdOutRefIdeal.nD Cert.AdOutRefIdeal.τ).loc Cert.AdOutRefIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.AdOutRefIdeal.defs (F := Ideal)) (onTc (τ := Cert.AdOutRefIdeal.τ) (Cert.AdOutRefIdeal.main (F := Ideal))) ⟨m', fun _ => 0, g'⟩ (fun r => ∀ c : Dev Cert.AdOutRefIdeal.nD,
          r.2.mem ((c.tc : Thread Cert.AdOutRefIdeal.nD Cert.AdOutRefIdeal.τ).loc Cert.AdOutRefIdeal.main_v23) = v0 c
          ∧ r.2.mem ((c.tc : Thread Cert.AdOutRefIdeal.nD Cert.AdOutRefIdeal.τ).loc Cert.AdOutRefIdeal.main_v4) = v1 c
          ∧ r.2.mem ((c.tc : Thread Cert.AdOutRefIdeal.nD Cert.AdOutRefIdeal.τ).loc Cert.AdOutRefIdeal.main_v10) = v2 c
          ∧ r.2.mem ((c.tc : Thread Cert.AdOutRefIdeal.nD Cert.AdOutRefIdeal.τ).loc Cert.AdOutRefIdeal.main_arg0) = m' ((c.tc : Thread Cert.AdOutRefIdeal.nD Cert.AdOutRefIdeal.τ).loc Cert.AdOutRefIdeal.main_arg0)
          ∧ r.2.mem ((c.tc : Thread Cert.AdOutRefIdeal.nD Cert.AdOutRefIdeal.τ).loc Cert.AdOutRefIdeal.main_arg1) = m' ((c.tc : Thread Cert.AdOutRefIdeal.nD Cert.AdOutRefIdeal.τ).loc Cert.AdOutRefIdeal.main_arg1)
          ∧ r.2.mem ((c.tc : Thread Cert.AdOutRefIdeal.nD Cert.AdOutRefIdeal.τ).loc Cert.AdOutRefIdeal.main_arg2) = m' ((c.tc : Thread Cert.AdOutRefIdeal.nD Cert.AdOutRefIdeal.τ).loc Cert.AdOutRefIdeal.main_arg2)
          ∧ r.2.mem ((c.tc : Thread Cert.AdOutRefIdeal.nD Cert.AdOutRefIdeal.τ).loc Cert.AdOutRefIdeal.main_arg3) = m' ((c.tc : Thread Cert.AdOutRefIdeal.nD Cert.AdOutRefIdeal.τ).loc Cert.AdOutRefIdeal.main_arg3))

def preserves_AdOne_AdOneIdeal : Prop :=
  True

def algebraic_AdOneIdeal_AdOneRefIdeal [hAdOneIdeal : Cert.AdOneIdeal.Facts] [hAdOneRefIdeal : Cert.AdOneRefIdeal.Facts] : Prop :=
  ∀ (m : (ℓ : Loc Cert.AdOneIdeal.nD Cert.AdOneIdeal.τ Cert.AdOneIdeal.sig) → Buf (Elt Ideal) ℓ) (g : Dev Cert.AdOneIdeal.nD → PrngReg)
    (m' : (ℓ : Loc Cert.AdOneRefIdeal.nD Cert.AdOneRefIdeal.τ Cert.AdOneRefIdeal.sig) → Buf (Elt Ideal) ℓ) (g' : Dev Cert.AdOneRefIdeal.nD → PrngReg), Pre_AdOneIdeal m →
    (∀ c : Dev Cert.AdOneIdeal.nD,
      m' ((c.tc : Thread Cert.AdOneRefIdeal.nD Cert.AdOneRefIdeal.τ).loc Cert.AdOneRefIdeal.main_arg0) = m ((c.tc : Thread Cert.AdOneIdeal.nD Cert.AdOneIdeal.τ).loc Cert.AdOneIdeal.main_arg0)
      ∧ m' ((c.tc : Thread Cert.AdOneRefIdeal.nD Cert.AdOneRefIdeal.τ).loc Cert.AdOneRefIdeal.main_arg1) = m ((c.tc : Thread Cert.AdOneIdeal.nD Cert.AdOneIdeal.τ).loc Cert.AdOneIdeal.main_arg1)
      ∧ m' ((c.tc : Thread Cert.AdOneRefIdeal.nD Cert.AdOneRefIdeal.τ).loc Cert.AdOneRefIdeal.main_arg2) = m ((c.tc : Thread Cert.AdOneIdeal.nD Cert.AdOneIdeal.τ).loc Cert.AdOneIdeal.main_arg2)
      ∧ m' ((c.tc : Thread Cert.AdOneRefIdeal.nD Cert.AdOneRefIdeal.τ).loc Cert.AdOneRefIdeal.main_arg3) = m ((c.tc : Thread Cert.AdOneIdeal.nD Cert.AdOneIdeal.τ).loc Cert.AdOneIdeal.main_arg3)) →
    ∃ (v0 : (c : Dev Cert.AdOneIdeal.nD) → Buf (Elt Ideal) ((c.tc : Thread Cert.AdOneIdeal.nD Cert.AdOneIdeal.τ).loc Cert.AdOneIdeal.main_v0_0)) (v1 : (c : Dev Cert.AdOneIdeal.nD) → Buf (Elt Ideal) ((c.tc : Thread Cert.AdOneIdeal.nD Cert.AdOneIdeal.τ).loc Cert.AdOneIdeal.main_v0_1)) (v2 : (c : Dev Cert.AdOneIdeal.nD) → Buf (Elt Ideal) ((c.tc : Thread Cert.AdOneIdeal.nD Cert.AdOneIdeal.τ).loc Cert.AdOneIdeal.main_v0_2)),
      θ_run (Cert.AdOneIdeal.defs (F := Ideal)) (onTc (τ := Cert.AdOneIdeal.τ) (Cert.AdOneIdeal.main (F := Ideal))) ⟨m, fun _ => 0, g⟩ (fun r => ∀ c : Dev Cert.AdOneIdeal.nD,
          r.2.mem ((c.tc : Thread Cert.AdOneIdeal.nD Cert.AdOneIdeal.τ).loc Cert.AdOneIdeal.main_v0_0) = v0 c
          ∧ r.2.mem ((c.tc : Thread Cert.AdOneIdeal.nD Cert.AdOneIdeal.τ).loc Cert.AdOneIdeal.main_v0_1) = v1 c
          ∧ r.2.mem ((c.tc : Thread Cert.AdOneIdeal.nD Cert.AdOneIdeal.τ).loc Cert.AdOneIdeal.main_v0_2) = v2 c
          ∧ r.2.mem ((c.tc : Thread Cert.AdOneIdeal.nD Cert.AdOneIdeal.τ).loc Cert.AdOneIdeal.main_arg0) = m ((c.tc : Thread Cert.AdOneIdeal.nD Cert.AdOneIdeal.τ).loc Cert.AdOneIdeal.main_arg0)
          ∧ r.2.mem ((c.tc : Thread Cert.AdOneIdeal.nD Cert.AdOneIdeal.τ).loc Cert.AdOneIdeal.main_arg1) = m ((c.tc : Thread Cert.AdOneIdeal.nD Cert.AdOneIdeal.τ).loc Cert.AdOneIdeal.main_arg1)
          ∧ r.2.mem ((c.tc : Thread Cert.AdOneIdeal.nD Cert.AdOneIdeal.τ).loc Cert.AdOneIdeal.main_arg2) = m ((c.tc : Thread Cert.AdOneIdeal.nD Cert.AdOneIdeal.τ).loc Cert.AdOneIdeal.main_arg2)
          ∧ r.2.mem ((c.tc : Thread Cert.AdOneIdeal.nD Cert.AdOneIdeal.τ).loc Cert.AdOneIdeal.main_arg3) = m ((c.tc : Thread Cert.AdOneIdeal.nD Cert.AdOneIdeal.τ).loc Cert.AdOneIdeal.main_arg3))
      ∧ θ_run (Cert.AdOneRefIdeal.defs (F := Ideal)) (onTc (τ := Cert.AdOneRefIdeal.τ) (Cert.AdOneRefIdeal.main (F := Ideal))) ⟨m', fun _ => 0, g'⟩ (fun r => ∀ c : Dev Cert.AdOneRefIdeal.nD,
          r.2.mem ((c.tc : Thread Cert.AdOneRefIdeal.nD Cert.AdOneRefIdeal.τ).loc Cert.AdOneRefIdeal.main_v23) = v0 c
          ∧ r.2.mem ((c.tc : Thread Cert.AdOneRefIdeal.nD Cert.AdOneRefIdeal.τ).loc Cert.AdOneRefIdeal.main_v4) = v1 c
          ∧ r.2.mem ((c.tc : Thread Cert.AdOneRefIdeal.nD Cert.AdOneRefIdeal.τ).loc Cert.AdOneRefIdeal.main_v10) = v2 c
          ∧ r.2.mem ((c.tc : Thread Cert.AdOneRefIdeal.nD Cert.AdOneRefIdeal.τ).loc Cert.AdOneRefIdeal.main_arg0) = m' ((c.tc : Thread Cert.AdOneRefIdeal.nD Cert.AdOneRefIdeal.τ).loc Cert.AdOneRefIdeal.main_arg0)
          ∧ r.2.mem ((c.tc : Thread Cert.AdOneRefIdeal.nD Cert.AdOneRefIdeal.τ).loc Cert.AdOneRefIdeal.main_arg1) = m' ((c.tc : Thread Cert.AdOneRefIdeal.nD Cert.AdOneRefIdeal.τ).loc Cert.AdOneRefIdeal.main_arg1)
          ∧ r.2.mem ((c.tc : Thread Cert.AdOneRefIdeal.nD Cert.AdOneRefIdeal.τ).loc Cert.AdOneRefIdeal.main_arg2) = m' ((c.tc : Thread Cert.AdOneRefIdeal.nD Cert.AdOneRefIdeal.τ).loc Cert.AdOneRefIdeal.main_arg2)
          ∧ r.2.mem ((c.tc : Thread Cert.AdOneRefIdeal.nD Cert.AdOneRefIdeal.τ).loc Cert.AdOneRefIdeal.main_arg3) = m' ((c.tc : Thread Cert.AdOneRefIdeal.nD Cert.AdOneRefIdeal.τ).loc Cert.AdOneRefIdeal.main_arg3))

def preserves_AdTwo_AdTwoIdeal : Prop :=
  True

def algebraic_AdTwoIdeal_AdTwoRefIdeal [hAdTwoIdeal : Cert.AdTwoIdeal.Facts] [hAdTwoRefIdeal : Cert.AdTwoRefIdeal.Facts] : Prop :=
  ∀ (m : (ℓ : Loc Cert.AdTwoIdeal.nD Cert.AdTwoIdeal.τ Cert.AdTwoIdeal.sig) → Buf (Elt Ideal) ℓ) (g : Dev Cert.AdTwoIdeal.nD → PrngReg)
    (m' : (ℓ : Loc Cert.AdTwoRefIdeal.nD Cert.AdTwoRefIdeal.τ Cert.AdTwoRefIdeal.sig) → Buf (Elt Ideal) ℓ) (g' : Dev Cert.AdTwoRefIdeal.nD → PrngReg), Pre_AdTwoIdeal m →
    (∀ c : Dev Cert.AdTwoIdeal.nD,
      m' ((c.tc : Thread Cert.AdTwoRefIdeal.nD Cert.AdTwoRefIdeal.τ).loc Cert.AdTwoRefIdeal.main_arg0) = m ((c.tc : Thread Cert.AdTwoIdeal.nD Cert.AdTwoIdeal.τ).loc Cert.AdTwoIdeal.main_arg0)
      ∧ m' ((c.tc : Thread Cert.AdTwoRefIdeal.nD Cert.AdTwoRefIdeal.τ).loc Cert.AdTwoRefIdeal.main_arg1) = m ((c.tc : Thread Cert.AdTwoIdeal.nD Cert.AdTwoIdeal.τ).loc Cert.AdTwoIdeal.main_arg1)
      ∧ m' ((c.tc : Thread Cert.AdTwoRefIdeal.nD Cert.AdTwoRefIdeal.τ).loc Cert.AdTwoRefIdeal.main_arg2) = m ((c.tc : Thread Cert.AdTwoIdeal.nD Cert.AdTwoIdeal.τ).loc Cert.AdTwoIdeal.main_arg2)
      ∧ m' ((c.tc : Thread Cert.AdTwoRefIdeal.nD Cert.AdTwoRefIdeal.τ).loc Cert.AdTwoRefIdeal.main_arg3) = m ((c.tc : Thread Cert.AdTwoIdeal.nD Cert.AdTwoIdeal.τ).loc Cert.AdTwoIdeal.main_arg3)) →
    ∃ (v0 : (c : Dev Cert.AdTwoIdeal.nD) → Buf (Elt Ideal) ((c.tc : Thread Cert.AdTwoIdeal.nD Cert.AdTwoIdeal.τ).loc Cert.AdTwoIdeal.main_v0_0)) (v1 : (c : Dev Cert.AdTwoIdeal.nD) → Buf (Elt Ideal) ((c.tc : Thread Cert.AdTwoIdeal.nD Cert.AdTwoIdeal.τ).loc Cert.AdTwoIdeal.main_v0_1)) (v2 : (c : Dev Cert.AdTwoIdeal.nD) → Buf (Elt Ideal) ((c.tc : Thread Cert.AdTwoIdeal.nD Cert.AdTwoIdeal.τ).loc Cert.AdTwoIdeal.main_v0_2)),
      θ_run (Cert.AdTwoIdeal.defs (F := Ideal)) (onTc (τ := Cert.AdTwoIdeal.τ) (Cert.AdTwoIdeal.main (F := Ideal))) ⟨m, fun _ => 0, g⟩ (fun r => ∀ c : Dev Cert.AdTwoIdeal.nD,
          r.2.mem ((c.tc : Thread Cert.AdTwoIdeal.nD Cert.AdTwoIdeal.τ).loc Cert.AdTwoIdeal.main_v0_0) = v0 c
          ∧ r.2.mem ((c.tc : Thread Cert.AdTwoIdeal.nD Cert.AdTwoIdeal.τ).loc Cert.AdTwoIdeal.main_v0_1) = v1 c
          ∧ r.2.mem ((c.tc : Thread Cert.AdTwoIdeal.nD Cert.AdTwoIdeal.τ).loc Cert.AdTwoIdeal.main_v0_2) = v2 c
          ∧ r.2.mem ((c.tc : Thread Cert.AdTwoIdeal.nD Cert.AdTwoIdeal.τ).loc Cert.AdTwoIdeal.main_arg0) = m ((c.tc : Thread Cert.AdTwoIdeal.nD Cert.AdTwoIdeal.τ).loc Cert.AdTwoIdeal.main_arg0)
          ∧ r.2.mem ((c.tc : Thread Cert.AdTwoIdeal.nD Cert.AdTwoIdeal.τ).loc Cert.AdTwoIdeal.main_arg1) = m ((c.tc : Thread Cert.AdTwoIdeal.nD Cert.AdTwoIdeal.τ).loc Cert.AdTwoIdeal.main_arg1)
          ∧ r.2.mem ((c.tc : Thread Cert.AdTwoIdeal.nD Cert.AdTwoIdeal.τ).loc Cert.AdTwoIdeal.main_arg2) = m ((c.tc : Thread Cert.AdTwoIdeal.nD Cert.AdTwoIdeal.τ).loc Cert.AdTwoIdeal.main_arg2)
          ∧ r.2.mem ((c.tc : Thread Cert.AdTwoIdeal.nD Cert.AdTwoIdeal.τ).loc Cert.AdTwoIdeal.main_arg3) = m ((c.tc : Thread Cert.AdTwoIdeal.nD Cert.AdTwoIdeal.τ).loc Cert.AdTwoIdeal.main_arg3))
      ∧ θ_run (Cert.AdTwoRefIdeal.defs (F := Ideal)) (onTc (τ := Cert.AdTwoRefIdeal.τ) (Cert.AdTwoRefIdeal.main (F := Ideal))) ⟨m', fun _ => 0, g'⟩ (fun r => ∀ c : Dev Cert.AdTwoRefIdeal.nD,
          r.2.mem ((c.tc : Thread Cert.AdTwoRefIdeal.nD Cert.AdTwoRefIdeal.τ).loc Cert.AdTwoRefIdeal.main_v23) = v0 c
          ∧ r.2.mem ((c.tc : Thread Cert.AdTwoRefIdeal.nD Cert.AdTwoRefIdeal.τ).loc Cert.AdTwoRefIdeal.main_v4) = v1 c
          ∧ r.2.mem ((c.tc : Thread Cert.AdTwoRefIdeal.nD Cert.AdTwoRefIdeal.τ).loc Cert.AdTwoRefIdeal.main_v10) = v2 c
          ∧ r.2.mem ((c.tc : Thread Cert.AdTwoRefIdeal.nD Cert.AdTwoRefIdeal.τ).loc Cert.AdTwoRefIdeal.main_arg0) = m' ((c.tc : Thread Cert.AdTwoRefIdeal.nD Cert.AdTwoRefIdeal.τ).loc Cert.AdTwoRefIdeal.main_arg0)
          ∧ r.2.mem ((c.tc : Thread Cert.AdTwoRefIdeal.nD Cert.AdTwoRefIdeal.τ).loc Cert.AdTwoRefIdeal.main_arg1) = m' ((c.tc : Thread Cert.AdTwoRefIdeal.nD Cert.AdTwoRefIdeal.τ).loc Cert.AdTwoRefIdeal.main_arg1)
          ∧ r.2.mem ((c.tc : Thread Cert.AdTwoRefIdeal.nD Cert.AdTwoRefIdeal.τ).loc Cert.AdTwoRefIdeal.main_arg2) = m' ((c.tc : Thread Cert.AdTwoRefIdeal.nD Cert.AdTwoRefIdeal.τ).loc Cert.AdTwoRefIdeal.main_arg2)
          ∧ r.2.mem ((c.tc : Thread Cert.AdTwoRefIdeal.nD Cert.AdTwoRefIdeal.τ).loc Cert.AdTwoRefIdeal.main_arg3) = m' ((c.tc : Thread Cert.AdTwoRefIdeal.nD Cert.AdTwoRefIdeal.τ).loc Cert.AdTwoRefIdeal.main_arg3))

def preserves_AdGate_AdGateIdeal : Prop :=
  True

def algebraic_AdGateIdeal_AdGateRefIdeal [hAdGateIdeal : Cert.AdGateIdeal.Facts] [hAdGateRefIdeal : Cert.AdGateRefIdeal.Facts] : Prop :=
  ∀ (m : (ℓ : Loc Cert.AdGateIdeal.nD Cert.AdGateIdeal.τ Cert.AdGateIdeal.sig) → Buf (Elt Ideal) ℓ) (g : Dev Cert.AdGateIdeal.nD → PrngReg)
    (m' : (ℓ : Loc Cert.AdGateRefIdeal.nD Cert.AdGateRefIdeal.τ Cert.AdGateRefIdeal.sig) → Buf (Elt Ideal) ℓ) (g' : Dev Cert.AdGateRefIdeal.nD → PrngReg), Pre_AdGateIdeal m →
    (∀ c : Dev Cert.AdGateIdeal.nD,
      m' ((c.tc : Thread Cert.AdGateRefIdeal.nD Cert.AdGateRefIdeal.τ).loc Cert.AdGateRefIdeal.main_arg0) = m ((c.tc : Thread Cert.AdGateIdeal.nD Cert.AdGateIdeal.τ).loc Cert.AdGateIdeal.main_arg0)
      ∧ m' ((c.tc : Thread Cert.AdGateRefIdeal.nD Cert.AdGateRefIdeal.τ).loc Cert.AdGateRefIdeal.main_arg1) = m ((c.tc : Thread Cert.AdGateIdeal.nD Cert.AdGateIdeal.τ).loc Cert.AdGateIdeal.main_arg1)
      ∧ m' ((c.tc : Thread Cert.AdGateRefIdeal.nD Cert.AdGateRefIdeal.τ).loc Cert.AdGateRefIdeal.main_arg2) = m ((c.tc : Thread Cert.AdGateIdeal.nD Cert.AdGateIdeal.τ).loc Cert.AdGateIdeal.main_arg2)
      ∧ m' ((c.tc : Thread Cert.AdGateRefIdeal.nD Cert.AdGateRefIdeal.τ).loc Cert.AdGateRefIdeal.main_arg3) = m ((c.tc : Thread Cert.AdGateIdeal.nD Cert.AdGateIdeal.τ).loc Cert.AdGateIdeal.main_arg3)) →
    ∃ (v0 : (c : Dev Cert.AdGateIdeal.nD) → Buf (Elt Ideal) ((c.tc : Thread Cert.AdGateIdeal.nD Cert.AdGateIdeal.τ).loc Cert.AdGateIdeal.main_v0_0)) (v1 : (c : Dev Cert.AdGateIdeal.nD) → Buf (Elt Ideal) ((c.tc : Thread Cert.AdGateIdeal.nD Cert.AdGateIdeal.τ).loc Cert.AdGateIdeal.main_v0_1)) (v2 : (c : Dev Cert.AdGateIdeal.nD) → Buf (Elt Ideal) ((c.tc : Thread Cert.AdGateIdeal.nD Cert.AdGateIdeal.τ).loc Cert.AdGateIdeal.main_v0_2)),
      θ_run (Cert.AdGateIdeal.defs (F := Ideal)) (onTc (τ := Cert.AdGateIdeal.τ) (Cert.AdGateIdeal.main (F := Ideal))) ⟨m, fun _ => 0, g⟩ (fun r => ∀ c : Dev Cert.AdGateIdeal.nD,
          r.2.mem ((c.tc : Thread Cert.AdGateIdeal.nD Cert.AdGateIdeal.τ).loc Cert.AdGateIdeal.main_v0_0) = v0 c
          ∧ r.2.mem ((c.tc : Thread Cert.AdGateIdeal.nD Cert.AdGateIdeal.τ).loc Cert.AdGateIdeal.main_v0_1) = v1 c
          ∧ r.2.mem ((c.tc : Thread Cert.AdGateIdeal.nD Cert.AdGateIdeal.τ).loc Cert.AdGateIdeal.main_v0_2) = v2 c
          ∧ r.2.mem ((c.tc : Thread Cert.AdGateIdeal.nD Cert.AdGateIdeal.τ).loc Cert.AdGateIdeal.main_arg0) = m ((c.tc : Thread Cert.AdGateIdeal.nD Cert.AdGateIdeal.τ).loc Cert.AdGateIdeal.main_arg0)
          ∧ r.2.mem ((c.tc : Thread Cert.AdGateIdeal.nD Cert.AdGateIdeal.τ).loc Cert.AdGateIdeal.main_arg1) = m ((c.tc : Thread Cert.AdGateIdeal.nD Cert.AdGateIdeal.τ).loc Cert.AdGateIdeal.main_arg1)
          ∧ r.2.mem ((c.tc : Thread Cert.AdGateIdeal.nD Cert.AdGateIdeal.τ).loc Cert.AdGateIdeal.main_arg2) = m ((c.tc : Thread Cert.AdGateIdeal.nD Cert.AdGateIdeal.τ).loc Cert.AdGateIdeal.main_arg2)
          ∧ r.2.mem ((c.tc : Thread Cert.AdGateIdeal.nD Cert.AdGateIdeal.τ).loc Cert.AdGateIdeal.main_arg3) = m ((c.tc : Thread Cert.AdGateIdeal.nD Cert.AdGateIdeal.τ).loc Cert.AdGateIdeal.main_arg3))
      ∧ θ_run (Cert.AdGateRefIdeal.defs (F := Ideal)) (onTc (τ := Cert.AdGateRefIdeal.τ) (Cert.AdGateRefIdeal.main (F := Ideal))) ⟨m', fun _ => 0, g'⟩ (fun r => ∀ c : Dev Cert.AdGateRefIdeal.nD,
          r.2.mem ((c.tc : Thread Cert.AdGateRefIdeal.nD Cert.AdGateRefIdeal.τ).loc Cert.AdGateRefIdeal.main_v23) = v0 c
          ∧ r.2.mem ((c.tc : Thread Cert.AdGateRefIdeal.nD Cert.AdGateRefIdeal.τ).loc Cert.AdGateRefIdeal.main_v4) = v1 c
          ∧ r.2.mem ((c.tc : Thread Cert.AdGateRefIdeal.nD Cert.AdGateRefIdeal.τ).loc Cert.AdGateRefIdeal.main_v10) = v2 c
          ∧ r.2.mem ((c.tc : Thread Cert.AdGateRefIdeal.nD Cert.AdGateRefIdeal.τ).loc Cert.AdGateRefIdeal.main_arg0) = m' ((c.tc : Thread Cert.AdGateRefIdeal.nD Cert.AdGateRefIdeal.τ).loc Cert.AdGateRefIdeal.main_arg0)
          ∧ r.2.mem ((c.tc : Thread Cert.AdGateRefIdeal.nD Cert.AdGateRefIdeal.τ).loc Cert.AdGateRefIdeal.main_arg1) = m' ((c.tc : Thread Cert.AdGateRefIdeal.nD Cert.AdGateRefIdeal.τ).loc Cert.AdGateRefIdeal.main_arg1)
          ∧ r.2.mem ((c.tc : Thread Cert.AdGateRefIdeal.nD Cert.AdGateRefIdeal.τ).loc Cert.AdGateRefIdeal.main_arg2) = m' ((c.tc : Thread Cert.AdGateRefIdeal.nD Cert.AdGateRefIdeal.τ).loc Cert.AdGateRefIdeal.main_arg2)
          ∧ r.2.mem ((c.tc : Thread Cert.AdGateRefIdeal.nD Cert.AdGateRefIdeal.τ).loc Cert.AdGateRefIdeal.main_arg3) = m' ((c.tc : Thread Cert.AdGateRefIdeal.nD Cert.AdGateRefIdeal.τ).loc Cert.AdGateRefIdeal.main_arg3))

def preserves_AdGateB_AdGateBIdeal : Prop :=
  True

def algebraic_AdGateBIdeal_AdGateBRefIdeal [hAdGateBIdeal : Cert.AdGateBIdeal.Facts] [hAdGateBRefIdeal : Cert.AdGateBRefIdeal.Facts] : Prop :=
  ∀ (m : (ℓ : Loc Cert.AdGateBIdeal.nD Cert.AdGateBIdeal.τ Cert.AdGateBIdeal.sig) → Buf (Elt Ideal) ℓ) (g : Dev Cert.AdGateBIdeal.nD → PrngReg)
    (m' : (ℓ : Loc Cert.AdGateBRefIdeal.nD Cert.AdGateBRefIdeal.τ Cert.AdGateBRefIdeal.sig) → Buf (Elt Ideal) ℓ) (g' : Dev Cert.AdGateBRefIdeal.nD → PrngReg), Pre_AdGateBIdeal m →
    (∀ c : Dev Cert.AdGateBIdeal.nD,
      m' ((c.tc : Thread Cert.AdGateBRefIdeal.nD Cert.AdGateBRefIdeal.τ).loc Cert.AdGateBRefIdeal.main_arg0) = m ((c.tc : Thread Cert.AdGateBIdeal.nD Cert.AdGateBIdeal.τ).loc Cert.AdGateBIdeal.main_arg0)
      ∧ m' ((c.tc : Thread Cert.AdGateBRefIdeal.nD Cert.AdGateBRefIdeal.τ).loc Cert.AdGateBRefIdeal.main_arg1) = m ((c.tc : Thread Cert.AdGateBIdeal.nD Cert.AdGateBIdeal.τ).loc Cert.AdGateBIdeal.main_arg1)
      ∧ m' ((c.tc : Thread Cert.AdGateBRefIdeal.nD Cert.AdGateBRefIdeal.τ).loc Cert.AdGateBRefIdeal.main_arg2) = m ((c.tc : Thread Cert.AdGateBIdeal.nD Cert.AdGateBIdeal.τ).loc Cert.AdGateBIdeal.main_arg2)
      ∧ m' ((c.tc : Thread Cert.AdGateBRefIdeal.nD Cert.AdGateBRefIdeal.τ).loc Cert.AdGateBRefIdeal.main_arg3) = m ((c.tc : Thread Cert.AdGateBIdeal.nD Cert.AdGateBIdeal.τ).loc Cert.AdGateBIdeal.main_arg3)) →
    ∃ (v0 : (c : Dev Cert.AdGateBIdeal.nD) → Buf (Elt Ideal) ((c.tc : Thread Cert.AdGateBIdeal.nD Cert.AdGateBIdeal.τ).loc Cert.AdGateBIdeal.main_v0_0)) (v1 : (c : Dev Cert.AdGateBIdeal.nD) → Buf (Elt Ideal) ((c.tc : Thread Cert.AdGateBIdeal.nD Cert.AdGateBIdeal.τ).loc Cert.AdGateBIdeal.main_v0_1)) (v2 : (c : Dev Cert.AdGateBIdeal.nD) → Buf (Elt Ideal) ((c.tc : Thread Cert.AdGateBIdeal.nD Cert.AdGateBIdeal.τ).loc Cert.AdGateBIdeal.main_v0_2)),
      θ_run (Cert.AdGateBIdeal.defs (F := Ideal)) (onTc (τ := Cert.AdGateBIdeal.τ) (Cert.AdGateBIdeal.main (F := Ideal))) ⟨m, fun _ => 0, g⟩ (fun r => ∀ c : Dev Cert.AdGateBIdeal.nD,
          r.2.mem ((c.tc : Thread Cert.AdGateBIdeal.nD Cert.AdGateBIdeal.τ).loc Cert.AdGateBIdeal.main_v0_0) = v0 c
          ∧ r.2.mem ((c.tc : Thread Cert.AdGateBIdeal.nD Cert.AdGateBIdeal.τ).loc Cert.AdGateBIdeal.main_v0_1) = v1 c
          ∧ r.2.mem ((c.tc : Thread Cert.AdGateBIdeal.nD Cert.AdGateBIdeal.τ).loc Cert.AdGateBIdeal.main_v0_2) = v2 c
          ∧ r.2.mem ((c.tc : Thread Cert.AdGateBIdeal.nD Cert.AdGateBIdeal.τ).loc Cert.AdGateBIdeal.main_arg0) = m ((c.tc : Thread Cert.AdGateBIdeal.nD Cert.AdGateBIdeal.τ).loc Cert.AdGateBIdeal.main_arg0)
          ∧ r.2.mem ((c.tc : Thread Cert.AdGateBIdeal.nD Cert.AdGateBIdeal.τ).loc Cert.AdGateBIdeal.main_arg1) = m ((c.tc : Thread Cert.AdGateBIdeal.nD Cert.AdGateBIdeal.τ).loc Cert.AdGateBIdeal.main_arg1)
          ∧ r.2.mem ((c.tc : Thread Cert.AdGateBIdeal.nD Cert.AdGateBIdeal.τ).loc Cert.AdGateBIdeal.main_arg2) = m ((c.tc : Thread Cert.AdGateBIdeal.nD Cert.AdGateBIdeal.τ).loc Cert.AdGateBIdeal.main_arg2)
          ∧ r.2.mem ((c.tc : Thread Cert.AdGateBIdeal.nD Cert.AdGateBIdeal.τ).loc Cert.AdGateBIdeal.main_arg3) = m ((c.tc : Thread Cert.AdGateBIdeal.nD Cert.AdGateBIdeal.τ).loc Cert.AdGateBIdeal.main_arg3))
      ∧ θ_run (Cert.AdGateBRefIdeal.defs (F := Ideal)) (onTc (τ := Cert.AdGateBRefIdeal.τ) (Cert.AdGateBRefIdeal.main (F := Ideal))) ⟨m', fun _ => 0, g'⟩ (fun r => ∀ c : Dev Cert.AdGateBRefIdeal.nD,
          r.2.mem ((c.tc : Thread Cert.AdGateBRefIdeal.nD Cert.AdGateBRefIdeal.τ).loc Cert.AdGateBRefIdeal.main_v23) = v0 c
          ∧ r.2.mem ((c.tc : Thread Cert.AdGateBRefIdeal.nD Cert.AdGateBRefIdeal.τ).loc Cert.AdGateBRefIdeal.main_v4) = v1 c
          ∧ r.2.mem ((c.tc : Thread Cert.AdGateBRefIdeal.nD Cert.AdGateBRefIdeal.τ).loc Cert.AdGateBRefIdeal.main_v10) = v2 c
          ∧ r.2.mem ((c.tc : Thread Cert.AdGateBRefIdeal.nD Cert.AdGateBRefIdeal.τ).loc Cert.AdGateBRefIdeal.main_arg0) = m' ((c.tc : Thread Cert.AdGateBRefIdeal.nD Cert.AdGateBRefIdeal.τ).loc Cert.AdGateBRefIdeal.main_arg0)
          ∧ r.2.mem ((c.tc : Thread Cert.AdGateBRefIdeal.nD Cert.AdGateBRefIdeal.τ).loc Cert.AdGateBRefIdeal.main_arg1) = m' ((c.tc : Thread Cert.AdGateBRefIdeal.nD Cert.AdGateBRefIdeal.τ).loc Cert.AdGateBRefIdeal.main_arg1)
          ∧ r.2.mem ((c.tc : Thread Cert.AdGateBRefIdeal.nD Cert.AdGateBRefIdeal.τ).loc Cert.AdGateBRefIdeal.main_arg2) = m' ((c.tc : Thread Cert.AdGateBRefIdeal.nD Cert.AdGateBRefIdeal.τ).loc Cert.AdGateBRefIdeal.main_arg2)
          ∧ r.2.mem ((c.tc : Thread Cert.AdGateBRefIdeal.nD Cert.AdGateBRefIdeal.τ).loc Cert.AdGateBRefIdeal.main_arg3) = m' ((c.tc : Thread Cert.AdGateBRefIdeal.nD Cert.AdGateBRefIdeal.τ).loc Cert.AdGateBRefIdeal.main_arg3))

def preserves_AdProj_AdProjIdeal : Prop :=
  True

def algebraic_AdProjIdeal_AdProjRefIdeal [hAdProjIdeal : Cert.AdProjIdeal.Facts] [hAdProjRefIdeal : Cert.AdProjRefIdeal.Facts] : Prop :=
  ∀ (m : (ℓ : Loc Cert.AdProjIdeal.nD Cert.AdProjIdeal.τ Cert.AdProjIdeal.sig) → Buf (Elt Ideal) ℓ) (g : Dev Cert.AdProjIdeal.nD → PrngReg)
    (m' : (ℓ : Loc Cert.AdProjRefIdeal.nD Cert.AdProjRefIdeal.τ Cert.AdProjRefIdeal.sig) → Buf (Elt Ideal) ℓ) (g' : Dev Cert.AdProjRefIdeal.nD → PrngReg), Pre_AdProjIdeal m →
    (∀ c : Dev Cert.AdProjIdeal.nD,
      m' ((c.tc : Thread Cert.AdProjRefIdeal.nD Cert.AdProjRefIdeal.τ).loc Cert.AdProjRefIdeal.main_arg0) = m ((c.tc : Thread Cert.AdProjIdeal.nD Cert.AdProjIdeal.τ).loc Cert.AdProjIdeal.main_arg0)
      ∧ m' ((c.tc : Thread Cert.AdProjRefIdeal.nD Cert.AdProjRefIdeal.τ).loc Cert.AdProjRefIdeal.main_arg1) = m ((c.tc : Thread Cert.AdProjIdeal.nD Cert.AdProjIdeal.τ).loc Cert.AdProjIdeal.main_arg1)
      ∧ m' ((c.tc : Thread Cert.AdProjRefIdeal.nD Cert.AdProjRefIdeal.τ).loc Cert.AdProjRefIdeal.main_arg2) = m ((c.tc : Thread Cert.AdProjIdeal.nD Cert.AdProjIdeal.τ).loc Cert.AdProjIdeal.main_arg2)
      ∧ m' ((c.tc : Thread Cert.AdProjRefIdeal.nD Cert.AdProjRefIdeal.τ).loc Cert.AdProjRefIdeal.main_arg3) = m ((c.tc : Thread Cert.AdProjIdeal.nD Cert.AdProjIdeal.τ).loc Cert.AdProjIdeal.main_arg3)) →
    ∃ (v0 : (c : Dev Cert.AdProjIdeal.nD) → Buf (Elt Ideal) ((c.tc : Thread Cert.AdProjIdeal.nD Cert.AdProjIdeal.τ).loc Cert.AdProjIdeal.main_v0_0)) (v1 : (c : Dev Cert.AdProjIdeal.nD) → Buf (Elt Ideal) ((c.tc : Thread Cert.AdProjIdeal.nD Cert.AdProjIdeal.τ).loc Cert.AdProjIdeal.main_v0_1)) (v2 : (c : Dev Cert.AdProjIdeal.nD) → Buf (Elt Ideal) ((c.tc : Thread Cert.AdProjIdeal.nD Cert.AdProjIdeal.τ).loc Cert.AdProjIdeal.main_v0_2)),
      θ_run (Cert.AdProjIdeal.defs (F := Ideal)) (onTc (τ := Cert.AdProjIdeal.τ) (Cert.AdProjIdeal.main (F := Ideal))) ⟨m, fun _ => 0, g⟩ (fun r => ∀ c : Dev Cert.AdProjIdeal.nD,
          r.2.mem ((c.tc : Thread Cert.AdProjIdeal.nD Cert.AdProjIdeal.τ).loc Cert.AdProjIdeal.main_v0_0) = v0 c
          ∧ r.2.mem ((c.tc : Thread Cert.AdProjIdeal.nD Cert.AdProjIdeal.τ).loc Cert.AdProjIdeal.main_v0_1) = v1 c
          ∧ r.2.mem ((c.tc : Thread Cert.AdProjIdeal.nD Cert.AdProjIdeal.τ).loc Cert.AdProjIdeal.main_v0_2) = v2 c
          ∧ r.2.mem ((c.tc : Thread Cert.AdProjIdeal.nD Cert.AdProjIdeal.τ).loc Cert.AdProjIdeal.main_arg0) = m ((c.tc : Thread Cert.AdProjIdeal.nD Cert.AdProjIdeal.τ).loc Cert.AdProjIdeal.main_arg0)
          ∧ r.2.mem ((c.tc : Thread Cert.AdProjIdeal.nD Cert.AdProjIdeal.τ).loc Cert.AdProjIdeal.main_arg1) = m ((c.tc : Thread Cert.AdProjIdeal.nD Cert.AdProjIdeal.τ).loc Cert.AdProjIdeal.main_arg1)
          ∧ r.2.mem ((c.tc : Thread Cert.AdProjIdeal.nD Cert.AdProjIdeal.τ).loc Cert.AdProjIdeal.main_arg2) = m ((c.tc : Thread Cert.AdProjIdeal.nD Cert.AdProjIdeal.τ).loc Cert.AdProjIdeal.main_arg2)
          ∧ r.2.mem ((c.tc : Thread Cert.AdProjIdeal.nD Cert.AdProjIdeal.τ).loc Cert.AdProjIdeal.main_arg3) = m ((c.tc : Thread Cert.AdProjIdeal.nD Cert.AdProjIdeal.τ).loc Cert.AdProjIdeal.main_arg3))
      ∧ θ_run (Cert.AdProjRefIdeal.defs (F := Ideal)) (onTc (τ := Cert.AdProjRefIdeal.τ) (Cert.AdProjRefIdeal.main (F := Ideal))) ⟨m', fun _ => 0, g'⟩ (fun r => ∀ c : Dev Cert.AdProjRefIdeal.nD,
          r.2.mem ((c.tc : Thread Cert.AdProjRefIdeal.nD Cert.AdProjRefIdeal.τ).loc Cert.AdProjRefIdeal.main_v23) = v0 c
          ∧ r.2.mem ((c.tc : Thread Cert.AdProjRefIdeal.nD Cert.AdProjRefIdeal.τ).loc Cert.AdProjRefIdeal.main_v4) = v1 c
          ∧ r.2.mem ((c.tc : Thread Cert.AdProjRefIdeal.nD Cert.AdProjRefIdeal.τ).loc Cert.AdProjRefIdeal.main_v10) = v2 c
          ∧ r.2.mem ((c.tc : Thread Cert.AdProjRefIdeal.nD Cert.AdProjRefIdeal.τ).loc Cert.AdProjRefIdeal.main_arg0) = m' ((c.tc : Thread Cert.AdProjRefIdeal.nD Cert.AdProjRefIdeal.τ).loc Cert.AdProjRefIdeal.main_arg0)
          ∧ r.2.mem ((c.tc : Thread Cert.AdProjRefIdeal.nD Cert.AdProjRefIdeal.τ).loc Cert.AdProjRefIdeal.main_arg1) = m' ((c.tc : Thread Cert.AdProjRefIdeal.nD Cert.AdProjRefIdeal.τ).loc Cert.AdProjRefIdeal.main_arg1)
          ∧ r.2.mem ((c.tc : Thread Cert.AdProjRefIdeal.nD Cert.AdProjRefIdeal.τ).loc Cert.AdProjRefIdeal.main_arg2) = m' ((c.tc : Thread Cert.AdProjRefIdeal.nD Cert.AdProjRefIdeal.τ).loc Cert.AdProjRefIdeal.main_arg2)
          ∧ r.2.mem ((c.tc : Thread Cert.AdProjRefIdeal.nD Cert.AdProjRefIdeal.τ).loc Cert.AdProjRefIdeal.main_arg3) = m' ((c.tc : Thread Cert.AdProjRefIdeal.nD Cert.AdProjRefIdeal.τ).loc Cert.AdProjRefIdeal.main_arg3))

def preserves_MlpLn_MlpLnIdeal : Prop :=
  True

def algebraic_MlpLnIdeal_MlpLnRefIdeal [hMlpLnIdeal : Cert.MlpLnIdeal.Facts] [hMlpLnRefIdeal : Cert.MlpLnRefIdeal.Facts] : Prop :=
  ∀ (m : (ℓ : Loc Cert.MlpLnIdeal.nD Cert.MlpLnIdeal.τ Cert.MlpLnIdeal.sig) → Buf (Elt Ideal) ℓ) (g : Dev Cert.MlpLnIdeal.nD → PrngReg)
    (m' : (ℓ : Loc Cert.MlpLnRefIdeal.nD Cert.MlpLnRefIdeal.τ Cert.MlpLnRefIdeal.sig) → Buf (Elt Ideal) ℓ) (g' : Dev Cert.MlpLnRefIdeal.nD → PrngReg), Pre_MlpLnIdeal m →
    (∀ c : Dev Cert.MlpLnIdeal.nD,
      m' ((c.tc : Thread Cert.MlpLnRefIdeal.nD Cert.MlpLnRefIdeal.τ).loc Cert.MlpLnRefIdeal.main_arg0) = m ((c.tc : Thread Cert.MlpLnIdeal.nD Cert.MlpLnIdeal.τ).loc Cert.MlpLnIdeal.main_arg0)
      ∧ m' ((c.tc : Thread Cert.MlpLnRefIdeal.nD Cert.MlpLnRefIdeal.τ).loc Cert.MlpLnRefIdeal.main_arg1) = m ((c.tc : Thread Cert.MlpLnIdeal.nD Cert.MlpLnIdeal.τ).loc Cert.MlpLnIdeal.main_arg1)
      ∧ m' ((c.tc : Thread Cert.MlpLnRefIdeal.nD Cert.MlpLnRefIdeal.τ).loc Cert.MlpLnRefIdeal.main_arg2) = m ((c.tc : Thread Cert.MlpLnIdeal.nD Cert.MlpLnIdeal.τ).loc Cert.MlpLnIdeal.main_arg2)
      ∧ m' ((c.tc : Thread Cert.MlpLnRefIdeal.nD Cert.MlpLnRefIdeal.τ).loc Cert.MlpLnRefIdeal.main_arg3) = m ((c.tc : Thread Cert.MlpLnIdeal.nD Cert.MlpLnIdeal.τ).loc Cert.MlpLnIdeal.main_arg3)
      ∧ m' ((c.tc : Thread Cert.MlpLnRefIdeal.nD Cert.MlpLnRefIdeal.τ).loc Cert.MlpLnRefIdeal.main_arg4) = m ((c.tc : Thread Cert.MlpLnIdeal.nD Cert.MlpLnIdeal.τ).loc Cert.MlpLnIdeal.main_arg4)
      ∧ m' ((c.tc : Thread Cert.MlpLnRefIdeal.nD Cert.MlpLnRefIdeal.τ).loc Cert.MlpLnRefIdeal.main_arg5) = m ((c.tc : Thread Cert.MlpLnIdeal.nD Cert.MlpLnIdeal.τ).loc Cert.MlpLnIdeal.main_arg5)
      ∧ m' ((c.tc : Thread Cert.MlpLnRefIdeal.nD Cert.MlpLnRefIdeal.τ).loc Cert.MlpLnRefIdeal.main_arg6) = m ((c.tc : Thread Cert.MlpLnIdeal.nD Cert.MlpLnIdeal.τ).loc Cert.MlpLnIdeal.main_arg6)
      ∧ m' ((c.tc : Thread Cert.MlpLnRefIdeal.nD Cert.MlpLnRefIdeal.τ).loc Cert.MlpLnRefIdeal.main_arg7) = m ((c.tc : Thread Cert.MlpLnIdeal.nD Cert.MlpLnIdeal.τ).loc Cert.MlpLnIdeal.main_arg7)
      ∧ m' ((c.tc : Thread Cert.MlpLnRefIdeal.nD Cert.MlpLnRefIdeal.τ).loc Cert.MlpLnRefIdeal.main_arg8) = m ((c.tc : Thread Cert.MlpLnIdeal.nD Cert.MlpLnIdeal.τ).loc Cert.MlpLnIdeal.main_arg8)) →
    ∃ (v0 : (c : Dev Cert.MlpLnIdeal.nD) → Buf (Elt Ideal) ((c.tc : Thread Cert.MlpLnIdeal.nD Cert.MlpLnIdeal.τ).loc Cert.MlpLnIdeal.main_v27_0)) (v1 : (c : Dev Cert.MlpLnIdeal.nD) → Buf (Elt Ideal) ((c.tc : Thread Cert.MlpLnIdeal.nD Cert.MlpLnIdeal.τ).loc Cert.MlpLnIdeal.main_v27_1)) (v2 : (c : Dev Cert.MlpLnIdeal.nD) → Buf (Elt Ideal) ((c.tc : Thread Cert.MlpLnIdeal.nD Cert.MlpLnIdeal.τ).loc Cert.MlpLnIdeal.main_v27_2)),
      θ_run (Cert.MlpLnIdeal.defs (F := Ideal)) (onTc (τ := Cert.MlpLnIdeal.τ) (Cert.MlpLnIdeal.main (F := Ideal))) ⟨m, fun _ => 0, g⟩ (fun r => ∀ c : Dev Cert.MlpLnIdeal.nD,
          r.2.mem ((c.tc : Thread Cert.MlpLnIdeal.nD Cert.MlpLnIdeal.τ).loc Cert.MlpLnIdeal.main_v27_0) = v0 c
          ∧ r.2.mem ((c.tc : Thread Cert.MlpLnIdeal.nD Cert.MlpLnIdeal.τ).loc Cert.MlpLnIdeal.main_v27_1) = v1 c
          ∧ r.2.mem ((c.tc : Thread Cert.MlpLnIdeal.nD Cert.MlpLnIdeal.τ).loc Cert.MlpLnIdeal.main_v27_2) = v2 c
          ∧ r.2.mem ((c.tc : Thread Cert.MlpLnIdeal.nD Cert.MlpLnIdeal.τ).loc Cert.MlpLnIdeal.main_arg0) = m ((c.tc : Thread Cert.MlpLnIdeal.nD Cert.MlpLnIdeal.τ).loc Cert.MlpLnIdeal.main_arg0)
          ∧ r.2.mem ((c.tc : Thread Cert.MlpLnIdeal.nD Cert.MlpLnIdeal.τ).loc Cert.MlpLnIdeal.main_arg1) = m ((c.tc : Thread Cert.MlpLnIdeal.nD Cert.MlpLnIdeal.τ).loc Cert.MlpLnIdeal.main_arg1)
          ∧ r.2.mem ((c.tc : Thread Cert.MlpLnIdeal.nD Cert.MlpLnIdeal.τ).loc Cert.MlpLnIdeal.main_arg2) = m ((c.tc : Thread Cert.MlpLnIdeal.nD Cert.MlpLnIdeal.τ).loc Cert.MlpLnIdeal.main_arg2)
          ∧ r.2.mem ((c.tc : Thread Cert.MlpLnIdeal.nD Cert.MlpLnIdeal.τ).loc Cert.MlpLnIdeal.main_arg3) = m ((c.tc : Thread Cert.MlpLnIdeal.nD Cert.MlpLnIdeal.τ).loc Cert.MlpLnIdeal.main_arg3)
          ∧ r.2.mem ((c.tc : Thread Cert.MlpLnIdeal.nD Cert.MlpLnIdeal.τ).loc Cert.MlpLnIdeal.main_arg4) = m ((c.tc : Thread Cert.MlpLnIdeal.nD Cert.MlpLnIdeal.τ).loc Cert.MlpLnIdeal.main_arg4)
          ∧ r.2.mem ((c.tc : Thread Cert.MlpLnIdeal.nD Cert.MlpLnIdeal.τ).loc Cert.MlpLnIdeal.main_arg5) = m ((c.tc : Thread Cert.MlpLnIdeal.nD Cert.MlpLnIdeal.τ).loc Cert.MlpLnIdeal.main_arg5)
          ∧ r.2.mem ((c.tc : Thread Cert.MlpLnIdeal.nD Cert.MlpLnIdeal.τ).loc Cert.MlpLnIdeal.main_arg6) = m ((c.tc : Thread Cert.MlpLnIdeal.nD Cert.MlpLnIdeal.τ).loc Cert.MlpLnIdeal.main_arg6)
          ∧ r.2.mem ((c.tc : Thread Cert.MlpLnIdeal.nD Cert.MlpLnIdeal.τ).loc Cert.MlpLnIdeal.main_arg7) = m ((c.tc : Thread Cert.MlpLnIdeal.nD Cert.MlpLnIdeal.τ).loc Cert.MlpLnIdeal.main_arg7)
          ∧ r.2.mem ((c.tc : Thread Cert.MlpLnIdeal.nD Cert.MlpLnIdeal.τ).loc Cert.MlpLnIdeal.main_arg8) = m ((c.tc : Thread Cert.MlpLnIdeal.nD Cert.MlpLnIdeal.τ).loc Cert.MlpLnIdeal.main_arg8))
      ∧ θ_run (Cert.MlpLnRefIdeal.defs (F := Ideal)) (onTc (τ := Cert.MlpLnRefIdeal.τ) (Cert.MlpLnRefIdeal.main (F := Ideal))) ⟨m', fun _ => 0, g'⟩ (fun r => ∀ c : Dev Cert.MlpLnRefIdeal.nD,
          r.2.mem ((c.tc : Thread Cert.MlpLnRefIdeal.nD Cert.MlpLnRefIdeal.τ).loc Cert.MlpLnRefIdeal.main_v54) = v0 c
          ∧ r.2.mem ((c.tc : Thread Cert.MlpLnRefIdeal.nD Cert.MlpLnRefIdeal.τ).loc Cert.MlpLnRefIdeal.main_v58) = v1 c
          ∧ r.2.mem ((c.tc : Thread Cert.MlpLnRefIdeal.nD Cert.MlpLnRefIdeal.τ).loc Cert.MlpLnRefIdeal.main_v83) = v2 c
          ∧ r.2.mem ((c.tc : Thread Cert.MlpLnRefIdeal.nD Cert.MlpLnRefIdeal.τ).loc Cert.MlpLnRefIdeal.main_arg0) = m' ((c.tc : Thread Cert.MlpLnRefIdeal.nD Cert.MlpLnRefIdeal.τ).loc Cert.MlpLnRefIdeal.main_arg0)
          ∧ r.2.mem ((c.tc : Thread Cert.MlpLnRefIdeal.nD Cert.MlpLnRefIdeal.τ).loc Cert.MlpLnRefIdeal.main_arg1) = m' ((c.tc : Thread Cert.MlpLnRefIdeal.nD Cert.MlpLnRefIdeal.τ).loc Cert.MlpLnRefIdeal.main_arg1)
          ∧ r.2.mem ((c.tc : Thread Cert.MlpLnRefIdeal.nD Cert.MlpLnRefIdeal.τ).loc Cert.MlpLnRefIdeal.main_arg2) = m' ((c.tc : Thread Cert.MlpLnRefIdeal.nD Cert.MlpLnRefIdeal.τ).loc Cert.MlpLnRefIdeal.main_arg2)
          ∧ r.2.mem ((c.tc : Thread Cert.MlpLnRefIdeal.nD Cert.MlpLnRefIdeal.τ).loc Cert.MlpLnRefIdeal.main_arg3) = m' ((c.tc : Thread Cert.MlpLnRefIdeal.nD Cert.MlpLnRefIdeal.τ).loc Cert.MlpLnRefIdeal.main_arg3)
          ∧ r.2.mem ((c.tc : Thread Cert.MlpLnRefIdeal.nD Cert.MlpLnRefIdeal.τ).loc Cert.MlpLnRefIdeal.main_arg4) = m' ((c.tc : Thread Cert.MlpLnRefIdeal.nD Cert.MlpLnRefIdeal.τ).loc Cert.MlpLnRefIdeal.main_arg4)
          ∧ r.2.mem ((c.tc : Thread Cert.MlpLnRefIdeal.nD Cert.MlpLnRefIdeal.τ).loc Cert.MlpLnRefIdeal.main_arg5) = m' ((c.tc : Thread Cert.MlpLnRefIdeal.nD Cert.MlpLnRefIdeal.τ).loc Cert.MlpLnRefIdeal.main_arg5)
          ∧ r.2.mem ((c.tc : Thread Cert.MlpLnRefIdeal.nD Cert.MlpLnRefIdeal.τ).loc Cert.MlpLnRefIdeal.main_arg6) = m' ((c.tc : Thread Cert.MlpLnRefIdeal.nD Cert.MlpLnRefIdeal.τ).loc Cert.MlpLnRefIdeal.main_arg6)
          ∧ r.2.mem ((c.tc : Thread Cert.MlpLnRefIdeal.nD Cert.MlpLnRefIdeal.τ).loc Cert.MlpLnRefIdeal.main_arg7) = m' ((c.tc : Thread Cert.MlpLnRefIdeal.nD Cert.MlpLnRefIdeal.τ).loc Cert.MlpLnRefIdeal.main_arg7)
          ∧ r.2.mem ((c.tc : Thread Cert.MlpLnRefIdeal.nD Cert.MlpLnRefIdeal.τ).loc Cert.MlpLnRefIdeal.main_arg8) = m' ((c.tc : Thread Cert.MlpLnRefIdeal.nD Cert.MlpLnRefIdeal.τ).loc Cert.MlpLnRefIdeal.main_arg8))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)
      ∧ m' ((c.tc : Thread Cert.OutLnRefIdeal.nD Cert.OutLnRefIdeal.τ).loc Cert.OutLnRefIdeal.main_arg5) = m ((c.tc : Thread Cert.OutLnIdeal.nD Cert.OutLnIdeal.τ).loc Cert.OutLnIdeal.main_arg5)
      ∧ m' ((c.tc : Thread Cert.OutLnRefIdeal.nD Cert.OutLnRefIdeal.τ).loc Cert.OutLnRefIdeal.main_arg6) = m ((c.tc : Thread Cert.OutLnIdeal.nD Cert.OutLnIdeal.τ).loc Cert.OutLnIdeal.main_arg6)) →
    ∃ (v0 : (c : Dev Cert.OutLnIdeal.nD) → Buf (Elt Ideal) ((c.tc : Thread Cert.OutLnIdeal.nD Cert.OutLnIdeal.τ).loc Cert.OutLnIdeal.main_v27_0)) (v1 : (c : Dev Cert.OutLnIdeal.nD) → Buf (Elt Ideal) ((c.tc : Thread Cert.OutLnIdeal.nD Cert.OutLnIdeal.τ).loc Cert.OutLnIdeal.main_v27_1)) (v2 : (c : Dev Cert.OutLnIdeal.nD) → Buf (Elt Ideal) ((c.tc : Thread Cert.OutLnIdeal.nD Cert.OutLnIdeal.τ).loc Cert.OutLnIdeal.main_v27_2)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v27_0) = v0 c
          ∧ r.2.mem ((c.tc : Thread Cert.OutLnIdeal.nD Cert.OutLnIdeal.τ).loc Cert.OutLnIdeal.main_v27_1) = v1 c
          ∧ r.2.mem ((c.tc : Thread Cert.OutLnIdeal.nD Cert.OutLnIdeal.τ).loc Cert.OutLnIdeal.main_v27_2) = v2 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
          ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
          ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v45) = v0 c
          ∧ r.2.mem ((c.tc : Thread Cert.OutLnRefIdeal.nD Cert.OutLnRefIdeal.τ).loc Cert.OutLnRefIdeal.main_v49) = v1 c
          ∧ r.2.mem ((c.tc : Thread Cert.OutLnRefIdeal.nD Cert.OutLnRefIdeal.τ).loc Cert.OutLnRefIdeal.main_v74) = v2 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4)
          ∧ r.2.mem ((c.tc : Thread Cert.OutLnRefIdeal.nD Cert.OutLnRefIdeal.τ).loc Cert.OutLnRefIdeal.main_arg5) = m' ((c.tc : Thread Cert.OutLnRefIdeal.nD Cert.OutLnRefIdeal.τ).loc Cert.OutLnRefIdeal.main_arg5)
          ∧ r.2.mem ((c.tc : Thread Cert.OutLnRefIdeal.nD Cert.OutLnRefIdeal.τ).loc Cert.OutLnRefIdeal.main_arg6) = m' ((c.tc : Thread Cert.OutLnRefIdeal.nD Cert.OutLnRefIdeal.τ).loc Cert.OutLnRefIdeal.main_arg6))

def preserves_PoolDw_PoolDwIdeal : Prop :=
  True

def algebraic_PoolDwIdeal_PoolDwRefIdeal [hPoolDwIdeal : Cert.PoolDwIdeal.Facts] [hPoolDwRefIdeal : Cert.PoolDwRefIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg)
    (m' : (ℓ : Loc Cert.PoolDwRefIdeal.nD Cert.PoolDwRefIdeal.τ Cert.PoolDwRefIdeal.sig) → Buf (Elt Ideal) ℓ) (g' : Dev Cert.PoolDwRefIdeal.nD → PrngReg), Pre_PoolDwIdeal m →
    (∀ c : Dev Cert.PoolDwIdeal.nD,
      m' ((c.tc : Thread Cert.PoolDwRefIdeal.nD Cert.PoolDwRefIdeal.τ).loc Cert.PoolDwRefIdeal.main_arg0) = m ((c.tc : Thread Cert.PoolDwIdeal.nD Cert.PoolDwIdeal.τ).loc Cert.PoolDwIdeal.main_arg0)
      ∧ m' ((c.tc : Thread Cert.PoolDwRefIdeal.nD Cert.PoolDwRefIdeal.τ).loc Cert.PoolDwRefIdeal.main_arg1) = m ((c.tc : Thread Cert.PoolDwIdeal.nD Cert.PoolDwIdeal.τ).loc Cert.PoolDwIdeal.main_arg1)
      ∧ m' ((c.tc : Thread Cert.PoolDwRefIdeal.nD Cert.PoolDwRefIdeal.τ).loc Cert.PoolDwRefIdeal.main_arg2) = m ((c.tc : Thread Cert.PoolDwIdeal.nD Cert.PoolDwIdeal.τ).loc Cert.PoolDwIdeal.main_arg2)) →
    ∃ (v0 : (c : Dev Cert.PoolDwIdeal.nD) → Buf (Elt Ideal) ((c.tc : Thread Cert.PoolDwIdeal.nD Cert.PoolDwIdeal.τ).loc Cert.PoolDwIdeal.main_v2)),
      θ_run (Cert.PoolDwIdeal.defs (F := Ideal)) (onTc (τ := Cert.PoolDwIdeal.τ) (Cert.PoolDwIdeal.main (F := Ideal))) ⟨m, fun _ => 0, g⟩ (fun r => ∀ c : Dev Cert.PoolDwIdeal.nD,
          r.2.mem ((c.tc : Thread Cert.PoolDwIdeal.nD Cert.PoolDwIdeal.τ).loc Cert.PoolDwIdeal.main_v2) = v0 c
          ∧ r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
          ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1)
          ∧ r.2.mem ((c.tc : Thread Cert.PoolDwIdeal.nD Cert.PoolDwIdeal.τ).loc Cert.PoolDwIdeal.main_arg2) = m ((c.tc : Thread Cert.PoolDwIdeal.nD Cert.PoolDwIdeal.τ).loc Cert.PoolDwIdeal.main_arg2))
      ∧ θ_run (Cert.PoolDwRefIdeal.defs (F := Ideal)) (onTc (τ := Cert.PoolDwRefIdeal.τ) (Cert.PoolDwRefIdeal.main (F := Ideal))) ⟨m', fun _ => 0, g'⟩ (fun r => ∀ c : Dev Cert.PoolDwRefIdeal.nD,
          r.2.mem ((c.tc : Thread Cert.PoolDwRefIdeal.nD Cert.PoolDwRefIdeal.τ).loc Cert.PoolDwRefIdeal.main_v6) = v0 c
          ∧ r.2.mem ((c.tc : Thread Cert.PoolDwRefIdeal.nD Cert.PoolDwRefIdeal.τ).loc Cert.PoolDwRefIdeal.main_arg0) = m' ((c.tc : Thread Cert.PoolDwRefIdeal.nD Cert.PoolDwRefIdeal.τ).loc Cert.PoolDwRefIdeal.main_arg0)
          ∧ r.2.mem ((c.tc : Thread Cert.PoolDwRefIdeal.nD Cert.PoolDwRefIdeal.τ).loc Cert.PoolDwRefIdeal.main_arg1) = m' ((c.tc : Thread Cert.PoolDwRefIdeal.nD Cert.PoolDwRefIdeal.τ).loc Cert.PoolDwRefIdeal.main_arg1)
          ∧ r.2.mem ((c.tc : Thread Cert.PoolDwRefIdeal.nD Cert.PoolDwRefIdeal.τ).loc Cert.PoolDwRefIdeal.main_arg2) = m' ((c.tc : Thread Cert.PoolDwRefIdeal.nD Cert.PoolDwRefIdeal.τ).loc Cert.PoolDwRefIdeal.main_arg2))

def preserves_PoolBwd_PoolBwdIdeal : Prop :=
  True

def algebraic_PoolBwdIdeal_PoolBwdRefIdeal [hPoolBwdIdeal : Cert.PoolBwdIdeal.Facts] [hPoolBwdRefIdeal : Cert.PoolBwdRefIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)
      ∧ m' ((c.tc : Thread Cert.PoolBwdRefIdeal.nD Cert.PoolBwdRefIdeal.τ).loc Cert.PoolBwdRefIdeal.main_arg4) = m ((c.tc : Thread Cert.PoolBwdIdeal.nD Cert.PoolBwdIdeal.τ).loc Cert.PoolBwdIdeal.main_arg4)) →
    ∃ (v0 : (c : Dev Cert.PoolBwdIdeal.nD) → Buf (Elt Ideal) ((c.tc : Thread Cert.PoolBwdIdeal.nD Cert.PoolBwdIdeal.τ).loc Cert.PoolBwdIdeal.main_v4_2)) (v1 : (c : Dev Cert.PoolBwdIdeal.nD) → Buf (Elt Ideal) ((c.tc : Thread Cert.PoolBwdIdeal.nD Cert.PoolBwdIdeal.τ).loc Cert.PoolBwdIdeal.main_v4_3)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v4_2) = v0 c
          ∧ r.2.mem ((c.tc : Thread Cert.PoolBwdIdeal.nD Cert.PoolBwdIdeal.τ).loc Cert.PoolBwdIdeal.main_v4_3) = v1 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v20) = v0 c
          ∧ r.2.mem ((c.tc : Thread Cert.PoolBwdRefIdeal.nD Cert.PoolBwdRefIdeal.τ).loc Cert.PoolBwdRefIdeal.main_v21) = v1 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3)
          ∧ r.2.mem ((c.tc : Thread Cert.PoolBwdRefIdeal.nD Cert.PoolBwdRefIdeal.τ).loc Cert.PoolBwdRefIdeal.main_arg4) = m' ((c.tc : Thread Cert.PoolBwdRefIdeal.nD Cert.PoolBwdRefIdeal.τ).loc Cert.PoolBwdRefIdeal.main_arg4))

def preserves_MlpUpBwd_MlpUpBwdIdeal : Prop :=
  True

def algebraic_MlpUpBwdIdeal_MlpUpBwdRefIdeal_pre_mlp_up_bwd_finite [hMlpUpBwdIdeal : Cert.MlpUpBwdIdeal.Facts] [hMlpUpBwdRefIdeal : Cert.MlpUpBwdRefIdeal.Facts] [hPre_mlp_up_bwd_finite : Cert.Pre_mlp_up_bwd_finite.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg)
    (m' : (ℓ : Loc Cert.MlpUpBwdRefIdeal.nD Cert.MlpUpBwdRefIdeal.τ Cert.MlpUpBwdRefIdeal.sig) → Buf (Elt Ideal) ℓ) (g' : Dev Cert.MlpUpBwdRefIdeal.nD → PrngReg), Pre_MlpUpBwdIdeal_mlp_up_bwd_finite m →
    (∀ c : Dev Cert.MlpUpBwdIdeal.nD,
      m' ((c.tc : Thread Cert.MlpUpBwdRefIdeal.nD Cert.MlpUpBwdRefIdeal.τ).loc Cert.MlpUpBwdRefIdeal.main_arg0) = m ((c.tc : Thread Cert.MlpUpBwdIdeal.nD Cert.MlpUpBwdIdeal.τ).loc Cert.MlpUpBwdIdeal.main_arg0)
      ∧ m' ((c.tc : Thread Cert.MlpUpBwdRefIdeal.nD Cert.MlpUpBwdRefIdeal.τ).loc Cert.MlpUpBwdRefIdeal.main_arg1) = m ((c.tc : Thread Cert.MlpUpBwdIdeal.nD Cert.MlpUpBwdIdeal.τ).loc Cert.MlpUpBwdIdeal.main_arg1)
      ∧ m' ((c.tc : Thread Cert.MlpUpBwdRefIdeal.nD Cert.MlpUpBwdRefIdeal.τ).loc Cert.MlpUpBwdRefIdeal.main_arg2) = m ((c.tc : Thread Cert.MlpUpBwdIdeal.nD Cert.MlpUpBwdIdeal.τ).loc Cert.MlpUpBwdIdeal.main_arg2)
      ∧ m' ((c.tc : Thread Cert.MlpUpBwdRefIdeal.nD Cert.MlpUpBwdRefIdeal.τ).loc Cert.MlpUpBwdRefIdeal.main_arg3) = m ((c.tc : Thread Cert.MlpUpBwdIdeal.nD Cert.MlpUpBwdIdeal.τ).loc Cert.MlpUpBwdIdeal.main_arg3)
      ∧ m' ((c.tc : Thread Cert.MlpUpBwdRefIdeal.nD Cert.MlpUpBwdRefIdeal.τ).loc Cert.MlpUpBwdRefIdeal.main_arg4) = m ((c.tc : Thread Cert.MlpUpBwdIdeal.nD Cert.MlpUpBwdIdeal.τ).loc Cert.MlpUpBwdIdeal.main_arg4)
      ∧ m' ((c.tc : Thread Cert.MlpUpBwdRefIdeal.nD Cert.MlpUpBwdRefIdeal.τ).loc Cert.MlpUpBwdRefIdeal.main_arg5) = m ((c.tc : Thread Cert.MlpUpBwdIdeal.nD Cert.MlpUpBwdIdeal.τ).loc Cert.MlpUpBwdIdeal.main_arg5)) →
    ∃ (v0 : (c : Dev Cert.MlpUpBwdIdeal.nD) → Buf (Elt Ideal) ((c.tc : Thread Cert.MlpUpBwdIdeal.nD Cert.MlpUpBwdIdeal.τ).loc Cert.MlpUpBwdIdeal.main_v25_0)) (v1 : (c : Dev Cert.MlpUpBwdIdeal.nD) → Buf (Elt Ideal) ((c.tc : Thread Cert.MlpUpBwdIdeal.nD Cert.MlpUpBwdIdeal.τ).loc Cert.MlpUpBwdIdeal.main_v25_1)) (v2 : (c : Dev Cert.MlpUpBwdIdeal.nD) → Buf (Elt Ideal) ((c.tc : Thread Cert.MlpUpBwdIdeal.nD Cert.MlpUpBwdIdeal.τ).loc Cert.MlpUpBwdIdeal.main_v25_2)) (v3 : (c : Dev Cert.MlpUpBwdIdeal.nD) → Buf (Elt Ideal) ((c.tc : Thread Cert.MlpUpBwdIdeal.nD Cert.MlpUpBwdIdeal.τ).loc Cert.MlpUpBwdIdeal.main_v25_3)),
      θ_run (Cert.MlpUpBwdIdeal.defs (F := Ideal)) (onTc (τ := Cert.MlpUpBwdIdeal.τ) (Cert.MlpUpBwdIdeal.main (F := Ideal))) ⟨m, fun _ => 0, g⟩ (fun r => ∀ c : Dev Cert.MlpUpBwdIdeal.nD,
          r.2.mem ((c.tc : Thread Cert.MlpUpBwdIdeal.nD Cert.MlpUpBwdIdeal.τ).loc Cert.MlpUpBwdIdeal.main_v25_0) = v0 c
          ∧ r.2.mem ((c.tc : Thread Cert.MlpUpBwdIdeal.nD Cert.MlpUpBwdIdeal.τ).loc Cert.MlpUpBwdIdeal.main_v25_1) = v1 c
          ∧ r.2.mem ((c.tc : Thread Cert.MlpUpBwdIdeal.nD Cert.MlpUpBwdIdeal.τ).loc Cert.MlpUpBwdIdeal.main_v25_2) = v2 c
          ∧ r.2.mem ((c.tc : Thread Cert.MlpUpBwdIdeal.nD Cert.MlpUpBwdIdeal.τ).loc Cert.MlpUpBwdIdeal.main_v25_3) = v3 c
          ∧ r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
          ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
          ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2)
          ∧ r.2.mem ((c.tc : Thread Cert.MlpUpBwdIdeal.nD Cert.MlpUpBwdIdeal.τ).loc Cert.MlpUpBwdIdeal.main_arg3) = m ((c.tc : Thread Cert.MlpUpBwdIdeal.nD Cert.MlpUpBwdIdeal.τ).loc Cert.MlpUpBwdIdeal.main_arg3)
          ∧ r.2.mem ((c.tc : Thread Cert.MlpUpBwdIdeal.nD Cert.MlpUpBwdIdeal.τ).loc Cert.MlpUpBwdIdeal.main_arg4) = m ((c.tc : Thread Cert.MlpUpBwdIdeal.nD Cert.MlpUpBwdIdeal.τ).loc Cert.MlpUpBwdIdeal.main_arg4)
          ∧ r.2.mem ((c.tc : Thread Cert.MlpUpBwdIdeal.nD Cert.MlpUpBwdIdeal.τ).loc Cert.MlpUpBwdIdeal.main_arg5) = m ((c.tc : Thread Cert.MlpUpBwdIdeal.nD Cert.MlpUpBwdIdeal.τ).loc Cert.MlpUpBwdIdeal.main_arg5))
      ∧ θ_run (Cert.MlpUpBwdRefIdeal.defs (F := Ideal)) (onTc (τ := Cert.MlpUpBwdRefIdeal.τ) (Cert.MlpUpBwdRefIdeal.main (F := Ideal))) ⟨m', fun _ => 0, g'⟩ (fun r => ∀ c : Dev Cert.MlpUpBwdRefIdeal.nD,
          r.2.mem ((c.tc : Thread Cert.MlpUpBwdRefIdeal.nD Cert.MlpUpBwdRefIdeal.τ).loc Cert.MlpUpBwdRefIdeal.main_v65) = v0 c
          ∧ r.2.mem ((c.tc : Thread Cert.MlpUpBwdRefIdeal.nD Cert.MlpUpBwdRefIdeal.τ).loc Cert.MlpUpBwdRefIdeal.main_v66) = v1 c
          ∧ r.2.mem ((c.tc : Thread Cert.MlpUpBwdRefIdeal.nD Cert.MlpUpBwdRefIdeal.τ).loc Cert.MlpUpBwdRefIdeal.main_v67) = v2 c
          ∧ r.2.mem ((c.tc : Thread Cert.MlpUpBwdRefIdeal.nD Cert.MlpUpBwdRefIdeal.τ).loc Cert.MlpUpBwdRefIdeal.main_v68) = v3 c
          ∧ r.2.mem ((c.tc : Thread Cert.MlpUpBwdRefIdeal.nD Cert.MlpUpBwdRefIdeal.τ).loc Cert.MlpUpBwdRefIdeal.main_arg0) = m' ((c.tc : Thread Cert.MlpUpBwdRefIdeal.nD Cert.MlpUpBwdRefIdeal.τ).loc Cert.MlpUpBwdRefIdeal.main_arg0)
          ∧ r.2.mem ((c.tc : Thread Cert.MlpUpBwdRefIdeal.nD Cert.MlpUpBwdRefIdeal.τ).loc Cert.MlpUpBwdRefIdeal.main_arg1) = m' ((c.tc : Thread Cert.MlpUpBwdRefIdeal.nD Cert.MlpUpBwdRefIdeal.τ).loc Cert.MlpUpBwdRefIdeal.main_arg1)
          ∧ r.2.mem ((c.tc : Thread Cert.MlpUpBwdRefIdeal.nD Cert.MlpUpBwdRefIdeal.τ).loc Cert.MlpUpBwdRefIdeal.main_arg2) = m' ((c.tc : Thread Cert.MlpUpBwdRefIdeal.nD Cert.MlpUpBwdRefIdeal.τ).loc Cert.MlpUpBwdRefIdeal.main_arg2)
          ∧ r.2.mem ((c.tc : Thread Cert.MlpUpBwdRefIdeal.nD Cert.MlpUpBwdRefIdeal.τ).loc Cert.MlpUpBwdRefIdeal.main_arg3) = m' ((c.tc : Thread Cert.MlpUpBwdRefIdeal.nD Cert.MlpUpBwdRefIdeal.τ).loc Cert.MlpUpBwdRefIdeal.main_arg3)
          ∧ r.2.mem ((c.tc : Thread Cert.MlpUpBwdRefIdeal.nD Cert.MlpUpBwdRefIdeal.τ).loc Cert.MlpUpBwdRefIdeal.main_arg4) = m' ((c.tc : Thread Cert.MlpUpBwdRefIdeal.nD Cert.MlpUpBwdRefIdeal.τ).loc Cert.MlpUpBwdRefIdeal.main_arg4)
          ∧ r.2.mem ((c.tc : Thread Cert.MlpUpBwdRefIdeal.nD Cert.MlpUpBwdRefIdeal.τ).loc Cert.MlpUpBwdRefIdeal.main_arg5) = m' ((c.tc : Thread Cert.MlpUpBwdRefIdeal.nD Cert.MlpUpBwdRefIdeal.τ).loc Cert.MlpUpBwdRefIdeal.main_arg5))

def preserves_InQkvBwd_InQkvBwdIdeal : Prop :=
  True

def algebraic_InQkvBwdIdeal_InQkvBwdRefIdeal_pre_gdn_in_qkv_bwd_finite [hInQkvBwdIdeal : Cert.InQkvBwdIdeal.Facts] [hInQkvBwdRefIdeal : Cert.InQkvBwdRefIdeal.Facts] [hPre_gdn_in_qkv_bwd_finite : Cert.Pre_gdn_in_qkv_bwd_finite.Facts] : Prop :=
  ∀ (m : (ℓ : Loc Cert.InQkvBwdIdeal.nD Cert.InQkvBwdIdeal.τ Cert.InQkvBwdIdeal.sig) → Buf (Elt Ideal) ℓ) (g : Dev Cert.InQkvBwdIdeal.nD → PrngReg)
    (m' : (ℓ : Loc Cert.InQkvBwdRefIdeal.nD Cert.InQkvBwdRefIdeal.τ Cert.InQkvBwdRefIdeal.sig) → Buf (Elt Ideal) ℓ) (g' : Dev Cert.InQkvBwdRefIdeal.nD → PrngReg), Pre_InQkvBwdIdeal_gdn_in_qkv_bwd_finite m →
    (∀ c : Dev Cert.InQkvBwdIdeal.nD,
      m' ((c.tc : Thread Cert.InQkvBwdRefIdeal.nD Cert.InQkvBwdRefIdeal.τ).loc Cert.InQkvBwdRefIdeal.main_arg0) = m ((c.tc : Thread Cert.InQkvBwdIdeal.nD Cert.InQkvBwdIdeal.τ).loc Cert.InQkvBwdIdeal.main_arg0)
      ∧ m' ((c.tc : Thread Cert.InQkvBwdRefIdeal.nD Cert.InQkvBwdRefIdeal.τ).loc Cert.InQkvBwdRefIdeal.main_arg1) = m ((c.tc : Thread Cert.InQkvBwdIdeal.nD Cert.InQkvBwdIdeal.τ).loc Cert.InQkvBwdIdeal.main_arg1)
      ∧ m' ((c.tc : Thread Cert.InQkvBwdRefIdeal.nD Cert.InQkvBwdRefIdeal.τ).loc Cert.InQkvBwdRefIdeal.main_arg2) = m ((c.tc : Thread Cert.InQkvBwdIdeal.nD Cert.InQkvBwdIdeal.τ).loc Cert.InQkvBwdIdeal.main_arg2)
      ∧ m' ((c.tc : Thread Cert.InQkvBwdRefIdeal.nD Cert.InQkvBwdRefIdeal.τ).loc Cert.InQkvBwdRefIdeal.main_arg3) = m ((c.tc : Thread Cert.InQkvBwdIdeal.nD Cert.InQkvBwdIdeal.τ).loc Cert.InQkvBwdIdeal.main_arg3)
      ∧ m' ((c.tc : Thread Cert.InQkvBwdRefIdeal.nD Cert.InQkvBwdRefIdeal.τ).loc Cert.InQkvBwdRefIdeal.main_arg4) = m ((c.tc : Thread Cert.InQkvBwdIdeal.nD Cert.InQkvBwdIdeal.τ).loc Cert.InQkvBwdIdeal.main_arg4)
      ∧ m' ((c.tc : Thread Cert.InQkvBwdRefIdeal.nD Cert.InQkvBwdRefIdeal.τ).loc Cert.InQkvBwdRefIdeal.main_arg5) = m ((c.tc : Thread Cert.InQkvBwdIdeal.nD Cert.InQkvBwdIdeal.τ).loc Cert.InQkvBwdIdeal.main_arg5)
      ∧ m' ((c.tc : Thread Cert.InQkvBwdRefIdeal.nD Cert.InQkvBwdRefIdeal.τ).loc Cert.InQkvBwdRefIdeal.main_arg6) = m ((c.tc : Thread Cert.InQkvBwdIdeal.nD Cert.InQkvBwdIdeal.τ).loc Cert.InQkvBwdIdeal.main_arg6)
      ∧ m' ((c.tc : Thread Cert.InQkvBwdRefIdeal.nD Cert.InQkvBwdRefIdeal.τ).loc Cert.InQkvBwdRefIdeal.main_arg7) = m ((c.tc : Thread Cert.InQkvBwdIdeal.nD Cert.InQkvBwdIdeal.τ).loc Cert.InQkvBwdIdeal.main_arg7)
      ∧ m' ((c.tc : Thread Cert.InQkvBwdRefIdeal.nD Cert.InQkvBwdRefIdeal.τ).loc Cert.InQkvBwdRefIdeal.main_arg8) = m ((c.tc : Thread Cert.InQkvBwdIdeal.nD Cert.InQkvBwdIdeal.τ).loc Cert.InQkvBwdIdeal.main_arg8)) →
    ∃ (v0 : (c : Dev Cert.InQkvBwdIdeal.nD) → Buf (Elt Ideal) ((c.tc : Thread Cert.InQkvBwdIdeal.nD Cert.InQkvBwdIdeal.τ).loc Cert.InQkvBwdIdeal.main_v28_0)) (v1 : (c : Dev Cert.InQkvBwdIdeal.nD) → Buf (Elt Ideal) ((c.tc : Thread Cert.InQkvBwdIdeal.nD Cert.InQkvBwdIdeal.τ).loc Cert.InQkvBwdIdeal.main_v28_1)) (v2 : (c : Dev Cert.InQkvBwdIdeal.nD) → Buf (Elt Ideal) ((c.tc : Thread Cert.InQkvBwdIdeal.nD Cert.InQkvBwdIdeal.τ).loc Cert.InQkvBwdIdeal.main_v28_2)) (v3 : (c : Dev Cert.InQkvBwdIdeal.nD) → Buf (Elt Ideal) ((c.tc : Thread Cert.InQkvBwdIdeal.nD Cert.InQkvBwdIdeal.τ).loc Cert.InQkvBwdIdeal.main_v28_3)) (v4 : (c : Dev Cert.InQkvBwdIdeal.nD) → Buf (Elt Ideal) ((c.tc : Thread Cert.InQkvBwdIdeal.nD Cert.InQkvBwdIdeal.τ).loc Cert.InQkvBwdIdeal.main_v28_4)) (v5 : (c : Dev Cert.InQkvBwdIdeal.nD) → Buf (Elt Ideal) ((c.tc : Thread Cert.InQkvBwdIdeal.nD Cert.InQkvBwdIdeal.τ).loc Cert.InQkvBwdIdeal.main_v28_5)) (v6 : (c : Dev Cert.InQkvBwdIdeal.nD) → Buf (Elt Ideal) ((c.tc : Thread Cert.InQkvBwdIdeal.nD Cert.InQkvBwdIdeal.τ).loc Cert.InQkvBwdIdeal.main_v28_6)),
      θ_run (Cert.InQkvBwdIdeal.defs (F := Ideal)) (onTc (τ := Cert.InQkvBwdIdeal.τ) (Cert.InQkvBwdIdeal.main (F := Ideal))) ⟨m, fun _ => 0, g⟩ (fun r => ∀ c : Dev Cert.InQkvBwdIdeal.nD,
          r.2.mem ((c.tc : Thread Cert.InQkvBwdIdeal.nD Cert.InQkvBwdIdeal.τ).loc Cert.InQkvBwdIdeal.main_v28_0) = v0 c
          ∧ r.2.mem ((c.tc : Thread Cert.InQkvBwdIdeal.nD Cert.InQkvBwdIdeal.τ).loc Cert.InQkvBwdIdeal.main_v28_1) = v1 c
          ∧ r.2.mem ((c.tc : Thread Cert.InQkvBwdIdeal.nD Cert.InQkvBwdIdeal.τ).loc Cert.InQkvBwdIdeal.main_v28_2) = v2 c
          ∧ r.2.mem ((c.tc : Thread Cert.InQkvBwdIdeal.nD Cert.InQkvBwdIdeal.τ).loc Cert.InQkvBwdIdeal.main_v28_3) = v3 c
          ∧ r.2.mem ((c.tc : Thread Cert.InQkvBwdIdeal.nD Cert.InQkvBwdIdeal.τ).loc Cert.InQkvBwdIdeal.main_v28_4) = v4 c
          ∧ r.2.mem ((c.tc : Thread Cert.InQkvBwdIdeal.nD Cert.InQkvBwdIdeal.τ).loc Cert.InQkvBwdIdeal.main_v28_5) = v5 c
          ∧ r.2.mem ((c.tc : Thread Cert.InQkvBwdIdeal.nD Cert.InQkvBwdIdeal.τ).loc Cert.InQkvBwdIdeal.main_v28_6) = v6 c
          ∧ r.2.mem ((c.tc : Thread Cert.InQkvBwdIdeal.nD Cert.InQkvBwdIdeal.τ).loc Cert.InQkvBwdIdeal.main_arg0) = m ((c.tc : Thread Cert.InQkvBwdIdeal.nD Cert.InQkvBwdIdeal.τ).loc Cert.InQkvBwdIdeal.main_arg0)
          ∧ r.2.mem ((c.tc : Thread Cert.InQkvBwdIdeal.nD Cert.InQkvBwdIdeal.τ).loc Cert.InQkvBwdIdeal.main_arg1) = m ((c.tc : Thread Cert.InQkvBwdIdeal.nD Cert.InQkvBwdIdeal.τ).loc Cert.InQkvBwdIdeal.main_arg1)
          ∧ r.2.mem ((c.tc : Thread Cert.InQkvBwdIdeal.nD Cert.InQkvBwdIdeal.τ).loc Cert.InQkvBwdIdeal.main_arg2) = m ((c.tc : Thread Cert.InQkvBwdIdeal.nD Cert.InQkvBwdIdeal.τ).loc Cert.InQkvBwdIdeal.main_arg2)
          ∧ r.2.mem ((c.tc : Thread Cert.InQkvBwdIdeal.nD Cert.InQkvBwdIdeal.τ).loc Cert.InQkvBwdIdeal.main_arg3) = m ((c.tc : Thread Cert.InQkvBwdIdeal.nD Cert.InQkvBwdIdeal.τ).loc Cert.InQkvBwdIdeal.main_arg3)
          ∧ r.2.mem ((c.tc : Thread Cert.InQkvBwdIdeal.nD Cert.InQkvBwdIdeal.τ).loc Cert.InQkvBwdIdeal.main_arg4) = m ((c.tc : Thread Cert.InQkvBwdIdeal.nD Cert.InQkvBwdIdeal.τ).loc Cert.InQkvBwdIdeal.main_arg4)
          ∧ r.2.mem ((c.tc : Thread Cert.InQkvBwdIdeal.nD Cert.InQkvBwdIdeal.τ).loc Cert.InQkvBwdIdeal.main_arg5) = m ((c.tc : Thread Cert.InQkvBwdIdeal.nD Cert.InQkvBwdIdeal.τ).loc Cert.InQkvBwdIdeal.main_arg5)
          ∧ r.2.mem ((c.tc : Thread Cert.InQkvBwdIdeal.nD Cert.InQkvBwdIdeal.τ).loc Cert.InQkvBwdIdeal.main_arg6) = m ((c.tc : Thread Cert.InQkvBwdIdeal.nD Cert.InQkvBwdIdeal.τ).loc Cert.InQkvBwdIdeal.main_arg6)
          ∧ r.2.mem ((c.tc : Thread Cert.InQkvBwdIdeal.nD Cert.InQkvBwdIdeal.τ).loc Cert.InQkvBwdIdeal.main_arg7) = m ((c.tc : Thread Cert.InQkvBwdIdeal.nD Cert.InQkvBwdIdeal.τ).loc Cert.InQkvBwdIdeal.main_arg7)
          ∧ r.2.mem ((c.tc : Thread Cert.InQkvBwdIdeal.nD Cert.InQkvBwdIdeal.τ).loc Cert.InQkvBwdIdeal.main_arg8) = m ((c.tc : Thread Cert.InQkvBwdIdeal.nD Cert.InQkvBwdIdeal.τ).loc Cert.InQkvBwdIdeal.main_arg8))
      ∧ θ_run (Cert.InQkvBwdRefIdeal.defs (F := Ideal)) (onTc (τ := Cert.InQkvBwdRefIdeal.τ) (Cert.InQkvBwdRefIdeal.main (F := Ideal))) ⟨m', fun _ => 0, g'⟩ (fun r => ∀ c : Dev Cert.InQkvBwdRefIdeal.nD,
          r.2.mem ((c.tc : Thread Cert.InQkvBwdRefIdeal.nD Cert.InQkvBwdRefIdeal.τ).loc Cert.InQkvBwdRefIdeal.main_v65) = v0 c
          ∧ r.2.mem ((c.tc : Thread Cert.InQkvBwdRefIdeal.nD Cert.InQkvBwdRefIdeal.τ).loc Cert.InQkvBwdRefIdeal.main_v85) = v1 c
          ∧ r.2.mem ((c.tc : Thread Cert.InQkvBwdRefIdeal.nD Cert.InQkvBwdRefIdeal.τ).loc Cert.InQkvBwdRefIdeal.main_v86) = v2 c
          ∧ r.2.mem ((c.tc : Thread Cert.InQkvBwdRefIdeal.nD Cert.InQkvBwdRefIdeal.τ).loc Cert.InQkvBwdRefIdeal.main_v87) = v3 c
          ∧ r.2.mem ((c.tc : Thread Cert.InQkvBwdRefIdeal.nD Cert.InQkvBwdRefIdeal.τ).loc Cert.InQkvBwdRefIdeal.main_v88) = v4 c
          ∧ r.2.mem ((c.tc : Thread Cert.InQkvBwdRefIdeal.nD Cert.InQkvBwdRefIdeal.τ).loc Cert.InQkvBwdRefIdeal.main_v89) = v5 c
          ∧ r.2.mem ((c.tc : Thread Cert.InQkvBwdRefIdeal.nD Cert.InQkvBwdRefIdeal.τ).loc Cert.InQkvBwdRefIdeal.main_v90) = v6 c
          ∧ r.2.mem ((c.tc : Thread Cert.InQkvBwdRefIdeal.nD Cert.InQkvBwdRefIdeal.τ).loc Cert.InQkvBwdRefIdeal.main_arg0) = m' ((c.tc : Thread Cert.InQkvBwdRefIdeal.nD Cert.InQkvBwdRefIdeal.τ).loc Cert.InQkvBwdRefIdeal.main_arg0)
          ∧ r.2.mem ((c.tc : Thread Cert.InQkvBwdRefIdeal.nD Cert.InQkvBwdRefIdeal.τ).loc Cert.InQkvBwdRefIdeal.main_arg1) = m' ((c.tc : Thread Cert.InQkvBwdRefIdeal.nD Cert.InQkvBwdRefIdeal.τ).loc Cert.InQkvBwdRefIdeal.main_arg1)
          ∧ r.2.mem ((c.tc : Thread Cert.InQkvBwdRefIdeal.nD Cert.InQkvBwdRefIdeal.τ).loc Cert.InQkvBwdRefIdeal.main_arg2) = m' ((c.tc : Thread Cert.InQkvBwdRefIdeal.nD Cert.InQkvBwdRefIdeal.τ).loc Cert.InQkvBwdRefIdeal.main_arg2)
          ∧ r.2.mem ((c.tc : Thread Cert.InQkvBwdRefIdeal.nD Cert.InQkvBwdRefIdeal.τ).loc Cert.InQkvBwdRefIdeal.main_arg3) = m' ((c.tc : Thread Cert.InQkvBwdRefIdeal.nD Cert.InQkvBwdRefIdeal.τ).loc Cert.InQkvBwdRefIdeal.main_arg3)
          ∧ r.2.mem ((c.tc : Thread Cert.InQkvBwdRefIdeal.nD Cert.InQkvBwdRefIdeal.τ).loc Cert.InQkvBwdRefIdeal.main_arg4) = m' ((c.tc : Thread Cert.InQkvBwdRefIdeal.nD Cert.InQkvBwdRefIdeal.τ).loc Cert.InQkvBwdRefIdeal.main_arg4)
          ∧ r.2.mem ((c.tc : Thread Cert.InQkvBwdRefIdeal.nD Cert.InQkvBwdRefIdeal.τ).loc Cert.InQkvBwdRefIdeal.main_arg5) = m' ((c.tc : Thread Cert.InQkvBwdRefIdeal.nD Cert.InQkvBwdRefIdeal.τ).loc Cert.InQkvBwdRefIdeal.main_arg5)
          ∧ r.2.mem ((c.tc : Thread Cert.InQkvBwdRefIdeal.nD Cert.InQkvBwdRefIdeal.τ).loc Cert.InQkvBwdRefIdeal.main_arg6) = m' ((c.tc : Thread Cert.InQkvBwdRefIdeal.nD Cert.InQkvBwdRefIdeal.τ).loc Cert.InQkvBwdRefIdeal.main_arg6)
          ∧ r.2.mem ((c.tc : Thread Cert.InQkvBwdRefIdeal.nD Cert.InQkvBwdRefIdeal.τ).loc Cert.InQkvBwdRefIdeal.main_arg7) = m' ((c.tc : Thread Cert.InQkvBwdRefIdeal.nD Cert.InQkvBwdRefIdeal.τ).loc Cert.InQkvBwdRefIdeal.main_arg7)
          ∧ r.2.mem ((c.tc : Thread Cert.InQkvBwdRefIdeal.nD Cert.InQkvBwdRefIdeal.τ).loc Cert.InQkvBwdRefIdeal.main_arg8) = m' ((c.tc : Thread Cert.InQkvBwdRefIdeal.nD Cert.InQkvBwdRefIdeal.τ).loc Cert.InQkvBwdRefIdeal.main_arg8))

def preserves_LossLn_LossLnIdeal : Prop :=
  True

def algebraic_LossLnIdeal_LossLnRefIdeal_pre_loss_ln_finite [hLossLnIdeal : Cert.LossLnIdeal.Facts] [hLossLnRefIdeal : Cert.LossLnRefIdeal.Facts] [hPre_loss_ln_finite : Cert.Pre_loss_ln_finite.Facts] : Prop :=
  ∀ (m : (ℓ : Loc Cert.LossLnIdeal.nD Cert.LossLnIdeal.τ Cert.LossLnIdeal.sig) → Buf (Elt Ideal) ℓ) (g : Dev Cert.LossLnIdeal.nD → PrngReg)
    (m' : (ℓ : Loc Cert.LossLnRefIdeal.nD Cert.LossLnRefIdeal.τ Cert.LossLnRefIdeal.sig) → Buf (Elt Ideal) ℓ) (g' : Dev Cert.LossLnRefIdeal.nD → PrngReg), Pre_LossLnIdeal_loss_ln_finite m →
    (∀ c : Dev Cert.LossLnIdeal.nD,
      m' ((c.tc : Thread Cert.LossLnRefIdeal.nD Cert.LossLnRefIdeal.τ).loc Cert.LossLnRefIdeal.main_arg0) = m ((c.tc : Thread Cert.LossLnIdeal.nD Cert.LossLnIdeal.τ).loc Cert.LossLnIdeal.main_arg0)
      ∧ m' ((c.tc : Thread Cert.LossLnRefIdeal.nD Cert.LossLnRefIdeal.τ).loc Cert.LossLnRefIdeal.main_arg1) = m ((c.tc : Thread Cert.LossLnIdeal.nD Cert.LossLnIdeal.τ).loc Cert.LossLnIdeal.main_arg1)
      ∧ m' ((c.tc : Thread Cert.LossLnRefIdeal.nD Cert.LossLnRefIdeal.τ).loc Cert.LossLnRefIdeal.main_arg2) = m ((c.tc : Thread Cert.LossLnIdeal.nD Cert.LossLnIdeal.τ).loc Cert.LossLnIdeal.main_arg2)
      ∧ m' ((c.tc : Thread Cert.LossLnRefIdeal.nD Cert.LossLnRefIdeal.τ).loc Cert.LossLnRefIdeal.main_arg3) = m ((c.tc : Thread Cert.LossLnIdeal.nD Cert.LossLnIdeal.τ).loc Cert.LossLnIdeal.main_arg3)
      ∧ m' ((c.tc : Thread Cert.LossLnRefIdeal.nD Cert.LossLnRefIdeal.τ).loc Cert.LossLnRefIdeal.main_arg4) = m ((c.tc : Thread Cert.LossLnIdeal.nD Cert.LossLnIdeal.τ).loc Cert.LossLnIdeal.main_arg4)
      ∧ m' ((c.tc : Thread Cert.LossLnRefIdeal.nD Cert.LossLnRefIdeal.τ).loc Cert.LossLnRefIdeal.main_arg5) = m ((c.tc : Thread Cert.LossLnIdeal.nD Cert.LossLnIdeal.τ).loc Cert.LossLnIdeal.main_arg5)
      ∧ m' ((c.tc : Thread Cert.LossLnRefIdeal.nD Cert.LossLnRefIdeal.τ).loc Cert.LossLnRefIdeal.main_arg6) = m ((c.tc : Thread Cert.LossLnIdeal.nD Cert.LossLnIdeal.τ).loc Cert.LossLnIdeal.main_arg6)
      ∧ m' ((c.tc : Thread Cert.LossLnRefIdeal.nD Cert.LossLnRefIdeal.τ).loc Cert.LossLnRefIdeal.main_arg7) = m ((c.tc : Thread Cert.LossLnIdeal.nD Cert.LossLnIdeal.τ).loc Cert.LossLnIdeal.main_arg7)
      ∧ m' ((c.tc : Thread Cert.LossLnRefIdeal.nD Cert.LossLnRefIdeal.τ).loc Cert.LossLnRefIdeal.main_arg8) = m ((c.tc : Thread Cert.LossLnIdeal.nD Cert.LossLnIdeal.τ).loc Cert.LossLnIdeal.main_arg8)
      ∧ m' ((c.tc : Thread Cert.LossLnRefIdeal.nD Cert.LossLnRefIdeal.τ).loc Cert.LossLnRefIdeal.main_arg9) = m ((c.tc : Thread Cert.LossLnIdeal.nD Cert.LossLnIdeal.τ).loc Cert.LossLnIdeal.main_arg9)
      ∧ m' ((c.tc : Thread Cert.LossLnRefIdeal.nD Cert.LossLnRefIdeal.τ).loc Cert.LossLnRefIdeal.main_arg10) = m ((c.tc : Thread Cert.LossLnIdeal.nD Cert.LossLnIdeal.τ).loc Cert.LossLnIdeal.main_arg10)) →
    ∃ (v0 : (c : Dev Cert.LossLnIdeal.nD) → Buf (Elt Ideal) ((c.tc : Thread Cert.LossLnIdeal.nD Cert.LossLnIdeal.τ).loc Cert.LossLnIdeal.main_v30_0)) (v1 : (c : Dev Cert.LossLnIdeal.nD) → Buf (Elt Ideal) ((c.tc : Thread Cert.LossLnIdeal.nD Cert.LossLnIdeal.τ).loc Cert.LossLnIdeal.main_v30_1)) (v2 : (c : Dev Cert.LossLnIdeal.nD) → Buf (Elt Ideal) ((c.tc : Thread Cert.LossLnIdeal.nD Cert.LossLnIdeal.τ).loc Cert.LossLnIdeal.main_v30_2)) (v3 : (c : Dev Cert.LossLnIdeal.nD) → Buf (Elt Ideal) ((c.tc : Thread Cert.LossLnIdeal.nD Cert.LossLnIdeal.τ).loc Cert.LossLnIdeal.main_v30_3)) (v4 : (c : Dev Cert.LossLnIdeal.nD) → Buf (Elt Ideal) ((c.tc : Thread Cert.LossLnIdeal.nD Cert.LossLnIdeal.τ).loc Cert.LossLnIdeal.main_v30_4)) (v5 : (c : Dev Cert.LossLnIdeal.nD) → Buf (Elt Ideal) ((c.tc : Thread Cert.LossLnIdeal.nD Cert.LossLnIdeal.τ).loc Cert.LossLnIdeal.main_v30_5)) (v6 : (c : Dev Cert.LossLnIdeal.nD) → Buf (Elt Ideal) ((c.tc : Thread Cert.LossLnIdeal.nD Cert.LossLnIdeal.τ).loc Cert.LossLnIdeal.main_v30_6)) (v7 : (c : Dev Cert.LossLnIdeal.nD) → Buf (Elt Ideal) ((c.tc : Thread Cert.LossLnIdeal.nD Cert.LossLnIdeal.τ).loc Cert.LossLnIdeal.main_v30_7)),
      θ_run (Cert.LossLnIdeal.defs (F := Ideal)) (onTc (τ := Cert.LossLnIdeal.τ) (Cert.LossLnIdeal.main (F := Ideal))) ⟨m, fun _ => 0, g⟩ (fun r => ∀ c : Dev Cert.LossLnIdeal.nD,
          r.2.mem ((c.tc : Thread Cert.LossLnIdeal.nD Cert.LossLnIdeal.τ).loc Cert.LossLnIdeal.main_v30_0) = v0 c
          ∧ r.2.mem ((c.tc : Thread Cert.LossLnIdeal.nD Cert.LossLnIdeal.τ).loc Cert.LossLnIdeal.main_v30_1) = v1 c
          ∧ r.2.mem ((c.tc : Thread Cert.LossLnIdeal.nD Cert.LossLnIdeal.τ).loc Cert.LossLnIdeal.main_v30_2) = v2 c
          ∧ r.2.mem ((c.tc : Thread Cert.LossLnIdeal.nD Cert.LossLnIdeal.τ).loc Cert.LossLnIdeal.main_v30_3) = v3 c
          ∧ r.2.mem ((c.tc : Thread Cert.LossLnIdeal.nD Cert.LossLnIdeal.τ).loc Cert.LossLnIdeal.main_v30_4) = v4 c
          ∧ r.2.mem ((c.tc : Thread Cert.LossLnIdeal.nD Cert.LossLnIdeal.τ).loc Cert.LossLnIdeal.main_v30_5) = v5 c
          ∧ r.2.mem ((c.tc : Thread Cert.LossLnIdeal.nD Cert.LossLnIdeal.τ).loc Cert.LossLnIdeal.main_v30_6) = v6 c
          ∧ r.2.mem ((c.tc : Thread Cert.LossLnIdeal.nD Cert.LossLnIdeal.τ).loc Cert.LossLnIdeal.main_v30_7) = v7 c
          ∧ r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
          ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
          ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
          ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
          ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4)
          ∧ r.2.mem ((c.tc : Thread Cert.LossLnIdeal.nD Cert.LossLnIdeal.τ).loc Cert.LossLnIdeal.main_arg5) = m ((c.tc : Thread Cert.LossLnIdeal.nD Cert.LossLnIdeal.τ).loc Cert.LossLnIdeal.main_arg5)
          ∧ r.2.mem ((c.tc : Thread Cert.LossLnIdeal.nD Cert.LossLnIdeal.τ).loc Cert.LossLnIdeal.main_arg6) = m ((c.tc : Thread Cert.LossLnIdeal.nD Cert.LossLnIdeal.τ).loc Cert.LossLnIdeal.main_arg6)
          ∧ r.2.mem ((c.tc : Thread Cert.LossLnIdeal.nD Cert.LossLnIdeal.τ).loc Cert.LossLnIdeal.main_arg7) = m ((c.tc : Thread Cert.LossLnIdeal.nD Cert.LossLnIdeal.τ).loc Cert.LossLnIdeal.main_arg7)
          ∧ r.2.mem ((c.tc : Thread Cert.LossLnIdeal.nD Cert.LossLnIdeal.τ).loc Cert.LossLnIdeal.main_arg8) = m ((c.tc : Thread Cert.LossLnIdeal.nD Cert.LossLnIdeal.τ).loc Cert.LossLnIdeal.main_arg8)
          ∧ r.2.mem ((c.tc : Thread Cert.LossLnIdeal.nD Cert.LossLnIdeal.τ).loc Cert.LossLnIdeal.main_arg9) = m ((c.tc : Thread Cert.LossLnIdeal.nD Cert.LossLnIdeal.τ).loc Cert.LossLnIdeal.main_arg9)
          ∧ r.2.mem ((c.tc : Thread Cert.LossLnIdeal.nD Cert.LossLnIdeal.τ).loc Cert.LossLnIdeal.main_arg10) = m ((c.tc : Thread Cert.LossLnIdeal.nD Cert.LossLnIdeal.τ).loc Cert.LossLnIdeal.main_arg10))
      ∧ θ_run (Cert.LossLnRefIdeal.defs (F := Ideal)) (onTc (τ := Cert.LossLnRefIdeal.τ) (Cert.LossLnRefIdeal.main (F := Ideal))) ⟨m', fun _ => 0, g'⟩ (fun r => ∀ c : Dev Cert.LossLnRefIdeal.nD,
          r.2.mem ((c.tc : Thread Cert.LossLnRefIdeal.nD Cert.LossLnRefIdeal.τ).loc Cert.LossLnRefIdeal.main_v116) = v0 c
          ∧ r.2.mem ((c.tc : Thread Cert.LossLnRefIdeal.nD Cert.LossLnRefIdeal.τ).loc Cert.LossLnRefIdeal.main_v136) = v1 c
          ∧ r.2.mem ((c.tc : Thread Cert.LossLnRefIdeal.nD Cert.LossLnRefIdeal.τ).loc Cert.LossLnRefIdeal.main_v137) = v2 c
          ∧ r.2.mem ((c.tc : Thread Cert.LossLnRefIdeal.nD Cert.LossLnRefIdeal.τ).loc Cert.LossLnRefIdeal.main_v138) = v3 c
          ∧ r.2.mem ((c.tc : Thread Cert.LossLnRefIdeal.nD Cert.LossLnRefIdeal.τ).loc Cert.LossLnRefIdeal.main_v140) = v4 c
          ∧ r.2.mem ((c.tc : Thread Cert.LossLnRefIdeal.nD Cert.LossLnRefIdeal.τ).loc Cert.LossLnRefIdeal.main_v141) = v5 c
          ∧ r.2.mem ((c.tc : Thread Cert.LossLnRefIdeal.nD Cert.LossLnRefIdeal.τ).loc Cert.LossLnRefIdeal.main_v142) = v6 c
          ∧ r.2.mem ((c.tc : Thread Cert.LossLnRefIdeal.nD Cert.LossLnRefIdeal.τ).loc Cert.LossLnRefIdeal.main_v143) = v7 c
          ∧ r.2.mem ((c.tc : Thread Cert.LossLnRefIdeal.nD Cert.LossLnRefIdeal.τ).loc Cert.LossLnRefIdeal.main_arg0) = m' ((c.tc : Thread Cert.LossLnRefIdeal.nD Cert.LossLnRefIdeal.τ).loc Cert.LossLnRefIdeal.main_arg0)
          ∧ r.2.mem ((c.tc : Thread Cert.LossLnRefIdeal.nD Cert.LossLnRefIdeal.τ).loc Cert.LossLnRefIdeal.main_arg1) = m' ((c.tc : Thread Cert.LossLnRefIdeal.nD Cert.LossLnRefIdeal.τ).loc Cert.LossLnRefIdeal.main_arg1)
          ∧ r.2.mem ((c.tc : Thread Cert.LossLnRefIdeal.nD Cert.LossLnRefIdeal.τ).loc Cert.LossLnRefIdeal.main_arg2) = m' ((c.tc : Thread Cert.LossLnRefIdeal.nD Cert.LossLnRefIdeal.τ).loc Cert.LossLnRefIdeal.main_arg2)
          ∧ r.2.mem ((c.tc : Thread Cert.LossLnRefIdeal.nD Cert.LossLnRefIdeal.τ).loc Cert.LossLnRefIdeal.main_arg3) = m' ((c.tc : Thread Cert.LossLnRefIdeal.nD Cert.LossLnRefIdeal.τ).loc Cert.LossLnRefIdeal.main_arg3)
          ∧ r.2.mem ((c.tc : Thread Cert.LossLnRefIdeal.nD Cert.LossLnRefIdeal.τ).loc Cert.LossLnRefIdeal.main_arg4) = m' ((c.tc : Thread Cert.LossLnRefIdeal.nD Cert.LossLnRefIdeal.τ).loc Cert.LossLnRefIdeal.main_arg4)
          ∧ r.2.mem ((c.tc : Thread Cert.LossLnRefIdeal.nD Cert.LossLnRefIdeal.τ).loc Cert.LossLnRefIdeal.main_arg5) = m' ((c.tc : Thread Cert.LossLnRefIdeal.nD Cert.LossLnRefIdeal.τ).loc Cert.LossLnRefIdeal.main_arg5)
          ∧ r.2.mem ((c.tc : Thread Cert.LossLnRefIdeal.nD Cert.LossLnRefIdeal.τ).loc Cert.LossLnRefIdeal.main_arg6) = m' ((c.tc : Thread Cert.LossLnRefIdeal.nD Cert.LossLnRefIdeal.τ).loc Cert.LossLnRefIdeal.main_arg6)
          ∧ r.2.mem ((c.tc : Thread Cert.LossLnRefIdeal.nD Cert.LossLnRefIdeal.τ).loc Cert.LossLnRefIdeal.main_arg7) = m' ((c.tc : Thread Cert.LossLnRefIdeal.nD Cert.LossLnRefIdeal.τ).loc Cert.LossLnRefIdeal.main_arg7)
          ∧ r.2.mem ((c.tc : Thread Cert.LossLnRefIdeal.nD Cert.LossLnRefIdeal.τ).loc Cert.LossLnRefIdeal.main_arg8) = m' ((c.tc : Thread Cert.LossLnRefIdeal.nD Cert.LossLnRefIdeal.τ).loc Cert.LossLnRefIdeal.main_arg8)
          ∧ r.2.mem ((c.tc : Thread Cert.LossLnRefIdeal.nD Cert.LossLnRefIdeal.τ).loc Cert.LossLnRefIdeal.main_arg9) = m' ((c.tc : Thread Cert.LossLnRefIdeal.nD Cert.LossLnRefIdeal.τ).loc Cert.LossLnRefIdeal.main_arg9)
          ∧ r.2.mem ((c.tc : Thread Cert.LossLnRefIdeal.nD Cert.LossLnRefIdeal.τ).loc Cert.LossLnRefIdeal.main_arg10) = m' ((c.tc : Thread Cert.LossLnRefIdeal.nD Cert.LossLnRefIdeal.τ).loc Cert.LossLnRefIdeal.main_arg10))

def Claim : Prop :=
  ∃ (hKernel : Cert.Kernel.Facts) (hKernelIdeal : Cert.KernelIdeal.Facts) (hMlpDown : Cert.MlpDown.Facts) (hMlpDownIdeal : Cert.MlpDownIdeal.Facts) (hMlpDownRefIdeal : Cert.MlpDownRefIdeal.Facts) (hMlpDwTwo : Cert.MlpDwTwo.Facts) (hMlpDwTwoIdeal : Cert.MlpDwTwoIdeal.Facts) (hMlpDwTwoRefIdeal : Cert.MlpDwTwoRefIdeal.Facts) (hMlpDwOne : Cert.MlpDwOne.Facts) (hMlpDwOneIdeal : Cert.MlpDwOneIdeal.Facts) (hMlpDwOneRefIdeal : Cert.MlpDwOneRefIdeal.Facts) (hPleDwG : Cert.PleDwG.Facts) (hPleDwGIdeal : Cert.PleDwGIdeal.Facts) (hPleDwGRefIdeal : Cert.PleDwGRefIdeal.Facts) (hPleDwP : Cert.PleDwP.Facts) (hPleDwPIdeal : Cert.PleDwPIdeal.Facts) (hPleDwPRefIdeal : Cert.PleDwPRefIdeal.Facts) (hPleGateBwd : Cert.PleGateBwd.Facts) (hPleGateBwdIdeal : Cert.PleGateBwdIdeal.Facts) (hPleGateBwdRefIdeal : Cert.PleGateBwdRefIdeal.Facts) (hMlpUp : Cert.MlpUp.Facts) (hMlpUpIdeal : Cert.MlpUpIdeal.Facts) (hMlpUpRefIdeal : Cert.MlpUpRefIdeal.Facts) (hPleGate : Cert.PleGate.Facts) (hPleGateIdeal : Cert.PleGateIdeal.Facts) (hPleGateRefIdeal : Cert.PleGateRefIdeal.Facts) (hPleProj : Cert.PleProj.Facts) (hPleProjIdeal : Cert.PleProjIdeal.Facts) (hPleProjRefIdeal : Cert.PleProjRefIdeal.Facts) (hInQkv : Cert.InQkv.Facts) (hInQkvIdeal : Cert.InQkvIdeal.Facts) (hInQkvRefIdeal : Cert.InQkvRefIdeal.Facts) (hInZ : Cert.InZ.Facts) (hInZIdeal : Cert.InZIdeal.Facts) (hInZRefIdeal : Cert.InZRefIdeal.Facts) (hInBa : Cert.InBa.Facts) (hInBaIdeal : Cert.InBaIdeal.Facts) (hInBaRefIdeal : Cert.InBaRefIdeal.Facts) (hDwQkv : Cert.DwQkv.Facts) (hDwQkvIdeal : Cert.DwQkvIdeal.Facts) (hDwQkvRefIdeal : Cert.DwQkvRefIdeal.Facts) (hDwZ : Cert.DwZ.Facts) (hDwZIdeal : Cert.DwZIdeal.Facts) (hDwZRefIdeal : Cert.DwZRefIdeal.Facts) (hDwBa : Cert.DwBa.Facts) (hDwBaIdeal : Cert.DwBaIdeal.Facts) (hDwBaRefIdeal : Cert.DwBaRefIdeal.Facts) (hDwOut : Cert.DwOut.Facts) (hDwOutIdeal : Cert.DwOutIdeal.Facts) (hDwOutRefIdeal : Cert.DwOutRefIdeal.Facts) (hInBaBwd : Cert.InBaBwd.Facts) (hInBaBwdIdeal : Cert.InBaBwdIdeal.Facts) (hInBaBwdRefIdeal : Cert.InBaBwdRefIdeal.Facts) (hInZBwd : Cert.InZBwd.Facts) (hInZBwdIdeal : Cert.InZBwdIdeal.Facts) (hInZBwdRefIdeal : Cert.InZBwdRefIdeal.Facts) (hAdLn : Cert.AdLn.Facts) (hAdLnIdeal : Cert.AdLnIdeal.Facts) (hAdLnRefIdeal : Cert.AdLnRefIdeal.Facts) (hAdPoolW : Cert.AdPoolW.Facts) (hAdPoolWIdeal : Cert.AdPoolWIdeal.Facts) (hAdPoolWRefIdeal : Cert.AdPoolWRefIdeal.Facts) (hAdPoolB : Cert.AdPoolB.Facts) (hAdPoolBIdeal : Cert.AdPoolBIdeal.Facts) (hAdPoolBRefIdeal : Cert.AdPoolBRefIdeal.Facts) (hAdPoolS : Cert.AdPoolS.Facts) (hAdPoolSIdeal : Cert.AdPoolSIdeal.Facts) (hAdPoolSRefIdeal : Cert.AdPoolSRefIdeal.Facts) (hAdIn : Cert.AdIn.Facts) (hAdInIdeal : Cert.AdInIdeal.Facts) (hAdInRefIdeal : Cert.AdInRefIdeal.Facts) (hAdConv : Cert.AdConv.Facts) (hAdConvIdeal : Cert.AdConvIdeal.Facts) (hAdConvRefIdeal : Cert.AdConvRefIdeal.Facts) (hAdHeads : Cert.AdHeads.Facts) (hAdHeadsIdeal : Cert.AdHeadsIdeal.Facts) (hAdHeadsRefIdeal : Cert.AdHeadsRefIdeal.Facts) (hAdNorm : Cert.AdNorm.Facts) (hAdNormIdeal : Cert.AdNormIdeal.Facts) (hAdNormRefIdeal : Cert.AdNormRefIdeal.Facts) (hAdOut : Cert.AdOut.Facts) (hAdOutIdeal : Cert.AdOutIdeal.Facts) (hAdOutRefIdeal : Cert.AdOutRefIdeal.Facts) (hAdOne : Cert.AdOne.Facts) (hAdOneIdeal : Cert.AdOneIdeal.Facts) (hAdOneRefIdeal : Cert.AdOneRefIdeal.Facts) (hAdTwo : Cert.AdTwo.Facts) (hAdTwoIdeal : Cert.AdTwoIdeal.Facts) (hAdTwoRefIdeal : Cert.AdTwoRefIdeal.Facts) (hAdGate : Cert.AdGate.Facts) (hAdGateIdeal : Cert.AdGateIdeal.Facts) (hAdGateRefIdeal : Cert.AdGateRefIdeal.Facts) (hAdGateB : Cert.AdGateB.Facts) (hAdGateBIdeal : Cert.AdGateBIdeal.Facts) (hAdGateBRefIdeal : Cert.AdGateBRefIdeal.Facts) (hAdProj : Cert.AdProj.Facts) (hAdProjIdeal : Cert.AdProjIdeal.Facts) (hAdProjRefIdeal : Cert.AdProjRefIdeal.Facts) (hMlpLn : Cert.MlpLn.Facts) (hMlpLnIdeal : Cert.MlpLnIdeal.Facts) (hMlpLnRefIdeal : Cert.MlpLnRefIdeal.Facts) (hOutLn : Cert.OutLn.Facts) (hOutLnIdeal : Cert.OutLnIdeal.Facts) (hOutLnRefIdeal : Cert.OutLnRefIdeal.Facts) (hPoolDw : Cert.PoolDw.Facts) (hPoolDwIdeal : Cert.PoolDwIdeal.Facts) (hPoolDwRefIdeal : Cert.PoolDwRefIdeal.Facts) (hPoolBwd : Cert.PoolBwd.Facts) (hPoolBwdIdeal : Cert.PoolBwdIdeal.Facts) (hPoolBwdRefIdeal : Cert.PoolBwdRefIdeal.Facts) (hMlpUpBwd : Cert.MlpUpBwd.Facts) (hMlpUpBwdIdeal : Cert.MlpUpBwdIdeal.Facts) (hMlpUpBwdRefIdeal : Cert.MlpUpBwdRefIdeal.Facts) (hInQkvBwd : Cert.InQkvBwd.Facts) (hInQkvBwdIdeal : Cert.InQkvBwdIdeal.Facts) (hInQkvBwdRefIdeal : Cert.InQkvBwdRefIdeal.Facts) (hLossLn : Cert.LossLn.Facts) (hLossLnIdeal : Cert.LossLnIdeal.Facts) (hLossLnRefIdeal : Cert.LossLnRefIdeal.Facts) (hPre_mlp_up_bwd_finite : Cert.Pre_mlp_up_bwd_finite.Facts) (hPre_gdn_in_qkv_bwd_finite : Cert.Pre_gdn_in_qkv_bwd_finite.Facts) (hPre_loss_ln_finite : Cert.Pre_loss_ln_finite.Facts),
    quiescent_Kernel (hKernel := hKernel)
    ∧ quiescent_KernelIdeal (hKernelIdeal := hKernelIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_MlpDwTwo (hMlpDwTwo := hMlpDwTwo)
    ∧ quiescent_MlpDwTwoIdeal (hMlpDwTwoIdeal := hMlpDwTwoIdeal)
    ∧ quiescent_MlpDwTwoRefIdeal (hMlpDwTwoRefIdeal := hMlpDwTwoRefIdeal)
    ∧ quiescent_MlpDwOne (hMlpDwOne := hMlpDwOne)
    ∧ quiescent_MlpDwOneIdeal (hMlpDwOneIdeal := hMlpDwOneIdeal)
    ∧ quiescent_MlpDwOneRefIdeal (hMlpDwOneRefIdeal := hMlpDwOneRefIdeal)
    ∧ quiescent_PleDwG (hPleDwG := hPleDwG)
    ∧ quiescent_PleDwGIdeal (hPleDwGIdeal := hPleDwGIdeal)
    ∧ quiescent_PleDwGRefIdeal (hPleDwGRefIdeal := hPleDwGRefIdeal)
    ∧ quiescent_PleDwP (hPleDwP := hPleDwP)
    ∧ quiescent_PleDwPIdeal (hPleDwPIdeal := hPleDwPIdeal)
    ∧ quiescent_PleDwPRefIdeal (hPleDwPRefIdeal := hPleDwPRefIdeal)
    ∧ quiescent_PleGateBwd (hPleGateBwd := hPleGateBwd)
    ∧ quiescent_PleGateBwdIdeal (hPleGateBwdIdeal := hPleGateBwdIdeal)
    ∧ quiescent_PleGateBwdRefIdeal (hPleGateBwdRefIdeal := hPleGateBwdRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_InQkv (hInQkv := hInQkv)
    ∧ quiescent_InQkvIdeal (hInQkvIdeal := hInQkvIdeal)
    ∧ quiescent_InQkvRefIdeal (hInQkvRefIdeal := hInQkvRefIdeal)
    ∧ quiescent_InZ (hInZ := hInZ)
    ∧ quiescent_InZIdeal (hInZIdeal := hInZIdeal)
    ∧ quiescent_InZRefIdeal (hInZRefIdeal := hInZRefIdeal)
    ∧ quiescent_InBa (hInBa := hInBa)
    ∧ quiescent_InBaIdeal (hInBaIdeal := hInBaIdeal)
    ∧ quiescent_InBaRefIdeal (hInBaRefIdeal := hInBaRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_DwZ (hDwZ := hDwZ)
    ∧ quiescent_DwZIdeal (hDwZIdeal := hDwZIdeal)
    ∧ quiescent_DwZRefIdeal (hDwZRefIdeal := hDwZRefIdeal)
    ∧ quiescent_DwBa (hDwBa := hDwBa)
    ∧ quiescent_DwBaIdeal (hDwBaIdeal := hDwBaIdeal)
    ∧ quiescent_DwBaRefIdeal (hDwBaRefIdeal := hDwBaRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_InBaBwd (hInBaBwd := hInBaBwd)
    ∧ quiescent_InBaBwdIdeal (hInBaBwdIdeal := hInBaBwdIdeal)
    ∧ quiescent_InBaBwdRefIdeal (hInBaBwdRefIdeal := hInBaBwdRefIdeal)
    ∧ quiescent_InZBwd (hInZBwd := hInZBwd)
    ∧ quiescent_InZBwdIdeal (hInZBwdIdeal := hInZBwdIdeal)
    ∧ quiescent_InZBwdRefIdeal (hInZBwdRefIdeal := hInZBwdRefIdeal)
    ∧ quiescent_AdLn (hAdLn := hAdLn)
    ∧ quiescent_AdLnIdeal (hAdLnIdeal := hAdLnIdeal)
    ∧ quiescent_AdLnRefIdeal (hAdLnRefIdeal := hAdLnRefIdeal)
    ∧ quiescent_AdPoolW (hAdPoolW := hAdPoolW)
    ∧ quiescent_AdPoolWIdeal (hAdPoolWIdeal := hAdPoolWIdeal)
    ∧ quiescent_AdPoolWRefIdeal (hAdPoolWRefIdeal := hAdPoolWRefIdeal)
    ∧ quiescent_AdPoolB (hAdPoolB := hAdPoolB)
    ∧ quiescent_AdPoolBIdeal (hAdPoolBIdeal := hAdPoolBIdeal)
    ∧ quiescent_AdPoolBRefIdeal (hAdPoolBRefIdeal := hAdPoolBRefIdeal)
    ∧ quiescent_AdPoolS (hAdPoolS := hAdPoolS)
    ∧ quiescent_AdPoolSIdeal (hAdPoolSIdeal := hAdPoolSIdeal)
    ∧ quiescent_AdPoolSRefIdeal (hAdPoolSRefIdeal := hAdPoolSRefIdeal)
    ∧ quiescent_AdIn (hAdIn := hAdIn)
    ∧ quiescent_AdInIdeal (hAdInIdeal := hAdInIdeal)
    ∧ quiescent_AdInRefIdeal (hAdInRefIdeal := hAdInRefIdeal)
    ∧ quiescent_AdConv (hAdConv := hAdConv)
    ∧ quiescent_AdConvIdeal (hAdConvIdeal := hAdConvIdeal)
    ∧ quiescent_AdConvRefIdeal (hAdConvRefIdeal := hAdConvRefIdeal)
    ∧ quiescent_AdHeads (hAdHeads := hAdHeads)
    ∧ quiescent_AdHeadsIdeal (hAdHeadsIdeal := hAdHeadsIdeal)
    ∧ quiescent_AdHeadsRefIdeal (hAdHeadsRefIdeal := hAdHeadsRefIdeal)
    ∧ quiescent_AdNorm (hAdNorm := hAdNorm)
    ∧ quiescent_AdNormIdeal (hAdNormIdeal := hAdNormIdeal)
    ∧ quiescent_AdNormRefIdeal (hAdNormRefIdeal := hAdNormRefIdeal)
    ∧ quiescent_AdOut (hAdOut := hAdOut)
    ∧ quiescent_AdOutIdeal (hAdOutIdeal := hAdOutIdeal)
    ∧ quiescent_AdOutRefIdeal (hAdOutRefIdeal := hAdOutRefIdeal)
    ∧ quiescent_AdOne (hAdOne := hAdOne)
    ∧ quiescent_AdOneIdeal (hAdOneIdeal := hAdOneIdeal)
    ∧ quiescent_AdOneRefIdeal (hAdOneRefIdeal := hAdOneRefIdeal)
    ∧ quiescent_AdTwo (hAdTwo := hAdTwo)
    ∧ quiescent_AdTwoIdeal (hAdTwoIdeal := hAdTwoIdeal)
    ∧ quiescent_AdTwoRefIdeal (hAdTwoRefIdeal := hAdTwoRefIdeal)
    ∧ quiescent_AdGate (hAdGate := hAdGate)
    ∧ quiescent_AdGateIdeal (hAdGateIdeal := hAdGateIdeal)
    ∧ quiescent_AdGateRefIdeal (hAdGateRefIdeal := hAdGateRefIdeal)
    ∧ quiescent_AdGateB (hAdGateB := hAdGateB)
    ∧ quiescent_AdGateBIdeal (hAdGateBIdeal := hAdGateBIdeal)
    ∧ quiescent_AdGateBRefIdeal (hAdGateBRefIdeal := hAdGateBRefIdeal)
    ∧ quiescent_AdProj (hAdProj := hAdProj)
    ∧ quiescent_AdProjIdeal (hAdProjIdeal := hAdProjIdeal)
    ∧ quiescent_AdProjRefIdeal (hAdProjRefIdeal := hAdProjRefIdeal)
    ∧ quiescent_MlpLn (hMlpLn := hMlpLn)
    ∧ quiescent_MlpLnIdeal (hMlpLnIdeal := hMlpLnIdeal)
    ∧ quiescent_MlpLnRefIdeal (hMlpLnRefIdeal := hMlpLnRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_PoolDw (hPoolDw := hPoolDw)
    ∧ quiescent_PoolDwIdeal (hPoolDwIdeal := hPoolDwIdeal)
    ∧ quiescent_PoolDwRefIdeal (hPoolDwRefIdeal := hPoolDwRefIdeal)
    ∧ quiescent_PoolBwd (hPoolBwd := hPoolBwd)
    ∧ quiescent_PoolBwdIdeal (hPoolBwdIdeal := hPoolBwdIdeal)
    ∧ quiescent_PoolBwdRefIdeal (hPoolBwdRefIdeal := hPoolBwdRefIdeal)
    ∧ quiescent_MlpUpBwd (hMlpUpBwd := hMlpUpBwd)
    ∧ quiescent_MlpUpBwdIdeal (hMlpUpBwdIdeal := hMlpUpBwdIdeal)
    ∧ quiescent_MlpUpBwdIdeal_pre_mlp_up_bwd_finite (hMlpUpBwdIdeal := hMlpUpBwdIdeal) (hPre_mlp_up_bwd_finite := hPre_mlp_up_bwd_finite)
    ∧ quiescent_MlpUpBwdRefIdeal (hMlpUpBwdRefIdeal := hMlpUpBwdRefIdeal)
    ∧ quiescent_MlpUpBwdRefIdeal_pre_mlp_up_bwd_finite (hMlpUpBwdRefIdeal := hMlpUpBwdRefIdeal) (hPre_mlp_up_bwd_finite := hPre_mlp_up_bwd_finite)
    ∧ quiescent_InQkvBwd (hInQkvBwd := hInQkvBwd)
    ∧ quiescent_InQkvBwdIdeal (hInQkvBwdIdeal := hInQkvBwdIdeal)
    ∧ quiescent_InQkvBwdIdeal_pre_gdn_in_qkv_bwd_finite (hInQkvBwdIdeal := hInQkvBwdIdeal) (hPre_gdn_in_qkv_bwd_finite := hPre_gdn_in_qkv_bwd_finite)
    ∧ quiescent_InQkvBwdRefIdeal (hInQkvBwdRefIdeal := hInQkvBwdRefIdeal)
    ∧ quiescent_InQkvBwdRefIdeal_pre_gdn_in_qkv_bwd_finite (hInQkvBwdRefIdeal := hInQkvBwdRefIdeal) (hPre_gdn_in_qkv_bwd_finite := hPre_gdn_in_qkv_bwd_finite)
    ∧ quiescent_LossLn (hLossLn := hLossLn)
    ∧ quiescent_LossLnIdeal (hLossLnIdeal := hLossLnIdeal)
    ∧ quiescent_LossLnIdeal_pre_loss_ln_finite (hLossLnIdeal := hLossLnIdeal) (hPre_loss_ln_finite := hPre_loss_ln_finite)
    ∧ quiescent_LossLnRefIdeal (hLossLnRefIdeal := hLossLnRefIdeal)
    ∧ quiescent_LossLnRefIdeal_pre_loss_ln_finite (hLossLnRefIdeal := hLossLnRefIdeal) (hPre_loss_ln_finite := hPre_loss_ln_finite)
    ∧ preserves_Kernel_KernelIdeal
    ∧ preserves_MlpDown_MlpDownIdeal
    ∧ algebraic_MlpDownIdeal_MlpDownRefIdeal (hMlpDownIdeal := hMlpDownIdeal) (hMlpDownRefIdeal := hMlpDownRefIdeal)
    ∧ preserves_MlpDwTwo_MlpDwTwoIdeal
    ∧ algebraic_MlpDwTwoIdeal_MlpDwTwoRefIdeal (hMlpDwTwoIdeal := hMlpDwTwoIdeal) (hMlpDwTwoRefIdeal := hMlpDwTwoRefIdeal)
    ∧ preserves_MlpDwOne_MlpDwOneIdeal
    ∧ algebraic_MlpDwOneIdeal_MlpDwOneRefIdeal (hMlpDwOneIdeal := hMlpDwOneIdeal) (hMlpDwOneRefIdeal := hMlpDwOneRefIdeal)
    ∧ preserves_PleDwG_PleDwGIdeal
    ∧ algebraic_PleDwGIdeal_PleDwGRefIdeal (hPleDwGIdeal := hPleDwGIdeal) (hPleDwGRefIdeal := hPleDwGRefIdeal)
    ∧ preserves_PleDwP_PleDwPIdeal
    ∧ algebraic_PleDwPIdeal_PleDwPRefIdeal (hPleDwPIdeal := hPleDwPIdeal) (hPleDwPRefIdeal := hPleDwPRefIdeal)
    ∧ preserves_PleGateBwd_PleGateBwdIdeal
    ∧ algebraic_PleGateBwdIdeal_PleGateBwdRefIdeal (hPleGateBwdIdeal := hPleGateBwdIdeal) (hPleGateBwdRefIdeal := hPleGateBwdRefIdeal)
    ∧ preserves_MlpUp_MlpUpIdeal
    ∧ algebraic_MlpUpIdeal_MlpUpRefIdeal (hMlpUpIdeal := hMlpUpIdeal) (hMlpUpRefIdeal := hMlpUpRefIdeal)
    ∧ preserves_PleGate_PleGateIdeal
    ∧ algebraic_PleGateIdeal_PleGateRefIdeal (hPleGateIdeal := hPleGateIdeal) (hPleGateRefIdeal := hPleGateRefIdeal)
    ∧ preserves_PleProj_PleProjIdeal
    ∧ algebraic_PleProjIdeal_PleProjRefIdeal (hPleProjIdeal := hPleProjIdeal) (hPleProjRefIdeal := hPleProjRefIdeal)
    ∧ preserves_InQkv_InQkvIdeal
    ∧ algebraic_InQkvIdeal_InQkvRefIdeal (hInQkvIdeal := hInQkvIdeal) (hInQkvRefIdeal := hInQkvRefIdeal)
    ∧ preserves_InZ_InZIdeal
    ∧ algebraic_InZIdeal_InZRefIdeal (hInZIdeal := hInZIdeal) (hInZRefIdeal := hInZRefIdeal)
    ∧ preserves_InBa_InBaIdeal
    ∧ algebraic_InBaIdeal_InBaRefIdeal (hInBaIdeal := hInBaIdeal) (hInBaRefIdeal := hInBaRefIdeal)
    ∧ preserves_DwQkv_DwQkvIdeal
    ∧ algebraic_DwQkvIdeal_DwQkvRefIdeal (hDwQkvIdeal := hDwQkvIdeal) (hDwQkvRefIdeal := hDwQkvRefIdeal)
    ∧ preserves_DwZ_DwZIdeal
    ∧ algebraic_DwZIdeal_DwZRefIdeal (hDwZIdeal := hDwZIdeal) (hDwZRefIdeal := hDwZRefIdeal)
    ∧ preserves_DwBa_DwBaIdeal
    ∧ algebraic_DwBaIdeal_DwBaRefIdeal (hDwBaIdeal := hDwBaIdeal) (hDwBaRefIdeal := hDwBaRefIdeal)
    ∧ preserves_DwOut_DwOutIdeal
    ∧ algebraic_DwOutIdeal_DwOutRefIdeal (hDwOutIdeal := hDwOutIdeal) (hDwOutRefIdeal := hDwOutRefIdeal)
    ∧ preserves_InBaBwd_InBaBwdIdeal
    ∧ algebraic_InBaBwdIdeal_InBaBwdRefIdeal (hInBaBwdIdeal := hInBaBwdIdeal) (hInBaBwdRefIdeal := hInBaBwdRefIdeal)
    ∧ preserves_InZBwd_InZBwdIdeal
    ∧ algebraic_InZBwdIdeal_InZBwdRefIdeal (hInZBwdIdeal := hInZBwdIdeal) (hInZBwdRefIdeal := hInZBwdRefIdeal)
    ∧ preserves_AdLn_AdLnIdeal
    ∧ algebraic_AdLnIdeal_AdLnRefIdeal (hAdLnIdeal := hAdLnIdeal) (hAdLnRefIdeal := hAdLnRefIdeal)
    ∧ preserves_AdPoolW_AdPoolWIdeal
    ∧ algebraic_AdPoolWIdeal_AdPoolWRefIdeal (hAdPoolWIdeal := hAdPoolWIdeal) (hAdPoolWRefIdeal := hAdPoolWRefIdeal)
    ∧ preserves_AdPoolB_AdPoolBIdeal
    ∧ algebraic_AdPoolBIdeal_AdPoolBRefIdeal (hAdPoolBIdeal := hAdPoolBIdeal) (hAdPoolBRefIdeal := hAdPoolBRefIdeal)
    ∧ preserves_AdPoolS_AdPoolSIdeal
    ∧ algebraic_AdPoolSIdeal_AdPoolSRefIdeal (hAdPoolSIdeal := hAdPoolSIdeal) (hAdPoolSRefIdeal := hAdPoolSRefIdeal)
    ∧ preserves_AdIn_AdInIdeal
    ∧ algebraic_AdInIdeal_AdInRefIdeal (hAdInIdeal := hAdInIdeal) (hAdInRefIdeal := hAdInRefIdeal)
    ∧ preserves_AdConv_AdConvIdeal
    ∧ algebraic_AdConvIdeal_AdConvRefIdeal (hAdConvIdeal := hAdConvIdeal) (hAdConvRefIdeal := hAdConvRefIdeal)
    ∧ preserves_AdHeads_AdHeadsIdeal
    ∧ algebraic_AdHeadsIdeal_AdHeadsRefIdeal (hAdHeadsIdeal := hAdHeadsIdeal) (hAdHeadsRefIdeal := hAdHeadsRefIdeal)
    ∧ preserves_AdNorm_AdNormIdeal
    ∧ algebraic_AdNormIdeal_AdNormRefIdeal (hAdNormIdeal := hAdNormIdeal) (hAdNormRefIdeal := hAdNormRefIdeal)
    ∧ preserves_AdOut_AdOutIdeal
    ∧ algebraic_AdOutIdeal_AdOutRefIdeal (hAdOutIdeal := hAdOutIdeal) (hAdOutRefIdeal := hAdOutRefIdeal)
    ∧ preserves_AdOne_AdOneIdeal
    ∧ algebraic_AdOneIdeal_AdOneRefIdeal (hAdOneIdeal := hAdOneIdeal) (hAdOneRefIdeal := hAdOneRefIdeal)
    ∧ preserves_AdTwo_AdTwoIdeal
    ∧ algebraic_AdTwoIdeal_AdTwoRefIdeal (hAdTwoIdeal := hAdTwoIdeal) (hAdTwoRefIdeal := hAdTwoRefIdeal)
    ∧ preserves_AdGate_AdGateIdeal
    ∧ algebraic_AdGateIdeal_AdGateRefIdeal (hAdGateIdeal := hAdGateIdeal) (hAdGateRefIdeal := hAdGateRefIdeal)
    ∧ preserves_AdGateB_AdGateBIdeal
    ∧ algebraic_AdGateBIdeal_AdGateBRefIdeal (hAdGateBIdeal := hAdGateBIdeal) (hAdGateBRefIdeal := hAdGateBRefIdeal)
    ∧ preserves_AdProj_AdProjIdeal
    ∧ algebraic_AdProjIdeal_AdProjRefIdeal (hAdProjIdeal := hAdProjIdeal) (hAdProjRefIdeal := hAdProjRefIdeal)
    ∧ preserves_MlpLn_MlpLnIdeal
    ∧ algebraic_MlpLnIdeal_MlpLnRefIdeal (hMlpLnIdeal := hMlpLnIdeal) (hMlpLnRefIdeal := hMlpLnRefIdeal)
    ∧ preserves_OutLn_OutLnIdeal
    ∧ algebraic_OutLnIdeal_OutLnRefIdeal (hOutLnIdeal := hOutLnIdeal) (hOutLnRefIdeal := hOutLnRefIdeal)
    ∧ preserves_PoolDw_PoolDwIdeal
    ∧ algebraic_PoolDwIdeal_PoolDwRefIdeal (hPoolDwIdeal := hPoolDwIdeal) (hPoolDwRefIdeal := hPoolDwRefIdeal)
    ∧ preserves_PoolBwd_PoolBwdIdeal
    ∧ algebraic_PoolBwdIdeal_PoolBwdRefIdeal (hPoolBwdIdeal := hPoolBwdIdeal) (hPoolBwdRefIdeal := hPoolBwdRefIdeal)
    ∧ preserves_MlpUpBwd_MlpUpBwdIdeal
    ∧ algebraic_MlpUpBwdIdeal_MlpUpBwdRefIdeal_pre_mlp_up_bwd_finite (hMlpUpBwdIdeal := hMlpUpBwdIdeal) (hMlpUpBwdRefIdeal := hMlpUpBwdRefIdeal) (hPre_mlp_up_bwd_finite := hPre_mlp_up_bwd_finite)
    ∧ preserves_InQkvBwd_InQkvBwdIdeal
    ∧ algebraic_InQkvBwdIdeal_InQkvBwdRefIdeal_pre_gdn_in_qkv_bwd_finite (hInQkvBwdIdeal := hInQkvBwdIdeal) (hInQkvBwdRefIdeal := hInQkvBwdRefIdeal) (hPre_gdn_in_qkv_bwd_finite := hPre_gdn_in_qkv_bwd_finite)
    ∧ preserves_LossLn_LossLnIdeal
    ∧ algebraic_LossLnIdeal_LossLnRefIdeal_pre_loss_ln_finite (hLossLnIdeal := hLossLnIdeal) (hLossLnRefIdeal := hLossLnRefIdeal) (hPre_loss_ln_finite := hPre_loss_ln_finite)
-- ==== Pre_gdn_in_qkv_bwd_finite.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S8192x3072 : S_.BroadcastsInDim S8192x3072 (![] : Fin 0 → Fin S8192x3072.rank)
  reducesTo_S8192x3072_S_d0_1 : S8192x3072.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg3 : FVec F S1024x3072 .f32) (main_arg4 : FVec F S8192x3072 .f32) (main_arg5 : FVec F S8192x1024 .f32) (main_v12 : IVec S_ 1) (main_v14 : IVec S1024x3072 1) (main_v15 : FVec F S1024x3072 .f32) : IVec S_ 1 :=
  let main_v16 : IVec S1024x3072 1 := cmpf .olt main_arg3 main_v15
  let main_v17 : IVec S1024x3072 1 := andi main_v14 main_v16
  let main_c_6 : IVec S_ 1 := constantI S_ 1 1#1
  let main_v18 : IVec S_ 1 := (fun x v => Host.reduce IntOp.andi x v reducesTo_S1024x3072_S_d0_1 h_S_) main_v17 main_c_6
  let main_v19 : IVec S_ 1 := andi main_v12 main_v18
  let main_cst_7 : FVec F S_ .f32 := constant S_ .f32 0xFF800000#32
  let main_v20 : FVec F S8192x3072 .f32 := broadcastInDim S8192x3072 ![] bcast_S_S8192x3072 main_cst_7
  let main_v21 : IVec S8192x3072 1 := cmpf .ogt main_arg4 main_v20
  let main_cst_8 : FVec F S_ .f32 := constant S_ .f32 0x7F800000#32
  let main_v22 : FVec F S8192x3072 .f32 := broadcastInDim S8192x3072 ![] bcast_S_S8192x3072 main_cst_8
  let main_v23 : IVec S8192x3072 1 := cmpf .olt main_arg4 main_v22
  let main_v24 : IVec S8192x3072 1 := andi main_v21 main_v23
  let main_c_9 : IVec S_ 1 := constantI S_ 1 1#1
  let main_v25 : IVec S_ 1 := (fun x v => Host.reduce IntOp.andi x v reducesTo_S8192x3072_S_d0_1 h_S_) main_v24 main_c_9
  let main_v26 : IVec S_ 1 := andi main_v19 main_v25
  let main_cst_10 : FVec F S_ .f32 := constant S_ .f32 0xFF800000#32
  let main_v27 : FVec F S8192x1024 .f32 := broadcastInDim S8192x1024 ![] bcast_S_S8192x1024 main_cst_10
  let main_v28 : IVec S8192x1024 1 := cmpf .ogt main_arg5 main_v27
  let main_cst_11 : FVec F S_ .f32 := constant S_ .f32 0x7F800000#32
  let main_v29 : FVec F S8192x1024 .f32 := broadcastInDim S8192x1024 ![] bcast_S_S8192x1024 main_cst_11
  let main_v30 : IVec S8192x1024 1 := cmpf .olt main_arg5 main_v29
  let main_v31 : IVec S8192x1024 1 := andi main_v28 main_v30
  let main_c_12 : IVec S_ 1 := constantI S_ 1 1#1
  let main_v32 : IVec S_ 1 := (fun x v => Host.reduce IntOp.andi x v reducesTo_S8192x1024_S_d0_1 h_S_) main_v31 main_c_12
  fn_part2 (F := F) main_v26 main_v32

def fn {F : FTy → Type} [FloatOps F] (main_arg0 : FVec F S8192x1024 .f32) (main_arg1 : FVec F S1024 .f32) (main_arg2 : FVec F S1024 .f32) (main_arg3 : FVec F S1024x3072 .f32) (main_arg4 : FVec F S8192x3072 .f32) (main_arg5 : FVec F S8192x1024 .f32) (main_arg6 : FVec F S8192x1024 .f32) (main_arg7 : FVec F S1024 .f32) (main_arg8 : FVec F S8192x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S1024 .f32 := broadcastInDim S1024 ![] bcast_S_S1024 main_cst_1
  let main_v7 : IVec S1024 1 := cmpf .ogt main_arg1 main_v6
  let main_cst_2 : FVec F S_ .f32 := constant S_ .f32 0x7F800000#32
  let main_v8 : FVec F S1024 .f32 := broadcastInDim S1024 ![] bcast_S_S1024 main_cst_2
  let main_v9 : IVec S1024 1 := cmpf .olt main_arg1 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v5 main_v11
  let main_cst_4 : FVec F S_ .f32 := constant S_ .f32 0xFF800000#32
  let main_v13 : FVec F S1024x3072 .f32 := broadcastInDim S1024x3072 ![] bcast_S_S1024x3072 main_cst_4
  let main_v14 : IVec S1024x3072 1 := cmpf .ogt main_arg3 main_v13
  let main_cst_5 : FVec F S_ .f32 := constant S_ .f32 0x7F800000#32
  let main_v15 : FVec F S1024x3072 .f32 := broadcastInDim S1024x3072 ![] bcast_S_S1024x3072 main_cst_5
  fn_part1 (F := F) main_arg3 main_arg4 main_arg5 main_v12 main_v14 main_v15
-- ==== Pre_loss_ln_finite.lean ====
abbrev S8192x1024 : Shape := ⟨2, ![8192, 1024]⟩
abbrev S1024 : Shape := ⟨1, ![1024]⟩
abbrev S8192x4096 : Shape := ⟨2, ![8192, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8192x4096 : S_.BroadcastsInDim S8192x4096 (![] : Fin 0 → Fin S8192x4096.rank)
  reducesTo_S8192x4096_S_d0_1 : S8192x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part4 {F : FTy → Type} [FloatOps F] (main_arg10 : FVec F S8192x1024 .f32) (main_v61 : IVec S_ 1) (main_v66 : IVec S1024 1) : IVec S_ 1 :=
  let main_c_27 : IVec S_ 1 := constantI S_ 1 1#1
  let main_v67 : IVec S_ 1 := (fun x v => Host.reduce IntOp.andi x v reducesTo_S1024_S_d0 h_S_) main_v66 main_c_27
  let main_v68 : IVec S_ 1 := andi main_v61 main_v67
  let main_cst_28 : FVec F S_ .f32 := constant S_ .f32 0xFF800000#32
  let main_v69 : FVec F S8192x1024 .f32 := broadcastInDim S8192x1024 ![] bcast_S_S8192x1024 main_cst_28
  let main_v70 : IVec S8192x1024 1 := cmpf .ogt main_arg10 main_v69
  let main_cst_29 : FVec F S_ .f32 := constant S_ .f32 0x7F800000#32
  let main_v71 : FVec F S8192x1024 .f32 := broadcastInDim S8192x1024 ![] bcast_S_S8192x1024 main_cst_29
  let main_v72 : IVec S8192x1024 1 := cmpf .olt main_arg10 main_v71
  let main_v73 : IVec S8192x1024 1 := andi main_v70 main_v72
  let main_c_30 : IVec S_ 1 := constantI S_ 1 1#1
  let main_v74 : IVec S_ 1 := (fun x v => Host.reduce IntOp.andi x v reducesTo_S8192x1024_S_d0_1 h_S_) main_v73 main_c_30
  let main_v75 : IVec S_ 1 := andi main_v68 main_v74
  main_v75

def fn_part3 {F : FTy → Type} [FloatOps F] (main_arg7 : FVec F S8192x1024 .f32) (main_arg8 : FVec F S1024 .f32) (main_arg9 : FVec F S1024 .f32) (main_arg10 : FVec F S8192x1024 .f32) (main_v47 : IVec S_ 1) (main_v49 : IVec S8192x1024 1) : IVec S_ 1 :=
  let main_cst_20 : FVec F S_ .f32 := constant S_ .f32 0x7F800000#32
  let main_v50 : FVec F S8192x1024 .f32 := broadcastInDim S8192x1024 ![] bcast_S_S8192x1024 main_cst_20
  let main_v51 : IVec S8192x1024 1 := cmpf .olt main_arg7 main_v50
  let main_v52 : IVec S8192x1024 1 := andi main_v49 main_v51
  let main_c_21 : IVec S_ 1 := constantI S_ 1 1#1
  let main_v53 : IVec S_ 1 := (fun x v => Host.reduce IntOp.andi x v reducesTo_S8192x1024_S_d0_1 h_S_) main_v52 main_c_21
  let main_v54 : IVec S_ 1 := andi main_v47 main_v53
  let main_cst_22 : FVec F S_ .f32 := constant S_ .f32 0xFF800000#32
  let main_v55 : FVec F S1024 .f32 := broadcastInDim S1024 ![] bcast_S_S1024 main_cst_22
  let main_v56 : IVec S1024 1 := cmpf .ogt main_arg8 main_v55
  let main_cst_23 : FVec F S_ .f32 := constant S_ .f32 0x7F800000#32
  let main_v57 : FVec F S1024 .f32 := broadcastInDim S1024 ![] bcast_S_S1024 main_cst_23
  let main_v58 : IVec S1024 1 := cmpf .olt main_arg8 main_v57
  let main_v59 : IVec S1024 1 := andi main_v56 main_v58
  let main_c_24 : IVec S_ 1 := constantI S_ 1 1#1
  let main_v60 : IVec S_ 1 := (fun x v => Host.reduce IntOp.andi x v reducesTo_S1024_S_d0 h_S_) main_v59 main_c_24
  let main_v61 : IVec S_ 1 := andi main_v54 main_v60
  let main_cst_25 : FVec F S_ .f32 := constant S_ .f32 0xFF800000#32
  let main_v62 : FVec F S1024 .f32 := broadcastInDim S1024 ![] bcast_S_S1024 main_cst_25
  let main_v63 : IVec S1024 1 := cmpf .ogt main_arg9 main_v62
  let main_cst_26 : FVec F S_ .f32 := constant S_ .f32 0x7F800000#32
  let main_v64 : FVec F S1024 .f32 := broadcastInDim S1024 ![] bcast_S_S1024 main_cst_26
  let main_v65 : IVec S1024 1 := cmpf .olt main_arg9 main_v64
  let main_v66 : IVec S1024 1 := andi main_v63 main_v65
  fn_part4 (F := F) main_arg10 main_v61 main_v66

def fn_part2 {F : FTy → Type} [FloatOps F] (main_arg5 : FVec F S8192x1024 .f32) (main_arg6 : FVec F S1024 .f32) (main_arg7 : FVec F S8192x1024 .f32) (main_arg8 : FVec F S1024 .f32) (main_arg9 : FVec F S1024 .f32) (main_arg10 : FVec F S8192x1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S8192x1024 .f32 := broadcastInDim S8192x1024 ![] bcast_S_S8192x1024 main_cst_13
  let main_v35 : IVec S8192x1024 1 := cmpf .ogt main_arg5 main_v34
  let main_cst_14 : FVec F S_ .f32 := constant S_ .f32 0x7F800000#32
  let main_v36 : FVec F S8192x1024 .f32 := broadcastInDim S8192x1024 ![] bcast_S_S8192x1024 main_cst_14
  let main_v37 : IVec S8192x1024 1 := cmpf .olt main_arg5 main_v36
  let main_v38 : IVec S8192x1024 1 := andi main_v35 main_v37
  let main_c_15 : IVec S_ 1 := constantI S_ 1 1#1
  let main_v39 : IVec S_ 1 := (fun x v => Host.reduce IntOp.andi x v reducesTo_S8192x1024_S_d0_1 h_S_) main_v38 main_c_15
  let main_v40 : IVec S_ 1 := andi main_v33 main_v39
  let main_cst_16 : FVec F S_ .f32 := constant S_ .f32 0xFF800000#32
  let main_v41 : FVec F S1024 .f32 := broadcastInDim S1024 ![] bcast_S_S1024 main_cst_16
  let main_v42 : IVec S1024 1 := cmpf .ogt main_arg6 main_v41
  let main_cst_17 : FVec F S_ .f32 := constant S_ .f32 0x7F800000#32
  let main_v43 : FVec F S1024 .f32 := broadcastInDim S1024 ![] bcast_S_S1024 main_cst_17
  let main_v44 : IVec S1024 1 := cmpf .olt main_arg6 main_v43
  let main_v45 : IVec S1024 1 := andi main_v42 main_v44
  let main_c_18 : IVec S_ 1 := constantI S_ 1 1#1
  let main_v46 : IVec S_ 1 := (fun x v => Host.reduce IntOp.andi x v reducesTo_S1024_S_d0 h_S_) main_v45 main_c_18
  let main_v47 : IVec S_ 1 := andi main_v40 main_v46
  let main_cst_19 : FVec F S_ .f32 := constant S_ .f32 0xFF800000#32
  let main_v48 : FVec F S8192x1024 .f32 := broadcastInDim S8192x1024 ![] bcast_S_S8192x1024 main_cst_19
  let main_v49 : IVec S8192x1024 1 := cmpf .ogt main_arg7 main_v48
  fn_part3 (F := F) main_arg7 main_arg8 main_arg9 main_arg10 main_v47 main_v49

def fn_part1 {F : FTy → Type} [FloatOps F] (main_arg2 : FVec F S1024 .f32) (main_arg3 : FVec F S8192x4096 .f32) (main_arg4 : FVec F S4096x1024 .f32) (main_arg5 : FVec F S8192x1024 .f32) (main_arg6 : FVec F S1024 .f32) (main_arg7 : FVec F S8192x1024 .f32) (main_arg8 : FVec F S1024 .f32) (main_arg9 : FVec F S1024 .f32) (main_arg10 : FVec F S8192x1024 .f32) (main_v12 : IVec S_ 1) (main_v14 : IVec S1024 1) (main_v15 : FVec F S1024 .f32) : IVec S_ 1 :=
  let main_v16 : IVec S1024 1 := cmpf .olt main_arg2 main_v15
  let main_v17 : IVec S1024 1 := andi main_v14 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v12 main_v18
  let main_cst_7 : FVec F S_ .f32 := constant S_ .f32 0xFF800000#32
  let main_v20 : FVec F S8192x4096 .f32 := broadcastInDim S8192x4096 ![] bcast_S_S8192x4096 main_cst_7
  let main_v21 : IVec S8192x4096 1 := cmpf .ogt main_arg3 main_v20
  let main_cst_8 : FVec F S_ .f32 := constant S_ .f32 0x7F800000#32
  let main_v22 : FVec F S8192x4096 .f32 := broadcastInDim S8192x4096 ![] bcast_S_S8192x4096 main_cst_8
  let main_v23 : IVec S8192x4096 1 := cmpf .olt main_arg3 main_v22
  let main_v24 : IVec S8192x4096 1 := andi main_v21 main_v23
  let main_c_9 : IVec S_ 1 := constantI S_ 1 1#1
  let main_v25 : IVec S_ 1 := (fun x v => Host.reduce IntOp.andi x v reducesTo_S8192x4096_S_d0_1 h_S_) main_v24 main_c_9
  let main_v26 : IVec S_ 1 := andi main_v19 main_v25
  let main_cst_10 : FVec F S_ .f32 := constant S_ .f32 0xFF800000#32
  let main_v27 : FVec F S4096x1024 .f32 := broadcastInDim S4096x1024 ![] bcast_S_S4096x1024 main_cst_10
  let main_v28 : IVec S4096x1024 1 := cmpf .ogt main_arg4 main_v27
  let main_cst_11 : FVec F S_ .f32 := constant S_ .f32 0x7F800000#32
  let main_v29 : FVec F S4096x1024 .f32 := broadcastInDim S4096x1024 ![] bcast_S_S4096x1024 main_cst_11
  let main_v30 : IVec S4096x1024 1 := cmpf .olt main_arg4 main_v29
  let main_v31 : IVec S4096x1024 1 := andi main_v28 main_v30
  let main_c_12 : IVec S_ 1 := constantI S_ 1 1#1
  let main_v32 : IVec S_ 1 := (fun x v => Host.reduce IntOp.andi x v reducesTo_S4096x1024_S_d0_1 h_S_) main_v31 main_c_12
  fn_part2 (F := F) main_arg5 main_arg6 main_arg7 main_arg8 main_arg9 main_arg10 main_v26 main_v32

def fn {F : FTy → Type} [FloatOps F] (main_arg0 : FVec F S8192x1024 .f32) (main_arg1 : FVec F S1024 .f32) (main_arg2 : FVec F S1024 .f32) (main_arg3 : FVec F S8192x4096 .f32) (main_arg4 : FVec F S4096x1024 .f32) (main_arg5 : FVec F S8192x1024 .f32) (main_arg6 : FVec F S1024 .f32) (main_arg7 : FVec F S8192x1024 .f32) (main_arg8 : FVec F S1024 .f32) (main_arg9 : FVec F S1024 .f32) (main_arg10 : FVec F S8192x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S1024 .f32 := broadcastInDim S1024 ![] bcast_S_S1024 main_cst_1
  let main_v7 : IVec S1024 1 := cmpf .ogt main_arg1 main_v6
  let main_cst_2 : FVec F S_ .f32 := constant S_ .f32 0x7F800000#32
  let main_v8 : FVec F S1024 .f32 := broadcastInDim S1024 ![] bcast_S_S1024 main_cst_2
  let main_v9 : IVec S1024 1 := cmpf .olt main_arg1 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v5 main_v11
  let main_cst_4 : FVec F S_ .f32 := constant S_ .f32 0xFF800000#32
  let main_v13 : FVec F S1024 .f32 := broadcastInDim S1024 ![] bcast_S_S1024 main_cst_4
  let main_v14 : IVec S1024 1 := cmpf .ogt main_arg2 main_v13
  let main_cst_5 : FVec F S_ .f32 := constant S_ .f32 0x7F800000#32
  let main_v15 : FVec F S1024 .f32 := broadcastInDim S1024 ![] bcast_S_S1024 main_cst_5
  fn_part1 (F := F) main_arg2 main_arg3 main_arg4 main_arg5 main_arg6 main_arg7 main_arg8 main_arg9 main_arg10 main_v12 main_v14 main_v15
-- ==== Pre_mlp_up_bwd_finite.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S8192x4096 : S_.BroadcastsInDim S8192x4096 (![] : Fin 0 → Fin S8192x4096.rank)
  reducesTo_S8192x4096_S_d0_1 : S8192x4096.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg3 : FVec F S1024x4096 .f32) (main_arg4 : FVec F S8192x4096 .f32) (main_arg5 : FVec F S8192x1024 .f32) (main_v12 : IVec S_ 1) (main_v14 : IVec S1024x4096 1) (main_v15 : FVec F S1024x4096 .f32) : IVec S_ 1 :=
  let main_v16 : IVec S1024x4096 1 := cmpf .olt main_arg3 main_v15
  let main_v17 : IVec S1024x4096 1 := andi main_v14 main_v16
  let main_c_6 : IVec S_ 1 := constantI S_ 1 1#1
  let main_v18 : IVec S_ 1 := (fun x v => Host.reduce IntOp.andi x v reducesTo_S1024x4096_S_d0_1 h_S_) main_v17 main_c_6
  let main_v19 : IVec S_ 1 := andi main_v12 main_v18
  let main_cst_7 : FVec F S_ .f32 := constant S_ .f32 0xFF800000#32
  let main_v20 : FVec F S8192x4096 .f32 := broadcastInDim S8192x4096 ![] bcast_S_S8192x4096 main_cst_7
  let main_v21 : IVec S8192x4096 1 := cmpf .ogt main_arg4 main_v20
  let main_cst_8 : FVec F S_ .f32 := constant S_ .f32 0x7F800000#32
  let main_v22 : FVec F S8192x4096 .f32 := broadcastInDim S8192x4096 ![] bcast_S_S8192x4096 main_cst_8
  let main_v23 : IVec S8192x4096 1 := cmpf .olt main_arg4 main_v22
  let main_v24 : IVec S8192x4096 1 := andi main_v21 main_v23
  let main_c_9 : IVec S_ 1 := constantI S_ 1 1#1
  let main_v25 : IVec S_ 1 := (fun x v => Host.reduce IntOp.andi x v reducesTo_S8192x4096_S_d0_1 h_S_) main_v24 main_c_9
  let main_v26 : IVec S_ 1 := andi main_v19 main_v25
  let main_cst_10 : FVec F S_ .f32 := constant S_ .f32 0xFF800000#32
  let main_v27 : FVec F S8192x1024 .f32 := broadcastInDim S8192x1024 ![] bcast_S_S8192x1024 main_cst_10
  let main_v28 : IVec S8192x1024 1 := cmpf .ogt main_arg5 main_v27
  let main_cst_11 : FVec F S_ .f32 := constant S_ .f32 0x7F800000#32
  let main_v29 : FVec F S8192x1024 .f32 := broadcastInDim S8192x1024 ![] bcast_S_S8192x1024 main_cst_11
  let main_v30 : IVec S8192x1024 1 := cmpf .olt main_arg5 main_v29
  let main_v31 : IVec S8192x1024 1 := andi main_v28 main_v30
  let main_c_12 : IVec S_ 1 := constantI S_ 1 1#1
  let main_v32 : IVec S_ 1 := (fun x v => Host.reduce IntOp.andi x v reducesTo_S8192x1024_S_d0_1 h_S_) main_v31 main_c_12
  fn_part2 (F := F) main_v26 main_v32

def fn {F : FTy → Type} [FloatOps F] (main_arg0 : FVec F S8192x1024 .f32) (main_arg1 : FVec F S1024 .f32) (main_arg2 : FVec F S1024 .f32) (main_arg3 : FVec F S1024x4096 .f32) (main_arg4 : FVec F S8192x4096 .f32) (main_arg5 : FVec F S8192x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S1024 .f32 := broadcastInDim S1024 ![] bcast_S_S1024 main_cst_1
  let main_v7 : IVec S1024 1 := cmpf .ogt main_arg1 main_v6
  let main_cst_2 : FVec F S_ .f32 := constant S_ .f32 0x7F800000#32
  let main_v8 : FVec F S1024 .f32 := broadcastInDim S1024 ![] bcast_S_S1024 main_cst_2
  let main_v9 : IVec S1024 1 := cmpf .olt main_arg1 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v5 main_v11
  let main_cst_4 : FVec F S_ .f32 := constant S_ .f32 0xFF800000#32
  let main_v13 : FVec F S1024x4096 .f32 := broadcastInDim S1024x4096 ![] bcast_S_S1024x4096 main_cst_4
  let main_v14 : IVec S1024x4096 1 := cmpf .ogt main_arg3 main_v13
  let main_cst_5 : FVec F S_ .f32 := constant S_ .f32 0x7F800000#32
  let main_v15 : FVec F S1024x4096 .f32 := broadcastInDim S1024x4096 ![] bcast_S_S1024x4096 main_cst_5
  fn_part1 (F := F) main_arg3 main_arg4 main_arg5 main_v12 main_v14 main_v15
-- ==== Kernel.lean ====
abbrev S8192x3072 : Shape := ⟨2, ![8192, 3072]⟩
abbrev S8192x128 : Shape := ⟨2, ![8192, 128]⟩
abbrev S64x8x128 : Shape := ⟨3, ![64, 8, 128]⟩
abbrev S64x8x128x128 : Shape := ⟨4, ![64, 8, 128, 128]⟩
abbrev S8192x1024 : Shape := ⟨2, ![8192, 1024]⟩
abbrev S128x3072 : Shape := ⟨2, ![128, 3072]⟩
abbrev S128x128 : Shape := ⟨2, ![128, 128]⟩
abbrev S1x8x128 : Shape := ⟨3, ![1, 8, 128]⟩
abbrev S1x8x128x128 : Shape := ⟨4, ![1, 8, 128, 128]⟩
abbrev S128x1024 : Shape := ⟨2, ![128, 1024]⟩
abbrev S8x128x128 : Shape := ⟨3, ![8, 128, 128]⟩
abbrev S8x128 : Shape := ⟨2, ![8, 128]⟩
abbrev S1x128 : Shape := ⟨2, ![1, 128]⟩
abbrev S8x1 : Shape := ⟨2, ![8, 1]⟩
abbrev S1x1x128x128 : Shape := ⟨4, ![1, 1, 128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x128x128 : Shape := ⟨3, ![1, 128, 128]⟩
abbrev S1x1x1 : Shape := ⟨3, ![1, 1, 1]⟩

abbrev nBuf : Space → Nat
  | .hbm => 11
  | .vmem => 23
  | .smem => 0
  | _ => 0

abbrev bufTy : (tb : Table) → Fin (tcTables nBuf tb) → BufTy
  | .hbm, ⟨0, _⟩ => ⟨S8192x3072, .f32⟩
  | .hbm, ⟨1, _⟩ => ⟨S8192x128, .f32⟩
  | .hbm, ⟨2, _⟩ => ⟨S64x8x128, .f32⟩
  | .hbm, ⟨3, _⟩ => ⟨S8192x128, .f32⟩
  | .hbm, ⟨4, _⟩ => ⟨S64x8x128x128, .f32⟩
  | .hbm, ⟨5, _⟩ => ⟨S64x8x128x128, .bf16⟩
  | .hbm, ⟨6, _⟩ => ⟨S8192x1024, .f32⟩
  | .hbm, ⟨7, _⟩ => ⟨S8192x3072, .f32⟩
  | .hbm, ⟨8, _⟩ => ⟨S8192x128, .f32⟩
  | .hbm, ⟨9, _⟩ => ⟨S64x8x128, .f32⟩
  | .hbm, ⟨10, _⟩ => ⟨S8192x128, .f32⟩
  | .local _ .vmem, ⟨0, _⟩ => ⟨S128x3072, .f32⟩
  | .local _ .vmem, ⟨1, _⟩ => ⟨S128x3072, .f32⟩
  | .local _ .vmem, ⟨2, _⟩ => ⟨S128x128, .f32⟩
  | .local _ .vmem, ⟨3, _⟩ => ⟨S128x128, .f32⟩
  | .local _ .vmem, ⟨4, _⟩ => ⟨S1x8x128, .f32⟩
  | .local _ .vmem, ⟨5, _⟩ => ⟨S1x8x128, .f32⟩
  | .local _ .vmem, ⟨6, _⟩ => ⟨S128x128, .f32⟩
  | .local _ .vmem, ⟨7, _⟩ => ⟨S128x128, .f32⟩
  | .local _ .vmem, ⟨8, _⟩ => ⟨S1x8x128x128, .f32⟩
  | .local _ .vmem, ⟨9, _⟩ => ⟨S1x8x128x128, .f32⟩
  | .local _ .vmem, ⟨10, _⟩ => ⟨S1x8x128x128, .bf16⟩
  | .local _ .vmem, ⟨11, _⟩ => ⟨S1x8x128x128, .bf16⟩
  | .local _ .vmem, ⟨12, _⟩ => ⟨S128x1024, .f32⟩
  | .local _ .vmem, ⟨13, _⟩ => ⟨S128x1024, .f32⟩
  | .local _ .vmem, ⟨14, _⟩ => ⟨S128x3072, .f32⟩
  | .local _ .vmem, ⟨15, _⟩ => ⟨S128x3072, .f32⟩
  | .local _ .vmem, ⟨16, _⟩ => ⟨S128x128, .f32⟩
  | .local _ .vmem, ⟨17, _⟩ => ⟨S128x128, .f32⟩
  | .local _ .vmem, ⟨18, _⟩ => ⟨S1x8x128, .f32⟩
  | .local _ .vmem, ⟨19, _⟩ => ⟨S1x8x128, .f32⟩
  | .local _ .vmem, ⟨20, _⟩ => ⟨S128x128, .f32⟩
  | .local _ .vmem, ⟨21, _⟩ => ⟨S128x128, .f32⟩
  | .local _ .vmem, ⟨22, _⟩ => ⟨S8x128x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpDown.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S1024x1024 : Shape := ⟨2, ![1024, 1024]⟩

abbrev nBuf : Space → Nat
  | .hbm => 14
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4096, .bf16⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S8192x1024, .bf16⟩
  | .hbm, ⟨12, _⟩ => ⟨S4096x1024, .bf16⟩
  | .hbm, ⟨13, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== MlpDwTwo.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S8192x512 : Shape := ⟨2, ![8192, 512]⟩
abbrev S512x512 : Shape := ⟨2, ![512, 512]⟩

abbrev nBuf : Space → Nat
  | .hbm => 13
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4096, .bf16⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S8192x1024, .bf16⟩
  | .hbm, ⟨12, _⟩ => ⟨S4096x1024, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDwTwoRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== MlpDwOne.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S8x1024x512 : Shape := ⟨3, ![8, 1024, 512]⟩
abbrev S8192x512 : Shape := ⟨2, ![8192, 512]⟩
abbrev S1x512x512 : Shape := ⟨3, ![1, 512, 512]⟩
abbrev S512x512 : Shape := ⟨2, ![512, 512]⟩

abbrev nBuf : Space → Nat
  | .hbm => 23
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4096, .bf16⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S1024x4096, .f32⟩
  | .hbm, ⟨12, _⟩ => ⟨S8192x1024, .bf16⟩
  | .hbm, ⟨13, _⟩ => ⟨S1024x4096, .bf16⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | .hbm, ⟨21, _⟩ => ⟨S8192x1024, .bf16⟩
  | .hbm, ⟨22, _⟩ => ⟨S8x1024x512, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S1x512x512, .bf16⟩
  | .local _ .vmem, ⟨5, _⟩ => ⟨S1x512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDwOneRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S4096x1024, .f32⟩
  | .hbm, ⟨24, _⟩ => ⟨S1024x4096, .f32⟩
  | .hbm, ⟨25, _⟩ => ⟨S1024x4096, .bf16⟩
  | .hbm, ⟨26, _⟩ => ⟨S1024x8x512, .bf16⟩
  | .hbm, ⟨27, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== PleDwG.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S_ : Shape := ⟨0, ![]⟩
abbrev S8192x512 : Shape := ⟨2, ![8192, 512]⟩
abbrev S512x512 : Shape := ⟨2, ![512, 512]⟩

abbrev nBuf : Space → Nat
  | .hbm => 32
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x256, .bf16⟩
  | .hbm, ⟨21, _⟩ => ⟨S256x1024, .bf16⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x1024, .bf16⟩
  | .hbm, ⟨31, _⟩ => ⟨S1024x1024, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleDwGRefIdeal.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x1024, .f32⟩
  | .hbm, ⟨27, _⟩ => ⟨S1024x1024, .f32⟩
  | .hbm, ⟨28, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== PleDwP.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S_ : Shape := ⟨0, ![]⟩
abbrev S8x256x128 : Shape := ⟨3, ![8, 256, 128]⟩
abbrev S8192x128 : Shape := ⟨2, ![8192, 128]⟩
abbrev S1x256x128 : Shape := ⟨3, ![1, 256, 128]⟩
abbrev S256x128 : Shape := ⟨2, ![256, 128]⟩

abbrev nBuf : Space → Nat
  | .hbm => 24
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x256, .bf16⟩
  | .hbm, ⟨21, _⟩ => ⟨S8192x1024, .f32⟩
  | .hbm, ⟨22, _⟩ => ⟨S8192x1024, .bf16⟩
  | .hbm, ⟨23, _⟩ => ⟨S8x256x128, .bf16⟩
  | .local _ .vmem, ⟨0, _⟩ => ⟨S8192x256, .bf16⟩
  | .local _ .vmem, ⟨1, _⟩ => ⟨S8192x128, .bf16⟩
  | .local _ .vmem, ⟨2, _⟩ => ⟨S8192x128, .bf16⟩
  | .local _ .vmem, ⟨3, _⟩ => ⟨S1x256x128, .bf16⟩
  | .local _ .vmem, ⟨4, _⟩ => ⟨S1x256x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleDwPRefIdeal.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S_ : Shape := ⟨0, ![]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x256, .f32⟩
  | .hbm, ⟨22, _⟩ => ⟨S256x1024, .f32⟩
  | .hbm, ⟨23, _⟩ => ⟨S256x1024, .bf16⟩
  | .hbm, ⟨24, _⟩ => ⟨S256x8x128, .bf16⟩
  | .hbm, ⟨25, _⟩ => ⟨S8x256x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== PleGateBwd.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S_ : Shape := ⟨0, ![]⟩

abbrev nBuf : Space → Nat
  | .hbm => 32
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x256, .bf16⟩
  | .hbm, ⟨21, _⟩ => ⟨S256x1024, .bf16⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S1024x1024, .bf16⟩
  | .hbm, ⟨31, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PleGateBwdRefIdeal.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== MlpUp.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== PleGate.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .bf16⟩
  | .hbm, ⟨4, _⟩ => ⟨S1024x1024, .bf16⟩
  | .hbm, ⟨5, _⟩ => ⟨S1x1024, .f32⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PleGateRefIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PleProj.lean ====
abbrev S8192x256 : Shape := ⟨2, ![8192, 256]⟩
abbrev S256x1024 : Shape := ⟨2, ![256, 1024]⟩
abbrev S8192x1024 : Shape := ⟨2, ![8192, 1024]⟩
abbrev S512x256 : Shape := ⟨2, ![512, 256]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x256, .bf16⟩
  | .hbm, ⟨3, _⟩ => ⟨S256x1024, .bf16⟩
  | .hbm, ⟨4, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjRefIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InQkv.lean ====
abbrev S8192x1024 : Shape := ⟨2, ![8192, 1024]⟩
abbrev S1024x4112 : Shape := ⟨2, ![1024, 4112]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4112, .f32⟩
  | .hbm, ⟨2, _⟩ => ⟨S8192x1024, .bf16⟩
  | .hbm, ⟨3, _⟩ => ⟨S1024x4112, .bf16⟩
  | .hbm, ⟨4, _⟩ => ⟨S1024x3072, .bf16⟩
  | .hbm, ⟨5, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQkvRefIdeal.lean ====
abbrev S8192x1024 : Shape := ⟨2, ![8192, 1024]⟩
abbrev S1024x4112 : Shape := ⟨2, ![1024, 4112]⟩
abbrev S8192x4112 : Shape := ⟨2, ![8192, 4112]⟩
abbrev S8192x3072 : Shape := ⟨2, ![8192, 3072]⟩
abbrev S8192x8 : Shape := ⟨2, ![8192, 8]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4112, .f32⟩
  | .hbm, ⟨2, _⟩ => ⟨S8192x4112, .f32⟩
  | .hbm, ⟨3, _⟩ => ⟨S8192x3072, .f32⟩
  | .hbm, ⟨4, _⟩ => ⟨S8192x1024, .f32⟩
  | .hbm, ⟨5, _⟩ => ⟨S8192x8, .f32⟩
  | .hbm, ⟨6, _⟩ => ⟨S8192x8, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InZ.lean ====
abbrev S8192x1024 : Shape := ⟨2, ![8192, 1024]⟩
abbrev S1024x4112 : Shape := ⟨2, ![1024, 4112]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x4112, .f32⟩
  | .hbm, ⟨2, _⟩ => ⟨S8192x1024, .bf16⟩
  | .hbm, ⟨3, _⟩ => ⟨S1024x4112, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZRefIdeal.lean ====
abbrev S8192x1024 : Shape := ⟨2, ![8192, 1024]⟩
abbrev S1024x4112 : Shape := ⟨2, ![1024, 4112]⟩
abbrev S8192x4112 : Shape := ⟨2, ![8192, 4112]⟩
abbrev S8192x3072 : Shape := ⟨2, ![8192, 3072]⟩
abbrev S8192x8 : Shape := ⟨2, ![8192, 8]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4112, .f32⟩
  | .hbm, ⟨2, _⟩ => ⟨S8192x4112, .f32⟩
  | .hbm, ⟨3, _⟩ => ⟨S8192x3072, .f32⟩
  | .hbm, ⟨4, _⟩ => ⟨S8192x1024, .f32⟩
  | .hbm, ⟨5, _⟩ => ⟨S8192x8, .f32⟩
  | .hbm, ⟨6, _⟩ => ⟨S8192x8, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InBa.lean ====
abbrev S8192x1024 : Shape := ⟨2, ![8192, 1024]⟩
abbrev S1024x256 : Shape := ⟨2, ![1024, 256]⟩
abbrev S8192x256 : Shape := ⟨2, ![8192, 256]⟩
abbrev S512x1024 : Shape := ⟨2, ![512, 1024]⟩
abbrev S512x256 : Shape := ⟨2, ![512, 256]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x1024, .bf16⟩
  | .hbm, ⟨3, _⟩ => ⟨S1024x256, .bf16⟩
  | .hbm, ⟨4, _⟩ => ⟨S8192x256, .f32⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S512x256, .f32⟩
  | .local _ .vmem, ⟨4, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBaRefIdeal.lean ====
abbrev S8192x1024 : Shape := ⟨2, ![8192, 1024]⟩
abbrev S1024x256 : Shape := ⟨2, ![1024, 256]⟩
abbrev S8192x256 : Shape := ⟨2, ![8192, 256]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DwQkv.lean ====
abbrev S8192x1024 : Shape := ⟨2, ![8192, 1024]⟩
abbrev S1024x3072 : Shape := ⟨2, ![1024, 3072]⟩
abbrev S8192x3072 : Shape := ⟨2, ![8192, 3072]⟩
abbrev S8192x512 : Shape := ⟨2, ![8192, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S8192x3072, .bf16⟩
  | .hbm, ⟨5, _⟩ => ⟨S1024x3072, .f32⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvIdeal.lean ====
abbrev S8192x1024 : Shape := ⟨2, ![8192, 1024]⟩
abbrev S1024x3072 : Shape := ⟨2, ![1024, 3072]⟩
abbrev S8192x3072 : Shape := ⟨2, ![8192, 3072]⟩
abbrev S8192x512 : Shape := ⟨2, ![8192, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S8192x3072, .bf16⟩
  | .hbm, ⟨5, _⟩ => ⟨S1024x3072, .f32⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvRefIdeal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .f32⟩
  | .hbm, ⟨4, _⟩ => ⟨S3072x1024, .f32⟩
  | .hbm, ⟨5, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwZ.lean ====
abbrev S8192x1024 : Shape := ⟨2, ![8192, 1024]⟩
abbrev S1024x1024 : Shape := ⟨2, ![1024, 1024]⟩
abbrev S8192x512 : Shape := ⟨2, ![8192, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwZIdeal.lean ====
abbrev S8192x1024 : Shape := ⟨2, ![8192, 1024]⟩
abbrev S1024x1024 : Shape := ⟨2, ![1024, 1024]⟩
abbrev S8192x512 : Shape := ⟨2, ![8192, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwZRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwBa.lean ====
abbrev S8192x1024 : Shape := ⟨2, ![8192, 1024]⟩
abbrev S1024x256 : Shape := ⟨2, ![1024, 256]⟩
abbrev S8192x256 : Shape := ⟨2, ![8192, 256]⟩
abbrev S8192x512 : Shape := ⟨2, ![8192, 512]⟩
abbrev S512x256 : Shape := ⟨2, ![512, 256]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | .hbm, ⟨3, _⟩ => ⟨S8192x1024, .bf16⟩
  | .hbm, ⟨4, _⟩ => ⟨S8192x256, .bf16⟩
  | .hbm, ⟨5, _⟩ => ⟨S1024x256, .f32⟩
  | .local _ .vmem, ⟨0, _⟩ => ⟨S8192x512, .bf16⟩
  | .local _ .vmem, ⟨1, _⟩ => ⟨S8192x512, .bf16⟩
  | .local _ .vmem, ⟨2, _⟩ => ⟨S8192x256, .bf16⟩
  | .local _ .vmem, ⟨3, _⟩ => ⟨S512x256, .f32⟩
  | .local _ .vmem, ⟨4, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBaRefIdeal.lean ====
abbrev S8192x1024 : Shape := ⟨2, ![8192, 1024]⟩
abbrev S1024x256 : Shape := ⟨2, ![1024, 256]⟩
abbrev S8192x256 : Shape := ⟨2, ![8192, 256]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | .hbm, ⟨3, _⟩ => ⟨S8192x256, .f32⟩
  | .hbm, ⟨4, _⟩ => ⟨S256x1024, .f32⟩
  | .hbm, ⟨5, _⟩ => ⟨S1024x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S8192x512 : Shape := ⟨2, ![8192, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InBaBwd.lean ====
abbrev S8192x1024 : Shape := ⟨2, ![8192, 1024]⟩
abbrev S1024x256 : Shape := ⟨2, ![1024, 256]⟩
abbrev S8192x256 : Shape := ⟨2, ![8192, 256]⟩
abbrev S512x256 : Shape := ⟨2, ![512, 256]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | .hbm, ⟨3, _⟩ => ⟨S8192x1024, .f32⟩
  | .hbm, ⟨4, _⟩ => ⟨S8192x256, .bf16⟩
  | .hbm, ⟨5, _⟩ => ⟨S1024x256, .bf16⟩
  | .hbm, ⟨6, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S1024x256, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InBaBwdRefIdeal.lean ====
abbrev S8192x1024 : Shape := ⟨2, ![8192, 1024]⟩
abbrev S1024x256 : Shape := ⟨2, ![1024, 256]⟩
abbrev S8192x256 : Shape := ⟨2, ![8192, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x256, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== InZBwd.lean ====
abbrev S8192x1024 : Shape := ⟨2, ![8192, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InZBwdRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== AdLn.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdLnIdeal.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdLnRefIdeal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdPoolW.lean ====
abbrev S128x256 : Shape := ⟨2, ![128, 256]⟩

abbrev nBuf : Space → Nat
  | .hbm => 7
  | .vmem => 7
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdPoolWIdeal.lean ====
abbrev S128x256 : Shape := ⟨2, ![128, 256]⟩

abbrev nBuf : Space → Nat
  | .hbm => 7
  | .vmem => 7
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdPoolWRefIdeal.lean ====
abbrev S128x256 : Shape := ⟨2, ![128, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S_, .f32⟩
  | .hbm, ⟨5, _⟩ => ⟨S128x256, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S_, .f32⟩
  | .hbm, ⟨12, _⟩ => ⟨S128x256, .f32⟩
  | .hbm, ⟨13, _⟩ => ⟨S128x256, .f32⟩
  | .hbm, ⟨14, _⟩ => ⟨S128x256, .f32⟩
  | .hbm, ⟨15, _⟩ => ⟨S_, .f32⟩
  | .hbm, ⟨16, _⟩ => ⟨S128x256, .f32⟩
  | .hbm, ⟨17, _⟩ => ⟨S128x256, .f32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdPoolB.lean ====
abbrev S4x32 : Shape := ⟨2, ![4, 32]⟩

abbrev nBuf : Space → Nat
  | .hbm => 7
  | .vmem => 7
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdPoolBIdeal.lean ====
abbrev S4x32 : Shape := ⟨2, ![4, 32]⟩

abbrev nBuf : Space → Nat
  | .hbm => 7
  | .vmem => 7
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdPoolBRefIdeal.lean ====
abbrev S4x32 : Shape := ⟨2, ![4, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S_, .f32⟩
  | .hbm, ⟨5, _⟩ => ⟨S4x32, .f32⟩
  | .hbm, ⟨6, _⟩ => ⟨S4x32, .f32⟩
  | .hbm, ⟨7, _⟩ => ⟨S_, .f32⟩
  | .hbm, ⟨8, _⟩ => ⟨S4x32, .f32⟩
  | .hbm, ⟨9, _⟩ => ⟨S4x32, .f32⟩
  | .hbm, ⟨10, _⟩ => ⟨S4x32, .f32⟩
  | .hbm, ⟨11, _⟩ => ⟨S_, .f32⟩
  | .hbm, ⟨12, _⟩ => ⟨S4x32, .f32⟩
  | .hbm, ⟨13, _⟩ => ⟨S4x32, .f32⟩
  | .hbm, ⟨14, _⟩ => ⟨S4x32, .f32⟩
  | .hbm, ⟨15, _⟩ => ⟨S_, .f32⟩
  | .hbm, ⟨16, _⟩ => ⟨S4x32, .f32⟩
  | .hbm, ⟨17, _⟩ => ⟨S4x32, .f32⟩
  | .hbm, ⟨18, _⟩ => ⟨S4x32, .f32⟩
  | .hbm, ⟨19, _⟩ => ⟨S_, .f32⟩
  | .hbm, ⟨20, _⟩ => ⟨S4x32, .f32⟩
  | .hbm, ⟨21, _⟩ => ⟨S4x32, .f32⟩
  | .hbm, ⟨22, _⟩ => ⟨S_, .f32⟩
  | .hbm, ⟨23, _⟩ => ⟨S4x32, .f32⟩
  | .hbm, ⟨24, _⟩ => ⟨S4x32, .f32⟩
  | .hbm, ⟨25, _⟩ => ⟨S4x32, .f32⟩
  | .hbm, ⟨26, _⟩ => ⟨S_, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S_, .f32⟩
  | .hbm, ⟨31, _⟩ => ⟨S4x32, .f32⟩
  | .hbm, ⟨32, _⟩ => ⟨S4x32, .f32⟩
  | .hbm, ⟨33, _⟩ => ⟨S4x32, .f32⟩
  | .hbm, ⟨34, _⟩ => ⟨S_, .f32⟩
  | .hbm, ⟨35, _⟩ => ⟨S4x32, .f32⟩
  | .hbm, ⟨36, _⟩ => ⟨S4x32, .f32⟩
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdPoolS.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdPoolSIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdPoolSRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdIn.lean ====
abbrev S1024x514 : Shape := ⟨2, ![1024, 514]⟩
abbrev S512x514 : Shape := ⟨2, ![512, 514]⟩

abbrev nBuf : Space → Nat
  | .hbm => 7
  | .vmem => 14
  | .smem => 0
  | _ => 0

abbrev bufTy : (tb : Table) → Fin (tcTables nBuf tb) → BufTy
  | .hbm, ⟨0, _⟩ => ⟨S1024x514, .f32⟩
  | .hbm, ⟨1, _⟩ => ⟨S1024x514, .f32⟩
  | .hbm, ⟨2, _⟩ => ⟨S1024x514, .f32⟩
  | .hbm, ⟨3, _⟩ => ⟨S1024x514, .f32⟩
  | .hbm, ⟨4, _⟩ => ⟨S1024x514, .f32⟩
  | .hbm, ⟨5, _⟩ => ⟨S1024x514, .f32⟩
  | .hbm, ⟨6, _⟩ => ⟨S1024x514, .f32⟩
  | .local _ .vmem, ⟨0, _⟩ => ⟨S512x514, .f32⟩
  | .local _ .vmem, ⟨1, _⟩ => ⟨S512x514, .f32⟩
  | .local _ .vmem, ⟨2, _⟩ => ⟨S512x514, .f32⟩
  | .local _ .vmem, ⟨3, _⟩ => ⟨S512x514, .f32⟩
  | .local _ .vmem, ⟨4, _⟩ => ⟨S512x514, .f32⟩
  | .local _ .vmem, ⟨5, _⟩ => ⟨S512x514, .f32⟩
  | .local _ .vmem, ⟨6, _⟩ => ⟨S512x514, .f32⟩
  | .local _ .vmem, ⟨7, _⟩ => ⟨S512x514, .f32⟩
  | .local _ .vmem, ⟨8, _⟩ => ⟨S512x514, .f32⟩
  | .local _ .vmem, ⟨9, _⟩ => ⟨S512x514, .f32⟩
  | .local _ .vmem, ⟨10, _⟩ => ⟨S512x514, .f32⟩
  | .local _ .vmem, ⟨11, _⟩ => ⟨S512x514, .f32⟩
  | .local _ .vmem, ⟨12, _⟩ => ⟨S512x514, .f32⟩
  | .local _ .vmem, ⟨13, _⟩ => ⟨S512x514, .f32⟩
  | _, _ => ⟨S1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdInIdeal.lean ====
abbrev S1024x514 : Shape := ⟨2, ![1024, 514]⟩
abbrev S512x514 : Shape := ⟨2, ![512, 514]⟩

abbrev nBuf : Space → Nat
  | .hbm => 7
  | .vmem => 14
  | .smem => 0
  | _ => 0

abbrev bufTy : (tb : Table) → Fin (tcTables nBuf tb) → BufTy
  | .hbm, ⟨0, _⟩ => ⟨S1024x514, .f32⟩
  | .hbm, ⟨1, _⟩ => ⟨S1024x514, .f32⟩
  | .hbm, ⟨2, _⟩ => ⟨S1024x514, .f32⟩
  | .hbm, ⟨3, _⟩ => ⟨S1024x514, .f32⟩
  | .hbm, ⟨4, _⟩ => ⟨S1024x514, .f32⟩
  | .hbm, ⟨5, _⟩ => ⟨S1024x514, .f32⟩
  | .hbm, ⟨6, _⟩ => ⟨S1024x514, .f32⟩
  | .local _ .vmem, ⟨0, _⟩ => ⟨S512x514, .f32⟩
  | .local _ .vmem, ⟨1, _⟩ => ⟨S512x514, .f32⟩
  | .local _ .vmem, ⟨2, _⟩ => ⟨S512x514, .f32⟩
  | .local _ .vmem, ⟨3, _⟩ => ⟨S512x514, .f32⟩
  | .local _ .vmem, ⟨4, _⟩ => ⟨S512x514, .f32⟩
  | .local _ .vmem, ⟨5, _⟩ => ⟨S512x514, .f32⟩
  | .local _ .vmem, ⟨6, _⟩ => ⟨S512x514, .f32⟩
  | .local _ .vmem, ⟨7, _⟩ => ⟨S512x514, .f32⟩
  | .local _ .vmem, ⟨8, _⟩ => ⟨S512x514, .f32⟩
  | .local _ .vmem, ⟨9, _⟩ => ⟨S512x514, .f32⟩
  | .local _ .vmem, ⟨10, _⟩ => ⟨S512x514, .f32⟩
  | .local _ .vmem, ⟨11, _⟩ => ⟨S512x514, .f32⟩
  | .local _ .vmem, ⟨12, _⟩ => ⟨S512x514, .f32⟩
  | .local _ .vmem, ⟨13, _⟩ => ⟨S512x514, .f32⟩
  | _, _ => ⟨S1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdInRefIdeal.lean ====
abbrev S1024x514 : Shape := ⟨2, ![1024, 514]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x514, .f32⟩
  | .hbm, ⟨1, _⟩ => ⟨S1024x514, .f32⟩
  | .hbm, ⟨2, _⟩ => ⟨S1024x514, .f32⟩
  | .hbm, ⟨3, _⟩ => ⟨S1024x514, .f32⟩
  | .hbm, ⟨4, _⟩ => ⟨S_, .f32⟩
  | .hbm, ⟨5, _⟩ => ⟨S1024x514, .f32⟩
  | .hbm, ⟨6, _⟩ => ⟨S1024x514, .f32⟩
  | .hbm, ⟨7, _⟩ => ⟨S_, .f32⟩
  | .hbm, ⟨8, _⟩ => ⟨S1024x514, .f32⟩
  | .hbm, ⟨9, _⟩ => ⟨S1024x514, .f32⟩
  | .hbm, ⟨10, _⟩ => ⟨S1024x514, .f32⟩
  | .hbm, ⟨11, _⟩ => ⟨S_, .f32⟩
  | .hbm, ⟨12, _⟩ => ⟨S1024x514, .f32⟩
  | .hbm, ⟨13, _⟩ => ⟨S1024x514, .f32⟩
  | .hbm, ⟨14, _⟩ => ⟨S1024x514, .f32⟩
  | .hbm, ⟨15, _⟩ => ⟨S_, .f32⟩
  | .hbm, ⟨16, _⟩ => ⟨S1024x514, .f32⟩
  | .hbm, ⟨17, _⟩ => ⟨S1024x514, .f32⟩
  | .hbm, ⟨18, _⟩ => ⟨S1024x514, .f32⟩
  | .hbm, ⟨19, _⟩ => ⟨S_, .f32⟩
  | .hbm, ⟨20, _⟩ => ⟨S1024x514, .f32⟩
  | .hbm, ⟨21, _⟩ => ⟨S1024x514, .f32⟩
  | .hbm, ⟨22, _⟩ => ⟨S_, .f32⟩
  | .hbm, ⟨23, _⟩ => ⟨S1024x514, .f32⟩
  | .hbm, ⟨24, _⟩ => ⟨S1024x514, .f32⟩
  | .hbm, ⟨25, _⟩ => ⟨S1024x514, .f32⟩
  | .hbm, ⟨26, _⟩ => ⟨S_, .f32⟩
  | .hbm, ⟨27, _⟩ => ⟨S1024x514, .f32⟩
  | .hbm, ⟨28, _⟩ => ⟨S1024x514, .f32⟩
  | .hbm, ⟨29, _⟩ => ⟨S1024x514, .f32⟩
  | .hbm, ⟨30, _⟩ => ⟨S_, .f32⟩
  | .hbm, ⟨31, _⟩ => ⟨S1024x514, .f32⟩
  | .hbm, ⟨32, _⟩ => ⟨S1024x514, .f32⟩
  | .hbm, ⟨33, _⟩ => ⟨S1024x514, .f32⟩
  | .hbm, ⟨34, _⟩ => ⟨S_, .f32⟩
  | .hbm, ⟨35, _⟩ => ⟨S1024x514, .f32⟩
  | .hbm, ⟨36, _⟩ => ⟨S1024x514, .f32⟩
  | _, _ => ⟨S1024x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdConv.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvIdeal.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvRefIdeal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdHeads.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdHeadsIdeal.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdHeadsRefIdeal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdNorm.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdNormIdeal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdNormRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdOutIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdOutRefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdOne.lean ====
abbrev S2048x512 : Shape := ⟨2, ![2048, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdOneIdeal.lean ====
abbrev S2048x512 : Shape := ⟨2, ![2048, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdOneRefIdeal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdTwo.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdTwoIdeal.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdTwoRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdGate.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdGateIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdGateRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdGateB.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdGateBIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdGateBRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdProj.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdProjRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MlpLn.lean ====
abbrev S8192x1024 : Shape := ⟨2, ![8192, 1024]⟩
abbrev S1024 : Shape := ⟨1, ![1024]⟩
abbrev S8192x4096 : Shape := ⟨2, ![8192, 4096]⟩
abbrev S4096x1024 : Shape := ⟨2, ![4096, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S256x4096 : Shape := ⟨2, ![256, 4096]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 45
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x4096, .f32⟩
  | .hbm, ⟨4, _⟩ => ⟨S4096x1024, .f32⟩
  | .hbm, ⟨5, _⟩ => ⟨S8192x1024, .f32⟩
  | .hbm, ⟨6, _⟩ => ⟨S8192x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x4096, .bf16⟩
  | .hbm, ⟨14, _⟩ => ⟨S4096x1024, .bf16⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x128, .f32⟩
  | .hbm, ⟨44, _⟩ => ⟨S8192x1024, .bf16⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x128, .f32⟩
  | .local _ .vmem, ⟨16, _⟩ => ⟨S256x128, .f32⟩
  | .local _ .vmem, ⟨17, _⟩ => ⟨S256x1024, .bf16⟩
  | .local _ .vmem, ⟨18, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== MlpLnRefIdeal.lean ====
abbrev S8192x1024 : Shape := ⟨2, ![8192, 1024]⟩
abbrev S1024 : Shape := ⟨1, ![1024]⟩
abbrev S8192x4096 : Shape := ⟨2, ![8192, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x128 : Shape := ⟨2, ![8192, 128]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x4096, .f32⟩
  | .hbm, ⟨4, _⟩ => ⟨S4096x1024, .f32⟩
  | .hbm, ⟨5, _⟩ => ⟨S8192x1024, .f32⟩
  | .hbm, ⟨6, _⟩ => ⟨S8192x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x4096, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S8192x1, .f32⟩
  | .hbm, ⟨81, _⟩ => ⟨S8192x128, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S8192x1, .f32⟩
  | .hbm, ⟨103, _⟩ => ⟨S8192x1024, .f32⟩
  | .hbm, ⟨104, _⟩ => ⟨S8192x1024, .f32⟩
  | .hbm, ⟨105, _⟩ => ⟨S1x1024, .f32⟩
  | .hbm, ⟨106, _⟩ => ⟨S8192x1024, .f32⟩
  | .hbm, ⟨107, _⟩ => ⟨S8192x1024, .f32⟩
  | .hbm, ⟨108, _⟩ => ⟨S1x1024, .f32⟩
  | .hbm, ⟨109, _⟩ => ⟨S8192x1024, .f32⟩
  | .hbm, ⟨110, _⟩ => ⟨S8192x1024, .f32⟩
  | .hbm, ⟨111, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]
-- ==== OutLn.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 43
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .bf16⟩
  | .hbm, ⟨12, _⟩ => ⟨S1024x1024, .bf16⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x128, .f32⟩
  | .hbm, ⟨42, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x128, .f32⟩
  | .local _ .vmem, ⟨12, _⟩ => ⟨S512x128, .f32⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== OutLnRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x128 : Shape := ⟨2, ![8192, 128]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x128, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x1, .f32⟩
  | .hbm, ⟨90, _⟩ => ⟨S8192x1024, .f32⟩
  | .hbm, ⟨91, _⟩ => ⟨S8192x1024, .f32⟩
  | .hbm, ⟨92, _⟩ => ⟨S1x1024, .f32⟩
  | .hbm, ⟨93, _⟩ => ⟨S8192x1024, .f32⟩
  | .hbm, ⟨94, _⟩ => ⟨S8192x1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_15 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== PoolDw.lean ====
abbrev S8192x1024 : Shape := ⟨2, ![8192, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S4x256x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== PoolDwRefIdeal.lean ====
abbrev S8192x1024 : Shape := ⟨2, ![8192, 1024]⟩
abbrev S4x256x256 : Shape := ⟨3, ![4, 256, 256]⟩
abbrev S8192x4x256 : Shape := ⟨3, ![8192, 4, 256]⟩
abbrev S4x256x8192 : Shape := ⟨3, ![4, 256, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S8192x1024, .f32⟩
  | .hbm, ⟨3, _⟩ => ⟨S8192x4x256, .f32⟩
  | .hbm, ⟨4, _⟩ => ⟨S4x256x8192, .f32⟩
  | .hbm, ⟨5, _⟩ => ⟨S8192x4x256, .f32⟩
  | .hbm, ⟨6, _⟩ => ⟨S8192x4x256, .f32⟩
  | .hbm, ⟨7, _⟩ => ⟨S4x256x8192, .f32⟩
  | .hbm, ⟨8, _⟩ => ⟨S4x256x256, .f32⟩
  | .hbm, ⟨9, _⟩ => ⟨S4x256x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PoolBwd.lean ====
abbrev S8192x1024 : Shape := ⟨2, ![8192, 1024]⟩
abbrev S4x256x256 : Shape := ⟨3, ![4, 256, 256]⟩
abbrev S4x256 : Shape := ⟨2, ![4, 256]⟩
abbrev S1024 : Shape := ⟨1, ![1024]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S528x1 : Shape := ⟨2, ![528, 1]⟩
abbrev S528x256 : Shape := ⟨2, ![528, 256]⟩
abbrev S1x256x256 : Shape := ⟨3, ![1, 256, 256]⟩
abbrev S256x256 : Shape := ⟨2, ![256, 256]⟩
abbrev S512x256 : Shape := ⟨2, ![512, 256]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x256x256, .f32⟩
  | .hbm, ⟨3, _⟩ => ⟨S4x256, .f32⟩
  | .hbm, ⟨4, _⟩ => ⟨S1024, .f32⟩
  | .hbm, ⟨5, _⟩ => ⟨S8192x1024, .bf16⟩
  | .hbm, ⟨6, _⟩ => ⟨S4x256x256, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S16x1024, .f32⟩
  | .local _ .vmem, ⟨5, _⟩ => ⟨S16x1024, .f32⟩
  | .local _ .vmem, ⟨6, _⟩ => ⟨S4x256x256, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v133 : BitVec 1 := Scalar.cmpi .eq arg0 c0_i32
  let v134 : BitVec 32 := Scalar.extui v133
  let c0_i32_42 : BitVec 32 := 0#32
  let v135 : BitVec 1 := Scalar.cmpi .ne v134 c0_i32_42
  v135

def k0_cond2 (i : grid0.Coords) : BitVec 1 :=
  let arg0 : BitVec 32 := BitVec.ofNat 32 (i 0).val
  let c0_i32_43 : BitVec 32 := 0#32
  let v136 : BitVec 1 := Scalar.cmpi .sgt arg0 c0_i32_43
  let v137 : BitVec 32 := Scalar.extui v136
  let c0_i32_44 : BitVec 32 := 0#32
  let v138 : BitVec 1 := Scalar.cmpi .ne v137 c0_i32_44
  v138

def k0_cond3 (i : grid0.Coords) : BitVec 1 :=
  let arg0 : BitVec 32 := BitVec.ofNat 32 (i 0).val
  let c0_i32_45 : BitVec 32 := 0#32
  let v139 : BitVec 1 := Scalar.cmpi .eq arg0 c0_i32_45
  let v140 : BitVec 32 := Scalar.extui v139
  let c0_i32_46 : BitVec 32 := 0#32
  let v141 : BitVec 1 := Scalar.cmpi .ne v140 c0_i32_46
  v141

def k0_cond4 (i : grid0.Coords) : BitVec 1 :=
  let arg0 : BitVec 32 := BitVec.ofNat 32 (i 0).val
  let c0_i32_47 : BitVec 32 := 0#32
  let v142 : BitVec 1 := Scalar.cmpi .sgt arg0 c0_i32_47
  let v143 : BitVec 32 := Scalar.extui v142
  let c0_i32_48 : BitVec 32 := 0#32
  let v144 : BitVec 1 := Scalar.cmpi .ne v143 c0_i32_48
  v144

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PoolBwdRefIdeal.lean ====
abbrev S8192x1024 : Shape := ⟨2, ![8192, 1024]⟩
abbrev S4x256x256 : Shape := ⟨3, ![4, 256, 256]⟩
abbrev S4x256 : Shape := ⟨2, ![4, 256]⟩
abbrev S1024 : Shape := ⟨1, ![1024]⟩
abbrev S8192x4x256 : Shape := ⟨3, ![8192, 4, 256]⟩
abbrev S4x256x8192 : Shape := ⟨3, ![4, 256, 8192]⟩
abbrev S1x4x256 : Shape := ⟨3, ![1, 4, 256]⟩
abbrev S1x1024 : Shape := ⟨2, ![1, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x256x256, .f32⟩
  | .hbm, ⟨3, _⟩ => ⟨S4x256, .f32⟩
  | .hbm, ⟨4, _⟩ => ⟨S1024, .f32⟩
  | .hbm, ⟨5, _⟩ => ⟨S8192x4x256, .f32⟩
  | .hbm, ⟨6, _⟩ => ⟨S4x256x8192, .f32⟩
  | .hbm, ⟨7, _⟩ => ⟨S8192x4x256, .f32⟩
  | .hbm, ⟨8, _⟩ => ⟨S1x4x256, .f32⟩
  | .hbm, ⟨9, _⟩ => ⟨S8192x4x256, .f32⟩
  | .hbm, ⟨10, _⟩ => ⟨S8192x4x256, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1024, .f32⟩
  | .hbm, ⟨23, _⟩ => ⟨S8192x4x256, .f32⟩
  | .hbm, ⟨24, _⟩ => ⟨S_, .f32⟩
  | .hbm, ⟨25, _⟩ => ⟨S4x256, .f32⟩
  | .hbm, ⟨26, _⟩ => ⟨S1x4x256, .f32⟩
  | .hbm, ⟨27, _⟩ => ⟨S_, .f32⟩
  | .hbm, ⟨28, _⟩ => ⟨S4x256, .f32⟩
  | .hbm, ⟨29, _⟩ => ⟨S1x1024, .f32⟩
  | .hbm, ⟨30, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== MlpUpBwd.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S1x1024 : Shape := ⟨2, ![1, 1024]⟩
abbrev S256x4096 : Shape := ⟨2, ![256, 4096]⟩
abbrev S256x1024 : Shape := ⟨2, ![256, 1024]⟩
abbrev S256x128 : Shape := ⟨2, ![256, 128]⟩
abbrev S256x1 : Shape := ⟨2, ![256, 1]⟩
abbrev S256 : Shape := ⟨1, ![256]⟩

abbrev nBuf : Space → Nat
  | .hbm => 41
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S8192x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x4096, .bf16⟩
  | .hbm, ⟨34, _⟩ => ⟨S1024x4096, .bf16⟩
  | .hbm, ⟨35, _⟩ => ⟨S8192x128, .f32⟩
  | .hbm, ⟨36, _⟩ => ⟨S1x1024, .f32⟩
  | .hbm, ⟨37, _⟩ => ⟨S8192x1024, .f32⟩
  | .hbm, ⟨38, _⟩ => ⟨S8192x1024, .bf16⟩
  | .hbm, ⟨39, _⟩ => ⟨S1x1024, .f32⟩
  | .hbm, ⟨40, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S1024x4096, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x128, .f32⟩
  | .local _ .vmem, ⟨8, _⟩ => ⟨S256x128, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_21 : BitVec 32 := 0#32
  let v42 : BitVec 1 := Scalar.cmpi .ne v41 c0_i32_21
  v42

def k0_cond2 (i : grid0.Coords) : BitVec 1 :=
  let arg0 : BitVec 32 := BitVec.ofNat 32 (i 0).val
  let c0_i32_22 : BitVec 32 := 0#32
  let v43 : BitVec 1 := Scalar.cmpi .sgt arg0 c0_i32_22
  let v44 : BitVec 32 := Scalar.extui v43
  let c0_i32_23 : BitVec 32 := 0#32
  let v45 : BitVec 1 := Scalar.cmpi .ne v44 c0_i32_23
  v45

def k0_cond3 (i : grid0.Coords) : BitVec 1 :=
  let arg0 : BitVec 32 := BitVec.ofNat 32 (i 0).val
  let c0_i32_24 : BitVec 32 := 0#32
  let v46 : BitVec 1 := Scalar.cmpi .eq arg0 c0_i32_24
  let v47 : BitVec 32 := Scalar.extui v46
  let c0_i32_25 : BitVec 32 := 0#32
  let v48 : BitVec 1 := Scalar.cmpi .ne v47 c0_i32_25
  v48

def k0_cond4 (i : grid0.Coords) : BitVec 1 :=
  let arg0 : BitVec 32 := BitVec.ofNat 32 (i 0).val
  let c0_i32_26 : BitVec 32 := 0#32
  let v49 : BitVec 1 := Scalar.cmpi .sgt arg0 c0_i32_26
  let v50 : BitVec 32 := Scalar.extui v49
  let c0_i32_27 : BitVec 32 := 0#32
  let v51 : BitVec 1 := Scalar.cmpi .ne v50 c0_i32_27
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== MlpUpBwdRefIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S8192x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x4096, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .bf16⟩
  | .hbm, ⟨91, _⟩ => ⟨S1x1024, .f32⟩
  | .hbm, ⟨92, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== InQkvBwd.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S1x1024 : Shape := ⟨2, ![1, 1024]⟩
abbrev S256x3072 : Shape := ⟨2, ![256, 3072]⟩
abbrev S256x1024 : Shape := ⟨2, ![256, 1024]⟩
abbrev S256x128 : Shape := ⟨2, ![256, 128]⟩
abbrev S256x1 : Shape := ⟨2, ![256, 1]⟩
abbrev S256 : Shape := ⟨1, ![256]⟩

abbrev nBuf : Space → Nat
  | .hbm => 50
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x3072, .f32⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x3072, .bf16⟩
  | .hbm, ⟨37, _⟩ => ⟨S1024x3072, .bf16⟩
  | .hbm, ⟨38, _⟩ => ⟨S8192x128, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .bf16⟩
  | .hbm, ⟨45, _⟩ => ⟨S8192x1024, .bf16⟩
  | .hbm, ⟨46, _⟩ => ⟨S8192x1024, .bf16⟩
  | .hbm, ⟨47, _⟩ => ⟨S1x1024, .f32⟩
  | .hbm, ⟨48, _⟩ => ⟨S1x1024, .f32⟩
  | .hbm, ⟨49, _⟩ => ⟨S1x1024, .f32⟩
  | .local _ .vmem, ⟨0, _⟩ => ⟨S256x3072, .bf16⟩
  | .local _ .vmem, ⟨1, _⟩ => ⟨S256x3072, .bf16⟩
  | .local _ .vmem, ⟨2, _⟩ => ⟨S1024x3072, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x128, .f32⟩
  | .local _ .vmem, ⟨8, _⟩ => ⟨S256x128, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev main_v28_3 : Ref sig .tc := ⟨.hbm, 46, rfl⟩
abbrev main_v28_4 : Ref sig .tc := ⟨.hbm, 47, rfl⟩
abbrev main_v28_5 : Ref sig .tc := ⟨.hbm, 48, rfl⟩
abbrev main_v28_6 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_31 : BitVec 32 := 0#32
  let v58 : BitVec 1 := Scalar.cmpi .ne v57 c0_i32_31
  v58

def k0_cond2 (i : grid0.Coords) : BitVec 1 :=
  let arg0 : BitVec 32 := BitVec.ofNat 32 (i 0).val
  let c0_i32_32 : BitVec 32 := 0#32
  let v59 : BitVec 1 := Scalar.cmpi .sgt arg0 c0_i32_32
  let v60 : BitVec 32 := Scalar.extui v59
  let c0_i32_33 : BitVec 32 := 0#32
  let v61 : BitVec 1 := Scalar.cmpi .ne v60 c0_i32_33
  v61

def k0_cond3 (i : grid0.Coords) : BitVec 1 :=
  let arg0 : BitVec 32 := BitVec.ofNat 32 (i 0).val
  let c0_i32_34 : BitVec 32 := 0#32
  let v62 : BitVec 1 := Scalar.cmpi .eq arg0 c0_i32_34
  let v63 : BitVec 32 := Scalar.extui v62
  let c0_i32_35 : BitVec 32 := 0#32
  let v64 : BitVec 1 := Scalar.cmpi .ne v63 c0_i32_35
  v64

def k0_cond4 (i : grid0.Coords) : BitVec 1 :=
  let arg0 : BitVec 32 := BitVec.ofNat 32 (i 0).val
  let c0_i32_36 : BitVec 32 := 0#32
  let v65 : BitVec 1 := Scalar.cmpi .sgt arg0 c0_i32_36
  let v66 : BitVec 32 := Scalar.extui v65
  let c0_i32_37 : BitVec 32 := 0#32
  let v67 : BitVec 1 := Scalar.cmpi .ne v66 c0_i32_37
  v67

def k0_cond5 (i : grid0.Coords) : BitVec 1 :=
  let arg0 : BitVec 32 := BitVec.ofNat 32 (i 0).val
  let c0_i32_38 : BitVec 32 := 0#32
  let v68 : BitVec 1 := Scalar.cmpi .eq arg0 c0_i32_38
  let v69 : BitVec 32 := Scalar.extui v68
  let c0_i32_39 : BitVec 32 := 0#32
  let v70 : BitVec 1 := Scalar.cmpi .ne v69 c0_i32_39
  v70

def k0_cond6 (i : grid0.Coords) : BitVec 1 :=
  let arg0 : BitVec 32 := BitVec.ofNat 32 (i 0).val
  let c0_i32_40 : BitVec 32 := 0#32
  let v71 : BitVec 1 := Scalar.cmpi .sgt arg0 c0_i32_40
  let v72 : BitVec 32 := Scalar.extui v71
  let c0_i32_41 : BitVec 32 := 0#32
  let v73 : BitVec 1 := Scalar.cmpi .ne v72 c0_i32_41
  v73

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]
-- ==== InQkvBwdRefIdeal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x3072, .f32⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x3072, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S1x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192x1024, .f32⟩
  | .hbm, ⟨100, _⟩ => ⟨S8192x1024, .f32⟩
  | .hbm, ⟨101, _⟩ => ⟨S_, .f32⟩
  | .hbm, ⟨102, _⟩ => ⟨S8192x1024, .f32⟩
  | .hbm, ⟨103, _⟩ => ⟨S8192x1024, .f32⟩
  | .hbm, ⟨104, _⟩ => ⟨S_, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S_, .f32⟩
  | .hbm, ⟨113, _⟩ => ⟨S1024, .f32⟩
  | .hbm, ⟨114, _⟩ => ⟨S1x1024, .f32⟩
  | .hbm, ⟨115, _⟩ => ⟨S_, .f32⟩
  | .hbm, ⟨116, _⟩ => ⟨S1024, .f32⟩
  | .hbm, ⟨117, _⟩ => ⟨S8192x1024, .bf16⟩
  | .hbm, ⟨118, _⟩ => ⟨S8192x1024, .bf16⟩
  | .hbm, ⟨119, _⟩ => ⟨S8192x1024, .bf16⟩
  | .hbm, ⟨120, _⟩ => ⟨S1x1024, .f32⟩
  | .hbm, ⟨121, _⟩ => ⟨S1x1024, .f32⟩
  | .hbm, ⟨122, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_15 : Ref sig .tc := ⟨.hbm, 86, rfl⟩
abbrev main_v61 : Ref sig .tc := ⟨.hbm, 87, rfl⟩
abbrev main_v62 : Ref sig .tc := ⟨.hbm, 88, rfl⟩
abbrev main_cst_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_v74 : Ref sig .tc := ⟨.hbm, 103, rfl⟩
abbrev main_cst_19 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_20 : Ref sig .tc := ⟨.hbm, 112, rfl⟩
abbrev main_v82 : Ref sig .tc := ⟨.hbm, 113, rfl⟩
abbrev main_v83 : Ref sig .tc := ⟨.hbm, 114, rfl⟩
abbrev main_cst_21 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]
-- ==== LossLn.lean ====
abbrev S8192x1024 : Shape := ⟨2, ![8192, 1024]⟩
abbrev S1024 : Shape := ⟨1, ![1024]⟩
abbrev S8192x4096 : Shape := ⟨2, ![8192, 4096]⟩
abbrev S4096x1024 : Shape := ⟨2, ![4096, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 55
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x4096, .f32⟩
  | .hbm, ⟨4, _⟩ => ⟨S4096x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S1024, .f32⟩
  | .hbm, ⟨9, _⟩ => ⟨S1024, .f32⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8192x4096, .bf16⟩
  | .hbm, ⟨16, _⟩ => ⟨S4096x1024, .bf16⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S8192x1024, .bf16⟩
  | .hbm, ⟨50, _⟩ => ⟨S8192x1024, .bf16⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev main_v30_3 : Ref sig .tc := ⟨.hbm, 50, rfl⟩
abbrev main_v30_4 : Ref sig .tc := ⟨.hbm, 51, rfl⟩
abbrev main_v30_5 : Ref sig .tc := ⟨.hbm, 52, rfl⟩
abbrev main_v30_6 : Ref sig .tc := ⟨.hbm, 53, rfl⟩
abbrev main_v30_7 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v94 : BitVec 1 := Scalar.cmpi .eq arg0 c0_i32
  let v95 : BitVec 32 := Scalar.extui v94
  let c0_i32_43 : BitVec 32 := 0#32
  let v96 : BitVec 1 := Scalar.cmpi .ne v95 c0_i32_43
  v96

def k0_cond2 (i : grid0.Coords) : BitVec 1 :=
  let arg0 : BitVec 32 := BitVec.ofNat 32 (i 0).val
  let c0_i32_44 : BitVec 32 := 0#32
  let v97 : BitVec 1 := Scalar.cmpi .sgt arg0 c0_i32_44
  let v98 : BitVec 32 := Scalar.extui v97
  let c0_i32_45 : BitVec 32 := 0#32
  let v99 : BitVec 1 := Scalar.cmpi .ne v98 c0_i32_45
  v99

def k0_cond3 (i : grid0.Coords) : BitVec 1 :=
  let arg0 : BitVec 32 := BitVec.ofNat 32 (i 0).val
  let c0_i32_46 : BitVec 32 := 0#32
  let v100 : BitVec 1 := Scalar.cmpi .eq arg0 c0_i32_46
  let v101 : BitVec 32 := Scalar.extui v100
  let c0_i32_47 : BitVec 32 := 0#32
  let v102 : BitVec 1 := Scalar.cmpi .ne v101 c0_i32_47
  v102

def k0_cond4 (i : grid0.Coords) : BitVec 1 :=
  let arg0 : BitVec 32 := BitVec.ofNat 32 (i 0).val
  let c0_i32_48 : BitVec 32 := 0#32
  let v103 : BitVec 1 := Scalar.cmpi .sgt arg0 c0_i32_48
  let v104 : BitVec 32 := Scalar.extui v103
  let c0_i32_49 : BitVec 32 := 0#32
  let v105 : BitVec 1 := Scalar.cmpi .ne v104 c0_i32_49
  v105

def k0_cond5 (i : grid0.Coords) : BitVec 1 :=
  let arg0 : BitVec 32 := BitVec.ofNat 32 (i 0).val
  let c0_i32_50 : BitVec 32 := 0#32
  let v106 : BitVec 1 := Scalar.cmpi .eq arg0 c0_i32_50
  let v107 : BitVec 32 := Scalar.extui v106
  let c0_i32_51 : BitVec 32 := 0#32
  let v108 : BitVec 1 := Scalar.cmpi .ne v107 c0_i32_51
  v108

def k0_cond6 (i : grid0.Coords) : BitVec 1 :=
  let arg0 : BitVec 32 := BitVec.ofNat 32 (i 0).val
  let c0_i32_52 : BitVec 32 := 0#32
  let v109 : BitVec 1 := Scalar.cmpi .sgt arg0 c0_i32_52
  let v110 : BitVec 32 := Scalar.extui v109
  let c0_i32_53 : BitVec 32 := 0#32
  let v111 : BitVec 1 := Scalar.cmpi .ne v110 c0_i32_53
  v111

def k0_cond7 (i : grid0.Coords) : BitVec 1 :=
  let arg0 : BitVec 32 := BitVec.ofNat 32 (i 0).val
  let c0_i32_54 : BitVec 32 := 0#32
  let v112 : BitVec 1 := Scalar.cmpi .eq arg0 c0_i32_54
  let v113 : BitVec 32 := Scalar.extui v112
  let c0_i32_55 : BitVec 32 := 0#32
  let v114 : BitVec 1 := Scalar.cmpi .ne v113 c0_i32_55
  v114

def k0_cond8 (i : grid0.Coords) : BitVec 1 :=
  let arg0 : BitVec 32 := BitVec.ofNat 32 (i 0).val
  let c0_i32_56 : BitVec 32 := 0#32
  let v115 : BitVec 1 := Scalar.cmpi .sgt arg0 c0_i32_56
  let v116 : BitVec 32 := Scalar.extui v115
  let c0_i32_57 : BitVec 32 := 0#32
  let v117 : BitVec 1 := Scalar.cmpi .ne v116 c0_i32_57
  v117

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false, false]
-- ==== LossLnRefIdeal.lean ====
abbrev S8192x1024 : Shape := ⟨2, ![8192, 1024]⟩
abbrev S1024 : Shape := ⟨1, ![1024]⟩
abbrev S8192x4096 : Shape := ⟨2, ![8192, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 195
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S8192x4096, .f32⟩
  | 4 => ⟨S4096x1024, .f32⟩
  | 5 => ⟨S8192x1024, .f32⟩
  | 6 => ⟨S1024, .f32⟩
  | 7 => ⟨S8192x1024, .f32⟩
  | 8 => ⟨S1024, .f32⟩
  | 9 => ⟨S1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S8192x1024, .f32⟩
  | 18 => ⟨S8192x1024, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S_, .f32⟩
  | 29 => ⟨S8192x1, .f32⟩
  | 30 => ⟨S8192x1, .f32⟩
  | 31 => ⟨S8192x1, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S1x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S8192x4096, .f32⟩
  | 44 => ⟨S8192x1024, .f32⟩
  | 45 => ⟨S8192x1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S8192x1024, .f32⟩
  | 58 => ⟨S8192x1024, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192, .f32⟩
  | 73 => ⟨S8192x1, .f32⟩
  | 74 => ⟨S_, .f32⟩
  | 75 => ⟨S8192x1, .f32⟩
  | 76 => ⟨S8192x1, .f32⟩
  | 77 => ⟨S8192x1024, .f32⟩
  | 78 => ⟨S8192x1024, .f32⟩
  | 79 => ⟨S_, .f32⟩
  | 80 => ⟨S8192x1, .f32⟩
  | 81 => ⟨S8192x1, .f32⟩
  | 82 => ⟨S8192x1, .f32⟩
  | 83 => ⟨S8192x1, .f32⟩
  | 84 => ⟨S_, .f32⟩
  | 85 => ⟨S8192x1, .f32⟩
  | 86 => ⟨S8192x1, .f32⟩
  | 87 => ⟨S8192x1024, .f32⟩
  | 88 => ⟨S8192x1024, .f32⟩
  | 89 => ⟨S1x1024, .f32⟩
  | 90 => ⟨S8192x1024, .f32⟩
  | 91 => ⟨S8192x1024, .f32⟩
  | 92 => ⟨S1x1024, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S_, .f32⟩
  | 101 => ⟨S8192, .f32⟩
  | 102 => ⟨S_, .f32⟩
  | 103 => ⟨S8192, .f32⟩
  | 104 => ⟨S8192, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S8192, .f32⟩
  | 113 => ⟨S_, .f32⟩
  | 114 => ⟨S8192, .f32⟩
  | 115 => ⟨S8192, .f32⟩
  | 116 => ⟨S8192x1024, .f32⟩
  | 117 => ⟨S8192x1024, .f32⟩
  | 118 => ⟨S_, .f32⟩
  | 119 => ⟨S1024, .f32⟩
  | 120 => ⟨S1x1024, .f32⟩
  | 121 => ⟨S_, .f32⟩
  | 122 => ⟨S1024, .f32⟩
  | 123 => ⟨S8192x1024, .f32⟩
  | 124 => ⟨S_, .f32⟩
  | 125 => ⟨S1024, .f32⟩
  | 126 => ⟨S1x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S1024, .f32⟩
  | 3 => ⟨S8192x1024, .f32⟩
  | 4 => ⟨S_, .f32⟩
  | 5 => ⟨S8192, .f32⟩
  | 6 => ⟨S8192x1, .f32⟩
  | 7 => ⟨S8192x1024, .f32⟩
  | 8 => ⟨S8192x1024, .f32⟩
  | 9 => ⟨S8192x1, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S8192x1024, .f32⟩
  | 26 => ⟨S8192x1, .f32⟩
  | 27 => ⟨S_, .f32⟩
  | 28 => ⟨S8192x1, .f32⟩
  | 29 => ⟨S8192x1, .f32⟩
  | 30 => ⟨S_, .f32⟩
  | 31 => ⟨S8192, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S1024, .f32⟩
  | 55 => ⟨S1x1024, .f32⟩
  | 56 => ⟨S_, .f32⟩
  | 57 => ⟨S1024, .f32⟩
  | 58 => ⟨S8192x1024, .bf16⟩
  | 59 => ⟨S8192x1024, .bf16⟩
  | 60 => ⟨S8192x1024, .bf16⟩
  | 61 => ⟨S_, .f32⟩
  | 62 => ⟨S1024, .f32⟩
  | 63 => ⟨S1x1024, .f32⟩
  | 64 => ⟨S1x1024, .f32⟩
  | 65 => ⟨S1x1024, .f32⟩
  | 66 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_cst_16 : Ref sig .tc := ⟨.hbm, 102, rfl⟩
abbrev main_v74 : Ref sig .tc := ⟨.hbm, 103, rfl⟩
abbrev main_v75 : Ref sig .tc := ⟨.hbm, 104, rfl⟩
abbrev main_cst_17 : Ref sig .tc := ⟨.hbm, 105, rfl⟩
abbrev main_v76 : Ref sig .tc := ⟨.hbm, 106, rfl⟩
abbrev main_cst_18 : Ref sig .tc := ⟨.hbm, 107, rfl⟩
abbrev main_v77 : Ref sig .tc := ⟨.hbm, 108, rfl⟩
abbrev main_cst_19 : Ref sig .tc := ⟨.hbm, 109, rfl⟩
abbrev main_cst_20 : Ref sig .tc := ⟨.hbm, 110, rfl⟩
abbrev main_v78 : Ref sig .tc := ⟨.hbm, 111, rfl⟩
abbrev main_v79 : Ref sig .tc := ⟨.hbm, 112, rfl⟩
abbrev main_cst_21 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_22 : Ref sig .tc := ⟨.hbm, 118, rfl⟩
abbrev main_v84 : Ref sig .tc := ⟨.hbm, 119, rfl⟩
abbrev main_v85 : Ref sig .tc := ⟨.hbm, 120, rfl⟩
abbrev main_cst_23 : Ref sig .tc := ⟨.hbm, 121, rfl⟩
abbrev main_v86 : Ref sig .tc := ⟨.hbm, 122, rfl⟩
abbrev main_v87 : Ref sig .tc := ⟨.hbm, 123, rfl⟩
abbrev main_cst_24 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_25 : Ref sig .tc := ⟨.hbm, 129, rfl⟩
abbrev main_v92 : Ref sig .tc := ⟨.hbm, 130, rfl⟩
abbrev main_v93 : Ref sig .tc := ⟨.hbm, 131, rfl⟩
abbrev main_cst_26 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_27 : Ref sig .tc := ⟨.hbm, 139, rfl⟩
abbrev main_v100 : Ref sig .tc := ⟨.hbm, 140, rfl⟩
abbrev main_v101 : Ref sig .tc := ⟨.hbm, 141, rfl⟩
abbrev main_cst_28 : Ref sig .tc := ⟨.hbm, 142, rfl⟩
abbrev main_v102 : Ref sig .tc := ⟨.hbm, 143, rfl⟩
abbrev main_v103 : Ref sig .tc := ⟨.hbm, 144, rfl⟩
abbrev main_cst_29 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_30 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_31 : Ref sig .tc := ⟨.hbm, 155, rfl⟩
abbrev main_v112 : Ref sig .tc := ⟨.hbm, 156, rfl⟩
abbrev main_v113 : Ref sig .tc := ⟨.hbm, 157, rfl⟩
abbrev main_cst_32 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_33 : Ref sig .tc := ⟨.hbm, 167, rfl⟩
abbrev main_v122 : Ref sig .tc := ⟨.hbm, 168, rfl⟩
abbrev main_v123 : Ref sig .tc := ⟨.hbm, 169, rfl⟩
abbrev main_cst_34 : Ref sig .tc := ⟨.hbm, 170, rfl⟩
abbrev main_v124 : Ref sig .tc := ⟨.hbm, 171, rfl⟩
abbrev main_v125 : Ref sig .tc := ⟨.hbm, 172, rfl⟩
abbrev main_cst_35 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_36 : Ref sig .tc := ⟨.hbm, 181, rfl⟩
abbrev main_v133 : Ref sig .tc := ⟨.hbm, 182, rfl⟩
abbrev main_v134 : Ref sig .tc := ⟨.hbm, 183, rfl⟩
abbrev main_cst_37 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_38 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩

abbrev nD : Nat := 1
abbrev τ : Topo := Topo.v7x

variable {F : FTy → Type} [FloatOps F]
-- ==== Proof.Common.lean ====
/- Facts about the extended reals that several values use. -/
module

public import Idealize.ShloMosaic.Lib.Pointwise
public import Idealize.ShloMosaic.PureOps.Ideal

@[expose] public section

namespace Cert.Common

/-- The gradient of the squared ReLU: where the input is not positive the ReLU itself is zero, so the test is idle. -/
theorem relu_gate (a b x : EReal) : (if 0 < x then a * (b * max x 0) else 0) = a * (b * max x 0) := by
  split
  · rfl
  · rename_i h
    rw [max_eq_right (not_lt.mp h), mul_zero, mul_zero]

/-- The slope of the logistic function, whichever way its product is bracketed. -/
theorem gate_assoc (a b : EReal) : a * b * (1 - b) = a * (b * (1 - b)) := mul_assoc ..

end Cert.Common

end
-- ==== Proof.MlpDown.lean ====
/- The value of `Cert.MlpDownIdeal`. -/
module

public import proofs.«01_k».proof.Proof.Gen.MlpDownIdeal
public import proofs.«01_k».proof.Proof.Gen.MlpDownIdeal.Frame
public import proofs.«01_k».proof.Proof.Gen.MlpDownRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MlpDownValue

open Cert.MlpDownIdeal Cert.MlpDownIdeal.Gen

variable (m : (ℓ : Loc nD τ sig) → Buf (Elt Ideal) ℓ)

/-- `Cert.MlpDownRefIdeal`'s main_v13 as its composed term over its arguments main_arg0, main_arg1, main_arg2, main_arg3. -/
abbrev REF (a0 : FVec Ideal Cert.MlpDownRefIdeal.S8192x1024 .f32) (a1 : FVec Ideal Cert.MlpDownRefIdeal.S1024x4096 .f32) (a2 : FVec Ideal Cert.MlpDownRefIdeal.S4096x1024 .f32) (a3 : FVec Ideal Cert.MlpDownRefIdeal.S8192x1024 .f32) : FVec Ideal Cert.MlpDownRefIdeal.S8192x4096 .bf16 :=
  truncf .bf16 (select (cmpf .ogt (Host.dotGeneral
    Cert.MlpDownRefIdeal.dot_S8192x1024_S1024x4096_S8192x4096_1_0_0_1_n_n none a0 a1) (broadcastInDim
    Cert.MlpDownRefIdeal.S8192x4096 ![] Cert.MlpDownRefIdeal.Gen.bcast_S_S8192x4096 (constant Cert.MlpDownRefIdeal.S_
    .f32 0x00000000#32))) (mulf (Host.dotGeneral Cert.MlpDownRefIdeal.dot_S8192x1024_S4096x1024_S8192x4096_1_1_0_0_n_n
    none a3 a2) (mulf (broadcastInDim Cert.MlpDownRefIdeal.S8192x4096 ![] Cert.MlpDownRefIdeal.Gen.bcast_S_S8192x4096
    (constant Cert.MlpDownRefIdeal.S_ .f32 0x40000000#32)) (maximumf (Host.dotGeneral
    Cert.MlpDownRefIdeal.dot_S8192x1024_S1024x4096_S8192x4096_1_0_0_1_n_n none a0 a1) (broadcastInDim
    Cert.MlpDownRefIdeal.S8192x4096 ![] Cert.MlpDownRefIdeal.Gen.bcast_S_S8192x4096 (constant Cert.MlpDownRefIdeal.S_
    .f32 0x00000000#32))))) (broadcastInDim Cert.MlpDownRefIdeal.S8192x4096 ![]
    Cert.MlpDownRefIdeal.Gen.bcast_S_S8192x4096 (constant Cert.MlpDownRefIdeal.S_ .f32 0x00000000#32)))
    Cert.MlpDownRefIdeal.Gen.bitsLt_bf16_f32

/-- every window's block index at every grid point, in closed form (decided). -/
theorem idx : ∀ t : Fin cfg0.N, win0_0.index t = ![(grid0.coords t 1).val, 0]
    ∧ win0_1.index t = ![(grid0.coords t 0).val, 0]
    ∧ win0_2.index t = ![(grid0.coords t 1).val, (grid0.coords t 0).val]
    ∧ win0_3.index t = ![(grid0.coords t 1).val, (grid0.coords t 0).val] :=
  (by decide +kernel : ∀ t : Fin grid0.N, _)

/-- the same in `t.val` (for `omega` beside a schedule fact `t.val % J = r`). -/
theorem idx_val : ∀ t : Fin cfg0.N, win0_0.index t = ![t.val % 8, 0]
    ∧ win0_1.index t = ![t.val / 8, 0]
    ∧ win0_2.index t = ![t.val % 8, t.val / 8]
    ∧ win0_3.index t = ![t.val % 8, t.val / 8] :=
  (by decide +kernel : ∀ t : Fin grid0.N, _)

/-! What the host prepares before the kernel, an operation at a time. -/

abbrev h_v0 (a0 : FVec Ideal S8192x1024 .f32) (a1 : FVec Ideal S1024x4096 .f32) (a2 : FVec Ideal S4096x1024 .f32) (a3 : FVec Ideal S8192x1024 .f32) : FVec Ideal S8192x1024 .bf16 :=
  truncf .bf16 a0 bitsLt_bf16_f32

abbrev h_v1 (a0 : FVec Ideal S8192x1024 .f32) (a1 : FVec Ideal S1024x4096 .f32) (a2 : FVec Ideal S4096x1024 .f32) (a3 : FVec Ideal S8192x1024 .f32) : FVec Ideal S1024x4096 .bf16 :=
  truncf .bf16 a1 bitsLt_bf16_f32

abbrev h_v2 (a0 : FVec Ideal S8192x1024 .f32) (a1 : FVec Ideal S1024x4096 .f32) (a2 : FVec Ideal S4096x1024 .f32) (a3 : FVec Ideal S8192x1024 .f32) : FVec Ideal S8192x4096 .f32 :=
  Host.dotGeneral dot_S8192x1024_S1024x4096_S8192x4096_1_0_0_1_n_n none (h_v0 a0 a1 a2 a3) (h_v1 a0 a1 a2 a3)

abbrev h_cst (a0 : FVec Ideal S8192x1024 .f32) (a1 : FVec Ideal S1024x4096 .f32) (a2 : FVec Ideal S4096x1024 .f32) (a3 : FVec Ideal S8192x1024 .f32) : FVec Ideal S_ .f32 :=
  (constant S_ .f32 0x00000000#32)

abbrev h_v3 (a0 : FVec Ideal S8192x1024 .f32) (a1 : FVec Ideal S1024x4096 .f32) (a2 : FVec Ideal S4096x1024 .f32) (a3 : FVec Ideal S8192x1024 .f32) : FVec Ideal S8192x4096 .f32 :=
  broadcastInDim S8192x4096 ![] bcast_S_S8192x4096 (h_cst a0 a1 a2 a3)

abbrev h_v4 (a0 : FVec Ideal S8192x1024 .f32) (a1 : FVec Ideal S1024x4096 .f32) (a2 : FVec Ideal S4096x1024 .f32) (a3 : FVec Ideal S8192x1024 .f32) : FVec Ideal S8192x4096 .f32 :=
  maximumf (h_v2 a0 a1 a2 a3) (h_v3 a0 a1 a2 a3)

abbrev h_v5 (a0 : FVec Ideal S8192x1024 .f32) (a1 : FVec Ideal S1024x4096 .f32) (a2 : FVec Ideal S4096x1024 .f32) (a3 : FVec Ideal S8192x1024 .f32) : FVec Ideal S8192x4096 .bf16 :=
  truncf .bf16 (h_v4 a0 a1 a2 a3) bitsLt_bf16_f32

abbrev h_v6 (a0 : FVec Ideal S8192x1024 .f32) (a1 : FVec Ideal S1024x4096 .f32) (a2 : FVec Ideal S4096x1024 .f32) (a3 : FVec Ideal S8192x1024 .f32) : FVec Ideal S8192x1024 .bf16 :=
  truncf .bf16 a3 bitsLt_bf16_f32

abbrev h_v7 (a0 : FVec Ideal S8192x1024 .f32) (a1 : FVec Ideal S1024x4096 .f32) (a2 : FVec Ideal S4096x1024 .f32) (a3 : FVec Ideal S8192x1024 .f32) : FVec Ideal S4096x1024 .bf16 :=
  truncf .bf16 a2 bitsLt_bf16_f32

/-- The contents of `main_v6`, window 0's array, when the kernel's region begins. -/
theorem entry_v6 (c : Dev nD) : @Eq (FVec Ideal S8192x1024 .bf16) (V m c main_v6) (h_v6 (m ((c : Thread nD τ).loc main_arg0)) (m ((c : Thread nD τ).loc main_arg1)) (m ((c : Thread nD τ).loc main_arg2)) (m ((c : Thread nD τ).loc main_arg3))) := by
  entry_read
  try rfl

/-- The contents of `main_v7`, window 1's array, when the kernel's region begins. -/
theorem entry_v7 (c : Dev nD) : @Eq (FVec Ideal S4096x1024 .bf16) (V m c main_v7) (h_v7 (m ((c : Thread nD τ).loc main_arg0)) (m ((c : Thread nD τ).loc main_arg1)) (m ((c : Thread nD τ).loc main_arg2)) (m ((c : Thread nD τ).loc main_arg3))) := by
  entry_read
  try rfl

/-- The contents of `main_v5`, window 2's array, when the kernel's region begins. -/
theorem entry_v5 (c : Dev nD) : @Eq (FVec Ideal S8192x4096 .bf16) (V m c main_v5) (h_v5 (m ((c : Thread nD τ).loc main_arg0)) (m ((c : Thread nD τ).loc main_arg1)) (m ((c : Thread nD τ).loc main_arg2)) (m ((c : Thread nD τ).loc main_arg3))) := by
  entry_read
  try rfl

/-- POINT: what the body stores at block index `y` of point `t` is the reference at the array index `y` sits at. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (m ((c : Thread nD τ).loc
        main_arg2)) (m ((c : Thread nD τ).loc main_arg3)) (((cfg0.win 3).blk t).view.emb y) := by
  pointwise [k0_pay1, REF]
  blk_simp [iblk]
  rw [entry_v6 m c, entry_v7 m c, entry_v5 m c]
  pointwise [h_v0, h_v1, h_v2, h_cst, h_v3, h_v4, h_v5, h_v6, h_v7]
  rw [Cert.Common.relu_gate]
  blk_point [V, idx_val t]

/-- BRIDGE: the result array after the run (complete: the blocks tile the array, decided). -/
theorem final (c : Dev nD) : (dats m 0 c).arrAt 3 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp; rw [after0_3]; frame_out
  exact point m c t y

end Cert.MlpDownValue

end
-- ==== Proof.MlpDwTwo.lean ====
/- The value of `Cert.MlpDwTwoIdeal`. -/
module

public import proofs.«01_k».proof.Proof.Gen.MlpDwTwoIdeal
public import proofs.«01_k».proof.Proof.Gen.MlpDwTwoIdeal.Frame
public import proofs.«01_k».proof.Proof.Gen.MlpDwTwoRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MlpDwTwoValue

open Cert.MlpDwTwoIdeal Cert.MlpDwTwoIdeal.Gen

variable (m : (ℓ : Loc nD τ sig) → Buf (Elt Ideal) ℓ)

/-- `Cert.MlpDwTwoRefIdeal`'s main_v6 as its composed term over its arguments main_arg0, main_arg1, main_arg3. -/
abbrev REF (a0 : FVec Ideal Cert.MlpDwTwoRefIdeal.S8192x1024 .f32) (a1 : FVec Ideal Cert.MlpDwTwoRefIdeal.S1024x4096 .f32) (a3 : FVec Ideal Cert.MlpDwTwoRefIdeal.S8192x1024 .f32) : FVec Ideal Cert.MlpDwTwoRefIdeal.S4096x1024 .bf16 :=
  truncf .bf16 (transpose Cert.MlpDwTwoRefIdeal.S4096x1024 [1, 0] (Host.dotGeneral
    Cert.MlpDwTwoRefIdeal.dot_S8192x1024_S8192x4096_S1024x4096_0_0_1_1_n_n none a3 (mulf (maximumf (Host.dotGeneral
    Cert.MlpDwTwoRefIdeal.dot_S8192x1024_S1024x4096_S8192x4096_1_0_0_1_n_n none a0 a1) (broadcastInDim
    Cert.MlpDwTwoRefIdeal.S8192x4096 ![] Cert.MlpDwTwoRefIdeal.Gen.bcast_S_S8192x4096 (constant Cert.MlpDwTwoRefIdeal.S_
    .f32 0x00000000#32))) (maximumf (Host.dotGeneral
    Cert.MlpDwTwoRefIdeal.dot_S8192x1024_S1024x4096_S8192x4096_1_0_0_1_n_n none a0 a1) (broadcastInDim
    Cert.MlpDwTwoRefIdeal.S8192x4096 ![] Cert.MlpDwTwoRefIdeal.Gen.bcast_S_S8192x4096 (constant Cert.MlpDwTwoRefIdeal.S_
    .f32 0x00000000#32))))) Cert.MlpDwTwoRefIdeal.Gen.transposes_S1024x4096_S4096x1024_1_0)
    Cert.MlpDwTwoRefIdeal.Gen.bitsLt_bf16_f32

/-- every window's block index at every grid point, in closed form (decided). -/
theorem idx : ∀ t : Fin cfg0.N, win0_0.index t = ![0, (grid0.coords t 1).val]
    ∧ win0_1.index t = ![0, (grid0.coords t 0).val]
    ∧ win0_2.index t = ![(grid0.coords t 1).val, (grid0.coords t 0).val] :=
  (by decide +kernel : ∀ t : Fin grid0.N, _)

/-- the same in `t.val` (for `omega` beside a schedule fact `t.val % J = r`). -/
theorem idx_val : ∀ t : Fin cfg0.N, win0_0.index t = ![0, t.val % 8]
    ∧ win0_1.index t = ![0, t.val / 8]
    ∧ win0_2.index t = ![t.val % 8, t.val / 8] :=
  (by decide +kernel : ∀ t : Fin grid0.N, _)

/-! What the host prepares before the kernel, an operation at a time. -/

abbrev h_v0 (a0 : FVec Ideal S8192x1024 .f32) (a1 : FVec Ideal S1024x4096 .f32) (a2 : FVec Ideal S4096x1024 .f32) (a3 : FVec Ideal S8192x1024 .f32) : FVec Ideal S8192x1024 .bf16 :=
  truncf .bf16 a0 bitsLt_bf16_f32

abbrev h_v1 (a0 : FVec Ideal S8192x1024 .f32) (a1 : FVec Ideal S1024x4096 .f32) (a2 : FVec Ideal S4096x1024 .f32) (a3 : FVec Ideal S8192x1024 .f32) : FVec Ideal S1024x4096 .bf16 :=
  truncf .bf16 a1 bitsLt_bf16_f32

abbrev h_v2 (a0 : FVec Ideal S8192x1024 .f32) (a1 : FVec Ideal S1024x4096 .f32) (a2 : FVec Ideal S4096x1024 .f32) (a3 : FVec Ideal S8192x1024 .f32) : FVec Ideal S8192x4096 .f32 :=
  Host.dotGeneral dot_S8192x1024_S1024x4096_S8192x4096_1_0_0_1_n_n none (h_v0 a0 a1 a2 a3) (h_v1 a0 a1 a2 a3)

abbrev h_cst (a0 : FVec Ideal S8192x1024 .f32) (a1 : FVec Ideal S1024x4096 .f32) (a2 : FVec Ideal S4096x1024 .f32) (a3 : FVec Ideal S8192x1024 .f32) : FVec Ideal S_ .f32 :=
  (constant S_ .f32 0x00000000#32)

abbrev h_v3 (a0 : FVec Ideal S8192x1024 .f32) (a1 : FVec Ideal S1024x4096 .f32) (a2 : FVec Ideal S4096x1024 .f32) (a3 : FVec Ideal S8192x1024 .f32) : FVec Ideal S8192x4096 .f32 :=
  broadcastInDim S8192x4096 ![] bcast_S_S8192x4096 (h_cst a0 a1 a2 a3)

abbrev h_v4 (a0 : FVec Ideal S8192x1024 .f32) (a1 : FVec Ideal S1024x4096 .f32) (a2 : FVec Ideal S4096x1024 .f32) (a3 : FVec Ideal S8192x1024 .f32) : FVec Ideal S8192x4096 .f32 :=
  maximumf (h_v2 a0 a1 a2 a3) (h_v3 a0 a1 a2 a3)

abbrev h_v5 (a0 : FVec Ideal S8192x1024 .f32) (a1 : FVec Ideal S1024x4096 .f32) (a2 : FVec Ideal S4096x1024 .f32) (a3 : FVec Ideal S8192x1024 .f32) : FVec Ideal S8192x4096 .bf16 :=
  truncf .bf16 (h_v4 a0 a1 a2 a3) bitsLt_bf16_f32

abbrev h_v6 (a0 : FVec Ideal S8192x1024 .f32) (a1 : FVec Ideal S1024x4096 .f32) (a2 : FVec Ideal S4096x1024 .f32) (a3 : FVec Ideal S8192x1024 .f32) : FVec Ideal S8192x1024 .bf16 :=
  truncf .bf16 a3 bitsLt_bf16_f32

/-- The contents of `main_v5`, window 0's array, when the kernel's region begins. -/
theorem entry_v5 (c : Dev nD) : @Eq (FVec Ideal S8192x4096 .bf16) (V m c main_v5) (h_v5 (m ((c : Thread nD τ).loc main_arg0)) (m ((c : Thread nD τ).loc main_arg1)) (m ((c : Thread nD τ).loc main_arg2)) (m ((c : Thread nD τ).loc main_arg3))) := by
  entry_read
  try rfl

/-- The contents of `main_v6`, window 1's array, when the kernel's region begins. -/
theorem entry_v6 (c : Dev nD) : @Eq (FVec Ideal S8192x1024 .bf16) (V m c main_v6) (h_v6 (m ((c : Thread nD τ).loc main_arg0)) (m ((c : Thread nD τ).loc main_arg1)) (m ((c : Thread nD τ).loc main_arg2)) (m ((c : Thread nD τ).loc main_arg3))) := by
  entry_read
  try rfl

/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg1)) (m ((c : Thread nD τ).loc
        main_arg3)) (((cfg0.win 2).blk t).view.emb y) := by
  pointwise [k0_pay1, REF]
  blk_simp [iblk]
  rw [entry_v5 m c, entry_v6 m c]
  pointwise [h_v0, h_v1, h_v2, h_cst, h_v3, h_v4, h_v5, h_v6]
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg1)) (m ((c : Thread nD τ).loc main_arg3)) := by
  refine (dats m 0 c).arrAt_eq_of_covers 2 _ (by decide +kernel) fun t hf y => ?_
  blk_simp; rw [after0_2]; frame_out
  exact point m c t y

end Cert.MlpDwTwoValue

end
-- ==== Proof.MlpDwOne.lean ====
/- The value of `Cert.MlpDwOneIdeal`. -/
module

public import proofs.«01_k».proof.Proof.Gen.MlpDwOneIdeal
public import proofs.«01_k».proof.Proof.Gen.MlpDwOneIdeal.Frame
public import proofs.«01_k».proof.Proof.Gen.MlpDwOneRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MlpDwOneValue

open Cert.MlpDwOneIdeal Cert.MlpDwOneIdeal.Gen

variable (m : (ℓ : Loc nD τ sig) → Buf (Elt Ideal) ℓ)

/-- `Cert.MlpDwOneRefIdeal`'s main_v17 as its composed term over its arguments main_arg0, main_arg1, main_arg2, main_arg3. -/
abbrev REF (a0 : FVec Ideal Cert.MlpDwOneRefIdeal.S8192x1024 .f32) (a1 : FVec Ideal Cert.MlpDwOneRefIdeal.S1024x4096 .f32) (a2 : FVec Ideal Cert.MlpDwOneRefIdeal.S4096x1024 .f32) (a3 : FVec Ideal Cert.MlpDwOneRefIdeal.S8192x1024 .f32) : FVec Ideal Cert.MlpDwOneRefIdeal.S8x1024x512 .bf16 :=
  transpose Cert.MlpDwOneRefIdeal.S8x1024x512 [1, 0, 2] (shapeCast _ (truncf .bf16 (transpose
    Cert.MlpDwOneRefIdeal.S1024x4096 [1, 0] (Host.dotGeneral
    Cert.MlpDwOneRefIdeal.dot_S8192x4096_S8192x1024_S4096x1024_0_0_1_1_n_n none (select (cmpf .ogt (Host.dotGeneral
    Cert.MlpDwOneRefIdeal.dot_S8192x1024_S1024x4096_S8192x4096_1_0_0_1_n_n none a0 a1) (broadcastInDim
    Cert.MlpDwOneRefIdeal.S8192x4096 ![] Cert.MlpDwOneRefIdeal.Gen.bcast_S_S8192x4096 (constant Cert.MlpDwOneRefIdeal.S_
    .f32 0x00000000#32))) (mulf (Host.dotGeneral Cert.MlpDwOneRefIdeal.dot_S8192x1024_S4096x1024_S8192x4096_1_1_0_0_n_n
    none a3 a2) (mulf (broadcastInDim Cert.MlpDwOneRefIdeal.S8192x4096 ![] Cert.MlpDwOneRefIdeal.Gen.bcast_S_S8192x4096
    (constant Cert.MlpDwOneRefIdeal.S_ .f32 0x40000000#32)) (maximumf (Host.dotGeneral
    Cert.MlpDwOneRefIdeal.dot_S8192x1024_S1024x4096_S8192x4096_1_0_0_1_n_n none a0 a1) (broadcastInDim
    Cert.MlpDwOneRefIdeal.S8192x4096 ![] Cert.MlpDwOneRefIdeal.Gen.bcast_S_S8192x4096 (constant Cert.MlpDwOneRefIdeal.S_
    .f32 0x00000000#32))))) (broadcastInDim Cert.MlpDwOneRefIdeal.S8192x4096 ![]
    Cert.MlpDwOneRefIdeal.Gen.bcast_S_S8192x4096 (constant Cert.MlpDwOneRefIdeal.S_ .f32 0x00000000#32))) a0)
    Cert.MlpDwOneRefIdeal.Gen.transposes_S4096x1024_S1024x4096_1_0) Cert.MlpDwOneRefIdeal.Gen.bitsLt_bf16_f32)
    Cert.MlpDwOneRefIdeal.Gen.shapeCasts_S1024x4096_S1024x8x512)
    Cert.MlpDwOneRefIdeal.Gen.transposes_S1024x8x512_S8x1024x512_1_0_2

/-- every window's block index at every grid point, in closed form (decided). -/
theorem idx : ∀ t : Fin cfg0.N, win0_0.index t = ![0, (grid0.coords t 1).val]
    ∧ win0_1.index t = ![0, (grid0.coords t 0).val]
    ∧ win0_2.index t = ![(grid0.coords t 0).val, (grid0.coords t 1).val, 0] :=
  (by decide +kernel : ∀ t : Fin grid0.N, _)

/-- the same in `t.val` (for `omega` beside a schedule fact `t.val % J = r`). -/
theorem idx_val : ∀ t : Fin cfg0.N, win0_0.index t = ![0, t.val % 2]
    ∧ win0_1.index t = ![0, t.val / 2]
    ∧ win0_2.index t = ![t.val / 2, t.val % 2, 0] :=
  (by decide +kernel : ∀ t : Fin grid0.N, _)

/-! What the host prepares before the kernel, an operation at a time. -/

abbrev h_v0 (a0 : FVec Ideal S8192x1024 .f32) (a1 : FVec Ideal S1024x4096 .f32) (a2 : FVec Ideal S4096x1024 .f32) (a3 : FVec Ideal S8192x1024 .f32) : FVec Ideal S8192x1024 .bf16 :=
  truncf .bf16 a0 bitsLt_bf16_f32

abbrev h_v1 (a0 : FVec Ideal S8192x1024 .f32) (a1 : FVec Ideal S1024x4096 .f32) (a2 : FVec Ideal S4096x1024 .f32) (a3 : FVec Ideal S8192x1024 .f32) : FVec Ideal S1024x4096 .bf16 :=
  truncf .bf16 a1 bitsLt_bf16_f32

abbrev h_v2 (a0 : FVec Ideal S8192x1024 .f32) (a1 : FVec Ideal S1024x4096 .f32) (a2 : FVec Ideal S4096x1024 .f32) (a3 : FVec Ideal S8192x1024 .f32) : FVec Ideal S8192x4096 .f32 :=
  Host.dotGeneral dot_S8192x1024_S1024x4096_S8192x4096_1_0_0_1_n_n none (h_v0 a0 a1 a2 a3) (h_v1 a0 a1 a2 a3)

abbrev h_cst (a0 : FVec Ideal S8192x1024 .f32) (a1 : FVec Ideal S1024x4096 .f32) (a2 : FVec Ideal S4096x1024 .f32) (a3 : FVec Ideal S8192x1024 .f32) : FVec Ideal S_ .f32 :=
  (constant S_ .f32 0x00000000#32)

abbrev h_v3 (a0 : FVec Ideal S8192x1024 .f32) (a1 : FVec Ideal S1024x4096 .f32) (a2 : FVec Ideal S4096x1024 .f32) (a3 : FVec Ideal S8192x1024 .f32) : FVec Ideal S8192x4096 .f32 :=
  broadcastInDim S8192x4096 ![] bcast_S_S8192x4096 (h_cst a0 a1 a2 a3)

abbrev h_v4 (a0 : FVec Ideal S8192x1024 .f32) (a1 : FVec Ideal S1024x4096 .f32) (a2 : FVec Ideal S4096x1024 .f32) (a3 : FVec Ideal S8192x1024 .f32) : FVec Ideal S8192x4096 .f32 :=
  maximumf (h_v2 a0 a1 a2 a3) (h_v3 a0 a1 a2 a3)

abbrev h_v5 (a0 : FVec Ideal S8192x1024 .f32) (a1 : FVec Ideal S1024x4096 .f32) (a2 : FVec Ideal S4096x1024 .f32) (a3 : FVec Ideal S8192x1024 .f32) : FVec Ideal S8192x4096 .bf16 :=
  truncf .bf16 (h_v4 a0 a1 a2 a3) bitsLt_bf16_f32

abbrev h_v6 (a0 : FVec Ideal S8192x1024 .f32) (a1 : FVec Ideal S1024x4096 .f32) (a2 : FVec Ideal S4096x1024 .f32) (a3 : FVec Ideal S8192x1024 .f32) : FVec Ideal S1024x4096 .f32 :=
  transpose S1024x4096 [1, 0] a2 transposes_S4096x1024_S1024x4096_1_0

abbrev h_v7 (a0 : FVec Ideal S8192x1024 .f32) (a1 : FVec Ideal S1024x4096 .f32) (a2 : FVec Ideal S4096x1024 .f32) (a3 : FVec Ideal S8192x1024 .f32) : FVec Ideal S8192x1024 .bf16 :=
  truncf .bf16 a3 bitsLt_bf16_f32

abbrev h_v8 (a0 : FVec Ideal S8192x1024 .f32) (a1 : FVec Ideal S1024x4096 .f32) (a2 : FVec Ideal S4096x1024 .f32) (a3 : FVec Ideal S8192x1024 .f32) : FVec Ideal S1024x4096 .bf16 :=
  truncf .bf16 (h_v6 a0 a1 a2 a3) bitsLt_bf16_f32

abbrev h_v9 (a0 : FVec Ideal S8192x1024 .f32) (a1 : FVec Ideal S1024x4096 .f32) (a2 : FVec Ideal S4096x1024 .f32) (a3 : FVec Ideal S8192x1024 .f32) : FVec Ideal S8192x4096 .f32 :=
  Host.dotGeneral dot_S8192x1024_S1024x4096_S8192x4096_1_0_0_1_n_n none (h_v7 a0 a1 a2 a3) (h_v8 a0 a1 a2 a3)

abbrev h_v10 (a0 : FVec Ideal S8192x1024 .f32) (a1 : FVec Ideal S1024x4096 .f32) (a2 : FVec Ideal S4096x1024 .f32) (a3 : FVec Ideal S8192x1024 .f32) : FVec Ideal S8192x4096 .f32 :=
  extf .f32 (h_v5 a0 a1 a2 a3) bitsLt_bf16_f32

abbrev h_cst_0 (a0 : FVec Ideal S8192x1024 .f32) (a1 : FVec Ideal S1024x4096 .f32) (a2 : FVec Ideal S4096x1024 .f32) (a3 : FVec Ideal S8192x1024 .f32) : FVec Ideal S_ .f32 :=
  (constant S_ .f32 0x40000000#32)

abbrev h_v11 (a0 : FVec Ideal S8192x1024 .f32) (a1 : FVec Ideal S1024x4096 .f32) (a2 : FVec Ideal S4096x1024 .f32) (a3 : FVec Ideal S8192x1024 .f32) : FVec Ideal S8192x4096 .f32 :=
  broadcastInDim S8192x4096 ![] bcast_S_S8192x4096 (h_cst_0 a0 a1 a2 a3)

abbrev h_v12 (a0 : FVec Ideal S8192x1024 .f32) (a1 : FVec Ideal S1024x4096 .f32) (a2 : FVec Ideal S4096x1024 .f32) (a3 : FVec Ideal S8192x1024 .f32) : FVec Ideal S8192x4096 .f32 :=
  mulf (h_v11 a0 a1 a2 a3) (h_v10 a0 a1 a2 a3)

abbrev h_v13 (a0 : FVec Ideal S8192x1024 .f32) (a1 : FVec Ideal S1024x4096 .f32) (a2 : FVec Ideal S4096x1024 .f32) (a3 : FVec Ideal S8192x1024 .f32) : FVec Ideal S8192x4096 .f32 :=
  mulf (h_v9 a0 a1 a2 a3) (h_v12 a0 a1 a2 a3)

abbrev h_v14 (a0 : FVec Ideal S8192x1024 .f32) (a1 : FVec Ideal S1024x4096 .f32) (a2 : FVec Ideal S4096x1024 .f32) (a3 : FVec Ideal S8192x1024 .f32) : FVec Ideal S8192x4096 .bf16 :=
  truncf .bf16 (h_v13 a0 a1 a2 a3) bitsLt_bf16_f32

abbrev h_v15 (a0 : FVec Ideal S8192x1024 .f32) (a1 : FVec Ideal S1024x4096 .f32) (a2 : FVec Ideal S4096x1024 .f32) (a3 : FVec Ideal S8192x1024 .f32) : FVec Ideal S8192x1024 .bf16 :=
  truncf .bf16 a0 bitsLt_bf16_f32

/-- The contents of `main_v15`, window 0's array, when the kernel's region begins. -/
theorem entry_v15 (c : Dev nD) : @Eq (FVec Ideal S8192x1024 .bf16) (V m c main_v15) (h_v15 (m ((c : Thread nD τ).loc main_arg0)) (m ((c : Thread nD τ).loc main_arg1)) (m ((c : Thread nD τ).loc main_arg2)) (m ((c : Thread nD τ).loc main_arg3))) := by
  entry_read
  try rfl

/-- The contents of `main_v14`, window 1's array, when the kernel's region begins. -/
theorem entry_v14 (c : Dev nD) : @Eq (FVec Ideal S8192x4096 .bf16) (V m c main_v14) (h_v14 (m ((c : Thread nD τ).loc main_arg0)) (m ((c : Thread nD τ).loc main_arg1)) (m ((c : Thread nD τ).loc main_arg2)) (m ((c : Thread nD τ).loc main_arg3))) := by
  entry_read
  try rfl

set_option maxHeartbeats 1600000 in
/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg1)) (m ((c : Thread nD τ).loc
        main_arg2)) (m ((c : Thread nD τ).loc main_arg3)) (((cfg0.win 2).blk t).view.emb y) := by
  generalize hj : (((cfg0.win 2).blk t).view.emb y) = j
  pointwise [k0_pay1, REF]
  blk_simp [iblk]
  rw [entry_v15 m c, entry_v14 m c]
  pointwise [h_v0, h_v1, h_v2, h_cst, h_v3, h_v4, h_v5, h_v6, h_v7, h_v8, h_v9, h_v10, h_cst_0, h_v11, h_v12, h_v13, h_v14, h_v15]
  subst hj
  simp only [Cert.Common.relu_gate]
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t hf y => ?_
  blk_simp; rw [after0_2]; frame_out
  exact point m c t y

end Cert.MlpDwOneValue

end
-- ==== Proof.PleDwG.lean ====
/- The value of `Cert.PleDwGIdeal`. -/
module

public import proofs.«01_k».proof.Proof.Gen.PleDwGIdeal
public import proofs.«01_k».proof.Proof.Gen.PleDwGIdeal.Frame
public import proofs.«01_k».proof.Proof.Gen.PleDwGRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.PleDwGValue

open Cert.PleDwGIdeal Cert.PleDwGIdeal.Gen

variable (m : (ℓ : Loc nD τ sig) → Buf (Elt Ideal) ℓ)

/-- `Cert.PleDwGRefIdeal`'s main_v19 as its composed term over its arguments main_arg0, main_arg1, main_arg2, main_arg3, main_arg4, main_arg5. -/
abbrev REF (a0 : FVec Ideal Cert.PleDwGRefIdeal.S8192x1024 .f32) (a1 : FVec Ideal Cert.PleDwGRefIdeal.S8192x256 .f32) (a2 : FVec Ideal Cert.PleDwGRefIdeal.S1024x1024 .f32) (a3 : FVec Ideal Cert.PleDwGRefIdeal.S1024 .f32) (a4 : FVec Ideal Cert.PleDwGRefIdeal.S256x1024 .f32) (a5 : FVec Ideal Cert.PleDwGRefIdeal.S8192x1024 .f32) : FVec Ideal Cert.PleDwGRefIdeal.S1024x1024 .bf16 :=
  truncf .bf16 (transpose Cert.PleDwGRefIdeal.S1024x1024 [1, 0] (Host.dotGeneral
    Cert.PleDwGRefIdeal.dot_S8192x1024_S8192x1024_S1024x1024_0_0_1_1_n_n none (mulf (mulf a5 (Host.dotGeneral
    Cert.PleDwGRefIdeal.dot_S8192x256_S256x1024_S8192x1024_1_0_0_1_n_n none a1 a4)) (mulf (Host.divf (broadcastInDim
    Cert.PleDwGRefIdeal.S8192x1024 ![] Cert.PleDwGRefIdeal.Gen.bcast_S_S8192x1024 (constant Cert.PleDwGRefIdeal.S_ .f32
    0x3F800000#32)) (addf (broadcastInDim Cert.PleDwGRefIdeal.S8192x1024 ![] Cert.PleDwGRefIdeal.Gen.bcast_S_S8192x1024
    (constant Cert.PleDwGRefIdeal.S_ .f32 0x3F800000#32)) (Host.exp (Host.negf (addf (Host.dotGeneral
    Cert.PleDwGRefIdeal.dot_S8192x1024_S1024x1024_S8192x1024_1_0_0_1_n_n none a0 a2) (broadcastInDim
    Cert.PleDwGRefIdeal.S8192x1024 ![0, 1] Cert.PleDwGRefIdeal.Gen.bcast_S1x1024_S8192x1024_0_1 (broadcastInDim
    Cert.PleDwGRefIdeal.S1x1024 ![1] Cert.PleDwGRefIdeal.Gen.bcast_S1024_S1x1024_1 a3))))))) (subf (broadcastInDim
    Cert.PleDwGRefIdeal.S8192x1024 ![] Cert.PleDwGRefIdeal.Gen.bcast_S_S8192x1024 (constant Cert.PleDwGRefIdeal.S_ .f32
    0x3F800000#32)) (Host.divf (broadcastInDim Cert.PleDwGRefIdeal.S8192x1024 ![]
    Cert.PleDwGRefIdeal.Gen.bcast_S_S8192x1024 (constant Cert.PleDwGRefIdeal.S_ .f32 0x3F800000#32)) (addf
    (broadcastInDim Cert.PleDwGRefIdeal.S8192x1024 ![] Cert.PleDwGRefIdeal.Gen.bcast_S_S8192x1024 (constant
    Cert.PleDwGRefIdeal.S_ .f32 0x3F800000#32)) (Host.exp (Host.negf (addf (Host.dotGeneral
    Cert.PleDwGRefIdeal.dot_S8192x1024_S1024x1024_S8192x1024_1_0_0_1_n_n none a0 a2) (broadcastInDim
    Cert.PleDwGRefIdeal.S8192x1024 ![0, 1] Cert.PleDwGRefIdeal.Gen.bcast_S1x1024_S8192x1024_0_1 (broadcastInDim
    Cert.PleDwGRefIdeal.S1x1024 ![1] Cert.PleDwGRefIdeal.Gen.bcast_S1024_S1x1024_1 a3)))))))))) a0)
    Cert.PleDwGRefIdeal.Gen.transposes_S1024x1024_S1024x1024_1_0) Cert.PleDwGRefIdeal.Gen.bitsLt_bf16_f32

/-- every window's block index at every grid point, in closed form (decided). -/
theorem idx : ∀ t : Fin cfg0.N, win0_0.index t = ![0, (grid0.coords t 1).val]
    ∧ win0_1.index t = ![0, (grid0.coords t 0).val]
    ∧ win0_2.index t = ![(grid0.coords t 1).val, (grid0.coords t 0).val] :=
  (by decide +kernel : ∀ t : Fin grid0.N, _)

/-- the same in `t.val` (for `omega` beside a schedule fact `t.val % J = r`). -/
theorem idx_val : ∀ t : Fin cfg0.N, win0_0.index t = ![0, t.val % 2]
    ∧ win0_1.index t = ![0, t.val / 2]
    ∧ win0_2.index t = ![t.val % 2, t.val / 2] :=
  (by decide +kernel : ∀ t : Fin grid0.N, _)

/-! What the host prepares before the kernel, an operation at a time. -/

abbrev h_v0 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .bf16 :=
  truncf .bf16 a0 bitsLt_bf16_f32

abbrev h_v1 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S1024x1024 .bf16 :=
  truncf .bf16 a2 bitsLt_bf16_f32

abbrev h_v2 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.dotGeneral dot_S8192x1024_S1024x1024_S8192x1024_1_0_0_1_n_n none (h_v0 a0 a1 a2 a3 a4 a5) (h_v1 a0 a1 a2 a3 a4 a5)

abbrev h_v3 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S1x1024 .f32 :=
  broadcastInDim S1x1024 ![1] bcast_S1024_S1x1024_1 a3

abbrev h_v4 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  broadcastInDim S8192x1024 ![0, 1] bcast_S1x1024_S8192x1024_0_1 (h_v3 a0 a1 a2 a3 a4 a5)

abbrev h_v5 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  addf (h_v2 a0 a1 a2 a3 a4 a5) (h_v4 a0 a1 a2 a3 a4 a5)

abbrev h_v6 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.negf (h_v5 a0 a1 a2 a3 a4 a5)

abbrev h_v7 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.exp (h_v6 a0 a1 a2 a3 a4 a5)

abbrev h_cst (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S_ .f32 :=
  (constant S_ .f32 0x3F800000#32)

abbrev h_v8 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  broadcastInDim S8192x1024 ![] bcast_S_S8192x1024 (h_cst a0 a1 a2 a3 a4 a5)

abbrev h_v9 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  addf (h_v8 a0 a1 a2 a3 a4 a5) (h_v7 a0 a1 a2 a3 a4 a5)

abbrev h_cst_0 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S_ .f32 :=
  (constant S_ .f32 0x3F800000#32)

abbrev h_v10 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  broadcastInDim S8192x1024 ![] bcast_S_S8192x1024 (h_cst_0 a0 a1 a2 a3 a4 a5)

abbrev h_v11 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.divf (h_v10 a0 a1 a2 a3 a4 a5) (h_v9 a0 a1 a2 a3 a4 a5)

abbrev h_v12 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x256 .bf16 :=
  truncf .bf16 a1 bitsLt_bf16_f32

abbrev h_v13 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S256x1024 .bf16 :=
  truncf .bf16 a4 bitsLt_bf16_f32

abbrev h_v14 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.dotGeneral dot_S8192x256_S256x1024_S8192x1024_1_0_0_1_n_n none (h_v12 a0 a1 a2 a3 a4 a5) (h_v13 a0 a1 a2 a3 a4 a5)

abbrev h_v15 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  mulf a5 (h_v14 a0 a1 a2 a3 a4 a5)

abbrev h_v16 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  mulf (h_v15 a0 a1 a2 a3 a4 a5) (h_v11 a0 a1 a2 a3 a4 a5)

abbrev h_cst_1 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S_ .f32 :=
  (constant S_ .f32 0x3F800000#32)

abbrev h_v17 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  broadcastInDim S8192x1024 ![] bcast_S_S8192x1024 (h_cst_1 a0 a1 a2 a3 a4 a5)

abbrev h_v18 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  subf (h_v17 a0 a1 a2 a3 a4 a5) (h_v11 a0 a1 a2 a3 a4 a5)

abbrev h_v19 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  mulf (h_v16 a0 a1 a2 a3 a4 a5) (h_v18 a0 a1 a2 a3 a4 a5)

abbrev h_v20 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .bf16 :=
  truncf .bf16 (h_v19 a0 a1 a2 a3 a4 a5) bitsLt_bf16_f32

abbrev h_v21 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .bf16 :=
  truncf .bf16 a0 bitsLt_bf16_f32

/-- The contents of `main_v21`, window 0's array, when the kernel's region begins. -/
theorem entry_v21 (c : Dev nD) : @Eq (FVec Ideal S8192x1024 .bf16) (V m c main_v21) (h_v21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  entry_read
  try rfl

/-- The contents of `main_v20`, window 1's array, when the kernel's region begins. -/
theorem entry_v20 (c : Dev nD) : @Eq (FVec Ideal S8192x1024 .bf16) (V m c main_v20) (h_v20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  entry_read
  try rfl

/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (((cfg0.win 2).blk t).view.emb y) := by
  pointwise [k0_pay1, REF]
  blk_simp [iblk]
  rw [entry_v21 m c, entry_v20 m c]
  pointwise [h_v0, h_v1, h_v2, h_v3, h_v4, h_v5, h_v6, h_v7, h_cst, h_v8, h_v9, h_cst_0, h_v10, h_v11, h_v12, h_v13, h_v14, h_v15, h_v16, h_cst_1, h_v17, h_v18, h_v19, h_v20, h_v21]
  simp only [Cert.Common.gate_assoc]
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 2 _ (by decide +kernel) fun t hf y => ?_
  blk_simp; rw [after0_2]; frame_out
  exact point m c t y

end Cert.PleDwGValue

end
-- ==== Proof.PleDwP.lean ====
/- The value of `Cert.PleDwPIdeal`. -/
module

public import proofs.«01_k».proof.Proof.Gen.PleDwPIdeal
public import proofs.«01_k».proof.Proof.Gen.PleDwPIdeal.Frame
public import proofs.«01_k».proof.Proof.Gen.PleDwPRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.PleDwPValue

open Cert.PleDwPIdeal Cert.PleDwPIdeal.Gen

variable (m : (ℓ : Loc nD τ sig) → Buf (Elt Ideal) ℓ)

/-- `Cert.PleDwPRefIdeal`'s main_v17 as its composed term over its arguments main_arg0, main_arg1, main_arg2, main_arg3, main_arg5. -/
abbrev REF (a0 : FVec Ideal Cert.PleDwPRefIdeal.S8192x1024 .f32) (a1 : FVec Ideal Cert.PleDwPRefIdeal.S8192x256 .f32) (a2 : FVec Ideal Cert.PleDwPRefIdeal.S1024x1024 .f32) (a3 : FVec Ideal Cert.PleDwPRefIdeal.S1024 .f32) (a5 : FVec Ideal Cert.PleDwPRefIdeal.S8192x1024 .f32) : FVec Ideal Cert.PleDwPRefIdeal.S8x256x128 .bf16 :=
  transpose Cert.PleDwPRefIdeal.S8x256x128 [1, 0, 2] (shapeCast _ (truncf .bf16 (transpose
    Cert.PleDwPRefIdeal.S256x1024 [1, 0] (Host.dotGeneral
    Cert.PleDwPRefIdeal.dot_S8192x1024_S8192x256_S1024x256_0_0_1_1_n_n none (mulf (Host.divf (broadcastInDim
    Cert.PleDwPRefIdeal.S8192x1024 ![] Cert.PleDwPRefIdeal.Gen.bcast_S_S8192x1024 (constant Cert.PleDwPRefIdeal.S_ .f32
    0x3F800000#32)) (addf (broadcastInDim Cert.PleDwPRefIdeal.S8192x1024 ![] Cert.PleDwPRefIdeal.Gen.bcast_S_S8192x1024
    (constant Cert.PleDwPRefIdeal.S_ .f32 0x3F800000#32)) (Host.exp (Host.negf (addf (Host.dotGeneral
    Cert.PleDwPRefIdeal.dot_S8192x1024_S1024x1024_S8192x1024_1_0_0_1_n_n none a0 a2) (broadcastInDim
    Cert.PleDwPRefIdeal.S8192x1024 ![0, 1] Cert.PleDwPRefIdeal.Gen.bcast_S1x1024_S8192x1024_0_1 (broadcastInDim
    Cert.PleDwPRefIdeal.S1x1024 ![1] Cert.PleDwPRefIdeal.Gen.bcast_S1024_S1x1024_1 a3))))))) a5) a1)
    Cert.PleDwPRefIdeal.Gen.transposes_S1024x256_S256x1024_1_0) Cert.PleDwPRefIdeal.Gen.bitsLt_bf16_f32)
    Cert.PleDwPRefIdeal.Gen.shapeCasts_S256x1024_S256x8x128)
    Cert.PleDwPRefIdeal.Gen.transposes_S256x8x128_S8x256x128_1_0_2

/-- every window's block index at every grid point, in closed form (decided). -/
theorem idx : ∀ t : Fin cfg0.N, win0_0.index t = ![0, 0]
    ∧ win0_1.index t = ![0, (grid0.coords t 0).val]
    ∧ win0_2.index t = ![(grid0.coords t 0).val, 0, 0] :=
  (by decide +kernel : ∀ t : Fin grid0.N, _)

/-- the same in `t.val` (for `omega` beside a schedule fact `t.val % J = r`). -/
theorem idx_val : ∀ t : Fin cfg0.N, win0_0.index t = ![0, 0]
    ∧ win0_1.index t = ![0, t.val]
    ∧ win0_2.index t = ![t.val, 0, 0] :=
  (by decide +kernel : ∀ t : Fin grid0.N, _)

/-! What the host prepares before the kernel, an operation at a time. -/

abbrev h_v0 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .bf16 :=
  truncf .bf16 a0 bitsLt_bf16_f32

abbrev h_v1 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S1024x1024 .bf16 :=
  truncf .bf16 a2 bitsLt_bf16_f32

abbrev h_v2 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.dotGeneral dot_S8192x1024_S1024x1024_S8192x1024_1_0_0_1_n_n none (h_v0 a0 a1 a2 a3 a4 a5) (h_v1 a0 a1 a2 a3 a4 a5)

abbrev h_v3 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S1x1024 .f32 :=
  broadcastInDim S1x1024 ![1] bcast_S1024_S1x1024_1 a3

abbrev h_v4 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  broadcastInDim S8192x1024 ![0, 1] bcast_S1x1024_S8192x1024_0_1 (h_v3 a0 a1 a2 a3 a4 a5)

abbrev h_v5 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  addf (h_v2 a0 a1 a2 a3 a4 a5) (h_v4 a0 a1 a2 a3 a4 a5)

abbrev h_v6 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.negf (h_v5 a0 a1 a2 a3 a4 a5)

abbrev h_v7 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.exp (h_v6 a0 a1 a2 a3 a4 a5)

abbrev h_cst (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S_ .f32 :=
  (constant S_ .f32 0x3F800000#32)

abbrev h_v8 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  broadcastInDim S8192x1024 ![] bcast_S_S8192x1024 (h_cst a0 a1 a2 a3 a4 a5)

abbrev h_v9 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  addf (h_v8 a0 a1 a2 a3 a4 a5) (h_v7 a0 a1 a2 a3 a4 a5)

abbrev h_cst_0 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S_ .f32 :=
  (constant S_ .f32 0x3F800000#32)

abbrev h_v10 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  broadcastInDim S8192x1024 ![] bcast_S_S8192x1024 (h_cst_0 a0 a1 a2 a3 a4 a5)

abbrev h_v11 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.divf (h_v10 a0 a1 a2 a3 a4 a5) (h_v9 a0 a1 a2 a3 a4 a5)

abbrev h_v12 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x256 .bf16 :=
  truncf .bf16 a1 bitsLt_bf16_f32

abbrev h_v13 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  mulf a5 (h_v11 a0 a1 a2 a3 a4 a5)

abbrev h_v14 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .bf16 :=
  truncf .bf16 (h_v13 a0 a1 a2 a3 a4 a5) bitsLt_bf16_f32

/-- The contents of `main_v12`, window 0's array, when the kernel's region begins. -/
theorem entry_v12 (c : Dev nD) : @Eq (FVec Ideal S8192x256 .bf16) (V m c main_v12) (h_v12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  entry_read
  try rfl

/-- The contents of `main_v14`, window 1's array, when the kernel's region begins. -/
theorem entry_v14 (c : Dev nD) : @Eq (FVec Ideal S8192x1024 .bf16) (V m c main_v14) (h_v14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  entry_read
  try rfl

set_option maxHeartbeats 1600000 in
/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg1)) (m ((c : Thread nD τ).loc
        main_arg2)) (m ((c : Thread nD τ).loc main_arg3)) (m ((c : Thread nD τ).loc main_arg5)) (((cfg0.win 2).blk
        t).view.emb y) := by
  generalize hj : (((cfg0.win 2).blk t).view.emb y) = j
  pointwise [k0_pay1, REF]
  blk_simp [iblk]
  rw [entry_v12 m c, entry_v14 m c]
  pointwise [h_v0, h_v1, h_v2, h_v3, h_v4, h_v5, h_v6, h_v7, h_cst, h_v8, h_v9, h_cst_0, h_v10, h_v11, h_v12, h_v13, h_v14]
  subst hj
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 2 _ (by decide +kernel) fun t hf y => ?_
  blk_simp; rw [after0_2]; frame_out
  exact point m c t y

end Cert.PleDwPValue

end
-- ==== Proof.PleGateBwd.lean ====
/- The value of `Cert.PleGateBwdIdeal`. -/
module

public import proofs.«01_k».proof.Proof.Gen.PleGateBwdIdeal
public import proofs.«01_k».proof.Proof.Gen.PleGateBwdIdeal.Frame
public import proofs.«01_k».proof.Proof.Gen.PleGateBwdRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.PleGateBwdValue

open Cert.PleGateBwdIdeal Cert.PleGateBwdIdeal.Gen

variable (m : (ℓ : Loc nD τ sig) → Buf (Elt Ideal) ℓ)

/-- `Cert.PleGateBwdRefIdeal`'s main_v25 as its composed term over its arguments main_arg0, main_arg1, main_arg2, main_arg3, main_arg4, main_arg5. -/
abbrev REF (a0 : FVec Ideal Cert.PleGateBwdRefIdeal.S8192x1024 .f32) (a1 : FVec Ideal Cert.PleGateBwdRefIdeal.S8192x256 .f32) (a2 : FVec Ideal Cert.PleGateBwdRefIdeal.S1024x1024 .f32) (a3 : FVec Ideal Cert.PleGateBwdRefIdeal.S1024 .f32) (a4 : FVec Ideal Cert.PleGateBwdRefIdeal.S256x1024 .f32) (a5 : FVec Ideal Cert.PleGateBwdRefIdeal.S8192x1024 .f32) : FVec Ideal Cert.PleGateBwdRefIdeal.S8192x1024 .f32 :=
  addf (Host.dotGeneral Cert.PleGateBwdRefIdeal.dot_S8192x1024_S1024x1024_S8192x1024_1_1_0_0_n_n none (mulf (mulf
    (shapeCast _ a5 Cert.PleGateBwdRefIdeal.Gen.shapeCasts_S8192x1024_S8192x1024) (Host.dotGeneral
    Cert.PleGateBwdRefIdeal.dot_S8192x256_S256x1024_S8192x1024_1_0_0_1_n_n none a1 a4)) (mulf (Host.divf (broadcastInDim
    Cert.PleGateBwdRefIdeal.S8192x1024 ![] Cert.PleGateBwdRefIdeal.Gen.bcast_S_S8192x1024 (constant
    Cert.PleGateBwdRefIdeal.S_ .f32 0x3F800000#32)) (addf (broadcastInDim Cert.PleGateBwdRefIdeal.S8192x1024 ![]
    Cert.PleGateBwdRefIdeal.Gen.bcast_S_S8192x1024 (constant Cert.PleGateBwdRefIdeal.S_ .f32 0x3F800000#32)) (Host.exp
    (Host.negf (addf (Host.dotGeneral Cert.PleGateBwdRefIdeal.dot_S8192x1024_S1024x1024_S8192x1024_1_0_0_1_n_n none a0
    a2) (broadcastInDim Cert.PleGateBwdRefIdeal.S8192x1024 ![0, 1]
    Cert.PleGateBwdRefIdeal.Gen.bcast_S1x1024_S8192x1024_0_1 (broadcastInDim Cert.PleGateBwdRefIdeal.S1x1024 ![1]
    Cert.PleGateBwdRefIdeal.Gen.bcast_S1024_S1x1024_1 a3))))))) (subf (broadcastInDim Cert.PleGateBwdRefIdeal.S8192x1024
    ![] Cert.PleGateBwdRefIdeal.Gen.bcast_S_S8192x1024 (constant Cert.PleGateBwdRefIdeal.S_ .f32 0x3F800000#32))
    (Host.divf (broadcastInDim Cert.PleGateBwdRefIdeal.S8192x1024 ![] Cert.PleGateBwdRefIdeal.Gen.bcast_S_S8192x1024
    (constant Cert.PleGateBwdRefIdeal.S_ .f32 0x3F800000#32)) (addf (broadcastInDim Cert.PleGateBwdRefIdeal.S8192x1024
    ![] Cert.PleGateBwdRefIdeal.Gen.bcast_S_S8192x1024 (constant Cert.PleGateBwdRefIdeal.S_ .f32 0x3F800000#32))
    (Host.exp (Host.negf (addf (Host.dotGeneral Cert.PleGateBwdRefIdeal.dot_S8192x1024_S1024x1024_S8192x1024_1_0_0_1_n_n
    none a0 a2) (broadcastInDim Cert.PleGateBwdRefIdeal.S8192x1024 ![0, 1]
    Cert.PleGateBwdRefIdeal.Gen.bcast_S1x1024_S8192x1024_0_1 (broadcastInDim Cert.PleGateBwdRefIdeal.S1x1024 ![1]
    Cert.PleGateBwdRefIdeal.Gen.bcast_S1024_S1x1024_1 a3)))))))))) a2) (mulf (broadcastInDim
    Cert.PleGateBwdRefIdeal.S8192x1024 ![] Cert.PleGateBwdRefIdeal.Gen.bcast_S_S8192x1024 (constant
    Cert.PleGateBwdRefIdeal.S_ .f32 0x3FB504F3#32)) (shapeCast _ a5
    Cert.PleGateBwdRefIdeal.Gen.shapeCasts_S8192x1024_S8192x1024))

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0]
    ∧ win0_3.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-! What the host prepares before the kernel, an operation at a time. -/

abbrev h_v0 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .bf16 :=
  truncf .bf16 a0 bitsLt_bf16_f32

abbrev h_v1 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S1024x1024 .bf16 :=
  truncf .bf16 a2 bitsLt_bf16_f32

abbrev h_v2 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.dotGeneral dot_S8192x1024_S1024x1024_S8192x1024_1_0_0_1_n_n none (h_v0 a0 a1 a2 a3 a4 a5) (h_v1 a0 a1 a2 a3 a4 a5)

abbrev h_v3 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S1x1024 .f32 :=
  broadcastInDim S1x1024 ![1] bcast_S1024_S1x1024_1 a3

abbrev h_v4 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  broadcastInDim S8192x1024 ![0, 1] bcast_S1x1024_S8192x1024_0_1 (h_v3 a0 a1 a2 a3 a4 a5)

abbrev h_v5 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  addf (h_v2 a0 a1 a2 a3 a4 a5) (h_v4 a0 a1 a2 a3 a4 a5)

abbrev h_v6 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.negf (h_v5 a0 a1 a2 a3 a4 a5)

abbrev h_v7 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.exp (h_v6 a0 a1 a2 a3 a4 a5)

abbrev h_cst (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S_ .f32 :=
  (constant S_ .f32 0x3F800000#32)

abbrev h_v8 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  broadcastInDim S8192x1024 ![] bcast_S_S8192x1024 (h_cst a0 a1 a2 a3 a4 a5)

abbrev h_v9 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  addf (h_v8 a0 a1 a2 a3 a4 a5) (h_v7 a0 a1 a2 a3 a4 a5)

abbrev h_cst_0 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S_ .f32 :=
  (constant S_ .f32 0x3F800000#32)

abbrev h_v10 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  broadcastInDim S8192x1024 ![] bcast_S_S8192x1024 (h_cst_0 a0 a1 a2 a3 a4 a5)

abbrev h_v11 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.divf (h_v10 a0 a1 a2 a3 a4 a5) (h_v9 a0 a1 a2 a3 a4 a5)

abbrev h_v12 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x256 .bf16 :=
  truncf .bf16 a1 bitsLt_bf16_f32

abbrev h_v13 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S256x1024 .bf16 :=
  truncf .bf16 a4 bitsLt_bf16_f32

abbrev h_v14 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  Host.dotGeneral dot_S8192x256_S256x1024_S8192x1024_1_0_0_1_n_n none (h_v12 a0 a1 a2 a3 a4 a5) (h_v13 a0 a1 a2 a3 a4 a5)

abbrev h_v15 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  mulf a5 (h_v14 a0 a1 a2 a3 a4 a5)

abbrev h_v16 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  mulf (h_v15 a0 a1 a2 a3 a4 a5) (h_v11 a0 a1 a2 a3 a4 a5)

abbrev h_cst_1 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S_ .f32 :=
  (constant S_ .f32 0x3F800000#32)

abbrev h_v17 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  broadcastInDim S8192x1024 ![] bcast_S_S8192x1024 (h_cst_1 a0 a1 a2 a3 a4 a5)

abbrev h_v18 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  subf (h_v17 a0 a1 a2 a3 a4 a5) (h_v11 a0 a1 a2 a3 a4 a5)

abbrev h_v19 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .f32 :=
  mulf (h_v16 a0 a1 a2 a3 a4 a5) (h_v18 a0 a1 a2 a3 a4 a5)

abbrev h_v20 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S8192x1024 .bf16 :=
  truncf .bf16 (h_v19 a0 a1 a2 a3 a4 a5) bitsLt_bf16_f32

abbrev h_v21 (a0 : FVec Ideal S8192x1024 .f32) (a1 : FVec Ideal S8192x256 .f32) (a2 : FVec Ideal S1024x1024 .f32) (a3 : FVec Ideal S1024 .f32) (a4 : FVec Ideal S256x1024 .f32) (a5 : FVec Ideal S8192x1024 .f32) : FVec Ideal S1024x1024 .bf16 :=
  truncf .bf16 a2 bitsLt_bf16_f32

/-- The contents of `main_v20`, window 0's array, when the kernel's region begins. -/
theorem entry_v20 (c : Dev nD) : @Eq (FVec Ideal S8192x1024 .bf16) (V m c main_v20) (h_v20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  entry_read
  try rfl

/-- The contents of `main_v21`, window 1's array, when the kernel's region begins. -/
theorem entry_v21 (c : Dev nD) : @Eq (FVec Ideal S1024x1024 .bf16) (V m c main_v21) (h_v21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  entry_read
  try rfl

/-- POINT: what the body stores at block index `y` of point `t` is the reference at the array index `y` sits at. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (((cfg0.win 3).blk t).view.emb y) := by
  pointwise [k0_pay1, REF]
  blk_simp [iblk]
  rw [entry_v20 m c, entry_v21 m c]
  pointwise [h_v0, h_v1, h_v2, h_v3, h_v4, h_v5, h_v6, h_v7, h_cst, h_v8, h_v9, h_cst_0, h_v10, h_v11, h_v12, h_v13, h_v14, h_v15, h_v16, h_cst_1, h_v17, h_v18, h_v19, h_v20, h_v21]
  simp only [Cert.Common.gate_assoc]
  blk_point [V, idx_val t]

/-- BRIDGE: the result array after the run (complete: the blocks tile the array, decided). -/
theorem final (c : Dev nD) : (dats m 0 c).arrAt 3 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 3 _ (by decide +kernel) fun t hf y => ?_
  blk_simp; rw [after0_3]; frame_out
  exact point m c t y

end Cert.PleGateBwdValue

end
-- ==== Proof.MlpUp.lean ====
/- The value of `Cert.MlpUpIdeal`. -/
module

public import proofs.«01_k».proof.Proof.Gen.MlpUpIdeal
public import proofs.«01_k».proof.Proof.Gen.MlpUpIdeal.Frame
public import proofs.«01_k».proof.Proof.Gen.MlpUpRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MlpUpValue

open Cert.MlpUpIdeal Cert.MlpUpIdeal.Gen

variable (m : (ℓ : Loc nD τ sig) → Buf (Elt Ideal) ℓ)

/-- `Cert.MlpUpRefIdeal`'s main_v2 as its composed term over its arguments main_arg0, main_arg1. -/
abbrev REF (a0 : FVec Ideal Cert.MlpUpRefIdeal.S8192x1024 .f32) (a1 : FVec Ideal Cert.MlpUpRefIdeal.S1024x4096 .f32) : FVec Ideal Cert.MlpUpRefIdeal.S8192x4096 .bf16 :=
  truncf .bf16 (maximumf (Host.dotGeneral Cert.MlpUpRefIdeal.dot_S8192x1024_S1024x4096_S8192x4096_1_0_0_1_n_n none a0
    a1) (broadcastInDim Cert.MlpUpRefIdeal.S8192x4096 ![] Cert.MlpUpRefIdeal.Gen.bcast_S_S8192x4096 (constant
    Cert.MlpUpRefIdeal.S_ .f32 0x00000000#32))) Cert.MlpUpRefIdeal.Gen.bitsLt_bf16_f32

/-- every window's block index at every grid point, in closed form (decided). -/
theorem idx : ∀ t : Fin cfg0.N, win0_0.index t = ![(grid0.coords t 1).val, 0]
    ∧ win0_1.index t = ![0, (grid0.coords t 0).val]
    ∧ win0_2.index t = ![(grid0.coords t 1).val, (grid0.coords t 0).val] :=
  (by decide +kernel : ∀ t : Fin grid0.N, _)

/-- the same in `t.val` (for `omega` beside a schedule fact `t.val % J = r`). -/
theorem idx_val : ∀ t : Fin cfg0.N, win0_0.index t = ![t.val % 8, 0]
    ∧ win0_1.index t = ![0, t.val / 8]
    ∧ win0_2.index t = ![t.val % 8, t.val / 8] :=
  (by decide +kernel : ∀ t : Fin grid0.N, _)

/-! What the host prepares before the kernel, an operation at a time. -/

abbrev h_v0 (a0 : FVec Ideal S8192x1024 .f32) (a1 : FVec Ideal S1024x4096 .f32) : FVec Ideal S8192x1024 .bf16 :=
  truncf .bf16 a0 bitsLt_bf16_f32

abbrev h_v1 (a0 : FVec Ideal S8192x1024 .f32) (a1 : FVec Ideal S1024x4096 .f32) : FVec Ideal S1024x4096 .bf16 :=
  truncf .bf16 a1 bitsLt_bf16_f32

/-- The contents of `main_v0`, window 0's array, when the kernel's region begins. -/
theorem entry_v0 (c : Dev nD) : @Eq (FVec Ideal S8192x1024 .bf16) (V m c main_v0) (h_v0 (m ((c : Thread nD τ).loc main_arg0)) (m ((c : Thread nD τ).loc main_arg1))) := by
  entry_read
  try rfl

/-- The contents of `main_v1`, window 1's array, when the kernel's region begins. -/
theorem entry_v1 (c : Dev nD) : @Eq (FVec Ideal S1024x4096 .bf16) (V m c main_v1) (h_v1 (m ((c : Thread nD τ).loc main_arg0)) (m ((c : Thread nD τ).loc main_arg1))) := by
  entry_read
  try rfl

/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb
        y) := by
  generalize hj : (((cfg0.win 2).blk t).view.emb y) = j
  pointwise [k0_pay1, REF]
  blk_simp [iblk]
  rw [entry_v0 m c, entry_v1 m c]
  pointwise [h_v0, h_v1]
  subst hj
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.MlpUpValue

end
-- ==== Proof.PleGate.lean ====
/- The value of `Cert.PleGateIdeal`. -/
module

public import proofs.«01_k».proof.Proof.Gen.PleGateIdeal
public import proofs.«01_k».proof.Proof.Gen.PleGateIdeal.Frame
public import proofs.«01_k».proof.Proof.Gen.PleGateRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.PleGateValue

open Cert.PleGateIdeal Cert.PleGateIdeal.Gen

variable (m : (ℓ : Loc nD τ sig) → Buf (Elt Ideal) ℓ)

/-- `Cert.PleGateRefIdeal`'s main_v3 as its composed term over its arguments main_arg0, main_arg1, main_arg2. -/
abbrev REF (a0 : FVec Ideal Cert.PleGateRefIdeal.S8192x1024 .f32) (a1 : FVec Ideal Cert.PleGateRefIdeal.S1024x1024 .f32) (a2 : FVec Ideal Cert.PleGateRefIdeal.S1024 .f32) : FVec Ideal Cert.PleGateRefIdeal.S8192x1024 .f32 :=
  addf (Host.dotGeneral Cert.PleGateRefIdeal.dot_S8192x1024_S1024x1024_S8192x1024_1_0_0_1_n_n none a0 a1)
    (broadcastInDim Cert.PleGateRefIdeal.S8192x1024 ![0, 1] Cert.PleGateRefIdeal.Gen.bcast_S1x1024_S8192x1024_0_1
    (broadcastInDim Cert.PleGateRefIdeal.S1x1024 ![1] Cert.PleGateRefIdeal.Gen.bcast_S1024_S1x1024_1 a2))

/-- every window's block index at every grid point, in closed form (decided). -/
theorem idx : ∀ t : Fin cfg0.N, win0_0.index t = ![(grid0.coords t 0).val, 0]
    ∧ win0_1.index t = ![0, 0]
    ∧ win0_2.index t = ![0, 0]
    ∧ win0_3.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-! What the host prepares before the kernel, an operation at a time. -/

abbrev h_v0 (a0 : FVec Ideal S8192x1024 .f32) (a1 : FVec Ideal S1024x1024 .f32) (a2 : FVec Ideal S1024 .f32) : FVec Ideal S8192x1024 .bf16 :=
  truncf .bf16 a0 bitsLt_bf16_f32

abbrev h_v1 (a0 : FVec Ideal S8192x1024 .f32) (a1 : FVec Ideal S1024x1024 .f32) (a2 : FVec Ideal S1024 .f32) : FVec Ideal S1024x1024 .bf16 :=
  truncf .bf16 a1 bitsLt_bf16_f32

abbrev h_v2 (a0 : FVec Ideal S8192x1024 .f32) (a1 : FVec Ideal S1024x1024 .f32) (a2 : FVec Ideal S1024 .f32) : FVec Ideal S1x1024 .f32 :=
  broadcastInDim S1x1024 ![1] bcast_S1024_S1x1024_1 a2

/-- The contents of `main_v0`, window 0's array, when the kernel's region begins. -/
theorem entry_v0 (c : Dev nD) : @Eq (FVec Ideal S8192x1024 .bf16) (V m c main_v0) (h_v0 (m ((c : Thread nD τ).loc main_arg0)) (m ((c : Thread nD τ).loc main_arg1)) (m ((c : Thread nD τ).loc main_arg2))) := by
  entry_read
  try rfl

/-- The contents of `main_v1`, window 1's array, when the kernel's region begins. -/
theorem entry_v1 (c : Dev nD) : @Eq (FVec Ideal S1024x1024 .bf16) (V m c main_v1) (h_v1 (m ((c : Thread nD τ).loc main_arg0)) (m ((c : Thread nD τ).loc main_arg1)) (m ((c : Thread nD τ).loc main_arg2))) := by
  entry_read
  try rfl

/-- The contents of `main_v2`, window 2's array, when the kernel's region begins. -/
theorem entry_v2 (c : Dev nD) : @Eq (FVec Ideal S1x1024 .f32) (V m c main_v2) (h_v2 (m ((c : Thread nD τ).loc main_arg0)) (m ((c : Thread nD τ).loc main_arg1)) (m ((c : Thread nD τ).loc main_arg2))) := by
  entry_read
  try rfl

/-- POINT: what the body stores at block index `y` of point `t` is the reference at the array index `y` sits at. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (m ((c : Thread nD τ).loc
        main_arg2)) (((cfg0.win 3).blk t).view.emb y) := by
  generalize hj : (((cfg0.win 3).blk t).view.emb y) = j
  pointwise [k0_pay1, REF]
  blk_simp [iblk]
  rw [entry_v0 m c, entry_v1 m c, entry_v2 m c]
  pointwise [h_v0, h_v1, h_v2]
  subst hj
  blk_point [V, idx_val t]

/-- BRIDGE: the result array after the run (complete: the blocks tile the array, decided). -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.PleGateValue

end
-- ==== Proof.PleProj.lean ====
/- The value of `Cert.PleProjIdeal`. -/
module

public import proofs.«01_k».proof.Proof.Gen.PleProjIdeal
public import proofs.«01_k».proof.Proof.Gen.PleProjIdeal.Frame
public import proofs.«01_k».proof.Proof.Gen.PleProjRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.PleProjValue

open Cert.PleProjIdeal Cert.PleProjIdeal.Gen

variable (m : (ℓ : Loc nD τ sig) → Buf (Elt Ideal) ℓ)

/-- `Cert.PleProjRefIdeal`'s main_v0 as its composed term over its arguments main_arg0, main_arg1. -/
abbrev REF (a0 : FVec Ideal Cert.PleProjRefIdeal.S8192x256 .f32) (a1 : FVec Ideal Cert.PleProjRefIdeal.S256x1024 .f32) : FVec Ideal Cert.PleProjRefIdeal.S8192x1024 .f32 :=
  Host.dotGeneral Cert.PleProjRefIdeal.dot_S8192x256_S256x1024_S8192x1024_1_0_0_1_n_n none a0 a1

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0] :=
  (by decide +kernel : ∀ t : Fin grid0.N, _)

/-! What the host prepares before the kernel, an operation at a time. -/

abbrev h_v0 (a0 : FVec Ideal S8192x256 .f32) (a1 : FVec Ideal S256x1024 .f32) : FVec Ideal S8192x256 .bf16 :=
  truncf .bf16 a0 bitsLt_bf16_f32

abbrev h_v1 (a0 : FVec Ideal S8192x256 .f32) (a1 : FVec Ideal S256x1024 .f32) : FVec Ideal S256x1024 .bf16 :=
  truncf .bf16 a1 bitsLt_bf16_f32

/-- The contents of `main_v0`, window 0's array, when the kernel's region begins. -/
theorem entry_v0 (c : Dev nD) : @Eq (FVec Ideal S8192x256 .bf16) (V m c main_v0) (h_v0 (m ((c : Thread nD τ).loc main_arg0)) (m ((c : Thread nD τ).loc main_arg1))) := by
  entry_read
  try rfl

/-- The contents of `main_v1`, window 1's array, when the kernel's region begins. -/
theorem entry_v1 (c : Dev nD) : @Eq (FVec Ideal S256x1024 .bf16) (V m c main_v1) (h_v1 (m ((c : Thread nD τ).loc main_arg0)) (m ((c : Thread nD τ).loc main_arg1))) := by
  entry_read
  try rfl

/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb
        y) := by
  generalize hj : (((cfg0.win 2).blk t).view.emb y) = j
  pointwise [k0_pay1, REF]
  blk_simp [iblk]
  rw [entry_v0 m c, entry_v1 m c]
  pointwise [h_v0, h_v1]
  subst hj
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.PleProjValue

end
-- ==== Proof.InQkv.lean ====
/- The value of `Cert.InQkvIdeal`. -/
module

public import proofs.«01_k».proof.Proof.Gen.InQkvIdeal
public import proofs.«01_k».proof.Proof.Gen.InQkvIdeal.Frame
public import proofs.«01_k».proof.Proof.Gen.InQkvRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.InQkvValue

open Cert.InQkvIdeal Cert.InQkvIdeal.Gen

variable (m : (ℓ : Loc nD τ sig) → Buf (Elt Ideal) ℓ)

/-- `Cert.InQkvRefIdeal`'s main_v1 as its composed term over its arguments main_arg0, main_arg1. -/
abbrev REF (a0 : FVec Ideal Cert.InQkvRefIdeal.S8192x1024 .f32) (a1 : FVec Ideal Cert.InQkvRefIdeal.S1024x4112 .f32) : FVec Ideal Cert.InQkvRefIdeal.S8192x3072 .f32 :=
  extractStridedSlice Cert.InQkvRefIdeal.S8192x3072 ![0, 0] (Host.dotGeneral
    Cert.InQkvRefIdeal.dot_S8192x1024_S1024x4112_S8192x4112_1_0_0_1_n_n none a0 a1)
    Cert.InQkvRefIdeal.Gen.slices_S8192x4112_S8192x3072_0_0

/-- every window's block index at every grid point, in closed form (decided). -/
theorem idx : ∀ t : Fin cfg0.N, win0_0.index t = ![(grid0.coords t 1).val, 0]
    ∧ win0_1.index t = ![0, (grid0.coords t 0).val]
    ∧ win0_2.index t = ![(grid0.coords t 1).val, (grid0.coords t 0).val] :=
  (by decide +kernel : ∀ t : Fin grid0.N, _)

/-- the same in `t.val` (for `omega` beside a schedule fact `t.val % J = r`). -/
theorem idx_val : ∀ t : Fin cfg0.N, win0_0.index t = ![t.val % 8, 0]
    ∧ win0_1.index t = ![0, t.val / 8]
    ∧ win0_2.index t = ![t.val % 8, t.val / 8] :=
  (by decide +kernel : ∀ t : Fin grid0.N, _)

/-! What the host prepares before the kernel, an operation at a time. -/

abbrev h_v0 (a0 : FVec Ideal S8192x1024 .f32) (a1 : FVec Ideal S1024x4112 .f32) : FVec Ideal S8192x1024 .bf16 :=
  truncf .bf16 a0 bitsLt_bf16_f32

abbrev h_v1 (a0 : FVec Ideal S8192x1024 .f32) (a1 : FVec Ideal S1024x4112 .f32) : FVec Ideal S1024x4112 .bf16 :=
  truncf .bf16 a1 bitsLt_bf16_f32

abbrev h_v2 (a0 : FVec Ideal S8192x1024 .f32) (a1 : FVec Ideal S1024x4112 .f32) : FVec Ideal S1024x3072 .bf16 :=
  extractStridedSlice S1024x3072 ![0, 0] (h_v1 a0 a1) slices_S1024x4112_S1024x3072_0_0

/-- The contents of `main_v0`, window 0's array, when the kernel's region begins. -/
theorem entry_v0 (c : Dev nD) : @Eq (FVec Ideal S8192x1024 .bf16) (V m c main_v0) (h_v0 (m ((c : Thread nD τ).loc main_arg0)) (m ((c : Thread nD τ).loc main_arg1))) := by
  entry_read
  try rfl

/-- The contents of `main_v2`, window 1's array, when the kernel's region begins. -/
theorem entry_v2 (c : Dev nD) : @Eq (FVec Ideal S1024x3072 .bf16) (V m c main_v2) (h_v2 (m ((c : Thread nD τ).loc main_arg0)) (m ((c : Thread nD τ).loc main_arg1))) := by
  entry_read
  try rfl

/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb
        y) := by
  generalize hj : (((cfg0.win 2).blk t).view.emb y) = j
  pointwise [k0_pay1, REF]
  blk_simp [iblk]
  rw [entry_v0 m c, entry_v2 m c]
  pointwise [h_v0, h_v1, h_v2]
  subst hj
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.InQkvValue

end
-- ==== Proof.InZ.lean ====
/- The value of `Cert.InZIdeal`. -/
module

public import proofs.«01_k».proof.Proof.Gen.InZIdeal
public import proofs.«01_k».proof.Proof.Gen.InZIdeal.Frame
public import proofs.«01_k».proof.Proof.Gen.InZRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.InZValue

open Cert.InZIdeal Cert.InZIdeal.Gen

variable (m : (ℓ : Loc nD τ sig) → Buf (Elt Ideal) ℓ)

/-- `Cert.InZRefIdeal`'s main_v2 as its composed term over its arguments main_arg0, main_arg1. -/
abbrev REF (a0 : FVec Ideal Cert.InZRefIdeal.S8192x1024 .f32) (a1 : FVec Ideal Cert.InZRefIdeal.S1024x4112 .f32) : FVec Ideal Cert.InZRefIdeal.S8192x1024 .f32 :=
  extractStridedSlice Cert.InZRefIdeal.S8192x1024 ![0, 3072] (Host.dotGeneral
    Cert.InZRefIdeal.dot_S8192x1024_S1024x4112_S8192x4112_1_0_0_1_n_n none a0 a1)
    Cert.InZRefIdeal.Gen.slices_S8192x4112_S8192x1024_0_3072

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0] :=
  (by decide +kernel : ∀ t : Fin grid0.N, _)

/-! What the host prepares before the kernel, an operation at a time. -/

abbrev h_v0 (a0 : FVec Ideal S8192x1024 .f32) (a1 : FVec Ideal S1024x4112 .f32) : FVec Ideal S8192x1024 .bf16 :=
  truncf .bf16 a0 bitsLt_bf16_f32

abbrev h_v1 (a0 : FVec Ideal S8192x1024 .f32) (a1 : FVec Ideal S1024x4112 .f32) : FVec Ideal S1024x4112 .bf16 :=
  truncf .bf16 a1 bitsLt_bf16_f32

abbrev h_v2 (a0 : FVec Ideal S8192x1024 .f32) (a1 : FVec Ideal S1024x4112 .f32) : FVec Ideal S1024x1024 .bf16 :=
  extractStridedSlice S1024x1024 ![0, 3072] (h_v1 a0 a1) slices_S1024x4112_S1024x1024_0_3072

/-- The contents of `main_v0`, window 0's array, when the kernel's region begins. -/
theorem entry_v0 (c : Dev nD) : @Eq (FVec Ideal S8192x1024 .bf16) (V m c main_v0) (h_v0 (m ((c : Thread nD τ).loc main_arg0)) (m ((c : Thread nD τ).loc main_arg1))) := by
  entry_read
  try rfl

/-- The contents of `main_v2`, window 1's array, when the kernel's region begins. -/
theorem entry_v2 (c : Dev nD) : @Eq (FVec Ideal S1024x1024 .bf16) (V m c main_v2) (h_v2 (m ((c : Thread nD τ).loc main_arg0)) (m ((c : Thread nD τ).loc main_arg1))) := by
  entry_read
  try rfl

/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb
        y) := by
  generalize hj : (((cfg0.win 2).blk t).view.emb y) = j
  pointwise [k0_pay1, REF]
  blk_simp [iblk]
  rw [entry_v0 m c, entry_v2 m c]
  pointwise [h_v0, h_v1, h_v2]
  subst hj
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.InZValue

end
-- ==== Proof.InBa.lean ====
/- The value of `Cert.InBaIdeal`. -/
module

public import proofs.«01_k».proof.Proof.Gen.InBaIdeal
public import proofs.«01_k».proof.Proof.Gen.InBaIdeal.Frame
public import proofs.«01_k».proof.Proof.Gen.InBaRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.InBaValue

open Cert.InBaIdeal Cert.InBaIdeal.Gen

variable (m : (ℓ : Loc nD τ sig) → Buf (Elt Ideal) ℓ)

/-- `Cert.InBaRefIdeal`'s main_v0 as its composed term over its arguments main_arg0, main_arg1. -/
abbrev REF (a0 : FVec Ideal Cert.InBaRefIdeal.S8192x1024 .f32) (a1 : FVec Ideal Cert.InBaRefIdeal.S1024x256 .f32) : FVec Ideal Cert.InBaRefIdeal.S8192x256 .f32 :=
  Host.dotGeneral Cert.InBaRefIdeal.dot_S8192x1024_S1024x256_S8192x256_1_0_0_1_n_n none a0 a1

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0] :=
  (by decide +kernel : ∀ t : Fin grid0.N, _)

/-! What the host prepares before the kernel, an operation at a time. -/

abbrev h_v0 (a0 : FVec Ideal S8192x1024 .f32) (a1 : FVec Ideal S1024x256 .f32) : FVec Ideal S8192x1024 .bf16 :=
  truncf .bf16 a0 bitsLt_bf16_f32

abbrev h_v1 (a0 : FVec Ideal S8192x1024 .f32) (a1 : FVec Ideal S1024x256 .f32) : FVec Ideal S1024x256 .bf16 :=
  truncf .bf16 a1 bitsLt_bf16_f32

/-- The contents of `main_v0`, window 0's array, when the kernel's region begins. -/
theorem entry_v0 (c : Dev nD) : @Eq (FVec Ideal S8192x1024 .bf16) (V m c main_v0) (h_v0 (m ((c : Thread nD τ).loc main_arg0)) (m ((c : Thread nD τ).loc main_arg1))) := by
  entry_read
  try rfl

/-- The contents of `main_v1`, window 1's array, when the kernel's region begins. -/
theorem entry_v1 (c : Dev nD) : @Eq (FVec Ideal S1024x256 .bf16) (V m c main_v1) (h_v1 (m ((c : Thread nD τ).loc main_arg0)) (m ((c : Thread nD τ).loc main_arg1))) := by
  entry_read
  try rfl

/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb
        y) := by
  generalize hj : (((cfg0.win 2).blk t).view.emb y) = j
  pointwise [k0_pay1, REF]
  blk_simp [iblk]
  rw [entry_v0 m c, entry_v1 m c]
  pointwise [h_v0, h_v1]
  subst hj
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.InBaValue

end
-- ==== Proof.DwQkv.lean ====
/- The value of `Cert.DwQkvIdeal`. -/
module

public import proofs.«01_k».proof.Proof.Gen.DwQkvIdeal
public import proofs.«01_k».proof.Proof.Gen.DwQkvIdeal.Frame
public import proofs.«01_k».proof.Proof.Gen.DwQkvRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.DwQkvValue

open Cert.DwQkvIdeal Cert.DwQkvIdeal.Gen

variable (m : (ℓ : Loc nD τ sig) → Buf (Elt Ideal) ℓ)

/-- `Cert.DwQkvRefIdeal`'s main_v2 as its composed term over its arguments main_arg0, main_arg2. -/
abbrev REF (a0 : FVec Ideal Cert.DwQkvRefIdeal.S8192x1024 .f32) (a2 : FVec Ideal Cert.DwQkvRefIdeal.S8192x3072 .f32) : FVec Ideal Cert.DwQkvRefIdeal.S1024x3072 .f32 :=
  transpose Cert.DwQkvRefIdeal.S1024x3072 [1, 0] (Host.dotGeneral
    Cert.DwQkvRefIdeal.dot_S8192x3072_S8192x1024_S3072x1024_0_0_1_1_n_n none a2 a0)
    Cert.DwQkvRefIdeal.Gen.transposes_S3072x1024_S1024x3072_1_0

/-- every window's block index at every grid point, in closed form (decided). -/
theorem idx : ∀ t : Fin cfg0.N, win0_0.index t = ![0, (grid0.coords t 1).val]
    ∧ win0_1.index t = ![0, (grid0.coords t 0).val]
    ∧ win0_2.index t = ![(grid0.coords t 1).val, (grid0.coords t 0).val] :=
  (by decide +kernel : ∀ t : Fin grid0.N, _)

/-- the same in `t.val` (for `omega` beside a schedule fact `t.val % J = r`). -/
theorem idx_val : ∀ t : Fin cfg0.N, win0_0.index t = ![0, t.val % 2]
    ∧ win0_1.index t = ![0, t.val / 2]
    ∧ win0_2.index t = ![t.val % 2, t.val / 2] :=
  (by decide +kernel : ∀ t : Fin grid0.N, _)

/-! What the host prepares before the kernel, an operation at a time. -/

abbrev h_v0 (a0 : FVec Ideal S8192x1024 .f32) (a1 : FVec Ideal S1024x3072 .f32) (a2 : FVec Ideal S8192x3072 .f32) : FVec Ideal S8192x1024 .bf16 :=
  truncf .bf16 a0 bitsLt_bf16_f32

abbrev h_v1 (a0 : FVec Ideal S8192x1024 .f32) (a1 : FVec Ideal S1024x3072 .f32) (a2 : FVec Ideal S8192x3072 .f32) : FVec Ideal S8192x3072 .bf16 :=
  truncf .bf16 a2 bitsLt_bf16_f32

/-- The contents of `main_v0`, window 0's array, when the kernel's region begins. -/
theorem entry_v0 (c : Dev nD) : @Eq (FVec Ideal S8192x1024 .bf16) (V m c main_v0) (h_v0 (m ((c : Thread nD τ).loc main_arg0)) (m ((c : Thread nD τ).loc main_arg1)) (m ((c : Thread nD τ).loc main_arg2))) := by
  entry_read
  try rfl

/-- The contents of `main_v1`, window 1's array, when the kernel's region begins. -/
theorem entry_v1 (c : Dev nD) : @Eq (FVec Ideal S8192x3072 .bf16) (V m c main_v1) (h_v1 (m ((c : Thread nD τ).loc main_arg0)) (m ((c : Thread nD τ).loc main_arg1)) (m ((c : Thread nD τ).loc main_arg2))) := by
  entry_read
  try rfl

/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg2)) (((cfg0.win 2).blk t).view.emb
        y) := by
  generalize hj : (((cfg0.win 2).blk t).view.emb y) = j
  pointwise [k0_pay1, REF]
  blk_simp [iblk]
  rw [entry_v0 m c, entry_v1 m c]
  pointwise [h_v0, h_v1]
  subst hj
  refine (Finset.sum_congr rfl fun _ _ => mul_comm (G := EReal) _ _).trans ?_
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t hf y => ?_
  blk_simp; rw [after0_2]; frame_out
  exact point m c t y

end Cert.DwQkvValue

end
-- ==== Proof.DwZ.lean ====
/- The value of `Cert.DwZIdeal`. -/
module

public import proofs.«01_k».proof.Proof.Gen.DwZIdeal
public import proofs.«01_k».proof.Proof.Gen.DwZIdeal.Frame
public import proofs.«01_k».proof.Proof.Gen.DwZRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.DwZValue

open Cert.DwZIdeal Cert.DwZIdeal.Gen

variable (m : (ℓ : Loc nD τ sig) → Buf (Elt Ideal) ℓ)

/-- `Cert.DwZRefIdeal`'s main_v2 as its composed term over its arguments main_arg0, main_arg2. -/
abbrev REF (a0 : FVec Ideal Cert.DwZRefIdeal.S8192x1024 .f32) (a2 : FVec Ideal Cert.DwZRefIdeal.S8192x1024 .f32) : FVec Ideal Cert.DwZRefIdeal.S1024x1024 .f32 :=
  transpose Cert.DwZRefIdeal.S1024x1024 [1, 0] (Host.dotGeneral
    Cert.DwZRefIdeal.dot_S8192x1024_S8192x1024_S1024x1024_0_0_1_1_n_n none a2 a0)
    Cert.DwZRefIdeal.Gen.transposes_S1024x1024_S1024x1024_1_0

/-- every window's block index at every grid point, in closed form (decided). -/
theorem idx : ∀ t : Fin cfg0.N, win0_0.index t = ![0, (grid0.coords t 1).val]
    ∧ win0_1.index t = ![0, (grid0.coords t 0).val]
    ∧ win0_2.index t = ![(grid0.coords t 1).val, (grid0.coords t 0).val] :=
  (by decide +kernel : ∀ t : Fin grid0.N, _)

/-- the same in `t.val` (for `omega` beside a schedule fact `t.val % J = r`). -/
theorem idx_val : ∀ t : Fin cfg0.N, win0_0.index t = ![0, t.val % 2]
    ∧ win0_1.index t = ![0, t.val / 2]
    ∧ win0_2.index t = ![t.val % 2, t.val / 2] :=
  (by decide +kernel : ∀ t : Fin grid0.N, _)

/-! What the host prepares before the kernel, an operation at a time. -/

abbrev h_v0 (a0 : FVec Ideal S8192x1024 .f32) (a1 : FVec Ideal S1024x1024 .f32) (a2 : FVec Ideal S8192x1024 .f32) : FVec Ideal S8192x1024 .bf16 :=
  truncf .bf16 a0 bitsLt_bf16_f32

abbrev h_v1 (a0 : FVec Ideal S8192x1024 .f32) (a1 : FVec Ideal S1024x1024 .f32) (a2 : FVec Ideal S8192x1024 .f32) : FVec Ideal S8192x1024 .bf16 :=
  truncf .bf16 a2 bitsLt_bf16_f32

/-- The contents of `main_v0`, window 0's array, when the kernel's region begins. -/
theorem entry_v0 (c : Dev nD) : @Eq (FVec Ideal S8192x1024 .bf16) (V m c main_v0) (h_v0 (m ((c : Thread nD τ).loc main_arg0)) (m ((c : Thread nD τ).loc main_arg1)) (m ((c : Thread nD τ).loc main_arg2))) := by
  entry_read
  try rfl

/-- The contents of `main_v1`, window 1's array, when the kernel's region begins. -/
theorem entry_v1 (c : Dev nD) : @Eq (FVec Ideal S8192x1024 .bf16) (V m c main_v1) (h_v1 (m ((c : Thread nD τ).loc main_arg0)) (m ((c : Thread nD τ).loc main_arg1)) (m ((c : Thread nD τ).loc main_arg2))) := by
  entry_read
  try rfl

/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg2)) (((cfg0.win 2).blk t).view.emb
        y) := by
  generalize hj : (((cfg0.win 2).blk t).view.emb y) = j
  pointwise [k0_pay1, REF]
  blk_simp [iblk]
  rw [entry_v0 m c, entry_v1 m c]
  pointwise [h_v0, h_v1]
  subst hj
  refine (Finset.sum_congr rfl fun _ _ => mul_comm (G := EReal) _ _).trans ?_
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t hf y => ?_
  blk_simp; rw [after0_2]; frame_out
  exact point m c t y

end Cert.DwZValue

end
-- ==== Proof.DwBa.lean ====
/- The value of `Cert.DwBaIdeal`. -/
module

public import proofs.«01_k».proof.Proof.Gen.DwBaIdeal
public import proofs.«01_k».proof.Proof.Gen.DwBaIdeal.Frame
public import proofs.«01_k».proof.Proof.Gen.DwBaRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.DwBaValue

open Cert.DwBaIdeal Cert.DwBaIdeal.Gen

variable (m : (ℓ : Loc nD τ sig) → Buf (Elt Ideal) ℓ)

/-- `Cert.DwBaRefIdeal`'s main_v2 as its composed term over its arguments main_arg0, main_arg2. -/
abbrev REF (a0 : FVec Ideal Cert.DwBaRefIdeal.S8192x1024 .f32) (a2 : FVec Ideal Cert.DwBaRefIdeal.S8192x256 .f32) : FVec Ideal Cert.DwBaRefIdeal.S1024x256 .f32 :=
  transpose Cert.DwBaRefIdeal.S1024x256 [1, 0] (Host.dotGeneral
    Cert.DwBaRefIdeal.dot_S8192x256_S8192x1024_S256x1024_0_0_1_1_n_n none a2 a0)
    Cert.DwBaRefIdeal.Gen.transposes_S256x1024_S1024x256_1_0

/-- every window's block index at every grid point, in closed form (decided). -/
theorem idx : ∀ t : Fin cfg0.N, win0_0.index t = ![0, (grid0.coords t 1).val]
    ∧ win0_1.index t = ![0, 0]
    ∧ win0_2.index t = ![(grid0.coords t 1).val, 0] :=
  (by decide +kernel : ∀ t : Fin grid0.N, _)

/-- the same in `t.val` (for `omega` beside a schedule fact `t.val % J = r`). -/
theorem idx_val : ∀ t : Fin cfg0.N, win0_0.index t = ![0, t.val]
    ∧ win0_1.index t = ![0, 0]
    ∧ win0_2.index t = ![t.val, 0] :=
  (by decide +kernel : ∀ t : Fin grid0.N, _)

/-! What the host prepares before the kernel, an operation at a time. -/

abbrev h_v0 (a0 : FVec Ideal S8192x1024 .f32) (a1 : FVec Ideal S1024x256 .f32) (a2 : FVec Ideal S8192x256 .f32) : FVec Ideal S8192x1024 .bf16 :=
  truncf .bf16 a0 bitsLt_bf16_f32

abbrev h_v1 (a0 : FVec Ideal S8192x1024 .f32) (a1 : FVec Ideal S1024x256 .f32) (a2 : FVec Ideal S8192x256 .f32) : FVec Ideal S8192x256 .bf16 :=
  truncf .bf16 a2 bitsLt_bf16_f32

/-- The contents of `main_v0`, window 0's array, when the kernel's region begins. -/
theorem entry_v0 (c : Dev nD) : @Eq (FVec Ideal S8192x1024 .bf16) (V m c main_v0) (h_v0 (m ((c : Thread nD τ).loc main_arg0)) (m ((c : Thread nD τ).loc main_arg1)) (m ((c : Thread nD τ).loc main_arg2))) := by
  entry_read
  try rfl

/-- The contents of `main_v1`, window 1's array, when the kernel's region begins. -/
theorem entry_v1 (c : Dev nD) : @Eq (FVec Ideal S8192x256 .bf16) (V m c main_v1) (h_v1 (m ((c : Thread nD τ).loc main_arg0)) (m ((c : Thread nD τ).loc main_arg1)) (m ((c : Thread nD τ).loc main_arg2))) := by
  entry_read
  try rfl

/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg2)) (((cfg0.win 2).blk t).view.emb
        y) := by
  generalize hj : (((cfg0.win 2).blk t).view.emb y) = j
  pointwise [k0_pay1, REF]
  blk_simp [iblk]
  rw [entry_v0 m c, entry_v1 m c]
  pointwise [h_v0, h_v1]
  subst hj
  refine (Finset.sum_congr rfl fun _ _ => mul_comm (G := EReal) _ _).trans ?_
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t hf y => ?_
  blk_simp; rw [after0_2]; frame_out
  exact point m c t y

end Cert.DwBaValue

end
-- ==== Proof.DwOut.lean ====
/- The value of `Cert.DwOutIdeal`. -/
module

public import proofs.«01_k».proof.Proof.Gen.DwOutIdeal
public import proofs.«01_k».proof.Proof.Gen.DwOutIdeal.Frame
public import proofs.«01_k».proof.Proof.Gen.DwOutRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.DwOutValue

open Cert.DwOutIdeal Cert.DwOutIdeal.Gen

variable (m : (ℓ : Loc nD τ sig) → Buf (Elt Ideal) ℓ)

/-- `Cert.DwOutRefIdeal`'s main_v3 as its composed term over its arguments main_arg0, main_arg2. -/
abbrev REF (a0 : FVec Ideal Cert.DwOutRefIdeal.S8192x1024 .f32) (a2 : FVec Ideal Cert.DwOutRefIdeal.S8192x1024 .f32) : FVec Ideal Cert.DwOutRefIdeal.S1024x1024 .bf16 :=
  truncf .bf16 (transpose Cert.DwOutRefIdeal.S1024x1024 [1, 0] (Host.dotGeneral
    Cert.DwOutRefIdeal.dot_S8192x1024_S8192x1024_S1024x1024_0_0_1_1_n_n none a2 a0)
    Cert.DwOutRefIdeal.Gen.transposes_S1024x1024_S1024x1024_1_0) Cert.DwOutRefIdeal.Gen.bitsLt_bf16_f32

/-- every window's block index at every grid point, in closed form (decided). -/
theorem idx : ∀ t : Fin cfg0.N, win0_0.index t = ![0, (grid0.coords t 1).val]
    ∧ win0_1.index t = ![0, (grid0.coords t 0).val]
    ∧ win0_2.index t = ![(grid0.coords t 1).val, (grid0.coords t 0).val] :=
  (by decide +kernel : ∀ t : Fin grid0.N, _)

/-- the same in `t.val` (for `omega` beside a schedule fact `t.val % J = r`). -/
theorem idx_val : ∀ t : Fin cfg0.N, win0_0.index t = ![0, t.val % 2]
    ∧ win0_1.index t = ![0, t.val / 2]
    ∧ win0_2.index t = ![t.val % 2, t.val / 2] :=
  (by decide +kernel : ∀ t : Fin grid0.N, _)

/-! What the host prepares before the kernel, an operation at a time. -/

abbrev h_v0 (a0 : FVec Ideal S8192x1024 .f32) (a1 : FVec Ideal S1024x1024 .f32) (a2 : FVec Ideal S8192x1024 .f32) : FVec Ideal S8192x1024 .bf16 :=
  truncf .bf16 a0 bitsLt_bf16_f32

abbrev h_v1 (a0 : FVec Ideal S8192x1024 .f32) (a1 : FVec Ideal S1024x1024 .f32) (a2 : FVec Ideal S8192x1024 .f32) : FVec Ideal S8192x1024 .bf16 :=
  truncf .bf16 a2 bitsLt_bf16_f32

/-- The contents of `main_v0`, window 0's array, when the kernel's region begins. -/
theorem entry_v0 (c : Dev nD) : @Eq (FVec Ideal S8192x1024 .bf16) (V m c main_v0) (h_v0 (m ((c : Thread nD τ).loc main_arg0)) (m ((c : Thread nD τ).loc main_arg1)) (m ((c : Thread nD τ).loc main_arg2))) := by
  entry_read
  try rfl

/-- The contents of `main_v1`, window 1's array, when the kernel's region begins. -/
theorem entry_v1 (c : Dev nD) : @Eq (FVec Ideal S8192x1024 .bf16) (V m c main_v1) (h_v1 (m ((c : Thread nD τ).loc main_arg0)) (m ((c : Thread nD τ).loc main_arg1)) (m ((c : Thread nD τ).loc main_arg2))) := by
  entry_read
  try rfl

/-- POINT: what the body stores at block index `y` of point `t` is the reference at the array index `y` sits at. -/
theorem point (c : Dev nD) (t : Fin cfg0.N) (y) :
    k0_pay1 (iblk m c 0 t) (iblk m c 1 t) y
      = REF (m ((c : Thread nD τ).loc main_arg0)) (m ((c : Thread nD τ).loc main_arg2)) (((cfg0.win 2).blk t).view.emb
        y) := by
  generalize hj : (((cfg0.win 2).blk t).view.emb y) = j
  pointwise [k0_pay1, REF]
  blk_simp [iblk]
  rw [entry_v0 m c, entry_v1 m c]
  pointwise [h_v0, h_v1]
  subst hj
  refine (Finset.sum_congr rfl fun _ _ => mul_comm (G := EReal) _ _).trans ?_
  blk_point [V, idx_val t]

/-- BRIDGE: the result array after the run (complete: the blocks tile the array, decided). -/
theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t hf y => ?_
  blk_simp; rw [after0_2]; frame_out
  exact point m c t y

end Cert.DwOutValue

end
-- ==== Proof.InBaBwd.lean ====
/- The value of `Cert.InBaBwdIdeal`. -/
module

public import proofs.«01_k».proof.Proof.Gen.InBaBwdIdeal
public import proofs.«01_k».proof.Proof.Gen.InBaBwdIdeal.Frame
public import proofs.«01_k».proof.Proof.Gen.InBaBwdRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.InBaBwdValue

open Cert.InBaBwdIdeal Cert.InBaBwdIdeal.Gen

variable (m : (ℓ : Loc nD τ sig) → Buf (Elt Ideal) ℓ)

/-- `Cert.InBaBwdRefIdeal`'s main_v6 as its composed term over its arguments main_arg1, main_arg2, main_arg3. -/
abbrev REF (a1 : FVec Ideal Cert.InBaBwdRefIdeal.S1024x256 .f32) (a2 : FVec Ideal Cert.InBaBwdRefIdeal.S8192x256 .f32) (a3 : FVec Ideal Cert.InBaBwdRefIdeal.S8192x1024 .f32) : FVec Ideal Cert.InBaBwdRefIdeal.S8192x1024 .f32 :=
  addf (Host.dotGeneral Cert.InBaBwdRefIdeal.dot_S8192x256_S1024x256_S8192x1024_1_1_0_0_n_n none a2 a1) (mulf
    (broadcastInDim Cert.InBaBwdRefIdeal.S8192x1024 ![] Cert.InBaBwdRefIdeal.Gen.bcast_S_S8192x1024 (constant
    Cert.InBaBwdRefIdeal.S_ .f32 0x3FB504F3#32)) a3)

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0]
    ∧ win0_3.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-! What the host prepares before the kernel, an operation at a time. -/

abbrev h_v0 (a0 : FVec Ideal S8192x1024 .f32) (a1 : FVec Ideal S1024x256 .f32) (a2 : FVec Ideal S8192x256 .f32) (a3 : FVec Ideal S8192x1024 .f32) : FVec Ideal S8192x256 .bf16 :=
  truncf .bf16 a2 bitsLt_bf16_f32

abbrev h_v1 (a0 : FVec Ideal S8192x1024 .f32) (a1 : FVec Ideal S1024x256 .f32) (a2 : FVec Ideal S8192x256 .f32) (a3 : FVec Ideal S8192x1024 .f32) : FVec Ideal S1024x256 .bf16 :=
  truncf .bf16 a1 bitsLt_bf16_f32

/-- The contents of `main_v0`, window 0's array, when the kernel's region begins. -/
theorem entry_v0 (c : Dev nD) : @Eq (FVec Ideal S8192x256 .bf16) (V m c main_v0) (h_v0 (m ((c : Thread nD τ).loc main_arg0)) (m ((c : Thread nD τ).loc main_arg1)) (m ((c : Thread nD τ).loc main_arg2)) (m ((c : Thread nD τ).loc main_arg3))) := by
  entry_read
  try rfl

/-- The contents of `main_v1`, window 1's array, when the kernel's region begins. -/
theorem entry_v1 (c : Dev nD) : @Eq (FVec Ideal S1024x256 .bf16) (V m c main_v1) (h_v1 (m ((c : Thread nD τ).loc main_arg0)) (m ((c : Thread nD τ).loc main_arg1)) (m ((c : Thread nD τ).loc main_arg2)) (m ((c : Thread nD τ).loc main_arg3))) := by
  entry_read
  try rfl

/-- POINT: what the body stores at block index `y` of point `t` is the reference at the array index `y` sits at. -/
theorem point (c : Dev nD) (t : Fin cfg0.N) (y) :
    k0_pay1 (iblk m c 0 t) (iblk m c 1 t) (iblk m c 2 t) y
      = REF (m ((c : Thread nD τ).loc main_arg1)) (m ((c : Thread nD τ).loc main_arg2)) (m ((c : Thread nD τ).loc
        main_arg3)) (((cfg0.win 3).blk t).view.emb y) := by
  generalize hj : (((cfg0.win 3).blk t).view.emb y) = j
  pointwise [k0_pay1, REF]
  blk_simp [iblk]
  rw [entry_v0 m c, entry_v1 m c]
  pointwise [h_v0, h_v1]
  subst hj
  blk_point [V, idx_val t]

/-- BRIDGE: the result array after the run (complete: the blocks tile the array, decided). -/
theorem final (c : Dev nD) : (dats m 0 c).arrAt 3 (cfgs 0).N = REF (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp; rw [after0_3]; frame_out
  exact point m c t y

end Cert.InBaBwdValue

end
-- ==== Proof.InZBwd.lean ====
/- The value of `Cert.InZBwdIdeal`. -/
module

public import proofs.«01_k».proof.Proof.Gen.InZBwdIdeal
public import proofs.«01_k».proof.Proof.Gen.InZBwdIdeal.Frame
public import proofs.«01_k».proof.Proof.Gen.InZBwdRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.InZBwdValue

open Cert.InZBwdIdeal Cert.InZBwdIdeal.Gen

variable (m : (ℓ : Loc nD τ sig) → Buf (Elt Ideal) ℓ)

/-- `Cert.InZBwdRefIdeal`'s main_v2 as its composed term over its arguments main_arg1, main_arg2, main_arg3. -/
abbrev REF (a1 : FVec Ideal Cert.InZBwdRefIdeal.S1024x1024 .f32) (a2 : FVec Ideal Cert.InZBwdRefIdeal.S8192x1024 .f32) (a3 : FVec Ideal Cert.InZBwdRefIdeal.S8192x1024 .f32) : FVec Ideal Cert.InZBwdRefIdeal.S8192x1024 .f32 :=
  addf a3 (Host.dotGeneral Cert.InZBwdRefIdeal.dot_S8192x1024_S1024x1024_S8192x1024_1_1_0_0_n_n none a2 a1)

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0]
    ∧ win0_3.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-! What the host prepares before the kernel, an operation at a time. -/

abbrev h_v0 (a0 : FVec Ideal S8192x1024 .f32) (a1 : FVec Ideal S1024x1024 .f32) (a2 : FVec Ideal S8192x1024 .f32) (a3 : FVec Ideal S8192x1024 .f32) : FVec Ideal S8192x1024 .bf16 :=
  truncf .bf16 a2 bitsLt_bf16_f32

abbrev h_v1 (a0 : FVec Ideal S8192x1024 .f32) (a1 : FVec Ideal S1024x1024 .f32) (a2 : FVec Ideal S8192x1024 .f32) (a3 : FVec Ideal S8192x1024 .f32) : FVec Ideal S1024x1024 .bf16 :=
  truncf .bf16 a1 bitsLt_bf16_f32

/-- The contents of `main_v0`, window 0's array, when the kernel's region begins. -/
theorem entry_v0 (c : Dev nD) : @Eq (FVec Ideal S8192x1024 .bf16) (V m c main_v0) (h_v0 (m ((c : Thread nD τ).loc main_arg0)) (m ((c : Thread nD τ).loc main_arg1)) (m ((c : Thread nD τ).loc main_arg2)) (m ((c : Thread nD τ).loc main_arg3))) := by
  entry_read
  try rfl

/-- The contents of `main_v1`, window 1's array, when the kernel's region begins. -/
theorem entry_v1 (c : Dev nD) : @Eq (FVec Ideal S1024x1024 .bf16) (V m c main_v1) (h_v1 (m ((c : Thread nD τ).loc main_arg0)) (m ((c : Thread nD τ).loc main_arg1)) (m ((c : Thread nD τ).loc main_arg2)) (m ((c : Thread nD τ).loc main_arg3))) := by
  entry_read
  try rfl

/-- POINT: what the body stores at block index `y` of point `t` is the reference at the array index `y` sits at. -/
theorem point (c : Dev nD) (t : Fin cfg0.N) (y) :
    k0_pay1 (iblk m c 0 t) (iblk m c 1 t) (iblk m c 2 t) y
      = REF (m ((c : Thread nD τ).loc main_arg1)) (m ((c : Thread nD τ).loc main_arg2)) (m ((c : Thread nD τ).loc
        main_arg3)) (((cfg0.win 3).blk t).view.emb y) := by
  generalize hj : (((cfg0.win 3).blk t).view.emb y) = j
  pointwise [k0_pay1, REF]
  blk_simp [iblk]
  rw [entry_v0 m c, entry_v1 m c]
  pointwise [h_v0, h_v1]
  subst hj
  blk_point [V, idx_val t]

/-- BRIDGE: the result array after the run (complete: the blocks tile the array, decided). -/
theorem final (c : Dev nD) : (dats m 0 c).arrAt 3 (cfgs 0).N = REF (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp; rw [after0_3]; frame_out
  exact point m c t y

end Cert.InZBwdValue

end
-- ==== Proof.AdLn.lean ====
/- The value of `Cert.AdLnIdeal`. -/
module

public import proofs.«01_k».proof.Proof.Gen.AdLnIdeal
public import proofs.«01_k».proof.Proof.Gen.AdLnIdeal.Frame
public import proofs.«01_k».proof.Proof.Gen.AdLnRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdLnValue

open Cert.AdLnIdeal Cert.AdLnIdeal.Gen

variable (m : (ℓ : Loc nD τ sig) → Buf (Elt Ideal) ℓ)

/-- `Cert.AdLnRefIdeal`'s main_v23 as its composed term over its arguments main_arg0, main_arg1, main_arg2, main_arg3. -/
abbrev REF_v23 (a0 : FVec Ideal Cert.AdLnRefIdeal.S4x128 .f32) (a1 : FVec Ideal Cert.AdLnRefIdeal.S4x128 .f32) (a2 : FVec Ideal Cert.AdLnRefIdeal.S4x128 .f32) (a3 : FVec Ideal Cert.AdLnRefIdeal.S4x128 .f32) : FVec Ideal Cert.AdLnRefIdeal.S4x128 .f32 :=
  mulf (broadcastInDim Cert.AdLnRefIdeal.S4x128 ![] Cert.AdLnRefIdeal.Gen.bcast_S_S4x128 (constant
    Cert.AdLnRefIdeal.S_ .f32 0xBA83126F#32)) (addf (Host.divf (Host.divf (addf (mulf (broadcastInDim
    Cert.AdLnRefIdeal.S4x128 ![] Cert.AdLnRefIdeal.Gen.bcast_S_S4x128 (constant Cert.AdLnRefIdeal.S_ .f32
    0x3F666666#32)) a2) (mulf (broadcastInDim Cert.AdLnRefIdeal.S4x128 ![] Cert.AdLnRefIdeal.Gen.bcast_S_S4x128
    (constant Cert.AdLnRefIdeal.S_ .f32 0x3DCCCCCD#32)) a1)) (broadcastInDim Cert.AdLnRefIdeal.S4x128 ![]
    Cert.AdLnRefIdeal.Gen.bcast_S_S4x128 (constant Cert.AdLnRefIdeal.S_ .f32 0x3F26BD02#32))) (addf (Host.sqrt
    (Host.divf (addf (mulf (broadcastInDim Cert.AdLnRefIdeal.S4x128 ![] Cert.AdLnRefIdeal.Gen.bcast_S_S4x128 (constant
    Cert.AdLnRefIdeal.S_ .f32 0x3F7FBE77#32)) a3) (mulf (broadcastInDim Cert.AdLnRefIdeal.S4x128 ![]
    Cert.AdLnRefIdeal.Gen.bcast_S_S4x128 (constant Cert.AdLnRefIdeal.S_ .f32 0x3A83126F#32)) (mulf a1 a1)))
    (broadcastInDim Cert.AdLnRefIdeal.S4x128 ![] Cert.AdLnRefIdeal.Gen.bcast_S_S4x128 (constant Cert.AdLnRefIdeal.S_
    .f32 0x3C231ACC#32)))) (broadcastInDim Cert.AdLnRefIdeal.S4x128 ![] Cert.AdLnRefIdeal.Gen.bcast_S_S4x128 (constant
    Cert.AdLnRefIdeal.S_ .f32 0x322BCC77#32)))) (mulf (broadcastInDim Cert.AdLnRefIdeal.S4x128 ![]
    Cert.AdLnRefIdeal.Gen.bcast_S_S4x128 (constant Cert.AdLnRefIdeal.S_ .f32 0x3C23D70A#32)) a0))

/-- `Cert.AdLnRefIdeal`'s main_v4 as its composed term over its arguments main_arg1, main_arg2. -/
abbrev REF_v4 (a1 : FVec Ideal Cert.AdLnRefIdeal.S4x128 .f32) (a2 : FVec Ideal Cert.AdLnRefIdeal.S4x128 .f32) : FVec Ideal Cert.AdLnRefIdeal.S4x128 .f32 :=
  addf (mulf (broadcastInDim Cert.AdLnRefIdeal.S4x128 ![] Cert.AdLnRefIdeal.Gen.bcast_S_S4x128 (constant
    Cert.AdLnRefIdeal.S_ .f32 0x3F666666#32)) a2) (mulf (broadcastInDim Cert.AdLnRefIdeal.S4x128 ![]
    Cert.AdLnRefIdeal.Gen.bcast_S_S4x128 (constant Cert.AdLnRefIdeal.S_ .f32 0x3DCCCCCD#32)) a1)

/-- `Cert.AdLnRefIdeal`'s main_v10 as its composed term over its arguments main_arg1, main_arg3. -/
abbrev REF_v10 (a1 : FVec Ideal Cert.AdLnRefIdeal.S4x128 .f32) (a3 : FVec Ideal Cert.AdLnRefIdeal.S4x128 .f32) : FVec Ideal Cert.AdLnRefIdeal.S4x128 .f32 :=
  addf (mulf (broadcastInDim Cert.AdLnRefIdeal.S4x128 ![] Cert.AdLnRefIdeal.Gen.bcast_S_S4x128 (constant
    Cert.AdLnRefIdeal.S_ .f32 0x3F7FBE77#32)) a3) (mulf (broadcastInDim Cert.AdLnRefIdeal.S4x128 ![]
    Cert.AdLnRefIdeal.Gen.bcast_S_S4x128 (constant Cert.AdLnRefIdeal.S_ .f32 0x3A83126F#32)) (mulf a1 a1))

/-- every window's block index at every grid point, in closed form (decided). -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdLnValue

end
-- ==== Proof.AdPoolW.lean ====
/- The value of `Cert.AdPoolWIdeal`. -/
module

public import proofs.«01_k».proof.Proof.Gen.AdPoolWIdeal
public import proofs.«01_k».proof.Proof.Gen.AdPoolWIdeal.Frame
public import proofs.«01_k».proof.Proof.Gen.AdPoolWRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdPoolWValue

open Cert.AdPoolWIdeal Cert.AdPoolWIdeal.Gen

variable (m : (ℓ : Loc nD τ sig) → Buf (Elt Ideal) ℓ)

/-- `Cert.AdPoolWRefIdeal`'s main_v23 as its composed term over its arguments main_arg0, main_arg1, main_arg2, main_arg3. -/
abbrev REF_v23 (a0 : FVec Ideal Cert.AdPoolWRefIdeal.S128x256 .f32) (a1 : FVec Ideal Cert.AdPoolWRefIdeal.S128x256 .f32) (a2 : FVec Ideal Cert.AdPoolWRefIdeal.S128x256 .f32) (a3 : FVec Ideal Cert.AdPoolWRefIdeal.S128x256 .f32) : FVec Ideal Cert.AdPoolWRefIdeal.S128x256 .f32 :=
  mulf (broadcastInDim Cert.AdPoolWRefIdeal.S128x256 ![] Cert.AdPoolWRefIdeal.Gen.bcast_S_S128x256 (constant
    Cert.AdPoolWRefIdeal.S_ .f32 0xBA83126F#32)) (addf (Host.divf (Host.divf (addf (mulf (broadcastInDim
    Cert.AdPoolWRefIdeal.S128x256 ![] Cert.AdPoolWRefIdeal.Gen.bcast_S_S128x256 (constant Cert.AdPoolWRefIdeal.S_ .f32
    0x3F666666#32)) a2) (mulf (broadcastInDim Cert.AdPoolWRefIdeal.S128x256 ![]
    Cert.AdPoolWRefIdeal.Gen.bcast_S_S128x256 (constant Cert.AdPoolWRefIdeal.S_ .f32 0x3DCCCCCD#32)) a1))
    (broadcastInDim Cert.AdPoolWRefIdeal.S128x256 ![] Cert.AdPoolWRefIdeal.Gen.bcast_S_S128x256 (constant
    Cert.AdPoolWRefIdeal.S_ .f32 0x3F26BD02#32))) (addf (Host.sqrt (Host.divf (addf (mulf (broadcastInDim
    Cert.AdPoolWRefIdeal.S128x256 ![] Cert.AdPoolWRefIdeal.Gen.bcast_S_S128x256 (constant Cert.AdPoolWRefIdeal.S_ .f32
    0x3F7FBE77#32)) a3) (mulf (broadcastInDim Cert.AdPoolWRefIdeal.S128x256 ![]
    Cert.AdPoolWRefIdeal.Gen.bcast_S_S128x256 (constant Cert.AdPoolWRefIdeal.S_ .f32 0x3A83126F#32)) (mulf a1 a1)))
    (broadcastInDim Cert.AdPoolWRefIdeal.S128x256 ![] Cert.AdPoolWRefIdeal.Gen.bcast_S_S128x256 (constant
    Cert.AdPoolWRefIdeal.S_ .f32 0x3C231ACC#32)))) (broadcastInDim Cert.AdPoolWRefIdeal.S128x256 ![]
    Cert.AdPoolWRefIdeal.Gen.bcast_S_S128x256 (constant Cert.AdPoolWRefIdeal.S_ .f32 0x322BCC77#32)))) (mulf
    (broadcastInDim Cert.AdPoolWRefIdeal.S128x256 ![] Cert.AdPoolWRefIdeal.Gen.bcast_S_S128x256 (constant
    Cert.AdPoolWRefIdeal.S_ .f32 0x3C23D70A#32)) a0))

/-- `Cert.AdPoolWRefIdeal`'s main_v4 as its composed term over its arguments main_arg1, main_arg2. -/
abbrev REF_v4 (a1 : FVec Ideal Cert.AdPoolWRefIdeal.S128x256 .f32) (a2 : FVec Ideal Cert.AdPoolWRefIdeal.S128x256 .f32) : FVec Ideal Cert.AdPoolWRefIdeal.S128x256 .f32 :=
  addf (mulf (broadcastInDim Cert.AdPoolWRefIdeal.S128x256 ![] Cert.AdPoolWRefIdeal.Gen.bcast_S_S128x256 (constant
    Cert.AdPoolWRefIdeal.S_ .f32 0x3F666666#32)) a2) (mulf (broadcastInDim Cert.AdPoolWRefIdeal.S128x256 ![]
    Cert.AdPoolWRefIdeal.Gen.bcast_S_S128x256 (constant Cert.AdPoolWRefIdeal.S_ .f32 0x3DCCCCCD#32)) a1)

/-- `Cert.AdPoolWRefIdeal`'s main_v10 as its composed term over its arguments main_arg1, main_arg3. -/
abbrev REF_v10 (a1 : FVec Ideal Cert.AdPoolWRefIdeal.S128x256 .f32) (a3 : FVec Ideal Cert.AdPoolWRefIdeal.S128x256 .f32) : FVec Ideal Cert.AdPoolWRefIdeal.S128x256 .f32 :=
  addf (mulf (broadcastInDim Cert.AdPoolWRefIdeal.S128x256 ![] Cert.AdPoolWRefIdeal.Gen.bcast_S_S128x256 (constant
    Cert.AdPoolWRefIdeal.S_ .f32 0x3F7FBE77#32)) a3) (mulf (broadcastInDim Cert.AdPoolWRefIdeal.S128x256 ![]
    Cert.AdPoolWRefIdeal.Gen.bcast_S_S128x256 (constant Cert.AdPoolWRefIdeal.S_ .f32 0x3A83126F#32)) (mulf a1 a1))

/-- every window's block index at every grid point, in closed form (decided). -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdPoolWValue

end
-- ==== Proof.AdPoolB.lean ====
/- The value of `Cert.AdPoolBIdeal`. -/
module

public import proofs.«01_k».proof.Proof.Gen.AdPoolBIdeal
public import proofs.«01_k».proof.Proof.Gen.AdPoolBIdeal.Frame
public import proofs.«01_k».proof.Proof.Gen.AdPoolBRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdPoolBValue

open Cert.AdPoolBIdeal Cert.AdPoolBIdeal.Gen

variable (m : (ℓ : Loc nD τ sig) → Buf (Elt Ideal) ℓ)

/-- `Cert.AdPoolBRefIdeal`'s main_v23 as its composed term over its arguments main_arg0, main_arg1, main_arg2, main_arg3. -/
abbrev REF_v23 (a0 : FVec Ideal Cert.AdPoolBRefIdeal.S4x32 .f32) (a1 : FVec Ideal Cert.AdPoolBRefIdeal.S4x32 .f32) (a2 : FVec Ideal Cert.AdPoolBRefIdeal.S4x32 .f32) (a3 : FVec Ideal Cert.AdPoolBRefIdeal.S4x32 .f32) : FVec Ideal Cert.AdPoolBRefIdeal.S4x32 .f32 :=
  mulf (broadcastInDim Cert.AdPoolBRefIdeal.S4x32 ![] Cert.AdPoolBRefIdeal.Gen.bcast_S_S4x32 (constant
    Cert.AdPoolBRefIdeal.S_ .f32 0xBA83126F#32)) (addf (Host.divf (Host.divf (addf (mulf (broadcastInDim
    Cert.AdPoolBRefIdeal.S4x32 ![] Cert.AdPoolBRefIdeal.Gen.bcast_S_S4x32 (constant Cert.AdPoolBRefIdeal.S_ .f32
    0x3F666666#32)) a2) (mulf (broadcastInDim Cert.AdPoolBRefIdeal.S4x32 ![] Cert.AdPoolBRefIdeal.Gen.bcast_S_S4x32
    (constant Cert.AdPoolBRefIdeal.S_ .f32 0x3DCCCCCD#32)) a1)) (broadcastInDim Cert.AdPoolBRefIdeal.S4x32 ![]
    Cert.AdPoolBRefIdeal.Gen.bcast_S_S4x32 (constant Cert.AdPoolBRefIdeal.S_ .f32 0x3F26BD02#32))) (addf (Host.sqrt
    (Host.divf (addf (mulf (broadcastInDim Cert.AdPoolBRefIdeal.S4x32 ![] Cert.AdPoolBRefIdeal.Gen.bcast_S_S4x32
    (constant Cert.AdPoolBRefIdeal.S_ .f32 0x3F7FBE77#32)) a3) (mulf (broadcastInDim Cert.AdPoolBRefIdeal.S4x32 ![]
    Cert.AdPoolBRefIdeal.Gen.bcast_S_S4x32 (constant Cert.AdPoolBRefIdeal.S_ .f32 0x3A83126F#32)) (mulf a1 a1)))
    (broadcastInDim Cert.AdPoolBRefIdeal.S4x32 ![] Cert.AdPoolBRefIdeal.Gen.bcast_S_S4x32 (constant
    Cert.AdPoolBRefIdeal.S_ .f32 0x3C231ACC#32)))) (broadcastInDim Cert.AdPoolBRefIdeal.S4x32 ![]
    Cert.AdPoolBRefIdeal.Gen.bcast_S_S4x32 (constant Cert.AdPoolBRefIdeal.S_ .f32 0x322BCC77#32)))) (mulf
    (broadcastInDim Cert.AdPoolBRefIdeal.S4x32 ![] Cert.AdPoolBRefIdeal.Gen.bcast_S_S4x32 (constant
    Cert.AdPoolBRefIdeal.S_ .f32 0x3C23D70A#32)) a0))

/-- `Cert.AdPoolBRefIdeal`'s main_v4 as its composed term over its arguments main_arg1, main_arg2. -/
abbrev REF_v4 (a1 : FVec Ideal Cert.AdPoolBRefIdeal.S4x32 .f32) (a2 : FVec Ideal Cert.AdPoolBRefIdeal.S4x32 .f32) : FVec Ideal Cert.AdPoolBRefIdeal.S4x32 .f32 :=
  addf (mulf (broadcastInDim Cert.AdPoolBRefIdeal.S4x32 ![] Cert.AdPoolBRefIdeal.Gen.bcast_S_S4x32 (constant
    Cert.AdPoolBRefIdeal.S_ .f32 0x3F666666#32)) a2) (mulf (broadcastInDim Cert.AdPoolBRefIdeal.S4x32 ![]
    Cert.AdPoolBRefIdeal.Gen.bcast_S_S4x32 (constant Cert.AdPoolBRefIdeal.S_ .f32 0x3DCCCCCD#32)) a1)

/-- `Cert.AdPoolBRefIdeal`'s main_v10 as its composed term over its arguments main_arg1, main_arg3. -/
abbrev REF_v10 (a1 : FVec Ideal Cert.AdPoolBRefIdeal.S4x32 .f32) (a3 : FVec Ideal Cert.AdPoolBRefIdeal.S4x32 .f32) : FVec Ideal Cert.AdPoolBRefIdeal.S4x32 .f32 :=
  addf (mulf (broadcastInDim Cert.AdPoolBRefIdeal.S4x32 ![] Cert.AdPoolBRefIdeal.Gen.bcast_S_S4x32 (constant
    Cert.AdPoolBRefIdeal.S_ .f32 0x3F7FBE77#32)) a3) (mulf (broadcastInDim Cert.AdPoolBRefIdeal.S4x32 ![]
    Cert.AdPoolBRefIdeal.Gen.bcast_S_S4x32 (constant Cert.AdPoolBRefIdeal.S_ .f32 0x3A83126F#32)) (mulf a1 a1))

/-- every window's block index at every grid point, in closed form (decided). -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdPoolBValue

end
-- ==== Proof.AdPoolS.lean ====
/- The value of `Cert.AdPoolSIdeal`. -/
module

public import proofs.«01_k».proof.Proof.Gen.AdPoolSIdeal
public import proofs.«01_k».proof.Proof.Gen.AdPoolSIdeal.Frame
public import proofs.«01_k».proof.Proof.Gen.AdPoolSRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdPoolSValue

open Cert.AdPoolSIdeal Cert.AdPoolSIdeal.Gen

variable (m : (ℓ : Loc nD τ sig) → Buf (Elt Ideal) ℓ)

/-- `Cert.AdPoolSRefIdeal`'s main_v23 as its composed term over its arguments main_arg0, main_arg1, main_arg2, main_arg3. -/
abbrev REF_v23 (a0 : FVec Ideal Cert.AdPoolSRefIdeal.S1x1024 .f32) (a1 : FVec Ideal Cert.AdPoolSRefIdeal.S1x1024 .f32) (a2 : FVec Ideal Cert.AdPoolSRefIdeal.S1x1024 .f32) (a3 : FVec Ideal Cert.AdPoolSRefIdeal.S1x1024 .f32) : FVec Ideal Cert.AdPoolSRefIdeal.S1x1024 .f32 :=
  mulf (broadcastInDim Cert.AdPoolSRefIdeal.S1x1024 ![] Cert.AdPoolSRefIdeal.Gen.bcast_S_S1x1024 (constant
    Cert.AdPoolSRefIdeal.S_ .f32 0xBA83126F#32)) (addf (Host.divf (Host.divf (addf (mulf (broadcastInDim
    Cert.AdPoolSRefIdeal.S1x1024 ![] Cert.AdPoolSRefIdeal.Gen.bcast_S_S1x1024 (constant Cert.AdPoolSRefIdeal.S_ .f32
    0x3F666666#32)) a2) (mulf (broadcastInDim Cert.AdPoolSRefIdeal.S1x1024 ![] Cert.AdPoolSRefIdeal.Gen.bcast_S_S1x1024
    (constant Cert.AdPoolSRefIdeal.S_ .f32 0x3DCCCCCD#32)) a1)) (broadcastInDim Cert.AdPoolSRefIdeal.S1x1024 ![]
    Cert.AdPoolSRefIdeal.Gen.bcast_S_S1x1024 (constant Cert.AdPoolSRefIdeal.S_ .f32 0x3F26BD02#32))) (addf (Host.sqrt
    (Host.divf (addf (mulf (broadcastInDim Cert.AdPoolSRefIdeal.S1x1024 ![] Cert.AdPoolSRefIdeal.Gen.bcast_S_S1x1024
    (constant Cert.AdPoolSRefIdeal.S_ .f32 0x3F7FBE77#32)) a3) (mulf (broadcastInDim Cert.AdPoolSRefIdeal.S1x1024 ![]
    Cert.AdPoolSRefIdeal.Gen.bcast_S_S1x1024 (constant Cert.AdPoolSRefIdeal.S_ .f32 0x3A83126F#32)) (mulf a1 a1)))
    (broadcastInDim Cert.AdPoolSRefIdeal.S1x1024 ![] Cert.AdPoolSRefIdeal.Gen.bcast_S_S1x1024 (constant
    Cert.AdPoolSRefIdeal.S_ .f32 0x3C231ACC#32)))) (broadcastInDim Cert.AdPoolSRefIdeal.S1x1024 ![]
    Cert.AdPoolSRefIdeal.Gen.bcast_S_S1x1024 (constant Cert.AdPoolSRefIdeal.S_ .f32 0x322BCC77#32)))) (mulf
    (broadcastInDim Cert.AdPoolSRefIdeal.S1x1024 ![] Cert.AdPoolSRefIdeal.Gen.bcast_S_S1x1024 (constant
    Cert.AdPoolSRefIdeal.S_ .f32 0x3C23D70A#32)) a0))

/-- `Cert.AdPoolSRefIdeal`'s main_v4 as its composed term over its arguments main_arg1, main_arg2. -/
abbrev REF_v4 (a1 : FVec Ideal Cert.AdPoolSRefIdeal.S1x1024 .f32) (a2 : FVec Ideal Cert.AdPoolSRefIdeal.S1x1024 .f32) : FVec Ideal Cert.AdPoolSRefIdeal.S1x1024 .f32 :=
  addf (mulf (broadcastInDim Cert.AdPoolSRefIdeal.S1x1024 ![] Cert.AdPoolSRefIdeal.Gen.bcast_S_S1x1024 (constant
    Cert.AdPoolSRefIdeal.S_ .f32 0x3F666666#32)) a2) (mulf (broadcastInDim Cert.AdPoolSRefIdeal.S1x1024 ![]
    Cert.AdPoolSRefIdeal.Gen.bcast_S_S1x1024 (constant Cert.AdPoolSRefIdeal.S_ .f32 0x3DCCCCCD#32)) a1)

/-- `Cert.AdPoolSRefIdeal`'s main_v10 as its composed term over its arguments main_arg1, main_arg3. -/
abbrev REF_v10 (a1 : FVec Ideal Cert.AdPoolSRefIdeal.S1x1024 .f32) (a3 : FVec Ideal Cert.AdPoolSRefIdeal.S1x1024 .f32) : FVec Ideal Cert.AdPoolSRefIdeal.S1x1024 .f32 :=
  addf (mulf (broadcastInDim Cert.AdPoolSRefIdeal.S1x1024 ![] Cert.AdPoolSRefIdeal.Gen.bcast_S_S1x1024 (constant
    Cert.AdPoolSRefIdeal.S_ .f32 0x3F7FBE77#32)) a3) (mulf (broadcastInDim Cert.AdPoolSRefIdeal.S1x1024 ![]
    Cert.AdPoolSRefIdeal.Gen.bcast_S_S1x1024 (constant Cert.AdPoolSRefIdeal.S_ .f32 0x3A83126F#32)) (mulf a1 a1))

/-- every window's block index at every grid point, in closed form (decided). -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdPoolSValue

end
-- ==== Proof.AdIn.lean ====
/- The value of `Cert.AdInIdeal`. -/
module

public import proofs.«01_k».proof.Proof.Gen.AdInIdeal
public import proofs.«01_k».proof.Proof.Gen.AdInIdeal.Frame
public import proofs.«01_k».proof.Proof.Gen.AdInRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdInValue

open Cert.AdInIdeal Cert.AdInIdeal.Gen

variable (m : (ℓ : Loc nD τ sig) → Buf (Elt Ideal) ℓ)

/-- `Cert.AdInRefIdeal`'s main_v23 as its composed term over its arguments main_arg0, main_arg1, main_arg2, main_arg3. -/
abbrev REF_v23 (a0 : FVec Ideal Cert.AdInRefIdeal.S1024x514 .f32) (a1 : FVec Ideal Cert.AdInRefIdeal.S1024x514 .f32) (a2 : FVec Ideal Cert.AdInRefIdeal.S1024x514 .f32) (a3 : FVec Ideal Cert.AdInRefIdeal.S1024x514 .f32) : FVec Ideal Cert.AdInRefIdeal.S1024x514 .f32 :=
  mulf (broadcastInDim Cert.AdInRefIdeal.S1024x514 ![] Cert.AdInRefIdeal.Gen.bcast_S_S1024x514 (constant
    Cert.AdInRefIdeal.S_ .f32 0xBA83126F#32)) (addf (Host.divf (Host.divf (addf (mulf (broadcastInDim
    Cert.AdInRefIdeal.S1024x514 ![] Cert.AdInRefIdeal.Gen.bcast_S_S1024x514 (constant Cert.AdInRefIdeal.S_ .f32
    0x3F666666#32)) a2) (mulf (broadcastInDim Cert.AdInRefIdeal.S1024x514 ![] Cert.AdInRefIdeal.Gen.bcast_S_S1024x514
    (constant Cert.AdInRefIdeal.S_ .f32 0x3DCCCCCD#32)) a1)) (broadcastInDim Cert.AdInRefIdeal.S1024x514 ![]
    Cert.AdInRefIdeal.Gen.bcast_S_S1024x514 (constant Cert.AdInRefIdeal.S_ .f32 0x3F26BD02#32))) (addf (Host.sqrt
    (Host.divf (addf (mulf (broadcastInDim Cert.AdInRefIdeal.S1024x514 ![] Cert.AdInRefIdeal.Gen.bcast_S_S1024x514
    (constant Cert.AdInRefIdeal.S_ .f32 0x3F7FBE77#32)) a3) (mulf (broadcastInDim Cert.AdInRefIdeal.S1024x514 ![]
    Cert.AdInRefIdeal.Gen.bcast_S_S1024x514 (constant Cert.AdInRefIdeal.S_ .f32 0x3A83126F#32)) (mulf a1 a1)))
    (broadcastInDim Cert.AdInRefIdeal.S1024x514 ![] Cert.AdInRefIdeal.Gen.bcast_S_S1024x514 (constant
    Cert.AdInRefIdeal.S_ .f32 0x3C231ACC#32)))) (broadcastInDim Cert.AdInRefIdeal.S1024x514 ![]
    Cert.AdInRefIdeal.Gen.bcast_S_S1024x514 (constant Cert.AdInRefIdeal.S_ .f32 0x322BCC77#32)))) (mulf (broadcastInDim
    Cert.AdInRefIdeal.S1024x514 ![] Cert.AdInRefIdeal.Gen.bcast_S_S1024x514 (constant Cert.AdInRefIdeal.S_ .f32
    0x3C23D70A#32)) a0))

/-- `Cert.AdInRefIdeal`'s main_v4 as its composed term over its arguments main_arg1, main_arg2. -/
abbrev REF_v4 (a1 : FVec Ideal Cert.AdInRefIdeal.S1024x514 .f32) (a2 : FVec Ideal Cert.AdInRefIdeal.S1024x514 .f32) : FVec Ideal Cert.AdInRefIdeal.S1024x514 .f32 :=
  addf (mulf (broadcastInDim Cert.AdInRefIdeal.S1024x514 ![] Cert.AdInRefIdeal.Gen.bcast_S_S1024x514 (constant
    Cert.AdInRefIdeal.S_ .f32 0x3F666666#32)) a2) (mulf (broadcastInDim Cert.AdInRefIdeal.S1024x514 ![]
    Cert.AdInRefIdeal.Gen.bcast_S_S1024x514 (constant Cert.AdInRefIdeal.S_ .f32 0x3DCCCCCD#32)) a1)

/-- `Cert.AdInRefIdeal`'s main_v10 as its composed term over its arguments main_arg1, main_arg3. -/
abbrev REF_v10 (a1 : FVec Ideal Cert.AdInRefIdeal.S1024x514 .f32) (a3 : FVec Ideal Cert.AdInRefIdeal.S1024x514 .f32) : FVec Ideal Cert.AdInRefIdeal.S1024x514 .f32 :=
  addf (mulf (broadcastInDim Cert.AdInRefIdeal.S1024x514 ![] Cert.AdInRefIdeal.Gen.bcast_S_S1024x514 (constant
    Cert.AdInRefIdeal.S_ .f32 0x3F7FBE77#32)) a3) (mulf (broadcastInDim Cert.AdInRefIdeal.S1024x514 ![]
    Cert.AdInRefIdeal.Gen.bcast_S_S1024x514 (constant Cert.AdInRefIdeal.S_ .f32 0x3A83126F#32)) (mulf a1 a1))

/-- every window's block index at every grid point, in closed form (decided). -/
theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx_val t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx_val t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx_val t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdInValue

end
-- ==== Proof.AdConv.lean ====
/- The value of `Cert.AdConvIdeal`. -/
module

public import proofs.«01_k».proof.Proof.Gen.AdConvIdeal
public import proofs.«01_k».proof.Proof.Gen.AdConvIdeal.Frame
public import proofs.«01_k».proof.Proof.Gen.AdConvRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdConvValue

open Cert.AdConvIdeal Cert.AdConvIdeal.Gen

variable (m : (ℓ : Loc nD τ sig) → Buf (Elt Ideal) ℓ)

/-- `Cert.AdConvRefIdeal`'s main_v23 as its composed term over its arguments main_arg0, main_arg1, main_arg2, main_arg3. -/
abbrev REF_v23 (a0 : FVec Ideal Cert.AdConvRefIdeal.S4x384 .f32) (a1 : FVec Ideal Cert.AdConvRefIdeal.S4x384 .f32) (a2 : FVec Ideal Cert.AdConvRefIdeal.S4x384 .f32) (a3 : FVec Ideal Cert.AdConvRefIdeal.S4x384 .f32) : FVec Ideal Cert.AdConvRefIdeal.S4x384 .f32 :=
  mulf (broadcastInDim Cert.AdConvRefIdeal.S4x384 ![] Cert.AdConvRefIdeal.Gen.bcast_S_S4x384 (constant
    Cert.AdConvRefIdeal.S_ .f32 0xBA83126F#32)) (addf (Host.divf (Host.divf (addf (mulf (broadcastInDim
    Cert.AdConvRefIdeal.S4x384 ![] Cert.AdConvRefIdeal.Gen.bcast_S_S4x384 (constant Cert.AdConvRefIdeal.S_ .f32
    0x3F666666#32)) a2) (mulf (broadcastInDim Cert.AdConvRefIdeal.S4x384 ![] Cert.AdConvRefIdeal.Gen.bcast_S_S4x384
    (constant Cert.AdConvRefIdeal.S_ .f32 0x3DCCCCCD#32)) a1)) (broadcastInDim Cert.AdConvRefIdeal.S4x384 ![]
    Cert.AdConvRefIdeal.Gen.bcast_S_S4x384 (constant Cert.AdConvRefIdeal.S_ .f32 0x3F26BD02#32))) (addf (Host.sqrt
    (Host.divf (addf (mulf (broadcastInDim Cert.AdConvRefIdeal.S4x384 ![] Cert.AdConvRefIdeal.Gen.bcast_S_S4x384
    (constant Cert.AdConvRefIdeal.S_ .f32 0x3F7FBE77#32)) a3) (mulf (broadcastInDim Cert.AdConvRefIdeal.S4x384 ![]
    Cert.AdConvRefIdeal.Gen.bcast_S_S4x384 (constant Cert.AdConvRefIdeal.S_ .f32 0x3A83126F#32)) (mulf a1 a1)))
    (broadcastInDim Cert.AdConvRefIdeal.S4x384 ![] Cert.AdConvRefIdeal.Gen.bcast_S_S4x384 (constant
    Cert.AdConvRefIdeal.S_ .f32 0x3C231ACC#32)))) (broadcastInDim Cert.AdConvRefIdeal.S4x384 ![]
    Cert.AdConvRefIdeal.Gen.bcast_S_S4x384 (constant Cert.AdConvRefIdeal.S_ .f32 0x322BCC77#32)))) (mulf (broadcastInDim
    Cert.AdConvRefIdeal.S4x384 ![] Cert.AdConvRefIdeal.Gen.bcast_S_S4x384 (constant Cert.AdConvRefIdeal.S_ .f32
    0x3C23D70A#32)) a0))

/-- `Cert.AdConvRefIdeal`'s main_v4 as its composed term over its arguments main_arg1, main_arg2. -/
abbrev REF_v4 (a1 : FVec Ideal Cert.AdConvRefIdeal.S4x384 .f32) (a2 : FVec Ideal Cert.AdConvRefIdeal.S4x384 .f32) : FVec Ideal Cert.AdConvRefIdeal.S4x384 .f32 :=
  addf (mulf (broadcastInDim Cert.AdConvRefIdeal.S4x384 ![] Cert.AdConvRefIdeal.Gen.bcast_S_S4x384 (constant
    Cert.AdConvRefIdeal.S_ .f32 0x3F666666#32)) a2) (mulf (broadcastInDim Cert.AdConvRefIdeal.S4x384 ![]
    Cert.AdConvRefIdeal.Gen.bcast_S_S4x384 (constant Cert.AdConvRefIdeal.S_ .f32 0x3DCCCCCD#32)) a1)

/-- `Cert.AdConvRefIdeal`'s main_v10 as its composed term over its arguments main_arg1, main_arg3. -/
abbrev REF_v10 (a1 : FVec Ideal Cert.AdConvRefIdeal.S4x384 .f32) (a3 : FVec Ideal Cert.AdConvRefIdeal.S4x384 .f32) : FVec Ideal Cert.AdConvRefIdeal.S4x384 .f32 :=
  addf (mulf (broadcastInDim Cert.AdConvRefIdeal.S4x384 ![] Cert.AdConvRefIdeal.Gen.bcast_S_S4x384 (constant
    Cert.AdConvRefIdeal.S_ .f32 0x3F7FBE77#32)) a3) (mulf (broadcastInDim Cert.AdConvRefIdeal.S4x384 ![]
    Cert.AdConvRefIdeal.Gen.bcast_S_S4x384 (constant Cert.AdConvRefIdeal.S_ .f32 0x3A83126F#32)) (mulf a1 a1))

/-- every window's block index at every grid point, in closed form (decided). -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdConvValue

end
-- ==== Proof.AdHeads.lean ====
/- The value of `Cert.AdHeadsIdeal`. -/
module

public import proofs.«01_k».proof.Proof.Gen.AdHeadsIdeal
public import proofs.«01_k».proof.Proof.Gen.AdHeadsIdeal.Frame
public import proofs.«01_k».proof.Proof.Gen.AdHeadsRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdHeadsValue

open Cert.AdHeadsIdeal Cert.AdHeadsIdeal.Gen

variable (m : (ℓ : Loc nD τ sig) → Buf (Elt Ideal) ℓ)

/-- `Cert.AdHeadsRefIdeal`'s main_v23 as its composed term over its arguments main_arg0, main_arg1, main_arg2, main_arg3. -/
abbrev REF_v23 (a0 : FVec Ideal Cert.AdHeadsRefIdeal.S1x8 .f32) (a1 : FVec Ideal Cert.AdHeadsRefIdeal.S1x8 .f32) (a2 : FVec Ideal Cert.AdHeadsRefIdeal.S1x8 .f32) (a3 : FVec Ideal Cert.AdHeadsRefIdeal.S1x8 .f32) : FVec Ideal Cert.AdHeadsRefIdeal.S1x8 .f32 :=
  mulf (broadcastInDim Cert.AdHeadsRefIdeal.S1x8 ![] Cert.AdHeadsRefIdeal.Gen.bcast_S_S1x8 (constant
    Cert.AdHeadsRefIdeal.S_ .f32 0xBA83126F#32)) (addf (Host.divf (Host.divf (addf (mulf (broadcastInDim
    Cert.AdHeadsRefIdeal.S1x8 ![] Cert.AdHeadsRefIdeal.Gen.bcast_S_S1x8 (constant Cert.AdHeadsRefIdeal.S_ .f32
    0x3F666666#32)) a2) (mulf (broadcastInDim Cert.AdHeadsRefIdeal.S1x8 ![] Cert.AdHeadsRefIdeal.Gen.bcast_S_S1x8
    (constant Cert.AdHeadsRefIdeal.S_ .f32 0x3DCCCCCD#32)) a1)) (broadcastInDim Cert.AdHeadsRefIdeal.S1x8 ![]
    Cert.AdHeadsRefIdeal.Gen.bcast_S_S1x8 (constant Cert.AdHeadsRefIdeal.S_ .f32 0x3F26BD02#32))) (addf (Host.sqrt
    (Host.divf (addf (mulf (broadcastInDim Cert.AdHeadsRefIdeal.S1x8 ![] Cert.AdHeadsRefIdeal.Gen.bcast_S_S1x8 (constant
    Cert.AdHeadsRefIdeal.S_ .f32 0x3F7FBE77#32)) a3) (mulf (broadcastInDim Cert.AdHeadsRefIdeal.S1x8 ![]
    Cert.AdHeadsRefIdeal.Gen.bcast_S_S1x8 (constant Cert.AdHeadsRefIdeal.S_ .f32 0x3A83126F#32)) (mulf a1 a1)))
    (broadcastInDim Cert.AdHeadsRefIdeal.S1x8 ![] Cert.AdHeadsRefIdeal.Gen.bcast_S_S1x8 (constant
    Cert.AdHeadsRefIdeal.S_ .f32 0x3C231ACC#32)))) (broadcastInDim Cert.AdHeadsRefIdeal.S1x8 ![]
    Cert.AdHeadsRefIdeal.Gen.bcast_S_S1x8 (constant Cert.AdHeadsRefIdeal.S_ .f32 0x322BCC77#32)))) (mulf (broadcastInDim
    Cert.AdHeadsRefIdeal.S1x8 ![] Cert.AdHeadsRefIdeal.Gen.bcast_S_S1x8 (constant Cert.AdHeadsRefIdeal.S_ .f32
    0x3C23D70A#32)) a0))

/-- `Cert.AdHeadsRefIdeal`'s main_v4 as its composed term over its arguments main_arg1, main_arg2. -/
abbrev REF_v4 (a1 : FVec Ideal Cert.AdHeadsRefIdeal.S1x8 .f32) (a2 : FVec Ideal Cert.AdHeadsRefIdeal.S1x8 .f32) : FVec Ideal Cert.AdHeadsRefIdeal.S1x8 .f32 :=
  addf (mulf (broadcastInDim Cert.AdHeadsRefIdeal.S1x8 ![] Cert.AdHeadsRefIdeal.Gen.bcast_S_S1x8 (constant
    Cert.AdHeadsRefIdeal.S_ .f32 0x3F666666#32)) a2) (mulf (broadcastInDim Cert.AdHeadsRefIdeal.S1x8 ![]
    Cert.AdHeadsRefIdeal.Gen.bcast_S_S1x8 (constant Cert.AdHeadsRefIdeal.S_ .f32 0x3DCCCCCD#32)) a1)

/-- `Cert.AdHeadsRefIdeal`'s main_v10 as its composed term over its arguments main_arg1, main_arg3. -/
abbrev REF_v10 (a1 : FVec Ideal Cert.AdHeadsRefIdeal.S1x8 .f32) (a3 : FVec Ideal Cert.AdHeadsRefIdeal.S1x8 .f32) : FVec Ideal Cert.AdHeadsRefIdeal.S1x8 .f32 :=
  addf (mulf (broadcastInDim Cert.AdHeadsRefIdeal.S1x8 ![] Cert.AdHeadsRefIdeal.Gen.bcast_S_S1x8 (constant
    Cert.AdHeadsRefIdeal.S_ .f32 0x3F7FBE77#32)) a3) (mulf (broadcastInDim Cert.AdHeadsRefIdeal.S1x8 ![]
    Cert.AdHeadsRefIdeal.Gen.bcast_S_S1x8 (constant Cert.AdHeadsRefIdeal.S_ .f32 0x3A83126F#32)) (mulf a1 a1))

/-- every window's block index at every grid point, in closed form (decided). -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdHeadsValue

end
-- ==== Proof.AdNorm.lean ====
/- The value of `Cert.AdNormIdeal`. -/
module

public import proofs.«01_k».proof.Proof.Gen.AdNormIdeal
public import proofs.«01_k».proof.Proof.Gen.AdNormIdeal.Frame
public import proofs.«01_k».proof.Proof.Gen.AdNormRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdNormValue

open Cert.AdNormIdeal Cert.AdNormIdeal.Gen

variable (m : (ℓ : Loc nD τ sig) → Buf (Elt Ideal) ℓ)

/-- `Cert.AdNormRefIdeal`'s main_v23 as its composed term over its arguments main_arg0, main_arg1, main_arg2, main_arg3. -/
abbrev REF_v23 (a0 : FVec Ideal Cert.AdNormRefIdeal.S1x128 .f32) (a1 : FVec Ideal Cert.AdNormRefIdeal.S1x128 .f32) (a2 : FVec Ideal Cert.AdNormRefIdeal.S1x128 .f32) (a3 : FVec Ideal Cert.AdNormRefIdeal.S1x128 .f32) : FVec Ideal Cert.AdNormRefIdeal.S1x128 .f32 :=
  mulf (broadcastInDim Cert.AdNormRefIdeal.S1x128 ![] Cert.AdNormRefIdeal.Gen.bcast_S_S1x128 (constant
    Cert.AdNormRefIdeal.S_ .f32 0xBA83126F#32)) (addf (Host.divf (Host.divf (addf (mulf (broadcastInDim
    Cert.AdNormRefIdeal.S1x128 ![] Cert.AdNormRefIdeal.Gen.bcast_S_S1x128 (constant Cert.AdNormRefIdeal.S_ .f32
    0x3F666666#32)) a2) (mulf (broadcastInDim Cert.AdNormRefIdeal.S1x128 ![] Cert.AdNormRefIdeal.Gen.bcast_S_S1x128
    (constant Cert.AdNormRefIdeal.S_ .f32 0x3DCCCCCD#32)) a1)) (broadcastInDim Cert.AdNormRefIdeal.S1x128 ![]
    Cert.AdNormRefIdeal.Gen.bcast_S_S1x128 (constant Cert.AdNormRefIdeal.S_ .f32 0x3F26BD02#32))) (addf (Host.sqrt
    (Host.divf (addf (mulf (broadcastInDim Cert.AdNormRefIdeal.S1x128 ![] Cert.AdNormRefIdeal.Gen.bcast_S_S1x128
    (constant Cert.AdNormRefIdeal.S_ .f32 0x3F7FBE77#32)) a3) (mulf (broadcastInDim Cert.AdNormRefIdeal.S1x128 ![]
    Cert.AdNormRefIdeal.Gen.bcast_S_S1x128 (constant Cert.AdNormRefIdeal.S_ .f32 0x3A83126F#32)) (mulf a1 a1)))
    (broadcastInDim Cert.AdNormRefIdeal.S1x128 ![] Cert.AdNormRefIdeal.Gen.bcast_S_S1x128 (constant
    Cert.AdNormRefIdeal.S_ .f32 0x3C231ACC#32)))) (broadcastInDim Cert.AdNormRefIdeal.S1x128 ![]
    Cert.AdNormRefIdeal.Gen.bcast_S_S1x128 (constant Cert.AdNormRefIdeal.S_ .f32 0x322BCC77#32)))) (mulf (broadcastInDim
    Cert.AdNormRefIdeal.S1x128 ![] Cert.AdNormRefIdeal.Gen.bcast_S_S1x128 (constant Cert.AdNormRefIdeal.S_ .f32
    0x3C23D70A#32)) a0))

/-- `Cert.AdNormRefIdeal`'s main_v4 as its composed term over its arguments main_arg1, main_arg2. -/
abbrev REF_v4 (a1 : FVec Ideal Cert.AdNormRefIdeal.S1x128 .f32) (a2 : FVec Ideal Cert.AdNormRefIdeal.S1x128 .f32) : FVec Ideal Cert.AdNormRefIdeal.S1x128 .f32 :=
  addf (mulf (broadcastInDim Cert.AdNormRefIdeal.S1x128 ![] Cert.AdNormRefIdeal.Gen.bcast_S_S1x128 (constant
    Cert.AdNormRefIdeal.S_ .f32 0x3F666666#32)) a2) (mulf (broadcastInDim Cert.AdNormRefIdeal.S1x128 ![]
    Cert.AdNormRefIdeal.Gen.bcast_S_S1x128 (constant Cert.AdNormRefIdeal.S_ .f32 0x3DCCCCCD#32)) a1)

/-- `Cert.AdNormRefIdeal`'s main_v10 as its composed term over its arguments main_arg1, main_arg3. -/
abbrev REF_v10 (a1 : FVec Ideal Cert.AdNormRefIdeal.S1x128 .f32) (a3 : FVec Ideal Cert.AdNormRefIdeal.S1x128 .f32) : FVec Ideal Cert.AdNormRefIdeal.S1x128 .f32 :=
  addf (mulf (broadcastInDim Cert.AdNormRefIdeal.S1x128 ![] Cert.AdNormRefIdeal.Gen.bcast_S_S1x128 (constant
    Cert.AdNormRefIdeal.S_ .f32 0x3F7FBE77#32)) a3) (mulf (broadcastInDim Cert.AdNormRefIdeal.S1x128 ![]
    Cert.AdNormRefIdeal.Gen.bcast_S_S1x128 (constant Cert.AdNormRefIdeal.S_ .f32 0x3A83126F#32)) (mulf a1 a1))

/-- every window's block index at every grid point, in closed form (decided). -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdNormValue

end
-- ==== Proof.AdOut.lean ====
/- The value of `Cert.AdOutIdeal`. -/
module

public import proofs.«01_k».proof.Proof.Gen.AdOutIdeal
public import proofs.«01_k».proof.Proof.Gen.AdOutIdeal.Frame
public import proofs.«01_k».proof.Proof.Gen.AdOutRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdOutValue

open Cert.AdOutIdeal Cert.AdOutIdeal.Gen

variable (m : (ℓ : Loc nD τ sig) → Buf (Elt Ideal) ℓ)

/-- `Cert.AdOutRefIdeal`'s main_v23 as its composed term over its arguments main_arg0, main_arg1, main_arg2, main_arg3. -/
abbrev REF_v23 (a0 : FVec Ideal Cert.AdOutRefIdeal.S128x1024 .f32) (a1 : FVec Ideal Cert.AdOutRefIdeal.S128x1024 .f32) (a2 : FVec Ideal Cert.AdOutRefIdeal.S128x1024 .f32) (a3 : FVec Ideal Cert.AdOutRefIdeal.S128x1024 .f32) : FVec Ideal Cert.AdOutRefIdeal.S128x1024 .f32 :=
  mulf (broadcastInDim Cert.AdOutRefIdeal.S128x1024 ![] Cert.AdOutRefIdeal.Gen.bcast_S_S128x1024 (constant
    Cert.AdOutRefIdeal.S_ .f32 0xBA83126F#32)) (addf (Host.divf (Host.divf (addf (mulf (broadcastInDim
    Cert.AdOutRefIdeal.S128x1024 ![] Cert.AdOutRefIdeal.Gen.bcast_S_S128x1024 (constant Cert.AdOutRefIdeal.S_ .f32
    0x3F666666#32)) a2) (mulf (broadcastInDim Cert.AdOutRefIdeal.S128x1024 ![] Cert.AdOutRefIdeal.Gen.bcast_S_S128x1024
    (constant Cert.AdOutRefIdeal.S_ .f32 0x3DCCCCCD#32)) a1)) (broadcastInDim Cert.AdOutRefIdeal.S128x1024 ![]
    Cert.AdOutRefIdeal.Gen.bcast_S_S128x1024 (constant Cert.AdOutRefIdeal.S_ .f32 0x3F26BD02#32))) (addf (Host.sqrt
    (Host.divf (addf (mulf (broadcastInDim Cert.AdOutRefIdeal.S128x1024 ![] Cert.AdOutRefIdeal.Gen.bcast_S_S128x1024
    (constant Cert.AdOutRefIdeal.S_ .f32 0x3F7FBE77#32)) a3) (mulf (broadcastInDim Cert.AdOutRefIdeal.S128x1024 ![]
    Cert.AdOutRefIdeal.Gen.bcast_S_S128x1024 (constant Cert.AdOutRefIdeal.S_ .f32 0x3A83126F#32)) (mulf a1 a1)))
    (broadcastInDim Cert.AdOutRefIdeal.S128x1024 ![] Cert.AdOutRefIdeal.Gen.bcast_S_S128x1024 (constant
    Cert.AdOutRefIdeal.S_ .f32 0x3C231ACC#32)))) (broadcastInDim Cert.AdOutRefIdeal.S128x1024 ![]
    Cert.AdOutRefIdeal.Gen.bcast_S_S128x1024 (constant Cert.AdOutRefIdeal.S_ .f32 0x322BCC77#32)))) (mulf
    (broadcastInDim Cert.AdOutRefIdeal.S128x1024 ![] Cert.AdOutRefIdeal.Gen.bcast_S_S128x1024 (constant
    Cert.AdOutRefIdeal.S_ .f32 0x3C23D70A#32)) a0))

/-- `Cert.AdOutRefIdeal`'s main_v4 as its composed term over its arguments main_arg1, main_arg2. -/
abbrev REF_v4 (a1 : FVec Ideal Cert.AdOutRefIdeal.S128x1024 .f32) (a2 : FVec Ideal Cert.AdOutRefIdeal.S128x1024 .f32) : FVec Ideal Cert.AdOutRefIdeal.S128x1024 .f32 :=
  addf (mulf (broadcastInDim Cert.AdOutRefIdeal.S128x1024 ![] Cert.AdOutRefIdeal.Gen.bcast_S_S128x1024 (constant
    Cert.AdOutRefIdeal.S_ .f32 0x3F666666#32)) a2) (mulf (broadcastInDim Cert.AdOutRefIdeal.S128x1024 ![]
    Cert.AdOutRefIdeal.Gen.bcast_S_S128x1024 (constant Cert.AdOutRefIdeal.S_ .f32 0x3DCCCCCD#32)) a1)

/-- `Cert.AdOutRefIdeal`'s main_v10 as its composed term over its arguments main_arg1, main_arg3. -/
abbrev REF_v10 (a1 : FVec Ideal Cert.AdOutRefIdeal.S128x1024 .f32) (a3 : FVec Ideal Cert.AdOutRefIdeal.S128x1024 .f32) : FVec Ideal Cert.AdOutRefIdeal.S128x1024 .f32 :=
  addf (mulf (broadcastInDim Cert.AdOutRefIdeal.S128x1024 ![] Cert.AdOutRefIdeal.Gen.bcast_S_S128x1024 (constant
    Cert.AdOutRefIdeal.S_ .f32 0x3F7FBE77#32)) a3) (mulf (broadcastInDim Cert.AdOutRefIdeal.S128x1024 ![]
    Cert.AdOutRefIdeal.Gen.bcast_S_S128x1024 (constant Cert.AdOutRefIdeal.S_ .f32 0x3A83126F#32)) (mulf a1 a1))

/-- every window's block index at every grid point, in closed form (decided). -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdOutValue

end
-- ==== Proof.AdOne.lean ====
/- The value of `Cert.AdOneIdeal`. -/
module

public import proofs.«01_k».proof.Proof.Gen.AdOneIdeal
public import proofs.«01_k».proof.Proof.Gen.AdOneIdeal.Frame
public import proofs.«01_k».proof.Proof.Gen.AdOneRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdOneValue

open Cert.AdOneIdeal Cert.AdOneIdeal.Gen

variable (m : (ℓ : Loc nD τ sig) → Buf (Elt Ideal) ℓ)

/-- `Cert.AdOneRefIdeal`'s main_v23 as its composed term over its arguments main_arg0, main_arg1, main_arg2, main_arg3. -/
abbrev REF_v23 (a0 : FVec Ideal Cert.AdOneRefIdeal.S2048x512 .f32) (a1 : FVec Ideal Cert.AdOneRefIdeal.S2048x512 .f32) (a2 : FVec Ideal Cert.AdOneRefIdeal.S2048x512 .f32) (a3 : FVec Ideal Cert.AdOneRefIdeal.S2048x512 .f32) : FVec Ideal Cert.AdOneRefIdeal.S2048x512 .f32 :=
  mulf (broadcastInDim Cert.AdOneRefIdeal.S2048x512 ![] Cert.AdOneRefIdeal.Gen.bcast_S_S2048x512 (constant
    Cert.AdOneRefIdeal.S_ .f32 0xBA83126F#32)) (addf (Host.divf (Host.divf (addf (mulf (broadcastInDim
    Cert.AdOneRefIdeal.S2048x512 ![] Cert.AdOneRefIdeal.Gen.bcast_S_S2048x512 (constant Cert.AdOneRefIdeal.S_ .f32
    0x3F666666#32)) a2) (mulf (broadcastInDim Cert.AdOneRefIdeal.S2048x512 ![] Cert.AdOneRefIdeal.Gen.bcast_S_S2048x512
    (constant Cert.AdOneRefIdeal.S_ .f32 0x3DCCCCCD#32)) a1)) (broadcastInDim Cert.AdOneRefIdeal.S2048x512 ![]
    Cert.AdOneRefIdeal.Gen.bcast_S_S2048x512 (constant Cert.AdOneRefIdeal.S_ .f32 0x3F26BD02#32))) (addf (Host.sqrt
    (Host.divf (addf (mulf (broadcastInDim Cert.AdOneRefIdeal.S2048x512 ![] Cert.AdOneRefIdeal.Gen.bcast_S_S2048x512
    (constant Cert.AdOneRefIdeal.S_ .f32 0x3F7FBE77#32)) a3) (mulf (broadcastInDim Cert.AdOneRefIdeal.S2048x512 ![]
    Cert.AdOneRefIdeal.Gen.bcast_S_S2048x512 (constant Cert.AdOneRefIdeal.S_ .f32 0x3A83126F#32)) (mulf a1 a1)))
    (broadcastInDim Cert.AdOneRefIdeal.S2048x512 ![] Cert.AdOneRefIdeal.Gen.bcast_S_S2048x512 (constant
    Cert.AdOneRefIdeal.S_ .f32 0x3C231ACC#32)))) (broadcastInDim Cert.AdOneRefIdeal.S2048x512 ![]
    Cert.AdOneRefIdeal.Gen.bcast_S_S2048x512 (constant Cert.AdOneRefIdeal.S_ .f32 0x322BCC77#32)))) (mulf
    (broadcastInDim Cert.AdOneRefIdeal.S2048x512 ![] Cert.AdOneRefIdeal.Gen.bcast_S_S2048x512 (constant
    Cert.AdOneRefIdeal.S_ .f32 0x3C23D70A#32)) a0))

/-- `Cert.AdOneRefIdeal`'s main_v4 as its composed term over its arguments main_arg1, main_arg2. -/
abbrev REF_v4 (a1 : FVec Ideal Cert.AdOneRefIdeal.S2048x512 .f32) (a2 : FVec Ideal Cert.AdOneRefIdeal.S2048x512 .f32) : FVec Ideal Cert.AdOneRefIdeal.S2048x512 .f32 :=
  addf (mulf (broadcastInDim Cert.AdOneRefIdeal.S2048x512 ![] Cert.AdOneRefIdeal.Gen.bcast_S_S2048x512 (constant
    Cert.AdOneRefIdeal.S_ .f32 0x3F666666#32)) a2) (mulf (broadcastInDim Cert.AdOneRefIdeal.S2048x512 ![]
    Cert.AdOneRefIdeal.Gen.bcast_S_S2048x512 (constant Cert.AdOneRefIdeal.S_ .f32 0x3DCCCCCD#32)) a1)

/-- `Cert.AdOneRefIdeal`'s main_v10 as its composed term over its arguments main_arg1, main_arg3. -/
abbrev REF_v10 (a1 : FVec Ideal Cert.AdOneRefIdeal.S2048x512 .f32) (a3 : FVec Ideal Cert.AdOneRefIdeal.S2048x512 .f32) : FVec Ideal Cert.AdOneRefIdeal.S2048x512 .f32 :=
  addf (mulf (broadcastInDim Cert.AdOneRefIdeal.S2048x512 ![] Cert.AdOneRefIdeal.Gen.bcast_S_S2048x512 (constant
    Cert.AdOneRefIdeal.S_ .f32 0x3F7FBE77#32)) a3) (mulf (broadcastInDim Cert.AdOneRefIdeal.S2048x512 ![]
    Cert.AdOneRefIdeal.Gen.bcast_S_S2048x512 (constant Cert.AdOneRefIdeal.S_ .f32 0x3A83126F#32)) (mulf a1 a1))

/-- every window's block index at every grid point, in closed form (decided). -/
theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx_val t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx_val t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx_val t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdOneValue

end
-- ==== Proof.AdTwo.lean ====
/- The value of `Cert.AdTwoIdeal`. -/
module

public import proofs.«01_k».proof.Proof.Gen.AdTwoIdeal
public import proofs.«01_k».proof.Proof.Gen.AdTwoIdeal.Frame
public import proofs.«01_k».proof.Proof.Gen.AdTwoRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdTwoValue

open Cert.AdTwoIdeal Cert.AdTwoIdeal.Gen

variable (m : (ℓ : Loc nD τ sig) → Buf (Elt Ideal) ℓ)

/-- `Cert.AdTwoRefIdeal`'s main_v23 as its composed term over its arguments main_arg0, main_arg1, main_arg2, main_arg3. -/
abbrev REF_v23 (a0 : FVec Ideal Cert.AdTwoRefIdeal.S1024x1024 .f32) (a1 : FVec Ideal Cert.AdTwoRefIdeal.S1024x1024 .f32) (a2 : FVec Ideal Cert.AdTwoRefIdeal.S1024x1024 .f32) (a3 : FVec Ideal Cert.AdTwoRefIdeal.S1024x1024 .f32) : FVec Ideal Cert.AdTwoRefIdeal.S1024x1024 .f32 :=
  mulf (broadcastInDim Cert.AdTwoRefIdeal.S1024x1024 ![] Cert.AdTwoRefIdeal.Gen.bcast_S_S1024x1024 (constant
    Cert.AdTwoRefIdeal.S_ .f32 0xBA83126F#32)) (addf (Host.divf (Host.divf (addf (mulf (broadcastInDim
    Cert.AdTwoRefIdeal.S1024x1024 ![] Cert.AdTwoRefIdeal.Gen.bcast_S_S1024x1024 (constant Cert.AdTwoRefIdeal.S_ .f32
    0x3F666666#32)) a2) (mulf (broadcastInDim Cert.AdTwoRefIdeal.S1024x1024 ![]
    Cert.AdTwoRefIdeal.Gen.bcast_S_S1024x1024 (constant Cert.AdTwoRefIdeal.S_ .f32 0x3DCCCCCD#32)) a1)) (broadcastInDim
    Cert.AdTwoRefIdeal.S1024x1024 ![] Cert.AdTwoRefIdeal.Gen.bcast_S_S1024x1024 (constant Cert.AdTwoRefIdeal.S_ .f32
    0x3F26BD02#32))) (addf (Host.sqrt (Host.divf (addf (mulf (broadcastInDim Cert.AdTwoRefIdeal.S1024x1024 ![]
    Cert.AdTwoRefIdeal.Gen.bcast_S_S1024x1024 (constant Cert.AdTwoRefIdeal.S_ .f32 0x3F7FBE77#32)) a3) (mulf
    (broadcastInDim Cert.AdTwoRefIdeal.S1024x1024 ![] Cert.AdTwoRefIdeal.Gen.bcast_S_S1024x1024 (constant
    Cert.AdTwoRefIdeal.S_ .f32 0x3A83126F#32)) (mulf a1 a1))) (broadcastInDim Cert.AdTwoRefIdeal.S1024x1024 ![]
    Cert.AdTwoRefIdeal.Gen.bcast_S_S1024x1024 (constant Cert.AdTwoRefIdeal.S_ .f32 0x3C231ACC#32)))) (broadcastInDim
    Cert.AdTwoRefIdeal.S1024x1024 ![] Cert.AdTwoRefIdeal.Gen.bcast_S_S1024x1024 (constant Cert.AdTwoRefIdeal.S_ .f32
    0x322BCC77#32)))) (mulf (broadcastInDim Cert.AdTwoRefIdeal.S1024x1024 ![] Cert.AdTwoRefIdeal.Gen.bcast_S_S1024x1024
    (constant Cert.AdTwoRefIdeal.S_ .f32 0x3C23D70A#32)) a0))

/-- `Cert.AdTwoRefIdeal`'s main_v4 as its composed term over its arguments main_arg1, main_arg2. -/
abbrev REF_v4 (a1 : FVec Ideal Cert.AdTwoRefIdeal.S1024x1024 .f32) (a2 : FVec Ideal Cert.AdTwoRefIdeal.S1024x1024 .f32) : FVec Ideal Cert.AdTwoRefIdeal.S1024x1024 .f32 :=
  addf (mulf (broadcastInDim Cert.AdTwoRefIdeal.S1024x1024 ![] Cert.AdTwoRefIdeal.Gen.bcast_S_S1024x1024 (constant
    Cert.AdTwoRefIdeal.S_ .f32 0x3F666666#32)) a2) (mulf (broadcastInDim Cert.AdTwoRefIdeal.S1024x1024 ![]
    Cert.AdTwoRefIdeal.Gen.bcast_S_S1024x1024 (constant Cert.AdTwoRefIdeal.S_ .f32 0x3DCCCCCD#32)) a1)

/-- `Cert.AdTwoRefIdeal`'s main_v10 as its composed term over its arguments main_arg1, main_arg3. -/
abbrev REF_v10 (a1 : FVec Ideal Cert.AdTwoRefIdeal.S1024x1024 .f32) (a3 : FVec Ideal Cert.AdTwoRefIdeal.S1024x1024 .f32) : FVec Ideal Cert.AdTwoRefIdeal.S1024x1024 .f32 :=
  addf (mulf (broadcastInDim Cert.AdTwoRefIdeal.S1024x1024 ![] Cert.AdTwoRefIdeal.Gen.bcast_S_S1024x1024 (constant
    Cert.AdTwoRefIdeal.S_ .f32 0x3F7FBE77#32)) a3) (mulf (broadcastInDim Cert.AdTwoRefIdeal.S1024x1024 ![]
    Cert.AdTwoRefIdeal.Gen.bcast_S_S1024x1024 (constant Cert.AdTwoRefIdeal.S_ .f32 0x3A83126F#32)) (mulf a1 a1))

/-- every window's block index at every grid point, in closed form (decided). -/
theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx_val t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx_val t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx_val t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdTwoValue

end
-- ==== Proof.AdGate.lean ====
/- The value of `Cert.AdGateIdeal`. -/
module

public import proofs.«01_k».proof.Proof.Gen.AdGateIdeal
public import proofs.«01_k».proof.Proof.Gen.AdGateIdeal.Frame
public import proofs.«01_k».proof.Proof.Gen.AdGateRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdGateValue

open Cert.AdGateIdeal Cert.AdGateIdeal.Gen

variable (m : (ℓ : Loc nD τ sig) → Buf (Elt Ideal) ℓ)

/-- `Cert.AdGateRefIdeal`'s main_v23 as its composed term over its arguments main_arg0, main_arg1, main_arg2, main_arg3. -/
abbrev REF_v23 (a0 : FVec Ideal Cert.AdGateRefIdeal.S256x1024 .f32) (a1 : FVec Ideal Cert.AdGateRefIdeal.S256x1024 .f32) (a2 : FVec Ideal Cert.AdGateRefIdeal.S256x1024 .f32) (a3 : FVec Ideal Cert.AdGateRefIdeal.S256x1024 .f32) : FVec Ideal Cert.AdGateRefIdeal.S256x1024 .f32 :=
  mulf (broadcastInDim Cert.AdGateRefIdeal.S256x1024 ![] Cert.AdGateRefIdeal.Gen.bcast_S_S256x1024 (constant
    Cert.AdGateRefIdeal.S_ .f32 0xBA83126F#32)) (addf (Host.divf (Host.divf (addf (mulf (broadcastInDim
    Cert.AdGateRefIdeal.S256x1024 ![] Cert.AdGateRefIdeal.Gen.bcast_S_S256x1024 (constant Cert.AdGateRefIdeal.S_ .f32
    0x3F666666#32)) a2) (mulf (broadcastInDim Cert.AdGateRefIdeal.S256x1024 ![]
    Cert.AdGateRefIdeal.Gen.bcast_S_S256x1024 (constant Cert.AdGateRefIdeal.S_ .f32 0x3DCCCCCD#32)) a1)) (broadcastInDim
    Cert.AdGateRefIdeal.S256x1024 ![] Cert.AdGateRefIdeal.Gen.bcast_S_S256x1024 (constant Cert.AdGateRefIdeal.S_ .f32
    0x3F26BD02#32))) (addf (Host.sqrt (Host.divf (addf (mulf (broadcastInDim Cert.AdGateRefIdeal.S256x1024 ![]
    Cert.AdGateRefIdeal.Gen.bcast_S_S256x1024 (constant Cert.AdGateRefIdeal.S_ .f32 0x3F7FBE77#32)) a3) (mulf
    (broadcastInDim Cert.AdGateRefIdeal.S256x1024 ![] Cert.AdGateRefIdeal.Gen.bcast_S_S256x1024 (constant
    Cert.AdGateRefIdeal.S_ .f32 0x3A83126F#32)) (mulf a1 a1))) (broadcastInDim Cert.AdGateRefIdeal.S256x1024 ![]
    Cert.AdGateRefIdeal.Gen.bcast_S_S256x1024 (constant Cert.AdGateRefIdeal.S_ .f32 0x3C231ACC#32)))) (broadcastInDim
    Cert.AdGateRefIdeal.S256x1024 ![] Cert.AdGateRefIdeal.Gen.bcast_S_S256x1024 (constant Cert.AdGateRefIdeal.S_ .f32
    0x322BCC77#32)))) (mulf (broadcastInDim Cert.AdGateRefIdeal.S256x1024 ![] Cert.AdGateRefIdeal.Gen.bcast_S_S256x1024
    (constant Cert.AdGateRefIdeal.S_ .f32 0x3C23D70A#32)) a0))

/-- `Cert.AdGateRefIdeal`'s main_v4 as its composed term over its arguments main_arg1, main_arg2. -/
abbrev REF_v4 (a1 : FVec Ideal Cert.AdGateRefIdeal.S256x1024 .f32) (a2 : FVec Ideal Cert.AdGateRefIdeal.S256x1024 .f32) : FVec Ideal Cert.AdGateRefIdeal.S256x1024 .f32 :=
  addf (mulf (broadcastInDim Cert.AdGateRefIdeal.S256x1024 ![] Cert.AdGateRefIdeal.Gen.bcast_S_S256x1024 (constant
    Cert.AdGateRefIdeal.S_ .f32 0x3F666666#32)) a2) (mulf (broadcastInDim Cert.AdGateRefIdeal.S256x1024 ![]
    Cert.AdGateRefIdeal.Gen.bcast_S_S256x1024 (constant Cert.AdGateRefIdeal.S_ .f32 0x3DCCCCCD#32)) a1)

/-- `Cert.AdGateRefIdeal`'s main_v10 as its composed term over its arguments main_arg1, main_arg3. -/
abbrev REF_v10 (a1 : FVec Ideal Cert.AdGateRefIdeal.S256x1024 .f32) (a3 : FVec Ideal Cert.AdGateRefIdeal.S256x1024 .f32) : FVec Ideal Cert.AdGateRefIdeal.S256x1024 .f32 :=
  addf (mulf (broadcastInDim Cert.AdGateRefIdeal.S256x1024 ![] Cert.AdGateRefIdeal.Gen.bcast_S_S256x1024 (constant
    Cert.AdGateRefIdeal.S_ .f32 0x3F7FBE77#32)) a3) (mulf (broadcastInDim Cert.AdGateRefIdeal.S256x1024 ![]
    Cert.AdGateRefIdeal.Gen.bcast_S_S256x1024 (constant Cert.AdGateRefIdeal.S_ .f32 0x3A83126F#32)) (mulf a1 a1))

/-- every window's block index at every grid point, in closed form (decided). -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdGateValue

end
-- ==== Proof.AdGateB.lean ====
/- The value of `Cert.AdGateBIdeal`. -/
module

public import proofs.«01_k».proof.Proof.Gen.AdGateBIdeal
public import proofs.«01_k».proof.Proof.Gen.AdGateBIdeal.Frame
public import proofs.«01_k».proof.Proof.Gen.AdGateBRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdGateBValue

open Cert.AdGateBIdeal Cert.AdGateBIdeal.Gen

variable (m : (ℓ : Loc nD τ sig) → Buf (Elt Ideal) ℓ)

/-- `Cert.AdGateBRefIdeal`'s main_v23 as its composed term over its arguments main_arg0, main_arg1, main_arg2, main_arg3. -/
abbrev REF_v23 (a0 : FVec Ideal Cert.AdGateBRefIdeal.S2x1024 .f32) (a1 : FVec Ideal Cert.AdGateBRefIdeal.S2x1024 .f32) (a2 : FVec Ideal Cert.AdGateBRefIdeal.S2x1024 .f32) (a3 : FVec Ideal Cert.AdGateBRefIdeal.S2x1024 .f32) : FVec Ideal Cert.AdGateBRefIdeal.S2x1024 .f32 :=
  mulf (broadcastInDim Cert.AdGateBRefIdeal.S2x1024 ![] Cert.AdGateBRefIdeal.Gen.bcast_S_S2x1024 (constant
    Cert.AdGateBRefIdeal.S_ .f32 0xBA83126F#32)) (addf (Host.divf (Host.divf (addf (mulf (broadcastInDim
    Cert.AdGateBRefIdeal.S2x1024 ![] Cert.AdGateBRefIdeal.Gen.bcast_S_S2x1024 (constant Cert.AdGateBRefIdeal.S_ .f32
    0x3F666666#32)) a2) (mulf (broadcastInDim Cert.AdGateBRefIdeal.S2x1024 ![] Cert.AdGateBRefIdeal.Gen.bcast_S_S2x1024
    (constant Cert.AdGateBRefIdeal.S_ .f32 0x3DCCCCCD#32)) a1)) (broadcastInDim Cert.AdGateBRefIdeal.S2x1024 ![]
    Cert.AdGateBRefIdeal.Gen.bcast_S_S2x1024 (constant Cert.AdGateBRefIdeal.S_ .f32 0x3F26BD02#32))) (addf (Host.sqrt
    (Host.divf (addf (mulf (broadcastInDim Cert.AdGateBRefIdeal.S2x1024 ![] Cert.AdGateBRefIdeal.Gen.bcast_S_S2x1024
    (constant Cert.AdGateBRefIdeal.S_ .f32 0x3F7FBE77#32)) a3) (mulf (broadcastInDim Cert.AdGateBRefIdeal.S2x1024 ![]
    Cert.AdGateBRefIdeal.Gen.bcast_S_S2x1024 (constant Cert.AdGateBRefIdeal.S_ .f32 0x3A83126F#32)) (mulf a1 a1)))
    (broadcastInDim Cert.AdGateBRefIdeal.S2x1024 ![] Cert.AdGateBRefIdeal.Gen.bcast_S_S2x1024 (constant
    Cert.AdGateBRefIdeal.S_ .f32 0x3C231ACC#32)))) (broadcastInDim Cert.AdGateBRefIdeal.S2x1024 ![]
    Cert.AdGateBRefIdeal.Gen.bcast_S_S2x1024 (constant Cert.AdGateBRefIdeal.S_ .f32 0x322BCC77#32)))) (mulf
    (broadcastInDim Cert.AdGateBRefIdeal.S2x1024 ![] Cert.AdGateBRefIdeal.Gen.bcast_S_S2x1024 (constant
    Cert.AdGateBRefIdeal.S_ .f32 0x3C23D70A#32)) a0))

/-- `Cert.AdGateBRefIdeal`'s main_v4 as its composed term over its arguments main_arg1, main_arg2. -/
abbrev REF_v4 (a1 : FVec Ideal Cert.AdGateBRefIdeal.S2x1024 .f32) (a2 : FVec Ideal Cert.AdGateBRefIdeal.S2x1024 .f32) : FVec Ideal Cert.AdGateBRefIdeal.S2x1024 .f32 :=
  addf (mulf (broadcastInDim Cert.AdGateBRefIdeal.S2x1024 ![] Cert.AdGateBRefIdeal.Gen.bcast_S_S2x1024 (constant
    Cert.AdGateBRefIdeal.S_ .f32 0x3F666666#32)) a2) (mulf (broadcastInDim Cert.AdGateBRefIdeal.S2x1024 ![]
    Cert.AdGateBRefIdeal.Gen.bcast_S_S2x1024 (constant Cert.AdGateBRefIdeal.S_ .f32 0x3DCCCCCD#32)) a1)

/-- `Cert.AdGateBRefIdeal`'s main_v10 as its composed term over its arguments main_arg1, main_arg3. -/
abbrev REF_v10 (a1 : FVec Ideal Cert.AdGateBRefIdeal.S2x1024 .f32) (a3 : FVec Ideal Cert.AdGateBRefIdeal.S2x1024 .f32) : FVec Ideal Cert.AdGateBRefIdeal.S2x1024 .f32 :=
  addf (mulf (broadcastInDim Cert.AdGateBRefIdeal.S2x1024 ![] Cert.AdGateBRefIdeal.Gen.bcast_S_S2x1024 (constant
    Cert.AdGateBRefIdeal.S_ .f32 0x3F7FBE77#32)) a3) (mulf (broadcastInDim Cert.AdGateBRefIdeal.S2x1024 ![]
    Cert.AdGateBRefIdeal.Gen.bcast_S_S2x1024 (constant Cert.AdGateBRefIdeal.S_ .f32 0x3A83126F#32)) (mulf a1 a1))

/-- every window's block index at every grid point, in closed form (decided). -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdGateBValue

end
-- ==== Proof.AdProj.lean ====
/- The value of `Cert.AdProjIdeal`. -/
module

public import proofs.«01_k».proof.Proof.Gen.AdProjIdeal
public import proofs.«01_k».proof.Proof.Gen.AdProjIdeal.Frame
public import proofs.«01_k».proof.Proof.Gen.AdProjRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.AdProjValue

open Cert.AdProjIdeal Cert.AdProjIdeal.Gen

variable (m : (ℓ : Loc nD τ sig) → Buf (Elt Ideal) ℓ)

/-- `Cert.AdProjRefIdeal`'s main_v23 as its composed term over its arguments main_arg0, main_arg1, main_arg2, main_arg3. -/
abbrev REF_v23 (a0 : FVec Ideal Cert.AdProjRefIdeal.S512x128 .f32) (a1 : FVec Ideal Cert.AdProjRefIdeal.S512x128 .f32) (a2 : FVec Ideal Cert.AdProjRefIdeal.S512x128 .f32) (a3 : FVec Ideal Cert.AdProjRefIdeal.S512x128 .f32) : FVec Ideal Cert.AdProjRefIdeal.S512x128 .f32 :=
  mulf (broadcastInDim Cert.AdProjRefIdeal.S512x128 ![] Cert.AdProjRefIdeal.Gen.bcast_S_S512x128 (constant
    Cert.AdProjRefIdeal.S_ .f32 0xBA83126F#32)) (addf (Host.divf (Host.divf (addf (mulf (broadcastInDim
    Cert.AdProjRefIdeal.S512x128 ![] Cert.AdProjRefIdeal.Gen.bcast_S_S512x128 (constant Cert.AdProjRefIdeal.S_ .f32
    0x3F666666#32)) a2) (mulf (broadcastInDim Cert.AdProjRefIdeal.S512x128 ![] Cert.AdProjRefIdeal.Gen.bcast_S_S512x128
    (constant Cert.AdProjRefIdeal.S_ .f32 0x3DCCCCCD#32)) a1)) (broadcastInDim Cert.AdProjRefIdeal.S512x128 ![]
    Cert.AdProjRefIdeal.Gen.bcast_S_S512x128 (constant Cert.AdProjRefIdeal.S_ .f32 0x3F26BD02#32))) (addf (Host.sqrt
    (Host.divf (addf (mulf (broadcastInDim Cert.AdProjRefIdeal.S512x128 ![] Cert.AdProjRefIdeal.Gen.bcast_S_S512x128
    (constant Cert.AdProjRefIdeal.S_ .f32 0x3F7FBE77#32)) a3) (mulf (broadcastInDim Cert.AdProjRefIdeal.S512x128 ![]
    Cert.AdProjRefIdeal.Gen.bcast_S_S512x128 (constant Cert.AdProjRefIdeal.S_ .f32 0x3A83126F#32)) (mulf a1 a1)))
    (broadcastInDim Cert.AdProjRefIdeal.S512x128 ![] Cert.AdProjRefIdeal.Gen.bcast_S_S512x128 (constant
    Cert.AdProjRefIdeal.S_ .f32 0x3C231ACC#32)))) (broadcastInDim Cert.AdProjRefIdeal.S512x128 ![]
    Cert.AdProjRefIdeal.Gen.bcast_S_S512x128 (constant Cert.AdProjRefIdeal.S_ .f32 0x322BCC77#32)))) (mulf
    (broadcastInDim Cert.AdProjRefIdeal.S512x128 ![] Cert.AdProjRefIdeal.Gen.bcast_S_S512x128 (constant
    Cert.AdProjRefIdeal.S_ .f32 0x3C23D70A#32)) a0))

/-- `Cert.AdProjRefIdeal`'s main_v4 as its composed term over its arguments main_arg1, main_arg2. -/
abbrev REF_v4 (a1 : FVec Ideal Cert.AdProjRefIdeal.S512x128 .f32) (a2 : FVec Ideal Cert.AdProjRefIdeal.S512x128 .f32) : FVec Ideal Cert.AdProjRefIdeal.S512x128 .f32 :=
  addf (mulf (broadcastInDim Cert.AdProjRefIdeal.S512x128 ![] Cert.AdProjRefIdeal.Gen.bcast_S_S512x128 (constant
    Cert.AdProjRefIdeal.S_ .f32 0x3F666666#32)) a2) (mulf (broadcastInDim Cert.AdProjRefIdeal.S512x128 ![]
    Cert.AdProjRefIdeal.Gen.bcast_S_S512x128 (constant Cert.AdProjRefIdeal.S_ .f32 0x3DCCCCCD#32)) a1)

/-- `Cert.AdProjRefIdeal`'s main_v10 as its composed term over its arguments main_arg1, main_arg3. -/
abbrev REF_v10 (a1 : FVec Ideal Cert.AdProjRefIdeal.S512x128 .f32) (a3 : FVec Ideal Cert.AdProjRefIdeal.S512x128 .f32) : FVec Ideal Cert.AdProjRefIdeal.S512x128 .f32 :=
  addf (mulf (broadcastInDim Cert.AdProjRefIdeal.S512x128 ![] Cert.AdProjRefIdeal.Gen.bcast_S_S512x128 (constant
    Cert.AdProjRefIdeal.S_ .f32 0x3F7FBE77#32)) a3) (mulf (broadcastInDim Cert.AdProjRefIdeal.S512x128 ![]
    Cert.AdProjRefIdeal.Gen.bcast_S_S512x128 (constant Cert.AdProjRefIdeal.S_ .f32 0x3A83126F#32)) (mulf a1 a1))

/-- every window's block index at every grid point, in closed form (decided). -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- POINT: what the body stores at block index `y` of point `t` is the reference at the array index `y` sits at. -/
theorem point_4 (c : Dev nD) (t : Fin cfg0.N) (y) :
    k0_pay3 (iblk m c 1 t) (iblk m c 2 t) (iblk m c 3 t) (iblk m c 0 t) y
      = REF_v23 (m ((c : Thread nD τ).loc main_arg0)) (m ((c : Thread nD τ).loc main_arg1)) (m ((c : Thread nD τ).loc
        main_arg2)) (m ((c : Thread nD τ).loc main_arg3)) (((cfg0.win 4).blk t).view.emb y) := by
  generalize hj : (((cfg0.win 4).blk t).view.emb y) = j
  pointwise [k0_pay3, k0_pay1, k0_pay2, REF_v23]
  blk_simp [iblk]
  subst hj
  blk_point [V, idx t]

/-- BRIDGE: the result array after the run (complete: the blocks tile the array, decided). -/
theorem final_4 (c : Dev nD) : (dats m 0 c).arrAt 4 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- POINT: what the body stores at block index `y` of point `t` is the reference at the array index `y` sits at. -/
theorem point_5 (c : Dev nD) (t : Fin cfg0.N) (y) :
    k0_pay1 (iblk m c 1 t) (iblk m c 2 t) y
      = REF_v4 (m ((c : Thread nD τ).loc main_arg1)) (m ((c : Thread nD τ).loc main_arg2)) (((cfg0.win 5).blk
        t).view.emb y) := by
  generalize hj : (((cfg0.win 5).blk t).view.emb y) = j
  pointwise [k0_pay1, REF_v4]
  blk_simp [iblk]
  subst hj
  blk_point [V, idx t]

/-- BRIDGE: the result array after the run (complete: the blocks tile the array, decided). -/
theorem final_5 (c : Dev nD) : (dats m 0 c).arrAt 5 (cfgs 0).N = REF_v4 (m ((c : Thread nD τ).loc main_arg1)) (m ((c : Thread nD τ).loc main_arg2)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay2 (iblk m c 1 t) (iblk m c 3 t) y
      = REF_v10 (m ((c : Thread nD τ).loc main_arg1)) (m ((c : Thread nD τ).loc main_arg3)) (((cfg0.win 6).blk
        t).view.emb y) := by
  generalize hj : (((cfg0.win 6).blk t).view.emb y) = j
  pointwise [k0_pay2, REF_v10]
  blk_simp [iblk]
  subst hj
  blk_point [V, idx t]

/-- BRIDGE: the result array after the run (complete: the blocks tile the array, decided). -/
theorem final_6 (c : Dev nD) : (dats m 0 c).arrAt 6 (cfgs 0).N = REF_v10 (m ((c : Thread nD τ).loc main_arg1)) (m ((c : Thread nD τ).loc main_arg3)) := by
  refine (dats m 0 c).arrAt_eq_of_covers 6 _ (by decide +kernel) fun t hf y => ?_
  blk_simp; rw [after0_6]; frame_out
  exact point_6 m c t y

end Cert.AdProjValue

end
-- ==== Proof.MlpLn.lean ====
/- The value of `Cert.MlpLnIdeal`. -/
module

public import proofs.«01_k».proof.Proof.Gen.MlpLnIdeal
public import proofs.«01_k».proof.Proof.Gen.MlpLnIdeal.Frame
public import proofs.«01_k».proof.Proof.Gen.MlpLnRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MlpLnValue.Ref

open Cert.MlpLnRefIdeal Cert.MlpLnRefIdeal.Gen

/-! The reference, an operation at a time, over its arguments. -/

def r_cst (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x00000000#32)

def r_v0 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192 .f32 :=
  Host.reduceAdd a0 (r_cst a0 a1 a2 a3 a4 a5 a6 a7 a8) reducesTo_S8192x1024_S8192_d1 h_S_

def r_v1 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![0] bcast_S8192_S8192x1_0 (r_v0 a0 a1 a2 a3 a4 a5 a6 a7 a8)

def r_cst_0 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x44800000#32)

def r_v2 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (r_cst_0 a0 a1 a2 a3 a4 a5 a6 a7 a8)

def r_v3 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.divf (r_v1 a0 a1 a2 a3 a4 a5 a6 a7 a8) (r_v2 a0 a1 a2 a3 a4 a5 a6 a7 a8)

def r_v4 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S8192x1_S8192x1024_0_1 (r_v3 a0 a1 a2 a3 a4 a5 a6 a7 a8)

def r_v5 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  subf a0 (r_v4 a0 a1 a2 a3 a4 a5 a6 a7 a8)

def r_v6 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  mulf (r_v5 a0 a1 a2 a3 a4 a5 a6 a7 a8) (r_v5 a0 a1 a2 a3 a4 a5 a6 a7 a8)

def r_cst_1 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x00000000#32)

def r_v7 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192 .f32 :=
  Host.reduceAdd (r_v6 a0 a1 a2 a3 a4 a5 a6 a7 a8) (r_cst_1 a0 a1 a2 a3 a4 a5 a6 a7 a8) reducesTo_S8192x1024_S8192_d1 h_S_

def r_v8 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![0] bcast_S8192_S8192x1_0 (r_v7 a0 a1 a2 a3 a4 a5 a6 a7 a8)

def r_cst_2 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x44800000#32)

def r_v9 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (r_cst_2 a0 a1 a2 a3 a4 a5 a6 a7 a8)

def r_v10 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.divf (r_v8 a0 a1 a2 a3 a4 a5 a6 a7 a8) (r_v9 a0 a1 a2 a3 a4 a5 a6 a7 a8)

def r_v11 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S8192x1_S8192x1024_0_1 (r_v3 a0 a1 a2 a3 a4 a5 a6 a7 a8)

def r_v12 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  subf a0 (r_v11 a0 a1 a2 a3 a4 a5 a6 a7 a8)

def r_cst_3 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x3727C5AC#32)

def r_v13 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (r_cst_3 a0 a1 a2 a3 a4 a5 a6 a7 a8)

def r_v14 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  addf (r_v10 a0 a1 a2 a3 a4 a5 a6 a7 a8) (r_v13 a0 a1 a2 a3 a4 a5 a6 a7 a8)

def r_v15 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.rsqrt (r_v14 a0 a1 a2 a3 a4 a5 a6 a7 a8)

def r_v16 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S8192x1_S8192x1024_0_1 (r_v15 a0 a1 a2 a3 a4 a5 a6 a7 a8)

def r_v17 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  mulf (r_v12 a0 a1 a2 a3 a4 a5 a6 a7 a8) (r_v16 a0 a1 a2 a3 a4 a5 a6 a7 a8)

def r_v18 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S1x1024 .f32 :=
  broadcastInDim S1x1024 ![1] bcast_S1024_S1x1024_1 a1

def r_v19 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S1x1024_S8192x1024_0_1 (r_v18 a0 a1 a2 a3 a4 a5 a6 a7 a8)

def r_v20 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  mulf (r_v17 a0 a1 a2 a3 a4 a5 a6 a7 a8) (r_v19 a0 a1 a2 a3 a4 a5 a6 a7 a8)

def r_v21 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S1x1024 .f32 :=
  broadcastInDim S1x1024 ![1] bcast_S1024_S1x1024_1 a2

def r_v22 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S1x1024_S8192x1024_0_1 (r_v21 a0 a1 a2 a3 a4 a5 a6 a7 a8)

def r_v23 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  addf (r_v20 a0 a1 a2 a3 a4 a5 a6 a7 a8) (r_v22 a0 a1 a2 a3 a4 a5 a6 a7 a8)

def r_cst_4 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x3FB504F3#32)

def r_v24 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![] bcast_S_S8192x1024 (r_cst_4 a0 a1 a2 a3 a4 a5 a6 a7 a8)

def r_v25 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  mulf (r_v24 a0 a1 a2 a3 a4 a5 a6 a7 a8) (r_v23 a0 a1 a2 a3 a4 a5 a6 a7 a8)

def r_v26 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x4096 .f32 :=
  mulf a3 a3

def r_v27 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  Host.dotGeneral dot_S8192x4096_S4096x1024_S8192x1024_1_0_0_1_n_n none (r_v26 a0 a1 a2 a3 a4 a5 a6 a7 a8) a4

def r_v28 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  addf (r_v25 a0 a1 a2 a3 a4 a5 a6 a7 a8) (r_v27 a0 a1 a2 a3 a4 a5 a6 a7 a8)

def r_v29 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  Host.negf a5

def r_v30 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  Host.exp (r_v29 a0 a1 a2 a3 a4 a5 a6 a7 a8)

def r_cst_5 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x3F800000#32)

def r_v31 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![] bcast_S_S8192x1024 (r_cst_5 a0 a1 a2 a3 a4 a5 a6 a7 a8)

def r_v32 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  addf (r_v31 a0 a1 a2 a3 a4 a5 a6 a7 a8) (r_v30 a0 a1 a2 a3 a4 a5 a6 a7 a8)

def r_cst_6 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x3F800000#32)

def r_v33 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![] bcast_S_S8192x1024 (r_cst_6 a0 a1 a2 a3 a4 a5 a6 a7 a8)

def r_v34 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  Host.divf (r_v33 a0 a1 a2 a3 a4 a5 a6 a7 a8) (r_v32 a0 a1 a2 a3 a4 a5 a6 a7 a8)

def r_v35 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  mulf (r_v34 a0 a1 a2 a3 a4 a5 a6 a7 a8) a6

def r_v36 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  addf (r_v28 a0 a1 a2 a3 a4 a5 a6 a7 a8) (r_v35 a0 a1 a2 a3 a4 a5 a6 a7 a8)

def r_cst_7 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x00000000#32)

def r_v37 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192 .f32 :=
  Host.reduceAdd (r_v36 a0 a1 a2 a3 a4 a5 a6 a7 a8) (r_cst_7 a0 a1 a2 a3 a4 a5 a6 a7 a8) reducesTo_S8192x1024_S8192_d1 h_S_

def r_v38 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![0] bcast_S8192_S8192x1_0 (r_v37 a0 a1 a2 a3 a4 a5 a6 a7 a8)

def r_cst_8 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x44800000#32)

def r_v39 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (r_cst_8 a0 a1 a2 a3 a4 a5 a6 a7 a8)

def r_v40 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.divf (r_v38 a0 a1 a2 a3 a4 a5 a6 a7 a8) (r_v39 a0 a1 a2 a3 a4 a5 a6 a7 a8)

def r_v41 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S8192x1_S8192x1024_0_1 (r_v40 a0 a1 a2 a3 a4 a5 a6 a7 a8)

def r_v42 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  subf (r_v36 a0 a1 a2 a3 a4 a5 a6 a7 a8) (r_v41 a0 a1 a2 a3 a4 a5 a6 a7 a8)

def r_v43 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  mulf (r_v42 a0 a1 a2 a3 a4 a5 a6 a7 a8) (r_v42 a0 a1 a2 a3 a4 a5 a6 a7 a8)

def r_cst_9 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x00000000#32)

def r_v44 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192 .f32 :=
  Host.reduceAdd (r_v43 a0 a1 a2 a3 a4 a5 a6 a7 a8) (r_cst_9 a0 a1 a2 a3 a4 a5 a6 a7 a8) reducesTo_S8192x1024_S8192_d1 h_S_

def r_v45 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![0] bcast_S8192_S8192x1_0 (r_v44 a0 a1 a2 a3 a4 a5 a6 a7 a8)

def r_cst_10 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x44800000#32)

def r_v46 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (r_cst_10 a0 a1 a2 a3 a4 a5 a6 a7 a8)

def r_v47 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.divf (r_v45 a0 a1 a2 a3 a4 a5 a6 a7 a8) (r_v46 a0 a1 a2 a3 a4 a5 a6 a7 a8)

def r_v48 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S8192x1_S8192x1024_0_1 (r_v40 a0 a1 a2 a3 a4 a5 a6 a7 a8)

def r_v49 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  subf (r_v36 a0 a1 a2 a3 a4 a5 a6 a7 a8) (r_v48 a0 a1 a2 a3 a4 a5 a6 a7 a8)

def r_cst_11 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x3727C5AC#32)

def r_v50 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (r_cst_11 a0 a1 a2 a3 a4 a5 a6 a7 a8)

def r_v51 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  addf (r_v47 a0 a1 a2 a3 a4 a5 a6 a7 a8) (r_v50 a0 a1 a2 a3 a4 a5 a6 a7 a8)

def r_v52 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.rsqrt (r_v51 a0 a1 a2 a3 a4 a5 a6 a7 a8)

def r_v53 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S8192x1_S8192x1024_0_1 (r_v52 a0 a1 a2 a3 a4 a5 a6 a7 a8)

def r_v54 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  mulf (r_v49 a0 a1 a2 a3 a4 a5 a6 a7 a8) (r_v53 a0 a1 a2 a3 a4 a5 a6 a7 a8)

def r_cst_12 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x3727C5AC#32)

def r_v55 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (r_cst_12 a0 a1 a2 a3 a4 a5 a6 a7 a8)

def r_v56 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  addf (r_v47 a0 a1 a2 a3 a4 a5 a6 a7 a8) (r_v55 a0 a1 a2 a3 a4 a5 a6 a7 a8)

def r_v57 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.rsqrt (r_v56 a0 a1 a2 a3 a4 a5 a6 a7 a8)

def r_v58 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x128 .f32 :=
  broadcastInDim S8192x128 ![0, 1] bcast_S8192x1_S8192x128_0_1 (r_v57 a0 a1 a2 a3 a4 a5 a6 a7 a8)

def r_cst_13 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x00000000#32)

def r_v59 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192 .f32 :=
  Host.reduceAdd (r_v36 a0 a1 a2 a3 a4 a5 a6 a7 a8) (r_cst_13 a0 a1 a2 a3 a4 a5 a6 a7 a8) reducesTo_S8192x1024_S8192_d1 h_S_

def r_v60 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![0] bcast_S8192_S8192x1_0 (r_v59 a0 a1 a2 a3 a4 a5 a6 a7 a8)

def r_cst_14 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x44800000#32)

def r_v61 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (r_cst_14 a0 a1 a2 a3 a4 a5 a6 a7 a8)

def r_v62 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.divf (r_v60 a0 a1 a2 a3 a4 a5 a6 a7 a8) (r_v61 a0 a1 a2 a3 a4 a5 a6 a7 a8)

def r_v63 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S8192x1_S8192x1024_0_1 (r_v62 a0 a1 a2 a3 a4 a5 a6 a7 a8)

def r_v64 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  subf (r_v36 a0 a1 a2 a3 a4 a5 a6 a7 a8) (r_v63 a0 a1 a2 a3 a4 a5 a6 a7 a8)

def r_v65 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  mulf (r_v64 a0 a1 a2 a3 a4 a5 a6 a7 a8) (r_v64 a0 a1 a2 a3 a4 a5 a6 a7 a8)

def r_cst_15 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x00000000#32)

def r_v66 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192 .f32 :=
  Host.reduceAdd (r_v65 a0 a1 a2 a3 a4 a5 a6 a7 a8) (r_cst_15 a0 a1 a2 a3 a4 a5 a6 a7 a8) reducesTo_S8192x1024_S8192_d1 h_S_

def r_v67 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![0] bcast_S8192_S8192x1_0 (r_v66 a0 a1 a2 a3 a4 a5 a6 a7 a8)

def r_cst_16 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x44800000#32)

def r_v68 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (r_cst_16 a0 a1 a2 a3 a4 a5 a6 a7 a8)

def r_v69 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.divf (r_v67 a0 a1 a2 a3 a4 a5 a6 a7 a8) (r_v68 a0 a1 a2 a3 a4 a5 a6 a7 a8)

def r_v70 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S8192x1_S8192x1024_0_1 (r_v62 a0 a1 a2 a3 a4 a5 a6 a7 a8)

def r_v71 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  subf (r_v36 a0 a1 a2 a3 a4 a5 a6 a7 a8) (r_v70 a0 a1 a2 a3 a4 a5 a6 a7 a8)

def r_cst_17 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x3727C5AC#32)

def r_v72 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (r_cst_17 a0 a1 a2 a3 a4 a5 a6 a7 a8)

def r_v73 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  addf (r_v69 a0 a1 a2 a3 a4 a5 a6 a7 a8) (r_v72 a0 a1 a2 a3 a4 a5 a6 a7 a8)

def r_v74 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.rsqrt (r_v73 a0 a1 a2 a3 a4 a5 a6 a7 a8)

def r_v75 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S8192x1_S8192x1024_0_1 (r_v74 a0 a1 a2 a3 a4 a5 a6 a7 a8)

def r_v76 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  mulf (r_v71 a0 a1 a2 a3 a4 a5 a6 a7 a8) (r_v75 a0 a1 a2 a3 a4 a5 a6 a7 a8)

def r_v77 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S1x1024 .f32 :=
  broadcastInDim S1x1024 ![1] bcast_S1024_S1x1024_1 a7

def r_v78 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S1x1024_S8192x1024_0_1 (r_v77 a0 a1 a2 a3 a4 a5 a6 a7 a8)

def r_v79 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  mulf (r_v76 a0 a1 a2 a3 a4 a5 a6 a7 a8) (r_v78 a0 a1 a2 a3 a4 a5 a6 a7 a8)

def r_v80 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S1x1024 .f32 :=
  broadcastInDim S1x1024 ![1] bcast_S1024_S1x1024_1 a8

def r_v81 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S1x1024_S8192x1024_0_1 (r_v80 a0 a1 a2 a3 a4 a5 a6 a7 a8)

def r_v82 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  addf (r_v79 a0 a1 a2 a3 a4 a5 a6 a7 a8) (r_v81 a0 a1 a2 a3 a4 a5 a6 a7 a8)

def r_v83 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .bf16 :=
  truncf .bf16 (r_v82 a0 a1 a2 a3 a4 a5 a6 a7 a8) bitsLt_bf16_f32

end Cert.MlpLnValue.Ref

namespace Cert.MlpLnValue

open Cert.MlpLnIdeal Cert.MlpLnIdeal.Gen

variable (m : (ℓ : Loc nD τ sig) → Buf (Elt Ideal) ℓ)

/-- Result `v54` of the reference, at the kernel's arguments. -/
abbrev REF_v54 (c : Dev nD) :=
  Ref.r_v54 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Result `v58` of the reference, at the kernel's arguments. -/
abbrev REF_v58 (c : Dev nD) :=
  Ref.r_v58 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Result `v83` of the reference, at the kernel's arguments. -/
abbrev REF_v83 (c : Dev nD) :=
  Ref.r_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0]
    ∧ win0_3.index t = ![(grid0.coords t 0).val, 0]
    ∧ win0_4.index t = ![(grid0.coords t 0).val, 0]
    ∧ win0_5.index t = ![0, 0]
    ∧ win0_6.index t = ![0, 0]
    ∧ win0_7.index t = ![0, 0]
    ∧ win0_8.index t = ![0, 0]
    ∧ win0_9.index t = ![(grid0.coords t 0).val, 0]
    ∧ win0_10.index t = ![(grid0.coords t 0).val, 0]
    ∧ win0_11.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0] :=
  (by decide +kernel : ∀ t : Fin grid0.N, _)

/-! What the host prepares before the kernel, an operation at a time. -/

def h_v0 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S1x1024 .f32 :=
  broadcastInDim S1x1024 ![1] bcast_S1024_S1x1024_1 a1

def h_v1 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S1x1024 .f32 :=
  broadcastInDim S1x1024 ![1] bcast_S1024_S1x1024_1 a2

def h_v2 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S1x1024 .f32 :=
  broadcastInDim S1x1024 ![1] bcast_S1024_S1x1024_1 a7

def h_v3 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S1x1024 .f32 :=
  broadcastInDim S1x1024 ![1] bcast_S1024_S1x1024_1 a8

def h_v4 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x4096 .bf16 :=
  truncf .bf16 a3 bitsLt_bf16_f32

def h_v5 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S4096x1024 .bf16 :=
  truncf .bf16 a4 bitsLt_bf16_f32

def h_cst (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x00000000#32)

def h_v6 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192 .f32 :=
  Host.reduceAdd a0 (h_cst a0 a1 a2 a3 a4 a5 a6 a7 a8) reducesTo_S8192x1024_S8192_d1 h_S_

def h_v7 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![0] bcast_S8192_S8192x1_0 (h_v6 a0 a1 a2 a3 a4 a5 a6 a7 a8)

def h_cst_0 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x44800000#32)

def h_v8 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (h_cst_0 a0 a1 a2 a3 a4 a5 a6 a7 a8)

def h_v9 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.divf (h_v7 a0 a1 a2 a3 a4 a5 a6 a7 a8) (h_v8 a0 a1 a2 a3 a4 a5 a6 a7 a8)

def h_v10 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S8192x1_S8192x1024_0_1 (h_v9 a0 a1 a2 a3 a4 a5 a6 a7 a8)

def h_v11 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  subf a0 (h_v10 a0 a1 a2 a3 a4 a5 a6 a7 a8)

def h_v12 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  mulf (h_v11 a0 a1 a2 a3 a4 a5 a6 a7 a8) (h_v11 a0 a1 a2 a3 a4 a5 a6 a7 a8)

def h_cst_1 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x00000000#32)

def h_v13 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192 .f32 :=
  Host.reduceAdd (h_v12 a0 a1 a2 a3 a4 a5 a6 a7 a8) (h_cst_1 a0 a1 a2 a3 a4 a5 a6 a7 a8) reducesTo_S8192x1024_S8192_d1 h_S_

def h_v14 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![0] bcast_S8192_S8192x1_0 (h_v13 a0 a1 a2 a3 a4 a5 a6 a7 a8)

def h_cst_2 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x44800000#32)

def h_v15 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (h_cst_2 a0 a1 a2 a3 a4 a5 a6 a7 a8)

def h_v16 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.divf (h_v14 a0 a1 a2 a3 a4 a5 a6 a7 a8) (h_v15 a0 a1 a2 a3 a4 a5 a6 a7 a8)

def h_v17 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S8192x1_S8192x1024_0_1 (h_v9 a0 a1 a2 a3 a4 a5 a6 a7 a8)

def h_v18 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  subf a0 (h_v17 a0 a1 a2 a3 a4 a5 a6 a7 a8)

def h_cst_3 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x3727C5AC#32)

def h_v19 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (h_cst_3 a0 a1 a2 a3 a4 a5 a6 a7 a8)

def h_v20 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  addf (h_v16 a0 a1 a2 a3 a4 a5 a6 a7 a8) (h_v19 a0 a1 a2 a3 a4 a5 a6 a7 a8)

def h_v21 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.rsqrt (h_v20 a0 a1 a2 a3 a4 a5 a6 a7 a8)

def h_v22 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  broadcastInDim S8192x1024 ![0, 1] bcast_S8192x1_S8192x1024_0_1 (h_v21 a0 a1 a2 a3 a4 a5 a6 a7 a8)

def h_v23 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1024 .f32 :=
  mulf (h_v18 a0 a1 a2 a3 a4 a5 a6 a7 a8) (h_v22 a0 a1 a2 a3 a4 a5 a6 a7 a8)

def h_cst_4 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S_ .f32 :=
  (constant S_ .f32 0x3727C5AC#32)

def h_v24 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  broadcastInDim S8192x1 ![] bcast_S_S8192x1 (h_cst_4 a0 a1 a2 a3 a4 a5 a6 a7 a8)

def h_v25 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  addf (h_v16 a0 a1 a2 a3 a4 a5 a6 a7 a8) (h_v24 a0 a1 a2 a3 a4 a5 a6 a7 a8)

def h_v26 (a0 : FVec Ideal S8192x1024 .f32) (a1 a2 : FVec Ideal S1024 .f32) (a3 : FVec Ideal S8192x4096 .f32) (a4 : FVec Ideal S4096x1024 .f32) (a5 a6 : FVec Ideal S8192x1024 .f32) (a7 a8 : FVec Ideal S1024 .f32) : FVec Ideal S8192x1 .f32 :=
  Host.rsqrt (h_v25 a0 a1 a2 a3 a4 a5 a6 a7 a8)

/-- The contents of `main_v4`, window 0's array, when the kernel's region begins. -/
theorem entry_v4 (c : Dev nD) : @Eq (FVec Ideal S8192x4096 .bf16) (V m c main_v4) (h_v4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  entry_read
  try rfl

/-- The contents of `main_v5`, window 1's array, when the kernel's region begins. -/
theorem entry_v5 (c : Dev nD) : @Eq (FVec Ideal S4096x1024 .bf16) (V m c main_v5) (h_v5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  entry_read
  try rfl

/-- The contents of `main_v23`, window 2's array, when the kernel's region begins. -/
theorem entry_v23 (c : Dev nD) : @Eq (FVec Ideal S8192x1024 .f32) (V m c main_v23) (h_v23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  entry_read
  try rfl

/-- The contents of `main_v0`, window 5's array, when the kernel's region begins. -/
theorem entry_v0 (c : Dev nD) : @Eq (FVec Ideal S1x1024 .f32) (V m c main_v0) (h_v0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  entry_read
  try rfl

/-- The contents of `main_v1`, window 6's array, when the kernel's region begins. -/
theorem entry_v1 (c : Dev nD) : @Eq (FVec Ideal S1x1024 .f32) (V m c main_v1) (h_v1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  entry_read
  try rfl

/-- The contents of `main_v2`, window 7's array, when the kernel's region begins. -/
theorem entry_v2 (c : Dev nD) : @Eq (FVec Ideal S1x1024 .f32) (V m c main_v2) (h_v2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  entry_read
  try rfl

/-- The contents of `main_v3`, window 8's array, when the kernel's region begins. -/
theorem entry_v3 (c : Dev nD) : @Eq (FVec Ideal S1x1024 .f32) (V m c main_v3) (h_v3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  entry_read
  try rfl

/-- The first part of `k0_pay7`: its value `v27`. -/
def ksum (v0 : Vec Ideal S256x4096 .bf16) (v3 : Vec Ideal S4096x1024 .bf16) (v6 : Vec Ideal S256x1024 .f32) (v8 : Vec Ideal S256x1024 .f32) (v9 : Vec Ideal S256x1024 .f32) (v10 : Vec Ideal S1x1024 .f32) (v12 : Vec Ideal S1x1024 .f32) : FVec Ideal S256x1024 .f32 :=
  have v1 : FVec Ideal S256x4096 .bf16 := shapeCast S256x4096 v0 shapeCasts_S256x4096_S256x4096
  have v2 : FVec Ideal S256x4096 .bf16 := mulf v1 v1
  have v4 : FVec Ideal S4096x1024 .bf16 := shapeCast S4096x1024 v3 shapeCasts_S4096x1024_S4096x1024
  have cst : FVec Ideal S256x1024 .f32 := constant S256x1024 .f32 0x00000000#32
  have v5 : FVec Ideal S256x1024 .f32 := matmul dot_S256x4096_S4096x1024_S256x1024_1_0_0_1_n_n none v2 v4 cst
  have v7 : FVec Ideal S256x1024 .f32 := shapeCast S256x1024 v6 shapeCasts_S256x1024_S256x1024
  have v11 : FVec Ideal S1x1024 .f32 := shapeCast S1x1024 v10 shapeCasts_S1x1024_S1x1024
  have v13 : FVec Ideal S1x1024 .f32 := shapeCast S1x1024 v12 shapeCasts_S1x1024_S1x1024
  have v18 : FVec Ideal S256x1024 .f32 := logistic v8
  have v19 : FVec Ideal S256x1024 .f32 := mulf v18 v9
  have v20 : FVec Ideal S256x1024 .f32 := addf v5 v19
  have v21 : FVec Ideal S256x1024 .f32 := broadcastTo S256x1024 v11 broadcasts_S1x1024_S256x1024
  have v22 : FVec Ideal S256x1024 .f32 := mulf v7 v21
  have v23 : FVec Ideal S256x1024 .f32 := broadcastTo S256x1024 v13 broadcasts_S1x1024_S256x1024
  have v24 : FVec Ideal S256x1024 .f32 := addf v22 v23
  have cst_17 : Ideal .f32 := Scalar.ofBits .f32 0x3FB504F3#32
  have v25 : FVec Ideal S256x1024 .f32 := broadcast S256x1024 cst_17
  have v26 : FVec Ideal S256x1024 .f32 := mulf v25 v24
  have v27 : FVec Ideal S256x1024 .f32 := addf v26 v20
  v27

/-- The rest of `k0_pay7`, from its value `v27`. -/
def kmid  (v27 : FVec Ideal S256x1024 .f32) : FVec Ideal S256x1024 .f32 :=
  have v28 : FVec Ideal S256 .f32 := multiReduction .add [1] S256 v27 0x00000000#32 reduces_S256x1024_S256 (.inl rfl) rfl
  have v29 : FVec Ideal S256x1 .f32 := shapeCast S256x1 v28 shapeCasts_S256_S256x1
  have cst_19 : Ideal .f32 := Scalar.ofBits .f32 0x44800000#32
  have v30 : FVec Ideal S256x1 .f32 := broadcast S256x1 cst_19
  have v31 : FVec Ideal S256x1 .f32 := divf v29 v30
  have v32 : FVec Ideal S256x1024 .f32 := broadcastTo S256x1024 v31 broadcasts_S256x1_S256x1024
  have v33 : FVec Ideal S256x1024 .f32 := subf v27 v32
  v33

/-- `k0_pay7` in its two parts. -/
theorem kmid_eq (v0 : Vec Ideal S256x4096 .bf16) (v3 : Vec Ideal S4096x1024 .bf16) (v6 : Vec Ideal S256x1024 .f32) (v8 : Vec Ideal S256x1024 .f32) (v9 : Vec Ideal S256x1024 .f32) (v10 : Vec Ideal S1x1024 .f32) (v12 : Vec Ideal S1x1024 .f32) : k0_pay7 (F := Ideal) v0 v3 v6 v8 v9 v10 v12 = kmid  (ksum v0 v3 v6 v8 v9 v10 v12) := rfl

/-- The normalised input the host hands the kernel is the reference's. -/
theorem h23_eq (c : Dev nD) : h_v23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = Ref.r_v17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := rfl

/-- The sum the layer norm reads, on the kernel's blocks. -/
def KS (c : Dev nD) (t : Fin cfg0.N) : FVec Ideal S256x1024 .f32 :=
  ksum (View.ld (iblk m c 0 t) r0_0) (View.ld (iblk m c 1 t) r0_1) (View.ld (iblk m c 2 t) r0_2) (View.ld (iblk m c 3 t) r0_2)
    (View.ld (iblk m c 4 t) r0_2) (View.ld (iblk m c 5 t) r0_3) (View.ld (iblk m c 6 t) r0_3)

set_option maxHeartbeats 2000000 in
/-- The sum the layer norm reads: a block of the kernel's is the block of the reference's it sits at. -/
theorem sum_eq (c : Dev nD) (t : Fin cfg0.N) (y) :
    KS m c t y = Ref.r_v36 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  generalize hj : (((cfg0.win 9).blk t).view.emb y) = j
  pointwise [KS, ksum, Ref.r_v18, Ref.r_v19, Ref.r_v20, Ref.r_v21, Ref.r_v22, Ref.r_v23, Ref.r_cst_4, Ref.r_v24, Ref.r_v25, Ref.r_v26, Ref.r_v27, Ref.r_v28, Ref.r_v29, Ref.r_v30, Ref.r_cst_5, Ref.r_v31, Ref.r_v32, Ref.r_cst_6, Ref.r_v33, Ref.r_v34, Ref.r_v35, Ref.r_v36]
  blk_simp [iblk]
  rw [entry_v0 m c, entry_v1 m c, entry_v4 m c, entry_v5 m c, entry_v23 m c, h23_eq m c]
  pointwise [h_v0, h_v1, h_v4, h_v5]
  subst hj
  simp only [add_assoc, Ideal.logistic]
  blk_point [V, idx_val t]

/-- The row of the array that row `r` of block `t` is. -/
def rowOf (t : Fin cfg0.N) (r : Fin 256) : Fin 8192 :=
  ⟨t.val * 256 + r.val, by have h1 := t.isLt; have h2 : cfg0.N = 32 := rfl; have := r.isLt; omega⟩

theorem emb_9 (t : Fin cfg0.N) (r : Fin 256) (k : Fin 1024) :
    ((cfg0.win 9).blk t).view.emb (ix2 r k) = ix2 (rowOf t r) k := by
  blk_ext [idx_val t, rowOf]

theorem emb_10 (t : Fin cfg0.N) (r : Fin 256) (k : Fin 128) :
    ((cfg0.win 10).blk t).view.emb (ix2 r k) = ix2 (rowOf t r) k := by
  blk_ext [idx_val t, rowOf]

theorem emb_11 (t : Fin cfg0.N) (r : Fin 256) (k : Fin 1024) :
    ((cfg0.win 11).blk t).view.emb (ix2 r k) = ix2 (rowOf t r) k := by
  blk_ext [idx_val t, rowOf]

/-- The sum, at the row of the array that row `r` of the block is. -/
theorem sum_row (c : Dev nD) (t : Fin cfg0.N) (r : Fin 256) (k : Fin 1024) :
    KS m c t (ix2 r k) = Ref.r_v36 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (rowOf t r) k) := by
  rw [sum_eq, emb_9]

/-- The centred row the kernel stores for its second part. -/
theorem pay9_eq (c : Dev nD) (t : Fin cfg0.N) : k0_pay9 (F := Ideal) (iblk m c 0 t) (iblk m c 1 t) (iblk m c 2 t) (iblk m c 3 t) (iblk m c 4 t) (iblk m c 5 t) (iblk m c 6 t) (iblk m c 7 t) (iblk m c 8 t) = kmid (KS m c t) := rfl

/-- Its square. -/
theorem pay10_eq (c : Dev nD) (t : Fin cfg0.N) : k0_pay10 (F := Ideal) (iblk m c 0 t) (iblk m c 1 t) (iblk m c 2 t) (iblk m c 3 t) (iblk m c 4 t) (iblk m c 5 t) (iblk m c 6 t) (iblk m c 7 t) (iblk m c 8 t) = mulf (kmid (KS m c t)) (kmid (KS m c t)) := rfl

/-- POINT: what the body stores at block index `y` of point `t` is the reference at the array index `y` sits at. -/
theorem point_9 (c : Dev nD) (t : Fin cfg0.N) (y) :
    k0_pay2 (k0_pay9 (iblk m c 0 t) (iblk m c 1 t) (iblk m c 2 t) (iblk m c 3 t) (iblk m c 4 t) (iblk m c 5 t) (iblk m
      c 6 t) (iblk m c 7 t) (iblk m c 8 t)) (k0_pay10 (iblk m c 0 t) (iblk m c 1 t) (iblk m c 2 t) (iblk m c 3 t) (iblk
      m c 4 t) (iblk m c 5 t) (iblk m c 6 t) (iblk m c 7 t) (iblk m c 8 t)) y
      = (REF_v54 m c) (((cfg0.win 9).blk t).view.emb y) := by
  obtain ⟨r, k, rfl⟩ : ∃ (r : Fin 256) (k : Fin 1024), y = ix2 r k := ⟨y 0, y 1, eq_ix2 y⟩
  rw [emb_9, pay9_eq, pay10_eq]
  pointwise [k0_pay2, k0_pay1, kmid, Ref.r_cst_7, Ref.r_v37, Ref.r_v38, Ref.r_cst_8, Ref.r_v39, Ref.r_v40, Ref.r_v41, Ref.r_v42, Ref.r_v43, Ref.r_cst_9, Ref.r_v44, Ref.r_v45, Ref.r_cst_10, Ref.r_v46, Ref.r_v47, Ref.r_v48, Ref.r_v49, Ref.r_cst_11, Ref.r_v50, Ref.r_v51, Ref.r_v52, Ref.r_v53, Ref.r_v54]
  simp only [sum_row]

/-- BRIDGE: the result array after the run (complete: the blocks tile the array, decided). -/
theorem final_9 (c : Dev nD) : (dats m 0 c).arrAt 9 (cfgs 0).N = (REF_v54 m c) := by
  refine (dats m 0 c).arrAt_eq_of_covers 9 _ (by decide +kernel) fun t hf y => ?_
  blk_simp; rw [after0_9]; frame_out
  exact point_9 m c t y

/-- POINT: what the body stores at block index `y` of point `t` is the reference at the array index `y` sits at. -/
theorem point_10 (c : Dev nD) (t : Fin cfg0.N) (y) :
    k0_pay3 (k0_pay10 (iblk m c 0 t) (iblk m c 1 t) (iblk m c 2 t) (iblk m c 3 t) (iblk m c 4 t) (iblk m c 5 t) (iblk
      m c 6 t) (iblk m c 7 t) (iblk m c 8 t)) y
      = (REF_v58 m c) (((cfg0.win 10).blk t).view.emb y) := by
  obtain ⟨r, k, rfl⟩ : ∃ (r : Fin 256) (k : Fin 128), y = ix2 r k := ⟨y 0, y 1, eq_ix2 y⟩
  rw [emb_10, pay10_eq]
  pointwise [k0_pay3, k0_pay1, kmid, Ref.r_cst_7, Ref.r_v37, Ref.r_v38, Ref.r_cst_8, Ref.r_v39, Ref.r_v40, Ref.r_v41, Ref.r_v42, Ref.r_v43, Ref.r_cst_9, Ref.r_v44, Ref.r_v45, Ref.r_cst_10, Ref.r_v46, Ref.r_v47, Ref.r_v48, Ref.r_v49, Ref.r_cst_11, Ref.r_v50, Ref.r_v51, Ref.r_v52, Ref.r_v53, Ref.r_v54, Ref.r_cst_12, Ref.r_v55, Ref.r_v56, Ref.r_v57, Ref.r_v58]
  simp only [sum_row]

/-- BRIDGE: the result array after the run (complete: the blocks tile the array, decided). -/
theorem final_10 (c : Dev nD) : (dats m 0 c).arrAt 10 (cfgs 0).N = (REF_v58 m c) := by
  refine (dats m 0 c).arrAt_eq_of_covers 10 _ (by decide +kernel) fun t hf y => ?_
  blk_simp; rw [after0_10]; frame_out
  exact point_10 m c t y

/-- POINT: what the body stores at block index `y` of point `t` is the reference at the array index `y` sits at. -/
theorem point_11 (c : Dev nD) (t : Fin cfg0.N) (y) :
    k0_pay4 (k0_pay5 (iblk m c 7 t)) (k0_pay6 (iblk m c 8 t)) (k0_pay9 (iblk m c 0 t) (iblk m c 1 t) (iblk m c 2 t)
      (iblk m c 3 t) (iblk m c 4 t) (iblk m c 5 t) (iblk m c 6 t) (iblk m c 7 t) (iblk m c 8 t)) (k0_pay10 (iblk m c 0
      t) (iblk m c 1 t) (iblk m c 2 t) (iblk m c 3 t) (iblk m c 4 t) (iblk m c 5 t) (iblk m c 6 t) (iblk m c 7 t) (iblk
      m c 8 t)) y
      = (REF_v83 m c) (((cfg0.win 11).blk t).view.emb y) := by
  obtain ⟨r, k, rfl⟩ : ∃ (r : Fin 256) (k : Fin 1024), y = ix2 r k := ⟨y 0, y 1, eq_ix2 y⟩
  rw [emb_11, pay9_eq, pay10_eq]
  pointwise [k0_pay4, k0_pay5, k0_pay6, k0_pay2, k0_pay1, kmid, Ref.r_cst_13, Ref.r_v59, Ref.r_v60, Ref.r_cst_14, Ref.r_v61, Ref.r_v62, Ref.r_v63, Ref.r_v64, Ref.r_v65, Ref.r_cst_15, Ref.r_v66, Ref.r_v67, Ref.r_cst_16, Ref.r_v68, Ref.r_v69, Ref.r_v70, Ref.r_v71, Ref.r_cst_17, Ref.r_v72, Ref.r_v73, Ref.r_v74, Ref.r_v75, Ref.r_v76, Ref.r_v77, Ref.r_v78, Ref.r_v79, Ref.r_v80, Ref.r_v81, Ref.r_v82, Ref.r_v83, Ref.r_cst_7, Ref.r_v37, Ref.r_v38, Ref.r_cst_8, Ref.r_v39, Ref.r_v40, Ref.r_v41, Ref.r_v42, Ref.r_v43, Ref.r_cst_9, Ref.r_v44, Ref.r_v45, Ref.r_cst_10, Ref.r_v46, Ref.r_v47, Ref.r_v48, Ref.r_v49, Ref.r_cst_11, Ref.r_v50, Ref.r_v51, Ref.r_v52, Ref.r_v53, Ref.r_v54]
  simp only [sum_row]
  blk_simp [iblk]
  rw [entry_v2 m c, entry_v3 m c]
  pointwise [h_v2, h_v3]
  blk_point [V, idx_val t]

/-- BRIDGE: the result array after the run (complete: the blocks tile the array, decided). -/
theorem final_11 (c : Dev nD) : (dats m 0 c).arrAt 11 (cfgs 0).N = (REF_v83 m c) := by
  refine (dats m 0 c).arrAt_eq_of_covers 11 _ (by decide +kernel) fun t hf y => ?_
  blk_simp; rw [after0_11]; frame_out
  exact point_11 m c t y

end Cert.MlpLnValue

end
-- ==== Proof.OutLn.lean ====
/- The value of `Cert.OutLnIdeal`. -/
module

public import proofs.«01_k».proof.Proof.Gen.OutLnIdeal
public import proofs.«01_k».proof.Proof.Gen.OutLnIdeal.Frame
public import proofs.«01_k».proof.Proof.Gen.OutLnRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.OutLnValue.Ref

open Cert.OutLnRefIdeal Cert.OutLnRefIdeal.Gen

/-! The reference, an operation at a time, over its arguments. -/

def r_cst (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x00000000#32)

def r_v0 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192 .f32 :=
  Host.reduceAdd a0 (r_cst a0 a1 a2 a3 a4 a5 a6) reducesTo_S8192x1024_S8192_d1 h_S_

def r_v1 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![0] bcast_S8192_S8192x1_0 (r_v0 a0 a1 a2 a3 a4 a5 a6)

def r_cst_0 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x44800000#32)

def r_v2 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (r_cst_0 a0 a1 a2 a3 a4 a5 a6)

def r_v3 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.divf (r_v1 a0 a1 a2 a3 a4 a5 a6) (r_v2 a0 a1 a2 a3 a4 a5 a6)

def r_v4 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S8192x1_S8192x1024_0_1 (r_v3 a0 a1 a2 a3 a4 a5 a6)

def r_v5 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  subf a0 (r_v4 a0 a1 a2 a3 a4 a5 a6)

def r_v6 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  mulf (r_v5 a0 a1 a2 a3 a4 a5 a6) (r_v5 a0 a1 a2 a3 a4 a5 a6)

def r_cst_1 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x00000000#32)

def r_v7 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192 .f32 :=
  Host.reduceAdd (r_v6 a0 a1 a2 a3 a4 a5 a6) (r_cst_1 a0 a1 a2 a3 a4 a5 a6) reducesTo_S8192x1024_S8192_d1 h_S_

def r_v8 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![0] bcast_S8192_S8192x1_0 (r_v7 a0 a1 a2 a3 a4 a5 a6)

def r_cst_2 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x44800000#32)

def r_v9 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (r_cst_2 a0 a1 a2 a3 a4 a5 a6)

def r_v10 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.divf (r_v8 a0 a1 a2 a3 a4 a5 a6) (r_v9 a0 a1 a2 a3 a4 a5 a6)

def r_v11 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S8192x1_S8192x1024_0_1 (r_v3 a0 a1 a2 a3 a4 a5 a6)

def r_v12 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  subf a0 (r_v11 a0 a1 a2 a3 a4 a5 a6)

def r_cst_3 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x3727C5AC#32)

def r_v13 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (r_cst_3 a0 a1 a2 a3 a4 a5 a6)

def r_v14 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  addf (r_v10 a0 a1 a2 a3 a4 a5 a6) (r_v13 a0 a1 a2 a3 a4 a5 a6)

def r_v15 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.rsqrt (r_v14 a0 a1 a2 a3 a4 a5 a6)

def r_v16 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S8192x1_S8192x1024_0_1 (r_v15 a0 a1 a2 a3 a4 a5 a6)

def r_v17 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  mulf (r_v12 a0 a1 a2 a3 a4 a5 a6) (r_v16 a0 a1 a2 a3 a4 a5 a6)

def r_v18 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S1x1024 .f32 :=
  broadcastInDim S1x1024 ![1] bcast_S1024_S1x1024_1 a1

def r_v19 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S1x1024_S8192x1024_0_1 (r_v18 a0 a1 a2 a3 a4 a5 a6)

def r_v20 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  mulf (r_v17 a0 a1 a2 a3 a4 a5 a6) (r_v19 a0 a1 a2 a3 a4 a5 a6)

def r_v21 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S1x1024 .f32 :=
  broadcastInDim S1x1024 ![1] bcast_S1024_S1x1024_1 a2

def r_v22 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S1x1024_S8192x1024_0_1 (r_v21 a0 a1 a2 a3 a4 a5 a6)

def r_v23 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  addf (r_v20 a0 a1 a2 a3 a4 a5 a6) (r_v22 a0 a1 a2 a3 a4 a5 a6)

def r_cst_4 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x3FB504F3#32)

def r_v24 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![] bcast_S_S8192x1024 (r_cst_4 a0 a1 a2 a3 a4 a5 a6)

def r_v25 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  mulf (r_v24 a0 a1 a2 a3 a4 a5 a6) (r_v23 a0 a1 a2 a3 a4 a5 a6)

def r_v26 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  Host.dotGeneral dot_S8192x1024_S1024x1024_S8192x1024_1_0_0_1_n_n none a3 a4

def r_v27 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  addf (r_v25 a0 a1 a2 a3 a4 a5 a6) (r_v26 a0 a1 a2 a3 a4 a5 a6)

def r_cst_5 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x00000000#32)

def r_v28 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192 .f32 :=
  Host.reduceAdd (r_v27 a0 a1 a2 a3 a4 a5 a6) (r_cst_5 a0 a1 a2 a3 a4 a5 a6) reducesTo_S8192x1024_S8192_d1 h_S_

def r_v29 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![0] bcast_S8192_S8192x1_0 (r_v28 a0 a1 a2 a3 a4 a5 a6)

def r_cst_6 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x44800000#32)

def r_v30 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (r_cst_6 a0 a1 a2 a3 a4 a5 a6)

def r_v31 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.divf (r_v29 a0 a1 a2 a3 a4 a5 a6) (r_v30 a0 a1 a2 a3 a4 a5 a6)

def r_v32 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S8192x1_S8192x1024_0_1 (r_v31 a0 a1 a2 a3 a4 a5 a6)

def r_v33 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  subf (r_v27 a0 a1 a2 a3 a4 a5 a6) (r_v32 a0 a1 a2 a3 a4 a5 a6)

def r_v34 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  mulf (r_v33 a0 a1 a2 a3 a4 a5 a6) (r_v33 a0 a1 a2 a3 a4 a5 a6)

def r_cst_7 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x00000000#32)

def r_v35 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192 .f32 :=
  Host.reduceAdd (r_v34 a0 a1 a2 a3 a4 a5 a6) (r_cst_7 a0 a1 a2 a3 a4 a5 a6) reducesTo_S8192x1024_S8192_d1 h_S_

def r_v36 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![0] bcast_S8192_S8192x1_0 (r_v35 a0 a1 a2 a3 a4 a5 a6)

def r_cst_8 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x44800000#32)

def r_v37 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (r_cst_8 a0 a1 a2 a3 a4 a5 a6)

def r_v38 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.divf (r_v36 a0 a1 a2 a3 a4 a5 a6) (r_v37 a0 a1 a2 a3 a4 a5 a6)

def r_v39 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S8192x1_S8192x1024_0_1 (r_v31 a0 a1 a2 a3 a4 a5 a6)

def r_v40 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  subf (r_v27 a0 a1 a2 a3 a4 a5 a6) (r_v39 a0 a1 a2 a3 a4 a5 a6)

def r_cst_9 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x3727C5AC#32)

def r_v41 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (r_cst_9 a0 a1 a2 a3 a4 a5 a6)

def r_v42 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  addf (r_v38 a0 a1 a2 a3 a4 a5 a6) (r_v41 a0 a1 a2 a3 a4 a5 a6)

def r_v43 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.rsqrt (r_v42 a0 a1 a2 a3 a4 a5 a6)

def r_v44 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S8192x1_S8192x1024_0_1 (r_v43 a0 a1 a2 a3 a4 a5 a6)

def r_v45 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  mulf (r_v40 a0 a1 a2 a3 a4 a5 a6) (r_v44 a0 a1 a2 a3 a4 a5 a6)

def r_cst_10 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x3727C5AC#32)

def r_v46 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (r_cst_10 a0 a1 a2 a3 a4 a5 a6)

def r_v47 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  addf (r_v38 a0 a1 a2 a3 a4 a5 a6) (r_v46 a0 a1 a2 a3 a4 a5 a6)

def r_v48 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.rsqrt (r_v47 a0 a1 a2 a3 a4 a5 a6)

def r_v49 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x128 .f32 :=
  broadcastInDim S8192x128 ![0, 1] bcast_S8192x1_S8192x128_0_1 (r_v48 a0 a1 a2 a3 a4 a5 a6)

def r_cst_11 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x00000000#32)

def r_v50 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192 .f32 :=
  Host.reduceAdd (r_v27 a0 a1 a2 a3 a4 a5 a6) (r_cst_11 a0 a1 a2 a3 a4 a5 a6) reducesTo_S8192x1024_S8192_d1 h_S_

def r_v51 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![0] bcast_S8192_S8192x1_0 (r_v50 a0 a1 a2 a3 a4 a5 a6)

def r_cst_12 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x44800000#32)

def r_v52 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (r_cst_12 a0 a1 a2 a3 a4 a5 a6)

def r_v53 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.divf (r_v51 a0 a1 a2 a3 a4 a5 a6) (r_v52 a0 a1 a2 a3 a4 a5 a6)

def r_v54 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S8192x1_S8192x1024_0_1 (r_v53 a0 a1 a2 a3 a4 a5 a6)

def r_v55 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  subf (r_v27 a0 a1 a2 a3 a4 a5 a6) (r_v54 a0 a1 a2 a3 a4 a5 a6)

def r_v56 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  mulf (r_v55 a0 a1 a2 a3 a4 a5 a6) (r_v55 a0 a1 a2 a3 a4 a5 a6)

def r_cst_13 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x00000000#32)

def r_v57 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192 .f32 :=
  Host.reduceAdd (r_v56 a0 a1 a2 a3 a4 a5 a6) (r_cst_13 a0 a1 a2 a3 a4 a5 a6) reducesTo_S8192x1024_S8192_d1 h_S_

def r_v58 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![0] bcast_S8192_S8192x1_0 (r_v57 a0 a1 a2 a3 a4 a5 a6)

def r_cst_14 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x44800000#32)

def r_v59 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (r_cst_14 a0 a1 a2 a3 a4 a5 a6)

def r_v60 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.divf (r_v58 a0 a1 a2 a3 a4 a5 a6) (r_v59 a0 a1 a2 a3 a4 a5 a6)

def r_v61 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S8192x1_S8192x1024_0_1 (r_v53 a0 a1 a2 a3 a4 a5 a6)

def r_v62 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  subf (r_v27 a0 a1 a2 a3 a4 a5 a6) (r_v61 a0 a1 a2 a3 a4 a5 a6)

def r_cst_15 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x3727C5AC#32)

def r_v63 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (r_cst_15 a0 a1 a2 a3 a4 a5 a6)

def r_v64 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  addf (r_v60 a0 a1 a2 a3 a4 a5 a6) (r_v63 a0 a1 a2 a3 a4 a5 a6)

def r_v65 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.rsqrt (r_v64 a0 a1 a2 a3 a4 a5 a6)

def r_v66 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S8192x1_S8192x1024_0_1 (r_v65 a0 a1 a2 a3 a4 a5 a6)

def r_v67 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  mulf (r_v62 a0 a1 a2 a3 a4 a5 a6) (r_v66 a0 a1 a2 a3 a4 a5 a6)

def r_v68 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S1x1024 .f32 :=
  broadcastInDim S1x1024 ![1] bcast_S1024_S1x1024_1 a5

def r_v69 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S1x1024_S8192x1024_0_1 (r_v68 a0 a1 a2 a3 a4 a5 a6)

def r_v70 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  mulf (r_v67 a0 a1 a2 a3 a4 a5 a6) (r_v69 a0 a1 a2 a3 a4 a5 a6)

def r_v71 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S1x1024 .f32 :=
  broadcastInDim S1x1024 ![1] bcast_S1024_S1x1024_1 a6

def r_v72 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S1x1024_S8192x1024_0_1 (r_v71 a0 a1 a2 a3 a4 a5 a6)

def r_v73 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  addf (r_v70 a0 a1 a2 a3 a4 a5 a6) (r_v72 a0 a1 a2 a3 a4 a5 a6)

def r_v74 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .bf16 :=
  truncf .bf16 (r_v73 a0 a1 a2 a3 a4 a5 a6) bitsLt_bf16_f32

end Cert.OutLnValue.Ref

namespace Cert.OutLnValue

open Cert.OutLnIdeal Cert.OutLnIdeal.Gen

variable (m : (ℓ : Loc nD τ sig) → Buf (Elt Ideal) ℓ)

/-- Result `v45` of the reference, at the kernel's arguments. -/
abbrev REF_v45 (c : Dev nD) :=
  Ref.r_v45 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- Result `v49` of the reference, at the kernel's arguments. -/
abbrev REF_v49 (c : Dev nD) :=
  Ref.r_v49 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- Result `v74` of the reference, at the kernel's arguments. -/
abbrev REF_v74 (c : Dev nD) :=
  Ref.r_v74 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0]
    ∧ win0_3.index t = ![0, 0]
    ∧ win0_4.index t = ![0, 0]
    ∧ win0_5.index t = ![0, 0]
    ∧ win0_6.index t = ![0, 0]
    ∧ win0_7.index t = ![(grid0.coords t 0).val, 0]
    ∧ win0_8.index t = ![(grid0.coords t 0).val, 0]
    ∧ win0_9.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0] :=
  (by decide +kernel : ∀ t : Fin grid0.N, _)

/-! What the host prepares before the kernel, an operation at a time. -/

def h_v0 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S1x1024 .f32 :=
  broadcastInDim S1x1024 ![1] bcast_S1024_S1x1024_1 a1

def h_v1 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S1x1024 .f32 :=
  broadcastInDim S1x1024 ![1] bcast_S1024_S1x1024_1 a2

def h_v2 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S1x1024 .f32 :=
  broadcastInDim S1x1024 ![1] bcast_S1024_S1x1024_1 a5

def h_v3 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S1x1024 .f32 :=
  broadcastInDim S1x1024 ![1] bcast_S1024_S1x1024_1 a6

def h_v4 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .bf16 :=
  truncf .bf16 a3 bitsLt_bf16_f32

def h_v5 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S1024x1024 .bf16 :=
  truncf .bf16 a4 bitsLt_bf16_f32

def h_cst (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x00000000#32)

def h_v6 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192 .f32 :=
  Host.reduceAdd a0 (h_cst a0 a1 a2 a3 a4 a5 a6) reducesTo_S8192x1024_S8192_d1 h_S_

def h_v7 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![0] bcast_S8192_S8192x1_0 (h_v6 a0 a1 a2 a3 a4 a5 a6)

def h_cst_0 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x44800000#32)

def h_v8 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (h_cst_0 a0 a1 a2 a3 a4 a5 a6)

def h_v9 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.divf (h_v7 a0 a1 a2 a3 a4 a5 a6) (h_v8 a0 a1 a2 a3 a4 a5 a6)

def h_v10 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S8192x1_S8192x1024_0_1 (h_v9 a0 a1 a2 a3 a4 a5 a6)

def h_v11 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  subf a0 (h_v10 a0 a1 a2 a3 a4 a5 a6)

def h_v12 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  mulf (h_v11 a0 a1 a2 a3 a4 a5 a6) (h_v11 a0 a1 a2 a3 a4 a5 a6)

def h_cst_1 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x00000000#32)

def h_v13 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192 .f32 :=
  Host.reduceAdd (h_v12 a0 a1 a2 a3 a4 a5 a6) (h_cst_1 a0 a1 a2 a3 a4 a5 a6) reducesTo_S8192x1024_S8192_d1 h_S_

def h_v14 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![0] bcast_S8192_S8192x1_0 (h_v13 a0 a1 a2 a3 a4 a5 a6)

def h_cst_2 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x44800000#32)

def h_v15 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (h_cst_2 a0 a1 a2 a3 a4 a5 a6)

def h_v16 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.divf (h_v14 a0 a1 a2 a3 a4 a5 a6) (h_v15 a0 a1 a2 a3 a4 a5 a6)

def h_v17 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S8192x1_S8192x1024_0_1 (h_v9 a0 a1 a2 a3 a4 a5 a6)

def h_v18 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  subf a0 (h_v17 a0 a1 a2 a3 a4 a5 a6)

def h_cst_3 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x3727C5AC#32)

def h_v19 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (h_cst_3 a0 a1 a2 a3 a4 a5 a6)

def h_v20 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  addf (h_v16 a0 a1 a2 a3 a4 a5 a6) (h_v19 a0 a1 a2 a3 a4 a5 a6)

def h_v21 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.rsqrt (h_v20 a0 a1 a2 a3 a4 a5 a6)

def h_v22 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  broadcastInDim S8192x1024 ![0, 1] bcast_S8192x1_S8192x1024_0_1 (h_v21 a0 a1 a2 a3 a4 a5 a6)

def h_v23 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1024 .f32 :=
  mulf (h_v18 a0 a1 a2 a3 a4 a5 a6) (h_v22 a0 a1 a2 a3 a4 a5 a6)

def h_cst_4 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S_ .f32 :=
  (constant S_ .f32 0x3727C5AC#32)

def h_v24 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  broadcastInDim S8192x1 ![] bcast_S_S8192x1 (h_cst_4 a0 a1 a2 a3 a4 a5 a6)

def h_v25 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  addf (h_v16 a0 a1 a2 a3 a4 a5 a6) (h_v24 a0 a1 a2 a3 a4 a5 a6)

def h_v26 (a0 : FVec Ideal S8192x1024 .f32) (a1 a2 : FVec Ideal S1024 .f32) (a3 : FVec Ideal S8192x1024 .f32) (a4 : FVec Ideal S1024x1024 .f32) (a5 a6 : FVec Ideal S1024 .f32) : FVec Ideal S8192x1 .f32 :=
  Host.rsqrt (h_v25 a0 a1 a2 a3 a4 a5 a6)

/-- The contents of `main_v4`, window 0's array, when the kernel's region begins. -/
theorem entry_v4 (c : Dev nD) : @Eq (FVec Ideal S8192x1024 .bf16) (V m c main_v4) (h_v4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  entry_read
  try rfl

/-- The contents of `main_v5`, window 1's array, when the kernel's region begins. -/
theorem entry_v5 (c : Dev nD) : @Eq (FVec Ideal S1024x1024 .bf16) (V m c main_v5) (h_v5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  entry_read
  try rfl

/-- The contents of `main_v23`, window 2's array, when the kernel's region begins. -/
theorem entry_v23 (c : Dev nD) : @Eq (FVec Ideal S8192x1024 .f32) (V m c main_v23) (h_v23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  entry_read
  try rfl

/-- The contents of `main_v0`, window 3's array, when the kernel's region begins. -/
theorem entry_v0 (c : Dev nD) : @Eq (FVec Ideal S1x1024 .f32) (V m c main_v0) (h_v0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  entry_read
  try rfl

/-- The contents of `main_v1`, window 4's array, when the kernel's region begins. -/
theorem entry_v1 (c : Dev nD) : @Eq (FVec Ideal S1x1024 .f32) (V m c main_v1) (h_v1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  entry_read
  try rfl

/-- The contents of `main_v2`, window 5's array, when the kernel's region begins. -/
theorem entry_v2 (c : Dev nD) : @Eq (FVec Ideal S1x1024 .f32) (V m c main_v2) (h_v2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  entry_read
  try rfl

/-- The contents of `main_v3`, window 6's array, when the kernel's region begins. -/
theorem entry_v3 (c : Dev nD) : @Eq (FVec Ideal S1x1024 .f32) (V m c main_v3) (h_v3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  entry_read
  try rfl

/-- The first part of `k0_pay6`: its value `v21`. -/
def ksum (v0 : Vec Ideal S512x1024 .bf16) (v2 : Vec Ideal S1024x1024 .bf16) (v5 : Vec Ideal S512x1024 .f32) (v7 : Vec Ideal S1x1024 .f32) (v9 : Vec Ideal S1x1024 .f32) : FVec Ideal S512x1024 .f32 :=
  have v1 : FVec Ideal S512x1024 .bf16 := shapeCast S512x1024 v0 shapeCasts_S512x1024_S512x1024
  have v3 : FVec Ideal S1024x1024 .bf16 := shapeCast S1024x1024 v2 shapeCasts_S1024x1024_S1024x1024
  have cst : FVec Ideal S512x1024 .f32 := constant S512x1024 .f32 0x00000000#32
  have v4 : FVec Ideal S512x1024 .f32 := matmul dot_S512x1024_S1024x1024_S512x1024_1_0_0_1_n_n none v1 v3 cst
  have v6 : FVec Ideal S512x1024 .f32 := shapeCast S512x1024 v5 shapeCasts_S512x1024_S512x1024
  have v8 : FVec Ideal S1x1024 .f32 := shapeCast S1x1024 v7 shapeCasts_S1x1024_S1x1024
  have v10 : FVec Ideal S1x1024 .f32 := shapeCast S1x1024 v9 shapeCasts_S1x1024_S1x1024
  have v15 : FVec Ideal S512x1024 .f32 := broadcastTo S512x1024 v8 broadcasts_S1x1024_S512x1024
  have v16 : FVec Ideal S512x1024 .f32 := mulf v6 v15
  have v17 : FVec Ideal S512x1024 .f32 := broadcastTo S512x1024 v10 broadcasts_S1x1024_S512x1024
  have v18 : FVec Ideal S512x1024 .f32 := addf v16 v17
  have cst_13 : Ideal .f32 := Scalar.ofBits .f32 0x3FB504F3#32
  have v19 : FVec Ideal S512x1024 .f32 := broadcast S512x1024 cst_13
  have v20 : FVec Ideal S512x1024 .f32 := mulf v19 v18
  have v21 : FVec Ideal S512x1024 .f32 := addf v20 v4
  v21

/-- The rest of `k0_pay6`, from its value `v21`. -/
def kmid  (v21 : FVec Ideal S512x1024 .f32) : FVec Ideal S512x1024 .f32 :=
  have v22 : FVec Ideal S512 .f32 := multiReduction .add [1] S512 v21 0x00000000#32 reduces_S512x1024_S512 (.inl rfl) rfl
  have v23 : FVec Ideal S512x1 .f32 := shapeCast S512x1 v22 shapeCasts_S512_S512x1
  have cst_15 : Ideal .f32 := Scalar.ofBits .f32 0x44800000#32
  have v24 : FVec Ideal S512x1 .f32 := broadcast S512x1 cst_15
  have v25 : FVec Ideal S512x1 .f32 := divf v23 v24
  have v26 : FVec Ideal S512x1024 .f32 := broadcastTo S512x1024 v25 broadcasts_S512x1_S512x1024
  have v27 : FVec Ideal S512x1024 .f32 := subf v21 v26
  v27

/-- `k0_pay6` in its two parts. -/
theorem kmid_eq (v0 : Vec Ideal S512x1024 .bf16) (v2 : Vec Ideal S1024x1024 .bf16) (v5 : Vec Ideal S512x1024 .f32) (v7 : Vec Ideal S1x1024 .f32) (v9 : Vec Ideal S1x1024 .f32) : k0_pay6 (F := Ideal) v0 v2 v5 v7 v9 = kmid  (ksum v0 v2 v5 v7 v9) := rfl

/-- The inverse deviation of the rows of centred values. -/
def krstd (v27 : FVec Ideal S512x1024 .f32) : FVec Ideal S512x1 .f32 :=
  have v28 : FVec Ideal S512x1024 .f32 := mulf v27 v27
  have v29 : FVec Ideal S512 .f32 := multiReduction .add [1] S512 v28 0x00000000#32 reduces_S512x1024_S512 (.inl rfl) rfl
  have v30 : FVec Ideal S512x1 .f32 := shapeCast S512x1 v29 shapeCasts_S512_S512x1
  have cst_17 : Ideal .f32 := Scalar.ofBits .f32 0x44800000#32
  have v31 : FVec Ideal S512x1 .f32 := broadcast S512x1 cst_17
  have v32 : FVec Ideal S512x1 .f32 := divf v30 v31
  have cst_18 : Ideal .f32 := Scalar.ofBits .f32 0x3727C5AC#32
  have v33 : FVec Ideal S512x1 .f32 := broadcast S512x1 cst_18
  have v34 : FVec Ideal S512x1 .f32 := addf v32 v33
  have v35 : FVec Ideal S512x1 .f32 := rsqrt v34
  v35

/-- The normalised input the host hands the kernel is the reference's. -/
theorem h23_eq (c : Dev nD) : h_v23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = Ref.r_v17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := rfl

/-- The sum the layer norm reads, on the kernel's blocks. -/
def KS (c : Dev nD) (t : Fin cfg0.N) : FVec Ideal S512x1024 .f32 :=
  ksum (View.ld (iblk m c 0 t) r0_0) (View.ld (iblk m c 1 t) r0_1) (View.ld (iblk m c 2 t) r0_0) (View.ld (iblk m c 3 t) r0_2)
    (View.ld (iblk m c 4 t) r0_2)

set_option maxHeartbeats 2000000 in
/-- The sum the layer norm reads: a block of the kernel's is the block of the reference's it sits at. -/
theorem sum_eq (c : Dev nD) (t : Fin cfg0.N) (y) :
    KS m c t y = Ref.r_v27 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  generalize hj : (((cfg0.win 7).blk t).view.emb y) = j
  pointwise [KS, ksum, Ref.r_v18, Ref.r_v19, Ref.r_v20, Ref.r_v21, Ref.r_v22, Ref.r_v23, Ref.r_cst_4, Ref.r_v24, Ref.r_v25, Ref.r_v26, Ref.r_v27]
  blk_simp [iblk]
  rw [entry_v0 m c, entry_v1 m c, entry_v4 m c, entry_v5 m c, entry_v23 m c, h23_eq m c]
  pointwise [h_v0, h_v1, h_v4, h_v5]
  subst hj
  blk_point [V, idx_val t]

/-- The row of the array that row `r` of block `t` is. -/
def rowOf (t : Fin cfg0.N) (r : Fin 512) : Fin 8192 :=
  ⟨t.val * 512 + r.val, by have h1 := t.isLt; have h2 : cfg0.N = 16 := rfl; have := r.isLt; omega⟩

theorem emb_7 (t : Fin cfg0.N) (r : Fin 512) (k : Fin 1024) :
    ((cfg0.win 7).blk t).view.emb (ix2 r k) = ix2 (rowOf t r) k := by
  blk_ext [idx_val t, rowOf]

theorem emb_8 (t : Fin cfg0.N) (r : Fin 512) (k : Fin 128) :
    ((cfg0.win 8).blk t).view.emb (ix2 r k) = ix2 (rowOf t r) k := by
  blk_ext [idx_val t, rowOf]

theorem emb_9 (t : Fin cfg0.N) (r : Fin 512) (k : Fin 1024) :
    ((cfg0.win 9).blk t).view.emb (ix2 r k) = ix2 (rowOf t r) k := by
  blk_ext [idx_val t, rowOf]

/-- The sum, at the row of the array that row `r` of the block is. -/
theorem sum_row (c : Dev nD) (t : Fin cfg0.N) (r : Fin 512) (k : Fin 1024) :
    KS m c t (ix2 r k) = Ref.r_v27 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (rowOf t r) k) := by
  rw [sum_eq, emb_7]

/-- The centred row the kernel stores for its second part. -/
theorem pay8_eq (c : Dev nD) (t : Fin cfg0.N) : k0_pay8 (F := Ideal) (iblk m c 0 t) (iblk m c 1 t) (iblk m c 2 t) (iblk m c 3 t) (iblk m c 4 t) (iblk m c 5 t) (iblk m c 6 t) = kmid (KS m c t) := rfl

/-- The inverse deviation of its rows. -/
theorem pay9_eq (c : Dev nD) (t : Fin cfg0.N) : k0_pay9 (F := Ideal) (iblk m c 0 t) (iblk m c 1 t) (iblk m c 2 t) (iblk m c 3 t) (iblk m c 4 t) (iblk m c 5 t) (iblk m c 6 t) = krstd (kmid (KS m c t)) := rfl

/-- POINT: what the body stores at block index `y` of point `t` is the reference at the array index `y` sits at. -/
theorem point_7 (c : Dev nD) (t : Fin cfg0.N) (y) :
    k0_pay1 (k0_pay8 (iblk m c 0 t) (iblk m c 1 t) (iblk m c 2 t) (iblk m c 3 t) (iblk m c 4 t) (iblk m c 5 t) (iblk m
      c 6 t)) (k0_pay9 (iblk m c 0 t) (iblk m c 1 t) (iblk m c 2 t) (iblk m c 3 t) (iblk m c 4 t) (iblk m c 5 t) (iblk m
      c 6 t)) y
      = (REF_v45 m c) (((cfg0.win 7).blk t).view.emb y) := by
  obtain ⟨r, k, rfl⟩ : ∃ (r : Fin 512) (k : Fin 1024), y = ix2 r k := ⟨y 0, y 1, eq_ix2 y⟩
  rw [emb_7, pay8_eq, pay9_eq]
  pointwise [k0_pay1, krstd, kmid, Ref.r_cst_5, Ref.r_v28, Ref.r_v29, Ref.r_cst_6, Ref.r_v30, Ref.r_v31, Ref.r_v32, Ref.r_v33, Ref.r_v34, Ref.r_cst_7, Ref.r_v35, Ref.r_v36, Ref.r_cst_8, Ref.r_v37, Ref.r_v38, Ref.r_v39, Ref.r_v40, Ref.r_cst_9, Ref.r_v41, Ref.r_v42, Ref.r_v43, Ref.r_v44, Ref.r_v45]
  simp only [sum_row]

/-- BRIDGE: the result array after the run (complete: the blocks tile the array, decided). -/
theorem final_7 (c : Dev nD) : (dats m 0 c).arrAt 7 (cfgs 0).N = (REF_v45 m c) := by
  refine (dats m 0 c).arrAt_eq_of_covers 7 _ (by decide +kernel) fun t hf y => ?_
  blk_simp; rw [after0_7]; frame_out
  exact point_7 m c t y

/-- POINT: what the body stores at block index `y` of point `t` is the reference at the array index `y` sits at. -/
theorem point_8 (c : Dev nD) (t : Fin cfg0.N) (y) :
    k0_pay2 (k0_pay9 (iblk m c 0 t) (iblk m c 1 t) (iblk m c 2 t) (iblk m c 3 t) (iblk m c 4 t) (iblk m c 5 t) (iblk m
      c 6 t)) y
      = (REF_v49 m c) (((cfg0.win 8).blk t).view.emb y) := by
  obtain ⟨r, k, rfl⟩ : ∃ (r : Fin 512) (k : Fin 128), y = ix2 r k := ⟨y 0, y 1, eq_ix2 y⟩
  rw [emb_8, pay9_eq]
  pointwise [k0_pay2, krstd, kmid, Ref.r_cst_5, Ref.r_v28, Ref.r_v29, Ref.r_cst_6, Ref.r_v30, Ref.r_v31, Ref.r_v32, Ref.r_v33, Ref.r_v34, Ref.r_cst_7, Ref.r_v35, Ref.r_v36, Ref.r_cst_8, Ref.r_v37, Ref.r_v38, Ref.r_v39, Ref.r_v40, Ref.r_cst_9, Ref.r_v41, Ref.r_v42, Ref.r_v43, Ref.r_v44, Ref.r_v45, Ref.r_cst_10, Ref.r_v46, Ref.r_v47, Ref.r_v48, Ref.r_v49]
  simp only [sum_row]

/-- BRIDGE: the result array after the run (complete: the blocks tile the array, decided). -/
theorem final_8 (c : Dev nD) : (dats m 0 c).arrAt 8 (cfgs 0).N = (REF_v49 m c) := by
  refine (dats m 0 c).arrAt_eq_of_covers 8 _ (by decide +kernel) fun t hf y => ?_
  blk_simp; rw [after0_8]; frame_out
  exact point_8 m c t y

/-- POINT: what the body stores at block index `y` of point `t` is the reference at the array index `y` sits at. -/
theorem point_9 (c : Dev nD) (t : Fin cfg0.N) (y) :
    k0_pay3 (k0_pay4 (iblk m c 5 t)) (k0_pay5 (iblk m c 6 t)) (k0_pay8 (iblk m c 0 t) (iblk m c 1 t) (iblk m c 2 t)
      (iblk m c 3 t) (iblk m c 4 t) (iblk m c 5 t) (iblk m c 6 t)) (k0_pay9 (iblk m c 0 t) (iblk m c 1 t) (iblk m c 2 t)
      (iblk m c 3 t) (iblk m c 4 t) (iblk m c 5 t) (iblk m c 6 t)) y
      = (REF_v74 m c) (((cfg0.win 9).blk t).view.emb y) := by
  obtain ⟨r, k, rfl⟩ : ∃ (r : Fin 512) (k : Fin 1024), y = ix2 r k := ⟨y 0, y 1, eq_ix2 y⟩
  rw [emb_9, pay8_eq, pay9_eq]
  pointwise [k0_pay3, k0_pay4, k0_pay5, k0_pay1, krstd, kmid, Ref.r_cst_11, Ref.r_v50, Ref.r_v51, Ref.r_cst_12, Ref.r_v52, Ref.r_v53, Ref.r_v54, Ref.r_v55, Ref.r_v56, Ref.r_cst_13, Ref.r_v57, Ref.r_v58, Ref.r_cst_14, Ref.r_v59, Ref.r_v60, Ref.r_v61, Ref.r_v62, Ref.r_cst_15, Ref.r_v63, Ref.r_v64, Ref.r_v65, Ref.r_v66, Ref.r_v67, Ref.r_v68, Ref.r_v69, Ref.r_v70, Ref.r_v71, Ref.r_v72, Ref.r_v73, Ref.r_v74]
  simp only [sum_row]
  blk_simp [iblk]
  rw [entry_v2 m c, entry_v3 m c]
  pointwise [h_v2, h_v3]
  blk_point [V, idx_val t]

/-- BRIDGE: the result array after the run (complete: the blocks tile the array, decided). -/
theorem final_9 (c : Dev nD) : (dats m 0 c).arrAt 9 (cfgs 0).N = (REF_v74 m c) := by
  refine (dats m 0 c).arrAt_eq_of_covers 9 _ (by decide +kernel) fun t hf y => ?_
  blk_simp; rw [after0_9]; frame_out
  exact point_9 m c t y

end Cert.OutLnValue

end
-- ==== Proof.PoolDw.lean ====
/- The value of `Cert.PoolDwIdeal`. -/
module

public import proofs.«01_k».proof.Proof.Gen.PoolDwIdeal
public import proofs.«01_k».proof.Proof.Gen.PoolDwIdeal.Frame
public import proofs.«01_k».proof.Proof.Gen.PoolDwRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.PoolDwValue.Ref

open Cert.PoolDwRefIdeal Cert.PoolDwRefIdeal.Gen

/-! The reference, an operation at a time, over its arguments. -/

/-- Value `v0`. -/
def r_v0 (a0 : FVec Ideal S8192x1024 .f32) (a1 : FVec Ideal S4x256x256 .f32) (a2 : FVec Ideal S8192x1024 .f32) : FVec Ideal S8192x4x256 .f32 :=
  shapeCast _ a0 shapeCasts_S8192x1024_S8192x4x256

/-- Value `v1`. -/
def r_v1 (a0 : FVec Ideal S8192x1024 .f32) (a1 : FVec Ideal S4x256x256 .f32) (a2 : FVec Ideal S8192x1024 .f32) : FVec Ideal S4x256x8192 .f32 :=
  Host.dotGeneral dot_S4x256x256_S8192x4x256_S4x256x8192_1_2_2_0_0_1 none a1 (r_v0 a0 a1 a2)

/-- Value `v2`. -/
def r_v2 (a0 : FVec Ideal S8192x1024 .f32) (a1 : FVec Ideal S4x256x256 .f32) (a2 : FVec Ideal S8192x1024 .f32) : FVec Ideal S8192x4x256 .f32 :=
  transpose S8192x4x256 [2, 0, 1] (r_v1 a0 a1 a2) transposes_S4x256x8192_S8192x4x256_2_0_1

/-- Value `v3`. -/
def r_v3 (a0 : FVec Ideal S8192x1024 .f32) (a1 : FVec Ideal S4x256x256 .f32) (a2 : FVec Ideal S8192x1024 .f32) : FVec Ideal S8192x4x256 .f32 :=
  shapeCast _ a2 shapeCasts_S8192x1024_S8192x4x256

/-- Value `v4`. -/
def r_v4 (a0 : FVec Ideal S8192x1024 .f32) (a1 : FVec Ideal S4x256x256 .f32) (a2 : FVec Ideal S8192x1024 .f32) : FVec Ideal S4x256x8192 .f32 :=
  transpose S4x256x8192 [1, 2, 0] (r_v3 a0 a1 a2) transposes_S8192x4x256_S4x256x8192_1_2_0

/-- Value `v5`. -/
def r_v5 (a0 : FVec Ideal S8192x1024 .f32) (a1 : FVec Ideal S4x256x256 .f32) (a2 : FVec Ideal S8192x1024 .f32) : FVec Ideal S4x256x256 .f32 :=
  Host.dotGeneral dot_S4x256x8192_S8192x4x256_S4x256x256_2_0_1_2_0_1 none (r_v4 a0 a1 a2) (r_v0 a0 a1 a2)

/-- Value `v6`. -/
def r_v6 (a0 : FVec Ideal S8192x1024 .f32) (a1 : FVec Ideal S4x256x256 .f32) (a2 : FVec Ideal S8192x1024 .f32) : FVec Ideal S4x256x256 .f32 :=
  transpose S4x256x256 [0, 2, 1] (r_v5 a0 a1 a2) transposes_S4x256x256_S4x256x256_0_2_1

end Cert.PoolDwValue.Ref

namespace Cert.PoolDwValue

open Cert.PoolDwIdeal Cert.PoolDwIdeal.Gen

variable (m : (ℓ : Loc nD τ sig) → Buf (Elt Ideal) ℓ)

/-- Result `v6` of the reference, at the kernel's arguments. -/
abbrev REF_v6 (c : Dev nD) :=
  Ref.r_v6 (m ((c : Thread nD τ).loc main_arg0)) (m ((c : Thread nD τ).loc main_arg1)) (m ((c : Thread nD τ).loc main_arg2))

/-- every window's block index at every grid point, in closed form (decided). -/
theorem idx : ∀ t : Fin cfg0.N, win0_0.index t = ![(grid0.coords t 1).val, (grid0.coords t 0).val]
    ∧ win0_1.index t = ![(grid0.coords t 1).val, (grid0.coords t 0).val]
    ∧ win0_2.index t = ![(grid0.coords t 0).val, 0, 0] :=
  (by decide +kernel : ∀ t : Fin grid0.N, _)

/-- the same in `t.val` (for `omega` beside a schedule fact `t.val % J = r`). -/
theorem idx_val : ∀ t : Fin cfg0.N, win0_0.index t = ![t.val % 8, t.val / 8]
    ∧ win0_1.index t = ![t.val % 8, t.val / 8]
    ∧ win0_2.index t = ![t.val / 8, 0, 0] :=
  (by decide +kernel : ∀ t : Fin grid0.N, _)

/-! What the host prepares before the kernel, an operation at a time. -/

/-- Value `v0`. -/
def h_v0 (a0 : FVec Ideal S8192x1024 .f32) (a1 : FVec Ideal S4x256x256 .f32) (a2 : FVec Ideal S8192x1024 .f32) : FVec Ideal S8192x1024 .bf16 :=
  truncf .bf16 a0 bitsLt_bf16_f32

/-- Value `v1`. -/
def h_v1 (a0 : FVec Ideal S8192x1024 .f32) (a1 : FVec Ideal S4x256x256 .f32) (a2 : FVec Ideal S8192x1024 .f32) : FVec Ideal S8192x1024 .bf16 :=
  truncf .bf16 a2 bitsLt_bf16_f32

/-- The contents of `main_v0`, window 0's array, when the kernel's region begins. -/
theorem entry_v0 (c : Dev nD) : @Eq (FVec Ideal S8192x1024 .bf16) (V m c main_v0) (h_v0 (m ((c : Thread nD τ).loc main_arg0)) (m ((c : Thread nD τ).loc main_arg1)) (m ((c : Thread nD τ).loc main_arg2))) := by
  entry_read
  try rfl

/-- The contents of `main_v1`, window 1's array, when the kernel's region begins. -/
theorem entry_v1 (c : Dev nD) : @Eq (FVec Ideal S8192x1024 .bf16) (V m c main_v1) (h_v1 (m ((c : Thread nD τ).loc main_arg0)) (m ((c : Thread nD τ).loc main_arg1)) (m ((c : Thread nD τ).loc main_arg2))) := by
  entry_read
  try rfl

/-- The grid has 32 points. -/
theorem lt32 (t : Fin cfg0.N) : t.val < 32 := t.isLt

/-- The first array. -/
abbrev A0 (c : Dev nD) : FVec Ideal S8192x1024 .f32 := m ((c : Thread nD τ).loc main_arg0)

/-- The second array. -/
abbrev A2 (c : Dev nD) : FVec Ideal S8192x1024 .f32 := m ((c : Thread nD τ).loc main_arg2)

/-- The product of the two arrays' rows `n` at head `h`, columns `i` and `j`. -/
def term (c : Dev nD) (h : ℕ) (i j : Fin 256) (n : Fin 8192) (hh : h < 4) : EReal :=
  A0 m c (ix2 n ⟨h * 256 + i.val, by omega⟩)
    * A2 m c (ix2 n ⟨h * 256 + j.val, by omega⟩)

/-- The reference's result at an index: a sum over the rows of products. -/
theorem ref_eq (c : Dev nD) (h : Fin 4) (i j : Fin 256) :
    REF_v6 m c (ix3 h i j) = ∑ n : Fin (8 * 1024), term m c h.val i j n h.isLt := by
  pointwise [REF_v6, Ref.r_v0, Ref.r_v3, Ref.r_v4, Ref.r_v5, Ref.r_v6]
  unfold term
  exact Finset.sum_congr rfl fun _ _ => mul_comm (G := EReal) _ _

/-- The rows of a block: those of the array from the block's first on. -/
theorem row_lt (t : Fin cfg0.N) (x : Fin 1024) : t.val % 8 * 1024 + x.val < 8192 := by omega

/-- The head of a block. -/
theorem head_lt (t : Fin cfg0.N) : t.val / 8 < 4 := by have := lt32 t; omega

/-- The block product of a grid point. -/
theorem pay_eq (c : Dev nD) (t : Fin cfg0.N) (y : S1x256x256.Idx) :
    k0_pay2 (iblk m c 0 t) (iblk m c 1 t) y
      = ∑ x : Fin 1024, term m c (t.val / 8) (y 1) (y 2) ⟨t.val % 8 * 1024 + x.val, row_lt t x⟩ (head_lt t) := by
  pointwise [k0_pay2, k0_pay1]
  blk_simp [iblk]
  rw [entry_v0 m c, entry_v1 m c]
  pointwise [h_v0, h_v1]
  refine Finset.sum_congr rfl fun x _ => ?_
  unfold term
  refine congrArg₂ (fun a b : EReal => a * b) (congrArg _ ?_) (congrArg _ ?_)
  · blk_ext [idx_val t]
  · blk_ext [idx_val t]

/-- Adding the block product to what is there. -/
theorem pay3_eq (v0 v2 : Vec Ideal S1024x256 .bf16) (v11 : Vec Ideal S1x256x256 .f32) (y : S1x256x256.Idx) :
    k0_pay3 v0 v2 v11 y = v11 y + k0_pay2 v0 v2 y := by
  obtain ⟨a, i, j, rfl⟩ : ∃ (a : Fin 1) (i j : Fin 256), y = ix3 a i j := ⟨y 0, y 1, y 2, eq_ix3 y⟩
  obtain rfl : a = 0 := Subsingleton.elim _ _
  pointwise [k0_pay3, k0_pay2]

/-- The result. -/
theorem final (c : Dev nD) : (dats m 0 c).arrAt 2 (cfgs 0).N = (REF_v6 m c) := by
  refine (dats m 0 c).arrAt_eq_of_covers 2 _ (by decide +kernel) fun t hf y => ?_
  obtain ⟨a, i, j, rfl⟩ : ∃ (a : Fin 1) (i j : Fin 256), y = ix3 a i j := ⟨y 0, y 1, y 2, eq_ix3 y⟩
  have ht := lt32 t
  rw [show ((cfg0.win 2).blk t).view.emb (ix3 a i j) = ix3 (⟨t.val / 8, head_lt t⟩ : Fin 4) i j by blk_ext [idx_val t], ref_eq]
  blk_simp
  rw [after0_2, Pipeline.eq_sum_fin_of_reset_step_apply_of_flush (fun n h => (outsAt0 m c n h)) 8 (fun _ => 0)
    (fun t y => ∑ x : Fin 1024, term m c (t.val / 8) (y 1) (y 2) ⟨t.val % 8 * 1024 + x.val, row_lt t x⟩ (head_lt t))
    (fun t h j => by
      rw [outsAt0_A m c t h (by omega)]; frame_out
      rw [pay_eq, zero_add])
    (fun t h j => by
      rw [outsAt0_B m c t h (by omega)]; frame_out
      rw [pay3_eq, pay_eq])
    t ((flush0_2 t).mp hf) _, zero_add]
  refine Fin.sum_mul_add_congr fun s k hl => ?_
  have e1 : (8 * (t.val / 8) + s.val) / 8 = t.val / 8 := by omega
  have e2 : (8 * (t.val / 8) + s.val) % 8 = s.val := by omega
  simp only [e1, e2]
  rfl
end Cert.PoolDwValue

end
-- ==== Proof.PoolBwd.lean ====
/- The value of `Cert.PoolBwdIdeal`. -/
module

public import proofs.«01_k».proof.Proof.Gen.PoolBwdIdeal
public import proofs.«01_k».proof.Proof.Gen.PoolBwdIdeal.Frame
public import proofs.«01_k».proof.Proof.Gen.PoolBwdRefIdeal
public import proofs.«01_k».proof.Proof.Common
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.PoolBwdValue.Ref

open Cert.PoolBwdRefIdeal Cert.PoolBwdRefIdeal.Gen

/-! The reference, an operation at a time, over its arguments. -/

variable (m : (ℓ : Loc Cert.PoolBwdIdeal.nD Cert.PoolBwdIdeal.τ Cert.PoolBwdIdeal.sig) → Buf (Elt Ideal) ℓ) (c : Dev Cert.PoolBwdIdeal.nD)

def r_v0 : FVec Ideal S8192x4x256 .f32 :=
  shapeCast _ (m ((c : Thread Cert.PoolBwdIdeal.nD Cert.PoolBwdIdeal.τ).loc Cert.PoolBwdIdeal.main_arg1)) shapeCasts_S8192x1024_S8192x4x256

def r_v1 : FVec Ideal S4x256x8192 .f32 :=
  Host.dotGeneral (φ₁ := .f32) (φ₂ := .f32) dot_S4x256x256_S8192x4x256_S4x256x8192_1_2_2_0_0_1 none (m ((c : Thread Cert.PoolBwdIdeal.nD Cert.PoolBwdIdeal.τ).loc Cert.PoolBwdIdeal.main_arg2)) (r_v0 m c)

def r_v2 : FVec Ideal S8192x4x256 .f32 :=
  transpose S8192x4x256 [2, 0, 1] (r_v1 m c) transposes_S4x256x8192_S8192x4x256_2_0_1

def r_v3 : FVec Ideal S1x4x256 .f32 :=
  broadcastInDim S1x4x256 ![1, 2] bcast_S4x256_S1x4x256_1_2 (m ((c : Thread Cert.PoolBwdIdeal.nD Cert.PoolBwdIdeal.τ).loc Cert.PoolBwdIdeal.main_arg3))

def r_v4 : FVec Ideal S8192x4x256 .f32 :=
  broadcastInDim S8192x4x256 ![0, 1, 2] bcast_S1x4x256_S8192x4x256_0_1_2 (r_v3 m c)

def r_v5 : FVec Ideal S8192x4x256 .f32 :=
  addf (r_v2 m c) (r_v4 m c)

def r_v6 : FVec Ideal S8192x1024 .f32 :=
  shapeCast _ (r_v5 m c) shapeCasts_S8192x4x256_S8192x1024

def r_v7 : FVec Ideal S1x1024 .f32 :=
  broadcastInDim S1x1024 ![1] bcast_S1024_S1x1024_1 (m ((c : Thread Cert.PoolBwdIdeal.nD Cert.PoolBwdIdeal.τ).loc Cert.PoolBwdIdeal.main_arg4))

def r_v8 : FVec Ideal S8192x1024 .f32 :=
  broadcastInDim S8192x1024 ![0, 1] bcast_S1x1024_S8192x1024_0_1 (r_v7 m c)

def r_v9 : FVec Ideal S8192x1024 .f32 :=
  mulf (r_v6 m c) (r_v8 m c)

def r_v10 : FVec Ideal S8192x1024 .f32 :=
  mulf (r_v6 m c) (m ((c : Thread Cert.PoolBwdIdeal.nD Cert.PoolBwdIdeal.τ).loc Cert.PoolBwdIdeal.main_arg0))

def r_cst : FVec Ideal S_ .f32 :=
  (constant S_ .f32 0x00000000#32)

def r_v11 : FVec Ideal S1024 .f32 :=
  Host.reduceAdd (r_v10 m c) r_cst reducesTo_S8192x1024_S1024_d0 h_S_

def r_v12 : FVec Ideal S1x1024 .f32 :=
  shapeCast _ (r_v11 m c) shapeCasts_S1024_S1x1024

def r_v13 : FVec Ideal S8192x1024 .f32 :=
  broadcastInDim S8192x1024 ![0, 1] bcast_S1x1024_S8192x1024_0_1 (r_v7 m c)

def r_v14 : FVec Ideal S8192x1024 .f32 :=
  mulf (m ((c : Thread Cert.PoolBwdIdeal.nD Cert.PoolBwdIdeal.τ).loc Cert.PoolBwdIdeal.main_arg0)) (r_v13 m c)

def r_cst_0 : FVec Ideal S_ .f32 :=
  (constant S_ .f32 0x00000000#32)

def r_v15 : FVec Ideal S1024 .f32 :=
  Host.reduceAdd (r_v12 m c) r_cst_0 reducesTo_S1x1024_S1024_d0 h_S_

def r_v16 : FVec Ideal S8192x4x256 .f32 :=
  shapeCast _ (r_v14 m c) shapeCasts_S8192x1024_S8192x4x256

def r_cst_1 : FVec Ideal S_ .f32 :=
  (constant S_ .f32 0x00000000#32)

def r_v17 : FVec Ideal S4x256 .f32 :=
  Host.reduceAdd (r_v16 m c) r_cst_1 reducesTo_S8192x4x256_S4x256_d0 h_S_

def r_v18 : FVec Ideal S1x4x256 .f32 :=
  shapeCast _ (r_v17 m c) shapeCasts_S4x256_S1x4x256

def r_cst_2 : FVec Ideal S_ .f32 :=
  (constant S_ .f32 0x00000000#32)

def r_v19 : FVec Ideal S4x256 .f32 :=
  Host.reduceAdd (r_v18 m c) r_cst_2 reducesTo_S1x4x256_S4x256_d0 h_S_

def r_v20 : FVec Ideal S1x1024 .f32 :=
  broadcastInDim S1x1024 ![1] bcast_S1024_S1x1024_1 (r_v15 m c)

def r_v21 : FVec Ideal S1x1024 .f32 :=
  shapeCast _ (r_v19 m c) shapeCasts_S4x256_S1x1024

end Cert.PoolBwdValue.Ref

namespace Cert.PoolBwdValue

open Cert.PoolBwdIdeal Cert.PoolBwdIdeal.Gen

variable (m : (ℓ : Loc nD τ sig) → Buf (Elt Ideal) ℓ)

/-- Result `v20` of the reference, at the kernel's arguments. -/
abbrev REF_v20 (c : Dev nD) :=
  Ref.r_v20 m c

/-- Result `v21` of the reference, at the kernel's arguments. -/
abbrev REF_v21 (c : Dev nD) :=
  Ref.r_v21 m c

/-- every window's block index at every grid point, in closed form (decided). -/
theorem idx : ∀ t : Fin cfg0.N, win0_0.index t = ![(grid0.coords t 0).val, 0]
    ∧ win0_1.index t = ![(grid0.coords t 0).val, 0]
    ∧ win0_3.index t = ![0, 0, 0]
    ∧ win0_4.index t = ![0, 0]
    ∧ win0_5.index t = ![0, 0]
    ∧ win0_6.index t = ![(grid0.coords t 0).val, 0]
    ∧ win0_7.index t = ![(grid0.coords t 0).val, 0]
    ∧ win0_8.index t = ![0, 0]
    ∧ win0_9.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_3.index t = ![0, 0, 0]
    ∧ win0_4.index t = ![0, 0]
    ∧ win0_5.index t = ![0, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-! What the host prepares before the kernel, an operation at a time. -/

section

variable (c : Dev nD)

def h_v0 : FVec Ideal S8192x1024 .bf16 :=
  truncf .bf16 (m ((c : Thread Cert.PoolBwdIdeal.nD Cert.PoolBwdIdeal.τ).loc Cert.PoolBwdIdeal.main_arg1)) bitsLt_bf16_f32

def h_v1 : FVec Ideal S4x256x256 .bf16 :=
  truncf .bf16 (m ((c : Thread Cert.PoolBwdIdeal.nD Cert.PoolBwdIdeal.τ).loc Cert.PoolBwdIdeal.main_arg2)) bitsLt_bf16_f32

def h_v2 : FVec Ideal S1x1024 .f32 :=
  shapeCast _ (m ((c : Thread Cert.PoolBwdIdeal.nD Cert.PoolBwdIdeal.τ).loc Cert.PoolBwdIdeal.main_arg3)) shapeCasts_S4x256_S1x1024

def h_v3 : FVec Ideal S1x1024 .f32 :=
  broadcastInDim S1x1024 ![1] bcast_S1024_S1x1024_1 (m ((c : Thread Cert.PoolBwdIdeal.nD Cert.PoolBwdIdeal.τ).loc Cert.PoolBwdIdeal.main_arg4))

end

/-- The contents of `main_v0`, window 1's array, when the kernel's region begins. -/
theorem entry_v0 (c : Dev nD) : @Eq (FVec Ideal S8192x1024 .bf16) (V m c main_v0) (h_v0 m c) := by
  entry_read
  try rfl

/-- The contents of `main_v1`, window 3's array, when the kernel's region begins. -/
theorem entry_v1 (c : Dev nD) : @Eq (FVec Ideal S4x256x256 .bf16) (V m c main_v1) (h_v1 m c) := by
  entry_read
  try rfl

/-- The contents of `main_v2`, window 4's array, when the kernel's region begins. -/
theorem entry_v2 (c : Dev nD) : @Eq (FVec Ideal S1x1024 .f32) (V m c main_v2) (h_v2 m c) := by
  entry_read
  try rfl

/-- The contents of `main_v3`, window 5's array, when the kernel's region begins. -/
theorem entry_v3 (c : Dev nD) : @Eq (FVec Ideal S1x1024 .f32) (V m c main_v3) (h_v3 m c) := by
  entry_read
  try rfl

/-- The grid has 16 points. -/
theorem lt16 (t : Fin cfg0.N) : t.val < 16 := t.isLt

/-- The row of the array that row `r` of block `t` is. -/
def rowOf (t : Fin cfg0.N) (r : Fin 512) : Fin 8192 :=
  ⟨t.val * 512 + r.val, by have h1 := t.isLt; have h2 : cfg0.N = 16 := rfl; have := r.isLt; omega⟩

/-- The gradient that comes in. -/
abbrev A0 (c : Dev nD) : FVec Ideal S8192x1024 .f32 := m ((c : Thread nD τ).loc main_arg0)

/-- The scale. -/
abbrev A4 (c : Dev nD) : FVec Ideal S1024 .f32 := m ((c : Thread nD τ).loc main_arg4)

/-- The projected rows of a block, with their bias. -/
def ky (v2 : FVec Ideal S512x1024 .bf16) (v5 : FVec Ideal S4x256x256 .bf16) (v7 : FVec Ideal S1x1024 .f32) : FVec Ideal S512x1024 .f32 :=
  have v86 : FVec Ideal S512x256 .bf16 := extractStridedSlice S512x256 ![0, 512] v2 slices_S512x1024_o0_512_S512x256
  have v87 : FVec Ideal S1x256x256 .bf16 := extractStridedSlice S1x256x256 ![2, 0, 0] v5 slices_S4x256x256_o2_0_0_S1x256x256
  have v88 : FVec Ideal S256x256 .bf16 := shapeCast S256x256 v87 shapeCasts_S1x256x256_S256x256
  have cst_26 : FVec Ideal S512x256 .f32 := constant S512x256 .f32 0x00000000#32
  have v89 : FVec Ideal S512x256 .f32 := matmul dot_S512x256_S256x256_S512x256_1_0_0_1_n_n none v86 v88 cst_26
  have v113 : FVec Ideal S512x256 .bf16 := extractStridedSlice S512x256 ![0, 768] v2 slices_S512x1024_o0_768_S512x256
  have v114 : FVec Ideal S1x256x256 .bf16 := extractStridedSlice S1x256x256 ![3, 0, 0] v5 slices_S4x256x256_o3_0_0_S1x256x256
  have v115 : FVec Ideal S256x256 .bf16 := shapeCast S256x256 v114 shapeCasts_S1x256x256_S256x256
  have cst_34 : FVec Ideal S512x256 .f32 := constant S512x256 .f32 0x00000000#32
  have v116 : FVec Ideal S512x256 .f32 := matmul dot_S512x256_S256x256_S512x256_1_0_0_1_n_n none v113 v115 cst_34
  have v121 : FVec Ideal S512x1024 .f32 := concatenate S512x1024 1 [⟨S512x256, k0_pay11 v2 v5⟩, ⟨S512x256, k0_pay13 v2 v5⟩, ⟨S512x256, v89⟩, ⟨S512x256, v116⟩] concatenates_S512x256_S512x256_S512x256_S512x256_S512x1024_d1
  have v122 : FVec Ideal S512x1024 .f32 := broadcastTo S512x1024 v7 broadcasts_S1x1024_S512x1024
  addf v121 v122

/-- The projected rows on the kernel's blocks. -/
def KY (c : Dev nD) (t : Fin cfg0.N) : FVec Ideal S512x1024 .f32 :=
  ky (k0_pay4 (iblk m c 1 t)) (k0_pay5 (iblk m c 3 t)) (k0_pay6 (iblk m c 4 t))

/-- The gradient that comes in, a block. -/
abbrev X0 (c : Dev nD) (t : Fin cfg0.N) : FVec Ideal S512x1024 .f32 := iblk m c 0 t

/-- The scale, a block. -/
abbrev X5 (c : Dev nD) (t : Fin cfg0.N) : FVec Ideal S1x1024 .f32 := iblk m c 5 t

/-- The pooled rows, on the kernel's blocks. -/
theorem po_row (c : Dev nD) (t : Fin cfg0.N) (r : Fin 512) (l : Fin 1024) :
    iblk m c 1 t (ix2 r l) = (m ((c : Thread nD τ).loc main_arg1)) (ix2 (rowOf t r) l) := by
  blk_simp [iblk]
  rw [entry_v0 m c]
  rw [show (((cfg0.win 1).blk t).view.emb (ix2 r l)) = ix2 (rowOf t r) l by blk_ext [idx_val t, rowOf]]
  pointwise [h_v0]

/-- The weights, on the kernel's block. -/
theorem w_row (c : Dev nD) (t : Fin cfg0.N) (g : Fin 4) (i k : Fin 256) :
    iblk m c 3 t (ix3 g i k) = (m ((c : Thread nD τ).loc main_arg2)) (ix3 g i k) := by
  blk_simp [iblk]
  rw [entry_v1 m c]
  rw [show (((cfg0.win 3).blk t).view.emb (ix3 g i k)) = ix3 g i k by blk_ext [idx_val t]]
  pointwise [h_v1]

/-- The bias, on the kernel's block. -/
theorem b_row (c : Dev nD) (t : Fin cfg0.N) (l : Fin 1024) :
    iblk m c 4 t (ix2 0 l) = (m ((c : Thread nD τ).loc main_arg3)) (ix2 ⟨l.val / 256, by omega⟩ ⟨l.val % 256, by omega⟩) := by
  blk_simp [iblk]
  rw [entry_v2 m c]
  rw [show (((cfg0.win 4).blk t).view.emb (ix2 0 l)) = ix2 0 l by blk_ext [idx_val t]]
  unfold h_v2
  refine shapeCast_apply _ _ _ _ ?_
  refine (Shape.rowMajor_val_two (d := ![4, 256]) _).trans ?_
  refine Eq.trans ?_ (Shape.rowMajor_val_two (d := ![1, 1024]) _).symm
  show l.val / 256 * 256 + l.val % 256 = 0 * 1024 + l.val
  omega

/-- The projected rows are the reference's. -/
theorem ky_row (c : Dev nD) (t : Fin cfg0.N) (r : Fin 512) (l : Fin 1024) :
    KY m c t (ix2 r l) = Ref.r_v6 m c (ix2 (rowOf t r) l) := by
  pointwise [KY, ky, k0_pay4, k0_pay5, k0_pay6, k0_pay11, k0_pay13]
  simp only [po_row, w_row, b_row]
  generalize rowOf t r = R
  pointwise [Ref.r_v0, Ref.r_v1, Ref.r_v2, Ref.r_v3, Ref.r_v4, Ref.r_v5, Ref.r_v6]
  refine congrArg (fun x : EReal => x + _) ?_
  have hl := l.isLt
  by_cases h1 : l.val < 256
  · rw [dif_pos h1]
    refine Finset.sum_congr rfl fun x _ => (mul_comm (G := EReal) _ _).trans ?_
    have e : l.val / 256 = 0 := by omega
    have e' : l.val % 256 = l.val := by omega
    refine congrArg₂ (fun a b : EReal => a * b) (congrArg _ ?_) (congrArg _ ?_) <;> simp [e, e']
  rw [dif_neg h1]
  by_cases h2 : l.val - 256 < 256
  · rw [dif_pos h2]
    refine Finset.sum_congr rfl fun x _ => (mul_comm (G := EReal) _ _).trans ?_
    have e : l.val / 256 = 1 := by omega
    have e' : l.val % 256 = l.val - 256 := by omega
    refine congrArg₂ (fun a b : EReal => a * b) (congrArg _ ?_) (congrArg _ ?_) <;> simp [e, e']
  rw [dif_neg h2]
  by_cases h3 : l.val - 256 - 256 < 256
  · rw [dif_pos h3]
    refine Finset.sum_congr rfl fun x _ => (mul_comm (G := EReal) _ _).trans ?_
    have e : l.val / 256 = 2 := by omega
    have e' : l.val % 256 = l.val - 256 - 256 := by omega
    refine congrArg₂ (fun a b : EReal => a * b) (congrArg _ ?_) (congrArg _ ?_) <;> simp [e, e']
  · rw [dif_neg h3]
    refine Finset.sum_congr rfl fun x _ => (mul_comm (G := EReal) _ _).trans ?_
    have e : l.val / 256 = 3 := by omega
    have e' : l.val % 256 = l.val - 256 - 256 - 256 := by omega
    refine congrArg₂ (fun a b : EReal => a * b) (congrArg _ ?_) (congrArg _ ?_) <;> simp [e, e']

/-- The reference's gradient of the scale. -/
theorem ref_ds (c : Dev nD) (a : Fin 1) (l : Fin 1024) : REF_v20 m c (ix2 a l)
    = ∑ n : Fin (16 * 512), A0 m c (ix2 n l) * Ref.r_v6 m c (ix2 n l) := by
  pointwise [REF_v20, Ref.r_v10, Ref.r_cst, Ref.r_v11, Ref.r_v12, Ref.r_cst_0, Ref.r_v15, Ref.r_v20]
  rw [Fin.sum_univ_one]
  exact Finset.sum_congr rfl fun _ _ => mul_comm (G := EReal) _ _

/-- The reference's gradient of the bias. -/
theorem ref_db (c : Dev nD) (a : Fin 1) (l : Fin 1024) : REF_v21 m c (ix2 a l)
    = ∑ n : Fin (16 * 512), A0 m c (ix2 n l) * A4 m c (ix1 l) := by
  pointwise [REF_v21, Ref.r_v7, Ref.r_v13, Ref.r_v14, Ref.r_v16, Ref.r_cst_1, Ref.r_v17, Ref.r_v18, Ref.r_cst_2, Ref.r_v19, Ref.r_v21]
  rw [Fin.sum_univ_one]

/-- The block of the gradient of the scale at a grid point. -/
theorem pay17_eq (c : Dev nD) (t : Fin cfg0.N) (j : S1x1024.Idx) :
    k0_pay17 (iblk m c 0 t) (k0_pay4 (iblk m c 1 t)) (k0_pay5 (iblk m c 3 t)) (k0_pay6 (iblk m c 4 t)) (k0_pay11 (k0_pay4 (iblk m c 1 t)) (k0_pay5 (iblk m c 3 t))) (k0_pay13 (k0_pay4 (iblk m c 1 t)) (k0_pay5 (iblk m c 3 t))) j
      = ∑ r : Fin 512, X0 m c t (ix2 r (j 1)) * KY m c t (ix2 r (j 1)) := by
  show shapeCast S1x1024 (multiReduction (F := Ideal) .add [0] S1024 (mulf (iblk m c 0 t) (KY m c t)) 0x00000000#32 reduces_S512x1024_S1024 (.inl rfl) rfl) shapeCasts_S1024_S1x1024 j = _
  pointwise []

/-- The block of the gradient of the bias at a grid point. -/
theorem pay18_eq (c : Dev nD) (t : Fin cfg0.N) (j : S1x1024.Idx) :
    k0_pay18 (k0_pay7 (grid0.coords t) (iblk m c 0 t) (iblk m c 2 t) (iblk m c 5 t)) j
      = ∑ r : Fin 512, X0 m c t (ix2 r (j 1)) * X5 m c t (ix2 0 (j 1)) := by
  pointwise [k0_pay18, k0_pay7]

/-- The gradient that comes in, on the kernel's blocks. -/
theorem dh_row (c : Dev nD) (t : Fin cfg0.N) (r : Fin 512) (l : Fin 1024) :
    iblk m c 0 t (ix2 r l) = A0 m c (ix2 (rowOf t r) l) := by
  blk_simp [iblk]
  rw [show (((cfg0.win 0).blk t).view.emb (ix2 r l)) = ix2 (rowOf t r) l by blk_ext [idx_val t, rowOf]]
  rfl

/-- The scale, on the kernel's block. -/
theorem s_row (c : Dev nD) (t : Fin cfg0.N) (l : Fin 1024) : iblk m c 5 t (ix2 0 l) = A4 m c (ix1 l) := by
  blk_simp [iblk]
  rw [entry_v3 m c]
  rw [show (((cfg0.win 5).blk t).view.emb (ix2 0 l)) = ix2 0 l by blk_ext [idx_val t]]
  pointwise [h_v3]

/-- The rows of the grid's points, one after another, are the array's. -/
theorem rowOf_run (t : Fin cfg0.N) (s : Fin 16) (k : Fin 512) (hl : s.val * 512 + k.val < 16 * 512) (hs : t.val = s.val) :
    rowOf t k = ⟨s.val * 512 + k.val, hl⟩ := by
  apply Fin.ext
  show t.val * 512 + k.val = s.val * 512 + k.val
  rw [hs]

/-- The first result: the gradient of the scale. -/
theorem final_8 (c : Dev nD) : (dats m 0 c).arrAt 8 (cfgs 0).N = (REF_v20 m c) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0)
    (fun t y => ∑ r : Fin 512, X0 m c t (ix2 r (y 1)) * KY m c t (ix2 r (y 1)))
    (fun t h j => by
      have ht := lt16 t
      rw [outsAt0_A m c t h (by omega) h (by omega)]; frame_out
      rw [pay17_eq, zero_add])
    (fun t h j => by
      have ht := lt16 t
      rw [outsAt0_B m c t h (by omega) h (by omega)]; frame_out
      pointwise [k0_pay2]; rw [pay17_eq])
    (le_of_eq N_0) t0_15 rfl _, zero_add]
  obtain ⟨a, l, rfl⟩ : ∃ (a : Fin 1) (l : Fin 1024), j = ix2 a l := ⟨j 0, j 1, eq_ix2 j⟩
  refine Eq.trans ?_ (ref_ds m c a l).symm
  refine Fin.sum_mul_add_congr fun s k hl => ?_
  refine (congrArg₂ (fun x y : EReal => x * y) (dh_row m c _ k l) (ky_row m c _ k l)).trans ?_
  rw [rowOf_run _ s k hl rfl]

/-- The second result: the gradient of the bias. -/
theorem final_9 (c : Dev nD) : (dats m 0 c).arrAt 9 (cfgs 0).N = (REF_v21 m c) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0)
    (fun t y => ∑ r : Fin 512, X0 m c t (ix2 r (y 1)) * X5 m c t (ix2 0 (y 1)))
    (fun t h j => by
      have ht := lt16 t
      rw [outsAt0_A m c t h (by omega) h (by omega)]; frame_out
      rw [pay18_eq, zero_add])
    (fun t h j => by
      have ht := lt16 t
      rw [outsAt0_B m c t h (by omega) h (by omega)]; frame_out
      pointwise [k0_pay3]; rw [pay18_eq])
    (le_of_eq N_0) t0_15 rfl _, zero_add]
  obtain ⟨a, l, rfl⟩ : ∃ (a : Fin 1) (l : Fin 1024), j = ix2 a l := ⟨j 0, j 1, eq_ix2 j⟩
  refine Eq.trans ?_ (ref_db m c a l).symm
  refine Fin.sum_mul_add_congr fun s k hl => ?_
  refine (congrArg₂ (fun x y : EReal => x * y) (dh_row m c _ k l) (s_row m c _ l)).trans ?_
  rw [rowOf_run _ s k hl rfl]
end Cert.PoolBwdValue

end
-- ==== Proof.LnBwd.lean ====
/- The gradient through a layer norm, a row at a time: the closed form against the chain rule. -/
module

public import Idealize.ShloMosaic.Lib.Claim
public import Idealize.ShloMosaic.Lib.Pointwise
public import Idealize.ShloMosaic.Lib.Pipeline.ValueKit

@[expose] public section

noncomputable section

open Idealize.ShloMosaic
open scoped BigOperators

namespace Cert.LnBwd

/-- A sum of reals, as an extended real. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- The row length. -/
theorem lit_n : Ideal.ofBits FTy.f32 1149239296#32 = ((1024 : ℝ) : EReal) := by
  simp [Ideal.ofBits, Ideal.ieee, -EReal.coe_mul]; norm_num

/-- Two. -/
theorem lit_two : Ideal.ofBits FTy.f32 1073741824#32 = ((2 : ℝ) : EReal) := by
  simp [Ideal.ofBits, Ideal.ieee, -EReal.coe_mul]; norm_num

/-- Minus a half. -/
theorem lit_half : Ideal.ofBits FTy.f32 3204448256#32 = ((-(1 / 2) : ℝ) : EReal) := by
  simp [Ideal.ofBits, Ideal.ieee, -EReal.coe_mul]; norm_num

/-- What is added to the variance is a positive real. -/
theorem lit_eps : ∃ e : ℝ, 0 < e ∧ Ideal.ofBits FTy.f32 925353388#32 = (e : EReal) := by
  refine ⟨_, ?_, by simp [Ideal.ofBits, Ideal.ieee, -EReal.coe_mul]; rfl⟩
  norm_num

/-- A real divided by the row length. -/
theorem div_n (x : ℝ) : Ideal.div (x : EReal) (Ideal.ofBits FTy.f32 1149239296#32) = ((x / 1024 : ℝ) : EReal) := by
  rw [lit_n, Ideal.div_coe (by norm_num), ← EReal.coe_mul]; congr 1; ring

/-- The identity over the reals: `d` the centred row, `q` its variance's root, `w = 1 / q`. -/
theorem real_row (d x : Fin 1024 → ℝ) (w v : ℝ) (hw : w / v = w * (w * w)) (hd : ∑ i, d i = 0) (k : Fin 1024) :
    w * (x k - (∑ i, x i) / 1024 - d k * w * ((∑ i, x i * (d i * w)) / 1024))
      = x k * w + (∑ i, d i * x i) * (-(1 / 2) * (w / v)) / 1024 * (2 * d k)
        + ((∑ i, -(x i * w)) + ∑ i, -((∑ i, d i * x i) * (-(1 / 2) * (w / v)) / 1024 * (2 * d i))) / 1024 := by
  have e1 : ∑ i, x i * (d i * w) = w * ∑ i, d i * x i := by
    rw [Finset.mul_sum]; exact Finset.sum_congr rfl fun i _ => by ring
  have e2 : ∑ i, -(x i * w) = -(w * ∑ i, x i) := by
    rw [Finset.mul_sum, ← Finset.sum_neg_distrib]; exact Finset.sum_congr rfl fun i _ => by ring
  have e3 : ∀ a : ℝ, ∑ i, -(a * (2 * d i)) = 0 := fun a => by
    rw [show (∑ i, -(a * (2 * d i))) = -(2 * a) * ∑ i, d i by
      rw [Finset.mul_sum]; exact Finset.sum_congr rfl fun i _ => by ring, hd, mul_zero]
  rw [e1, e2, e3, hw]; ring

/-- The gradient through a layer norm at a row of reals `h`, `x` being the gradient of the normalised row: the closed
form is what the chain rule gives. -/
theorem row (h x : Fin 1024 → EReal) (hh : ∀ i, ∃ r : ℝ, h i = r) (hx : ∀ i, ∃ r : ℝ, x i = r) (k : Fin 1024)
    (mu s w : EReal) (hmu : mu = Ideal.div (∑ i, h i) (Ideal.ofBits FTy.f32 1149239296#32))
    (hs : s = Ideal.div (∑ i, (h i - mu) * (h i - mu)) (Ideal.ofBits FTy.f32 1149239296#32) + Ideal.ofBits FTy.f32 925353388#32)
    (hw : w = Ideal.rsqrt s) :
    w * (x k - Ideal.div (∑ i, x i) (Ideal.ofBits FTy.f32 1149239296#32)
        - (h k - mu) * w * Ideal.div (∑ i, x i * ((h i - mu) * w)) (Ideal.ofBits FTy.f32 1149239296#32))
      = x k * w + Ideal.div ((∑ i, (h i - mu) * x i) * (Ideal.ofBits FTy.f32 3204448256#32 * Ideal.div w s)) (Ideal.ofBits FTy.f32 1149239296#32)
            * (Ideal.ofBits FTy.f32 1073741824#32 * (h k - mu))
        + Ideal.div ((∑ i, -(x i * w)) + ∑ i, -(Ideal.div ((∑ i, (h i - mu) * x i) * (Ideal.ofBits FTy.f32 3204448256#32 * Ideal.div w s)) (Ideal.ofBits FTy.f32 1149239296#32)
            * (Ideal.ofBits FTy.f32 1073741824#32 * (h i - mu)))) (Ideal.ofBits FTy.f32 1149239296#32) := by
  choose a ha using hh
  choose b hb using hx
  obtain ⟨e, he, hE⟩ := lit_eps
  obtain rfl : h = fun i => (a i : EReal) := funext ha
  obtain rfl : x = fun i => (b i : EReal) := funext hb
  set μ : ℝ := (∑ i, a i) / 1024 with hμ
  have m1 : mu = (μ : EReal) := by rw [hmu, ← coe_sum, div_n]
  subst m1
  have hs0 : 0 ≤ (∑ i, (a i - μ) * (a i - μ)) / 1024 :=
    div_nonneg (Finset.sum_nonneg fun i _ => mul_self_nonneg _) (by norm_num)
  set v : ℝ := (∑ i, (a i - μ) * (a i - μ)) / 1024 + e with hv
  have v0 : 0 < v := by positivity
  have s1 : s = (v : EReal) := by
    rw [hs, hE]
    simp only [← EReal.coe_sub, ← EReal.coe_mul, ← coe_sum, div_n, ← EReal.coe_add]
    rfl
  subst s1
  have w1 : w = (((Real.sqrt v)⁻¹ : ℝ) : EReal) := by
    rw [hw, Ideal.rsqrt_coe, if_neg (not_lt.2 v0.le), if_neg v0.ne']
  subst w1
  have ww : (Real.sqrt v)⁻¹ / v = (Real.sqrt v)⁻¹ * ((Real.sqrt v)⁻¹ * (Real.sqrt v)⁻¹) := by
    rw [← mul_inv, Real.mul_self_sqrt v0.le]; rfl
  have hd : ∑ i, (a i - μ) = 0 := by
    rw [Finset.sum_sub_distrib]; simp [hμ]; ring
  have dv : Ideal.div (((Real.sqrt v)⁻¹ : ℝ) : EReal) (v : EReal) = (((Real.sqrt v)⁻¹ / v : ℝ) : EReal) := by
    rw [Ideal.div_coe v0.ne', ← EReal.coe_mul]; congr 1; ring
  have key := real_row (fun i => a i - μ) b _ v ww hd k
  simp only [dv, lit_half, lit_two, ← EReal.coe_sub, ← EReal.coe_mul, ← EReal.coe_neg, ← coe_sum, div_n, ← EReal.coe_add]
  exact congrArg Real.toEReal key

end Cert.LnBwd

end
-- ==== Proof.MlpUpBwd.lean ====
/- The value of `Cert.MlpUpBwdIdeal`. -/
module

public import proofs.«01_k».proof.Proof.Gen.MlpUpBwdIdeal
public import proofs.«01_k».proof.Proof.Gen.MlpUpBwdIdeal.Frame
public import proofs.«01_k».proof.Proof.Gen.MlpUpBwdRefIdeal
public import proofs.«01_k».proof.Proof.Common
public import proofs.«01_k».proof.Proof.LnBwd
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MlpUpBwdValue.Ref

open Cert.MlpUpBwdRefIdeal Cert.MlpUpBwdRefIdeal.Gen

/-! The reference, an operation at a time, over its arguments. -/

def r_cst (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def r_v0 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192 .f32 :=
  Host.reduceAdd a0 (r_cst a0 a1 a2 a3 a4 a5) reducesTo_S8192x1024_S8192_d1 h_S_

def r_v1 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![0] bcast_S8192_S8192x1_0 (r_v0 a0 a1 a2 a3 a4 a5)

def r_cst_0 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x44800000#32)

def r_v2 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![] bcast_S_S8192x1 (r_cst_0 a0 a1 a2 a3 a4 a5)

def r_v3 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  Host.divf (r_v1 a0 a1 a2 a3 a4 a5) (r_v2 a0 a1 a2 a3 a4 a5)

def r_v4 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![0, 1] bcast_S8192x1_S8192x1024_0_1 (r_v3 a0 a1 a2 a3 a4 a5)

def r_v5 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  subf a0 (r_v4 a0 a1 a2 a3 a4 a5)

def r_v6 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  mulf (r_v5 a0 a1 a2 a3 a4 a5) (r_v5 a0 a1 a2 a3 a4 a5)

def r_cst_1 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x40000000#32)

def r_v7 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![] bcast_S_S8192x1024 (r_cst_1 a0 a1 a2 a3 a4 a5)

def r_v8 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  mulf (r_v7 a0 a1 a2 a3 a4 a5) (r_v5 a0 a1 a2 a3 a4 a5)

def r_cst_2 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def r_v9 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192 .f32 :=
  Host.reduceAdd (r_v6 a0 a1 a2 a3 a4 a5) (r_cst_2 a0 a1 a2 a3 a4 a5) reducesTo_S8192x1024_S8192_d1 h_S_

def r_v10 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![0] bcast_S8192_S8192x1_0 (r_v9 a0 a1 a2 a3 a4 a5)

def r_cst_3 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x44800000#32)

def r_v11 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![] bcast_S_S8192x1 (r_cst_3 a0 a1 a2 a3 a4 a5)

def r_v12 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  Host.divf (r_v10 a0 a1 a2 a3 a4 a5) (r_v11 a0 a1 a2 a3 a4 a5)

def r_v13 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![0, 1] bcast_S8192x1_S8192x1024_0_1 (r_v3 a0 a1 a2 a3 a4 a5)

def r_v14 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  subf a0 (r_v13 a0 a1 a2 a3 a4 a5)

def r_cst_4 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x3727C5AC#32)

def r_v15 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![] bcast_S_S8192x1 (r_cst_4 a0 a1 a2 a3 a4 a5)

def r_v16 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  addf (r_v12 a0 a1 a2 a3 a4 a5) (r_v15 a0 a1 a2 a3 a4 a5)

def r_v17 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  Host.rsqrt (r_v16 a0 a1 a2 a3 a4 a5)

def r_v18 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  Host.divf (r_v17 a0 a1 a2 a3 a4 a5) (r_v16 a0 a1 a2 a3 a4 a5)

def r_cst_5 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0xBF000000#32)

def r_v19 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![] bcast_S_S8192x1 (r_cst_5 a0 a1 a2 a3 a4 a5)

def r_v20 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  mulf (r_v19 a0 a1 a2 a3 a4 a5) (r_v18 a0 a1 a2 a3 a4 a5)

def r_v21 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![0, 1] bcast_S8192x1_S8192x1024_0_1 (r_v17 a0 a1 a2 a3 a4 a5)

def r_v22 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  mulf (r_v14 a0 a1 a2 a3 a4 a5) (r_v21 a0 a1 a2 a3 a4 a5)

def r_v23 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S1x1024 .f32 :=
  broadcastInDim S1x1024 ![1] bcast_S1024_S1x1024_1 a1

def r_v24 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![0, 1] bcast_S1x1024_S8192x1024_0_1 (r_v23 a0 a1 a2 a3 a4 a5)

def r_v25 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  mulf (r_v22 a0 a1 a2 a3 a4 a5) (r_v24 a0 a1 a2 a3 a4 a5)

def r_v26 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S1x1024 .f32 :=
  broadcastInDim S1x1024 ![1] bcast_S1024_S1x1024_1 a2

def r_v27 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![0, 1] bcast_S1x1024_S8192x1024_0_1 (r_v26 a0 a1 a2 a3 a4 a5)

def r_v28 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  addf (r_v25 a0 a1 a2 a3 a4 a5) (r_v27 a0 a1 a2 a3 a4 a5)

def r_v29 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x4096 .f32 :=
  Host.dotGeneral dot_S8192x1024_S1024x4096_S8192x4096_1_0_0_1_n_n none (r_v28 a0 a1 a2 a3 a4 a5) a3

def r_v30 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  Host.dotGeneral dot_S8192x4096_S1024x4096_S8192x1024_1_1_0_0_n_n none a4 a3

def r_v31 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  addf a5 (r_v30 a0 a1 a2 a3 a4 a5)

def r_v32 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  shapeCast _ (r_v31 a0 a1 a2 a3 a4 a5) shapeCasts_S8192x1024_S8192x1024

def r_cst_6 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def r_v33 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S1024 .f32 :=
  Host.reduceAdd (r_v31 a0 a1 a2 a3 a4 a5) (r_cst_6 a0 a1 a2 a3 a4 a5) reducesTo_S8192x1024_S1024_d0 h_S_

def r_v34 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S1x1024 .f32 :=
  shapeCast _ (r_v33 a0 a1 a2 a3 a4 a5) shapeCasts_S1024_S1x1024

def r_cst_7 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def r_v35 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S1024 .f32 :=
  Host.reduceAdd (r_v34 a0 a1 a2 a3 a4 a5) (r_cst_7 a0 a1 a2 a3 a4 a5) reducesTo_S1x1024_S1024_d0 h_S_

def r_v36 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  mulf (r_v22 a0 a1 a2 a3 a4 a5) (r_v32 a0 a1 a2 a3 a4 a5)

def r_cst_8 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def r_v37 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S1024 .f32 :=
  Host.reduceAdd (r_v36 a0 a1 a2 a3 a4 a5) (r_cst_8 a0 a1 a2 a3 a4 a5) reducesTo_S8192x1024_S1024_d0 h_S_

def r_v38 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S1x1024 .f32 :=
  shapeCast _ (r_v37 a0 a1 a2 a3 a4 a5) shapeCasts_S1024_S1x1024

def r_v39 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![0, 1] bcast_S1x1024_S8192x1024_0_1 (r_v23 a0 a1 a2 a3 a4 a5)

def r_v40 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  mulf (r_v32 a0 a1 a2 a3 a4 a5) (r_v39 a0 a1 a2 a3 a4 a5)

def r_cst_9 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def r_v41 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S1024 .f32 :=
  Host.reduceAdd (r_v38 a0 a1 a2 a3 a4 a5) (r_cst_9 a0 a1 a2 a3 a4 a5) reducesTo_S1x1024_S1024_d0 h_S_

def r_v42 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  mulf (r_v14 a0 a1 a2 a3 a4 a5) (r_v40 a0 a1 a2 a3 a4 a5)

def r_cst_10 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def r_v43 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192 .f32 :=
  Host.reduceAdd (r_v42 a0 a1 a2 a3 a4 a5) (r_cst_10 a0 a1 a2 a3 a4 a5) reducesTo_S8192x1024_S8192_d1 h_S_

def r_v44 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  shapeCast _ (r_v43 a0 a1 a2 a3 a4 a5) shapeCasts_S8192_S8192x1

def r_v45 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![0, 1] bcast_S8192x1_S8192x1024_0_1 (r_v17 a0 a1 a2 a3 a4 a5)

def r_v46 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  mulf (r_v40 a0 a1 a2 a3 a4 a5) (r_v45 a0 a1 a2 a3 a4 a5)

def r_v47 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  mulf (r_v44 a0 a1 a2 a3 a4 a5) (r_v20 a0 a1 a2 a3 a4 a5)

def r_v48 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  Host.negf (r_v46 a0 a1 a2 a3 a4 a5)

def r_cst_11 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def r_v49 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192 .f32 :=
  Host.reduceAdd (r_v48 a0 a1 a2 a3 a4 a5) (r_cst_11 a0 a1 a2 a3 a4 a5) reducesTo_S8192x1024_S8192_d1 h_S_

def r_v50 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  shapeCast _ (r_v49 a0 a1 a2 a3 a4 a5) shapeCasts_S8192_S8192x1

def r_cst_12 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x44800000#32)

def r_v51 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![] bcast_S_S8192x1 (r_cst_12 a0 a1 a2 a3 a4 a5)

def r_v52 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  Host.divf (r_v47 a0 a1 a2 a3 a4 a5) (r_v51 a0 a1 a2 a3 a4 a5)

def r_cst_13 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def r_v53 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192 .f32 :=
  Host.reduceAdd (r_v52 a0 a1 a2 a3 a4 a5) (r_cst_13 a0 a1 a2 a3 a4 a5) reducesTo_S8192x1_S8192_d1 h_S_

def r_v54 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![0] bcast_S8192_S8192x1024_0 (r_v53 a0 a1 a2 a3 a4 a5)

def r_v55 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  mulf (r_v54 a0 a1 a2 a3 a4 a5) (r_v8 a0 a1 a2 a3 a4 a5)

def r_v56 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  Host.negf (r_v55 a0 a1 a2 a3 a4 a5)

def r_cst_14 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def r_v57 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192 .f32 :=
  Host.reduceAdd (r_v56 a0 a1 a2 a3 a4 a5) (r_cst_14 a0 a1 a2 a3 a4 a5) reducesTo_S8192x1024_S8192_d1 h_S_

def r_v58 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  shapeCast _ (r_v57 a0 a1 a2 a3 a4 a5) shapeCasts_S8192_S8192x1

def r_v59 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  addf (r_v46 a0 a1 a2 a3 a4 a5) (r_v55 a0 a1 a2 a3 a4 a5)

def r_v60 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  addf (r_v50 a0 a1 a2 a3 a4 a5) (r_v58 a0 a1 a2 a3 a4 a5)

def r_cst_15 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x44800000#32)

def r_v61 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![] bcast_S_S8192x1 (r_cst_15 a0 a1 a2 a3 a4 a5)

def r_v62 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  Host.divf (r_v60 a0 a1 a2 a3 a4 a5) (r_v61 a0 a1 a2 a3 a4 a5)

def r_cst_16 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def r_v63 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192 .f32 :=
  Host.reduceAdd (r_v62 a0 a1 a2 a3 a4 a5) (r_cst_16 a0 a1 a2 a3 a4 a5) reducesTo_S8192x1_S8192_d1 h_S_

def r_v64 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![0] bcast_S8192_S8192x1024_0 (r_v63 a0 a1 a2 a3 a4 a5)

def r_v65 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  addf (r_v59 a0 a1 a2 a3 a4 a5) (r_v64 a0 a1 a2 a3 a4 a5)

def r_v66 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .bf16 :=
  truncf .bf16 (r_v65 a0 a1 a2 a3 a4 a5) bitsLt_bf16_f32

def r_v67 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S1x1024 .f32 :=
  broadcastInDim S1x1024 ![1] bcast_S1024_S1x1024_1 (r_v41 a0 a1 a2 a3 a4 a5)

def r_v68 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S1x1024 .f32 :=
  broadcastInDim S1x1024 ![1] bcast_S1024_S1x1024_1 (r_v35 a0 a1 a2 a3 a4 a5)

end Cert.MlpUpBwdValue.Ref

namespace Cert.MlpUpBwdValue

open Cert.MlpUpBwdIdeal Cert.MlpUpBwdIdeal.Gen

variable (m : (ℓ : Loc nD τ sig) → Buf (Elt Ideal) ℓ)

/-- Result `v65` of the reference, at the kernel's arguments. -/
abbrev REF_v65 (c : Dev nD) :=
  Ref.r_v65 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- Result `v66` of the reference, at the kernel's arguments. -/
abbrev REF_v66 (c : Dev nD) :=
  Ref.r_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- Result `v67` of the reference, at the kernel's arguments. -/
abbrev REF_v67 (c : Dev nD) :=
  Ref.r_v67 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- Result `v68` of the reference, at the kernel's arguments. -/
abbrev REF_v68 (c : Dev nD) :=
  Ref.r_v68 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0]
    ∧ win0_3.index t = ![(grid0.coords t 0).val, 0]
    ∧ win0_4.index t = ![(grid0.coords t 0).val, 0]
    ∧ win0_5.index t = ![0, 0]
    ∧ win0_6.index t = ![(grid0.coords t 0).val, 0]
    ∧ win0_7.index t = ![(grid0.coords t 0).val, 0]
    ∧ win0_8.index t = ![0, 0]
    ∧ win0_9.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-! What the host prepares before the kernel, an operation at a time. -/

def h_cst (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def h_v0 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192 .f32 :=
  Host.reduceAdd a0 (h_cst a0 a1 a2 a3 a4 a5) reducesTo_S8192x1024_S8192_d1 h_S_

def h_v1 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![0] bcast_S8192_S8192x1_0 (h_v0 a0 a1 a2 a3 a4 a5)

def h_cst_0 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x44800000#32)

def h_v2 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![] bcast_S_S8192x1 (h_cst_0 a0 a1 a2 a3 a4 a5)

def h_v3 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  Host.divf (h_v1 a0 a1 a2 a3 a4 a5) (h_v2 a0 a1 a2 a3 a4 a5)

def h_v4 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![0, 1] bcast_S8192x1_S8192x1024_0_1 (h_v3 a0 a1 a2 a3 a4 a5)

def h_v5 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  subf a0 (h_v4 a0 a1 a2 a3 a4 a5)

def h_v6 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  mulf (h_v5 a0 a1 a2 a3 a4 a5) (h_v5 a0 a1 a2 a3 a4 a5)

def h_cst_1 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x00000000#32)

def h_v7 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192 .f32 :=
  Host.reduceAdd (h_v6 a0 a1 a2 a3 a4 a5) (h_cst_1 a0 a1 a2 a3 a4 a5) reducesTo_S8192x1024_S8192_d1 h_S_

def h_v8 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![0] bcast_S8192_S8192x1_0 (h_v7 a0 a1 a2 a3 a4 a5)

def h_cst_2 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x44800000#32)

def h_v9 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![] bcast_S_S8192x1 (h_cst_2 a0 a1 a2 a3 a4 a5)

def h_v10 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  Host.divf (h_v8 a0 a1 a2 a3 a4 a5) (h_v9 a0 a1 a2 a3 a4 a5)

def h_v11 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![0, 1] bcast_S8192x1_S8192x1024_0_1 (h_v3 a0 a1 a2 a3 a4 a5)

def h_v12 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  subf a0 (h_v11 a0 a1 a2 a3 a4 a5)

def h_cst_3 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x3727C5AC#32)

def h_v13 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![] bcast_S_S8192x1 (h_cst_3 a0 a1 a2 a3 a4 a5)

def h_v14 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  addf (h_v10 a0 a1 a2 a3 a4 a5) (h_v13 a0 a1 a2 a3 a4 a5)

def h_v15 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  Host.rsqrt (h_v14 a0 a1 a2 a3 a4 a5)

def h_v16 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  broadcastInDim S8192x1024 ![0, 1] bcast_S8192x1_S8192x1024_0_1 (h_v15 a0 a1 a2 a3 a4 a5)

def h_v17 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1024 .f32 :=
  mulf (h_v12 a0 a1 a2 a3 a4 a5) (h_v16 a0 a1 a2 a3 a4 a5)

def h_cst_4 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S_ .f32 :=
  (constant S_ .f32 0x3727C5AC#32)

def h_v18 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  broadcastInDim S8192x1 ![] bcast_S_S8192x1 (h_cst_4 a0 a1 a2 a3 a4 a5)

def h_v19 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  addf (h_v10 a0 a1 a2 a3 a4 a5) (h_v18 a0 a1 a2 a3 a4 a5)

def h_v20 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x1 .f32 :=
  Host.rsqrt (h_v19 a0 a1 a2 a3 a4 a5)

def h_v21 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x4096 .bf16 :=
  truncf .bf16 a4 bitsLt_bf16_f32

def h_v22 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S1024x4096 .bf16 :=
  truncf .bf16 a3 bitsLt_bf16_f32

def h_v23 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S8192x128 .f32 :=
  broadcastInDim S8192x128 ![0, 1] bcast_S8192x1_S8192x128_0_1 (h_v20 a0 a1 a2 a3 a4 a5)

def h_v24 (a0 : FVec Ideal S8192x1024 .f32) (a1 a2 : FVec Ideal S1024 .f32) (a3 : FVec Ideal S1024x4096 .f32) (a4 : FVec Ideal S8192x4096 .f32) (a5 : FVec Ideal S8192x1024 .f32) : FVec Ideal S1x1024 .f32 :=
  broadcastInDim S1x1024 ![1] bcast_S1024_S1x1024_1 a1

/-- The contents of `main_v21`, window 0's array, when the kernel's region begins. -/
theorem entry_v21 (c : Dev nD) : @Eq (FVec Ideal S8192x4096 .bf16) (V m c main_v21) (h_v21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  entry_read
  try rfl

/-- The contents of `main_v22`, window 1's array, when the kernel's region begins. -/
theorem entry_v22 (c : Dev nD) : @Eq (FVec Ideal S1024x4096 .bf16) (V m c main_v22) (h_v22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  entry_read
  try rfl

/-- The contents of `main_v17`, window 3's array, when the kernel's region begins. -/
theorem entry_v17 (c : Dev nD) : @Eq (FVec Ideal S8192x1024 .f32) (V m c main_v17) (h_v17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  entry_read
  try rfl

/-- The contents of `main_v23`, window 4's array, when the kernel's region begins. -/
theorem entry_v23 (c : Dev nD) : @Eq (FVec Ideal S8192x128 .f32) (V m c main_v23) (h_v23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  entry_read
  try rfl

/-- The contents of `main_v24`, window 5's array, when the kernel's region begins. -/
theorem entry_v24 (c : Dev nD) : @Eq (FVec Ideal S1x1024 .f32) (V m c main_v24) (h_v24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  entry_read
  try rfl

/-- The gradient through the layer norm, from that of its result. -/
def kdh (v12 : FVec Ideal S256x1024 .f32) (v6 : Vec Ideal S256x1024 .f32) (v8 : Vec Ideal S256x128 .f32) (v10 : Vec Ideal S1x1024 .f32) : FVec Ideal S256x1024 .f32 :=
  have v9 : FVec Ideal S256x128 .f32 := shapeCast S256x128 v8 shapeCasts_S256x128_S256x128
  have v11 : FVec Ideal S1x1024 .f32 := shapeCast S1x1024 v10 shapeCasts_S1x1024_S1x1024
  have v13 : FVec Ideal S256x1 .f32 := extractStridedSlice S256x1 ![0, 0] v9 slices_S256x128_o0_0_S256x1
  have v14 : FVec Ideal S256x1024 .f32 := broadcastTo S256x1024 v11 broadcasts_S1x1024_S256x1024
  have v15 : FVec Ideal S256x1024 .f32 := mulf v12 v14
  have v16 : FVec Ideal S256 .f32 := multiReduction .add [1] S256 v15 0x00000000#32 reduces_S256x1024_S256 (.inl rfl) rfl
  have v17 : FVec Ideal S256x1 .f32 := shapeCast S256x1 v16 shapeCasts_S256_S256x1
  have cst_12 : Ideal .f32 := Scalar.ofBits .f32 0x44800000#32
  have v18 : FVec Ideal S256x1 .f32 := broadcast S256x1 cst_12
  have v19 : FVec Ideal S256x1 .f32 := divf v17 v18
  have v20 : FVec Ideal S256x1024 .f32 := mulf v15 (k0_pay4 v6)
  have v21 : FVec Ideal S256 .f32 := multiReduction .add [1] S256 v20 0x00000000#32 reduces_S256x1024_S256 (.inl rfl) rfl
  have v22 : FVec Ideal S256x1 .f32 := shapeCast S256x1 v21 shapeCasts_S256_S256x1
  have cst_14 : Ideal .f32 := Scalar.ofBits .f32 0x44800000#32
  have v23 : FVec Ideal S256x1 .f32 := broadcast S256x1 cst_14
  have v24 : FVec Ideal S256x1 .f32 := divf v22 v23
  have v25 : FVec Ideal S256x1024 .f32 := broadcastTo S256x1024 v19 broadcasts_S256x1_S256x1024
  have v26 : FVec Ideal S256x1024 .f32 := subf v15 v25
  have v27 : FVec Ideal S256x1024 .f32 := broadcastTo S256x1024 v24 broadcasts_S256x1_S256x1024
  have v28 : FVec Ideal S256x1024 .f32 := mulf (k0_pay4 v6) v27
  have v29 : FVec Ideal S256x1024 .f32 := subf v26 v28
  have v30 : FVec Ideal S256x1024 .f32 := broadcastTo S256x1024 v13 broadcasts_S256x1_S256x1024
  have v31 : FVec Ideal S256x1024 .f32 := mulf v30 v29
  v31

/-- The host's normalised rows are the reference's. -/
theorem h17_eq (c : Dev nD) : h_v17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = Ref.r_v22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl

/-- The host's inverse deviations are the reference's. -/
theorem h20_eq (c : Dev nD) : h_v20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = Ref.r_v17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl

/-- The gradient of the layer norm's result, on the kernel's blocks. -/
def DX (c : Dev nD) (t : Fin cfg0.N) : FVec Ideal S256x1024 .f32 :=
  k0_pay5 (iblk m c 0 t) (iblk m c 1 t) (iblk m c 2 t)

/-- The row of the array that row `r` of block `t` is. -/
def rowOf (t : Fin cfg0.N) (r : Fin 256) : Fin 8192 :=
  ⟨t.val * 256 + r.val, by have h1 := t.isLt; have h2 : cfg0.N = 32 := rfl; have := r.isLt; omega⟩

/-- Where the blocks of the first result sit. -/
theorem emb_6 (t : Fin cfg0.N) (r : Fin 256) (k : Fin 1024) :
    ((cfg0.win 6).blk t).view.emb (ix2 r k) = ix2 (rowOf t r) k := by
  blk_ext [idx_val t, rowOf]

/-- Where the blocks of the second result sit. -/
theorem emb_7 (t : Fin cfg0.N) (r : Fin 256) (k : Fin 1024) :
    ((cfg0.win 7).blk t).view.emb (ix2 r k) = ix2 (rowOf t r) k := by
  blk_ext [idx_val t, rowOf]

/-- The gradient of the layer norm's result: a block of the kernel's is the block of the reference's it sits at. -/
theorem dx_row (c : Dev nD) (t : Fin cfg0.N) (r : Fin 256) (k : Fin 1024) :
    DX m c t (ix2 r k) = Ref.r_v31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t r) k) := by
  rw [← emb_6]
  generalize hj : (((cfg0.win 6).blk t).view.emb (ix2 r k)) = j
  pointwise [DX, k0_pay5, Ref.r_v30, Ref.r_v31]
  blk_simp [iblk]
  rw [entry_v21 m c, entry_v22 m c]
  pointwise [h_v21, h_v22]
  subst hj
  rw [add_comm]
  blk_point [V, idx_val t]

/-- The normalised rows, on the kernel's blocks. -/
theorem xh_row (c : Dev nD) (t : Fin cfg0.N) (r : Fin 256) (k : Fin 1024) :
    iblk m c 3 t (ix2 r k) = Ref.r_v22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t r) k) := by
  rw [← emb_6]
  blk_simp [iblk]
  rw [entry_v17 m c, h17_eq m c]
  blk_point [V, idx_val t]

/-- The rows that are normalised. -/
abbrev A0 (c : Dev nD) : FVec Ideal S8192x1024 .f32 := m ((c : Thread nD τ).loc main_arg0)

/-- The gain. -/
abbrev A1 (c : Dev nD) : FVec Ideal S1024 .f32 := m ((c : Thread nD τ).loc main_arg1)

/-- The inverse deviations, on the kernel's blocks. -/
theorem rs_row (c : Dev nD) (t : Fin cfg0.N) (r : Fin 256) :
    iblk m c 4 t (ix2 r 0) = Ref.r_v17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t r) 0) := by
  blk_simp [iblk]
  rw [entry_v23 m c]
  rw [show (((cfg0.win 4).blk t).view.emb (ix2 r 0)) = ix2 (rowOf t r) 0 by blk_ext [idx_val t, rowOf]]
  pointwise [h_v23]
  rw [h20_eq m c]

/-- The gain, on the kernel's block. -/
theorem g_row (c : Dev nD) (t : Fin cfg0.N) (k : Fin 1024) :
    iblk m c 5 t (ix2 0 k) = (m ((c : Thread nD τ).loc main_arg1)) (ix1 k) := by
  blk_simp [iblk]
  rw [entry_v24 m c]
  rw [show (((cfg0.win 5).blk t).view.emb (ix2 0 k)) = ix2 0 k by blk_ext [idx_val t]]
  pointwise [h_v24]

/-- Every element of the arrays that the layer norm's gradient reads is a real. -/
def Real (c : Dev nD) : Prop :=
  (∀ i, ∃ r : ℝ, (m ((c : Thread nD τ).loc main_arg0) : FVec Ideal S8192x1024 .f32) i = (r : EReal))
  ∧ (∀ i, ∃ r : ℝ, (m ((c : Thread nD τ).loc main_arg1) : FVec Ideal S1024 .f32) i = (r : EReal))
  ∧ (∀ i, ∃ r : ℝ, (m ((c : Thread nD τ).loc main_arg3) : FVec Ideal S1024x4096 .f32) i = (r : EReal))
  ∧ (∀ i, ∃ r : ℝ, (m ((c : Thread nD τ).loc main_arg4) : FVec Ideal S8192x4096 .f32) i = (r : EReal))
  ∧ (∀ i, ∃ r : ℝ, (m ((c : Thread nD τ).loc main_arg5) : FVec Ideal S8192x1024 .f32) i = (r : EReal))

/-- Of finite arguments the gradient of the layer norm's result is finite. -/
theorem dx_real (c : Dev nD) (H : Real m c) (R : Fin 8192) (k : Fin 1024) :
    ∃ r : ℝ, Ref.r_v31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R k) = (r : EReal) := by
  obtain ⟨_, _, h3, h4, h5⟩ := H
  choose f3 h3 using h3
  choose f4 h4 using h4
  choose f5 h5 using h5
  pointwise [Ref.r_v30, Ref.r_v31]
  simp only [h3, h4, h5, ← EReal.coe_mul]
  exact ⟨_, (congrArg (fun x : EReal => _ + x) (Cert.LnBwd.coe_sum _).symm).trans (EReal.coe_add _ _).symm⟩

/-- The reference's mean of a row. -/
theorem ref_mu (c : Dev nD) (R : Fin 8192) : Ref.r_v3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R 0)
    = Ideal.div (∑ i : Fin 1024, A0 m c (ix2 R i)) (Ideal.ofBits .f32 1149239296#32) := by
  pointwise [Ref.r_cst, Ref.r_v0, Ref.r_v1, Ref.r_cst_0, Ref.r_v2, Ref.r_v3]

/-- The reference's variance of a row, with what is added to it. -/
theorem ref_s (c : Dev nD) (R : Fin 8192) : Ref.r_v16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R 0)
    = Ideal.div (∑ i : Fin 1024, (A0 m c (ix2 R i) - Ref.r_v3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R 0))
        * (A0 m c (ix2 R i) - Ref.r_v3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R 0))) (Ideal.ofBits .f32 1149239296#32)
      + Ideal.ofBits .f32 925353388#32 := by
  pointwise [Ref.r_v4, Ref.r_v5, Ref.r_v6, Ref.r_cst_2, Ref.r_v9, Ref.r_v10, Ref.r_cst_3, Ref.r_v11, Ref.r_v12, Ref.r_cst_4, Ref.r_v15, Ref.r_v16]

/-- The reference's inverse deviation of a row. -/
theorem ref_w (c : Dev nD) (R : Fin 8192) : Ref.r_v17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R 0) = Ideal.rsqrt (Ref.r_v16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R 0)) := by
  pointwise [Ref.r_v17]

set_option maxHeartbeats 2000000 in
/-- What the kernel stores of its first result. -/
theorem point_dh (c : Dev nD) (H : Real m c) (t : Fin cfg0.N) (r : Fin 256) (k : Fin 1024) :
    k0_pay6 (iblk m c 0 t) (iblk m c 1 t) (iblk m c 2 t) (iblk m c 3 t) (iblk m c 4 t) (iblk m c 5 t) (ix2 r k)
      = REF_v65 m c (ix2 (rowOf t r) k) := by
  rw [show k0_pay6 (F := Ideal) (iblk m c 0 t) (iblk m c 1 t) (iblk m c 2 t) (iblk m c 3 t) (iblk m c 4 t) (iblk m c 5 t) = kdh (DX m c t) (iblk m c 3 t) (iblk m c 4 t) (iblk m c 5 t) from rfl]
  pointwise [kdh, k0_pay4]
  simp only [dx_row, xh_row, rs_row, g_row]
  generalize rowOf t r = R
  pointwise [REF_v65, Ref.r_v4, Ref.r_v5, Ref.r_cst_1, Ref.r_v7, Ref.r_v8, Ref.r_v13, Ref.r_v14, Ref.r_v18, Ref.r_cst_5, Ref.r_v19, Ref.r_v20, Ref.r_v21, Ref.r_v22, Ref.r_v23, Ref.r_v32, Ref.r_v39, Ref.r_v40, Ref.r_v42, Ref.r_cst_10, Ref.r_v43, Ref.r_v44, Ref.r_v45, Ref.r_v46, Ref.r_v47, Ref.r_v48, Ref.r_cst_11, Ref.r_v49, Ref.r_v50, Ref.r_cst_12, Ref.r_v51, Ref.r_v52, Ref.r_cst_13, Ref.r_v53, Ref.r_v54, Ref.r_v55, Ref.r_v56, Ref.r_cst_14, Ref.r_v57, Ref.r_v58, Ref.r_v59, Ref.r_v60, Ref.r_cst_15, Ref.r_v61, Ref.r_v62, Ref.r_cst_16, Ref.r_v63, Ref.r_v64, Ref.r_v65]
  simp only [Fin.sum_univ_one]
  exact Cert.LnBwd.row (fun i => A0 m c (ix2 R i))
    (fun i => Ref.r_v31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R i) * A1 m c (ix1 i))
    (fun i => H.1 _)
    (fun i => by
      obtain ⟨x, hx⟩ := dx_real m c H R i
      obtain ⟨y, hy⟩ : ∃ y : ℝ, A1 m c (ix1 i) = y := H.2.1 (ix1 i)
      exact ⟨x * y, by rw [hx, hy, EReal.coe_mul]⟩)
    k _ _ _ (ref_mu m c R) (ref_s m c R) (ref_w m c R)

/-- The grid has 32 points. -/
theorem lt32 (t : Fin cfg0.N) : t.val < 32 := t.isLt

/-- The reference's gradient of the gain, a sum over the rows. -/
theorem ref_dg (c : Dev nD) (a : Fin 1) (l : Fin 1024) : REF_v67 m c (ix2 a l)
    = ∑ n : Fin (32 * 256), Ref.r_v31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 n l) * Ref.r_v22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 n l) := by
  pointwise [REF_v67, Ref.r_v32, Ref.r_v36, Ref.r_cst_8, Ref.r_v37, Ref.r_v38, Ref.r_cst_8, Ref.r_cst_9, Ref.r_v41, Ref.r_v67]
  rw [Fin.sum_univ_one]
  exact Finset.sum_congr rfl fun _ _ => mul_comm (G := EReal) _ _

/-- The reference's gradient of the bias, a sum over the rows. -/
theorem ref_db (c : Dev nD) (a : Fin 1) (l : Fin 1024) : REF_v68 m c (ix2 a l)
    = ∑ n : Fin (32 * 256), Ref.r_v31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 n l) := by
  pointwise [REF_v68, Ref.r_cst_6, Ref.r_v33, Ref.r_v34, Ref.r_cst_7, Ref.r_v35, Ref.r_v68]
  rw [Fin.sum_univ_one]

/-- The block of the gradient of the gain at a grid point. -/
theorem pay7_eq (c : Dev nD) (t : Fin cfg0.N) (j : S1x1024.Idx) :
    k0_pay7 (iblk m c 0 t) (iblk m c 1 t) (iblk m c 2 t) (iblk m c 3 t) j
      = ∑ r : Fin 256, DX m c t (ix2 r (j 1)) * iblk m c 3 t (ix2 r (j 1)) := by
  pointwise [k0_pay7, k0_pay4]
  rfl

/-- The block of the gradient of the bias at a grid point. -/
theorem pay8_eq (c : Dev nD) (t : Fin cfg0.N) (j : S1x1024.Idx) :
    k0_pay8 (iblk m c 0 t) (iblk m c 1 t) (iblk m c 2 t) j = ∑ r : Fin 256, DX m c t (ix2 r (j 1)) := by
  pointwise [k0_pay8]
  rfl

/-- The rows of the grid's points, one after another, are the array's. -/
theorem rowOf_run (t : Fin cfg0.N) (s : Fin 32) (k : Fin 256) (hl : s.val * 256 + k.val < 32 * 256) {h} :
    rowOf ⟨32 * (t.val / 32) + s.val, h⟩ k = ⟨s.val * 256 + k.val, hl⟩ := by
  have ht := lt32 t
  apply Fin.ext
  show (32 * (t.val / 32) + s.val) * 256 + k.val = s.val * 256 + k.val
  have : t.val / 32 = 0 := by omega
  rw [this]; omega

/-- The first result. -/
theorem final_6 (c : Dev nD) (H : Real m c) : (dats m 0 c).arrAt 6 (cfgs 0).N = (REF_v65 m c) := by
  refine (dats m 0 c).arrAt_eq_of_covers 6 _ (by decide +kernel) fun t hf y => ?_
  obtain ⟨r, k, rfl⟩ : ∃ (r : Fin 256) (k : Fin 1024), y = ix2 r k := ⟨y 0, y 1, eq_ix2 y⟩
  rw [emb_6]
  have ht := lt32 t
  blk_simp; rw [after0_6]
  by_cases h0 : t.val % 32 = 0
  · rw [outsAt0_A m c t h0 (by omega) h0 (by omega)]; frame_out
    exact point_dh m c H t r k
  · rw [outsAt0_B m c t h0 (by omega) h0 (by omega)]; frame_out
    exact point_dh m c H t r k

/-- The second result: the first, narrowed. -/
theorem final_7 (c : Dev nD) (H : Real m c) : (dats m 0 c).arrAt 7 (cfgs 0).N = (REF_v66 m c) := by
  refine (dats m 0 c).arrAt_eq_of_covers 7 _ (by decide +kernel) fun t hf y => ?_
  obtain ⟨r, k, rfl⟩ : ∃ (r : Fin 256) (k : Fin 1024), y = ix2 r k := ⟨y 0, y 1, eq_ix2 y⟩
  rw [emb_7]
  have ht := lt32 t
  blk_simp; rw [after0_7]
  by_cases h0 : t.val % 32 = 0
  · rw [outsAt0_A m c t h0 (by omega) h0 (by omega)]; frame_out
    exact point_dh m c H t r k
  · rw [outsAt0_B m c t h0 (by omega) h0 (by omega)]; frame_out
    exact point_dh m c H t r k

/-- The third result: the gradient of the gain. -/
theorem final_8 (c : Dev nD) : (dats m 0 c).arrAt 8 (cfgs 0).N = (REF_v67 m c) := by
  refine (dats m 0 c).arrAt_eq_of_covers 8 _ (by decide +kernel) fun t hf y => ?_
  obtain ⟨a, l, rfl⟩ : ∃ (a : Fin 1) (l : Fin 1024), y = ix2 a l := ⟨y 0, y 1, eq_ix2 y⟩
  rw [show ((cfg0.win 8).blk t).view.emb (ix2 a l) = ix2 a l by blk_ext [idx_val t], ref_dg]
  blk_simp
  rw [after0_8, Pipeline.eq_sum_fin_of_reset_step_apply_of_flush (fun n h => (outsAt0 m c n h).2.2.1) 32 (fun _ => 0)
    (fun t y => ∑ r : Fin 256, DX m c t (ix2 r (y 1)) * iblk m c 3 t (ix2 r (y 1)))
    (fun t h j => by
      have ht := lt32 t
      rw [outsAt0_A m c t h (by omega) h (by omega)]; frame_out
      rw [pay7_eq, zero_add])
    (fun t h j => by
      have ht := lt32 t
      rw [outsAt0_B m c t h (by omega) h (by omega)]; frame_out
      pointwise [k0_pay2]; rw [pay7_eq])
    t ((flush0_8 t).mp hf) _, zero_add]
  refine Fin.sum_mul_add_congr fun s k hl => ?_
  refine (congrArg₂ (fun x y : EReal => x * y) (dx_row m c _ k l) (xh_row m c _ k l)).trans ?_
  rw [rowOf_run t s k hl]

/-- The fourth result: the gradient of the bias. -/
theorem final_9 (c : Dev nD) : (dats m 0 c).arrAt 9 (cfgs 0).N = (REF_v68 m c) := by
  refine (dats m 0 c).arrAt_eq_of_covers 9 _ (by decide +kernel) fun t hf y => ?_
  obtain ⟨a, l, rfl⟩ : ∃ (a : Fin 1) (l : Fin 1024), y = ix2 a l := ⟨y 0, y 1, eq_ix2 y⟩
  rw [show ((cfg0.win 9).blk t).view.emb (ix2 a l) = ix2 a l by blk_ext [idx_val t], ref_db]
  blk_simp
  rw [after0_9, Pipeline.eq_sum_fin_of_reset_step_apply_of_flush (fun n h => (outsAt0 m c n h).2.2.2) 32 (fun _ => 0)
    (fun t y => ∑ r : Fin 256, DX m c t (ix2 r (y 1)))
    (fun t h j => by
      have ht := lt32 t
      rw [outsAt0_A m c t h (by omega) h (by omega)]; frame_out
      rw [pay8_eq, zero_add])
    (fun t h j => by
      have ht := lt32 t
      rw [outsAt0_B m c t h (by omega) h (by omega)]; frame_out
      pointwise [k0_pay3]; rw [pay8_eq])
    t ((flush0_9 t).mp hf) _, zero_add]
  refine Fin.sum_mul_add_congr fun s k hl => ?_
  refine (dx_row m c _ k l).trans ?_
  rw [rowOf_run t s k hl]

end Cert.MlpUpBwdValue

end
-- ==== Proof.InQkvBwd.lean ====
/- The value of `Cert.InQkvBwdIdeal`. -/
module

public import proofs.«01_k».proof.Proof.Gen.InQkvBwdIdeal
public import proofs.«01_k».proof.Proof.Gen.InQkvBwdIdeal.Frame
public import proofs.«01_k».proof.Proof.Gen.InQkvBwdRefIdeal
public import proofs.«01_k».proof.Proof.Common
public import proofs.«01_k».proof.Proof.LnBwd
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.InQkvBwdValue.Ref

open Cert.InQkvBwdRefIdeal Cert.InQkvBwdRefIdeal.Gen

/-! The reference, an operation at a time, over its arguments. -/

variable (m : (ℓ : Loc Cert.InQkvBwdIdeal.nD Cert.InQkvBwdIdeal.τ Cert.InQkvBwdIdeal.sig) → Buf (Elt Ideal) ℓ) (c : Dev Cert.InQkvBwdIdeal.nD)

def r_cst : FVec Ideal S_ .f32 :=
  (constant S_ .f32 0x00000000#32)

def r_v0 : FVec Ideal S8192 .f32 :=
  Host.reduceAdd (m ((c : Thread Cert.InQkvBwdIdeal.nD Cert.InQkvBwdIdeal.τ).loc Cert.InQkvBwdIdeal.main_arg0)) r_cst reducesTo_S8192x1024_S8192_d1 h_S_

def r_v1 : FVec Ideal S8192x1 .f32 :=
  broadcastInDim S8192x1 ![0] bcast_S8192_S8192x1_0 (r_v0 m c)

def r_cst_0 : FVec Ideal S_ .f32 :=
  (constant S_ .f32 0x44800000#32)

def r_v2 : FVec Ideal S8192x1 .f32 :=
  broadcastInDim S8192x1 ![] bcast_S_S8192x1 r_cst_0

def r_v3 : FVec Ideal S8192x1 .f32 :=
  Host.divf (r_v1 m c) r_v2

def r_v4 : FVec Ideal S8192x1024 .f32 :=
  broadcastInDim S8192x1024 ![0, 1] bcast_S8192x1_S8192x1024_0_1 (r_v3 m c)

def r_v5 : FVec Ideal S8192x1024 .f32 :=
  subf (m ((c : Thread Cert.InQkvBwdIdeal.nD Cert.InQkvBwdIdeal.τ).loc Cert.InQkvBwdIdeal.main_arg0)) (r_v4 m c)

def r_v6 : FVec Ideal S8192x1024 .f32 :=
  mulf (r_v5 m c) (r_v5 m c)

def r_cst_1 : FVec Ideal S_ .f32 :=
  (constant S_ .f32 0x40000000#32)

def r_v7 : FVec Ideal S8192x1024 .f32 :=
  broadcastInDim S8192x1024 ![] bcast_S_S8192x1024 r_cst_1

def r_v8 : FVec Ideal S8192x1024 .f32 :=
  mulf r_v7 (r_v5 m c)

def r_cst_2 : FVec Ideal S_ .f32 :=
  (constant S_ .f32 0x00000000#32)

def r_v9 : FVec Ideal S8192 .f32 :=
  Host.reduceAdd (r_v6 m c) r_cst_2 reducesTo_S8192x1024_S8192_d1 h_S_

def r_v10 : FVec Ideal S8192x1 .f32 :=
  broadcastInDim S8192x1 ![0] bcast_S8192_S8192x1_0 (r_v9 m c)

def r_cst_3 : FVec Ideal S_ .f32 :=
  (constant S_ .f32 0x44800000#32)

def r_v11 : FVec Ideal S8192x1 .f32 :=
  broadcastInDim S8192x1 ![] bcast_S_S8192x1 r_cst_3

def r_v12 : FVec Ideal S8192x1 .f32 :=
  Host.divf (r_v10 m c) r_v11

def r_v13 : FVec Ideal S8192x1024 .f32 :=
  broadcastInDim S8192x1024 ![0, 1] bcast_S8192x1_S8192x1024_0_1 (r_v3 m c)

def r_v14 : FVec Ideal S8192x1024 .f32 :=
  subf (m ((c : Thread Cert.InQkvBwdIdeal.nD Cert.InQkvBwdIdeal.τ).loc Cert.InQkvBwdIdeal.main_arg0)) (r_v13 m c)

def r_cst_4 : FVec Ideal S_ .f32 :=
  (constant S_ .f32 0x3727C5AC#32)

def r_v15 : FVec Ideal S8192x1 .f32 :=
  broadcastInDim S8192x1 ![] bcast_S_S8192x1 r_cst_4

def r_v16 : FVec Ideal S8192x1 .f32 :=
  addf (r_v12 m c) r_v15

def r_v17 : FVec Ideal S8192x1 .f32 :=
  Host.rsqrt (r_v16 m c)

def r_v18 : FVec Ideal S8192x1 .f32 :=
  Host.divf (r_v17 m c) (r_v16 m c)

def r_cst_5 : FVec Ideal S_ .f32 :=
  (constant S_ .f32 0xBF000000#32)

def r_v19 : FVec Ideal S8192x1 .f32 :=
  broadcastInDim S8192x1 ![] bcast_S_S8192x1 r_cst_5

def r_v20 : FVec Ideal S8192x1 .f32 :=
  mulf r_v19 (r_v18 m c)

def r_v21 : FVec Ideal S8192x1024 .f32 :=
  broadcastInDim S8192x1024 ![0, 1] bcast_S8192x1_S8192x1024_0_1 (r_v17 m c)

def r_v22 : FVec Ideal S8192x1024 .f32 :=
  mulf (r_v14 m c) (r_v21 m c)

def r_v23 : FVec Ideal S1x1024 .f32 :=
  broadcastInDim S1x1024 ![1] bcast_S1024_S1x1024_1 (m ((c : Thread Cert.InQkvBwdIdeal.nD Cert.InQkvBwdIdeal.τ).loc Cert.InQkvBwdIdeal.main_arg1))

def r_v24 : FVec Ideal S8192x1024 .f32 :=
  broadcastInDim S8192x1024 ![0, 1] bcast_S1x1024_S8192x1024_0_1 (r_v23 m c)

def r_v25 : FVec Ideal S8192x1024 .f32 :=
  mulf (r_v22 m c) (r_v24 m c)

def r_v26 : FVec Ideal S1x1024 .f32 :=
  broadcastInDim S1x1024 ![1] bcast_S1024_S1x1024_1 (m ((c : Thread Cert.InQkvBwdIdeal.nD Cert.InQkvBwdIdeal.τ).loc Cert.InQkvBwdIdeal.main_arg2))

def r_v27 : FVec Ideal S8192x1024 .f32 :=
  broadcastInDim S8192x1024 ![0, 1] bcast_S1x1024_S8192x1024_0_1 (r_v26 m c)

def r_v28 : FVec Ideal S8192x1024 .f32 :=
  addf (r_v25 m c) (r_v27 m c)

def r_v29 : FVec Ideal S8192x3072 .f32 :=
  Host.dotGeneral (φ₁ := .f32) (φ₂ := .f32) dot_S8192x1024_S1024x3072_S8192x3072_1_0_0_1_n_n none (r_v28 m c) (m ((c : Thread Cert.InQkvBwdIdeal.nD Cert.InQkvBwdIdeal.τ).loc Cert.InQkvBwdIdeal.main_arg3))

def r_v30 : FVec Ideal S8192x1024 .f32 :=
  Host.dotGeneral (φ₁ := .f32) (φ₂ := .f32) dot_S8192x3072_S1024x3072_S8192x1024_1_1_0_0_n_n none (m ((c : Thread Cert.InQkvBwdIdeal.nD Cert.InQkvBwdIdeal.τ).loc Cert.InQkvBwdIdeal.main_arg4)) (m ((c : Thread Cert.InQkvBwdIdeal.nD Cert.InQkvBwdIdeal.τ).loc Cert.InQkvBwdIdeal.main_arg3))

def r_v31 : FVec Ideal S8192x1024 .f32 :=
  addf (m ((c : Thread Cert.InQkvBwdIdeal.nD Cert.InQkvBwdIdeal.τ).loc Cert.InQkvBwdIdeal.main_arg5)) (r_v30 m c)

def r_v32 : FVec Ideal S8192x1024 .f32 :=
  shapeCast _ (r_v31 m c) shapeCasts_S8192x1024_S8192x1024

def r_cst_6 : FVec Ideal S_ .f32 :=
  (constant S_ .f32 0x00000000#32)

def r_v33 : FVec Ideal S1024 .f32 :=
  Host.reduceAdd (r_v31 m c) r_cst_6 reducesTo_S8192x1024_S1024_d0 h_S_

def r_v34 : FVec Ideal S1x1024 .f32 :=
  shapeCast _ (r_v33 m c) shapeCasts_S1024_S1x1024

def r_cst_7 : FVec Ideal S_ .f32 :=
  (constant S_ .f32 0x00000000#32)

def r_v35 : FVec Ideal S1024 .f32 :=
  Host.reduceAdd (r_v34 m c) r_cst_7 reducesTo_S1x1024_S1024_d0 h_S_

def r_v36 : FVec Ideal S8192x1024 .f32 :=
  mulf (r_v22 m c) (r_v32 m c)

def r_cst_8 : FVec Ideal S_ .f32 :=
  (constant S_ .f32 0x00000000#32)

def r_v37 : FVec Ideal S1024 .f32 :=
  Host.reduceAdd (r_v36 m c) r_cst_8 reducesTo_S8192x1024_S1024_d0 h_S_

def r_v38 : FVec Ideal S1x1024 .f32 :=
  shapeCast _ (r_v37 m c) shapeCasts_S1024_S1x1024

def r_v39 : FVec Ideal S8192x1024 .f32 :=
  broadcastInDim S8192x1024 ![0, 1] bcast_S1x1024_S8192x1024_0_1 (r_v23 m c)

def r_v40 : FVec Ideal S8192x1024 .f32 :=
  mulf (r_v32 m c) (r_v39 m c)

def r_cst_9 : FVec Ideal S_ .f32 :=
  (constant S_ .f32 0x00000000#32)

def r_v41 : FVec Ideal S1024 .f32 :=
  Host.reduceAdd (r_v38 m c) r_cst_9 reducesTo_S1x1024_S1024_d0 h_S_

def r_v42 : FVec Ideal S8192x1024 .f32 :=
  mulf (r_v14 m c) (r_v40 m c)

def r_cst_10 : FVec Ideal S_ .f32 :=
  (constant S_ .f32 0x00000000#32)

def r_v43 : FVec Ideal S8192 .f32 :=
  Host.reduceAdd (r_v42 m c) r_cst_10 reducesTo_S8192x1024_S8192_d1 h_S_

def r_v44 : FVec Ideal S8192x1 .f32 :=
  shapeCast _ (r_v43 m c) shapeCasts_S8192_S8192x1

def r_v45 : FVec Ideal S8192x1024 .f32 :=
  broadcastInDim S8192x1024 ![0, 1] bcast_S8192x1_S8192x1024_0_1 (r_v17 m c)

def r_v46 : FVec Ideal S8192x1024 .f32 :=
  mulf (r_v40 m c) (r_v45 m c)

def r_v47 : FVec Ideal S8192x1 .f32 :=
  mulf (r_v44 m c) (r_v20 m c)

def r_v48 : FVec Ideal S8192x1024 .f32 :=
  Host.negf (r_v46 m c)

def r_cst_11 : FVec Ideal S_ .f32 :=
  (constant S_ .f32 0x00000000#32)

def r_v49 : FVec Ideal S8192 .f32 :=
  Host.reduceAdd (r_v48 m c) r_cst_11 reducesTo_S8192x1024_S8192_d1 h_S_

def r_v50 : FVec Ideal S8192x1 .f32 :=
  shapeCast _ (r_v49 m c) shapeCasts_S8192_S8192x1

def r_cst_12 : FVec Ideal S_ .f32 :=
  (constant S_ .f32 0x44800000#32)

def r_v51 : FVec Ideal S8192x1 .f32 :=
  broadcastInDim S8192x1 ![] bcast_S_S8192x1 r_cst_12

def r_v52 : FVec Ideal S8192x1 .f32 :=
  Host.divf (r_v47 m c) r_v51

def r_cst_13 : FVec Ideal S_ .f32 :=
  (constant S_ .f32 0x00000000#32)

def r_v53 : FVec Ideal S8192 .f32 :=
  Host.reduceAdd (r_v52 m c) r_cst_13 reducesTo_S8192x1_S8192_d1 h_S_

def r_v54 : FVec Ideal S8192x1024 .f32 :=
  broadcastInDim S8192x1024 ![0] bcast_S8192_S8192x1024_0 (r_v53 m c)

def r_v55 : FVec Ideal S8192x1024 .f32 :=
  mulf (r_v54 m c) (r_v8 m c)

def r_v56 : FVec Ideal S8192x1024 .f32 :=
  Host.negf (r_v55 m c)

def r_cst_14 : FVec Ideal S_ .f32 :=
  (constant S_ .f32 0x00000000#32)

def r_v57 : FVec Ideal S8192 .f32 :=
  Host.reduceAdd (r_v56 m c) r_cst_14 reducesTo_S8192x1024_S8192_d1 h_S_

def r_v58 : FVec Ideal S8192x1 .f32 :=
  shapeCast _ (r_v57 m c) shapeCasts_S8192_S8192x1

def r_v59 : FVec Ideal S8192x1024 .f32 :=
  addf (r_v46 m c) (r_v55 m c)

def r_v60 : FVec Ideal S8192x1 .f32 :=
  addf (r_v50 m c) (r_v58 m c)

def r_cst_15 : FVec Ideal S_ .f32 :=
  (constant S_ .f32 0x44800000#32)

def r_v61 : FVec Ideal S8192x1 .f32 :=
  broadcastInDim S8192x1 ![] bcast_S_S8192x1 r_cst_15

def r_v62 : FVec Ideal S8192x1 .f32 :=
  Host.divf (r_v60 m c) r_v61

def r_cst_16 : FVec Ideal S_ .f32 :=
  (constant S_ .f32 0x00000000#32)

def r_v63 : FVec Ideal S8192 .f32 :=
  Host.reduceAdd (r_v62 m c) r_cst_16 reducesTo_S8192x1_S8192_d1 h_S_

def r_v64 : FVec Ideal S8192x1024 .f32 :=
  broadcastInDim S8192x1024 ![0] bcast_S8192_S8192x1024_0 (r_v63 m c)

def r_v65 : FVec Ideal S8192x1024 .f32 :=
  addf (r_v59 m c) (r_v64 m c)

def r_v66 : FVec Ideal S1x1024 .f32 :=
  broadcastInDim S1x1024 ![1] bcast_S1024_S1x1024_1 (m ((c : Thread Cert.InQkvBwdIdeal.nD Cert.InQkvBwdIdeal.τ).loc Cert.InQkvBwdIdeal.main_arg7))

def r_v67 : FVec Ideal S8192x1024 .f32 :=
  broadcastInDim S8192x1024 ![0, 1] bcast_S1x1024_S8192x1024_0_1 (r_v66 m c)

def r_v68 : FVec Ideal S8192x1024 .f32 :=
  addf (m ((c : Thread Cert.InQkvBwdIdeal.nD Cert.InQkvBwdIdeal.τ).loc Cert.InQkvBwdIdeal.main_arg6)) (r_v67 m c)

def r_v69 : FVec Ideal S8192x1024 .f32 :=
  Host.negf (r_v68 m c)

def r_v70 : FVec Ideal S8192x1024 .f32 :=
  Host.exp (r_v69 m c)

def r_cst_17 : FVec Ideal S_ .f32 :=
  (constant S_ .f32 0x3F800000#32)

def r_v71 : FVec Ideal S8192x1024 .f32 :=
  broadcastInDim S8192x1024 ![] bcast_S_S8192x1024 r_cst_17

def r_v72 : FVec Ideal S8192x1024 .f32 :=
  addf r_v71 (r_v70 m c)

def r_cst_18 : FVec Ideal S_ .f32 :=
  (constant S_ .f32 0x3F800000#32)

def r_v73 : FVec Ideal S8192x1024 .f32 :=
  broadcastInDim S8192x1024 ![] bcast_S_S8192x1024 r_cst_18

def r_v74 : FVec Ideal S8192x1024 .f32 :=
  Host.divf r_v73 (r_v72 m c)

def r_cst_19 : FVec Ideal S_ .f32 :=
  (constant S_ .f32 0x3F800000#32)

def r_v75 : FVec Ideal S8192x1024 .f32 :=
  broadcastInDim S8192x1024 ![] bcast_S_S8192x1024 r_cst_19

def r_v76 : FVec Ideal S8192x1024 .f32 :=
  subf r_v75 (r_v74 m c)

def r_v77 : FVec Ideal S8192x1024 .f32 :=
  mulf (r_v74 m c) (r_v76 m c)

def r_v78 : FVec Ideal S8192x1024 .f32 :=
  mulf (r_v74 m c) (m ((c : Thread Cert.InQkvBwdIdeal.nD Cert.InQkvBwdIdeal.τ).loc Cert.InQkvBwdIdeal.main_arg8))

def r_v79 : FVec Ideal S8192x1024 .f32 :=
  mulf (r_v74 m c) (r_v65 m c)

def r_v80 : FVec Ideal S8192x1024 .f32 :=
  mulf (r_v65 m c) (m ((c : Thread Cert.InQkvBwdIdeal.nD Cert.InQkvBwdIdeal.τ).loc Cert.InQkvBwdIdeal.main_arg8))

def r_v81 : FVec Ideal S8192x1024 .f32 :=
  mulf (r_v80 m c) (r_v77 m c)

def r_cst_20 : FVec Ideal S_ .f32 :=
  (constant S_ .f32 0x00000000#32)

def r_v82 : FVec Ideal S1024 .f32 :=
  Host.reduceAdd (r_v81 m c) r_cst_20 reducesTo_S8192x1024_S1024_d0 h_S_

def r_v83 : FVec Ideal S1x1024 .f32 :=
  shapeCast _ (r_v82 m c) shapeCasts_S1024_S1x1024

def r_cst_21 : FVec Ideal S_ .f32 :=
  (constant S_ .f32 0x00000000#32)

def r_v84 : FVec Ideal S1024 .f32 :=
  Host.reduceAdd (r_v83 m c) r_cst_21 reducesTo_S1x1024_S1024_d0 h_S_

def r_v85 : FVec Ideal S8192x1024 .bf16 :=
  truncf .bf16 (r_v65 m c) bitsLt_bf16_f32

def r_v86 : FVec Ideal S8192x1024 .bf16 :=
  truncf .bf16 (r_v81 m c) bitsLt_bf16_f32

def r_v87 : FVec Ideal S8192x1024 .bf16 :=
  truncf .bf16 (r_v79 m c) bitsLt_bf16_f32

def r_v88 : FVec Ideal S1x1024 .f32 :=
  broadcastInDim S1x1024 ![1] bcast_S1024_S1x1024_1 (r_v41 m c)

def r_v89 : FVec Ideal S1x1024 .f32 :=
  broadcastInDim S1x1024 ![1] bcast_S1024_S1x1024_1 (r_v35 m c)

def r_v90 : FVec Ideal S1x1024 .f32 :=
  broadcastInDim S1x1024 ![1] bcast_S1024_S1x1024_1 (r_v84 m c)

end Cert.InQkvBwdValue.Ref

namespace Cert.InQkvBwdValue

open Cert.InQkvBwdIdeal Cert.InQkvBwdIdeal.Gen

variable (m : (ℓ : Loc nD τ sig) → Buf (Elt Ideal) ℓ)

/-- Result `v65` of the reference, at the kernel's arguments. -/
abbrev REF_v65 (c : Dev nD) :=
  Ref.r_v65 m c

/-- Result `v85` of the reference, at the kernel's arguments. -/
abbrev REF_v85 (c : Dev nD) :=
  Ref.r_v85 m c

/-- Result `v86` of the reference, at the kernel's arguments. -/
abbrev REF_v86 (c : Dev nD) :=
  Ref.r_v86 m c

/-- Result `v87` of the reference, at the kernel's arguments. -/
abbrev REF_v87 (c : Dev nD) :=
  Ref.r_v87 m c

/-- Result `v88` of the reference, at the kernel's arguments. -/
abbrev REF_v88 (c : Dev nD) :=
  Ref.r_v88 m c

/-- Result `v89` of the reference, at the kernel's arguments. -/
abbrev REF_v89 (c : Dev nD) :=
  Ref.r_v89 m c

/-- Result `v90` of the reference, at the kernel's arguments. -/
abbrev REF_v90 (c : Dev nD) :=
  Ref.r_v90 m c

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0]
    ∧ win0_7.index t = ![0, 0]
    ∧ win0_8.index t = ![(grid0.coords t 0).val, 0]
    ∧ win0_9.index t = ![(grid0.coords t 0).val, 0]
    ∧ win0_10.index t = ![(grid0.coords t 0).val, 0]
    ∧ win0_11.index t = ![(grid0.coords t 0).val, 0]
    ∧ win0_12.index t = ![0, 0]
    ∧ win0_13.index t = ![0, 0]
    ∧ win0_14.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![t.val, 0]
    ∧ win0_9.index t = ![t.val, 0]
    ∧ win0_10.index t = ![t.val, 0]
    ∧ win0_11.index t = ![t.val, 0]
    ∧ win0_12.index t = ![0, 0]
    ∧ win0_13.index t = ![0, 0]
    ∧ win0_14.index t = ![0, 0] :=
  (by decide +kernel : ∀ t : Fin grid0.N, _)

/-! What the host prepares before the kernel, an operation at a time. -/

section

variable (c : Dev nD)

def h_cst : FVec Ideal S_ .f32 :=
  (constant S_ .f32 0x00000000#32)

def h_v0 : FVec Ideal S8192 .f32 :=
  Host.reduceAdd (m ((c : Thread Cert.InQkvBwdIdeal.nD Cert.InQkvBwdIdeal.τ).loc Cert.InQkvBwdIdeal.main_arg0)) h_cst reducesTo_S8192x1024_S8192_d1 h_S_

def h_v1 : FVec Ideal S8192x1 .f32 :=
  broadcastInDim S8192x1 ![0] bcast_S8192_S8192x1_0 (h_v0 m c)

def h_cst_0 : FVec Ideal S_ .f32 :=
  (constant S_ .f32 0x44800000#32)

def h_v2 : FVec Ideal S8192x1 .f32 :=
  broadcastInDim S8192x1 ![] bcast_S_S8192x1 h_cst_0

def h_v3 : FVec Ideal S8192x1 .f32 :=
  Host.divf (h_v1 m c) h_v2

def h_v4 : FVec Ideal S8192x1024 .f32 :=
  broadcastInDim S8192x1024 ![0, 1] bcast_S8192x1_S8192x1024_0_1 (h_v3 m c)

def h_v5 : FVec Ideal S8192x1024 .f32 :=
  subf (m ((c : Thread Cert.InQkvBwdIdeal.nD Cert.InQkvBwdIdeal.τ).loc Cert.InQkvBwdIdeal.main_arg0)) (h_v4 m c)

def h_v6 : FVec Ideal S8192x1024 .f32 :=
  mulf (h_v5 m c) (h_v5 m c)

def h_cst_1 : FVec Ideal S_ .f32 :=
  (constant S_ .f32 0x00000000#32)

def h_v7 : FVec Ideal S8192 .f32 :=
  Host.reduceAdd (h_v6 m c) h_cst_1 reducesTo_S8192x1024_S8192_d1 h_S_

def h_v8 : FVec Ideal S8192x1 .f32 :=
  broadcastInDim S8192x1 ![0] bcast_S8192_S8192x1_0 (h_v7 m c)

def h_cst_2 : FVec Ideal S_ .f32 :=
  (constant S_ .f32 0x44800000#32)

def h_v9 : FVec Ideal S8192x1 .f32 :=
  broadcastInDim S8192x1 ![] bcast_S_S8192x1 h_cst_2

def h_v10 : FVec Ideal S8192x1 .f32 :=
  Host.divf (h_v8 m c) h_v9

def h_v11 : FVec Ideal S8192x1024 .f32 :=
  broadcastInDim S8192x1024 ![0, 1] bcast_S8192x1_S8192x1024_0_1 (h_v3 m c)

def h_v12 : FVec Ideal S8192x1024 .f32 :=
  subf (m ((c : Thread Cert.InQkvBwdIdeal.nD Cert.InQkvBwdIdeal.τ).loc Cert.InQkvBwdIdeal.main_arg0)) (h_v11 m c)

def h_cst_3 : FVec Ideal S_ .f32 :=
  (constant S_ .f32 0x3727C5AC#32)

def h_v13 : FVec Ideal S8192x1 .f32 :=
  broadcastInDim S8192x1 ![] bcast_S_S8192x1 h_cst_3

def h_v14 : FVec Ideal S8192x1 .f32 :=
  addf (h_v10 m c) h_v13

def h_v15 : FVec Ideal S8192x1 .f32 :=
  Host.rsqrt (h_v14 m c)

def h_v16 : FVec Ideal S8192x1024 .f32 :=
  broadcastInDim S8192x1024 ![0, 1] bcast_S8192x1_S8192x1024_0_1 (h_v15 m c)

def h_v17 : FVec Ideal S8192x1024 .f32 :=
  mulf (h_v12 m c) (h_v16 m c)

def h_cst_4 : FVec Ideal S_ .f32 :=
  (constant S_ .f32 0x3727C5AC#32)

def h_v18 : FVec Ideal S8192x1 .f32 :=
  broadcastInDim S8192x1 ![] bcast_S_S8192x1 h_cst_4

def h_v19 : FVec Ideal S8192x1 .f32 :=
  addf (h_v10 m c) h_v18

def h_v20 : FVec Ideal S8192x1 .f32 :=
  Host.rsqrt (h_v19 m c)

def h_v21 : FVec Ideal S8192x3072 .bf16 :=
  truncf .bf16 (m ((c : Thread Cert.InQkvBwdIdeal.nD Cert.InQkvBwdIdeal.τ).loc Cert.InQkvBwdIdeal.main_arg4)) bitsLt_bf16_f32

def h_v22 : FVec Ideal S1024x3072 .bf16 :=
  truncf .bf16 (m ((c : Thread Cert.InQkvBwdIdeal.nD Cert.InQkvBwdIdeal.τ).loc Cert.InQkvBwdIdeal.main_arg3)) bitsLt_bf16_f32

def h_v23 : FVec Ideal S8192x128 .f32 :=
  broadcastInDim S8192x128 ![0, 1] bcast_S8192x1_S8192x128_0_1 (h_v20 m c)

def h_v24 : FVec Ideal S1x1024 .f32 :=
  broadcastInDim S1x1024 ![1] bcast_S1024_S1x1024_1 (m ((c : Thread Cert.InQkvBwdIdeal.nD Cert.InQkvBwdIdeal.τ).loc Cert.InQkvBwdIdeal.main_arg7))

def h_v25 : FVec Ideal S8192x1024 .f32 :=
  broadcastInDim S8192x1024 ![0, 1] bcast_S1x1024_S8192x1024_0_1 (h_v24 m c)

def h_v26 : FVec Ideal S8192x1024 .f32 :=
  addf (m ((c : Thread Cert.InQkvBwdIdeal.nD Cert.InQkvBwdIdeal.τ).loc Cert.InQkvBwdIdeal.main_arg6)) (h_v25 m c)

def h_v27 : FVec Ideal S1x1024 .f32 :=
  broadcastInDim S1x1024 ![1] bcast_S1024_S1x1024_1 (m ((c : Thread Cert.InQkvBwdIdeal.nD Cert.InQkvBwdIdeal.τ).loc Cert.InQkvBwdIdeal.main_arg1))

end

/-- The contents of `main_v21`, window 0's array, when the kernel's region begins. -/
theorem entry_v21 (c : Dev nD) : @Eq (FVec Ideal S8192x3072 .bf16) (V m c main_v21) (h_v21 m c) := by
  entry_read
  try rfl

/-- The contents of `main_v22`, window 1's array, when the kernel's region begins. -/
theorem entry_v22 (c : Dev nD) : @Eq (FVec Ideal S1024x3072 .bf16) (V m c main_v22) (h_v22 m c) := by
  entry_read
  try rfl

/-- The contents of `main_v17`, window 3's array, when the kernel's region begins. -/
theorem entry_v17 (c : Dev nD) : @Eq (FVec Ideal S8192x1024 .f32) (V m c main_v17) (h_v17 m c) := by
  entry_read
  try rfl

/-- The contents of `main_v23`, window 4's array, when the kernel's region begins. -/
theorem entry_v23 (c : Dev nD) : @Eq (FVec Ideal S8192x128 .f32) (V m c main_v23) (h_v23 m c) := by
  entry_read
  try rfl

/-- The contents of `main_v26`, window 5's array, when the kernel's region begins. -/
theorem entry_v26 (c : Dev nD) : @Eq (FVec Ideal S8192x1024 .f32) (V m c main_v26) (h_v26 m c) := by
  entry_read
  try rfl

/-- The contents of `main_v27`, window 7's array, when the kernel's region begins. -/
theorem entry_v27 (c : Dev nD) : @Eq (FVec Ideal S1x1024 .f32) (V m c main_v27) (h_v27 m c) := by
  entry_read
  try rfl

/-- The gradient through the layer norm, from that of its result. -/
def kdh (v12 : FVec Ideal S256x1024 .f32) (v6 : Vec Ideal S256x1024 .f32) (v8 : Vec Ideal S256x128 .f32) (v10 : Vec Ideal S1x1024 .f32) : FVec Ideal S256x1024 .f32 :=
  have v9 : FVec Ideal S256x128 .f32 := shapeCast S256x128 v8 shapeCasts_S256x128_S256x128
  have v11 : FVec Ideal S1x1024 .f32 := shapeCast S1x1024 v10 shapeCasts_S1x1024_S1x1024
  have v13 : FVec Ideal S256x1 .f32 := extractStridedSlice S256x1 ![0, 0] v9 slices_S256x128_o0_0_S256x1
  have v14 : FVec Ideal S256x1024 .f32 := broadcastTo S256x1024 v11 broadcasts_S1x1024_S256x1024
  have v15 : FVec Ideal S256x1024 .f32 := mulf v12 v14
  have v16 : FVec Ideal S256 .f32 := multiReduction .add [1] S256 v15 0x00000000#32 reduces_S256x1024_S256 (.inl rfl) rfl
  have v17 : FVec Ideal S256x1 .f32 := shapeCast S256x1 v16 shapeCasts_S256_S256x1
  have cst_12 : Ideal .f32 := Scalar.ofBits .f32 0x44800000#32
  have v18 : FVec Ideal S256x1 .f32 := broadcast S256x1 cst_12
  have v19 : FVec Ideal S256x1 .f32 := divf v17 v18
  have v20 : FVec Ideal S256x1024 .f32 := mulf v15 (k0_pay2 v6)
  have v21 : FVec Ideal S256 .f32 := multiReduction .add [1] S256 v20 0x00000000#32 reduces_S256x1024_S256 (.inl rfl) rfl
  have v22 : FVec Ideal S256x1 .f32 := shapeCast S256x1 v21 shapeCasts_S256_S256x1
  have cst_14 : Ideal .f32 := Scalar.ofBits .f32 0x44800000#32
  have v23 : FVec Ideal S256x1 .f32 := broadcast S256x1 cst_14
  have v24 : FVec Ideal S256x1 .f32 := divf v22 v23
  have v25 : FVec Ideal S256x1024 .f32 := broadcastTo S256x1024 v19 broadcasts_S256x1_S256x1024
  have v26 : FVec Ideal S256x1024 .f32 := subf v15 v25
  have v27 : FVec Ideal S256x1024 .f32 := broadcastTo S256x1024 v24 broadcasts_S256x1_S256x1024
  have v28 : FVec Ideal S256x1024 .f32 := mulf (k0_pay2 v6) v27
  have v29 : FVec Ideal S256x1024 .f32 := subf v26 v28
  have v30 : FVec Ideal S256x1024 .f32 := broadcastTo S256x1024 v13 broadcasts_S256x1_S256x1024
  have v31 : FVec Ideal S256x1024 .f32 := mulf v30 v29
  v31

/-- The host's normalised rows are the reference's. -/
theorem h17_eq (c : Dev nD) : h_v17 m c = Ref.r_v22 m c := rfl

/-- The host's inverse deviations are the reference's. -/
theorem h20_eq (c : Dev nD) : h_v20 m c = Ref.r_v17 m c := rfl

/-- The gradient of the layer norm's result, on the kernel's blocks. -/
def DX (c : Dev nD) (t : Fin cfg0.N) : FVec Ideal S256x1024 .f32 :=
  k0_pay4 (iblk m c 0 t) (iblk m c 1 t) (iblk m c 2 t)

/-- The row of the array that row `r` of block `t` is. -/
def rowOf (t : Fin cfg0.N) (r : Fin 256) : Fin 8192 :=
  ⟨t.val * 256 + r.val, by have h1 := t.isLt; have h2 : cfg0.N = 32 := rfl; have := r.isLt; omega⟩

/-- Where the blocks of the first result sit. -/
theorem emb_8 (t : Fin cfg0.N) (r : Fin 256) (k : Fin 1024) :
    ((cfg0.win 8).blk t).view.emb (ix2 r k) = ix2 (rowOf t r) k := by
  blk_ext [idx_val t, rowOf]

/-- Where the blocks of the second result sit. -/
theorem emb_9 (t : Fin cfg0.N) (r : Fin 256) (k : Fin 1024) :
    ((cfg0.win 9).blk t).view.emb (ix2 r k) = ix2 (rowOf t r) k := by
  blk_ext [idx_val t, rowOf]

/-- Where the blocks of the third result sit. -/
theorem emb_10 (t : Fin cfg0.N) (r : Fin 256) (k : Fin 1024) :
    ((cfg0.win 10).blk t).view.emb (ix2 r k) = ix2 (rowOf t r) k := by
  blk_ext [idx_val t, rowOf]

/-- Where the blocks of the fourth result sit. -/
theorem emb_11 (t : Fin cfg0.N) (r : Fin 256) (k : Fin 1024) :
    ((cfg0.win 11).blk t).view.emb (ix2 r k) = ix2 (rowOf t r) k := by
  blk_ext [idx_val t, rowOf]

/-- The gradient of the layer norm's result: a block of the kernel's is the block of the reference's it sits at. -/
theorem dx_row (c : Dev nD) (t : Fin cfg0.N) (r : Fin 256) (k : Fin 1024) :
    DX m c t (ix2 r k) = Ref.r_v31 m c (ix2 (rowOf t r) k) := by
  rw [← emb_8]
  generalize hj : (((cfg0.win 8).blk t).view.emb (ix2 r k)) = j
  pointwise [DX, k0_pay4, Ref.r_v30, Ref.r_v31]
  blk_simp [iblk]
  rw [entry_v21 m c, entry_v22 m c]
  pointwise [h_v21, h_v22]
  subst hj
  rw [add_comm]
  blk_point [V, idx_val t]

/-- The normalised rows, on the kernel's blocks. -/
theorem xh_row (c : Dev nD) (t : Fin cfg0.N) (r : Fin 256) (k : Fin 1024) :
    iblk m c 3 t (ix2 r k) = Ref.r_v22 m c (ix2 (rowOf t r) k) := by
  rw [← emb_8]
  blk_simp [iblk]
  rw [entry_v17 m c, h17_eq m c]
  blk_point [V, idx_val t]

/-- The rows that are normalised. -/
abbrev A0 (c : Dev nD) : FVec Ideal S8192x1024 .f32 := m ((c : Thread nD τ).loc main_arg0)

/-- The gain. -/
abbrev A1 (c : Dev nD) : FVec Ideal S1024 .f32 := m ((c : Thread nD τ).loc main_arg1)

/-- The inverse deviations, on the kernel's blocks. -/
theorem rs_row (c : Dev nD) (t : Fin cfg0.N) (r : Fin 256) :
    iblk m c 4 t (ix2 r 0) = Ref.r_v17 m c (ix2 (rowOf t r) 0) := by
  blk_simp [iblk]
  rw [entry_v23 m c]
  rw [show (((cfg0.win 4).blk t).view.emb (ix2 r 0)) = ix2 (rowOf t r) 0 by blk_ext [idx_val t, rowOf]]
  pointwise [h_v23]
  rw [h20_eq m c]

/-- The gain, on the kernel's block. -/
theorem g_row (c : Dev nD) (t : Fin cfg0.N) (k : Fin 1024) :
    iblk m c 7 t (ix2 0 k) = (m ((c : Thread nD τ).loc main_arg1)) (ix1 k) := by
  blk_simp [iblk]
  rw [entry_v27 m c]
  rw [show (((cfg0.win 7).blk t).view.emb (ix2 0 k)) = ix2 0 k by blk_ext [idx_val t]]
  pointwise [h_v27]

/-- Every element of the arrays that the layer norm's gradient reads is a real. -/
def Real (c : Dev nD) : Prop :=
  (∀ i, ∃ r : ℝ, (m ((c : Thread nD τ).loc main_arg0) : FVec Ideal S8192x1024 .f32) i = (r : EReal))
  ∧ (∀ i, ∃ r : ℝ, (m ((c : Thread nD τ).loc main_arg1) : FVec Ideal S1024 .f32) i = (r : EReal))
  ∧ (∀ i, ∃ r : ℝ, (m ((c : Thread nD τ).loc main_arg3) : FVec Ideal S1024x3072 .f32) i = (r : EReal))
  ∧ (∀ i, ∃ r : ℝ, (m ((c : Thread nD τ).loc main_arg4) : FVec Ideal S8192x3072 .f32) i = (r : EReal))
  ∧ (∀ i, ∃ r : ℝ, (m ((c : Thread nD τ).loc main_arg5) : FVec Ideal S8192x1024 .f32) i = (r : EReal))

/-- Of finite arguments the gradient of the layer norm's result is finite. -/
theorem dx_real (c : Dev nD) (H : Real m c) (R : Fin 8192) (k : Fin 1024) :
    ∃ r : ℝ, Ref.r_v31 m c (ix2 R k) = (r : EReal) := by
  obtain ⟨_, _, h3, h4, h5⟩ := H
  choose f3 h3 using h3
  choose f4 h4 using h4
  choose f5 h5 using h5
  pointwise [Ref.r_v30, Ref.r_v31]
  simp only [h3, h4, h5, ← EReal.coe_mul]
  exact ⟨_, (congrArg (fun x : EReal => _ + x) (Cert.LnBwd.coe_sum _).symm).trans (EReal.coe_add _ _).symm⟩

/-- The reference's mean of a row. -/
theorem ref_mu (c : Dev nD) (R : Fin 8192) : Ref.r_v3 m c (ix2 R 0)
    = Ideal.div (∑ i : Fin 1024, A0 m c (ix2 R i)) (Ideal.ofBits .f32 1149239296#32) := by
  pointwise [Ref.r_cst, Ref.r_v0, Ref.r_v1, Ref.r_cst_0, Ref.r_v2, Ref.r_v3]

/-- The reference's variance of a row, with what is added to it. -/
theorem ref_s (c : Dev nD) (R : Fin 8192) : Ref.r_v16 m c (ix2 R 0)
    = Ideal.div (∑ i : Fin 1024, (A0 m c (ix2 R i) - Ref.r_v3 m c (ix2 R 0))
        * (A0 m c (ix2 R i) - Ref.r_v3 m c (ix2 R 0))) (Ideal.ofBits .f32 1149239296#32)
      + Ideal.ofBits .f32 925353388#32 := by
  pointwise [Ref.r_v4, Ref.r_v5, Ref.r_v6, Ref.r_cst_2, Ref.r_v9, Ref.r_v10, Ref.r_cst_3, Ref.r_v11, Ref.r_v12, Ref.r_cst_4, Ref.r_v15, Ref.r_v16]

/-- The reference's inverse deviation of a row. -/
theorem ref_w (c : Dev nD) (R : Fin 8192) : Ref.r_v17 m c (ix2 R 0) = Ideal.rsqrt (Ref.r_v16 m c (ix2 R 0)) := by
  pointwise [Ref.r_v17]

/-- The gradient through the layer norm, on the kernel's blocks. -/
def DH (c : Dev nD) (t : Fin cfg0.N) : FVec Ideal S256x1024 .f32 :=
  k0_pay5 (iblk m c 0 t) (iblk m c 1 t) (iblk m c 2 t) (iblk m c 3 t) (iblk m c 4 t) (iblk m c 7 t)

set_option maxHeartbeats 2000000 in
/-- What the kernel stores of its first result. -/
theorem point_dh (c : Dev nD) (H : Real m c) (t : Fin cfg0.N) (r : Fin 256) (k : Fin 1024) :
    DH m c t (ix2 r k)
      = REF_v65 m c (ix2 (rowOf t r) k) := by
  rw [show DH m c t = kdh (DX m c t) (iblk m c 3 t) (iblk m c 4 t) (iblk m c 7 t) from rfl]
  pointwise [kdh, k0_pay2]
  simp only [dx_row, xh_row, rs_row, g_row]
  generalize rowOf t r = R
  pointwise [REF_v65, Ref.r_v4, Ref.r_v5, Ref.r_cst_1, Ref.r_v7, Ref.r_v8, Ref.r_v13, Ref.r_v14, Ref.r_v18, Ref.r_cst_5, Ref.r_v19, Ref.r_v20, Ref.r_v21, Ref.r_v22, Ref.r_v23, Ref.r_v32, Ref.r_v39, Ref.r_v40, Ref.r_v42, Ref.r_cst_10, Ref.r_v43, Ref.r_v44, Ref.r_v45, Ref.r_v46, Ref.r_v47, Ref.r_v48, Ref.r_cst_11, Ref.r_v49, Ref.r_v50, Ref.r_cst_12, Ref.r_v51, Ref.r_v52, Ref.r_cst_13, Ref.r_v53, Ref.r_v54, Ref.r_v55, Ref.r_v56, Ref.r_cst_14, Ref.r_v57, Ref.r_v58, Ref.r_v59, Ref.r_v60, Ref.r_cst_15, Ref.r_v61, Ref.r_v62, Ref.r_cst_16, Ref.r_v63, Ref.r_v64, Ref.r_v65]
  simp only [Fin.sum_univ_one]
  exact Cert.LnBwd.row (fun i => A0 m c (ix2 R i))
    (fun i => Ref.r_v31 m c (ix2 R i) * A1 m c (ix1 i))
    (fun i => H.1 _)
    (fun i => by
      obtain ⟨x, hx⟩ := dx_real m c H R i
      obtain ⟨y, hy⟩ : ∃ y : ℝ, A1 m c (ix1 i) = y := H.2.1 (ix1 i)
      exact ⟨x * y, by rw [hx, hy, EReal.coe_mul]⟩)
    k _ _ _ (ref_mu m c R) (ref_s m c R) (ref_w m c R)

/-- The gate, on the kernel's blocks. -/
theorem sg_row (c : Dev nD) (t : Fin cfg0.N) (r : Fin 256) (k : Fin 1024) :
    Ideal.logistic (iblk m c 5 t (ix2 r k)) = Ref.r_v74 m c (ix2 (rowOf t r) k) := by
  rw [← emb_8]
  generalize hj : (((cfg0.win 8).blk t).view.emb (ix2 r k)) = j
  pointwise [Ref.r_v66, Ref.r_v67, Ref.r_v68, Ref.r_v69, Ref.r_v70, Ref.r_cst_17, Ref.r_v71, Ref.r_v72, Ref.r_cst_18, Ref.r_v73, Ref.r_v74]
  blk_simp [iblk]
  rw [entry_v26 m c]
  pointwise [h_v26, h_v25, h_v24]
  simp only [Ideal.logistic]
  subst hj
  blk_point [V, idx_val t]

/-- The array the gate multiplies, on the kernel's blocks. -/
theorem pp_row (c : Dev nD) (t : Fin cfg0.N) (r : Fin 256) (k : Fin 1024) :
    iblk m c 6 t (ix2 r k) = m ((c : Thread nD τ).loc main_arg8) (ix2 (rowOf t r) k) := by
  rw [← emb_8]
  blk_simp [iblk]
  blk_point [V, idx_val t]

/-- The gradient of the gate's argument, on the kernel's blocks. -/
def DG (c : Dev nD) (t : Fin cfg0.N) : FVec Ideal S256x1024 .f32 :=
  k0_pay10 (k0_pay3 (iblk m c 5 t)) (iblk m c 6 t) (DH m c t)

/-- What the kernel stores of its third result. -/
theorem point_dgate (c : Dev nD) (H : Real m c) (t : Fin cfg0.N) (r : Fin 256) (k : Fin 1024) :
    DG m c t (ix2 r k) = Ref.r_v81 m c (ix2 (rowOf t r) k) := by
  pointwise [DG, k0_pay10, k0_pay9, k0_pay3]
  rw [point_dh m c H, sg_row, pp_row]
  pointwise [Ref.r_cst_19, Ref.r_v75, Ref.r_v76, Ref.r_v77, Ref.r_v80, Ref.r_v81]
  exact mul_assoc (G := EReal) _ _ _

/-- What the kernel stores of its fourth result. -/
theorem point_dpp (c : Dev nD) (H : Real m c) (t : Fin cfg0.N) (r : Fin 256) (k : Fin 1024) :
    k0_pay14 (k0_pay3 (iblk m c 5 t)) (DH m c t) (ix2 r k) = REF_v87 m c (ix2 (rowOf t r) k) := by
  pointwise [k0_pay14, k0_pay9, k0_pay3]
  rw [point_dh m c H, sg_row]
  pointwise [REF_v87, Ref.r_v87, Ref.r_v79]
  exact mul_comm (G := EReal) _ _

/-- The grid has 32 points. -/
theorem lt32 (t : Fin cfg0.N) : t.val < 32 := t.isLt

/-- The reference's gradient of the gain, a sum over the rows. -/
theorem ref_dg (c : Dev nD) (a : Fin 1) (l : Fin 1024) : REF_v88 m c (ix2 a l)
    = ∑ n : Fin (32 * 256), Ref.r_v31 m c (ix2 n l) * Ref.r_v22 m c (ix2 n l) := by
  pointwise [REF_v88, Ref.r_v32, Ref.r_v36, Ref.r_cst_8, Ref.r_v37, Ref.r_v38, Ref.r_cst_8, Ref.r_cst_9, Ref.r_v41, Ref.r_v88]
  rw [Fin.sum_univ_one]
  exact Finset.sum_congr rfl fun _ _ => mul_comm (G := EReal) _ _

/-- The reference's gradient of the bias, a sum over the rows. -/
theorem ref_db (c : Dev nD) (a : Fin 1) (l : Fin 1024) : REF_v89 m c (ix2 a l)
    = ∑ n : Fin (32 * 256), Ref.r_v31 m c (ix2 n l) := by
  pointwise [REF_v89, Ref.r_cst_6, Ref.r_v33, Ref.r_v34, Ref.r_cst_7, Ref.r_v35, Ref.r_v89]
  rw [Fin.sum_univ_one]

/-- The reference's gradient of the gate's bias, a sum over the rows. -/
theorem ref_dbias (c : Dev nD) (a : Fin 1) (l : Fin 1024) : REF_v90 m c (ix2 a l)
    = ∑ n : Fin (32 * 256), Ref.r_v81 m c (ix2 n l) := by
  pointwise [REF_v90, Ref.r_cst_20, Ref.r_v82, Ref.r_v83, Ref.r_cst_21, Ref.r_v84, Ref.r_v90]
  rw [Fin.sum_univ_one]

/-- The block of the gradient of the gate's bias at a grid point. -/
theorem pay11_eq (c : Dev nD) (t : Fin cfg0.N) (j : S1x1024.Idx) :
    k0_pay11 (k0_pay3 (iblk m c 5 t)) (iblk m c 6 t) (DH m c t) j = ∑ r : Fin 256, DG m c t (ix2 r (j 1)) := by
  pointwise [k0_pay11]
  rfl

/-- The block of the gradient of the gain at a grid point. -/
theorem pay7_eq (c : Dev nD) (t : Fin cfg0.N) (j : S1x1024.Idx) :
    k0_pay7 (k0_pay6 (iblk m c 0 t) (iblk m c 1 t) (iblk m c 2 t) (iblk m c 3 t)) j
      = ∑ r : Fin 256, DX m c t (ix2 r (j 1)) * iblk m c 3 t (ix2 r (j 1)) := by
  pointwise [k0_pay7, k0_pay6, k0_pay2]
  rfl

/-- The block of the gradient of the bias at a grid point. -/
theorem pay8_eq (c : Dev nD) (t : Fin cfg0.N) (j : S1x1024.Idx) :
    k0_pay8 (k0_pay4 (iblk m c 0 t) (iblk m c 1 t) (iblk m c 2 t)) j = ∑ r : Fin 256, DX m c t (ix2 r (j 1)) := by
  pointwise [k0_pay8]
  rfl

/-- The rows of the grid's points, one after another, are the array's. -/
theorem rowOf_run (t : Fin cfg0.N) (s : Fin 32) (k : Fin 256) (hl : s.val * 256 + k.val < 32 * 256) {h} :
    rowOf ⟨32 * (t.val / 32) + s.val, h⟩ k = ⟨s.val * 256 + k.val, hl⟩ := by
  have ht := lt32 t
  apply Fin.ext
  show (32 * (t.val / 32) + s.val) * 256 + k.val = s.val * 256 + k.val
  have : t.val / 32 = 0 := by omega
  rw [this]; omega

/-- The first result. -/
theorem final_8 (c : Dev nD) (H : Real m c) : (dats m 0 c).arrAt 8 (cfgs 0).N = (REF_v65 m c) := by
  refine (dats m 0 c).arrAt_eq_of_covers 8 _ (by decide +kernel) fun t hf y => ?_
  obtain ⟨r, k, rfl⟩ : ∃ (r : Fin 256) (k : Fin 1024), y = ix2 r k := ⟨y 0, y 1, eq_ix2 y⟩
  rw [emb_8]
  have ht := lt32 t
  blk_simp; rw [after0_8]
  by_cases h0 : t.val % 32 = 0
  · rw [outsAt0_A m c t h0 (by omega) h0 (by omega) h0 (by omega)]; frame_out
    exact point_dh m c H t r k
  · rw [outsAt0_B m c t h0 (by omega) h0 (by omega) h0 (by omega)]; frame_out
    exact point_dh m c H t r k

/-- The second result: the first, narrowed. -/
theorem final_9 (c : Dev nD) (H : Real m c) : (dats m 0 c).arrAt 9 (cfgs 0).N = (REF_v85 m c) := by
  refine (dats m 0 c).arrAt_eq_of_covers 9 _ (by decide +kernel) fun t hf y => ?_
  obtain ⟨r, k, rfl⟩ : ∃ (r : Fin 256) (k : Fin 1024), y = ix2 r k := ⟨y 0, y 1, eq_ix2 y⟩
  rw [emb_9]
  have ht := lt32 t
  blk_simp; rw [after0_9]
  by_cases h0 : t.val % 32 = 0
  · rw [outsAt0_A m c t h0 (by omega) h0 (by omega) h0 (by omega)]; frame_out
    exact point_dh m c H t r k
  · rw [outsAt0_B m c t h0 (by omega) h0 (by omega) h0 (by omega)]; frame_out
    exact point_dh m c H t r k

/-- The third result: the gradient of the gate's argument. -/
theorem final_10 (c : Dev nD) (H : Real m c) : (dats m 0 c).arrAt 10 (cfgs 0).N = (REF_v86 m c) := by
  refine (dats m 0 c).arrAt_eq_of_covers 10 _ (by decide +kernel) fun t hf y => ?_
  obtain ⟨r, k, rfl⟩ : ∃ (r : Fin 256) (k : Fin 1024), y = ix2 r k := ⟨y 0, y 1, eq_ix2 y⟩
  rw [emb_10]
  have ht := lt32 t
  blk_simp; rw [after0_10]
  by_cases h0 : t.val % 32 = 0
  · rw [outsAt0_A m c t h0 (by omega) h0 (by omega) h0 (by omega)]; frame_out
    exact point_dgate m c H t r k
  · rw [outsAt0_B m c t h0 (by omega) h0 (by omega) h0 (by omega)]; frame_out
    exact point_dgate m c H t r k

/-- The fourth result: the gradient of what the gate multiplies. -/
theorem final_11 (c : Dev nD) (H : Real m c) : (dats m 0 c).arrAt 11 (cfgs 0).N = (REF_v87 m c) := by
  refine (dats m 0 c).arrAt_eq_of_covers 11 _ (by decide +kernel) fun t hf y => ?_
  obtain ⟨r, k, rfl⟩ : ∃ (r : Fin 256) (k : Fin 1024), y = ix2 r k := ⟨y 0, y 1, eq_ix2 y⟩
  rw [emb_11]
  have ht := lt32 t
  blk_simp; rw [after0_11]
  by_cases h0 : t.val % 32 = 0
  · rw [outsAt0_A m c t h0 (by omega) h0 (by omega) h0 (by omega)]; frame_out
    exact point_dpp m c H t r k
  · rw [outsAt0_B m c t h0 (by omega) h0 (by omega) h0 (by omega)]; frame_out
    exact point_dpp m c H t r k

/-- The fifth result: the gradient of the gain. -/
theorem final_12 (c : Dev nD) : (dats m 0 c).arrAt 12 (cfgs 0).N = (REF_v88 m c) := by
  refine (dats m 0 c).arrAt_eq_of_covers 12 _ (by decide +kernel) fun t hf y => ?_
  obtain ⟨a, l, rfl⟩ : ∃ (a : Fin 1) (l : Fin 1024), y = ix2 a l := ⟨y 0, y 1, eq_ix2 y⟩
  rw [show ((cfg0.win 12).blk t).view.emb (ix2 a l) = ix2 a l by blk_ext [idx_val t], ref_dg]
  blk_simp
  rw [after0_12, Pipeline.eq_sum_fin_of_reset_step_apply_of_flush (fun n h => (outsAt0 m c n h).2.2.2.2.1) 32 (fun _ => 0)
    (fun t y => ∑ r : Fin 256, DX m c t (ix2 r (y 1)) * iblk m c 3 t (ix2 r (y 1)))
    (fun t h j => by
      have ht := lt32 t
      rw [outsAt0_A m c t h (by omega) h (by omega) h (by omega)]; frame_out
      rw [pay7_eq]; rw [zero_add])
    (fun t h j => by
      have ht := lt32 t
      rw [outsAt0_B m c t h (by omega) h (by omega) h (by omega)]; frame_out
      pointwise [k0_pay15]; rw [pay7_eq])
    t ((flush0_12 t).mp hf) _, zero_add]
  refine Fin.sum_mul_add_congr fun s k hl => ?_
  refine (congrArg₂ (fun x y : EReal => x * y) (dx_row m c _ k l) (xh_row m c _ k l)).trans ?_
  rw [rowOf_run t s k hl]

/-- The sixth result: the gradient of the bias. -/
theorem final_13 (c : Dev nD) : (dats m 0 c).arrAt 13 (cfgs 0).N = (REF_v89 m c) := by
  refine (dats m 0 c).arrAt_eq_of_covers 13 _ (by decide +kernel) fun t hf y => ?_
  obtain ⟨a, l, rfl⟩ : ∃ (a : Fin 1) (l : Fin 1024), y = ix2 a l := ⟨y 0, y 1, eq_ix2 y⟩
  rw [show ((cfg0.win 13).blk t).view.emb (ix2 a l) = ix2 a l by blk_ext [idx_val t], ref_db]
  blk_simp
  rw [after0_13, Pipeline.eq_sum_fin_of_reset_step_apply_of_flush (fun n h => (outsAt0 m c n h).2.2.2.2.2.1) 32 (fun _ => 0)
    (fun t y => ∑ r : Fin 256, DX m c t (ix2 r (y 1)))
    (fun t h j => by
      have ht := lt32 t
      rw [outsAt0_A m c t h (by omega) h (by omega) h (by omega)]; frame_out
      rw [pay8_eq]; rw [zero_add])
    (fun t h j => by
      have ht := lt32 t
      rw [outsAt0_B m c t h (by omega) h (by omega) h (by omega)]; frame_out
      pointwise [k0_pay16]; rw [pay8_eq])
    t ((flush0_13 t).mp hf) _, zero_add]
  refine Fin.sum_mul_add_congr fun s k hl => ?_
  refine (dx_row m c _ k l).trans ?_
  rw [rowOf_run t s k hl]

/-- The seventh result: the gradient of the gate's bias. -/
theorem final_14 (c : Dev nD) (H : Real m c) : (dats m 0 c).arrAt 14 (cfgs 0).N = (REF_v90 m c) := by
  refine (dats m 0 c).arrAt_eq_of_covers 14 _ (by decide +kernel) fun t hf y => ?_
  obtain ⟨a, l, rfl⟩ : ∃ (a : Fin 1) (l : Fin 1024), y = ix2 a l := ⟨y 0, y 1, eq_ix2 y⟩
  rw [show ((cfg0.win 14).blk t).view.emb (ix2 a l) = ix2 a l by blk_ext [idx_val t], ref_dbias]
  blk_simp
  rw [after0_14, Pipeline.eq_sum_fin_of_reset_step_apply_of_flush (fun n h => (outsAt0 m c n h).2.2.2.2.2.2) 32 (fun _ => 0)
    (fun t y => ∑ r : Fin 256, DG m c t (ix2 r (y 1)))
    (fun t h j => by
      have ht := lt32 t
      rw [outsAt0_A m c t h (by omega) h (by omega) h (by omega)]; frame_out
      erw [pay11_eq]; rw [zero_add])
    (fun t h j => by
      have ht := lt32 t
      rw [outsAt0_B m c t h (by omega) h (by omega) h (by omega)]; frame_out
      pointwise [k0_pay1]; erw [pay11_eq])
    t ((flush0_14 t).mp hf) _, zero_add]
  refine Fin.sum_mul_add_congr fun s k hl => ?_
  refine (point_dgate m c H _ k l).trans ?_
  rw [rowOf_run t s k hl]

end Cert.InQkvBwdValue

end
-- ==== Proof.LossLnRows.lean ====
/- The rows of `Cert.LossLnIdeal`: what its stages compute. -/
module

public import proofs.«01_k».proof.Proof.Gen.LossLnIdeal
public import proofs.«01_k».proof.Proof.Gen.LossLnIdeal.Frame
public import proofs.«01_k».proof.Proof.Gen.LossLnRefIdeal
public import proofs.«01_k».proof.Proof.Common
public import proofs.«01_k».proof.Proof.LnBwd
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.LossLnValue.Ref

open Cert.LossLnRefIdeal Cert.LossLnRefIdeal.Gen

/-! The reference, an operation at a time, over its arguments. -/

variable (m : (ℓ : Loc Cert.LossLnIdeal.nD Cert.LossLnIdeal.τ Cert.LossLnIdeal.sig) → Buf (Elt Ideal) ℓ) (c : Dev Cert.LossLnIdeal.nD)

def r_cst : FVec Ideal S_ .f32 :=
  (constant S_ .f32 0x00000000#32)

def r_v0 : FVec Ideal S8192 .f32 :=
  Host.reduceAdd (m ((c : Thread Cert.LossLnIdeal.nD Cert.LossLnIdeal.τ).loc Cert.LossLnIdeal.main_arg0)) r_cst reducesTo_S8192x1024_S8192_d1 h_S_

def r_v1 : FVec Ideal S8192x1 .f32 :=
  broadcastInDim S8192x1 ![0] bcast_S8192_S8192x1_0 (r_v0 m c)

def r_cst_0 : FVec Ideal S_ .f32 :=
  (constant S_ .f32 0x44800000#32)

def r_v2 : FVec Ideal S8192x1 .f32 :=
  broadcastInDim S8192x1 ![] bcast_S_S8192x1 r_cst_0

def r_v3 : FVec Ideal S8192x1 .f32 :=
  Host.divf (r_v1 m c) r_v2

def r_v4 : FVec Ideal S8192x1024 .f32 :=
  broadcastInDim S8192x1024 ![0, 1] bcast_S8192x1_S8192x1024_0_1 (r_v3 m c)

def r_v5 : FVec Ideal S8192x1024 .f32 :=
  subf (m ((c : Thread Cert.LossLnIdeal.nD Cert.LossLnIdeal.τ).loc Cert.LossLnIdeal.main_arg0)) (r_v4 m c)

def r_v6 : FVec Ideal S8192x1024 .f32 :=
  mulf (r_v5 m c) (r_v5 m c)

def r_cst_1 : FVec Ideal S_ .f32 :=
  (constant S_ .f32 0x00000000#32)

def r_v7 : FVec Ideal S8192 .f32 :=
  Host.reduceAdd (r_v6 m c) r_cst_1 reducesTo_S8192x1024_S8192_d1 h_S_

def r_v8 : FVec Ideal S8192x1 .f32 :=
  broadcastInDim S8192x1 ![0] bcast_S8192_S8192x1_0 (r_v7 m c)

def r_cst_2 : FVec Ideal S_ .f32 :=
  (constant S_ .f32 0x44800000#32)

def r_v9 : FVec Ideal S8192x1 .f32 :=
  broadcastInDim S8192x1 ![] bcast_S_S8192x1 r_cst_2

def r_v10 : FVec Ideal S8192x1 .f32 :=
  Host.divf (r_v8 m c) r_v9

def r_v11 : FVec Ideal S8192x1024 .f32 :=
  broadcastInDim S8192x1024 ![0, 1] bcast_S8192x1_S8192x1024_0_1 (r_v3 m c)

def r_v12 : FVec Ideal S8192x1024 .f32 :=
  subf (m ((c : Thread Cert.LossLnIdeal.nD Cert.LossLnIdeal.τ).loc Cert.LossLnIdeal.main_arg0)) (r_v11 m c)

def r_cst_3 : FVec Ideal S_ .f32 :=
  (constant S_ .f32 0x3727C5AC#32)

def r_v13 : FVec Ideal S8192x1 .f32 :=
  broadcastInDim S8192x1 ![] bcast_S_S8192x1 r_cst_3

def r_v14 : FVec Ideal S8192x1 .f32 :=
  addf (r_v10 m c) r_v13

def r_v15 : FVec Ideal S8192x1 .f32 :=
  Host.rsqrt (r_v14 m c)

def r_v16 : FVec Ideal S8192x1024 .f32 :=
  broadcastInDim S8192x1024 ![0, 1] bcast_S8192x1_S8192x1024_0_1 (r_v15 m c)

def r_v17 : FVec Ideal S8192x1024 .f32 :=
  mulf (r_v12 m c) (r_v16 m c)

def r_v18 : FVec Ideal S1x1024 .f32 :=
  broadcastInDim S1x1024 ![1] bcast_S1024_S1x1024_1 (m ((c : Thread Cert.LossLnIdeal.nD Cert.LossLnIdeal.τ).loc Cert.LossLnIdeal.main_arg1))

def r_v19 : FVec Ideal S8192x1024 .f32 :=
  broadcastInDim S8192x1024 ![0, 1] bcast_S1x1024_S8192x1024_0_1 (r_v18 m c)

def r_v20 : FVec Ideal S8192x1024 .f32 :=
  mulf (r_v17 m c) (r_v19 m c)

def r_v21 : FVec Ideal S1x1024 .f32 :=
  broadcastInDim S1x1024 ![1] bcast_S1024_S1x1024_1 (m ((c : Thread Cert.LossLnIdeal.nD Cert.LossLnIdeal.τ).loc Cert.LossLnIdeal.main_arg2))

def r_v22 : FVec Ideal S8192x1024 .f32 :=
  broadcastInDim S8192x1024 ![0, 1] bcast_S1x1024_S8192x1024_0_1 (r_v21 m c)

def r_v23 : FVec Ideal S8192x1024 .f32 :=
  addf (r_v20 m c) (r_v22 m c)

def r_cst_4 : FVec Ideal S_ .f32 :=
  (constant S_ .f32 0x3FB504F3#32)

def r_v24 : FVec Ideal S8192x1024 .f32 :=
  broadcastInDim S8192x1024 ![] bcast_S_S8192x1024 r_cst_4

def r_v25 : FVec Ideal S8192x1024 .f32 :=
  mulf r_v24 (r_v23 m c)

def r_v26 : FVec Ideal S8192x4096 .f32 :=
  mulf (m ((c : Thread Cert.LossLnIdeal.nD Cert.LossLnIdeal.τ).loc Cert.LossLnIdeal.main_arg3)) (m ((c : Thread Cert.LossLnIdeal.nD Cert.LossLnIdeal.τ).loc Cert.LossLnIdeal.main_arg3))

def r_v27 : FVec Ideal S8192x1024 .f32 :=
  Host.dotGeneral (φ₁ := .f32) (φ₂ := .f32) dot_S8192x4096_S4096x1024_S8192x1024_1_0_0_1_n_n none (r_v26 m c) (m ((c : Thread Cert.LossLnIdeal.nD Cert.LossLnIdeal.τ).loc Cert.LossLnIdeal.main_arg4))

def r_v28 : FVec Ideal S8192x1024 .f32 :=
  addf (r_v25 m c) (r_v27 m c)

def r_v29 : FVec Ideal S1x1024 .f32 :=
  broadcastInDim S1x1024 ![1] bcast_S1024_S1x1024_1 (m ((c : Thread Cert.LossLnIdeal.nD Cert.LossLnIdeal.τ).loc Cert.LossLnIdeal.main_arg6))

def r_v30 : FVec Ideal S8192x1024 .f32 :=
  broadcastInDim S8192x1024 ![0, 1] bcast_S1x1024_S8192x1024_0_1 (r_v29 m c)

def r_v31 : FVec Ideal S8192x1024 .f32 :=
  addf (m ((c : Thread Cert.LossLnIdeal.nD Cert.LossLnIdeal.τ).loc Cert.LossLnIdeal.main_arg5)) (r_v30 m c)

def r_v32 : FVec Ideal S8192x1024 .f32 :=
  Host.negf (r_v31 m c)

def r_v33 : FVec Ideal S8192x1024 .f32 :=
  Host.exp (r_v32 m c)

def r_cst_5 : FVec Ideal S_ .f32 :=
  (constant S_ .f32 0x3F800000#32)

def r_v34 : FVec Ideal S8192x1024 .f32 :=
  broadcastInDim S8192x1024 ![] bcast_S_S8192x1024 r_cst_5

def r_v35 : FVec Ideal S8192x1024 .f32 :=
  addf r_v34 (r_v33 m c)

def r_cst_6 : FVec Ideal S_ .f32 :=
  (constant S_ .f32 0x3F800000#32)

def r_v36 : FVec Ideal S8192x1024 .f32 :=
  broadcastInDim S8192x1024 ![] bcast_S_S8192x1024 r_cst_6

def r_v37 : FVec Ideal S8192x1024 .f32 :=
  Host.divf r_v36 (r_v35 m c)

def r_v38 : FVec Ideal S8192x1024 .f32 :=
  mulf (r_v37 m c) (m ((c : Thread Cert.LossLnIdeal.nD Cert.LossLnIdeal.τ).loc Cert.LossLnIdeal.main_arg7))

def r_v39 : FVec Ideal S8192x1024 .f32 :=
  addf (r_v28 m c) (r_v38 m c)

def r_cst_7 : FVec Ideal S_ .f32 :=
  (constant S_ .f32 0x00000000#32)

def r_v40 : FVec Ideal S8192 .f32 :=
  Host.reduceAdd (r_v39 m c) r_cst_7 reducesTo_S8192x1024_S8192_d1 h_S_

def r_v41 : FVec Ideal S8192x1 .f32 :=
  broadcastInDim S8192x1 ![0] bcast_S8192_S8192x1_0 (r_v40 m c)

def r_cst_8 : FVec Ideal S_ .f32 :=
  (constant S_ .f32 0x44800000#32)

def r_v42 : FVec Ideal S8192x1 .f32 :=
  broadcastInDim S8192x1 ![] bcast_S_S8192x1 r_cst_8

def r_v43 : FVec Ideal S8192x1 .f32 :=
  Host.divf (r_v41 m c) r_v42

def r_v44 : FVec Ideal S8192x1024 .f32 :=
  broadcastInDim S8192x1024 ![0, 1] bcast_S8192x1_S8192x1024_0_1 (r_v43 m c)

def r_v45 : FVec Ideal S8192x1024 .f32 :=
  subf (r_v39 m c) (r_v44 m c)

def r_v46 : FVec Ideal S8192x1024 .f32 :=
  mulf (r_v45 m c) (r_v45 m c)

def r_cst_9 : FVec Ideal S_ .f32 :=
  (constant S_ .f32 0x40000000#32)

def r_v47 : FVec Ideal S8192x1024 .f32 :=
  broadcastInDim S8192x1024 ![] bcast_S_S8192x1024 r_cst_9

def r_v48 : FVec Ideal S8192x1024 .f32 :=
  mulf r_v47 (r_v45 m c)

def r_cst_10 : FVec Ideal S_ .f32 :=
  (constant S_ .f32 0x00000000#32)

def r_v49 : FVec Ideal S8192 .f32 :=
  Host.reduceAdd (r_v46 m c) r_cst_10 reducesTo_S8192x1024_S8192_d1 h_S_

def r_v50 : FVec Ideal S8192x1 .f32 :=
  broadcastInDim S8192x1 ![0] bcast_S8192_S8192x1_0 (r_v49 m c)

def r_cst_11 : FVec Ideal S_ .f32 :=
  (constant S_ .f32 0x44800000#32)

def r_v51 : FVec Ideal S8192x1 .f32 :=
  broadcastInDim S8192x1 ![] bcast_S_S8192x1 r_cst_11

def r_v52 : FVec Ideal S8192x1 .f32 :=
  Host.divf (r_v50 m c) r_v51

def r_v53 : FVec Ideal S8192x1024 .f32 :=
  broadcastInDim S8192x1024 ![0, 1] bcast_S8192x1_S8192x1024_0_1 (r_v43 m c)

def r_v54 : FVec Ideal S8192x1024 .f32 :=
  subf (r_v39 m c) (r_v53 m c)

def r_cst_12 : FVec Ideal S_ .f32 :=
  (constant S_ .f32 0x3727C5AC#32)

def r_v55 : FVec Ideal S8192x1 .f32 :=
  broadcastInDim S8192x1 ![] bcast_S_S8192x1 r_cst_12

def r_v56 : FVec Ideal S8192x1 .f32 :=
  addf (r_v52 m c) r_v55

def r_v57 : FVec Ideal S8192x1 .f32 :=
  Host.rsqrt (r_v56 m c)

def r_v58 : FVec Ideal S8192x1 .f32 :=
  Host.divf (r_v57 m c) (r_v56 m c)

def r_cst_13 : FVec Ideal S_ .f32 :=
  (constant S_ .f32 0xBF000000#32)

def r_v59 : FVec Ideal S8192x1 .f32 :=
  broadcastInDim S8192x1 ![] bcast_S_S8192x1 r_cst_13

def r_v60 : FVec Ideal S8192x1 .f32 :=
  mulf r_v59 (r_v58 m c)

def r_v61 : FVec Ideal S8192x1024 .f32 :=
  broadcastInDim S8192x1024 ![0, 1] bcast_S8192x1_S8192x1024_0_1 (r_v57 m c)

def r_v62 : FVec Ideal S8192x1024 .f32 :=
  mulf (r_v54 m c) (r_v61 m c)

def r_v63 : FVec Ideal S1x1024 .f32 :=
  broadcastInDim S1x1024 ![1] bcast_S1024_S1x1024_1 (m ((c : Thread Cert.LossLnIdeal.nD Cert.LossLnIdeal.τ).loc Cert.LossLnIdeal.main_arg8))

def r_v64 : FVec Ideal S8192x1024 .f32 :=
  broadcastInDim S8192x1024 ![0, 1] bcast_S1x1024_S8192x1024_0_1 (r_v63 m c)

def r_v65 : FVec Ideal S8192x1024 .f32 :=
  mulf (r_v62 m c) (r_v64 m c)

def r_v66 : FVec Ideal S1x1024 .f32 :=
  broadcastInDim S1x1024 ![1] bcast_S1024_S1x1024_1 (m ((c : Thread Cert.LossLnIdeal.nD Cert.LossLnIdeal.τ).loc Cert.LossLnIdeal.main_arg9))

def r_v67 : FVec Ideal S8192x1024 .f32 :=
  broadcastInDim S8192x1024 ![0, 1] bcast_S1x1024_S8192x1024_0_1 (r_v66 m c)

def r_v68 : FVec Ideal S8192x1024 .f32 :=
  addf (r_v65 m c) (r_v67 m c)

def r_v69 : FVec Ideal S8192x1024 .f32 :=
  subf (r_v68 m c) (m ((c : Thread Cert.LossLnIdeal.nD Cert.LossLnIdeal.τ).loc Cert.LossLnIdeal.main_arg10))

def r_v70 : FVec Ideal S8192x1024 .f32 :=
  mulf (r_v69 m c) (r_v69 m c)

def r_cst_14 : FVec Ideal S_ .f32 :=
  (constant S_ .f32 0x40000000#32)

def r_v71 : FVec Ideal S8192x1024 .f32 :=
  broadcastInDim S8192x1024 ![] bcast_S_S8192x1024 r_cst_14

def r_v72 : FVec Ideal S8192x1024 .f32 :=
  mulf r_v71 (r_v69 m c)

def r_cst_15 : FVec Ideal S_ .f32 :=
  (constant S_ .f32 0x00000000#32)

def r_v73 : FVec Ideal S8192 .f32 :=
  Host.reduceAdd (r_v70 m c) r_cst_15 reducesTo_S8192x1024_S8192_d1 h_S_

def r_cst_16 : FVec Ideal S_ .f32 :=
  (constant S_ .f32 0x44800000#32)

def r_v74 : FVec Ideal S8192 .f32 :=
  broadcastInDim S8192 ![] bcast_S_S8192 r_cst_16

def r_v75 : FVec Ideal S8192 .f32 :=
  Host.divf (r_v73 m c) r_v74

def r_cst_17 : FVec Ideal S_ .f32 :=
  (constant S_ .f32 0x00000000#32)

def r_v76 : FVec Ideal S_ .f32 :=
  Host.reduceAdd (r_v75 m c) r_cst_17 reducesTo_S8192_S_d0 h_S_

def r_cst_18 : FVec Ideal S_ .f32 :=
  (constant S_ .f32 0x3F000000#32)

def r_v77 : FVec Ideal S_ .f32 :=
  mulf r_cst_18 (r_v76 m c)

def r_cst_19 : FVec Ideal S_ .f32 :=
  (constant S_ .f32 0x3F000000#32)

def r_cst_20 : FVec Ideal S_ .f32 :=
  (constant S_ .f32 0x3F800000#32)

def r_v78 : FVec Ideal S_ .f32 :=
  mulf r_cst_19 r_cst_20

def r_v79 : FVec Ideal S8192 .f32 :=
  broadcastInDim S8192 ![] bcast_S_S8192 r_v78

def r_cst_21 : FVec Ideal S_ .f32 :=
  (constant S_ .f32 0x44800000#32)

def r_v80 : FVec Ideal S8192 .f32 :=
  broadcastInDim S8192 ![] bcast_S_S8192 r_cst_21

def r_v81 : FVec Ideal S8192 .f32 :=
  Host.divf r_v79 r_v80

def r_v82 : FVec Ideal S8192x1024 .f32 :=
  broadcastInDim S8192x1024 ![0] bcast_S8192_S8192x1024_0 r_v81

def r_v83 : FVec Ideal S8192x1024 .f32 :=
  mulf r_v82 (r_v72 m c)

def r_cst_22 : FVec Ideal S_ .f32 :=
  (constant S_ .f32 0x00000000#32)

def r_v84 : FVec Ideal S1024 .f32 :=
  Host.reduceAdd (r_v83 m c) r_cst_22 reducesTo_S8192x1024_S1024_d0 h_S_

def r_v85 : FVec Ideal S1x1024 .f32 :=
  shapeCast _ (r_v84 m c) shapeCasts_S1024_S1x1024

def r_cst_23 : FVec Ideal S_ .f32 :=
  (constant S_ .f32 0x00000000#32)

def r_v86 : FVec Ideal S1024 .f32 :=
  Host.reduceAdd (r_v85 m c) r_cst_23 reducesTo_S1x1024_S1024_d0 h_S_

def r_v87 : FVec Ideal S8192x1024 .f32 :=
  mulf (r_v62 m c) (r_v83 m c)

def r_cst_24 : FVec Ideal S_ .f32 :=
  (constant S_ .f32 0x00000000#32)

def r_v88 : FVec Ideal S1024 .f32 :=
  Host.reduceAdd (r_v87 m c) r_cst_24 reducesTo_S8192x1024_S1024_d0 h_S_

def r_v89 : FVec Ideal S1x1024 .f32 :=
  shapeCast _ (r_v88 m c) shapeCasts_S1024_S1x1024

def r_v90 : FVec Ideal S8192x1024 .f32 :=
  broadcastInDim S8192x1024 ![0, 1] bcast_S1x1024_S8192x1024_0_1 (r_v63 m c)

def r_v91 : FVec Ideal S8192x1024 .f32 :=
  mulf (r_v83 m c) (r_v90 m c)

def r_cst_25 : FVec Ideal S_ .f32 :=
  (constant S_ .f32 0x00000000#32)

def r_v92 : FVec Ideal S1024 .f32 :=
  Host.reduceAdd (r_v89 m c) r_cst_25 reducesTo_S1x1024_S1024_d0 h_S_

def r_v93 : FVec Ideal S8192x1024 .f32 :=
  mulf (r_v54 m c) (r_v91 m c)

def r_cst_26 : FVec Ideal S_ .f32 :=
  (constant S_ .f32 0x00000000#32)

def r_v94 : FVec Ideal S8192 .f32 :=
  Host.reduceAdd (r_v93 m c) r_cst_26 reducesTo_S8192x1024_S8192_d1 h_S_

def r_v95 : FVec Ideal S8192x1 .f32 :=
  shapeCast _ (r_v94 m c) shapeCasts_S8192_S8192x1

def r_v96 : FVec Ideal S8192x1024 .f32 :=
  broadcastInDim S8192x1024 ![0, 1] bcast_S8192x1_S8192x1024_0_1 (r_v57 m c)

def r_v97 : FVec Ideal S8192x1024 .f32 :=
  mulf (r_v91 m c) (r_v96 m c)

def r_v98 : FVec Ideal S8192x1 .f32 :=
  mulf (r_v95 m c) (r_v60 m c)

def r_v99 : FVec Ideal S8192x1024 .f32 :=
  Host.negf (r_v97 m c)

def r_cst_27 : FVec Ideal S_ .f32 :=
  (constant S_ .f32 0x00000000#32)

def r_v100 : FVec Ideal S8192 .f32 :=
  Host.reduceAdd (r_v99 m c) r_cst_27 reducesTo_S8192x1024_S8192_d1 h_S_

def r_v101 : FVec Ideal S8192x1 .f32 :=
  shapeCast _ (r_v100 m c) shapeCasts_S8192_S8192x1

def r_cst_28 : FVec Ideal S_ .f32 :=
  (constant S_ .f32 0x44800000#32)

def r_v102 : FVec Ideal S8192x1 .f32 :=
  broadcastInDim S8192x1 ![] bcast_S_S8192x1 r_cst_28

def r_v103 : FVec Ideal S8192x1 .f32 :=
  Host.divf (r_v98 m c) r_v102

def r_cst_29 : FVec Ideal S_ .f32 :=
  (constant S_ .f32 0x00000000#32)

def r_v104 : FVec Ideal S8192 .f32 :=
  Host.reduceAdd (r_v103 m c) r_cst_29 reducesTo_S8192x1_S8192_d1 h_S_

def r_v105 : FVec Ideal S8192x1024 .f32 :=
  broadcastInDim S8192x1024 ![0] bcast_S8192_S8192x1024_0 (r_v104 m c)

def r_v106 : FVec Ideal S8192x1024 .f32 :=
  mulf (r_v105 m c) (r_v48 m c)

def r_v107 : FVec Ideal S8192x1024 .f32 :=
  Host.negf (r_v106 m c)

def r_cst_30 : FVec Ideal S_ .f32 :=
  (constant S_ .f32 0x00000000#32)

def r_v108 : FVec Ideal S8192 .f32 :=
  Host.reduceAdd (r_v107 m c) r_cst_30 reducesTo_S8192x1024_S8192_d1 h_S_

def r_v109 : FVec Ideal S8192x1 .f32 :=
  shapeCast _ (r_v108 m c) shapeCasts_S8192_S8192x1

def r_v110 : FVec Ideal S8192x1024 .f32 :=
  addf (r_v97 m c) (r_v106 m c)

def r_v111 : FVec Ideal S8192x1 .f32 :=
  addf (r_v101 m c) (r_v109 m c)

def r_cst_31 : FVec Ideal S_ .f32 :=
  (constant S_ .f32 0x44800000#32)

def r_v112 : FVec Ideal S8192x1 .f32 :=
  broadcastInDim S8192x1 ![] bcast_S_S8192x1 r_cst_31

def r_v113 : FVec Ideal S8192x1 .f32 :=
  Host.divf (r_v111 m c) r_v112

def r_cst_32 : FVec Ideal S_ .f32 :=
  (constant S_ .f32 0x00000000#32)

def r_v114 : FVec Ideal S8192 .f32 :=
  Host.reduceAdd (r_v113 m c) r_cst_32 reducesTo_S8192x1_S8192_d1 h_S_

def r_v115 : FVec Ideal S8192x1024 .f32 :=
  broadcastInDim S8192x1024 ![0] bcast_S8192_S8192x1024_0 (r_v114 m c)

def r_v116 : FVec Ideal S8192x1024 .f32 :=
  addf (r_v110 m c) (r_v115 m c)

def r_v117 : FVec Ideal S1x1024 .f32 :=
  broadcastInDim S1x1024 ![1] bcast_S1024_S1x1024_1 (m ((c : Thread Cert.LossLnIdeal.nD Cert.LossLnIdeal.τ).loc Cert.LossLnIdeal.main_arg6))

def r_v118 : FVec Ideal S8192x1024 .f32 :=
  broadcastInDim S8192x1024 ![0, 1] bcast_S1x1024_S8192x1024_0_1 (r_v117 m c)

def r_v119 : FVec Ideal S8192x1024 .f32 :=
  addf (m ((c : Thread Cert.LossLnIdeal.nD Cert.LossLnIdeal.τ).loc Cert.LossLnIdeal.main_arg5)) (r_v118 m c)

def r_v120 : FVec Ideal S8192x1024 .f32 :=
  Host.negf (r_v119 m c)

def r_v121 : FVec Ideal S8192x1024 .f32 :=
  Host.exp (r_v120 m c)

def r_cst_33 : FVec Ideal S_ .f32 :=
  (constant S_ .f32 0x3F800000#32)

def r_v122 : FVec Ideal S8192x1024 .f32 :=
  broadcastInDim S8192x1024 ![] bcast_S_S8192x1024 r_cst_33

def r_v123 : FVec Ideal S8192x1024 .f32 :=
  addf r_v122 (r_v121 m c)

def r_cst_34 : FVec Ideal S_ .f32 :=
  (constant S_ .f32 0x3F800000#32)

def r_v124 : FVec Ideal S8192x1024 .f32 :=
  broadcastInDim S8192x1024 ![] bcast_S_S8192x1024 r_cst_34

def r_v125 : FVec Ideal S8192x1024 .f32 :=
  Host.divf r_v124 (r_v123 m c)

def r_cst_35 : FVec Ideal S_ .f32 :=
  (constant S_ .f32 0x3F800000#32)

def r_v126 : FVec Ideal S8192x1024 .f32 :=
  broadcastInDim S8192x1024 ![] bcast_S_S8192x1024 r_cst_35

def r_v127 : FVec Ideal S8192x1024 .f32 :=
  subf r_v126 (r_v125 m c)

def r_v128 : FVec Ideal S8192x1024 .f32 :=
  mulf (r_v125 m c) (r_v127 m c)

def r_v129 : FVec Ideal S8192x1024 .f32 :=
  mulf (r_v125 m c) (m ((c : Thread Cert.LossLnIdeal.nD Cert.LossLnIdeal.τ).loc Cert.LossLnIdeal.main_arg7))

def r_v130 : FVec Ideal S8192x1024 .f32 :=
  mulf (r_v125 m c) (r_v116 m c)

def r_v131 : FVec Ideal S8192x1024 .f32 :=
  mulf (r_v116 m c) (m ((c : Thread Cert.LossLnIdeal.nD Cert.LossLnIdeal.τ).loc Cert.LossLnIdeal.main_arg7))

def r_v132 : FVec Ideal S8192x1024 .f32 :=
  mulf (r_v131 m c) (r_v128 m c)

def r_cst_36 : FVec Ideal S_ .f32 :=
  (constant S_ .f32 0x00000000#32)

def r_v133 : FVec Ideal S1024 .f32 :=
  Host.reduceAdd (r_v132 m c) r_cst_36 reducesTo_S8192x1024_S1024_d0 h_S_

def r_v134 : FVec Ideal S1x1024 .f32 :=
  shapeCast _ (r_v133 m c) shapeCasts_S1024_S1x1024

def r_cst_37 : FVec Ideal S_ .f32 :=
  (constant S_ .f32 0x00000000#32)

def r_v135 : FVec Ideal S1024 .f32 :=
  Host.reduceAdd (r_v134 m c) r_cst_37 reducesTo_S1x1024_S1024_d0 h_S_

def r_v136 : FVec Ideal S8192x1024 .bf16 :=
  truncf .bf16 (r_v116 m c) bitsLt_bf16_f32

def r_v137 : FVec Ideal S8192x1024 .bf16 :=
  truncf .bf16 (r_v132 m c) bitsLt_bf16_f32

def r_v138 : FVec Ideal S8192x1024 .bf16 :=
  truncf .bf16 (r_v130 m c) bitsLt_bf16_f32

def r_cst_38 : FVec Ideal S_ .f32 :=
  (constant S_ .f32 0x00000000#32)

def r_v139 : FVec Ideal S1024 .f32 :=
  Host.reduceAdd (r_v70 m c) r_cst_38 reducesTo_S8192x1024_S1024_d0 h_S_

def r_v140 : FVec Ideal S1x1024 .f32 :=
  broadcastInDim S1x1024 ![1] bcast_S1024_S1x1024_1 (r_v139 m c)

def r_v141 : FVec Ideal S1x1024 .f32 :=
  broadcastInDim S1x1024 ![1] bcast_S1024_S1x1024_1 (r_v92 m c)

def r_v142 : FVec Ideal S1x1024 .f32 :=
  broadcastInDim S1x1024 ![1] bcast_S1024_S1x1024_1 (r_v86 m c)

def r_v143 : FVec Ideal S1x1024 .f32 :=
  broadcastInDim S1x1024 ![1] bcast_S1024_S1x1024_1 (r_v135 m c)

end Cert.LossLnValue.Ref

namespace Cert.LossLnValue

open Cert.LossLnIdeal Cert.LossLnIdeal.Gen

variable (m : (ℓ : Loc nD τ sig) → Buf (Elt Ideal) ℓ)

/-- Result `v116` of the reference, at the kernel's arguments. -/
abbrev REF_v116 (c : Dev nD) :=
  Ref.r_v116 m c

/-- Result `v136` of the reference, at the kernel's arguments. -/
abbrev REF_v136 (c : Dev nD) :=
  Ref.r_v136 m c

/-- Result `v137` of the reference, at the kernel's arguments. -/
abbrev REF_v137 (c : Dev nD) :=
  Ref.r_v137 m c

/-- Result `v138` of the reference, at the kernel's arguments. -/
abbrev REF_v138 (c : Dev nD) :=
  Ref.r_v138 m c

/-- Result `v140` of the reference, at the kernel's arguments. -/
abbrev REF_v140 (c : Dev nD) :=
  Ref.r_v140 m c

/-- Result `v141` of the reference, at the kernel's arguments. -/
abbrev REF_v141 (c : Dev nD) :=
  Ref.r_v141 m c

/-- Result `v142` of the reference, at the kernel's arguments. -/
abbrev REF_v142 (c : Dev nD) :=
  Ref.r_v142 m c

/-- Result `v143` of the reference, at the kernel's arguments. -/
abbrev REF_v143 (c : Dev nD) :=
  Ref.r_v143 m c

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![0, 0]
    ∧ win0_7.index t = ![0, 0]
    ∧ win0_8.index t = ![0, 0]
    ∧ win0_9.index t = ![0, 0]
    ∧ win0_10.index t = ![(grid0.coords t 0).val, 0]
    ∧ win0_11.index t = ![(grid0.coords t 0).val, 0]
    ∧ win0_12.index t = ![(grid0.coords t 0).val, 0]
    ∧ win0_13.index t = ![(grid0.coords t 0).val, 0]
    ∧ win0_14.index t = ![0, 0]
    ∧ win0_15.index t = ![0, 0]
    ∧ win0_16.index t = ![0, 0]
    ∧ win0_17.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![t.val, 0]
    ∧ win0_14.index t = ![0, 0]
    ∧ win0_15.index t = ![0, 0]
    ∧ win0_16.index t = ![0, 0]
    ∧ win0_17.index t = ![0, 0] :=
  (by decide +kernel : ∀ t : Fin grid0.N, _)

/-! What the host prepares before the kernel, an operation at a time. -/

section

variable (c : Dev nD)

def h_v0 : FVec Ideal S1x1024 .f32 :=
  broadcastInDim S1x1024 ![1] bcast_S1024_S1x1024_1 (m ((c : Thread Cert.LossLnIdeal.nD Cert.LossLnIdeal.τ).loc Cert.LossLnIdeal.main_arg1))

def h_v1 : FVec Ideal S1x1024 .f32 :=
  broadcastInDim S1x1024 ![1] bcast_S1024_S1x1024_1 (m ((c : Thread Cert.LossLnIdeal.nD Cert.LossLnIdeal.τ).loc Cert.LossLnIdeal.main_arg2))

def h_v2 : FVec Ideal S1x1024 .f32 :=
  broadcastInDim S1x1024 ![1] bcast_S1024_S1x1024_1 (m ((c : Thread Cert.LossLnIdeal.nD Cert.LossLnIdeal.τ).loc Cert.LossLnIdeal.main_arg8))

def h_v3 : FVec Ideal S1x1024 .f32 :=
  broadcastInDim S1x1024 ![1] bcast_S1024_S1x1024_1 (m ((c : Thread Cert.LossLnIdeal.nD Cert.LossLnIdeal.τ).loc Cert.LossLnIdeal.main_arg9))

def h_v4 : FVec Ideal S8192x4096 .bf16 :=
  truncf .bf16 (m ((c : Thread Cert.LossLnIdeal.nD Cert.LossLnIdeal.τ).loc Cert.LossLnIdeal.main_arg3)) bitsLt_bf16_f32

def h_v5 : FVec Ideal S4096x1024 .bf16 :=
  truncf .bf16 (m ((c : Thread Cert.LossLnIdeal.nD Cert.LossLnIdeal.τ).loc Cert.LossLnIdeal.main_arg4)) bitsLt_bf16_f32

def h_cst : FVec Ideal S_ .f32 :=
  (constant S_ .f32 0x00000000#32)

def h_v6 : FVec Ideal S8192 .f32 :=
  Host.reduceAdd (m ((c : Thread Cert.LossLnIdeal.nD Cert.LossLnIdeal.τ).loc Cert.LossLnIdeal.main_arg0)) h_cst reducesTo_S8192x1024_S8192_d1 h_S_

def h_v7 : FVec Ideal S8192x1 .f32 :=
  broadcastInDim S8192x1 ![0] bcast_S8192_S8192x1_0 (h_v6 m c)

def h_cst_0 : FVec Ideal S_ .f32 :=
  (constant S_ .f32 0x44800000#32)

def h_v8 : FVec Ideal S8192x1 .f32 :=
  broadcastInDim S8192x1 ![] bcast_S_S8192x1 h_cst_0

def h_v9 : FVec Ideal S8192x1 .f32 :=
  Host.divf (h_v7 m c) h_v8

def h_v10 : FVec Ideal S8192x1024 .f32 :=
  broadcastInDim S8192x1024 ![0, 1] bcast_S8192x1_S8192x1024_0_1 (h_v9 m c)

def h_v11 : FVec Ideal S8192x1024 .f32 :=
  subf (m ((c : Thread Cert.LossLnIdeal.nD Cert.LossLnIdeal.τ).loc Cert.LossLnIdeal.main_arg0)) (h_v10 m c)

def h_v12 : FVec Ideal S8192x1024 .f32 :=
  mulf (h_v11 m c) (h_v11 m c)

def h_cst_1 : FVec Ideal S_ .f32 :=
  (constant S_ .f32 0x00000000#32)

def h_v13 : FVec Ideal S8192 .f32 :=
  Host.reduceAdd (h_v12 m c) h_cst_1 reducesTo_S8192x1024_S8192_d1 h_S_

def h_v14 : FVec Ideal S8192x1 .f32 :=
  broadcastInDim S8192x1 ![0] bcast_S8192_S8192x1_0 (h_v13 m c)

def h_cst_2 : FVec Ideal S_ .f32 :=
  (constant S_ .f32 0x44800000#32)

def h_v15 : FVec Ideal S8192x1 .f32 :=
  broadcastInDim S8192x1 ![] bcast_S_S8192x1 h_cst_2

def h_v16 : FVec Ideal S8192x1 .f32 :=
  Host.divf (h_v14 m c) h_v15

def h_v17 : FVec Ideal S8192x1024 .f32 :=
  broadcastInDim S8192x1024 ![0, 1] bcast_S8192x1_S8192x1024_0_1 (h_v9 m c)

def h_v18 : FVec Ideal S8192x1024 .f32 :=
  subf (m ((c : Thread Cert.LossLnIdeal.nD Cert.LossLnIdeal.τ).loc Cert.LossLnIdeal.main_arg0)) (h_v17 m c)

def h_cst_3 : FVec Ideal S_ .f32 :=
  (constant S_ .f32 0x3727C5AC#32)

def h_v19 : FVec Ideal S8192x1 .f32 :=
  broadcastInDim S8192x1 ![] bcast_S_S8192x1 h_cst_3

def h_v20 : FVec Ideal S8192x1 .f32 :=
  addf (h_v16 m c) h_v19

def h_v21 : FVec Ideal S8192x1 .f32 :=
  Host.rsqrt (h_v20 m c)

def h_v22 : FVec Ideal S8192x1024 .f32 :=
  broadcastInDim S8192x1024 ![0, 1] bcast_S8192x1_S8192x1024_0_1 (h_v21 m c)

def h_v23 : FVec Ideal S8192x1024 .f32 :=
  mulf (h_v18 m c) (h_v22 m c)

def h_cst_4 : FVec Ideal S_ .f32 :=
  (constant S_ .f32 0x3727C5AC#32)

def h_v24 : FVec Ideal S8192x1 .f32 :=
  broadcastInDim S8192x1 ![] bcast_S_S8192x1 h_cst_4

def h_v25 : FVec Ideal S8192x1 .f32 :=
  addf (h_v16 m c) h_v24

def h_v26 : FVec Ideal S8192x1 .f32 :=
  Host.rsqrt (h_v25 m c)

def h_v27 : FVec Ideal S1x1024 .f32 :=
  broadcastInDim S1x1024 ![1] bcast_S1024_S1x1024_1 (m ((c : Thread Cert.LossLnIdeal.nD Cert.LossLnIdeal.τ).loc Cert.LossLnIdeal.main_arg6))

def h_v28 : FVec Ideal S8192x1024 .f32 :=
  broadcastInDim S8192x1024 ![0, 1] bcast_S1x1024_S8192x1024_0_1 (h_v27 m c)

def h_v29 : FVec Ideal S8192x1024 .f32 :=
  addf (m ((c : Thread Cert.LossLnIdeal.nD Cert.LossLnIdeal.τ).loc Cert.LossLnIdeal.main_arg5)) (h_v28 m c)

end

/-- The contents of `main_v4`, window 0's array, when the kernel's region begins. -/
theorem entry_v4 (c : Dev nD) : @Eq (FVec Ideal S8192x4096 .bf16) (V m c main_v4) (h_v4 m c) := by
  entry_read
  try rfl

/-- The contents of `main_v5`, window 1's array, when the kernel's region begins. -/
theorem entry_v5 (c : Dev nD) : @Eq (FVec Ideal S4096x1024 .bf16) (V m c main_v5) (h_v5 m c) := by
  entry_read
  try rfl

/-- The contents of `main_v23`, window 2's array, when the kernel's region begins. -/
theorem entry_v23 (c : Dev nD) : @Eq (FVec Ideal S8192x1024 .f32) (V m c main_v23) (h_v23 m c) := by
  entry_read
  try rfl

/-- The contents of `main_v29`, window 3's array, when the kernel's region begins. -/
theorem entry_v29 (c : Dev nD) : @Eq (FVec Ideal S8192x1024 .f32) (V m c main_v29) (h_v29 m c) := by
  entry_read
  try rfl

/-- The contents of `main_v0`, window 6's array, when the kernel's region begins. -/
theorem entry_v0 (c : Dev nD) : @Eq (FVec Ideal S1x1024 .f32) (V m c main_v0) (h_v0 m c) := by
  entry_read
  try rfl

/-- The contents of `main_v1`, window 7's array, when the kernel's region begins. -/
theorem entry_v1 (c : Dev nD) : @Eq (FVec Ideal S1x1024 .f32) (V m c main_v1) (h_v1 m c) := by
  entry_read
  try rfl

/-- The contents of `main_v2`, window 8's array, when the kernel's region begins. -/
theorem entry_v2 (c : Dev nD) : @Eq (FVec Ideal S1x1024 .f32) (V m c main_v2) (h_v2 m c) := by
  entry_read
  try rfl

/-- The contents of `main_v3`, window 9's array, when the kernel's region begins. -/
theorem entry_v3 (c : Dev nD) : @Eq (FVec Ideal S1x1024 .f32) (V m c main_v3) (h_v3 m c) := by
  entry_read
  try rfl

/-- The gradient through the layer norm, from that of its result. -/
def kdh (v52 v45 : FVec Ideal S256x1024 .f32) (v43 : FVec Ideal S256x1 .f32) (v17 : FVec Ideal S1x1024 .f32) : FVec Ideal S256x1024 .f32 :=
  have v53 : FVec Ideal S256x1024 .f32 := broadcastTo S256x1024 v17 broadcasts_S1x1024_S256x1024
  have v54 : FVec Ideal S256x1024 .f32 := mulf v52 v53
  have v55 : FVec Ideal S256 .f32 := multiReduction .add [1] S256 v54 0x00000000#32 reduces_S256x1024_S256 (.inl rfl) rfl
  have v56 : FVec Ideal S256x1 .f32 := shapeCast S256x1 v55 shapeCasts_S256_S256x1
  have cst_27 : Ideal .f32 := Scalar.ofBits .f32 0x44800000#32
  have v57 : FVec Ideal S256x1 .f32 := broadcast S256x1 cst_27
  have v58 : FVec Ideal S256x1 .f32 := divf v56 v57
  have v59 : FVec Ideal S256x1024 .f32 := mulf v54 v45
  have v60 : FVec Ideal S256 .f32 := multiReduction .add [1] S256 v59 0x00000000#32 reduces_S256x1024_S256 (.inl rfl) rfl
  have v61 : FVec Ideal S256x1 .f32 := shapeCast S256x1 v60 shapeCasts_S256_S256x1
  have cst_29 : Ideal .f32 := Scalar.ofBits .f32 0x44800000#32
  have v62 : FVec Ideal S256x1 .f32 := broadcast S256x1 cst_29
  have v63 : FVec Ideal S256x1 .f32 := divf v61 v62
  have v64 : FVec Ideal S256x1024 .f32 := broadcastTo S256x1024 v58 broadcasts_S256x1_S256x1024
  have v65 : FVec Ideal S256x1024 .f32 := subf v54 v64
  have v66 : FVec Ideal S256x1024 .f32 := broadcastTo S256x1024 v63 broadcasts_S256x1_S256x1024
  have v67 : FVec Ideal S256x1024 .f32 := mulf v45 v66
  have v68 : FVec Ideal S256x1024 .f32 := subf v65 v67
  have v69 : FVec Ideal S256x1024 .f32 := broadcastTo S256x1024 v43 broadcasts_S256x1_S256x1024
  have v70 : FVec Ideal S256x1024 .f32 := mulf v69 v68
  v70

/-- The host's normalised rows are the reference's. -/
theorem h23_eq (c : Dev nD) : h_v23 m c = Ref.r_v17 m c := rfl

/-- The row of the array that row `r` of block `t` is. -/
def rowOf (t : Fin cfg0.N) (r : Fin 256) : Fin 8192 :=
  ⟨t.val * 256 + r.val, by have h1 := t.isLt; have h2 : cfg0.N = 32 := rfl; have := r.isLt; omega⟩

/-- Where the blocks of the first result sit. -/
theorem emb_10 (t : Fin cfg0.N) (r : Fin 256) (k : Fin 1024) :
    ((cfg0.win 10).blk t).view.emb (ix2 r k) = ix2 (rowOf t r) k := by
  blk_ext [idx_val t, rowOf]

/-- Where the blocks of the second result sit. -/
theorem emb_11 (t : Fin cfg0.N) (r : Fin 256) (k : Fin 1024) :
    ((cfg0.win 11).blk t).view.emb (ix2 r k) = ix2 (rowOf t r) k := by
  blk_ext [idx_val t, rowOf]

/-- Where the blocks of the third result sit. -/
theorem emb_12 (t : Fin cfg0.N) (r : Fin 256) (k : Fin 1024) :
    ((cfg0.win 12).blk t).view.emb (ix2 r k) = ix2 (rowOf t r) k := by
  blk_ext [idx_val t, rowOf]

/-- Where the blocks of the fourth result sit. -/
theorem emb_13 (t : Fin cfg0.N) (r : Fin 256) (k : Fin 1024) :
    ((cfg0.win 13).blk t).view.emb (ix2 r k) = ix2 (rowOf t r) k := by
  blk_ext [idx_val t, rowOf]

/-- The rows of the activation, on the kernel's blocks. -/
theorem act_row (c : Dev nD) (t : Fin cfg0.N) (r : Fin 256) (k : Fin 4096) :
    iblk m c 0 t (ix2 r k) = (m ((c : Thread nD τ).loc main_arg3)) (ix2 (rowOf t r) k) := by
  blk_simp [iblk]
  rw [entry_v4 m c]
  rw [show (((cfg0.win 0).blk t).view.emb (ix2 r k)) = ix2 (rowOf t r) k by blk_ext [idx_val t, rowOf]]
  pointwise [h_v4]

/-- The second weight, on the kernel's block. -/
theorem wt_row (c : Dev nD) (t : Fin cfg0.N) (i : Fin 4096) (k : Fin 1024) :
    iblk m c 1 t (ix2 i k) = (m ((c : Thread nD τ).loc main_arg4)) (ix2 i k) := by
  blk_simp [iblk]
  rw [entry_v5 m c]
  rw [show (((cfg0.win 1).blk t).view.emb (ix2 i k)) = ix2 i k by blk_ext [idx_val t]]
  pointwise [h_v5]

/-- The normalised rows of the layer norm before, on the kernel's blocks. -/
theorem xp_row (c : Dev nD) (t : Fin cfg0.N) (r : Fin 256) (k : Fin 1024) :
    iblk m c 2 t (ix2 r k) = Ref.r_v17 m c (ix2 (rowOf t r) k) := by
  blk_simp [iblk]
  rw [entry_v23 m c]
  rw [show (((cfg0.win 2).blk t).view.emb (ix2 r k)) = ix2 (rowOf t r) k by blk_ext [idx_val t, rowOf]]
  rw [h23_eq m c]

/-- The array the gate multiplies, on the kernel's blocks. -/
theorem pp_row (c : Dev nD) (t : Fin cfg0.N) (r : Fin 256) (k : Fin 1024) :
    iblk m c 4 t (ix2 r k) = (m ((c : Thread nD τ).loc main_arg7)) (ix2 (rowOf t r) k) := by
  blk_simp [iblk]
  rw [show (((cfg0.win 4).blk t).view.emb (ix2 r k)) = ix2 (rowOf t r) k by blk_ext [idx_val t, rowOf]]
  first | done | rfl

/-- The targets, on the kernel's blocks. -/
theorem tgt_row (c : Dev nD) (t : Fin cfg0.N) (r : Fin 256) (k : Fin 1024) :
    iblk m c 5 t (ix2 r k) = (m ((c : Thread nD τ).loc main_arg10)) (ix2 (rowOf t r) k) := by
  blk_simp [iblk]
  rw [show (((cfg0.win 5).blk t).view.emb (ix2 r k)) = ix2 (rowOf t r) k by blk_ext [idx_val t, rowOf]]
  first | done | rfl

/-- The gain of the layer norm before, on the kernel's block. -/
theorem gp_row (c : Dev nD) (t : Fin cfg0.N) (k : Fin 1024) :
    iblk m c 6 t (ix2 0 k) = (m ((c : Thread nD τ).loc main_arg1)) (ix1 k) := by
  blk_simp [iblk]
  rw [entry_v0 m c]
  rw [show (((cfg0.win 6).blk t).view.emb (ix2 0 k)) = ix2 0 k by blk_ext [idx_val t]]
  pointwise [h_v0]

/-- The bias of the layer norm before, on the kernel's block. -/
theorem bp_row (c : Dev nD) (t : Fin cfg0.N) (k : Fin 1024) :
    iblk m c 7 t (ix2 0 k) = (m ((c : Thread nD τ).loc main_arg2)) (ix1 k) := by
  blk_simp [iblk]
  rw [entry_v1 m c]
  rw [show (((cfg0.win 7).blk t).view.emb (ix2 0 k)) = ix2 0 k by blk_ext [idx_val t]]
  pointwise [h_v1]

/-- The gain, on the kernel's block. -/
theorem g_row (c : Dev nD) (t : Fin cfg0.N) (k : Fin 1024) :
    iblk m c 8 t (ix2 0 k) = (m ((c : Thread nD τ).loc main_arg8)) (ix1 k) := by
  blk_simp [iblk]
  rw [entry_v2 m c]
  rw [show (((cfg0.win 8).blk t).view.emb (ix2 0 k)) = ix2 0 k by blk_ext [idx_val t]]
  pointwise [h_v2]

/-- The bias, on the kernel's block. -/
theorem b_row (c : Dev nD) (t : Fin cfg0.N) (k : Fin 1024) :
    iblk m c 9 t (ix2 0 k) = (m ((c : Thread nD τ).loc main_arg9)) (ix1 k) := by
  blk_simp [iblk]
  rw [entry_v3 m c]
  rw [show (((cfg0.win 9).blk t).view.emb (ix2 0 k)) = ix2 0 k by blk_ext [idx_val t]]
  pointwise [h_v3]

/-- The gate, on the kernel's blocks. -/
theorem sg_row (c : Dev nD) (t : Fin cfg0.N) (r : Fin 256) (k : Fin 1024) :
    Ideal.logistic (iblk m c 3 t (ix2 r k)) = Ref.r_v37 m c (ix2 (rowOf t r) k) := by
  blk_simp [iblk]
  rw [entry_v29 m c]
  rw [show (((cfg0.win 3).blk t).view.emb (ix2 r k)) = ix2 (rowOf t r) k by blk_ext [idx_val t, rowOf]]
  generalize rowOf t r = R
  pointwise [h_v29, h_v28, h_v27, Ref.r_v29, Ref.r_v30, Ref.r_v31, Ref.r_v32, Ref.r_v33, Ref.r_cst_5, Ref.r_v34, Ref.r_v35, Ref.r_cst_6, Ref.r_v36, Ref.r_v37]
  simp only [Ideal.logistic]

/-- What is normalised: a block of the kernel's is the block of the reference's it sits at. -/
theorem s_row (c : Dev nD) (t : Fin cfg0.N) (r : Fin 256) (k : Fin 1024) :
    (k0_pay6 (iblk m c 0 t) (iblk m c 1 t) (iblk m c 2 t) (iblk m c 3 t) (iblk m c 4 t) (iblk m c 6 t) (iblk m c 7 t)) (ix2 r k) = Ref.r_v39 m c (ix2 (rowOf t r) k) := by
  pointwise [k0_pay6, k0_pay5]
  simp only [act_row, wt_row, xp_row, sg_row, pp_row, gp_row, bp_row]
  generalize rowOf t r = R
  pointwise [Ref.r_v18, Ref.r_v19, Ref.r_v20, Ref.r_v21, Ref.r_v22, Ref.r_v23, Ref.r_cst_4, Ref.r_v24, Ref.r_v25, Ref.r_v26, Ref.r_v27, Ref.r_v28, Ref.r_v38, Ref.r_v39]

/-- The sum of a row of the kernel's. -/
theorem rs_row (c : Dev nD) (t : Fin cfg0.N) (r : Fin 256) :
    (k0_pay7 (iblk m c 0 t) (iblk m c 1 t) (iblk m c 2 t) (iblk m c 3 t) (iblk m c 4 t) (iblk m c 6 t) (iblk m c 7 t)) (ix2 r 0) = ∑ k : Fin 1024, (k0_pay6 (iblk m c 0 t) (iblk m c 1 t) (iblk m c 2 t) (iblk m c 3 t) (iblk m c 4 t) (iblk m c 6 t) (iblk m c 7 t)) (ix2 r k) := by
  pointwise [k0_pay7]

/-- The centred rows. -/
theorem c_row (c : Dev nD) (t : Fin cfg0.N) (r : Fin 256) (k : Fin 1024) :
    k0_pay9 (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r k) = Ref.r_v54 m c (ix2 (rowOf t r) k) := by
  pointwise [k0_pay9, k0_pay8]
  simp only [rs_row, s_row]
  generalize rowOf t r = R
  pointwise [Ref.r_cst_7, Ref.r_v40, Ref.r_v41, Ref.r_cst_8, Ref.r_v42, Ref.r_v43, Ref.r_v53, Ref.r_v54]

/-- The inverse deviations. -/
theorem w_row (c : Dev nD) (t : Fin cfg0.N) (r : Fin 256) :
    k0_pay10 (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r 0) = Ref.r_v57 m c (ix2 (rowOf t r) 0) := by
  pointwise [k0_pay10]
  simp only [c_row]
  generalize rowOf t r = R
  pointwise [Ref.r_v44, Ref.r_v45, Ref.r_v46, Ref.r_cst_10, Ref.r_v49, Ref.r_v50, Ref.r_cst_11, Ref.r_v51, Ref.r_v52, Ref.r_v53, Ref.r_v54, Ref.r_cst_12, Ref.r_v55, Ref.r_v56, Ref.r_v57]

/-- The normalised rows. -/
theorem x_row (c : Dev nD) (t : Fin cfg0.N) (r : Fin 256) (k : Fin 1024) :
    k0_pay11 (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r k) = Ref.r_v62 m c (ix2 (rowOf t r) k) := by
  pointwise [k0_pay11]
  simp only [c_row, w_row]
  generalize rowOf t r = R
  pointwise [Ref.r_v61, Ref.r_v62]

/-- The errors. -/
theorem e_row (c : Dev nD) (t : Fin cfg0.N) (r : Fin 256) (k : Fin 1024) :
    k0_pay12 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r k) = Ref.r_v69 m c (ix2 (rowOf t r) k) := by
  pointwise [k0_pay12, k0_pay3, k0_pay4]
  simp only [x_row, g_row, b_row, tgt_row]
  generalize rowOf t r = R
  pointwise [Ref.r_v63, Ref.r_v64, Ref.r_v65, Ref.r_v66, Ref.r_v67, Ref.r_v68, Ref.r_v69]

/-- A half. -/
theorem lit_h : Ideal.ofBits FTy.f32 1056964608#32 = ((1 / 2 : ℝ) : EReal) := by
  simp [Ideal.ofBits, Ideal.ieee, -EReal.coe_mul]; norm_num

/-- One over the row length. -/
theorem lit_r : Ideal.ofBits FTy.f32 981467136#32 = ((1 / 1024 : ℝ) : EReal) := by
  simp [Ideal.ofBits, Ideal.ieee, -EReal.coe_mul]; norm_num

/-- The gradient of the loss at an error, by the chain rule. -/
theorem ct_eq (e : EReal) : e * Ideal.ofBits FTy.f32 981467136#32
    = Ideal.div (Ideal.ofBits FTy.f32 1056964608#32) (Ideal.ofBits FTy.f32 1149239296#32)
      * (Ideal.ofBits FTy.f32 1073741824#32 * e) := by
  rw [lit_h, Cert.LnBwd.div_n, Cert.LnBwd.lit_two, lit_r, ← mul_assoc, ← EReal.coe_mul, mul_comm]
  congr 2; norm_num

/-- The gradient of the layer norm's result. -/
theorem t_row (c : Dev nD) (t : Fin cfg0.N) (r : Fin 256) (k : Fin 1024) :
    k0_pay13 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r k) = Ref.r_v83 m c (ix2 (rowOf t r) k) := by
  pointwise [k0_pay13]
  rw [e_row]
  generalize rowOf t r = R
  pointwise [Ref.r_cst_14, Ref.r_v71, Ref.r_v72, Ref.r_cst_19, Ref.r_cst_20, Ref.r_v78, Ref.r_v79, Ref.r_cst_21, Ref.r_v80, Ref.r_v81, Ref.r_v82, Ref.r_v83]
  exact ct_eq _

end Cert.LossLnValue

end
-- ==== Proof.LossLnReal.lean ====
/- The arrays of `Cert.LossLnIdeal` are finite. -/
module

public import proofs.«01_k».proof.Proof.Gen.LossLnIdeal
public import proofs.«01_k».proof.Proof.Gen.LossLnIdeal.Frame
public import proofs.«01_k».proof.Proof.Gen.LossLnRefIdeal
public import proofs.«01_k».proof.Proof.Common
public import proofs.«01_k».proof.Proof.LnBwd
public import proofs.«01_k».proof.Proof.LossLnRows
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.LossLnValue

open Cert.LossLnIdeal Cert.LossLnIdeal.Gen

variable (m : (ℓ : Loc nD τ sig) → Buf (Elt Ideal) ℓ)

/-- Being a real. -/
def IsReal (x : EReal) : Prop := ∃ r : ℝ, x = (r : EReal)

/-- A sum of two reals. -/
theorem IsReal.add {x y : EReal} (hx : IsReal x) (hy : IsReal y) : IsReal (x + y) := by
  obtain ⟨a, rfl⟩ := hx; obtain ⟨b, rfl⟩ := hy; exact ⟨a + b, (EReal.coe_add _ _).symm⟩

/-- A difference of two reals. -/
theorem IsReal.sub {x y : EReal} (hx : IsReal x) (hy : IsReal y) : IsReal (x - y) := by
  obtain ⟨a, rfl⟩ := hx; obtain ⟨b, rfl⟩ := hy; exact ⟨a - b, (EReal.coe_sub _ _).symm⟩

/-- A product of two reals. -/
theorem IsReal.mul {x y : EReal} (hx : IsReal x) (hy : IsReal y) : IsReal (x * y) := by
  obtain ⟨a, rfl⟩ := hx; obtain ⟨b, rfl⟩ := hy; exact ⟨a * b, (EReal.coe_mul _ _).symm⟩

/-- A sum of reals. -/
theorem IsReal.sum {n : ℕ} {f : Fin n → EReal} (h : ∀ i, IsReal (f i)) : IsReal (∑ i, f i) := by
  choose g hg using h
  obtain rfl : f = fun i => (g i : EReal) := funext hg
  exact ⟨∑ i, g i, (Cert.LnBwd.coe_sum _).symm⟩

/-- The scale of the sum is a real. -/
theorem lit_a : IsReal (Ideal.ofBits FTy.f32 1068827891#32) :=
  ⟨_, by simp [Ideal.ofBits, Ideal.ieee, -EReal.coe_mul]; rfl⟩

/-- A layer norm of a row of reals is real. -/
theorem ln_real (h : Fin 1024 → EReal) (hh : ∀ i, IsReal (h i)) (k : Fin 1024)
    (mu s w : EReal) (hmu : mu = Ideal.div (∑ i, h i) (Ideal.ofBits FTy.f32 1149239296#32))
    (hs : s = Ideal.div (∑ i, (h i - mu) * (h i - mu)) (Ideal.ofBits FTy.f32 1149239296#32) + Ideal.ofBits FTy.f32 925353388#32)
    (hw : w = Ideal.rsqrt s) : IsReal ((h k - mu) * w) := by
  choose a ha using hh
  obtain ⟨e, he, hE⟩ := Cert.LnBwd.lit_eps
  obtain rfl : h = fun i => (a i : EReal) := funext ha
  set μ : ℝ := (∑ i, a i) / 1024 with hμ
  have m1 : mu = (μ : EReal) := by rw [hmu, ← Cert.LnBwd.coe_sum, Cert.LnBwd.div_n]
  subst m1
  have hs0 : 0 ≤ (∑ i, (a i - μ) * (a i - μ)) / 1024 :=
    div_nonneg (Finset.sum_nonneg fun i _ => mul_self_nonneg _) (by norm_num)
  set v : ℝ := (∑ i, (a i - μ) * (a i - μ)) / 1024 + e with hv
  have v0 : 0 < v := by positivity
  have s1 : s = (v : EReal) := by
    rw [hs, hE]
    simp only [← EReal.coe_sub, ← EReal.coe_mul, ← Cert.LnBwd.coe_sum, Cert.LnBwd.div_n, ← EReal.coe_add]
    rfl
  subst s1
  have w1 : w = (((_root_.Real.sqrt v)⁻¹ : ℝ) : EReal) := by
    rw [hw, Ideal.rsqrt_coe, if_neg (not_lt.2 v0.le), if_neg v0.ne']
  subst w1
  exact ((IsReal.sub ⟨_, rfl⟩ ⟨_, rfl⟩).mul ⟨_, rfl⟩)

/-- Every element of the arguments is a real. -/
def Reals (c : Dev nD) : Prop :=
  (∀ i, ∃ r : ℝ, (m ((c : Thread nD τ).loc main_arg0) : FVec Ideal S8192x1024 .f32) i = (r : EReal))
  ∧ (∀ i, ∃ r : ℝ, (m ((c : Thread nD τ).loc main_arg1) : FVec Ideal S1024 .f32) i = (r : EReal))
  ∧ (∀ i, ∃ r : ℝ, (m ((c : Thread nD τ).loc main_arg2) : FVec Ideal S1024 .f32) i = (r : EReal))
  ∧ (∀ i, ∃ r : ℝ, (m ((c : Thread nD τ).loc main_arg3) : FVec Ideal S8192x4096 .f32) i = (r : EReal))
  ∧ (∀ i, ∃ r : ℝ, (m ((c : Thread nD τ).loc main_arg4) : FVec Ideal S4096x1024 .f32) i = (r : EReal))
  ∧ (∀ i, ∃ r : ℝ, (m ((c : Thread nD τ).loc main_arg5) : FVec Ideal S8192x1024 .f32) i = (r : EReal))
  ∧ (∀ i, ∃ r : ℝ, (m ((c : Thread nD τ).loc main_arg6) : FVec Ideal S1024 .f32) i = (r : EReal))
  ∧ (∀ i, ∃ r : ℝ, (m ((c : Thread nD τ).loc main_arg7) : FVec Ideal S8192x1024 .f32) i = (r : EReal))
  ∧ (∀ i, ∃ r : ℝ, (m ((c : Thread nD τ).loc main_arg8) : FVec Ideal S1024 .f32) i = (r : EReal))
  ∧ (∀ i, ∃ r : ℝ, (m ((c : Thread nD τ).loc main_arg9) : FVec Ideal S1024 .f32) i = (r : EReal))
  ∧ (∀ i, ∃ r : ℝ, (m ((c : Thread nD τ).loc main_arg10) : FVec Ideal S8192x1024 .f32) i = (r : EReal))

/-- Argument 0. -/
abbrev A0 (c : Dev nD) : FVec Ideal S8192x1024 .f32 := m ((c : Thread nD τ).loc main_arg0)

/-- Argument 5. -/
abbrev A5 (c : Dev nD) : FVec Ideal S8192x1024 .f32 := m ((c : Thread nD τ).loc main_arg5)

/-- Argument 6. -/
abbrev A6 (c : Dev nD) : FVec Ideal S1024 .f32 := m ((c : Thread nD τ).loc main_arg6)

/-- Argument 8. -/
abbrev A8 (c : Dev nD) : FVec Ideal S1024 .f32 := m ((c : Thread nD τ).loc main_arg8)

/-- The reference's mean of a row of the layer norm before. -/
theorem p_mu (c : Dev nD) (R : Fin 8192) : Ref.r_v3 m c (ix2 R 0)
    = Ideal.div (∑ i : Fin 1024, A0 m c (ix2 R i)) (Ideal.ofBits .f32 1149239296#32) := by
  pointwise [Ref.r_cst, Ref.r_v0, Ref.r_v1, Ref.r_cst_0, Ref.r_v2, Ref.r_v3]

/-- The reference's variance of a row of the layer norm before, with what is added to it. -/
theorem p_s (c : Dev nD) (R : Fin 8192) : Ref.r_v14 m c (ix2 R 0)
    = Ideal.div (∑ i : Fin 1024, (A0 m c (ix2 R i) - Ref.r_v3 m c (ix2 R 0))
        * (A0 m c (ix2 R i) - Ref.r_v3 m c (ix2 R 0))) (Ideal.ofBits .f32 1149239296#32)
      + Ideal.ofBits .f32 925353388#32 := by
  pointwise [Ref.r_v4, Ref.r_v5, Ref.r_v6, Ref.r_cst_1, Ref.r_v7, Ref.r_v8, Ref.r_cst_2, Ref.r_v9, Ref.r_v10, Ref.r_cst_3, Ref.r_v13, Ref.r_v14]

/-- The reference's inverse deviation of a row of the layer norm before. -/
theorem p_w (c : Dev nD) (R : Fin 8192) : Ref.r_v15 m c (ix2 R 0) = Ideal.rsqrt (Ref.r_v14 m c (ix2 R 0)) := by
  pointwise [Ref.r_v15]

/-- The reference's mean of a row of the layer norm. -/
theorem q_mu (c : Dev nD) (R : Fin 8192) : Ref.r_v43 m c (ix2 R 0)
    = Ideal.div (∑ i : Fin 1024, Ref.r_v39 m c (ix2 R i)) (Ideal.ofBits .f32 1149239296#32) := by
  pointwise [Ref.r_cst_7, Ref.r_v40, Ref.r_v41, Ref.r_cst_8, Ref.r_v42, Ref.r_v43]

/-- The reference's variance of a row of the layer norm, with what is added to it. -/
theorem q_s (c : Dev nD) (R : Fin 8192) : Ref.r_v56 m c (ix2 R 0)
    = Ideal.div (∑ i : Fin 1024, (Ref.r_v39 m c (ix2 R i) - Ref.r_v43 m c (ix2 R 0))
        * (Ref.r_v39 m c (ix2 R i) - Ref.r_v43 m c (ix2 R 0))) (Ideal.ofBits .f32 1149239296#32)
      + Ideal.ofBits .f32 925353388#32 := by
  pointwise [Ref.r_v44, Ref.r_v45, Ref.r_v46, Ref.r_cst_10, Ref.r_v49, Ref.r_v50, Ref.r_cst_11, Ref.r_v51, Ref.r_v52, Ref.r_cst_12, Ref.r_v55, Ref.r_v56]

/-- The reference's inverse deviation of a row of the layer norm. -/
theorem q_w (c : Dev nD) (R : Fin 8192) : Ref.r_v57 m c (ix2 R 0) = Ideal.rsqrt (Ref.r_v56 m c (ix2 R 0)) := by
  pointwise [Ref.r_v57]

/-- Of finite arguments the normalised rows of the layer norm before are finite. -/
theorem xp_real (c : Dev nD) (H : Reals m c) (R : Fin 8192) (k : Fin 1024) : IsReal (Ref.r_v17 m c (ix2 R k)) := by
  have e : Ref.r_v17 m c (ix2 R k) = (A0 m c (ix2 R k) - Ref.r_v3 m c (ix2 R 0)) * Ref.r_v15 m c (ix2 R 0) := by
    pointwise [Ref.r_v11, Ref.r_v12, Ref.r_v16, Ref.r_v17]
  rw [e]
  exact ln_real (fun i => A0 m c (ix2 R i)) (fun i => H.1 _) k _ _ _ (p_mu m c R) (p_s m c R) (p_w m c R)

/-- Of finite arguments the gate is finite. -/
theorem sg_real (c : Dev nD) (H : Reals m c) (R : Fin 8192) (k : Fin 1024) : IsReal (Ref.r_v37 m c (ix2 R k)) := by
  have e : Ref.r_v37 m c (ix2 R k) = Ideal.logistic (A5 m c (ix2 R k) + A6 m c (ix1 k)) := by
    pointwise [Ref.r_v29, Ref.r_v30, Ref.r_v31, Ref.r_v32, Ref.r_v33, Ref.r_cst_5, Ref.r_v34, Ref.r_v35, Ref.r_cst_6, Ref.r_v36, Ref.r_v37]
    simp only [Ideal.logistic]
  obtain ⟨_, _, _, _, _, h5, h6, _⟩ := H
  obtain ⟨a, ha⟩ : ∃ a : ℝ, A5 m c (ix2 R k) = a := h5 _
  obtain ⟨b, hb⟩ : ∃ b : ℝ, A6 m c (ix1 k) = b := h6 _
  rw [e, ha, hb, ← EReal.coe_add, Ideal.logistic_coe]
  exact ⟨_, rfl⟩

/-- Of finite arguments what is normalised is finite. -/
theorem s_real (c : Dev nD) (H : Reals m c) (R : Fin 8192) (k : Fin 1024) : IsReal (Ref.r_v39 m c (ix2 R k)) := by
  have hs := sg_real m c H R k
  have hx := xp_real m c H R k
  obtain ⟨_, h1, h2, h3, h4, _, _, h7, _⟩ := H
  pointwise [Ref.r_v18, Ref.r_v19, Ref.r_v20, Ref.r_v21, Ref.r_v22, Ref.r_v23, Ref.r_cst_4, Ref.r_v24, Ref.r_v25, Ref.r_v26, Ref.r_v27, Ref.r_v28, Ref.r_v38, Ref.r_v39]
  exact ((lit_a.mul ((hx.mul (h1 _)).add (h2 _))).add (IsReal.sum fun i => ((IsReal.mul (h3 _) (h3 _)).mul (h4 _)))).add (hs.mul (h7 _))

/-- Of finite arguments the gradient of the layer norm's result is finite. -/
theorem t_real (c : Dev nD) (H : Reals m c) (R : Fin 8192) (k : Fin 1024) : IsReal (Ref.r_v83 m c (ix2 R k)) := by
  have hx : IsReal (Ref.r_v62 m c (ix2 R k)) := by
    have e : Ref.r_v62 m c (ix2 R k) = (Ref.r_v39 m c (ix2 R k) - Ref.r_v43 m c (ix2 R 0)) * Ref.r_v57 m c (ix2 R 0) := by
      pointwise [Ref.r_v53, Ref.r_v54, Ref.r_v61, Ref.r_v62]
    rw [e]
    exact ln_real (fun i => Ref.r_v39 m c (ix2 R i)) (fun i => s_real m c H R i) k _ _ _ (q_mu m c R) (q_s m c R) (q_w m c R)
  obtain ⟨_, _, _, _, _, _, _, _, h8, h9, h10⟩ := H
  pointwise [Ref.r_v63, Ref.r_v64, Ref.r_v65, Ref.r_v66, Ref.r_v67, Ref.r_v68, Ref.r_v69, Ref.r_cst_14, Ref.r_v71, Ref.r_v72, Ref.r_cst_19, Ref.r_cst_20, Ref.r_v78, Ref.r_v79, Ref.r_cst_21, Ref.r_v80, Ref.r_v81, Ref.r_v82, Ref.r_v83]
  rw [← ct_eq, lit_r]
  exact (((hx.mul (h8 _)).add (h9 _)).sub (h10 _)).mul ⟨_, rfl⟩

end Cert.LossLnValue

end
-- ==== Proof.LossLn.lean ====
/- The value of `Cert.LossLnIdeal`. -/
module

public import proofs.«01_k».proof.Proof.Gen.LossLnIdeal
public import proofs.«01_k».proof.Proof.Gen.LossLnIdeal.Frame
public import proofs.«01_k».proof.Proof.Gen.LossLnRefIdeal
public import proofs.«01_k».proof.Proof.Common
public import proofs.«01_k».proof.Proof.LnBwd
public import proofs.«01_k».proof.Proof.LossLnRows
public import proofs.«01_k».proof.Proof.LossLnReal
public import Idealize.ShloMosaic.Lib.Claim
public import Idealize.ShloMosaic.Lib.Pointwise
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.LossLnValue

open Cert.LossLnIdeal Cert.LossLnIdeal.Gen

variable (m : (ℓ : Loc nD τ sig) → Buf (Elt Ideal) ℓ)

set_option maxHeartbeats 2000000 in
/-- What the kernel stores of its first result. -/
theorem point_dh (c : Dev nD) (H : Reals m c) (t : Fin cfg0.N) (r : Fin 256) (k : Fin 1024) :
    k0_pay14 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r k)
      = REF_v116 m c (ix2 (rowOf t r) k) := by
  rw [show k0_pay14 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8
    = kdh (k0_pay13 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8) (k0_pay11 (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8) (k0_pay10 (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8) (k0_pay3 (iblk m c 8 t)) from rfl]
  pointwise [kdh]
  simp only [t_row, x_row, w_row]
  pointwise [k0_pay3]
  simp only [g_row]
  generalize rowOf t r = R
  pointwise [REF_v116, Ref.r_v44, Ref.r_v45, Ref.r_cst_9, Ref.r_v47, Ref.r_v48, Ref.r_v53, Ref.r_v54, Ref.r_v58, Ref.r_cst_13, Ref.r_v59, Ref.r_v60, Ref.r_v61, Ref.r_v62, Ref.r_v63, Ref.r_v90, Ref.r_v91, Ref.r_v93, Ref.r_cst_26, Ref.r_v94, Ref.r_v95, Ref.r_v96, Ref.r_v97, Ref.r_v98, Ref.r_v99, Ref.r_cst_27, Ref.r_v100, Ref.r_v101, Ref.r_cst_28, Ref.r_v102, Ref.r_v103, Ref.r_cst_29, Ref.r_v104, Ref.r_v105, Ref.r_v106, Ref.r_v107, Ref.r_cst_30, Ref.r_v108, Ref.r_v109, Ref.r_v110, Ref.r_v111, Ref.r_cst_31, Ref.r_v112, Ref.r_v113, Ref.r_cst_32, Ref.r_v114, Ref.r_v115, Ref.r_v116]
  simp only [Fin.sum_univ_one]
  exact Cert.LnBwd.row (fun i => Ref.r_v39 m c (ix2 R i))
    (fun i => Ref.r_v83 m c (ix2 R i) * A8 m c (ix1 i))
    (fun i => s_real m c H R i)
    (fun i => IsReal.mul (t_real m c H R i) (H.2.2.2.2.2.2.2.2.1 (ix1 i)))
    k _ _ _ (q_mu m c R) (q_s m c R) (q_w m c R)

/-- The reference computes the gate twice. -/
theorem sg_eq (c : Dev nD) : Ref.r_v125 m c = Ref.r_v37 m c := rfl

/-- What the kernel stores of its third result. -/
theorem point_dgate (c : Dev nD) (H : Reals m c) (t : Fin cfg0.N) (r : Fin 256) (k : Fin 1024) :
    k0_pay17 (iblk m c 4 t) (iblk m c 5 t) (k0_pay3 (iblk m c 8 t)) (k0_pay4 (iblk m c 9 t)) (k0_pay5 (iblk m c 3 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r k) = Ref.r_v132 m c (ix2 (rowOf t r) k) := by
  pointwise [k0_pay17, k0_pay5]
  rw [point_dh m c H, sg_row, pp_row]
  generalize rowOf t r = R
  pointwise [Ref.r_cst_35, Ref.r_v126, Ref.r_v127, Ref.r_v128, Ref.r_v131, Ref.r_v132, sg_eq m c]
  exact mul_assoc (G := EReal) _ _ _

/-- What the kernel stores of its fourth result. -/
theorem point_dpp (c : Dev nD) (H : Reals m c) (t : Fin cfg0.N) (r : Fin 256) (k : Fin 1024) :
    k0_pay18 (iblk m c 5 t) (k0_pay3 (iblk m c 8 t)) (k0_pay4 (iblk m c 9 t)) (k0_pay5 (iblk m c 3 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r k) = REF_v138 m c (ix2 (rowOf t r) k) := by
  pointwise [k0_pay18, k0_pay5]
  rw [point_dh m c H, sg_row]
  generalize rowOf t r = R
  pointwise [REF_v138, Ref.r_v138, Ref.r_v130, sg_eq m c]
  exact mul_comm (G := EReal) _ _

/-- The grid has 32 points. -/
theorem lt32 (t : Fin cfg0.N) : t.val < 32 := t.isLt

/-- The reference's loss, column by column: a sum over the rows. -/
theorem ref_loss (c : Dev nD) (a : Fin 1) (l : Fin 1024) : REF_v140 m c (ix2 a l)
    = ∑ n : Fin (32 * 256), Ref.r_v69 m c (ix2 n l) * Ref.r_v69 m c (ix2 n l) := by
  pointwise [REF_v140, Ref.r_v70, Ref.r_cst_38, Ref.r_v139, Ref.r_v140]

/-- The reference's gradient of the gain, a sum over the rows. -/
theorem ref_dg (c : Dev nD) (a : Fin 1) (l : Fin 1024) : REF_v141 m c (ix2 a l)
    = ∑ n : Fin (32 * 256), Ref.r_v83 m c (ix2 n l) * Ref.r_v62 m c (ix2 n l) := by
  pointwise [REF_v141, Ref.r_v87, Ref.r_cst_24, Ref.r_v88, Ref.r_v89, Ref.r_cst_25, Ref.r_v92, Ref.r_v141]
  rw [Fin.sum_univ_one]
  exact Finset.sum_congr rfl fun _ _ => mul_comm (G := EReal) _ _

/-- The reference's gradient of the bias, a sum over the rows. -/
theorem ref_db (c : Dev nD) (a : Fin 1) (l : Fin 1024) : REF_v142 m c (ix2 a l)
    = ∑ n : Fin (32 * 256), Ref.r_v83 m c (ix2 n l) := by
  pointwise [REF_v142, Ref.r_cst_22, Ref.r_v84, Ref.r_v85, Ref.r_cst_23, Ref.r_v86, Ref.r_v142]
  rw [Fin.sum_univ_one]

/-- The reference's gradient of the gate's bias, a sum over the rows. -/
theorem ref_dbias (c : Dev nD) (a : Fin 1) (l : Fin 1024) : REF_v143 m c (ix2 a l)
    = ∑ n : Fin (32 * 256), Ref.r_v132 m c (ix2 n l) := by
  pointwise [REF_v143, Ref.r_cst_36, Ref.r_v133, Ref.r_v134, Ref.r_cst_37, Ref.r_v135, Ref.r_v143]
  rw [Fin.sum_univ_one]

/-- The block of the loss at a grid point. -/
theorem pay20_eq (c : Dev nD) (t : Fin cfg0.N) (j : S1x1024.Idx) :
    k0_pay20 (k0_pay12 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8) j
      = ∑ r : Fin 256, k0_pay12 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r (j 1)) * k0_pay12 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r (j 1)) := by
  pointwise [k0_pay20]

/-- The block of the gradient of the gain at a grid point. -/
theorem pay15_eq (c : Dev nD) (t : Fin cfg0.N) (j : S1x1024.Idx) :
    k0_pay15 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 j
      = ∑ r : Fin 256, k0_pay13 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r (j 1)) * k0_pay11 (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r (j 1)) := by
  pointwise [k0_pay15]

/-- The block of the gradient of the bias at a grid point. -/
theorem pay16_eq (c : Dev nD) (t : Fin cfg0.N) (j : S1x1024.Idx) :
    k0_pay16 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 j = ∑ r : Fin 256, k0_pay13 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r (j 1)) := by
  pointwise [k0_pay16]

/-- The block of the gradient of the gate's bias at a grid point. -/
theorem pay19_eq (c : Dev nD) (t : Fin cfg0.N) (j : S1x1024.Idx) :
    k0_pay19 (k0_pay17 (iblk m c 4 t) (iblk m c 5 t) (k0_pay3 (iblk m c 8 t)) (k0_pay4 (iblk m c 9 t)) (k0_pay5 (iblk m c 3 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8) j = ∑ r : Fin 256, k0_pay17 (iblk m c 4 t) (iblk m c 5 t) (k0_pay3 (iblk m c 8 t)) (k0_pay4 (iblk m c 9 t)) (k0_pay5 (iblk m c 3 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r (j 1)) := by
  pointwise [k0_pay19]

/-- The rows of the grid's points, one after another, are the array's. -/
theorem rowOf_run (t : Fin cfg0.N) (s : Fin 32) (k : Fin 256) (hl : s.val * 256 + k.val < 32 * 256) {h} :
    rowOf ⟨32 * (t.val / 32) + s.val, h⟩ k = ⟨s.val * 256 + k.val, hl⟩ := by
  have ht := lt32 t
  apply Fin.ext
  show (32 * (t.val / 32) + s.val) * 256 + k.val = s.val * 256 + k.val
  have : t.val / 32 = 0 := by omega
  rw [this]; omega

/-- The first result. -/
theorem final_10 (c : Dev nD) (H : Reals m c) : (dats m 0 c).arrAt 10 (cfgs 0).N = (REF_v116 m c) := by
  refine (dats m 0 c).arrAt_eq_of_covers 10 _ (by decide +kernel) fun t hf y => ?_
  obtain ⟨r, k, rfl⟩ : ∃ (r : Fin 256) (k : Fin 1024), y = ix2 r k := ⟨y 0, y 1, eq_ix2 y⟩
  rw [emb_10]
  have ht := lt32 t
  blk_simp; rw [after0_10]
  by_cases h0 : t.val % 32 = 0
  · rw [outsAt0_A m c t h0 (by omega) h0 (by omega) h0 (by omega) h0 (by omega)]; frame_out
    exact point_dh m c H t r k
  · rw [outsAt0_B m c t h0 (by omega) h0 (by omega) h0 (by omega) h0 (by omega)]; frame_out
    exact point_dh m c H t r k

/-- The second result: the first, narrowed. -/
theorem final_11 (c : Dev nD) (H : Reals m c) : (dats m 0 c).arrAt 11 (cfgs 0).N = (REF_v136 m c) := by
  refine (dats m 0 c).arrAt_eq_of_covers 11 _ (by decide +kernel) fun t hf y => ?_
  obtain ⟨r, k, rfl⟩ : ∃ (r : Fin 256) (k : Fin 1024), y = ix2 r k := ⟨y 0, y 1, eq_ix2 y⟩
  rw [emb_11]
  have ht := lt32 t
  blk_simp; rw [after0_11]
  by_cases h0 : t.val % 32 = 0
  · rw [outsAt0_A m c t h0 (by omega) h0 (by omega) h0 (by omega) h0 (by omega)]; frame_out
    exact point_dh m c H t r k
  · rw [outsAt0_B m c t h0 (by omega) h0 (by omega) h0 (by omega) h0 (by omega)]; frame_out
    exact point_dh m c H t r k

/-- The third result: the gradient of the gate's argument. -/
theorem final_12 (c : Dev nD) (H : Reals m c) : (dats m 0 c).arrAt 12 (cfgs 0).N = (REF_v137 m c) := by
  refine (dats m 0 c).arrAt_eq_of_covers 12 _ (by decide +kernel) fun t hf y => ?_
  obtain ⟨r, k, rfl⟩ : ∃ (r : Fin 256) (k : Fin 1024), y = ix2 r k := ⟨y 0, y 1, eq_ix2 y⟩
  rw [emb_12]
  have ht := lt32 t
  blk_simp; rw [after0_12]
  by_cases h0 : t.val % 32 = 0
  · rw [outsAt0_A m c t h0 (by omega) h0 (by omega) h0 (by omega) h0 (by omega)]; frame_out
    exact point_dgate m c H t r k
  · rw [outsAt0_B m c t h0 (by omega) h0 (by omega) h0 (by omega) h0 (by omega)]; frame_out
    exact point_dgate m c H t r k

/-- The fourth result: the gradient of what the gate multiplies. -/
theorem final_13 (c : Dev nD) (H : Reals m c) : (dats m 0 c).arrAt 13 (cfgs 0).N = (REF_v138 m c) := by
  refine (dats m 0 c).arrAt_eq_of_covers 13 _ (by decide +kernel) fun t hf y => ?_
  obtain ⟨r, k, rfl⟩ : ∃ (r : Fin 256) (k : Fin 1024), y = ix2 r k := ⟨y 0, y 1, eq_ix2 y⟩
  rw [emb_13]
  have ht := lt32 t
  blk_simp; rw [after0_13]
  by_cases h0 : t.val % 32 = 0
  · rw [outsAt0_A m c t h0 (by omega) h0 (by omega) h0 (by omega) h0 (by omega)]; frame_out
    exact point_dpp m c H t r k
  · rw [outsAt0_B m c t h0 (by omega) h0 (by omega) h0 (by omega) h0 (by omega)]; frame_out
    exact point_dpp m c H t r k

/-- The fifth result: the loss, column by column. -/
theorem final_14 (c : Dev nD) : (dats m 0 c).arrAt 14 (cfgs 0).N = (REF_v140 m c) := by
  refine (dats m 0 c).arrAt_eq_of_covers 14 _ (by decide +kernel) fun t hf y => ?_
  obtain ⟨a, l, rfl⟩ : ∃ (a : Fin 1) (l : Fin 1024), y = ix2 a l := ⟨y 0, y 1, eq_ix2 y⟩
  rw [show ((cfg0.win 14).blk t).view.emb (ix2 a l) = ix2 a l by blk_ext [idx_val t], ref_loss]
  blk_simp
  rw [after0_14, Pipeline.eq_sum_fin_of_reset_step_apply_of_flush (fun n h => (outsAt0 m c n h).2.2.2.2.1) 32 (fun _ => 0)
    (fun t y => ∑ r : Fin 256, k0_pay12 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r (y 1)) * k0_pay12 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r (y 1)))
    (fun t h j => by
      have ht := lt32 t
      rw [outsAt0_A m c t h (by omega) h (by omega) h (by omega) h (by omega)]; frame_out
      rw [pay20_eq]; rw [zero_add])
    (fun t h j => by
      have ht := lt32 t
      rw [outsAt0_B m c t h (by omega) h (by omega) h (by omega) h (by omega)]; frame_out
      pointwise [k0_pay24]; rw [pay20_eq])
    t ((flush0_14 t).mp hf) _, zero_add]
  refine Fin.sum_mul_add_congr fun s k hl => ?_
  refine (congrArg₂ (fun x y : EReal => x * y) (e_row m c _ k l) (e_row m c _ k l)).trans ?_
  rw [rowOf_run t s k hl]

/-- The sixth result: the gradient of the gain. -/
theorem final_15 (c : Dev nD) : (dats m 0 c).arrAt 15 (cfgs 0).N = (REF_v141 m c) := by
  refine (dats m 0 c).arrAt_eq_of_covers 15 _ (by decide +kernel) fun t hf y => ?_
  obtain ⟨a, l, rfl⟩ : ∃ (a : Fin 1) (l : Fin 1024), y = ix2 a l := ⟨y 0, y 1, eq_ix2 y⟩
  rw [show ((cfg0.win 15).blk t).view.emb (ix2 a l) = ix2 a l by blk_ext [idx_val t], ref_dg]
  blk_simp
  rw [after0_15, Pipeline.eq_sum_fin_of_reset_step_apply_of_flush (fun n h => (outsAt0 m c n h).2.2.2.2.2.1) 32 (fun _ => 0)
    (fun t y => ∑ r : Fin 256, k0_pay13 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r (y 1)) * k0_pay11 (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r (y 1)))
    (fun t h j => by
      have ht := lt32 t
      rw [outsAt0_A m c t h (by omega) h (by omega) h (by omega) h (by omega)]; frame_out
      rw [pay15_eq]; rw [zero_add])
    (fun t h j => by
      have ht := lt32 t
      rw [outsAt0_B m c t h (by omega) h (by omega) h (by omega) h (by omega)]; frame_out
      pointwise [k0_pay25]; rw [pay15_eq])
    t ((flush0_15 t).mp hf) _, zero_add]
  refine Fin.sum_mul_add_congr fun s k hl => ?_
  refine (congrArg₂ (fun x y : EReal => x * y) (t_row m c _ k l) (x_row m c _ k l)).trans ?_
  rw [rowOf_run t s k hl]

/-- The seventh result: the gradient of the bias. -/
theorem final_16 (c : Dev nD) : (dats m 0 c).arrAt 16 (cfgs 0).N = (REF_v142 m c) := by
  refine (dats m 0 c).arrAt_eq_of_covers 16 _ (by decide +kernel) fun t hf y => ?_
  obtain ⟨a, l, rfl⟩ : ∃ (a : Fin 1) (l : Fin 1024), y = ix2 a l := ⟨y 0, y 1, eq_ix2 y⟩
  rw [show ((cfg0.win 16).blk t).view.emb (ix2 a l) = ix2 a l by blk_ext [idx_val t], ref_db]
  blk_simp
  rw [after0_16, Pipeline.eq_sum_fin_of_reset_step_apply_of_flush (fun n h => (outsAt0 m c n h).2.2.2.2.2.2.1) 32 (fun _ => 0)
    (fun t y => ∑ r : Fin 256, k0_pay13 (iblk m c 5 t) (k0_pay3 (iblk m c 8 t)) (k0_pay4 (iblk m c 9 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r (y 1)))
    (fun t h j => by
      have ht := lt32 t
      rw [outsAt0_A m c t h (by omega) h (by omega) h (by omega) h (by omega)]; frame_out
      rw [pay16_eq]; rw [zero_add])
    (fun t h j => by
      have ht := lt32 t
      rw [outsAt0_B m c t h (by omega) h (by omega) h (by omega) h (by omega)]; frame_out
      pointwise [k0_pay1]; rw [pay16_eq])
    t ((flush0_16 t).mp hf) _, zero_add]
  refine Fin.sum_mul_add_congr fun s k hl => ?_
  refine (t_row m c _ k l).trans ?_
  rw [rowOf_run t s k hl]

/-- The eighth result: the gradient of the gate's bias. -/
theorem final_17 (c : Dev nD) (H : Reals m c) : (dats m 0 c).arrAt 17 (cfgs 0).N = (REF_v143 m c) := by
  refine (dats m 0 c).arrAt_eq_of_covers 17 _ (by decide +kernel) fun t hf y => ?_
  obtain ⟨a, l, rfl⟩ : ∃ (a : Fin 1) (l : Fin 1024), y = ix2 a l := ⟨y 0, y 1, eq_ix2 y⟩
  rw [show ((cfg0.win 17).blk t).view.emb (ix2 a l) = ix2 a l by blk_ext [idx_val t], ref_dbias]
  blk_simp
  rw [after0_17, Pipeline.eq_sum_fin_of_reset_step_apply_of_flush (fun n h => (outsAt0 m c n h).2.2.2.2.2.2.2) 32 (fun _ => 0)
    (fun t y => ∑ r : Fin 256, k0_pay17 (iblk m c 4 t) (iblk m c 5 t) (k0_pay3 (iblk m c 8 t)) (k0_pay4 (iblk m c 9 t)) (k0_pay5 (iblk m c 3 t)) (k0_pay6 (iblk m c 0 t) (iblk m c 1 t) (iblk m c 2 t) (iblk m c 3 t) (iblk m c 4 t) (iblk m c 6 t) (iblk m c 7 t)) (k0_pay7 (iblk m c 0 t) (iblk m c 1 t) (iblk m c 2 t) (iblk m c 3 t) (iblk m c 4 t) (iblk m c 6 t) (iblk m c 7 t)) k0_pay8 (ix2 r (y 1)))
    (fun t h j => by
      have ht := lt32 t
      rw [outsAt0_A m c t h (by omega) h (by omega) h (by omega) h (by omega)]; frame_out
      rw [pay19_eq]; rw [zero_add])
    (fun t h j => by
      have ht := lt32 t
      rw [outsAt0_B m c t h (by omega) h (by omega) h (by omega) h (by omega)]; frame_out
      pointwise [k0_pay2]; rw [pay19_eq])
    t ((flush0_17 t).mp hf) _, zero_add]
  refine Fin.sum_mul_add_congr fun s k hl => ?_
  refine (point_dgate m c H _ k l).trans ?_
  rw [rowOf_run t s k hl]

end Cert.LossLnValue

end
-- ==== Proof.Values0.lean ====
module

public import proofs.«01_k».proof.Defs
public import proofs.«01_k».proof.Proof.Gen.MlpDownIdeal.Frame
public import proofs.«01_k».proof.Proof.Gen.MlpDownRefIdeal
public import proofs.«01_k».proof.Proof.MlpDown
public import proofs.«01_k».proof.Proof.Gen.MlpDwTwoIdeal.Frame
public import proofs.«01_k».proof.Proof.Gen.MlpDwTwoRefIdeal
public import proofs.«01_k».proof.Proof.MlpDwTwo
public import proofs.«01_k».proof.Proof.Gen.MlpDwOneIdeal.Frame
public import proofs.«01_k».proof.Proof.Gen.MlpDwOneRefIdeal
public import proofs.«01_k».proof.Proof.MlpDwOne
public import proofs.«01_k».proof.Proof.Gen.PleDwGIdeal.Frame
public import proofs.«01_k».proof.Proof.Gen.PleDwGRefIdeal
public import proofs.«01_k».proof.Proof.PleDwG
public import proofs.«01_k».proof.Proof.Gen.PleDwPIdeal.Frame
public import proofs.«01_k».proof.Proof.Gen.PleDwPRefIdeal
public import proofs.«01_k».proof.Proof.PleDwP
public import proofs.«01_k».proof.Proof.Gen.PleGateBwdIdeal.Frame
public import proofs.«01_k».proof.Proof.Gen.PleGateBwdRefIdeal
public import proofs.«01_k».proof.Proof.PleGateBwd
public import proofs.«01_k».proof.Proof.Gen.MlpUpIdeal.Frame
public import proofs.«01_k».proof.Proof.Gen.MlpUpRefIdeal
public import proofs.«01_k».proof.Proof.MlpUp
public import proofs.«01_k».proof.Proof.Gen.PleGateIdeal.Frame
public import proofs.«01_k».proof.Proof.Gen.PleGateRefIdeal
public import proofs.«01_k».proof.Proof.PleGate
public import Idealize.ShloMosaic.Lib.Claim
public import Idealize.ShloMosaic.Lib.StableHlo.Run

@[expose] public section

noncomputable section

open Idealize.ShloMosaic Idealize.ShloMosaic.TcCoe Idealize.SL.Sem

/-- The ideal reading of MlpDown computes what its reference's does. -/
theorem Cert.MlpDownValue.value : Cert.algebraic_MlpDownIdeal_MlpDownRefIdeal (hMlpDownIdeal := Cert.MlpDownIdeal.Gen.facts) (hMlpDownRefIdeal := Cert.MlpDownRefIdeal.Gen.facts) := by
  pair_intro
  · run_from Cert.MlpDownIdeal.Gen.run_main m g
  · hlo_run
    exact (Cert.MlpDownValue.final m c).symm

/-- The ideal reading of MlpDwTwo computes what its reference's does. -/
theorem Cert.MlpDwTwoValue.value : Cert.algebraic_MlpDwTwoIdeal_MlpDwTwoRefIdeal (hMlpDwTwoIdeal := Cert.MlpDwTwoIdeal.Gen.facts) (hMlpDwTwoRefIdeal := Cert.MlpDwTwoRefIdeal.Gen.facts) := by
  pair_intro
  · run_from Cert.MlpDwTwoIdeal.Gen.run_main m g
  · hlo_run
    exact (Cert.MlpDwTwoValue.final m c).symm

/-- The ideal reading of MlpDwOne computes what its reference's does. -/
theorem Cert.MlpDwOneValue.value : Cert.algebraic_MlpDwOneIdeal_MlpDwOneRefIdeal (hMlpDwOneIdeal := Cert.MlpDwOneIdeal.Gen.facts) (hMlpDwOneRefIdeal := Cert.MlpDwOneRefIdeal.Gen.facts) := by
  pair_intro
  · run_from Cert.MlpDwOneIdeal.Gen.run_main m g
  · hlo_run
    exact (Cert.MlpDwOneValue.final m c).symm

/-- The ideal reading of PleDwG computes what its reference's does. -/
theorem Cert.PleDwGValue.value : Cert.algebraic_PleDwGIdeal_PleDwGRefIdeal (hPleDwGIdeal := Cert.PleDwGIdeal.Gen.facts) (hPleDwGRefIdeal := Cert.PleDwGRefIdeal.Gen.facts) := by
  pair_intro
  · run_from Cert.PleDwGIdeal.Gen.run_main m g
  · hlo_run
    exact (Cert.PleDwGValue.final m c).symm

/-- The ideal reading of PleDwP computes what its reference's does. -/
theorem Cert.PleDwPValue.value : Cert.algebraic_PleDwPIdeal_PleDwPRefIdeal (hPleDwPIdeal := Cert.PleDwPIdeal.Gen.facts) (hPleDwPRefIdeal := Cert.PleDwPRefIdeal.Gen.facts) := by
  pair_intro
  · run_from Cert.PleDwPIdeal.Gen.run_main m g
  · hlo_run
    exact (Cert.PleDwPValue.final m c).symm

/-- The ideal reading of PleGateBwd computes what its reference's does. -/
theorem Cert.PleGateBwdValue.value : Cert.algebraic_PleGateBwdIdeal_PleGateBwdRefIdeal (hPleGateBwdIdeal := Cert.PleGateBwdIdeal.Gen.facts) (hPleGateBwdRefIdeal := Cert.PleGateBwdRefIdeal.Gen.facts) := by
  pair_intro
  · run_from Cert.PleGateBwdIdeal.Gen.run_main m g
  · hlo_run
    exact (Cert.PleGateBwdValue.final m c).symm

/-- The ideal reading of MlpUp computes what its reference's does. -/
theorem Cert.MlpUpValue.value : Cert.algebraic_MlpUpIdeal_MlpUpRefIdeal (hMlpUpIdeal := Cert.MlpUpIdeal.Gen.facts) (hMlpUpRefIdeal := Cert.MlpUpRefIdeal.Gen.facts) := by
  pair_intro
  · run_from Cert.MlpUpIdeal.Gen.run_main m g
  · hlo_run
    exact (Cert.MlpUpValue.final m c).symm

/-- The ideal reading of PleGate computes what its reference's does. -/
theorem Cert.PleGateValue.value : Cert.algebraic_PleGateIdeal_PleGateRefIdeal (hPleGateIdeal := Cert.PleGateIdeal.Gen.facts) (hPleGateRefIdeal := Cert.PleGateRefIdeal.Gen.facts) := by
  pair_intro
  · run_from Cert.PleGateIdeal.Gen.run_main m g
  · hlo_run
    exact (Cert.PleGateValue.final m c).symm

end
-- ==== Proof.Values1.lean ====
module

public import proofs.«01_k».proof.Defs
public import proofs.«01_k».proof.Proof.Gen.PleProjIdeal.Frame
public import proofs.«01_k».proof.Proof.Gen.PleProjRefIdeal
public import proofs.«01_k».proof.Proof.PleProj
public import proofs.«01_k».proof.Proof.Gen.InQkvIdeal.Frame
public import proofs.«01_k».proof.Proof.Gen.InQkvRefIdeal
public import proofs.«01_k».proof.Proof.InQkv
public import proofs.«01_k».proof.Proof.Gen.InZIdeal.Frame
public import proofs.«01_k».proof.Proof.Gen.InZRefIdeal
public import proofs.«01_k».proof.Proof.InZ
public import proofs.«01_k».proof.Proof.Gen.InBaIdeal.Frame
public import proofs.«01_k».proof.Proof.Gen.InBaRefIdeal
public import proofs.«01_k».proof.Proof.InBa
public import proofs.«01_k».proof.Proof.Gen.DwQkvIdeal.Frame
public import proofs.«01_k».proof.Proof.Gen.DwQkvRefIdeal
public import proofs.«01_k».proof.Proof.DwQkv
public import proofs.«01_k».proof.Proof.Gen.DwZIdeal.Frame
public import proofs.«01_k».proof.Proof.Gen.DwZRefIdeal
public import proofs.«01_k».proof.Proof.DwZ
public import proofs.«01_k».proof.Proof.Gen.DwBaIdeal.Frame
public import proofs.«01_k».proof.Proof.Gen.DwBaRefIdeal
public import proofs.«01_k».proof.Proof.DwBa
public import proofs.«01_k».proof.Proof.Gen.DwOutIdeal.Frame
public import proofs.«01_k».proof.Proof.Gen.DwOutRefIdeal
public import proofs.«01_k».proof.Proof.DwOut
public import Idealize.ShloMosaic.Lib.Claim
public import Idealize.ShloMosaic.Lib.StableHlo.Run

@[expose] public section

noncomputable section

open Idealize.ShloMosaic Idealize.ShloMosaic.TcCoe Idealize.SL.Sem

/-- The ideal reading of PleProj computes what its reference's does. -/
theorem Cert.PleProjValue.value : Cert.algebraic_PleProjIdeal_PleProjRefIdeal (hPleProjIdeal := Cert.PleProjIdeal.Gen.facts) (hPleProjRefIdeal := Cert.PleProjRefIdeal.Gen.facts) := by
  pair_intro
  · run_from Cert.PleProjIdeal.Gen.run_main m g
  · hlo_run
    exact (Cert.PleProjValue.final m c).symm

/-- The ideal reading of InQkv computes what its reference's does. -/
theorem Cert.InQkvValue.value : Cert.algebraic_InQkvIdeal_InQkvRefIdeal (hInQkvIdeal := Cert.InQkvIdeal.Gen.facts) (hInQkvRefIdeal := Cert.InQkvRefIdeal.Gen.facts) := by
  pair_intro
  · run_from Cert.InQkvIdeal.Gen.run_main m g
  · hlo_run
    exact (Cert.InQkvValue.final m c).symm

/-- The ideal reading of InZ computes what its reference's does. -/
theorem Cert.InZValue.value : Cert.algebraic_InZIdeal_InZRefIdeal (hInZIdeal := Cert.InZIdeal.Gen.facts) (hInZRefIdeal := Cert.InZRefIdeal.Gen.facts) := by
  pair_intro
  · run_from Cert.InZIdeal.Gen.run_main m g
  · hlo_run
    exact (Cert.InZValue.final m c).symm

/-- The ideal reading of InBa computes what its reference's does. -/
theorem Cert.InBaValue.value : Cert.algebraic_InBaIdeal_InBaRefIdeal (hInBaIdeal := Cert.InBaIdeal.Gen.facts) (hInBaRefIdeal := Cert.InBaRefIdeal.Gen.facts) := by
  pair_intro
  · run_from Cert.InBaIdeal.Gen.run_main m g
  · hlo_run
    exact (Cert.InBaValue.final m c).symm

/-- The ideal reading of DwQkv computes what its reference's does. -/
theorem Cert.DwQkvValue.value : Cert.algebraic_DwQkvIdeal_DwQkvRefIdeal (hDwQkvIdeal := Cert.DwQkvIdeal.Gen.facts) (hDwQkvRefIdeal := Cert.DwQkvRefIdeal.Gen.facts) := by
  pair_intro
  · run_from Cert.DwQkvIdeal.Gen.run_main m g
  · hlo_run
    exact (Cert.DwQkvValue.final m c).symm

/-- The ideal reading of DwZ computes what its reference's does. -/
theorem Cert.DwZValue.value : Cert.algebraic_DwZIdeal_DwZRefIdeal (hDwZIdeal := Cert.DwZIdeal.Gen.facts) (hDwZRefIdeal := Cert.DwZRefIdeal.Gen.facts) := by
  pair_intro
  · run_from Cert.DwZIdeal.Gen.run_main m g
  · hlo_run
    exact (Cert.DwZValue.final m c).symm

/-- The ideal reading of DwBa computes what its reference's does. -/
theorem Cert.DwBaValue.value : Cert.algebraic_DwBaIdeal_DwBaRefIdeal (hDwBaIdeal := Cert.DwBaIdeal.Gen.facts) (hDwBaRefIdeal := Cert.DwBaRefIdeal.Gen.facts) := by
  pair_intro
  · run_from Cert.DwBaIdeal.Gen.run_main m g
  · hlo_run
    exact (Cert.DwBaValue.final m c).symm

/-- The ideal reading of DwOut computes what its reference's does. -/
theorem Cert.DwOutValue.value : Cert.algebraic_DwOutIdeal_DwOutRefIdeal (hDwOutIdeal := Cert.DwOutIdeal.Gen.facts) (hDwOutRefIdeal := Cert.DwOutRefIdeal.Gen.facts) := by
  pair_intro
  · run_from Cert.DwOutIdeal.Gen.run_main m g
  · hlo_run
    exact (Cert.DwOutValue.final m c).symm

end
-- ==== Proof.Values2.lean ====
module

public import proofs.«01_k».proof.Defs
public import proofs.«01_k».proof.Proof.Gen.InBaBwdIdeal.Frame
public import proofs.«01_k».proof.Proof.Gen.InBaBwdRefIdeal
public import proofs.«01_k».proof.Proof.InBaBwd
public import proofs.«01_k».proof.Proof.Gen.InZBwdIdeal.Frame
public import proofs.«01_k».proof.Proof.Gen.InZBwdRefIdeal
public import proofs.«01_k».proof.Proof.InZBwd
public import proofs.«01_k».proof.Proof.Gen.AdLnIdeal.Frame
public import proofs.«01_k».proof.Proof.Gen.AdLnRefIdeal
public import proofs.«01_k».proof.Proof.AdLn
public import proofs.«01_k».proof.Proof.Gen.AdPoolWIdeal.Frame
public import proofs.«01_k».proof.Proof.Gen.AdPoolWRefIdeal
public import proofs.«01_k».proof.Proof.AdPoolW
public import proofs.«01_k».proof.Proof.Gen.AdPoolBIdeal.Frame
public import proofs.«01_k».proof.Proof.Gen.AdPoolBRefIdeal
public import proofs.«01_k».proof.Proof.AdPoolB
public import proofs.«01_k».proof.Proof.Gen.AdPoolSIdeal.Frame
public import proofs.«01_k».proof.Proof.Gen.AdPoolSRefIdeal
public import proofs.«01_k».proof.Proof.AdPoolS
public import proofs.«01_k».proof.Proof.Gen.AdInIdeal.Frame
public import proofs.«01_k».proof.Proof.Gen.AdInRefIdeal
public import proofs.«01_k».proof.Proof.AdIn
public import proofs.«01_k».proof.Proof.Gen.AdConvIdeal.Frame
public import proofs.«01_k».proof.Proof.Gen.AdConvRefIdeal
public import proofs.«01_k».proof.Proof.AdConv
public import Idealize.ShloMosaic.Lib.Claim
public import Idealize.ShloMosaic.Lib.StableHlo.Run

@[expose] public section

noncomputable section

open Idealize.ShloMosaic Idealize.ShloMosaic.TcCoe Idealize.SL.Sem

/-- The ideal reading of InBaBwd computes what its reference's does. -/
theorem Cert.InBaBwdValue.value : Cert.algebraic_InBaBwdIdeal_InBaBwdRefIdeal (hInBaBwdIdeal := Cert.InBaBwdIdeal.Gen.facts) (hInBaBwdRefIdeal := Cert.InBaBwdRefIdeal.Gen.facts) := by
  pair_intro
  · run_from Cert.InBaBwdIdeal.Gen.run_main m g
  · hlo_run
    exact (Cert.InBaBwdValue.final m c).symm

/-- The ideal reading of InZBwd computes what its reference's does. -/
theorem Cert.InZBwdValue.value : Cert.algebraic_InZBwdIdeal_InZBwdRefIdeal (hInZBwdIdeal := Cert.InZBwdIdeal.Gen.facts) (hInZBwdRefIdeal := Cert.InZBwdRefIdeal.Gen.facts) := by
  pair_intro
  · run_from Cert.InZBwdIdeal.Gen.run_main m g
  · hlo_run
    exact (Cert.InZBwdValue.final m c).symm

/-- The ideal reading of AdLn computes what its reference's does. -/
theorem Cert.AdLnValue.value : Cert.algebraic_AdLnIdeal_AdLnRefIdeal (hAdLnIdeal := Cert.AdLnIdeal.Gen.facts) (hAdLnRefIdeal := Cert.AdLnRefIdeal.Gen.facts) := by
  pair_intro
  · run_from Cert.AdLnIdeal.Gen.run_main m g
  · hlo_run
    · exact (Cert.AdLnValue.final_4 m c).symm
    · exact (Cert.AdLnValue.final_5 m c).symm
    · exact (Cert.AdLnValue.final_6 m c).symm

/-- The ideal reading of AdPoolW computes what its reference's does. -/
theorem Cert.AdPoolWValue.value : Cert.algebraic_AdPoolWIdeal_AdPoolWRefIdeal (hAdPoolWIdeal := Cert.AdPoolWIdeal.Gen.facts) (hAdPoolWRefIdeal := Cert.AdPoolWRefIdeal.Gen.facts) := by
  pair_intro
  · run_from Cert.AdPoolWIdeal.Gen.run_main m g
  · hlo_run
    · exact (Cert.AdPoolWValue.final_4 m c).symm
    · exact (Cert.AdPoolWValue.final_5 m c).symm
    · exact (Cert.AdPoolWValue.final_6 m c).symm

/-- The ideal reading of AdPoolB computes what its reference's does. -/
theorem Cert.AdPoolBValue.value : Cert.algebraic_AdPoolBIdeal_AdPoolBRefIdeal (hAdPoolBIdeal := Cert.AdPoolBIdeal.Gen.facts) (hAdPoolBRefIdeal := Cert.AdPoolBRefIdeal.Gen.facts) := by
  pair_intro
  · run_from Cert.AdPoolBIdeal.Gen.run_main m g
  · hlo_run
    · exact (Cert.AdPoolBValue.final_4 m c).symm
    · exact (Cert.AdPoolBValue.final_5 m c).symm
    · exact (Cert.AdPoolBValue.final_6 m c).symm

/-- The ideal reading of AdPoolS computes what its reference's does. -/
theorem Cert.AdPoolSValue.value : Cert.algebraic_AdPoolSIdeal_AdPoolSRefIdeal (hAdPoolSIdeal := Cert.AdPoolSIdeal.Gen.facts) (hAdPoolSRefIdeal := Cert.AdPoolSRefIdeal.Gen.facts) := by
  pair_intro
  · run_from Cert.AdPoolSIdeal.Gen.run_main m g
  · hlo_run
    · exact (Cert.AdPoolSValue.final_4 m c).symm
    · exact (Cert.AdPoolSValue.final_5 m c).symm
    · exact (Cert.AdPoolSValue.final_6 m c).symm

/-- The ideal reading of AdIn computes what its reference's does. -/
theorem Cert.AdInValue.value : Cert.algebraic_AdInIdeal_AdInRefIdeal (hAdInIdeal := Cert.AdInIdeal.Gen.facts) (hAdInRefIdeal := Cert.AdInRefIdeal.Gen.facts) := by
  pair_intro
  · run_from Cert.AdInIdeal.Gen.run_main m g
  · hlo_run
    · exact (Cert.AdInValue.final_4 m c).symm
    · exact (Cert.AdInValue.final_5 m c).symm
    · exact (Cert.AdInValue.final_6 m c).symm

/-- The ideal reading of AdConv computes what its reference's does. -/
theorem Cert.AdConvValue.value : Cert.algebraic_AdConvIdeal_AdConvRefIdeal (hAdConvIdeal := Cert.AdConvIdeal.Gen.facts) (hAdConvRefIdeal := Cert.AdConvRefIdeal.Gen.facts) := by
  pair_intro
  · run_from Cert.AdConvIdeal.Gen.run_main m g
  · hlo_run
    · exact (Cert.AdConvValue.final_4 m c).symm
    · exact (Cert.AdConvValue.final_5 m c).symm
    · exact (Cert.AdConvValue.final_6 m c).symm

end
-- ==== Proof.Values3.lean ====
module

public import proofs.«01_k».proof.Defs
public import proofs.«01_k».proof.Proof.Gen.AdHeadsIdeal.Frame
public import proofs.«01_k».proof.Proof.Gen.AdHeadsRefIdeal
public import proofs.«01_k».proof.Proof.AdHeads
public import proofs.«01_k».proof.Proof.Gen.AdNormIdeal.Frame
public import proofs.«01_k».proof.Proof.Gen.AdNormRefIdeal
public import proofs.«01_k».proof.Proof.AdNorm
public import proofs.«01_k».proof.Proof.Gen.AdOutIdeal.Frame
public import proofs.«01_k».proof.Proof.Gen.AdOutRefIdeal
public import proofs.«01_k».proof.Proof.AdOut
public import proofs.«01_k».proof.Proof.Gen.AdOneIdeal.Frame
public import proofs.«01_k».proof.Proof.Gen.AdOneRefIdeal
public import proofs.«01_k».proof.Proof.AdOne
public import proofs.«01_k».proof.Proof.Gen.AdTwoIdeal.Frame
public import proofs.«01_k».proof.Proof.Gen.AdTwoRefIdeal
public import proofs.«01_k».proof.Proof.AdTwo
public import proofs.«01_k».proof.Proof.Gen.AdGateIdeal.Frame
public import proofs.«01_k».proof.Proof.Gen.AdGateRefIdeal
public import proofs.«01_k».proof.Proof.AdGate
public import proofs.«01_k».proof.Proof.Gen.AdGateBIdeal.Frame
public import proofs.«01_k».proof.Proof.Gen.AdGateBRefIdeal
public import proofs.«01_k».proof.Proof.AdGateB
public import proofs.«01_k».proof.Proof.Gen.AdProjIdeal.Frame
public import proofs.«01_k».proof.Proof.Gen.AdProjRefIdeal
public import proofs.«01_k».proof.Proof.AdProj
public import Idealize.ShloMosaic.Lib.Claim
public import Idealize.ShloMosaic.Lib.StableHlo.Run

@[expose] public section

noncomputable section

open Idealize.ShloMosaic Idealize.ShloMosaic.TcCoe Idealize.SL.Sem

/-- The ideal reading of AdHeads computes what its reference's does. -/
theorem Cert.AdHeadsValue.value : Cert.algebraic_AdHeadsIdeal_AdHeadsRefIdeal (hAdHeadsIdeal := Cert.AdHeadsIdeal.Gen.facts) (hAdHeadsRefIdeal := Cert.AdHeadsRefIdeal.Gen.facts) := by
  pair_intro
  · run_from Cert.AdHeadsIdeal.Gen.run_main m g
  · hlo_run
    · exact (Cert.AdHeadsValue.final_4 m c).symm
    · exact (Cert.AdHeadsValue.final_5 m c).symm
    · exact (Cert.AdHeadsValue.final_6 m c).symm

/-- The ideal reading of AdNorm computes what its reference's does. -/
theorem Cert.AdNormValue.value : Cert.algebraic_AdNormIdeal_AdNormRefIdeal (hAdNormIdeal := Cert.AdNormIdeal.Gen.facts) (hAdNormRefIdeal := Cert.AdNormRefIdeal.Gen.facts) := by
  pair_intro
  · run_from Cert.AdNormIdeal.Gen.run_main m g
  · hlo_run
    · exact (Cert.AdNormValue.final_4 m c).symm
    · exact (Cert.AdNormValue.final_5 m c).symm
    · exact (Cert.AdNormValue.final_6 m c).symm

/-- The ideal reading of AdOut computes what its reference's does. -/
theorem Cert.AdOutValue.value : Cert.algebraic_AdOutIdeal_AdOutRefIdeal (hAdOutIdeal := Cert.AdOutIdeal.Gen.facts) (hAdOutRefIdeal := Cert.AdOutRefIdeal.Gen.facts) := by
  pair_intro
  · run_from Cert.AdOutIdeal.Gen.run_main m g
  · hlo_run
    · exact (Cert.AdOutValue.final_4 m c).symm
    · exact (Cert.AdOutValue.final_5 m c).symm
    · exact (Cert.AdOutValue.final_6 m c).symm

/-- The ideal reading of AdOne computes what its reference's does. -/
theorem Cert.AdOneValue.value : Cert.algebraic_AdOneIdeal_AdOneRefIdeal (hAdOneIdeal := Cert.AdOneIdeal.Gen.facts) (hAdOneRefIdeal := Cert.AdOneRefIdeal.Gen.facts) := by
  pair_intro
  · run_from Cert.AdOneIdeal.Gen.run_main m g
  · hlo_run
    · exact (Cert.AdOneValue.final_4 m c).symm
    · exact (Cert.AdOneValue.final_5 m c).symm
    · exact (Cert.AdOneValue.final_6 m c).symm

/-- The ideal reading of AdTwo computes what its reference's does. -/
theorem Cert.AdTwoValue.value : Cert.algebraic_AdTwoIdeal_AdTwoRefIdeal (hAdTwoIdeal := Cert.AdTwoIdeal.Gen.facts) (hAdTwoRefIdeal := Cert.AdTwoRefIdeal.Gen.facts) := by
  pair_intro
  · run_from Cert.AdTwoIdeal.Gen.run_main m g
  · hlo_run
    · exact (Cert.AdTwoValue.final_4 m c).symm
    · exact (Cert.AdTwoValue.final_5 m c).symm
    · exact (Cert.AdTwoValue.final_6 m c).symm

/-- The ideal reading of AdGate computes what its reference's does. -/
theorem Cert.AdGateValue.value : Cert.algebraic_AdGateIdeal_AdGateRefIdeal (hAdGateIdeal := Cert.AdGateIdeal.Gen.facts) (hAdGateRefIdeal := Cert.AdGateRefIdeal.Gen.facts) := by
  pair_intro
  · run_from Cert.AdGateIdeal.Gen.run_main m g
  · hlo_run
    · exact (Cert.AdGateValue.final_4 m c).symm
    · exact (Cert.AdGateValue.final_5 m c).symm
    · exact (Cert.AdGateValue.final_6 m c).symm

/-- The ideal reading of AdGateB computes what its reference's does. -/
theorem Cert.AdGateBValue.value : Cert.algebraic_AdGateBIdeal_AdGateBRefIdeal (hAdGateBIdeal := Cert.AdGateBIdeal.Gen.facts) (hAdGateBRefIdeal := Cert.AdGateBRefIdeal.Gen.facts) := by
  pair_intro
  · run_from Cert.AdGateBIdeal.Gen.run_main m g
  · hlo_run
    · exact (Cert.AdGateBValue.final_4 m c).symm
    · exact (Cert.AdGateBValue.final_5 m c).symm
    · exact (Cert.AdGateBValue.final_6 m c).symm

/-- The ideal reading of AdProj computes what its reference's does. -/
theorem Cert.AdProjValue.value : Cert.algebraic_AdProjIdeal_AdProjRefIdeal (hAdProjIdeal := Cert.AdProjIdeal.Gen.facts) (hAdProjRefIdeal := Cert.AdProjRefIdeal.Gen.facts) := by
  pair_intro
  · run_from Cert.AdProjIdeal.Gen.run_main m g
  · hlo_run
    · exact (Cert.AdProjValue.final_4 m c).symm
    · exact (Cert.AdProjValue.final_5 m c).symm
    · exact (Cert.AdProjValue.final_6 m c).symm

end
-- ==== Proof.ValuesMlpLn.lean ====
module

public import proofs.«01_k».proof.Defs
public import proofs.«01_k».proof.Proof.Gen.MlpLnIdeal.Frame
public import proofs.«01_k».proof.Proof.Gen.MlpLnRefIdeal
public import proofs.«01_k».proof.Proof.MlpLn
public import Idealize.ShloMosaic.Lib.Claim
public import Idealize.ShloMosaic.Lib.StableHlo.Run

@[expose] public section

noncomputable section

open Idealize.ShloMosaic Idealize.ShloMosaic.TcCoe Idealize.SL.Sem

set_option maxHeartbeats 8000000 in
/-- The ideal reading of MlpLn computes what its reference's does. -/
theorem Cert.MlpLnValue.value : Cert.algebraic_MlpLnIdeal_MlpLnRefIdeal (hMlpLnIdeal := Cert.MlpLnIdeal.Gen.facts) (hMlpLnRefIdeal := Cert.MlpLnRefIdeal.Gen.facts) := by
  pair_intro
  · run_from Cert.MlpLnIdeal.Gen.run_main m g
  · hlo_run
    · exact (Cert.MlpLnValue.final_9 m c).symm
    · exact (Cert.MlpLnValue.final_10 m c).symm
    · exact (Cert.MlpLnValue.final_11 m c).symm

end
-- ==== Proof.ValuesOutLn.lean ====
module

public import proofs.«01_k».proof.Defs
public import proofs.«01_k».proof.Proof.Gen.OutLnIdeal.Frame
public import proofs.«01_k».proof.Proof.Gen.OutLnRefIdeal
public import proofs.«01_k».proof.Proof.OutLn
public import Idealize.ShloMosaic.Lib.Claim
public import Idealize.ShloMosaic.Lib.StableHlo.Run

@[expose] public section

noncomputable section

open Idealize.ShloMosaic Idealize.ShloMosaic.TcCoe Idealize.SL.Sem

set_option maxHeartbeats 8000000 in
/-- The ideal reading of OutLn computes what its reference's does. -/
theorem Cert.OutLnValue.value : Cert.algebraic_OutLnIdeal_OutLnRefIdeal (hOutLnIdeal := Cert.OutLnIdeal.Gen.facts) (hOutLnRefIdeal := Cert.OutLnRefIdeal.Gen.facts) := by
  pair_intro
  · run_from Cert.OutLnIdeal.Gen.run_main m g
  · hlo_run
    · exact (Cert.OutLnValue.final_7 m c).symm
    · exact (Cert.OutLnValue.final_8 m c).symm
    · exact (Cert.OutLnValue.final_9 m c).symm

end
-- ==== Proof.ValuesPoolDw.lean ====
module

public import proofs.«01_k».proof.Defs
public import proofs.«01_k».proof.Proof.Gen.PoolDwIdeal.Frame
public import proofs.«01_k».proof.Proof.Gen.PoolDwRefIdeal
public import proofs.«01_k».proof.Proof.PoolDw
public import Idealize.ShloMosaic.Lib.Claim
public import Idealize.ShloMosaic.Lib.StableHlo.Run

@[expose] public section

noncomputable section

open Idealize.ShloMosaic Idealize.ShloMosaic.TcCoe Idealize.SL.Sem

set_option maxHeartbeats 8000000 in
/-- The ideal reading of PoolDw computes what its reference's does. -/
theorem Cert.PoolDwValue.value : Cert.algebraic_PoolDwIdeal_PoolDwRefIdeal (hPoolDwIdeal := Cert.PoolDwIdeal.Gen.facts) (hPoolDwRefIdeal := Cert.PoolDwRefIdeal.Gen.facts) := by
  pair_intro
  · run_from Cert.PoolDwIdeal.Gen.run_main m g
  · hlo_run
    exact (Cert.PoolDwValue.final m c).symm

end
-- ==== Proof.ValuesPoolBwd.lean ====
module

public import proofs.«01_k».proof.Defs
public import proofs.«01_k».proof.Proof.Gen.PoolBwdIdeal.Frame
public import proofs.«01_k».proof.Proof.Gen.PoolBwdRefIdeal
public import proofs.«01_k».proof.Proof.PoolBwd
public import Idealize.ShloMosaic.Lib.Claim
public import Idealize.ShloMosaic.Lib.StableHlo.Run

@[expose] public section

noncomputable section

open Idealize.ShloMosaic Idealize.ShloMosaic.TcCoe Idealize.SL.Sem

set_option maxHeartbeats 8000000 in
/-- The ideal reading of PoolBwd computes what its reference's does. -/
theorem Cert.PoolBwdValue.value : Cert.algebraic_PoolBwdIdeal_PoolBwdRefIdeal (hPoolBwdIdeal := Cert.PoolBwdIdeal.Gen.facts) (hPoolBwdRefIdeal := Cert.PoolBwdRefIdeal.Gen.facts) := by
  pair_intro
  · run_from Cert.PoolBwdIdeal.Gen.run_main m g
  · hlo_run
    · exact (Cert.PoolBwdValue.final_8 m c).symm
    · exact (Cert.PoolBwdValue.final_9 m c).symm

end
-- ==== Proof.PreUpBwd.lean ====
/- What the precondition of MlpUpBwd says: every element of five of its arguments is a real. -/
module

public import proofs.«01_k».proof.Defs
public import proofs.«01_k».proof.Proof.Gen.Pre_mlp_up_bwd_finite
public import Idealize.ShloMosaic.Lib.Claim
public import Idealize.ShloMosaic.Lib.ReduceAll
public import Idealize.ShloMosaic.Lib.Affine

@[expose] public section

noncomputable section

open Idealize.ShloMosaic

namespace Cert.PreUpBwd

open Cert.Pre_mlp_up_bwd_finite Cert.Pre_mlp_up_bwd_finite.Facts

/-- Minus infinity. -/
theorem lit_bot : Ideal.ofBits FTy.f32 0xFF800000#32 = ⊥ := by simp [Ideal.ofBits, Ideal.ieee]

/-- Plus infinity. -/
theorem lit_top : Ideal.ofBits FTy.f32 0x7F800000#32 = ⊤ := by simp [Ideal.ofBits, Ideal.ieee]

/-- An extended real above minus infinity and below plus infinity is a real. -/
theorem real_of (x : EReal)
    (h : IntOp.andi (FloatOps.cmpf (F := Ideal) (φ := .f32) .ogt x (Ideal.ofBits FTy.f32 0xFF800000#32))
      (FloatOps.cmpf (F := Ideal) (φ := .f32) .olt x (Ideal.ofBits FTy.f32 0x7F800000#32)) = 1#1) : ∃ r : ℝ, x = (r : EReal) := by
  rw [IntOp.andi_eq_one, lit_bot, lit_top] at h
  obtain ⟨h1, h2⟩ := h
  have h1 : BitVec.ofBool (decide (⊥ < x)) = 1#1 := h1
  have h2 : BitVec.ofBool (decide (x < ⊤)) = 1#1 := h2
  have n1 : ⊥ < x := by by_contra h; simp [h] at h1
  have n2 : x < ⊤ := by by_contra h; simp [h] at h2
  exact ⟨x.toReal, (EReal.coe_toReal n2.ne n1.ne').symm⟩

/-- The precondition, read element by element. -/
theorem args_real (a0 : FVec Ideal S8192x1024 .f32) (a1 a2 : FVec Ideal S1024 .f32) (a3 : FVec Ideal S1024x4096 .f32)
    (a4 : FVec Ideal S8192x4096 .f32) (a5 : FVec Ideal S8192x1024 .f32)
    (e : Cert.Pre_mlp_up_bwd_finite.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, ∃ r : ℝ, a5 i = (r : EReal)) := by
  have e := congrFun e (fun i : Fin 0 => i.elim0)
  dsimp only [fn, fn_part1, fn_part2] at e
  obtain ⟨e, h5⟩ := IntOp.andi_eq_one.1 e
  obtain ⟨e, h4⟩ := IntOp.andi_eq_one.1 e
  obtain ⟨e, h3⟩ := IntOp.andi_eq_one.1 e
  obtain ⟨h0, h1⟩ := IntOp.andi_eq_one.1 e
  haveI : Subsingleton S_.Idx := ⟨fun a b => funext fun i => i.elim0⟩
  exact ⟨fun i => real_of _ (Host.reduce_andi_all _ _ _ _ _ h0 i), fun i => real_of _ (Host.reduce_andi_all _ _ _ _ _ h1 i),
    fun i => real_of _ (Host.reduce_andi_all _ _ _ _ _ h3 i), fun i => real_of _ (Host.reduce_andi_all _ _ _ _ _ h4 i),
    fun i => real_of _ (Host.reduce_andi_all _ _ _ _ _ h5 i)⟩

end Cert.PreUpBwd

end
-- ==== Proof.ValuesMlpUpBwd.lean ====
module

public import proofs.«01_k».proof.Defs
public import proofs.«01_k».proof.Proof.Gen.Pre_mlp_up_bwd_finite
public import proofs.«01_k».proof.Proof.PreUpBwd
public import proofs.«01_k».proof.Proof.Gen.MlpUpBwdIdeal.Frame
public import proofs.«01_k».proof.Proof.Gen.MlpUpBwdRefIdeal
public import proofs.«01_k».proof.Proof.MlpUpBwd
public import Idealize.ShloMosaic.Lib.Claim
public import Idealize.ShloMosaic.Lib.StableHlo.Run

@[expose] public section

noncomputable section

open Idealize.ShloMosaic Idealize.ShloMosaic.TcCoe Idealize.SL.Sem

set_option maxHeartbeats 8000000 in
/-- The ideal reading of MlpUpBwd computes what its reference's does. -/
theorem Cert.MlpUpBwdValue.value : Cert.algebraic_MlpUpBwdIdeal_MlpUpBwdRefIdeal_pre_mlp_up_bwd_finite (hMlpUpBwdIdeal := Cert.MlpUpBwdIdeal.Gen.facts) (hMlpUpBwdRefIdeal := Cert.MlpUpBwdRefIdeal.Gen.facts) (hPre_mlp_up_bwd_finite := Cert.Pre_mlp_up_bwd_finite.Gen.facts) := by
  pair_intro
  · run_from Cert.MlpUpBwdIdeal.Gen.run_main m g
  · hlo_run
    · exact (Cert.MlpUpBwdValue.final_6 m c (Cert.PreUpBwd.args_real _ _ _ _ _ _ (hpre c))).symm
    · exact (Cert.MlpUpBwdValue.final_7 m c (Cert.PreUpBwd.args_real _ _ _ _ _ _ (hpre c))).symm
    · exact (Cert.MlpUpBwdValue.final_8 m c).symm
    · exact (Cert.MlpUpBwdValue.final_9 m c).symm

end
-- ==== Proof.PreInQkvBwd.lean ====
/- What the precondition of InQkvBwd says: every element of five of its arguments is a real. -/
module

public import proofs.«01_k».proof.Defs
public import proofs.«01_k».proof.Proof.Gen.Pre_gdn_in_qkv_bwd_finite
public import proofs.«01_k».proof.Proof.PreUpBwd
public import Idealize.ShloMosaic.Lib.Claim
public import Idealize.ShloMosaic.Lib.ReduceAll
public import Idealize.ShloMosaic.Lib.Affine

@[expose] public section

noncomputable section

open Idealize.ShloMosaic

namespace Cert.PreInQkvBwd

open Cert.Pre_gdn_in_qkv_bwd_finite Cert.Pre_gdn_in_qkv_bwd_finite.Facts

/-- The precondition, read element by element. -/
theorem args_real (a0 : FVec Ideal S8192x1024 .f32) (a1 : FVec Ideal S1024 .f32) (a2 : FVec Ideal S1024 .f32) (a3 : FVec Ideal S1024x3072 .f32) (a4 : FVec Ideal S8192x3072 .f32) (a5 : FVec Ideal S8192x1024 .f32) (a6 : FVec Ideal S8192x1024 .f32) (a7 : FVec Ideal S1024 .f32) (a8 : FVec Ideal S8192x1024 .f32)
    (e : Cert.Pre_gdn_in_qkv_bwd_finite.fn (F := Ideal) a0 a1 a2 a3 a4 a5 a6 a7 a8 = fun _ => 1#1) :
    (∀ i, ∃ r : ℝ, a0 i = (r : EReal))
      ∧ (∀ i, ∃ r : ℝ, a1 i = (r : EReal))
      ∧ (∀ i, ∃ r : ℝ, a3 i = (r : EReal))
      ∧ (∀ i, ∃ r : ℝ, a4 i = (r : EReal))
      ∧ (∀ i, ∃ r : ℝ, a5 i = (r : EReal)) := by
  have e := congrFun e (fun i : Fin 0 => i.elim0)
  dsimp only [fn, fn_part1, fn_part2] at e
  obtain ⟨e, h5⟩ := IntOp.andi_eq_one.1 e
  obtain ⟨e, h4⟩ := IntOp.andi_eq_one.1 e
  obtain ⟨e, h3⟩ := IntOp.andi_eq_one.1 e
  obtain ⟨h0, h1⟩ := IntOp.andi_eq_one.1 e
  haveI : Subsingleton S_.Idx := ⟨fun a b => funext fun i => i.elim0⟩
  exact ⟨fun i => Cert.PreUpBwd.real_of _ (Host.reduce_andi_all _ _ _ _ _ h0 i),
    fun i => Cert.PreUpBwd.real_of _ (Host.reduce_andi_all _ _ _ _ _ h1 i),
    fun i => Cert.PreUpBwd.real_of _ (Host.reduce_andi_all _ _ _ _ _ h3 i),
    fun i => Cert.PreUpBwd.real_of _ (Host.reduce_andi_all _ _ _ _ _ h4 i),
    fun i => Cert.PreUpBwd.real_of _ (Host.reduce_andi_all _ _ _ _ _ h5 i)⟩

end Cert.PreInQkvBwd

end
-- ==== Proof.ValuesInQkvBwd.lean ====
module

public import proofs.«01_k».proof.Defs
public import proofs.«01_k».proof.Proof.Gen.Pre_gdn_in_qkv_bwd_finite
public import proofs.«01_k».proof.Proof.PreInQkvBwd
public import proofs.«01_k».proof.Proof.Gen.InQkvBwdIdeal.Frame
public import proofs.«01_k».proof.Proof.Gen.InQkvBwdRefIdeal
public import proofs.«01_k».proof.Proof.InQkvBwd
public import Idealize.ShloMosaic.Lib.Claim
public import Idealize.ShloMosaic.Lib.StableHlo.Run

@[expose] public section

noncomputable section

open Idealize.ShloMosaic Idealize.ShloMosaic.TcCoe Idealize.SL.Sem

set_option maxHeartbeats 8000000 in
/-- The ideal reading of InQkvBwd computes what its reference's does. -/
theorem Cert.InQkvBwdValue.value : Cert.algebraic_InQkvBwdIdeal_InQkvBwdRefIdeal_pre_gdn_in_qkv_bwd_finite (hInQkvBwdIdeal := Cert.InQkvBwdIdeal.Gen.facts) (hInQkvBwdRefIdeal := Cert.InQkvBwdRefIdeal.Gen.facts) (hPre_gdn_in_qkv_bwd_finite := Cert.Pre_gdn_in_qkv_bwd_finite.Gen.facts) := by
  pair_intro
  · run_from Cert.InQkvBwdIdeal.Gen.run_main m g
  · hlo_run
    · exact (Cert.InQkvBwdValue.final_8 m c (Cert.PreInQkvBwd.args_real _ _ _ _ _ _ _ _ _ (hpre c))).symm
    · exact (Cert.InQkvBwdValue.final_9 m c (Cert.PreInQkvBwd.args_real _ _ _ _ _ _ _ _ _ (hpre c))).symm
    · exact (Cert.InQkvBwdValue.final_10 m c (Cert.PreInQkvBwd.args_real _ _ _ _ _ _ _ _ _ (hpre c))).symm
    · exact (Cert.InQkvBwdValue.final_11 m c (Cert.PreInQkvBwd.args_real _ _ _ _ _ _ _ _ _ (hpre c))).symm
    · exact (Cert.InQkvBwdValue.final_12 m c).symm
    · exact (Cert.InQkvBwdValue.final_13 m c).symm
    · exact (Cert.InQkvBwdValue.final_14 m c (Cert.PreInQkvBwd.args_real _ _ _ _ _ _ _ _ _ (hpre c))).symm

end
-- ==== Proof.PreLossLn.lean ====
/- What the precondition of LossLn says: every element of its arguments is a real. -/
module

public import proofs.«01_k».proof.Defs
public import proofs.«01_k».proof.Proof.Gen.Pre_loss_ln_finite
public import proofs.«01_k».proof.Proof.PreUpBwd
public import Idealize.ShloMosaic.Lib.Claim
public import Idealize.ShloMosaic.Lib.ReduceAll
public import Idealize.ShloMosaic.Lib.Affine

@[expose] public section

noncomputable section

open Idealize.ShloMosaic

namespace Cert.PreLossLn

open Cert.Pre_loss_ln_finite Cert.Pre_loss_ln_finite.Facts

/-- The precondition, read element by element. -/
theorem args_real (a0 : FVec Ideal S8192x1024 .f32) (a1 : FVec Ideal S1024 .f32) (a2 : FVec Ideal S1024 .f32) (a3 : FVec Ideal S8192x4096 .f32) (a4 : FVec Ideal S4096x1024 .f32) (a5 : FVec Ideal S8192x1024 .f32) (a6 : FVec Ideal S1024 .f32) (a7 : FVec Ideal S8192x1024 .f32) (a8 : FVec Ideal S1024 .f32) (a9 : FVec Ideal S1024 .f32) (a10 : FVec Ideal S8192x1024 .f32)
    (e : Cert.Pre_loss_ln_finite.fn (F := Ideal) a0 a1 a2 a3 a4 a5 a6 a7 a8 a9 a10 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal)) := by
  have e := congrFun e (fun i : Fin 0 => i.elim0)
  dsimp only [fn, fn_part1, fn_part2, fn_part3, fn_part4] at e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  haveI : Subsingleton S_.Idx := ⟨fun a b => funext fun i => i.elim0⟩
  exact ⟨fun i => Cert.PreUpBwd.real_of _ (Host.reduce_andi_all _ _ _ _ _ h0 i),
    fun i => Cert.PreUpBwd.real_of _ (Host.reduce_andi_all _ _ _ _ _ h1 i),
    fun i => Cert.PreUpBwd.real_of _ (Host.reduce_andi_all _ _ _ _ _ h2 i),
    fun i => Cert.PreUpBwd.real_of _ (Host.reduce_andi_all _ _ _ _ _ h3 i),
    fun i => Cert.PreUpBwd.real_of _ (Host.reduce_andi_all _ _ _ _ _ h4 i),
    fun i => Cert.PreUpBwd.real_of _ (Host.reduce_andi_all _ _ _ _ _ h5 i),
    fun i => Cert.PreUpBwd.real_of _ (Host.reduce_andi_all _ _ _ _ _ h6 i),
    fun i => Cert.PreUpBwd.real_of _ (Host.reduce_andi_all _ _ _ _ _ h7 i),
    fun i => Cert.PreUpBwd.real_of _ (Host.reduce_andi_all _ _ _ _ _ h8 i),
    fun i => Cert.PreUpBwd.real_of _ (Host.reduce_andi_all _ _ _ _ _ h9 i),
    fun i => Cert.PreUpBwd.real_of _ (Host.reduce_andi_all _ _ _ _ _ h10 i)⟩

end Cert.PreLossLn

end
-- ==== Proof.ValuesLossLn.lean ====
module

public import proofs.«01_k».proof.Defs
public import proofs.«01_k».proof.Proof.Gen.Pre_loss_ln_finite
public import proofs.«01_k».proof.Proof.PreLossLn
public import proofs.«01_k».proof.Proof.Gen.LossLnIdeal.Frame
public import proofs.«01_k».proof.Proof.Gen.LossLnRefIdeal
public import proofs.«01_k».proof.Proof.LossLn
public import Idealize.ShloMosaic.Lib.Claim
public import Idealize.ShloMosaic.Lib.StableHlo.Run

@[expose] public section

noncomputable section

open Idealize.ShloMosaic Idealize.ShloMosaic.TcCoe Idealize.SL.Sem

set_option maxHeartbeats 8000000 in
/-- The ideal reading of LossLn computes what its reference's does. -/
theorem Cert.LossLnValue.value : Cert.algebraic_LossLnIdeal_LossLnRefIdeal_pre_loss_ln_finite (hLossLnIdeal := Cert.LossLnIdeal.Gen.facts) (hLossLnRefIdeal := Cert.LossLnRefIdeal.Gen.facts) (hPre_loss_ln_finite := Cert.Pre_loss_ln_finite.Gen.facts) := by
  pair_intro
  · run_from Cert.LossLnIdeal.Gen.run_main m g
    · exact hc.1 16
    · exact hc.1 17
  · hlo_run
    · exact (Cert.LossLnValue.final_10 m c (Cert.PreLossLn.args_real _ _ _ _ _ _ _ _ _ _ _ (hpre c))).symm
    · exact (Cert.LossLnValue.final_11 m c (Cert.PreLossLn.args_real _ _ _ _ _ _ _ _ _ _ _ (hpre c))).symm
    · exact (Cert.LossLnValue.final_12 m c (Cert.PreLossLn.args_real _ _ _ _ _ _ _ _ _ _ _ (hpre c))).symm
    · exact (Cert.LossLnValue.final_13 m c (Cert.PreLossLn.args_real _ _ _ _ _ _ _ _ _ _ _ (hpre c))).symm
    · exact (Cert.LossLnValue.final_14 m c).symm
    · exact (Cert.LossLnValue.final_15 m c).symm
    · exact (Cert.LossLnValue.final_16 m c).symm
    · exact (Cert.LossLnValue.final_17 m c (Cert.PreLossLn.args_real _ _ _ _ _ _ _ _ _ _ _ (hpre c))).symm

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.MlpDown
public import proofs.«01_k».proof.Proof.Gen.MlpDown.Frame
public import proofs.«01_k».proof.Proof.Gen.MlpDownIdeal
public import proofs.«01_k».proof.Proof.Gen.MlpDownIdeal.Frame
public import proofs.«01_k».proof.Proof.Gen.MlpDownRefIdeal
public import proofs.«01_k».proof.Proof.Gen.MlpDownRefIdeal.Run
public import proofs.«01_k».proof.Proof.MlpDown
public import proofs.«01_k».proof.Proof.Gen.MlpDwTwo
public import proofs.«01_k».proof.Proof.Gen.MlpDwTwo.Frame
public import proofs.«01_k».proof.Proof.Gen.MlpDwTwoIdeal
public import proofs.«01_k».proof.Proof.Gen.MlpDwTwoIdeal.Frame
public import proofs.«01_k».proof.Proof.Gen.MlpDwTwoRefIdeal
public import proofs.«01_k».proof.Proof.Gen.MlpDwTwoRefIdeal.Run
public import proofs.«01_k».proof.Proof.MlpDwTwo
public import proofs.«01_k».proof.Proof.Gen.MlpDwOne
public import proofs.«01_k».proof.Proof.Gen.MlpDwOne.Frame
public import proofs.«01_k».proof.Proof.Gen.MlpDwOneIdeal
public import proofs.«01_k».proof.Proof.Gen.MlpDwOneIdeal.Frame
public import proofs.«01_k».proof.Proof.Gen.MlpDwOneRefIdeal
public import proofs.«01_k».proof.Proof.Gen.MlpDwOneRefIdeal.Run
public import proofs.«01_k».proof.Proof.MlpDwOne
public import proofs.«01_k».proof.Proof.Gen.PleDwG
public import proofs.«01_k».proof.Proof.Gen.PleDwG.Frame
public import proofs.«01_k».proof.Proof.Gen.PleDwGIdeal
public import proofs.«01_k».proof.Proof.Gen.PleDwGIdeal.Frame
public import proofs.«01_k».proof.Proof.Gen.PleDwGRefIdeal
public import proofs.«01_k».proof.Proof.Gen.PleDwGRefIdeal.Run
public import proofs.«01_k».proof.Proof.PleDwG
public import proofs.«01_k».proof.Proof.Gen.PleDwP
public import proofs.«01_k».proof.Proof.Gen.PleDwP.Frame
public import proofs.«01_k».proof.Proof.Gen.PleDwPIdeal
public import proofs.«01_k».proof.Proof.Gen.PleDwPIdeal.Frame
public import proofs.«01_k».proof.Proof.Gen.PleDwPRefIdeal
public import proofs.«01_k».proof.Proof.Gen.PleDwPRefIdeal.Run
public import proofs.«01_k».proof.Proof.PleDwP
public import proofs.«01_k».proof.Proof.Gen.PleGateBwd
public import proofs.«01_k».proof.Proof.Gen.PleGateBwd.Frame
public import proofs.«01_k».proof.Proof.Gen.PleGateBwdIdeal
public import proofs.«01_k».proof.Proof.Gen.PleGateBwdIdeal.Frame
public import proofs.«01_k».proof.Proof.Gen.PleGateBwdRefIdeal
public import proofs.«01_k».proof.Proof.Gen.PleGateBwdRefIdeal.Run
public import proofs.«01_k».proof.Proof.PleGateBwd
public import proofs.«01_k».proof.Proof.Gen.MlpUp
public import proofs.«01_k».proof.Proof.Gen.MlpUp.Frame
public import proofs.«01_k».proof.Proof.Gen.MlpUpIdeal
public import proofs.«01_k».proof.Proof.Gen.MlpUpIdeal.Frame
public import proofs.«01_k».proof.Proof.Gen.MlpUpRefIdeal
public import proofs.«01_k».proof.Proof.Gen.MlpUpRefIdeal.Run
public import proofs.«01_k».proof.Proof.MlpUp
public import proofs.«01_k».proof.Proof.Gen.PleGate
public import proofs.«01_k».proof.Proof.Gen.PleGate.Frame
public import proofs.«01_k».proof.Proof.Gen.PleGateIdeal
public import proofs.«01_k».proof.Proof.Gen.PleGateIdeal.Frame
public import proofs.«01_k».proof.Proof.Gen.PleGateRefIdeal
public import proofs.«01_k».proof.Proof.Gen.PleGateRefIdeal.Run
public import proofs.«01_k».proof.Proof.PleGate
public import proofs.«01_k».proof.Proof.Gen.PleProj
public import proofs.«01_k».proof.Proof.Gen.PleProj.Frame
public import proofs.«01_k».proof.Proof.Gen.PleProjIdeal
public import proofs.«01_k».proof.Proof.Gen.PleProjIdeal.Frame
public import proofs.«01_k».proof.Proof.Gen.PleProjRefIdeal
public import proofs.«01_k».proof.Proof.Gen.PleProjRefIdeal.Run
public import proofs.«01_k».proof.Proof.PleProj
public import proofs.«01_k».proof.Proof.Gen.InQkv
public import proofs.«01_k».proof.Proof.Gen.InQkv.Frame
public import proofs.«01_k».proof.Proof.Gen.InQkvIdeal
public import proofs.«01_k».proof.Proof.Gen.InQkvIdeal.Frame
public import proofs.«01_k».proof.Proof.Gen.InQkvRefIdeal
public import proofs.«01_k».proof.Proof.Gen.InQkvRefIdeal.Run
public import proofs.«01_k».proof.Proof.InQkv
public import proofs.«01_k».proof.Proof.Gen.InZ
public import proofs.«01_k».proof.Proof.Gen.InZ.Frame
public import proofs.«01_k».proof.Proof.Gen.InZIdeal
public import proofs.«01_k».proof.Proof.Gen.InZIdeal.Frame
public import proofs.«01_k».proof.Proof.Gen.InZRefIdeal
public import proofs.«01_k».proof.Proof.Gen.InZRefIdeal.Run
public import proofs.«01_k».proof.Proof.InZ
public import proofs.«01_k».proof.Proof.Gen.InBa
public import proofs.«01_k».proof.Proof.Gen.InBa.Frame
public import proofs.«01_k».proof.Proof.Gen.InBaIdeal
public import proofs.«01_k».proof.Proof.Gen.InBaIdeal.Frame
public import proofs.«01_k».proof.Proof.Gen.InBaRefIdeal
public import proofs.«01_k».proof.Proof.Gen.InBaRefIdeal.Run
public import proofs.«01_k».proof.Proof.InBa
public import proofs.«01_k».proof.Proof.Gen.DwQkv
public import proofs.«01_k».proof.Proof.Gen.DwQkv.Frame
public import proofs.«01_k».proof.Proof.Gen.DwQkvIdeal
public import proofs.«01_k».proof.Proof.Gen.DwQkvIdeal.Frame
public import proofs.«01_k».proof.Proof.Gen.DwQkvRefIdeal
public import proofs.«01_k».proof.Proof.Gen.DwQkvRefIdeal.Run
public import proofs.«01_k».proof.Proof.DwQkv
public import proofs.«01_k».proof.Proof.Gen.DwZ
public import proofs.«01_k».proof.Proof.Gen.DwZ.Frame
public import proofs.«01_k».proof.Proof.Gen.DwZIdeal
public import proofs.«01_k».proof.Proof.Gen.DwZIdeal.Frame
public import proofs.«01_k».proof.Proof.Gen.DwZRefIdeal
public import proofs.«01_k».proof.Proof.Gen.DwZRefIdeal.Run
public import proofs.«01_k».proof.Proof.DwZ
public import proofs.«01_k».proof.Proof.Gen.DwBa
public import proofs.«01_k».proof.Proof.Gen.DwBa.Frame
public import proofs.«01_k».proof.Proof.Gen.DwBaIdeal
public import proofs.«01_k».proof.Proof.Gen.DwBaIdeal.Frame
public import proofs.«01_k».proof.Proof.Gen.DwBaRefIdeal
public import proofs.«01_k».proof.Proof.Gen.DwBaRefIdeal.Run
public import proofs.«01_k».proof.Proof.DwBa
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutRefIdeal
public import proofs.«01_k».proof.Proof.Gen.DwOutRefIdeal.Run
public import proofs.«01_k».proof.Proof.DwOut
public import proofs.«01_k».proof.Proof.Gen.InBaBwd
public import proofs.«01_k».proof.Proof.Gen.InBaBwd.Frame
public import proofs.«01_k».proof.Proof.Gen.InBaBwdIdeal
public import proofs.«01_k».proof.Proof.Gen.InBaBwdIdeal.Frame
public import proofs.«01_k».proof.Proof.Gen.InBaBwdRefIdeal
public import proofs.«01_k».proof.Proof.Gen.InBaBwdRefIdeal.Run
public import proofs.«01_k».proof.Proof.InBaBwd
public import proofs.«01_k».proof.Proof.Gen.InZBwd
public import proofs.«01_k».proof.Proof.Gen.InZBwd.Frame
public import proofs.«01_k».proof.Proof.Gen.InZBwdIdeal
public import proofs.«01_k».proof.Proof.Gen.InZBwdIdeal.Frame
public import proofs.«01_k».proof.Proof.Gen.InZBwdRefIdeal
public import proofs.«01_k».proof.Proof.Gen.InZBwdRefIdeal.Run
public import proofs.«01_k».proof.Proof.InZBwd
public import proofs.«01_k».proof.Proof.Gen.AdLn
public import proofs.«01_k».proof.Proof.Gen.AdLn.Frame
public import proofs.«01_k».proof.Proof.Gen.AdLnIdeal
public import proofs.«01_k».proof.Proof.Gen.AdLnIdeal.Frame
public import proofs.«01_k».proof.Proof.Gen.AdLnRefIdeal
public import proofs.«01_k».proof.Proof.Gen.AdLnRefIdeal.Run
public import proofs.«01_k».proof.Proof.AdLn
public import proofs.«01_k».proof.Proof.Gen.AdPoolW
public import proofs.«01_k».proof.Proof.Gen.AdPoolW.Frame
public import proofs.«01_k».proof.Proof.Gen.AdPoolWIdeal
public import proofs.«01_k».proof.Proof.Gen.AdPoolWIdeal.Frame
public import proofs.«01_k».proof.Proof.Gen.AdPoolWRefIdeal
public import proofs.«01_k».proof.Proof.Gen.AdPoolWRefIdeal.Run
public import proofs.«01_k».proof.Proof.AdPoolW
public import proofs.«01_k».proof.Proof.Gen.AdPoolB
public import proofs.«01_k».proof.Proof.Gen.AdPoolB.Frame
public import proofs.«01_k».proof.Proof.Gen.AdPoolBIdeal
public import proofs.«01_k».proof.Proof.Gen.AdPoolBIdeal.Frame
public import proofs.«01_k».proof.Proof.Gen.AdPoolBRefIdeal
public import proofs.«01_k».proof.Proof.Gen.AdPoolBRefIdeal.Run
public import proofs.«01_k».proof.Proof.AdPoolB
public import proofs.«01_k».proof.Proof.Gen.AdPoolS
public import proofs.«01_k».proof.Proof.Gen.AdPoolS.Frame
public import proofs.«01_k».proof.Proof.Gen.AdPoolSIdeal
public import proofs.«01_k».proof.Proof.Gen.AdPoolSIdeal.Frame
public import proofs.«01_k».proof.Proof.Gen.AdPoolSRefIdeal
public import proofs.«01_k».proof.Proof.Gen.AdPoolSRefIdeal.Run
public import proofs.«01_k».proof.Proof.AdPoolS
public import proofs.«01_k».proof.Proof.Gen.AdIn
public import proofs.«01_k».proof.Proof.Gen.AdIn.Frame
public import proofs.«01_k».proof.Proof.Gen.AdInIdeal
public import proofs.«01_k».proof.Proof.Gen.AdInIdeal.Frame
public import proofs.«01_k».proof.Proof.Gen.AdInRefIdeal
public import proofs.«01_k».proof.Proof.Gen.AdInRefIdeal.Run
public import proofs.«01_k».proof.Proof.AdIn
public import proofs.«01_k».proof.Proof.Gen.AdConv
public import proofs.«01_k».proof.Proof.Gen.AdConv.Frame
public import proofs.«01_k».proof.Proof.Gen.AdConvIdeal
public import proofs.«01_k».proof.Proof.Gen.AdConvIdeal.Frame
public import proofs.«01_k».proof.Proof.Gen.AdConvRefIdeal
public import proofs.«01_k».proof.Proof.Gen.AdConvRefIdeal.Run
public import proofs.«01_k».proof.Proof.AdConv
public import proofs.«01_k».proof.Proof.Gen.AdHeads
public import proofs.«01_k».proof.Proof.Gen.AdHeads.Frame
public import proofs.«01_k».proof.Proof.Gen.AdHeadsIdeal
public import proofs.«01_k».proof.Proof.Gen.AdHeadsIdeal.Frame
public import proofs.«01_k».proof.Proof.Gen.AdHeadsRefIdeal
public import proofs.«01_k».proof.Proof.Gen.AdHeadsRefIdeal.Run
public import proofs.«01_k».proof.Proof.AdHeads
public import proofs.«01_k».proof.Proof.Gen.AdNorm
public import proofs.«01_k».proof.Proof.Gen.AdNorm.Frame
public import proofs.«01_k».proof.Proof.Gen.AdNormIdeal
public import proofs.«01_k».proof.Proof.Gen.AdNormIdeal.Frame
public import proofs.«01_k».proof.Proof.Gen.AdNormRefIdeal
public import proofs.«01_k».proof.Proof.Gen.AdNormRefIdeal.Run
public import proofs.«01_k».proof.Proof.AdNorm
public import proofs.«01_k».proof.Proof.Gen.AdOut
public import proofs.«01_k».proof.Proof.Gen.AdOut.Frame
public import proofs.«01_k».proof.Proof.Gen.AdOutIdeal
public import proofs.«01_k».proof.Proof.Gen.AdOutIdeal.Frame
public import proofs.«01_k».proof.Proof.Gen.AdOutRefIdeal
public import proofs.«01_k».proof.Proof.Gen.AdOutRefIdeal.Run
public import proofs.«01_k».proof.Proof.AdOut
public import proofs.«01_k».proof.Proof.Gen.AdOne
public import proofs.«01_k».proof.Proof.Gen.AdOne.Frame
public import proofs.«01_k».proof.Proof.Gen.AdOneIdeal
public import proofs.«01_k».proof.Proof.Gen.AdOneIdeal.Frame
public import proofs.«01_k».proof.Proof.Gen.AdOneRefIdeal
public import proofs.«01_k».proof.Proof.Gen.AdOneRefIdeal.Run
public import proofs.«01_k».proof.Proof.AdOne
public import proofs.«01_k».proof.Proof.Gen.AdTwo
public import proofs.«01_k».proof.Proof.Gen.AdTwo.Frame
public import proofs.«01_k».proof.Proof.Gen.AdTwoIdeal
public import proofs.«01_k».proof.Proof.Gen.AdTwoIdeal.Frame
public import proofs.«01_k».proof.Proof.Gen.AdTwoRefIdeal
public import proofs.«01_k».proof.Proof.Gen.AdTwoRefIdeal.Run
public import proofs.«01_k».proof.Proof.AdTwo
public import proofs.«01_k».proof.Proof.Gen.AdGate
public import proofs.«01_k».proof.Proof.Gen.AdGate.Frame
public import proofs.«01_k».proof.Proof.Gen.AdGateIdeal
public import proofs.«01_k».proof.Proof.Gen.AdGateIdeal.Frame
public import proofs.«01_k».proof.Proof.Gen.AdGateRefIdeal
public import proofs.«01_k».proof.Proof.Gen.AdGateRefIdeal.Run
public import proofs.«01_k».proof.Proof.AdGate
public import proofs.«01_k».proof.Proof.Gen.AdGateB
public import proofs.«01_k».proof.Proof.Gen.AdGateB.Frame
public import proofs.«01_k».proof.Proof.Gen.AdGateBIdeal
public import proofs.«01_k».proof.Proof.Gen.AdGateBIdeal.Frame
public import proofs.«01_k».proof.Proof.Gen.AdGateBRefIdeal
public import proofs.«01_k».proof.Proof.Gen.AdGateBRefIdeal.Run
public import proofs.«01_k».proof.Proof.AdGateB
public import proofs.«01_k».proof.Proof.Gen.AdProj
public import proofs.«01_k».proof.Proof.Gen.AdProj.Frame
public import proofs.«01_k».proof.Proof.Gen.AdProjIdeal
public import proofs.«01_k».proof.Proof.Gen.AdProjIdeal.Frame
public import proofs.«01_k».proof.Proof.Gen.AdProjRefIdeal
public import proofs.«01_k».proof.Proof.Gen.AdProjRefIdeal.Run
public import proofs.«01_k».proof.Proof.AdProj
public import proofs.«01_k».proof.Proof.Gen.MlpLn
public import proofs.«01_k».proof.Proof.Gen.MlpLn.Frame
public import proofs.«01_k».proof.Proof.Gen.MlpLnIdeal
public import proofs.«01_k».proof.Proof.Gen.MlpLnIdeal.Frame
public import proofs.«01_k».proof.Proof.Gen.MlpLnRefIdeal
public import proofs.«01_k».proof.Proof.Gen.MlpLnRefIdeal.Run
public import proofs.«01_k».proof.Proof.MlpLn
public import proofs.«01_k».proof.Proof.Gen.OutLn
public import proofs.«01_k».proof.Proof.Gen.OutLn.Frame
public import proofs.«01_k».proof.Proof.Gen.OutLnIdeal
public import proofs.«01_k».proof.Proof.Gen.OutLnIdeal.Frame
public import proofs.«01_k».proof.Proof.Gen.OutLnRefIdeal
public import proofs.«01_k».proof.Proof.Gen.OutLnRefIdeal.Run
public import proofs.«01_k».proof.Proof.OutLn
public import proofs.«01_k».proof.Proof.Gen.PoolDw
public import proofs.«01_k».proof.Proof.Gen.PoolDw.Frame
public import proofs.«01_k».proof.Proof.Gen.PoolDwIdeal
public import proofs.«01_k».proof.Proof.Gen.PoolDwIdeal.Frame
public import proofs.«01_k».proof.Proof.Gen.PoolDwRefIdeal
public import proofs.«01_k».proof.Proof.Gen.PoolDwRefIdeal.Run
public import proofs.«01_k».proof.Proof.PoolDw
public import proofs.«01_k».proof.Proof.Gen.PoolBwd
public import proofs.«01_k».proof.Proof.Gen.PoolBwd.Frame
public import proofs.«01_k».proof.Proof.Gen.PoolBwdIdeal
public import proofs.«01_k».proof.Proof.Gen.PoolBwdIdeal.Frame
public import proofs.«01_k».proof.Proof.Gen.PoolBwdRefIdeal
public import proofs.«01_k».proof.Proof.Gen.PoolBwdRefIdeal.Run
public import proofs.«01_k».proof.Proof.PoolBwd
public import proofs.«01_k».proof.Proof.Gen.MlpUpBwd
public import proofs.«01_k».proof.Proof.Gen.MlpUpBwd.Frame
public import proofs.«01_k».proof.Proof.Gen.MlpUpBwdIdeal
public import proofs.«01_k».proof.Proof.Gen.MlpUpBwdIdeal.Frame
public import proofs.«01_k».proof.Proof.Gen.MlpUpBwdRefIdeal
public import proofs.«01_k».proof.Proof.Gen.MlpUpBwdRefIdeal.Run
public import proofs.«01_k».proof.Proof.MlpUpBwd
public import proofs.«01_k».proof.Proof.Gen.InQkvBwd
public import proofs.«01_k».proof.Proof.Gen.InQkvBwd.Frame
public import proofs.«01_k».proof.Proof.Gen.InQkvBwdIdeal
public import proofs.«01_k».proof.Proof.Gen.InQkvBwdIdeal.Frame
public import proofs.«01_k».proof.Proof.Gen.InQkvBwdRefIdeal
public import proofs.«01_k».proof.Proof.Gen.InQkvBwdRefIdeal.Run
public import proofs.«01_k».proof.Proof.InQkvBwd
public import proofs.«01_k».proof.Proof.Gen.LossLn
public import proofs.«01_k».proof.Proof.Gen.LossLn.Frame
public import proofs.«01_k».proof.Proof.Gen.LossLnIdeal
public import proofs.«01_k».proof.Proof.Gen.LossLnIdeal.Frame
public import proofs.«01_k».proof.Proof.Gen.LossLnRefIdeal
public import proofs.«01_k».proof.Proof.Gen.LossLnRefIdeal.Run
public import proofs.«01_k».proof.Proof.LossLn
public import proofs.«01_k».proof.Proof.Values0
public import proofs.«01_k».proof.Proof.Values1
public import proofs.«01_k».proof.Proof.Values2
public import proofs.«01_k».proof.Proof.Values3
public import proofs.«01_k».proof.Proof.ValuesMlpLn
public import proofs.«01_k».proof.Proof.ValuesOutLn
public import proofs.«01_k».proof.Proof.ValuesPoolDw
public import proofs.«01_k».proof.Proof.ValuesPoolBwd
public import proofs.«01_k».proof.Proof.ValuesMlpUpBwd
public import proofs.«01_k».proof.Proof.ValuesInQkvBwd
public import proofs.«01_k».proof.Proof.ValuesLossLn
public import proofs.«01_k».proof.Proof.Gen.Pre_mlp_up_bwd_finite
public import proofs.«01_k».proof.Proof.Gen.Pre_gdn_in_qkv_bwd_finite
public import proofs.«01_k».proof.Proof.Gen.Pre_loss_ln_finite

@[expose] public section

noncomputable section

namespace Cert.Proof

open Idealize.ShloMosaic Idealize.SL.Sem

/-- Every claim of the certificate: the frames, that each ideal reading preserves its program, and the values. -/
theorem claim : Cert.Claim :=
  ⟨Cert.Kernel.Gen.facts,
   Cert.KernelIdeal.Gen.facts,
   Cert.MlpDown.Gen.facts,
   Cert.MlpDownIdeal.Gen.facts,
   Cert.MlpDownRefIdeal.Gen.facts,
   Cert.MlpDwTwo.Gen.facts,
   Cert.MlpDwTwoIdeal.Gen.facts,
   Cert.MlpDwTwoRefIdeal.Gen.facts,
   Cert.MlpDwOne.Gen.facts,
   Cert.MlpDwOneIdeal.Gen.facts,
   Cert.MlpDwOneRefIdeal.Gen.facts,
   Cert.PleDwG.Gen.facts,
   Cert.PleDwGIdeal.Gen.facts,
   Cert.PleDwGRefIdeal.Gen.facts,
   Cert.PleDwP.Gen.facts,
   Cert.PleDwPIdeal.Gen.facts,
   Cert.PleDwPRefIdeal.Gen.facts,
   Cert.PleGateBwd.Gen.facts,
   Cert.PleGateBwdIdeal.Gen.facts,
   Cert.PleGateBwdRefIdeal.Gen.facts,
   Cert.MlpUp.Gen.facts,
   Cert.MlpUpIdeal.Gen.facts,
   Cert.MlpUpRefIdeal.Gen.facts,
   Cert.PleGate.Gen.facts,
   Cert.PleGateIdeal.Gen.facts,
   Cert.PleGateRefIdeal.Gen.facts,
   Cert.PleProj.Gen.facts,
   Cert.PleProjIdeal.Gen.facts,
   Cert.PleProjRefIdeal.Gen.facts,
   Cert.InQkv.Gen.facts,
   Cert.InQkvIdeal.Gen.facts,
   Cert.InQkvRefIdeal.Gen.facts,
   Cert.InZ.Gen.facts,
   Cert.InZIdeal.Gen.facts,
   Cert.InZRefIdeal.Gen.facts,
   Cert.InBa.Gen.facts,
   Cert.InBaIdeal.Gen.facts,
   Cert.InBaRefIdeal.Gen.facts,
   Cert.DwQkv.Gen.facts,
   Cert.DwQkvIdeal.Gen.facts,
   Cert.DwQkvRefIdeal.Gen.facts,
   Cert.DwZ.Gen.facts,
   Cert.DwZIdeal.Gen.facts,
   Cert.DwZRefIdeal.Gen.facts,
   Cert.DwBa.Gen.facts,
   Cert.DwBaIdeal.Gen.facts,
   Cert.DwBaRefIdeal.Gen.facts,
   Cert.DwOut.Gen.facts,
   Cert.DwOutIdeal.Gen.facts,
   Cert.DwOutRefIdeal.Gen.facts,
   Cert.InBaBwd.Gen.facts,
   Cert.InBaBwdIdeal.Gen.facts,
   Cert.InBaBwdRefIdeal.Gen.facts,
   Cert.InZBwd.Gen.facts,
   Cert.InZBwdIdeal.Gen.facts,
   Cert.InZBwdRefIdeal.Gen.facts,
   Cert.AdLn.Gen.facts,
   Cert.AdLnIdeal.Gen.facts,
   Cert.AdLnRefIdeal.Gen.facts,
   Cert.AdPoolW.Gen.facts,
   Cert.AdPoolWIdeal.Gen.facts,
   Cert.AdPoolWRefIdeal.Gen.facts,
   Cert.AdPoolB.Gen.facts,
   Cert.AdPoolBIdeal.Gen.facts,
   Cert.AdPoolBRefIdeal.Gen.facts,
   Cert.AdPoolS.Gen.facts,
   Cert.AdPoolSIdeal.Gen.facts,
   Cert.AdPoolSRefIdeal.Gen.facts,
   Cert.AdIn.Gen.facts,
   Cert.AdInIdeal.Gen.facts,
   Cert.AdInRefIdeal.Gen.facts,
   Cert.AdConv.Gen.facts,
   Cert.AdConvIdeal.Gen.facts,
   Cert.AdConvRefIdeal.Gen.facts,
   Cert.AdHeads.Gen.facts,
   Cert.AdHeadsIdeal.Gen.facts,
   Cert.AdHeadsRefIdeal.Gen.facts,
   Cert.AdNorm.Gen.facts,
   Cert.AdNormIdeal.Gen.facts,
   Cert.AdNormRefIdeal.Gen.facts,
   Cert.AdOut.Gen.facts,
   Cert.AdOutIdeal.Gen.facts,
   Cert.AdOutRefIdeal.Gen.facts,
   Cert.AdOne.Gen.facts,
   Cert.AdOneIdeal.Gen.facts,
   Cert.AdOneRefIdeal.Gen.facts,
   Cert.AdTwo.Gen.facts,
   Cert.AdTwoIdeal.Gen.facts,
   Cert.AdTwoRefIdeal.Gen.facts,
   Cert.AdGate.Gen.facts,
   Cert.AdGateIdeal.Gen.facts,
   Cert.AdGateRefIdeal.Gen.facts,
   Cert.AdGateB.Gen.facts,
   Cert.AdGateBIdeal.Gen.facts,
   Cert.AdGateBRefIdeal.Gen.facts,
   Cert.AdProj.Gen.facts,
   Cert.AdProjIdeal.Gen.facts,
   Cert.AdProjRefIdeal.Gen.facts,
   Cert.MlpLn.Gen.facts,
   Cert.MlpLnIdeal.Gen.facts,
   Cert.MlpLnRefIdeal.Gen.facts,
   Cert.OutLn.Gen.facts,
   Cert.OutLnIdeal.Gen.facts,
   Cert.OutLnRefIdeal.Gen.facts,
   Cert.PoolDw.Gen.facts,
   Cert.PoolDwIdeal.Gen.facts,
   Cert.PoolDwRefIdeal.Gen.facts,
   Cert.PoolBwd.Gen.facts,
   Cert.PoolBwdIdeal.Gen.facts,
   Cert.PoolBwdRefIdeal.Gen.facts,
   Cert.MlpUpBwd.Gen.facts,
   Cert.MlpUpBwdIdeal.Gen.facts,
   Cert.MlpUpBwdRefIdeal.Gen.facts,
   Cert.InQkvBwd.Gen.facts,
   Cert.InQkvBwdIdeal.Gen.facts,
   Cert.InQkvBwdRefIdeal.Gen.facts,
   Cert.LossLn.Gen.facts,
   Cert.LossLnIdeal.Gen.facts,
   Cert.LossLnRefIdeal.Gen.facts,
   Cert.Pre_mlp_up_bwd_finite.Gen.facts,
   Cert.Pre_gdn_in_qkv_bwd_finite.Gen.facts,
   Cert.Pre_loss_ln_finite.Gen.facts,
   fun m ρ _ => Cert.Kernel.Gen.frame m ρ,
   fun m ρ _ => Cert.KernelIdeal.Gen.frame m ρ,
   fun m ρ _ => Cert.MlpDown.Gen.frame m ρ,
   fun m ρ _ => Cert.MlpDownIdeal.Gen.frame m ρ,
   fun m ρ _ => (θ_run Cert.MlpDownRefIdeal.defs _ _).mono (fun r h => ⟨fun c => (h c).2, sem_eq_zero_of_no_sems (by decide) r.2⟩) (Cert.MlpDownRefIdeal.Value.run (F := Ideal) m ρ),
   fun m ρ _ => Cert.MlpDwTwo.Gen.frame m ρ,
   fun m ρ _ => Cert.MlpDwTwoIdeal.Gen.frame m ρ,
   fun m ρ _ => (θ_run Cert.MlpDwTwoRefIdeal.defs _ _).mono (fun r h => ⟨fun c => (h c).2, sem_eq_zero_of_no_sems (by decide) r.2⟩) (Cert.MlpDwTwoRefIdeal.Value.run (F := Ideal) m ρ),
   fun m ρ _ => Cert.MlpDwOne.Gen.frame m ρ,
   fun m ρ _ => Cert.MlpDwOneIdeal.Gen.frame m ρ,
   fun m ρ _ => (θ_run Cert.MlpDwOneRefIdeal.defs _ _).mono (fun r h => ⟨fun c => (h c).2, sem_eq_zero_of_no_sems (by decide) r.2⟩) (Cert.MlpDwOneRefIdeal.Value.run (F := Ideal) m ρ),
   fun m ρ _ => Cert.PleDwG.Gen.frame m ρ,
   fun m ρ _ => Cert.PleDwGIdeal.Gen.frame m ρ,
   fun m ρ _ => (θ_run Cert.PleDwGRefIdeal.defs _ _).mono (fun r h => ⟨fun c => (h c).2, sem_eq_zero_of_no_sems (by decide) r.2⟩) (Cert.PleDwGRefIdeal.Value.run (F := Ideal) m ρ),
   fun m ρ _ => Cert.PleDwP.Gen.frame m ρ,
   fun m ρ _ => Cert.PleDwPIdeal.Gen.frame m ρ,
   fun m ρ _ => (θ_run Cert.PleDwPRefIdeal.defs _ _).mono (fun r h => ⟨fun c => (h c).2, sem_eq_zero_of_no_sems (by decide) r.2⟩) (Cert.PleDwPRefIdeal.Value.run (F := Ideal) m ρ),
   fun m ρ _ => Cert.PleGateBwd.Gen.frame m ρ,
   fun m ρ _ => Cert.PleGateBwdIdeal.Gen.frame m ρ,
   fun m ρ _ => (θ_run Cert.PleGateBwdRefIdeal.defs _ _).mono (fun r h => ⟨fun c => (h c).2, sem_eq_zero_of_no_sems (by decide) r.2⟩) (Cert.PleGateBwdRefIdeal.Value.run (F := Ideal) m ρ),
   fun m ρ _ => Cert.MlpUp.Gen.frame m ρ,
   fun m ρ _ => Cert.MlpUpIdeal.Gen.frame m ρ,
   fun m ρ _ => (θ_run Cert.MlpUpRefIdeal.defs _ _).mono (fun r h => ⟨fun c => (h c).2, sem_eq_zero_of_no_sems (by decide) r.2⟩) (Cert.MlpUpRefIdeal.Value.run (F := Ideal) m ρ),
   fun m ρ _ => Cert.PleGate.Gen.frame m ρ,
   fun m ρ _ => Cert.PleGateIdeal.Gen.frame m ρ,
   fun m ρ _ => (θ_run Cert.PleGateRefIdeal.defs _ _).mono (fun r h => ⟨fun c => (h c).2, sem_eq_zero_of_no_sems (by decide) r.2⟩) (Cert.PleGateRefIdeal.Value.run (F := Ideal) m ρ),
   fun m ρ _ => Cert.PleProj.Gen.frame m ρ,
   fun m ρ _ => Cert.PleProjIdeal.Gen.frame m ρ,
   fun m ρ _ => (θ_run Cert.PleProjRefIdeal.defs _ _).mono (fun r h => ⟨fun c => (h c).2, sem_eq_zero_of_no_sems (by decide) r.2⟩) (Cert.PleProjRefIdeal.Value.run (F := Ideal) m ρ),
   fun m ρ _ => Cert.InQkv.Gen.frame m ρ,
   fun m ρ _ => Cert.InQkvIdeal.Gen.frame m ρ,
   fun m ρ _ => (θ_run Cert.InQkvRefIdeal.defs _ _).mono (fun r h => ⟨fun c => (h c).2, sem_eq_zero_of_no_sems (by decide) r.2⟩) (Cert.InQkvRefIdeal.Value.run (F := Ideal) m ρ),
   fun m ρ _ => Cert.InZ.Gen.frame m ρ,
   fun m ρ _ => Cert.InZIdeal.Gen.frame m ρ,
   fun m ρ _ => (θ_run Cert.InZRefIdeal.defs _ _).mono (fun r h => ⟨fun c => (h c).2, sem_eq_zero_of_no_sems (by decide) r.2⟩) (Cert.InZRefIdeal.Value.run (F := Ideal) m ρ),
   fun m ρ _ => Cert.InBa.Gen.frame m ρ,
   fun m ρ _ => Cert.InBaIdeal.Gen.frame m ρ,
   fun m ρ _ => (θ_run Cert.InBaRefIdeal.defs _ _).mono (fun r h => ⟨fun c => (h c).2, sem_eq_zero_of_no_sems (by decide) r.2⟩) (Cert.InBaRefIdeal.Value.run (F := Ideal) m ρ),
   fun m ρ _ => Cert.DwQkv.Gen.frame m ρ,
   fun m ρ _ => Cert.DwQkvIdeal.Gen.frame m ρ,
   fun m ρ _ => (θ_run Cert.DwQkvRefIdeal.defs _ _).mono (fun r h => ⟨fun c => (h c).2, sem_eq_zero_of_no_sems (by decide) r.2⟩) (Cert.DwQkvRefIdeal.Value.run (F := Ideal) m ρ),
   fun m ρ _ => Cert.DwZ.Gen.frame m ρ,
   fun m ρ _ => Cert.DwZIdeal.Gen.frame m ρ,
   fun m ρ _ => (θ_run Cert.DwZRefIdeal.defs _ _).mono (fun r h => ⟨fun c => (h c).2, sem_eq_zero_of_no_sems (by decide) r.2⟩) (Cert.DwZRefIdeal.Value.run (F := Ideal) m ρ),
   fun m ρ _ => Cert.DwBa.Gen.frame m ρ,
   fun m ρ _ => Cert.DwBaIdeal.Gen.frame m ρ,
   fun m ρ _ => (θ_run Cert.DwBaRefIdeal.defs _ _).mono (fun r h => ⟨fun c => (h c).2, sem_eq_zero_of_no_sems (by decide) r.2⟩) (Cert.DwBaRefIdeal.Value.run (F := Ideal) m ρ),
   fun m ρ _ => Cert.DwOut.Gen.frame m ρ,
   fun m ρ _ => Cert.DwOutIdeal.Gen.frame m ρ,
   fun m ρ _ => (θ_run Cert.DwOutRefIdeal.defs _ _).mono (fun r h => ⟨fun c => (h c).2, sem_eq_zero_of_no_sems (by decide) r.2⟩) (Cert.DwOutRefIdeal.Value.run (F := Ideal) m ρ),
   fun m ρ _ => Cert.InBaBwd.Gen.frame m ρ,
   fun m ρ _ => Cert.InBaBwdIdeal.Gen.frame m ρ,
   fun m ρ _ => (θ_run Cert.InBaBwdRefIdeal.defs _ _).mono (fun r h => ⟨fun c => (h c).2, sem_eq_zero_of_no_sems (by decide) r.2⟩) (Cert.InBaBwdRefIdeal.Value.run (F := Ideal) m ρ),
   fun m ρ _ => Cert.InZBwd.Gen.frame m ρ,
   fun m ρ _ => Cert.InZBwdIdeal.Gen.frame m ρ,
   fun m ρ _ => (θ_run Cert.InZBwdRefIdeal.defs _ _).mono (fun r h => ⟨fun c => (h c).2, sem_eq_zero_of_no_sems (by decide) r.2⟩) (Cert.InZBwdRefIdeal.Value.run (F := Ideal) m ρ),
   fun m ρ _ => Cert.AdLn.Gen.frame m ρ,
   fun m ρ _ => Cert.AdLnIdeal.Gen.frame m ρ,
   fun m ρ _ => (θ_run Cert.AdLnRefIdeal.defs _ _).mono (fun r h => ⟨fun c => (h c).2.2.2, sem_eq_zero_of_no_sems (by decide) r.2⟩) (Cert.AdLnRefIdeal.Value.run (F := Ideal) m ρ),
   fun m ρ _ => Cert.AdPoolW.Gen.frame m ρ,
   fun m ρ _ => Cert.AdPoolWIdeal.Gen.frame m ρ,
   fun m ρ _ => (θ_run Cert.AdPoolWRefIdeal.defs _ _).mono (fun r h => ⟨fun c => (h c).2.2.2, sem_eq_zero_of_no_sems (by decide) r.2⟩) (Cert.AdPoolWRefIdeal.Value.run (F := Ideal) m ρ),
   fun m ρ _ => Cert.AdPoolB.Gen.frame m ρ,
   fun m ρ _ => Cert.AdPoolBIdeal.Gen.frame m ρ,
   fun m ρ _ => (θ_run Cert.AdPoolBRefIdeal.defs _ _).mono (fun r h => ⟨fun c => (h c).2.2.2, sem_eq_zero_of_no_sems (by decide) r.2⟩) (Cert.AdPoolBRefIdeal.Value.run (F := Ideal) m ρ),
   fun m ρ _ => Cert.AdPoolS.Gen.frame m ρ,
   fun m ρ _ => Cert.AdPoolSIdeal.Gen.frame m ρ,
   fun m ρ _ => (θ_run Cert.AdPoolSRefIdeal.defs _ _).mono (fun r h => ⟨fun c => (h c).2.2.2, sem_eq_zero_of_no_sems (by decide) r.2⟩) (Cert.AdPoolSRefIdeal.Value.run (F := Ideal) m ρ),
   fun m ρ _ => Cert.AdIn.Gen.frame m ρ,
   fun m ρ _ => Cert.AdInIdeal.Gen.frame m ρ,
   fun m ρ _ => (θ_run Cert.AdInRefIdeal.defs _ _).mono (fun r h => ⟨fun c => (h c).2.2.2, sem_eq_zero_of_no_sems (by decide) r.2⟩) (Cert.AdInRefIdeal.Value.run (F := Ideal) m ρ),
   fun m ρ _ => Cert.AdConv.Gen.frame m ρ,
   fun m ρ _ => Cert.AdConvIdeal.Gen.frame m ρ,
   fun m ρ _ => (θ_run Cert.AdConvRefIdeal.defs _ _).mono (fun r h => ⟨fun c => (h c).2.2.2, sem_eq_zero_of_no_sems (by decide) r.2⟩) (Cert.AdConvRefIdeal.Value.run (F := Ideal) m ρ),
   fun m ρ _ => Cert.AdHeads.Gen.frame m ρ,
   fun m ρ _ => Cert.AdHeadsIdeal.Gen.frame m ρ,
   fun m ρ _ => (θ_run Cert.AdHeadsRefIdeal.defs _ _).mono (fun r h => ⟨fun c => (h c).2.2.2, sem_eq_zero_of_no_sems (by decide) r.2⟩) (Cert.AdHeadsRefIdeal.Value.run (F := Ideal) m ρ),
   fun m ρ _ => Cert.AdNorm.Gen.frame m ρ,
   fun m ρ _ => Cert.AdNormIdeal.Gen.frame m ρ,
   fun m ρ _ => (θ_run Cert.AdNormRefIdeal.defs _ _).mono (fun r h => ⟨fun c => (h c).2.2.2, sem_eq_zero_of_no_sems (by decide) r.2⟩) (Cert.AdNormRefIdeal.Value.run (F := Ideal) m ρ),
   fun m ρ _ => Cert.AdOut.Gen.frame m ρ,
   fun m ρ _ => Cert.AdOutIdeal.Gen.frame m ρ,
   fun m ρ _ => (θ_run Cert.AdOutRefIdeal.defs _ _).mono (fun r h => ⟨fun c => (h c).2.2.2, sem_eq_zero_of_no_sems (by decide) r.2⟩) (Cert.AdOutRefIdeal.Value.run (F := Ideal) m ρ),
   fun m ρ _ => Cert.AdOne.Gen.frame m ρ,
   fun m ρ _ => Cert.AdOneIdeal.Gen.frame m ρ,
   fun m ρ _ => (θ_run Cert.AdOneRefIdeal.defs _ _).mono (fun r h => ⟨fun c => (h c).2.2.2, sem_eq_zero_of_no_sems (by decide) r.2⟩) (Cert.AdOneRefIdeal.Value.run (F := Ideal) m ρ),
   fun m ρ _ => Cert.AdTwo.Gen.frame m ρ,
   fun m ρ _ => Cert.AdTwoIdeal.Gen.frame m ρ,
   fun m ρ _ => (θ_run Cert.AdTwoRefIdeal.defs _ _).mono (fun r h => ⟨fun c => (h c).2.2.2, sem_eq_zero_of_no_sems (by decide) r.2⟩) (Cert.AdTwoRefIdeal.Value.run (F := Ideal) m ρ),
   fun m ρ _ => Cert.AdGate.Gen.frame m ρ,
   fun m ρ _ => Cert.AdGateIdeal.Gen.frame m ρ,
   fun m ρ _ => (θ_run Cert.AdGateRefIdeal.defs _ _).mono (fun r h => ⟨fun c => (h c).2.2.2, sem_eq_zero_of_no_sems (by decide) r.2⟩) (Cert.AdGateRefIdeal.Value.run (F := Ideal) m ρ),
   fun m ρ _ => Cert.AdGateB.Gen.frame m ρ,
   fun m ρ _ => Cert.AdGateBIdeal.Gen.frame m ρ,
   fun m ρ _ => (θ_run Cert.AdGateBRefIdeal.defs _ _).mono (fun r h => ⟨fun c => (h c).2.2.2, sem_eq_zero_of_no_sems (by decide) r.2⟩) (Cert.AdGateBRefIdeal.Value.run (F := Ideal) m ρ),
   fun m ρ _ => Cert.AdProj.Gen.frame m ρ,
   fun m ρ _ => Cert.AdProjIdeal.Gen.frame m ρ,
   fun m ρ _ => (θ_run Cert.AdProjRefIdeal.defs _ _).mono (fun r h => ⟨fun c => (h c).2.2.2, sem_eq_zero_of_no_sems (by decide) r.2⟩) (Cert.AdProjRefIdeal.Value.run (F := Ideal) m ρ),
   fun m ρ _ => Cert.MlpLn.Gen.frame m ρ,
   fun m ρ _ => Cert.MlpLnIdeal.Gen.frame m ρ,
   fun m ρ _ => (θ_run Cert.MlpLnRefIdeal.defs _ _).mono (fun r h => ⟨fun c => (h c).2.2.2, sem_eq_zero_of_no_sems (by decide) r.2⟩) (Cert.MlpLnRefIdeal.Value.run (F := Ideal) m ρ),
   fun m ρ _ => Cert.OutLn.Gen.frame m ρ,
   fun m ρ _ => Cert.OutLnIdeal.Gen.frame m ρ,
   fun m ρ _ => (θ_run Cert.OutLnRefIdeal.defs _ _).mono (fun r h => ⟨fun c => (h c).2.2.2, sem_eq_zero_of_no_sems (by decide) r.2⟩) (Cert.OutLnRefIdeal.Value.run (F := Ideal) m ρ),
   fun m ρ _ => Cert.PoolDw.Gen.frame m ρ,
   fun m ρ _ => Cert.PoolDwIdeal.Gen.frame m ρ,
   fun m ρ _ => (θ_run Cert.PoolDwRefIdeal.defs _ _).mono (fun r h => ⟨fun c => (h c).2, sem_eq_zero_of_no_sems (by decide) r.2⟩) (Cert.PoolDwRefIdeal.Value.run (F := Ideal) m ρ),
   fun m ρ _ => Cert.PoolBwd.Gen.frame m ρ,
   fun m ρ _ => Cert.PoolBwdIdeal.Gen.frame m ρ,
   fun m ρ _ => (θ_run Cert.PoolBwdRefIdeal.defs _ _).mono (fun r h => ⟨fun c => (h c).2.2, sem_eq_zero_of_no_sems (by decide) r.2⟩) (Cert.PoolBwdRefIdeal.Value.run (F := Ideal) m ρ),
   fun m ρ _ => Cert.MlpUpBwd.Gen.frame m ρ,
   fun m ρ _ => Cert.MlpUpBwdIdeal.Gen.frame m ρ,
   fun m ρ _ => Cert.MlpUpBwdIdeal.Gen.frame m ρ,
   fun m ρ _ => (θ_run Cert.MlpUpBwdRefIdeal.defs _ _).mono (fun r h => ⟨fun c => (h c).2.2.2.2, sem_eq_zero_of_no_sems (by decide) r.2⟩) (Cert.MlpUpBwdRefIdeal.Value.run (F := Ideal) m ρ),
   fun m ρ _ => (θ_run Cert.MlpUpBwdRefIdeal.defs _ _).mono (fun r h => ⟨fun c => (h c).2.2.2.2, sem_eq_zero_of_no_sems (by decide) r.2⟩) (Cert.MlpUpBwdRefIdeal.Value.run (F := Ideal) m ρ),
   fun m ρ _ => Cert.InQkvBwd.Gen.frame m ρ,
   fun m ρ _ => Cert.InQkvBwdIdeal.Gen.frame m ρ,
   fun m ρ _ => Cert.InQkvBwdIdeal.Gen.frame m ρ,
   fun m ρ _ => (θ_run Cert.InQkvBwdRefIdeal.defs _ _).mono (fun r h => ⟨fun c => (h c).2.2.2.2.2.2.2, sem_eq_zero_of_no_sems (by decide) r.2⟩) (Cert.InQkvBwdRefIdeal.Value.run (F := Ideal) m ρ),
   fun m ρ _ => (θ_run Cert.InQkvBwdRefIdeal.defs _ _).mono (fun r h => ⟨fun c => (h c).2.2.2.2.2.2.2, sem_eq_zero_of_no_sems (by decide) r.2⟩) (Cert.InQkvBwdRefIdeal.Value.run (F := Ideal) m ρ),
   fun m ρ _ => Cert.LossLn.Gen.frame m ρ,
   fun m ρ _ => Cert.LossLnIdeal.Gen.frame m ρ,
   fun m ρ _ => Cert.LossLnIdeal.Gen.frame m ρ,
   fun m ρ _ => (θ_run Cert.LossLnRefIdeal.defs _ _).mono (fun r h => ⟨fun c => (h c).2.2.2.2.2.2.2.2, sem_eq_zero_of_no_sems (by decide) r.2⟩) (Cert.LossLnRefIdeal.Value.run (F := Ideal) m ρ),
   fun m ρ _ => (θ_run Cert.LossLnRefIdeal.defs _ _).mono (fun r h => ⟨fun c => (h c).2.2.2.2.2.2.2.2, sem_eq_zero_of_no_sems (by decide) r.2⟩) (Cert.LossLnRefIdeal.Value.run (F := Ideal) m ρ),
   trivial,
   trivial,
   Cert.MlpDownValue.value,
   trivial,
   Cert.MlpDwTwoValue.value,
   trivial,
   Cert.MlpDwOneValue.value,
   trivial,
   Cert.PleDwGValue.value,
   trivial,
   Cert.PleDwPValue.value,
   trivial,
   Cert.PleGateBwdValue.value,
   trivial,
   Cert.MlpUpValue.value,
   trivial,
   Cert.PleGateValue.value,
   trivial,
   Cert.PleProjValue.value,
   trivial,
   Cert.InQkvValue.value,
   trivial,
   Cert.InZValue.value,
   trivial,
   Cert.InBaValue.value,
   trivial,
   Cert.DwQkvValue.value,
   trivial,
   Cert.DwZValue.value,
   trivial,
   Cert.DwBaValue.value,
   trivial,
   Cert.DwOutValue.value,
   trivial,
   Cert.InBaBwdValue.value,
   trivial,
   Cert.InZBwdValue.value,
   trivial,
   Cert.AdLnValue.value,
   trivial,
   Cert.AdPoolWValue.value,
   trivial,
   Cert.AdPoolBValue.value,
   trivial,
   Cert.AdPoolSValue.value,
   trivial,
   Cert.AdInValue.value,
   trivial,
   Cert.AdConvValue.value,
   trivial,
   Cert.AdHeadsValue.value,
   trivial,
   Cert.AdNormValue.value,
   trivial,
   Cert.AdOutValue.value,
   trivial,
   Cert.AdOneValue.value,
   trivial,
   Cert.AdTwoValue.value,
   trivial,
   Cert.AdGateValue.value,
   trivial,
   Cert.AdGateBValue.value,
   trivial,
   Cert.AdProjValue.value,
   trivial,
   Cert.MlpLnValue.value,
   trivial,
   Cert.OutLnValue.value,
   trivial,
   Cert.PoolDwValue.value,
   trivial,
   Cert.PoolBwdValue.value,
   trivial,
   Cert.MlpUpBwdValue.value,
   trivial,
   Cert.InQkvBwdValue.value,
   trivial,
   Cert.LossLnValue.value⟩

end Cert.Proof

end
